-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_arguments_finite [hPre_arguments_finite : Cert.Pre_arguments_finite.Facts] (m : (ℓ : Loc Cert.KernelIdeal.nD Cert.KernelIdeal.τ Cert.KernelIdeal.sig) → Buf (Elt Ideal) ℓ) : Prop :=
  ∀ c : Dev Cert.KernelIdeal.nD,
    (Cert.Pre_arguments_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_arguments_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_arguments_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_arguments_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_arguments_finite [hPre_arguments_finite : Cert.Pre_arguments_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_arguments_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_arguments_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_arguments_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_arguments_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Ffn1 (m : (ℓ : Loc Cert.Ffn1.nD Cert.Ffn1.τ Cert.Ffn1.sig) → Buf (Elt Bits) ℓ) : Prop :=
  True

def Pre_Ffn1Ideal (m : (ℓ : Loc Cert.Ffn1Ideal.nD Cert.Ffn1Ideal.τ Cert.Ffn1Ideal.sig) → Buf (Elt Ideal) ℓ) : Prop :=
  True

def Pre_Ffn1RefIdeal (m : (ℓ : Loc Cert.Ffn1RefIdeal.nD Cert.Ffn1RefIdeal.τ Cert.Ffn1RefIdeal.sig) → Buf (Elt Ideal) ℓ) : Prop :=
  True

def Pre_Ffn2 (m : (ℓ : Loc Cert.Ffn2.nD Cert.Ffn2.τ Cert.Ffn2.sig) → Buf (Elt Bits) ℓ) : Prop :=
  True

def Pre_Ffn2Ideal (m : (ℓ : Loc Cert.Ffn2Ideal.nD Cert.Ffn2Ideal.τ Cert.Ffn2Ideal.sig) → Buf (Elt Ideal) ℓ) : Prop :=
  True

def Pre_Ffn2RefIdeal (m : (ℓ : Loc Cert.Ffn2RefIdeal.nD Cert.Ffn2RefIdeal.τ Cert.Ffn2RefIdeal.sig) → Buf (Elt Ideal) ℓ) : Prop :=
  True

def Pre_FfnDw2 (m : (ℓ : Loc Cert.FfnDw2.nD Cert.FfnDw2.τ Cert.FfnDw2.sig) → Buf (Elt Bits) ℓ) : Prop :=
  True

def Pre_FfnDw2Ideal (m : (ℓ : Loc Cert.FfnDw2Ideal.nD Cert.FfnDw2Ideal.τ Cert.FfnDw2Ideal.sig) → Buf (Elt Ideal) ℓ) : Prop :=
  True

def Pre_FfnDw2RefIdeal (m : (ℓ : Loc Cert.FfnDw2RefIdeal.nD Cert.FfnDw2RefIdeal.τ Cert.FfnDw2RefIdeal.sig) → Buf (Elt Ideal) ℓ) : Prop :=
  True

def Pre_FfnDhid (m : (ℓ : Loc Cert.FfnDhid.nD Cert.FfnDhid.τ Cert.FfnDhid.sig) → Buf (Elt Bits) ℓ) : Prop :=
  True

def Pre_FfnDhidIdeal (m : (ℓ : Loc Cert.FfnDhidIdeal.nD Cert.FfnDhidIdeal.τ Cert.FfnDhidIdeal.sig) → Buf (Elt Ideal) ℓ) : Prop :=
  True

def Pre_FfnDhidRefIdeal (m : (ℓ : Loc Cert.FfnDhidRefIdeal.nD Cert.FfnDhidRefIdeal.τ Cert.FfnDhidRefIdeal.sig) → Buf (Elt Ideal) ℓ) : Prop :=
  True

def Pre_FfnDw1 (m : (ℓ : Loc Cert.FfnDw1.nD Cert.FfnDw1.τ Cert.FfnDw1.sig) → Buf (Elt Bits) ℓ) : Prop :=
  True

def Pre_FfnDw1Ideal (m : (ℓ : Loc Cert.FfnDw1Ideal.nD Cert.FfnDw1Ideal.τ Cert.FfnDw1Ideal.sig) → Buf (Elt Ideal) ℓ) : Prop :=
  True

def Pre_FfnDw1RefIdeal (m : (ℓ : Loc Cert.FfnDw1RefIdeal.nD Cert.FfnDw1RefIdeal.τ Cert.FfnDw1RefIdeal.sig) → Buf (Elt Ideal) ℓ) : Prop :=
  True

def Pre_FfnDh3 (m : (ℓ : Loc Cert.FfnDh3.nD Cert.FfnDh3.τ Cert.FfnDh3.sig) → Buf (Elt Bits) ℓ) : Prop :=
  True

def Pre_FfnDh3Ideal (m : (ℓ : Loc Cert.FfnDh3Ideal.nD Cert.FfnDh3Ideal.τ Cert.FfnDh3Ideal.sig) → Buf (Elt Ideal) ℓ) : Prop :=
  True

def Pre_FfnDh3RefIdeal (m : (ℓ : Loc Cert.FfnDh3RefIdeal.nD Cert.FfnDh3RefIdeal.τ Cert.FfnDh3RefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_ProjDy (m : (ℓ : Loc Cert.ProjDy.nD Cert.ProjDy.τ Cert.ProjDy.sig) → Buf (Elt Bits) ℓ) : Prop :=
  True

def Pre_ProjDyIdeal (m : (ℓ : Loc Cert.ProjDyIdeal.nD Cert.ProjDyIdeal.τ Cert.ProjDyIdeal.sig) → Buf (Elt Ideal) ℓ) : Prop :=
  True

def Pre_ProjDyRefIdeal (m : (ℓ : Loc Cert.ProjDyRefIdeal.nD Cert.ProjDyRefIdeal.τ Cert.ProjDyRefIdeal.sig) → Buf (Elt Ideal) ℓ) : Prop :=
  True

def Pre_QueryDw (m : (ℓ : Loc Cert.QueryDw.nD Cert.QueryDw.τ Cert.QueryDw.sig) → Buf (Elt Bits) ℓ) : Prop :=
  True

def Pre_QueryDwIdeal (m : (ℓ : Loc Cert.QueryDwIdeal.nD Cert.QueryDwIdeal.τ Cert.QueryDwIdeal.sig) → Buf (Elt Ideal) ℓ) : Prop :=
  True

def Pre_QueryDwRefIdeal (m : (ℓ : Loc Cert.QueryDwRefIdeal.nD Cert.QueryDwRefIdeal.τ Cert.QueryDwRefIdeal.sig) → Buf (Elt Ideal) ℓ) : Prop :=
  True

def Pre_QueryDh (m : (ℓ : Loc Cert.QueryDh.nD Cert.QueryDh.τ Cert.QueryDh.sig) → Buf (Elt Bits) ℓ) : Prop :=
  True

def Pre_QueryDhIdeal (m : (ℓ : Loc Cert.QueryDhIdeal.nD Cert.QueryDhIdeal.τ Cert.QueryDhIdeal.sig) → Buf (Elt Ideal) ℓ) : Prop :=
  True

def Pre_QueryDhRefIdeal (m : (ℓ : Loc Cert.QueryDhRefIdeal.nD Cert.QueryDhRefIdeal.τ Cert.QueryDhRefIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_MemKvRefIdeal (m : (ℓ : Loc Cert.MemKvRefIdeal.nD Cert.MemKvRefIdeal.τ Cert.MemKvRefIdeal.sig) → Buf (Elt Ideal) ℓ) : Prop :=
  True

def Pre_MemKvDw (m : (ℓ : Loc Cert.MemKvDw.nD Cert.MemKvDw.τ Cert.MemKvDw.sig) → Buf (Elt Bits) ℓ) : Prop :=
  True

def Pre_MemKvDwIdeal (m : (ℓ : Loc Cert.MemKvDwIdeal.nD Cert.MemKvDwIdeal.τ Cert.MemKvDwIdeal.sig) → Buf (Elt Ideal) ℓ) : Prop :=
  True

def Pre_MemKvDwRefIdeal (m : (ℓ : Loc Cert.MemKvDwRefIdeal.nD Cert.MemKvDwRefIdeal.τ Cert.MemKvDwRefIdeal.sig) → Buf (Elt Ideal) ℓ) : Prop :=
  True

def Pre_MemDk (m : (ℓ : Loc Cert.MemDk.nD Cert.MemDk.τ Cert.MemDk.sig) → Buf (Elt Bits) ℓ) : Prop :=
  True

def Pre_MemDkIdeal (m : (ℓ : Loc Cert.MemDkIdeal.nD Cert.MemDkIdeal.τ Cert.MemDkIdeal.sig) → Buf (Elt Ideal) ℓ) : Prop :=
  True

def Pre_MemDkRefIdeal (m : (ℓ : Loc Cert.MemDkRefIdeal.nD Cert.MemDkRefIdeal.τ Cert.MemDkRefIdeal.sig) → Buf (Elt Ideal) ℓ) : Prop :=
  True

def Pre_MemDv (m : (ℓ : Loc Cert.MemDv.nD Cert.MemDv.τ Cert.MemDv.sig) → Buf (Elt Bits) ℓ) : Prop :=
  True

def Pre_MemDvIdeal (m : (ℓ : Loc Cert.MemDvIdeal.nD Cert.MemDvIdeal.τ Cert.MemDvIdeal.sig) → Buf (Elt Ideal) ℓ) : Prop :=
  True

def Pre_MemDvRefIdeal (m : (ℓ : Loc Cert.MemDvRefIdeal.nD Cert.MemDvRefIdeal.τ Cert.MemDvRefIdeal.sig) → Buf (Elt Ideal) ℓ) : Prop :=
  True

def Pre_InZ (m : (ℓ : Loc Cert.InZ.nD Cert.InZ.τ Cert.InZ.sig) → Buf (Elt Bits) ℓ) : Prop :=
  True

def Pre_InZIdeal (m : (ℓ : Loc Cert.InZIdeal.nD Cert.InZIdeal.τ Cert.InZIdeal.sig) → Buf (Elt Ideal) ℓ) : Prop :=
  True

def Pre_InZRefIdeal (m : (ℓ : Loc Cert.InZRefIdeal.nD Cert.InZRefIdeal.τ Cert.InZRefIdeal.sig) → Buf (Elt Ideal) ℓ) : Prop :=
  True

def Pre_InZDw (m : (ℓ : Loc Cert.InZDw.nD Cert.InZDw.τ Cert.InZDw.sig) → Buf (Elt Bits) ℓ) : Prop :=
  True

def Pre_InZDwIdeal (m : (ℓ : Loc Cert.InZDwIdeal.nD Cert.InZDwIdeal.τ Cert.InZDwIdeal.sig) → Buf (Elt Ideal) ℓ) : Prop :=
  True

def Pre_InZDwRefIdeal (m : (ℓ : Loc Cert.InZDwRefIdeal.nD Cert.InZDwRefIdeal.τ Cert.InZDwRefIdeal.sig) → Buf (Elt Ideal) ℓ) : Prop :=
  True

def Pre_InZDh (m : (ℓ : Loc Cert.InZDh.nD Cert.InZDh.τ Cert.InZDh.sig) → Buf (Elt Bits) ℓ) : Prop :=
  True

def Pre_InZDhIdeal (m : (ℓ : Loc Cert.InZDhIdeal.nD Cert.InZDhIdeal.τ Cert.InZDhIdeal.sig) → Buf (Elt Ideal) ℓ) : Prop :=
  True

def Pre_InZDhRefIdeal (m : (ℓ : Loc Cert.InZDhRefIdeal.nD Cert.InZDhRefIdeal.τ Cert.InZDhRefIdeal.sig) → Buf (Elt Ideal) ℓ) : Prop :=
  True

def Pre_InXbc (m : (ℓ : Loc Cert.InXbc.nD Cert.InXbc.τ Cert.InXbc.sig) → Buf (Elt Bits) ℓ) : Prop :=
  True

def Pre_InXbcIdeal (m : (ℓ : Loc Cert.InXbcIdeal.nD Cert.InXbcIdeal.τ Cert.InXbcIdeal.sig) → Buf (Elt Ideal) ℓ) : Prop :=
  True

def Pre_InXbcRefIdeal (m : (ℓ : Loc Cert.InXbcRefIdeal.nD Cert.InXbcRefIdeal.τ Cert.InXbcRefIdeal.sig) → Buf (Elt Ideal) ℓ) : Prop :=
  True

def Pre_InXbcDw (m : (ℓ : Loc Cert.InXbcDw.nD Cert.InXbcDw.τ Cert.InXbcDw.sig) → Buf (Elt Bits) ℓ) : Prop :=
  True

def Pre_InXbcDwIdeal (m : (ℓ : Loc Cert.InXbcDwIdeal.nD Cert.InXbcDwIdeal.τ Cert.InXbcDwIdeal.sig) → Buf (Elt Ideal) ℓ) : Prop :=
  True

def Pre_InXbcDwRefIdeal (m : (ℓ : Loc Cert.InXbcDwRefIdeal.nD Cert.InXbcDwRefIdeal.τ Cert.InXbcDwRefIdeal.sig) → Buf (Elt Ideal) ℓ) : Prop :=
  True

def Pre_InXbcDh (m : (ℓ : Loc Cert.InXbcDh.nD Cert.InXbcDh.τ Cert.InXbcDh.sig) → Buf (Elt Bits) ℓ) : Prop :=
  True

def Pre_InXbcDhIdeal (m : (ℓ : Loc Cert.InXbcDhIdeal.nD Cert.InXbcDhIdeal.τ Cert.InXbcDhIdeal.sig) → Buf (Elt Ideal) ℓ) : Prop :=
  True

def Pre_InXbcDhRefIdeal (m : (ℓ : Loc Cert.InXbcDhRefIdeal.nD Cert.InXbcDhRefIdeal.τ Cert.InXbcDhRefIdeal.sig) → Buf (Elt Ideal) ℓ) : Prop :=
  True

def Pre_InRkv (m : (ℓ : Loc Cert.InRkv.nD Cert.InRkv.τ Cert.InRkv.sig) → Buf (Elt Bits) ℓ) : Prop :=
  True

def Pre_InRkvIdeal (m : (ℓ : Loc Cert.InRkvIdeal.nD Cert.InRkvIdeal.τ Cert.InRkvIdeal.sig) → Buf (Elt Ideal) ℓ) : Prop :=
  True

def Pre_InRkvRefIdeal (m : (ℓ : Loc Cert.InRkvRefIdeal.nD Cert.InRkvRefIdeal.τ Cert.InRkvRefIdeal.sig) → Buf (Elt Ideal) ℓ) : Prop :=
  True

def Pre_InRkvDw (m : (ℓ : Loc Cert.InRkvDw.nD Cert.InRkvDw.τ Cert.InRkvDw.sig) → Buf (Elt Bits) ℓ) : Prop :=
  True

def Pre_InRkvDwIdeal (m : (ℓ : Loc Cert.InRkvDwIdeal.nD Cert.InRkvDwIdeal.τ Cert.InRkvDwIdeal.sig) → Buf (Elt Ideal) ℓ) : Prop :=
  True

def Pre_InRkvDwRefIdeal (m : (ℓ : Loc Cert.InRkvDwRefIdeal.nD Cert.InRkvDwRefIdeal.τ Cert.InRkvDwRefIdeal.sig) → Buf (Elt Ideal) ℓ) : Prop :=
  True

def Pre_InRkvDh (m : (ℓ : Loc Cert.InRkvDh.nD Cert.InRkvDh.τ Cert.InRkvDh.sig) → Buf (Elt Bits) ℓ) : Prop :=
  True

def Pre_InRkvDhIdeal (m : (ℓ : Loc Cert.InRkvDhIdeal.nD Cert.InRkvDhIdeal.τ Cert.InRkvDhIdeal.sig) → Buf (Elt Ideal) ℓ) : Prop :=
  True

def Pre_InRkvDhRefIdeal (m : (ℓ : Loc Cert.InRkvDhRefIdeal.nD Cert.InRkvDhRefIdeal.τ Cert.InRkvDhRefIdeal.sig) → Buf (Elt Ideal) ℓ) : Prop :=
  True

def Pre_InPs (m : (ℓ : Loc Cert.InPs.nD Cert.InPs.τ Cert.InPs.sig) → Buf (Elt Bits) ℓ) : Prop :=
  True

def Pre_InPsIdeal (m : (ℓ : Loc Cert.InPsIdeal.nD Cert.InPsIdeal.τ Cert.InPsIdeal.sig) → Buf (Elt Ideal) ℓ) : Prop :=
  True

def Pre_InPsRefIdeal (m : (ℓ : Loc Cert.InPsRefIdeal.nD Cert.InPsRefIdeal.τ Cert.InPsRefIdeal.sig) → Buf (Elt Ideal) ℓ) : Prop :=
  True

def Pre_InPsDw (m : (ℓ : Loc Cert.InPsDw.nD Cert.InPsDw.τ Cert.InPsDw.sig) → Buf (Elt Bits) ℓ) : Prop :=
  True

def Pre_InPsDwIdeal (m : (ℓ : Loc Cert.InPsDwIdeal.nD Cert.InPsDwIdeal.τ Cert.InPsDwIdeal.sig) → Buf (Elt Ideal) ℓ) : Prop :=
  True

def Pre_InPsDwRefIdeal (m : (ℓ : Loc Cert.InPsDwRefIdeal.nD Cert.InPsDwRefIdeal.τ Cert.InPsDwRefIdeal.sig) → Buf (Elt Ideal) ℓ) : Prop :=
  True

def Pre_InPsDh (m : (ℓ : Loc Cert.InPsDh.nD Cert.InPsDh.τ Cert.InPsDh.sig) → Buf (Elt Bits) ℓ) : Prop :=
  True

def Pre_InPsDhIdeal (m : (ℓ : Loc Cert.InPsDhIdeal.nD Cert.InPsDhIdeal.τ Cert.InPsDhIdeal.sig) → Buf (Elt Ideal) ℓ) : Prop :=
  True

def Pre_InPsDhRefIdeal (m : (ℓ : Loc Cert.InPsDhRefIdeal.nD Cert.InPsDhRefIdeal.τ Cert.InPsDhRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_NormMixBwd (m : (ℓ : Loc Cert.NormMixBwd.nD Cert.NormMixBwd.τ Cert.NormMixBwd.sig) → Buf (Elt Bits) ℓ) : Prop :=
  True

def Pre_NormMixBwdIdeal (m : (ℓ : Loc Cert.NormMixBwdIdeal.nD Cert.NormMixBwdIdeal.τ Cert.NormMixBwdIdeal.sig) → Buf (Elt Ideal) ℓ) : Prop :=
  True

def Pre_NormMixBwdRefIdeal (m : (ℓ : Loc Cert.NormMixBwdRefIdeal.nD Cert.NormMixBwdRefIdeal.τ Cert.NormMixBwdRefIdeal.sig) → Buf (Elt Ideal) ℓ) : Prop :=
  True

def Pre_NormMemBwd (m : (ℓ : Loc Cert.NormMemBwd.nD Cert.NormMemBwd.τ Cert.NormMemBwd.sig) → Buf (Elt Bits) ℓ) : Prop :=
  True

def Pre_NormMemBwdIdeal (m : (ℓ : Loc Cert.NormMemBwdIdeal.nD Cert.NormMemBwdIdeal.τ Cert.NormMemBwdIdeal.sig) → Buf (Elt Ideal) ℓ) : Prop :=
  True

def Pre_NormMemBwdRefIdeal (m : (ℓ : Loc Cert.NormMemBwdRefIdeal.nD Cert.NormMemBwdRefIdeal.τ Cert.NormMemBwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_AdamWFfn1 (m : (ℓ : Loc Cert.AdamWFfn1.nD Cert.AdamWFfn1.τ Cert.AdamWFfn1.sig) → Buf (Elt Bits) ℓ) : Prop :=
  True

def Pre_AdamWFfn1Ideal (m : (ℓ : Loc Cert.AdamWFfn1Ideal.nD Cert.AdamWFfn1Ideal.τ Cert.AdamWFfn1Ideal.sig) → Buf (Elt Ideal) ℓ) : Prop :=
  True

def Pre_AdamWFfn1RefIdeal (m : (ℓ : Loc Cert.AdamWFfn1RefIdeal.nD Cert.AdamWFfn1RefIdeal.τ Cert.AdamWFfn1RefIdeal.sig) → Buf (Elt Ideal) ℓ) : Prop :=
  True

def Pre_AdamWFfn2 (m : (ℓ : Loc Cert.AdamWFfn2.nD Cert.AdamWFfn2.τ Cert.AdamWFfn2.sig) → Buf (Elt Bits) ℓ) : Prop :=
  True

def Pre_AdamWFfn2Ideal (m : (ℓ : Loc Cert.AdamWFfn2Ideal.nD Cert.AdamWFfn2Ideal.τ Cert.AdamWFfn2Ideal.sig) → Buf (Elt Ideal) ℓ) : Prop :=
  True

def Pre_AdamWFfn2RefIdeal (m : (ℓ : Loc Cert.AdamWFfn2RefIdeal.nD Cert.AdamWFfn2RefIdeal.τ Cert.AdamWFfn2RefIdeal.sig) → Buf (Elt Ideal) ℓ) : Prop :=
  True

def Pre_AdamWSquare (m : (ℓ : Loc Cert.AdamWSquare.nD Cert.AdamWSquare.τ Cert.AdamWSquare.sig) → Buf (Elt Bits) ℓ) : Prop :=
  True

def Pre_AdamWSquareIdeal (m : (ℓ : Loc Cert.AdamWSquareIdeal.nD Cert.AdamWSquareIdeal.τ Cert.AdamWSquareIdeal.sig) → Buf (Elt Ideal) ℓ) : Prop :=
  True

def Pre_AdamWSquareRefIdeal (m : (ℓ : Loc Cert.AdamWSquareRefIdeal.nD Cert.AdamWSquareRefIdeal.τ Cert.AdamWSquareRefIdeal.sig) → Buf (Elt Ideal) ℓ) : Prop :=
  True

def Pre_SumIn (m : (ℓ : Loc Cert.SumIn.nD Cert.SumIn.τ Cert.SumIn.sig) → Buf (Elt Bits) ℓ) : Prop :=
  True

def Pre_SumInIdeal (m : (ℓ : Loc Cert.SumInIdeal.nD Cert.SumInIdeal.τ Cert.SumInIdeal.sig) → Buf (Elt Ideal) ℓ) : Prop :=
  True

def Pre_SumInRefIdeal (m : (ℓ : Loc Cert.SumInRefIdeal.nD Cert.SumInRefIdeal.τ Cert.SumInRefIdeal.sig) → Buf (Elt Ideal) ℓ) : Prop :=
  True

def Pre_AdamWIn (m : (ℓ : Loc Cert.AdamWIn.nD Cert.AdamWIn.τ Cert.AdamWIn.sig) → Buf (Elt Bits) ℓ) : Prop :=
  True

def Pre_AdamWInIdeal (m : (ℓ : Loc Cert.AdamWInIdeal.nD Cert.AdamWInIdeal.τ Cert.AdamWInIdeal.sig) → Buf (Elt Ideal) ℓ) : Prop :=
  True

def Pre_AdamWInRefIdeal (m : (ℓ : Loc Cert.AdamWInRefIdeal.nD Cert.AdamWInRefIdeal.τ Cert.AdamWInRefIdeal.sig) → Buf (Elt Ideal) ℓ) : Prop :=
  True

def Pre_AdamWConv (m : (ℓ : Loc Cert.AdamWConv.nD Cert.AdamWConv.τ Cert.AdamWConv.sig) → Buf (Elt Bits) ℓ) : Prop :=
  True

def Pre_AdamWConvIdeal (m : (ℓ : Loc Cert.AdamWConvIdeal.nD Cert.AdamWConvIdeal.τ Cert.AdamWConvIdeal.sig) → Buf (Elt Ideal) ℓ) : Prop :=
  True

def Pre_AdamWConvRefIdeal (m : (ℓ : Loc Cert.AdamWConvRefIdeal.nD Cert.AdamWConvRefIdeal.τ Cert.AdamWConvRefIdeal.sig) → Buf (Elt Ideal) ℓ) : Prop :=
  True

def Pre_AdamWRank (m : (ℓ : Loc Cert.AdamWRank.nD Cert.AdamWRank.τ Cert.AdamWRank.sig) → Buf (Elt Bits) ℓ) : Prop :=
  True

def Pre_AdamWRankIdeal (m : (ℓ : Loc Cert.AdamWRankIdeal.nD Cert.AdamWRankIdeal.τ Cert.AdamWRankIdeal.sig) → Buf (Elt Ideal) ℓ) : Prop :=
  True

def Pre_AdamWRankRefIdeal (m : (ℓ : Loc Cert.AdamWRankRefIdeal.nD Cert.AdamWRankRefIdeal.τ Cert.AdamWRankRefIdeal.sig) → Buf (Elt Ideal) ℓ) : Prop :=
  True

def Pre_AdamWGate (m : (ℓ : Loc Cert.AdamWGate.nD Cert.AdamWGate.τ Cert.AdamWGate.sig) → Buf (Elt Bits) ℓ) : Prop :=
  True

def Pre_AdamWGateIdeal (m : (ℓ : Loc Cert.AdamWGateIdeal.nD Cert.AdamWGateIdeal.τ Cert.AdamWGateIdeal.sig) → Buf (Elt Ideal) ℓ) : Prop :=
  True

def Pre_AdamWGateRefIdeal (m : (ℓ : Loc Cert.AdamWGateRefIdeal.nD Cert.AdamWGateRefIdeal.τ Cert.AdamWGateRefIdeal.sig) → Buf (Elt Ideal) ℓ) : Prop :=
  True

def Pre_AdamWSmall (m : (ℓ : Loc Cert.AdamWSmall.nD Cert.AdamWSmall.τ Cert.AdamWSmall.sig) → Buf (Elt Bits) ℓ) : Prop :=
  True

def Pre_AdamWSmallIdeal (m : (ℓ : Loc Cert.AdamWSmallIdeal.nD Cert.AdamWSmallIdeal.τ Cert.AdamWSmallIdeal.sig) → Buf (Elt Ideal) ℓ) : Prop :=
  True

def Pre_AdamWSmallRefIdeal (m : (ℓ : Loc Cert.AdamWSmallRefIdeal.nD Cert.AdamWSmallRefIdeal.τ Cert.AdamWSmallRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_NormMemFwd (m : (ℓ : Loc Cert.NormMemFwd.nD Cert.NormMemFwd.τ Cert.NormMemFwd.sig) → Buf (Elt Bits) ℓ) : Prop :=
  True

def Pre_NormMemFwdIdeal (m : (ℓ : Loc Cert.NormMemFwdIdeal.nD Cert.NormMemFwdIdeal.τ Cert.NormMemFwdIdeal.sig) → Buf (Elt Ideal) ℓ) : Prop :=
  True

def Pre_NormMemFwdRefIdeal (m : (ℓ : Loc Cert.NormMemFwdRefIdeal.nD Cert.NormMemFwdRefIdeal.τ Cert.NormMemFwdRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdRefIdeal (m : (ℓ : Loc Cert.AttnFwdRefIdeal.nD Cert.AttnFwdRefIdeal.τ Cert.AttnFwdRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_arguments_finite [hKernelIdeal : Cert.KernelIdeal.Facts] [hPre_arguments_finite : Cert.Pre_arguments_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_arguments_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_arguments_finite [hReferenceIdeal : Cert.ReferenceIdeal.Facts] [hPre_arguments_finite : Cert.Pre_arguments_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_arguments_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Ffn1 [hFfn1 : Cert.Ffn1.Facts] : Prop :=
  ∀ (m : (ℓ : Loc Cert.Ffn1.nD Cert.Ffn1.τ Cert.Ffn1.sig) → Buf (Elt Bits) ℓ) (g : Dev Cert.Ffn1.nD → PrngReg), Pre_Ffn1 m →
    θ_run (Cert.Ffn1.defs (F := Bits)) (onTc (τ := Cert.Ffn1.τ) (Cert.Ffn1.main (F := Bits))) ⟨m, fun _ => 0, g⟩ (fun r => (∀ c : Dev Cert.Ffn1.nD,
      r.2.mem ((c.tc : Thread Cert.Ffn1.nD Cert.Ffn1.τ).loc Cert.Ffn1.main_arg0) = m ((c.tc : Thread Cert.Ffn1.nD Cert.Ffn1.τ).loc Cert.Ffn1.main_arg0)
      ∧ r.2.mem ((c.tc : Thread Cert.Ffn1.nD Cert.Ffn1.τ).loc Cert.Ffn1.main_arg1) = m ((c.tc : Thread Cert.Ffn1.nD Cert.Ffn1.τ).loc Cert.Ffn1.main_arg1))
      ∧ r.2.sem = fun _ => 0)

def quiescent_Ffn1Ideal [hFfn1Ideal : Cert.Ffn1Ideal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg), Pre_Ffn1Ideal m →
    θ_run (Cert.Ffn1Ideal.defs (F := Ideal)) (onTc (τ := Cert.Ffn1Ideal.τ) (Cert.Ffn1Ideal.main (F := Ideal))) ⟨m, fun _ => 0, g⟩ (fun r => (∀ c : Dev Cert.Ffn1Ideal.nD,
      r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
      ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1))
      ∧ r.2.sem = fun _ => 0)

def quiescent_Ffn1RefIdeal [hFfn1RefIdeal : Cert.Ffn1RefIdeal.Facts] : Prop :=
  ∀ (m : (ℓ : Loc Cert.Ffn1RefIdeal.nD Cert.Ffn1RefIdeal.τ Cert.Ffn1RefIdeal.sig) → Buf (Elt Ideal) ℓ) (g : Dev Cert.Ffn1RefIdeal.nD → PrngReg), Pre_Ffn1RefIdeal m →
    θ_run (Cert.Ffn1RefIdeal.defs (F := Ideal)) (onTc (τ := Cert.Ffn1RefIdeal.τ) (Cert.Ffn1RefIdeal.main (F := Ideal))) ⟨m, fun _ => 0, g⟩ (fun r => (∀ c : Dev Cert.Ffn1RefIdeal.nD,
      r.2.mem ((c.tc : Thread Cert.Ffn1RefIdeal.nD Cert.Ffn1RefIdeal.τ).loc Cert.Ffn1RefIdeal.main_arg0) = m ((c.tc : Thread Cert.Ffn1RefIdeal.nD Cert.Ffn1RefIdeal.τ).loc Cert.Ffn1RefIdeal.main_arg0)
      ∧ r.2.mem ((c.tc : Thread Cert.Ffn1RefIdeal.nD Cert.Ffn1RefIdeal.τ).loc Cert.Ffn1RefIdeal.main_arg1) = m ((c.tc : Thread Cert.Ffn1RefIdeal.nD Cert.Ffn1RefIdeal.τ).loc Cert.Ffn1RefIdeal.main_arg1))
      ∧ r.2.sem = fun _ => 0)

def quiescent_Ffn2 [hFfn2 : Cert.Ffn2.Facts] : Prop :=
  ∀ (m : (ℓ : Loc Cert.Ffn2.nD Cert.Ffn2.τ Cert.Ffn2.sig) → Buf (Elt Bits) ℓ) (g : Dev Cert.Ffn2.nD → PrngReg), Pre_Ffn2 m →
    θ_run (Cert.Ffn2.defs (F := Bits)) (onTc (τ := Cert.Ffn2.τ) (Cert.Ffn2.main (F := Bits))) ⟨m, fun _ => 0, g⟩ (fun r => (∀ c : Dev Cert.Ffn2.nD,
      r.2.mem ((c.tc : Thread Cert.Ffn2.nD Cert.Ffn2.τ).loc Cert.Ffn2.main_arg0) = m ((c.tc : Thread Cert.Ffn2.nD Cert.Ffn2.τ).loc Cert.Ffn2.main_arg0)
      ∧ r.2.mem ((c.tc : Thread Cert.Ffn2.nD Cert.Ffn2.τ).loc Cert.Ffn2.main_arg1) = m ((c.tc : Thread Cert.Ffn2.nD Cert.Ffn2.τ).loc Cert.Ffn2.main_arg1)
      ∧ r.2.mem ((c.tc : Thread Cert.Ffn2.nD Cert.Ffn2.τ).loc Cert.Ffn2.main_arg2) = m ((c.tc : Thread Cert.Ffn2.nD Cert.Ffn2.τ).loc Cert.Ffn2.main_arg2))
      ∧ r.2.sem = fun _ => 0)

def quiescent_Ffn2Ideal [hFfn2Ideal : Cert.Ffn2Ideal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg), Pre_Ffn2Ideal m →
    θ_run (Cert.Ffn2Ideal.defs (F := Ideal)) (onTc (τ := Cert.Ffn2Ideal.τ) (Cert.Ffn2Ideal.main (F := Ideal))) ⟨m, fun _ => 0, g⟩ (fun r => (∀ c : Dev Cert.Ffn2Ideal.nD,
      r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
      ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
      ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2))
      ∧ r.2.sem = fun _ => 0)

def quiescent_FfnDw2 [hFfnDw2 : Cert.FfnDw2.Facts] : Prop :=
  ∀ (m : (ℓ : Loc Cert.FfnDw2.nD Cert.FfnDw2.τ Cert.FfnDw2.sig) → Buf (Elt Bits) ℓ) (g : Dev Cert.FfnDw2.nD → PrngReg), Pre_FfnDw2 m →
    θ_run (Cert.FfnDw2.defs (F := Bits)) (onTc (τ := Cert.FfnDw2.τ) (Cert.FfnDw2.main (F := Bits))) ⟨m, fun _ => 0, g⟩ (fun r => (∀ c : Dev Cert.FfnDw2.nD,
      r.2.mem ((c.tc : Thread Cert.FfnDw2.nD Cert.FfnDw2.τ).loc Cert.FfnDw2.main_arg0) = m ((c.tc : Thread Cert.FfnDw2.nD Cert.FfnDw2.τ).loc Cert.FfnDw2.main_arg0)
      ∧ r.2.mem ((c.tc : Thread Cert.FfnDw2.nD Cert.FfnDw2.τ).loc Cert.FfnDw2.main_arg1) = m ((c.tc : Thread Cert.FfnDw2.nD Cert.FfnDw2.τ).loc Cert.FfnDw2.main_arg1)
      ∧ r.2.mem ((c.tc : Thread Cert.FfnDw2.nD Cert.FfnDw2.τ).loc Cert.FfnDw2.main_arg2) = m ((c.tc : Thread Cert.FfnDw2.nD Cert.FfnDw2.τ).loc Cert.FfnDw2.main_arg2))
      ∧ r.2.sem = fun _ => 0)

def quiescent_FfnDw2Ideal [hFfnDw2Ideal : Cert.FfnDw2Ideal.Facts] : Prop :=
  ∀ (m : (ℓ : Loc Cert.FfnDw2Ideal.nD Cert.FfnDw2Ideal.τ Cert.FfnDw2Ideal.sig) → Buf (Elt Ideal) ℓ) (g : Dev Cert.FfnDw2Ideal.nD → PrngReg), Pre_FfnDw2Ideal m →
    θ_run (Cert.FfnDw2Ideal.defs (F := Ideal)) (onTc (τ := Cert.FfnDw2Ideal.τ) (Cert.FfnDw2Ideal.main (F := Ideal))) ⟨m, fun _ => 0, g⟩ (fun r => (∀ c : Dev Cert.FfnDw2Ideal.nD,
      r.2.mem ((c.tc : Thread Cert.FfnDw2Ideal.nD Cert.FfnDw2Ideal.τ).loc Cert.FfnDw2Ideal.main_arg0) = m ((c.tc : Thread Cert.FfnDw2Ideal.nD Cert.FfnDw2Ideal.τ).loc Cert.FfnDw2Ideal.main_arg0)
      ∧ r.2.mem ((c.tc : Thread Cert.FfnDw2Ideal.nD Cert.FfnDw2Ideal.τ).loc Cert.FfnDw2Ideal.main_arg1) = m ((c.tc : Thread Cert.FfnDw2Ideal.nD Cert.FfnDw2Ideal.τ).loc Cert.FfnDw2Ideal.main_arg1)
      ∧ r.2.mem ((c.tc : Thread Cert.FfnDw2Ideal.nD Cert.FfnDw2Ideal.τ).loc Cert.FfnDw2Ideal.main_arg2) = m ((c.tc : Thread Cert.FfnDw2Ideal.nD Cert.FfnDw2Ideal.τ).loc Cert.FfnDw2Ideal.main_arg2))
      ∧ r.2.sem = fun _ => 0)

def quiescent_FfnDw2RefIdeal [hFfnDw2RefIdeal : Cert.FfnDw2RefIdeal.Facts] : Prop :=
  ∀ (m : (ℓ : Loc Cert.FfnDw2RefIdeal.nD Cert.FfnDw2RefIdeal.τ Cert.FfnDw2RefIdeal.sig) → Buf (Elt Ideal) ℓ) (g : Dev Cert.FfnDw2RefIdeal.nD → PrngReg), Pre_FfnDw2RefIdeal m →
    θ_run (Cert.FfnDw2RefIdeal.defs (F := Ideal)) (onTc (τ := Cert.FfnDw2RefIdeal.τ) (Cert.FfnDw2RefIdeal.main (F := Ideal))) ⟨m, fun _ => 0, g⟩ (fun r => (∀ c : Dev Cert.FfnDw2RefIdeal.nD,
      r.2.mem ((c.tc : Thread Cert.FfnDw2RefIdeal.nD Cert.FfnDw2RefIdeal.τ).loc Cert.FfnDw2RefIdeal.main_arg0) = m ((c.tc : Thread Cert.FfnDw2RefIdeal.nD Cert.FfnDw2RefIdeal.τ).loc Cert.FfnDw2RefIdeal.main_arg0)
      ∧ r.2.mem ((c.tc : Thread Cert.FfnDw2RefIdeal.nD Cert.FfnDw2RefIdeal.τ).loc Cert.FfnDw2RefIdeal.main_arg1) = m ((c.tc : Thread Cert.FfnDw2RefIdeal.nD Cert.FfnDw2RefIdeal.τ).loc Cert.FfnDw2RefIdeal.main_arg1)
      ∧ r.2.mem ((c.tc : Thread Cert.FfnDw2RefIdeal.nD Cert.FfnDw2RefIdeal.τ).loc Cert.FfnDw2RefIdeal.main_arg2) = m ((c.tc : Thread Cert.FfnDw2RefIdeal.nD Cert.FfnDw2RefIdeal.τ).loc Cert.FfnDw2RefIdeal.main_arg2))
      ∧ r.2.sem = fun _ => 0)

def quiescent_FfnDhid [hFfnDhid : Cert.FfnDhid.Facts] : Prop :=
  ∀ (m : (ℓ : Loc Cert.FfnDhid.nD Cert.FfnDhid.τ Cert.FfnDhid.sig) → Buf (Elt Bits) ℓ) (g : Dev Cert.FfnDhid.nD → PrngReg), Pre_FfnDhid m →
    θ_run (Cert.FfnDhid.defs (F := Bits)) (onTc (τ := Cert.FfnDhid.τ) (Cert.FfnDhid.main (F := Bits))) ⟨m, fun _ => 0, g⟩ (fun r => (∀ c : Dev Cert.FfnDhid.nD,
      r.2.mem ((c.tc : Thread Cert.FfnDhid.nD Cert.FfnDhid.τ).loc Cert.FfnDhid.main_arg0) = m ((c.tc : Thread Cert.FfnDhid.nD Cert.FfnDhid.τ).loc Cert.FfnDhid.main_arg0)
      ∧ r.2.mem ((c.tc : Thread Cert.FfnDhid.nD Cert.FfnDhid.τ).loc Cert.FfnDhid.main_arg1) = m ((c.tc : Thread Cert.FfnDhid.nD Cert.FfnDhid.τ).loc Cert.FfnDhid.main_arg1)
      ∧ r.2.mem ((c.tc : Thread Cert.FfnDhid.nD Cert.FfnDhid.τ).loc Cert.FfnDhid.main_arg2) = m ((c.tc : Thread Cert.FfnDhid.nD Cert.FfnDhid.τ).loc Cert.FfnDhid.main_arg2))
      ∧ r.2.sem = fun _ => 0)

def quiescent_FfnDhidIdeal [hFfnDhidIdeal : Cert.FfnDhidIdeal.Facts] : Prop :=
  ∀ (m : (ℓ : Loc Cert.FfnDhidIdeal.nD Cert.FfnDhidIdeal.τ Cert.FfnDhidIdeal.sig) → Buf (Elt Ideal) ℓ) (g : Dev Cert.FfnDhidIdeal.nD → PrngReg), Pre_FfnDhidIdeal m →
    θ_run (Cert.FfnDhidIdeal.defs (F := Ideal)) (onTc (τ := Cert.FfnDhidIdeal.τ) (Cert.FfnDhidIdeal.main (F := Ideal))) ⟨m, fun _ => 0, g⟩ (fun r => (∀ c : Dev Cert.FfnDhidIdeal.nD,
      r.2.mem ((c.tc : Thread Cert.FfnDhidIdeal.nD Cert.FfnDhidIdeal.τ).loc Cert.FfnDhidIdeal.main_arg0) = m ((c.tc : Thread Cert.FfnDhidIdeal.nD Cert.FfnDhidIdeal.τ).loc Cert.FfnDhidIdeal.main_arg0)
      ∧ r.2.mem ((c.tc : Thread Cert.FfnDhidIdeal.nD Cert.FfnDhidIdeal.τ).loc Cert.FfnDhidIdeal.main_arg1) = m ((c.tc : Thread Cert.FfnDhidIdeal.nD Cert.FfnDhidIdeal.τ).loc Cert.FfnDhidIdeal.main_arg1)
      ∧ r.2.mem ((c.tc : Thread Cert.FfnDhidIdeal.nD Cert.FfnDhidIdeal.τ).loc Cert.FfnDhidIdeal.main_arg2) = m ((c.tc : Thread Cert.FfnDhidIdeal.nD Cert.FfnDhidIdeal.τ).loc Cert.FfnDhidIdeal.main_arg2))
      ∧ r.2.sem = fun _ => 0)

def quiescent_FfnDhidRefIdeal [hFfnDhidRefIdeal : Cert.FfnDhidRefIdeal.Facts] : Prop :=
  ∀ (m : (ℓ : Loc Cert.FfnDhidRefIdeal.nD Cert.FfnDhidRefIdeal.τ Cert.FfnDhidRefIdeal.sig) → Buf (Elt Ideal) ℓ) (g : Dev Cert.FfnDhidRefIdeal.nD → PrngReg), Pre_FfnDhidRefIdeal m →
    θ_run (Cert.FfnDhidRefIdeal.defs (F := Ideal)) (onTc (τ := Cert.FfnDhidRefIdeal.τ) (Cert.FfnDhidRefIdeal.main (F := Ideal))) ⟨m, fun _ => 0, g⟩ (fun r => (∀ c : Dev Cert.FfnDhidRefIdeal.nD,
      r.2.mem ((c.tc : Thread Cert.FfnDhidRefIdeal.nD Cert.FfnDhidRefIdeal.τ).loc Cert.FfnDhidRefIdeal.main_arg0) = m ((c.tc : Thread Cert.FfnDhidRefIdeal.nD Cert.FfnDhidRefIdeal.τ).loc Cert.FfnDhidRefIdeal.main_arg0)
      ∧ r.2.mem ((c.tc : Thread Cert.FfnDhidRefIdeal.nD Cert.FfnDhidRefIdeal.τ).loc Cert.FfnDhidRefIdeal.main_arg1) = m ((c.tc : Thread Cert.FfnDhidRefIdeal.nD Cert.FfnDhidRefIdeal.τ).loc Cert.FfnDhidRefIdeal.main_arg1)
      ∧ r.2.mem ((c.tc : Thread Cert.FfnDhidRefIdeal.nD Cert.FfnDhidRefIdeal.τ).loc Cert.FfnDhidRefIdeal.main_arg2) = m ((c.tc : Thread Cert.FfnDhidRefIdeal.nD Cert.FfnDhidRefIdeal.τ).loc Cert.FfnDhidRefIdeal.main_arg2))
      ∧ r.2.sem = fun _ => 0)

def quiescent_FfnDw1 [hFfnDw1 : Cert.FfnDw1.Facts] : Prop :=
  ∀ (m : (ℓ : Loc Cert.FfnDw1.nD Cert.FfnDw1.τ Cert.FfnDw1.sig) → Buf (Elt Bits) ℓ) (g : Dev Cert.FfnDw1.nD → PrngReg), Pre_FfnDw1 m →
    θ_run (Cert.FfnDw1.defs (F := Bits)) (onTc (τ := Cert.FfnDw1.τ) (Cert.FfnDw1.main (F := Bits))) ⟨m, fun _ => 0, g⟩ (fun r => (∀ c : Dev Cert.FfnDw1.nD,
      r.2.mem ((c.tc : Thread Cert.FfnDw1.nD Cert.FfnDw1.τ).loc Cert.FfnDw1.main_arg0) = m ((c.tc : Thread Cert.FfnDw1.nD Cert.FfnDw1.τ).loc Cert.FfnDw1.main_arg0)
      ∧ r.2.mem ((c.tc : Thread Cert.FfnDw1.nD Cert.FfnDw1.τ).loc Cert.FfnDw1.main_arg1) = m ((c.tc : Thread Cert.FfnDw1.nD Cert.FfnDw1.τ).loc Cert.FfnDw1.main_arg1)
      ∧ r.2.mem ((c.tc : Thread Cert.FfnDw1.nD Cert.FfnDw1.τ).loc Cert.FfnDw1.main_arg2) = m ((c.tc : Thread Cert.FfnDw1.nD Cert.FfnDw1.τ).loc Cert.FfnDw1.main_arg2))
      ∧ r.2.sem = fun _ => 0)

def quiescent_FfnDw1Ideal [hFfnDw1Ideal : Cert.FfnDw1Ideal.Facts] : Prop :=
  ∀ (m : (ℓ : Loc Cert.FfnDw1Ideal.nD Cert.FfnDw1Ideal.τ Cert.FfnDw1Ideal.sig) → Buf (Elt Ideal) ℓ) (g : Dev Cert.FfnDw1Ideal.nD → PrngReg), Pre_FfnDw1Ideal m →
    θ_run (Cert.FfnDw1Ideal.defs (F := Ideal)) (onTc (τ := Cert.FfnDw1Ideal.τ) (Cert.FfnDw1Ideal.main (F := Ideal))) ⟨m, fun _ => 0, g⟩ (fun r => (∀ c : Dev Cert.FfnDw1Ideal.nD,
      r.2.mem ((c.tc : Thread Cert.FfnDw1Ideal.nD Cert.FfnDw1Ideal.τ).loc Cert.FfnDw1Ideal.main_arg0) = m ((c.tc : Thread Cert.FfnDw1Ideal.nD Cert.FfnDw1Ideal.τ).loc Cert.FfnDw1Ideal.main_arg0)
      ∧ r.2.mem ((c.tc : Thread Cert.FfnDw1Ideal.nD Cert.FfnDw1Ideal.τ).loc Cert.FfnDw1Ideal.main_arg1) = m ((c.tc : Thread Cert.FfnDw1Ideal.nD Cert.FfnDw1Ideal.τ).loc Cert.FfnDw1Ideal.main_arg1)
      ∧ r.2.mem ((c.tc : Thread Cert.FfnDw1Ideal.nD Cert.FfnDw1Ideal.τ).loc Cert.FfnDw1Ideal.main_arg2) = m ((c.tc : Thread Cert.FfnDw1Ideal.nD Cert.FfnDw1Ideal.τ).loc Cert.FfnDw1Ideal.main_arg2))
      ∧ r.2.sem = fun _ => 0)

def quiescent_FfnDw1RefIdeal [hFfnDw1RefIdeal : Cert.FfnDw1RefIdeal.Facts] : Prop :=
  ∀ (m : (ℓ : Loc Cert.FfnDw1RefIdeal.nD Cert.FfnDw1RefIdeal.τ Cert.FfnDw1RefIdeal.sig) → Buf (Elt Ideal) ℓ) (g : Dev Cert.FfnDw1RefIdeal.nD → PrngReg), Pre_FfnDw1RefIdeal m →
    θ_run (Cert.FfnDw1RefIdeal.defs (F := Ideal)) (onTc (τ := Cert.FfnDw1RefIdeal.τ) (Cert.FfnDw1RefIdeal.main (F := Ideal))) ⟨m, fun _ => 0, g⟩ (fun r => (∀ c : Dev Cert.FfnDw1RefIdeal.nD,
      r.2.mem ((c.tc : Thread Cert.FfnDw1RefIdeal.nD Cert.FfnDw1RefIdeal.τ).loc Cert.FfnDw1RefIdeal.main_arg0) = m ((c.tc : Thread Cert.FfnDw1RefIdeal.nD Cert.FfnDw1RefIdeal.τ).loc Cert.FfnDw1RefIdeal.main_arg0)
      ∧ r.2.mem ((c.tc : Thread Cert.FfnDw1RefIdeal.nD Cert.FfnDw1RefIdeal.τ).loc Cert.FfnDw1RefIdeal.main_arg1) = m ((c.tc : Thread Cert.FfnDw1RefIdeal.nD Cert.FfnDw1RefIdeal.τ).loc Cert.FfnDw1RefIdeal.main_arg1)
      ∧ r.2.mem ((c.tc : Thread Cert.FfnDw1RefIdeal.nD Cert.FfnDw1RefIdeal.τ).loc Cert.FfnDw1RefIdeal.main_arg2) = m ((c.tc : Thread Cert.FfnDw1RefIdeal.nD Cert.FfnDw1RefIdeal.τ).loc Cert.FfnDw1RefIdeal.main_arg2))
      ∧ r.2.sem = fun _ => 0)

def quiescent_FfnDh3 [hFfnDh3 : Cert.FfnDh3.Facts] : Prop :=
  ∀ (m : (ℓ : Loc Cert.FfnDh3.nD Cert.FfnDh3.τ Cert.FfnDh3.sig) → Buf (Elt Bits) ℓ) (g : Dev Cert.FfnDh3.nD → PrngReg), Pre_FfnDh3 m →
    θ_run (Cert.FfnDh3.defs (F := Bits)) (onTc (τ := Cert.FfnDh3.τ) (Cert.FfnDh3.main (F := Bits))) ⟨m, fun _ => 0, g⟩ (fun r => (∀ c : Dev Cert.FfnDh3.nD,
      r.2.mem ((c.tc : Thread Cert.FfnDh3.nD Cert.FfnDh3.τ).loc Cert.FfnDh3.main_arg0) = m ((c.tc : Thread Cert.FfnDh3.nD Cert.FfnDh3.τ).loc Cert.FfnDh3.main_arg0)
      ∧ r.2.mem ((c.tc : Thread Cert.FfnDh3.nD Cert.FfnDh3.τ).loc Cert.FfnDh3.main_arg1) = m ((c.tc : Thread Cert.FfnDh3.nD Cert.FfnDh3.τ).loc Cert.FfnDh3.main_arg1)
      ∧ r.2.mem ((c.tc : Thread Cert.FfnDh3.nD Cert.FfnDh3.τ).loc Cert.FfnDh3.main_arg2) = m ((c.tc : Thread Cert.FfnDh3.nD Cert.FfnDh3.τ).loc Cert.FfnDh3.main_arg2))
      ∧ r.2.sem = fun _ => 0)

def quiescent_FfnDh3Ideal [hFfnDh3Ideal : Cert.FfnDh3Ideal.Facts] : Prop :=
  ∀ (m : (ℓ : Loc Cert.FfnDh3Ideal.nD Cert.FfnDh3Ideal.τ Cert.FfnDh3Ideal.sig) → Buf (Elt Ideal) ℓ) (g : Dev Cert.FfnDh3Ideal.nD → PrngReg), Pre_FfnDh3Ideal m →
    θ_run (Cert.FfnDh3Ideal.defs (F := Ideal)) (onTc (τ := Cert.FfnDh3Ideal.τ) (Cert.FfnDh3Ideal.main (F := Ideal))) ⟨m, fun _ => 0, g⟩ (fun r => (∀ c : Dev Cert.FfnDh3Ideal.nD,
      r.2.mem ((c.tc : Thread Cert.FfnDh3Ideal.nD Cert.FfnDh3Ideal.τ).loc Cert.FfnDh3Ideal.main_arg0) = m ((c.tc : Thread Cert.FfnDh3Ideal.nD Cert.FfnDh3Ideal.τ).loc Cert.FfnDh3Ideal.main_arg0)
      ∧ r.2.mem ((c.tc : Thread Cert.FfnDh3Ideal.nD Cert.FfnDh3Ideal.τ).loc Cert.FfnDh3Ideal.main_arg1) = m ((c.tc : Thread Cert.FfnDh3Ideal.nD Cert.FfnDh3Ideal.τ).loc Cert.FfnDh3Ideal.main_arg1)
      ∧ r.2.mem ((c.tc : Thread Cert.FfnDh3Ideal.nD Cert.FfnDh3Ideal.τ).loc Cert.FfnDh3Ideal.main_arg2) = m ((c.tc : Thread Cert.FfnDh3Ideal.nD Cert.FfnDh3Ideal.τ).loc Cert.FfnDh3Ideal.main_arg2))
      ∧ r.2.sem = fun _ => 0)

def quiescent_FfnDh3RefIdeal [hFfnDh3RefIdeal : Cert.FfnDh3RefIdeal.Facts] : Prop :=
  ∀ (m : (ℓ : Loc Cert.FfnDh3RefIdeal.nD Cert.FfnDh3RefIdeal.τ Cert.FfnDh3RefIdeal.sig) → Buf (Elt Ideal) ℓ) (g : Dev Cert.FfnDh3RefIdeal.nD → PrngReg), Pre_FfnDh3RefIdeal m →
    θ_run (Cert.FfnDh3RefIdeal.defs (F := Ideal)) (onTc (τ := Cert.FfnDh3RefIdeal.τ) (Cert.FfnDh3RefIdeal.main (F := Ideal))) ⟨m, fun _ => 0, g⟩ (fun r => (∀ c : Dev Cert.FfnDh3RefIdeal.nD,
      r.2.mem ((c.tc : Thread Cert.FfnDh3RefIdeal.nD Cert.FfnDh3RefIdeal.τ).loc Cert.FfnDh3RefIdeal.main_arg0) = m ((c.tc : Thread Cert.FfnDh3RefIdeal.nD Cert.FfnDh3RefIdeal.τ).loc Cert.FfnDh3RefIdeal.main_arg0)
      ∧ r.2.mem ((c.tc : Thread Cert.FfnDh3RefIdeal.nD Cert.FfnDh3RefIdeal.τ).loc Cert.FfnDh3RefIdeal.main_arg1) = m ((c.tc : Thread Cert.FfnDh3RefIdeal.nD Cert.FfnDh3RefIdeal.τ).loc Cert.FfnDh3RefIdeal.main_arg1)
      ∧ r.2.mem ((c.tc : Thread Cert.FfnDh3RefIdeal.nD Cert.FfnDh3RefIdeal.τ).loc Cert.FfnDh3RefIdeal.main_arg2) = m ((c.tc : Thread Cert.FfnDh3RefIdeal.nD Cert.FfnDh3RefIdeal.τ).loc Cert.FfnDh3RefIdeal.main_arg2))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1)
      ∧ r.2.mem ((c.tc : Thread Cert.ProjDw.nD Cert.ProjDw.τ).loc Cert.ProjDw.main_arg2) = m ((c.tc : Thread Cert.ProjDw.nD Cert.ProjDw.τ).loc Cert.ProjDw.main_arg2))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
      ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1)
      ∧ r.2.mem ((c.tc : Thread Cert.ProjDwRefIdeal.nD Cert.ProjDwRefIdeal.τ).loc Cert.ProjDwRefIdeal.main_arg2) = m ((c.tc : Thread Cert.ProjDwRefIdeal.nD Cert.ProjDwRefIdeal.τ).loc Cert.ProjDwRefIdeal.main_arg2))
      ∧ r.2.sem = fun _ => 0)

def quiescent_ProjDy [hProjDy : Cert.ProjDy.Facts] : Prop :=
  ∀ (m : (ℓ : Loc Cert.ProjDy.nD Cert.ProjDy.τ Cert.ProjDy.sig) → Buf (Elt Bits) ℓ) (g : Dev Cert.ProjDy.nD → PrngReg), Pre_ProjDy m →
    θ_run (Cert.ProjDy.defs (F := Bits)) (onTc (τ := Cert.ProjDy.τ) (Cert.ProjDy.main (F := Bits))) ⟨m, fun _ => 0, g⟩ (fun r => (∀ c : Dev Cert.ProjDy.nD,
      r.2.mem ((c.tc : Thread Cert.ProjDy.nD Cert.ProjDy.τ).loc Cert.ProjDy.main_arg0) = m ((c.tc : Thread Cert.ProjDy.nD Cert.ProjDy.τ).loc Cert.ProjDy.main_arg0)
      ∧ r.2.mem ((c.tc : Thread Cert.ProjDy.nD Cert.ProjDy.τ).loc Cert.ProjDy.main_arg1) = m ((c.tc : Thread Cert.ProjDy.nD Cert.ProjDy.τ).loc Cert.ProjDy.main_arg1)
      ∧ r.2.mem ((c.tc : Thread Cert.ProjDy.nD Cert.ProjDy.τ).loc Cert.ProjDy.main_arg2) = m ((c.tc : Thread Cert.ProjDy.nD Cert.ProjDy.τ).loc Cert.ProjDy.main_arg2))
      ∧ r.2.sem = fun _ => 0)

def quiescent_ProjDyIdeal [hProjDyIdeal : Cert.ProjDyIdeal.Facts] : Prop :=
  ∀ (m : (ℓ : Loc Cert.ProjDyIdeal.nD Cert.ProjDyIdeal.τ Cert.ProjDyIdeal.sig) → Buf (Elt Ideal) ℓ) (g : Dev Cert.ProjDyIdeal.nD → PrngReg), Pre_ProjDyIdeal m →
    θ_run (Cert.ProjDyIdeal.defs (F := Ideal)) (onTc (τ := Cert.ProjDyIdeal.τ) (Cert.ProjDyIdeal.main (F := Ideal))) ⟨m, fun _ => 0, g⟩ (fun r => (∀ c : Dev Cert.ProjDyIdeal.nD,
      r.2.mem ((c.tc : Thread Cert.ProjDyIdeal.nD Cert.ProjDyIdeal.τ).loc Cert.ProjDyIdeal.main_arg0) = m ((c.tc : Thread Cert.ProjDyIdeal.nD Cert.ProjDyIdeal.τ).loc Cert.ProjDyIdeal.main_arg0)
      ∧ r.2.mem ((c.tc : Thread Cert.ProjDyIdeal.nD Cert.ProjDyIdeal.τ).loc Cert.ProjDyIdeal.main_arg1) = m ((c.tc : Thread Cert.ProjDyIdeal.nD Cert.ProjDyIdeal.τ).loc Cert.ProjDyIdeal.main_arg1)
      ∧ r.2.mem ((c.tc : Thread Cert.ProjDyIdeal.nD Cert.ProjDyIdeal.τ).loc Cert.ProjDyIdeal.main_arg2) = m ((c.tc : Thread Cert.ProjDyIdeal.nD Cert.ProjDyIdeal.τ).loc Cert.ProjDyIdeal.main_arg2))
      ∧ r.2.sem = fun _ => 0)

def quiescent_ProjDyRefIdeal [hProjDyRefIdeal : Cert.ProjDyRefIdeal.Facts] : Prop :=
  ∀ (m : (ℓ : Loc Cert.ProjDyRefIdeal.nD Cert.ProjDyRefIdeal.τ Cert.ProjDyRefIdeal.sig) → Buf (Elt Ideal) ℓ) (g : Dev Cert.ProjDyRefIdeal.nD → PrngReg), Pre_ProjDyRefIdeal m →
    θ_run (Cert.ProjDyRefIdeal.defs (F := Ideal)) (onTc (τ := Cert.ProjDyRefIdeal.τ) (Cert.ProjDyRefIdeal.main (F := Ideal))) ⟨m, fun _ => 0, g⟩ (fun r => (∀ c : Dev Cert.ProjDyRefIdeal.nD,
      r.2.mem ((c.tc : Thread Cert.ProjDyRefIdeal.nD Cert.ProjDyRefIdeal.τ).loc Cert.ProjDyRefIdeal.main_arg0) = m ((c.tc : Thread Cert.ProjDyRefIdeal.nD Cert.ProjDyRefIdeal.τ).loc Cert.ProjDyRefIdeal.main_arg0)
      ∧ r.2.mem ((c.tc : Thread Cert.ProjDyRefIdeal.nD Cert.ProjDyRefIdeal.τ).loc Cert.ProjDyRefIdeal.main_arg1) = m ((c.tc : Thread Cert.ProjDyRefIdeal.nD Cert.ProjDyRefIdeal.τ).loc Cert.ProjDyRefIdeal.main_arg1)
      ∧ r.2.mem ((c.tc : Thread Cert.ProjDyRefIdeal.nD Cert.ProjDyRefIdeal.τ).loc Cert.ProjDyRefIdeal.main_arg2) = m ((c.tc : Thread Cert.ProjDyRefIdeal.nD Cert.ProjDyRefIdeal.τ).loc Cert.ProjDyRefIdeal.main_arg2))
      ∧ r.2.sem = fun _ => 0)

def quiescent_QueryDw [hQueryDw : Cert.QueryDw.Facts] : Prop :=
  ∀ (m : (ℓ : Loc Cert.QueryDw.nD Cert.QueryDw.τ Cert.QueryDw.sig) → Buf (Elt Bits) ℓ) (g : Dev Cert.QueryDw.nD → PrngReg), Pre_QueryDw m →
    θ_run (Cert.QueryDw.defs (F := Bits)) (onTc (τ := Cert.QueryDw.τ) (Cert.QueryDw.main (F := Bits))) ⟨m, fun _ => 0, g⟩ (fun r => (∀ c : Dev Cert.QueryDw.nD,
      r.2.mem ((c.tc : Thread Cert.QueryDw.nD Cert.QueryDw.τ).loc Cert.QueryDw.main_arg0) = m ((c.tc : Thread Cert.QueryDw.nD Cert.QueryDw.τ).loc Cert.QueryDw.main_arg0)
      ∧ r.2.mem ((c.tc : Thread Cert.QueryDw.nD Cert.QueryDw.τ).loc Cert.QueryDw.main_arg1) = m ((c.tc : Thread Cert.QueryDw.nD Cert.QueryDw.τ).loc Cert.QueryDw.main_arg1)
      ∧ r.2.mem ((c.tc : Thread Cert.QueryDw.nD Cert.QueryDw.τ).loc Cert.QueryDw.main_arg2) = m ((c.tc : Thread Cert.QueryDw.nD Cert.QueryDw.τ).loc Cert.QueryDw.main_arg2))
      ∧ r.2.sem = fun _ => 0)

def quiescent_QueryDwIdeal [hQueryDwIdeal : Cert.QueryDwIdeal.Facts] : Prop :=
  ∀ (m : (ℓ : Loc Cert.QueryDwIdeal.nD Cert.QueryDwIdeal.τ Cert.QueryDwIdeal.sig) → Buf (Elt Ideal) ℓ) (g : Dev Cert.QueryDwIdeal.nD → PrngReg), Pre_QueryDwIdeal m →
    θ_run (Cert.QueryDwIdeal.defs (F := Ideal)) (onTc (τ := Cert.QueryDwIdeal.τ) (Cert.QueryDwIdeal.main (F := Ideal))) ⟨m, fun _ => 0, g⟩ (fun r => (∀ c : Dev Cert.QueryDwIdeal.nD,
      r.2.mem ((c.tc : Thread Cert.QueryDwIdeal.nD Cert.QueryDwIdeal.τ).loc Cert.QueryDwIdeal.main_arg0) = m ((c.tc : Thread Cert.QueryDwIdeal.nD Cert.QueryDwIdeal.τ).loc Cert.QueryDwIdeal.main_arg0)
      ∧ r.2.mem ((c.tc : Thread Cert.QueryDwIdeal.nD Cert.QueryDwIdeal.τ).loc Cert.QueryDwIdeal.main_arg1) = m ((c.tc : Thread Cert.QueryDwIdeal.nD Cert.QueryDwIdeal.τ).loc Cert.QueryDwIdeal.main_arg1)
      ∧ r.2.mem ((c.tc : Thread Cert.QueryDwIdeal.nD Cert.QueryDwIdeal.τ).loc Cert.QueryDwIdeal.main_arg2) = m ((c.tc : Thread Cert.QueryDwIdeal.nD Cert.QueryDwIdeal.τ).loc Cert.QueryDwIdeal.main_arg2))
      ∧ r.2.sem = fun _ => 0)

def quiescent_QueryDwRefIdeal [hQueryDwRefIdeal : Cert.QueryDwRefIdeal.Facts] : Prop :=
  ∀ (m : (ℓ : Loc Cert.QueryDwRefIdeal.nD Cert.QueryDwRefIdeal.τ Cert.QueryDwRefIdeal.sig) → Buf (Elt Ideal) ℓ) (g : Dev Cert.QueryDwRefIdeal.nD → PrngReg), Pre_QueryDwRefIdeal m →
    θ_run (Cert.QueryDwRefIdeal.defs (F := Ideal)) (onTc (τ := Cert.QueryDwRefIdeal.τ) (Cert.QueryDwRefIdeal.main (F := Ideal))) ⟨m, fun _ => 0, g⟩ (fun r => (∀ c : Dev Cert.QueryDwRefIdeal.nD,
      r.2.mem ((c.tc : Thread Cert.QueryDwRefIdeal.nD Cert.QueryDwRefIdeal.τ).loc Cert.QueryDwRefIdeal.main_arg0) = m ((c.tc : Thread Cert.QueryDwRefIdeal.nD Cert.QueryDwRefIdeal.τ).loc Cert.QueryDwRefIdeal.main_arg0)
      ∧ r.2.mem ((c.tc : Thread Cert.QueryDwRefIdeal.nD Cert.QueryDwRefIdeal.τ).loc Cert.QueryDwRefIdeal.main_arg1) = m ((c.tc : Thread Cert.QueryDwRefIdeal.nD Cert.QueryDwRefIdeal.τ).loc Cert.QueryDwRefIdeal.main_arg1)
      ∧ r.2.mem ((c.tc : Thread Cert.QueryDwRefIdeal.nD Cert.QueryDwRefIdeal.τ).loc Cert.QueryDwRefIdeal.main_arg2) = m ((c.tc : Thread Cert.QueryDwRefIdeal.nD Cert.QueryDwRefIdeal.τ).loc Cert.QueryDwRefIdeal.main_arg2))
      ∧ r.2.sem = fun _ => 0)

def quiescent_QueryDh [hQueryDh : Cert.QueryDh.Facts] : Prop :=
  ∀ (m : (ℓ : Loc Cert.QueryDh.nD Cert.QueryDh.τ Cert.QueryDh.sig) → Buf (Elt Bits) ℓ) (g : Dev Cert.QueryDh.nD → PrngReg), Pre_QueryDh m →
    θ_run (Cert.QueryDh.defs (F := Bits)) (onTc (τ := Cert.QueryDh.τ) (Cert.QueryDh.main (F := Bits))) ⟨m, fun _ => 0, g⟩ (fun r => (∀ c : Dev Cert.QueryDh.nD,
      r.2.mem ((c.tc : Thread Cert.QueryDh.nD Cert.QueryDh.τ).loc Cert.QueryDh.main_arg0) = m ((c.tc : Thread Cert.QueryDh.nD Cert.QueryDh.τ).loc Cert.QueryDh.main_arg0)
      ∧ r.2.mem ((c.tc : Thread Cert.QueryDh.nD Cert.QueryDh.τ).loc Cert.QueryDh.main_arg1) = m ((c.tc : Thread Cert.QueryDh.nD Cert.QueryDh.τ).loc Cert.QueryDh.main_arg1)
      ∧ r.2.mem ((c.tc : Thread Cert.QueryDh.nD Cert.QueryDh.τ).loc Cert.QueryDh.main_arg2) = m ((c.tc : Thread Cert.QueryDh.nD Cert.QueryDh.τ).loc Cert.QueryDh.main_arg2))
      ∧ r.2.sem = fun _ => 0)

def quiescent_QueryDhIdeal [hQueryDhIdeal : Cert.QueryDhIdeal.Facts] : Prop :=
  ∀ (m : (ℓ : Loc Cert.QueryDhIdeal.nD Cert.QueryDhIdeal.τ Cert.QueryDhIdeal.sig) → Buf (Elt Ideal) ℓ) (g : Dev Cert.QueryDhIdeal.nD → PrngReg), Pre_QueryDhIdeal m →
    θ_run (Cert.QueryDhIdeal.defs (F := Ideal)) (onTc (τ := Cert.QueryDhIdeal.τ) (Cert.QueryDhIdeal.main (F := Ideal))) ⟨m, fun _ => 0, g⟩ (fun r => (∀ c : Dev Cert.QueryDhIdeal.nD,
      r.2.mem ((c.tc : Thread Cert.QueryDhIdeal.nD Cert.QueryDhIdeal.τ).loc Cert.QueryDhIdeal.main_arg0) = m ((c.tc : Thread Cert.QueryDhIdeal.nD Cert.QueryDhIdeal.τ).loc Cert.QueryDhIdeal.main_arg0)
      ∧ r.2.mem ((c.tc : Thread Cert.QueryDhIdeal.nD Cert.QueryDhIdeal.τ).loc Cert.QueryDhIdeal.main_arg1) = m ((c.tc : Thread Cert.QueryDhIdeal.nD Cert.QueryDhIdeal.τ).loc Cert.QueryDhIdeal.main_arg1)
      ∧ r.2.mem ((c.tc : Thread Cert.QueryDhIdeal.nD Cert.QueryDhIdeal.τ).loc Cert.QueryDhIdeal.main_arg2) = m ((c.tc : Thread Cert.QueryDhIdeal.nD Cert.QueryDhIdeal.τ).loc Cert.QueryDhIdeal.main_arg2))
      ∧ r.2.sem = fun _ => 0)

def quiescent_QueryDhRefIdeal [hQueryDhRefIdeal : Cert.QueryDhRefIdeal.Facts] : Prop :=
  ∀ (m : (ℓ : Loc Cert.QueryDhRefIdeal.nD Cert.QueryDhRefIdeal.τ Cert.QueryDhRefIdeal.sig) → Buf (Elt Ideal) ℓ) (g : Dev Cert.QueryDhRefIdeal.nD → PrngReg), Pre_QueryDhRefIdeal m →
    θ_run (Cert.QueryDhRefIdeal.defs (F := Ideal)) (onTc (τ := Cert.QueryDhRefIdeal.τ) (Cert.QueryDhRefIdeal.main (F := Ideal))) ⟨m, fun _ => 0, g⟩ (fun r => (∀ c : Dev Cert.QueryDhRefIdeal.nD,
      r.2.mem ((c.tc : Thread Cert.QueryDhRefIdeal.nD Cert.QueryDhRefIdeal.τ).loc Cert.QueryDhRefIdeal.main_arg0) = m ((c.tc : Thread Cert.QueryDhRefIdeal.nD Cert.QueryDhRefIdeal.τ).loc Cert.QueryDhRefIdeal.main_arg0)
      ∧ r.2.mem ((c.tc : Thread Cert.QueryDhRefIdeal.nD Cert.QueryDhRefIdeal.τ).loc Cert.QueryDhRefIdeal.main_arg1) = m ((c.tc : Thread Cert.QueryDhRefIdeal.nD Cert.QueryDhRefIdeal.τ).loc Cert.QueryDhRefIdeal.main_arg1)
      ∧ r.2.mem ((c.tc : Thread Cert.QueryDhRefIdeal.nD Cert.QueryDhRefIdeal.τ).loc Cert.QueryDhRefIdeal.main_arg2) = m ((c.tc : Thread Cert.QueryDhRefIdeal.nD Cert.QueryDhRefIdeal.τ).loc Cert.QueryDhRefIdeal.main_arg2))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_MemKvRefIdeal [hMemKvRefIdeal : Cert.MemKvRefIdeal.Facts] : Prop :=
  ∀ (m : (ℓ : Loc Cert.MemKvRefIdeal.nD Cert.MemKvRefIdeal.τ Cert.MemKvRefIdeal.sig) → Buf (Elt Ideal) ℓ) (g : Dev Cert.MemKvRefIdeal.nD → PrngReg), Pre_MemKvRefIdeal m →
    θ_run (Cert.MemKvRefIdeal.defs (F := Ideal)) (onTc (τ := Cert.MemKvRefIdeal.τ) (Cert.MemKvRefIdeal.main (F := Ideal))) ⟨m, fun _ => 0, g⟩ (fun r => (∀ c : Dev Cert.MemKvRefIdeal.nD,
      r.2.mem ((c.tc : Thread Cert.MemKvRefIdeal.nD Cert.MemKvRefIdeal.τ).loc Cert.MemKvRefIdeal.main_arg0) = m ((c.tc : Thread Cert.MemKvRefIdeal.nD Cert.MemKvRefIdeal.τ).loc Cert.MemKvRefIdeal.main_arg0)
      ∧ r.2.mem ((c.tc : Thread Cert.MemKvRefIdeal.nD Cert.MemKvRefIdeal.τ).loc Cert.MemKvRefIdeal.main_arg1) = m ((c.tc : Thread Cert.MemKvRefIdeal.nD Cert.MemKvRefIdeal.τ).loc Cert.MemKvRefIdeal.main_arg1))
      ∧ r.2.sem = fun _ => 0)

def quiescent_MemKvDw [hMemKvDw : Cert.MemKvDw.Facts] : Prop :=
  ∀ (m : (ℓ : Loc Cert.MemKvDw.nD Cert.MemKvDw.τ Cert.MemKvDw.sig) → Buf (Elt Bits) ℓ) (g : Dev Cert.MemKvDw.nD → PrngReg), Pre_MemKvDw m →
    θ_run (Cert.MemKvDw.defs (F := Bits)) (onTc (τ := Cert.MemKvDw.τ) (Cert.MemKvDw.main (F := Bits))) ⟨m, fun _ => 0, g⟩ (fun r => (∀ c : Dev Cert.MemKvDw.nD,
      r.2.mem ((c.tc : Thread Cert.MemKvDw.nD Cert.MemKvDw.τ).loc Cert.MemKvDw.main_arg0) = m ((c.tc : Thread Cert.MemKvDw.nD Cert.MemKvDw.τ).loc Cert.MemKvDw.main_arg0)
      ∧ r.2.mem ((c.tc : Thread Cert.MemKvDw.nD Cert.MemKvDw.τ).loc Cert.MemKvDw.main_arg1) = m ((c.tc : Thread Cert.MemKvDw.nD Cert.MemKvDw.τ).loc Cert.MemKvDw.main_arg1)
      ∧ r.2.mem ((c.tc : Thread Cert.MemKvDw.nD Cert.MemKvDw.τ).loc Cert.MemKvDw.main_arg2) = m ((c.tc : Thread Cert.MemKvDw.nD Cert.MemKvDw.τ).loc Cert.MemKvDw.main_arg2))
      ∧ r.2.sem = fun _ => 0)

def quiescent_MemKvDwIdeal [hMemKvDwIdeal : Cert.MemKvDwIdeal.Facts] : Prop :=
  ∀ (m : (ℓ : Loc Cert.MemKvDwIdeal.nD Cert.MemKvDwIdeal.τ Cert.MemKvDwIdeal.sig) → Buf (Elt Ideal) ℓ) (g : Dev Cert.MemKvDwIdeal.nD → PrngReg), Pre_MemKvDwIdeal m →
    θ_run (Cert.MemKvDwIdeal.defs (F := Ideal)) (onTc (τ := Cert.MemKvDwIdeal.τ) (Cert.MemKvDwIdeal.main (F := Ideal))) ⟨m, fun _ => 0, g⟩ (fun r => (∀ c : Dev Cert.MemKvDwIdeal.nD,
      r.2.mem ((c.tc : Thread Cert.MemKvDwIdeal.nD Cert.MemKvDwIdeal.τ).loc Cert.MemKvDwIdeal.main_arg0) = m ((c.tc : Thread Cert.MemKvDwIdeal.nD Cert.MemKvDwIdeal.τ).loc Cert.MemKvDwIdeal.main_arg0)
      ∧ r.2.mem ((c.tc : Thread Cert.MemKvDwIdeal.nD Cert.MemKvDwIdeal.τ).loc Cert.MemKvDwIdeal.main_arg1) = m ((c.tc : Thread Cert.MemKvDwIdeal.nD Cert.MemKvDwIdeal.τ).loc Cert.MemKvDwIdeal.main_arg1)
      ∧ r.2.mem ((c.tc : Thread Cert.MemKvDwIdeal.nD Cert.MemKvDwIdeal.τ).loc Cert.MemKvDwIdeal.main_arg2) = m ((c.tc : Thread Cert.MemKvDwIdeal.nD Cert.MemKvDwIdeal.τ).loc Cert.MemKvDwIdeal.main_arg2))
      ∧ r.2.sem = fun _ => 0)

def quiescent_MemKvDwRefIdeal [hMemKvDwRefIdeal : Cert.MemKvDwRefIdeal.Facts] : Prop :=
  ∀ (m : (ℓ : Loc Cert.MemKvDwRefIdeal.nD Cert.MemKvDwRefIdeal.τ Cert.MemKvDwRefIdeal.sig) → Buf (Elt Ideal) ℓ) (g : Dev Cert.MemKvDwRefIdeal.nD → PrngReg), Pre_MemKvDwRefIdeal m →
    θ_run (Cert.MemKvDwRefIdeal.defs (F := Ideal)) (onTc (τ := Cert.MemKvDwRefIdeal.τ) (Cert.MemKvDwRefIdeal.main (F := Ideal))) ⟨m, fun _ => 0, g⟩ (fun r => (∀ c : Dev Cert.MemKvDwRefIdeal.nD,
      r.2.mem ((c.tc : Thread Cert.MemKvDwRefIdeal.nD Cert.MemKvDwRefIdeal.τ).loc Cert.MemKvDwRefIdeal.main_arg0) = m ((c.tc : Thread Cert.MemKvDwRefIdeal.nD Cert.MemKvDwRefIdeal.τ).loc Cert.MemKvDwRefIdeal.main_arg0)
      ∧ r.2.mem ((c.tc : Thread Cert.MemKvDwRefIdeal.nD Cert.MemKvDwRefIdeal.τ).loc Cert.MemKvDwRefIdeal.main_arg1) = m ((c.tc : Thread Cert.MemKvDwRefIdeal.nD Cert.MemKvDwRefIdeal.τ).loc Cert.MemKvDwRefIdeal.main_arg1)
      ∧ r.2.mem ((c.tc : Thread Cert.MemKvDwRefIdeal.nD Cert.MemKvDwRefIdeal.τ).loc Cert.MemKvDwRefIdeal.main_arg2) = m ((c.tc : Thread Cert.MemKvDwRefIdeal.nD Cert.MemKvDwRefIdeal.τ).loc Cert.MemKvDwRefIdeal.main_arg2))
      ∧ r.2.sem = fun _ => 0)

def quiescent_MemDk [hMemDk : Cert.MemDk.Facts] : Prop :=
  ∀ (m : (ℓ : Loc Cert.MemDk.nD Cert.MemDk.τ Cert.MemDk.sig) → Buf (Elt Bits) ℓ) (g : Dev Cert.MemDk.nD → PrngReg), Pre_MemDk m →
    θ_run (Cert.MemDk.defs (F := Bits)) (onTc (τ := Cert.MemDk.τ) (Cert.MemDk.main (F := Bits))) ⟨m, fun _ => 0, g⟩ (fun r => (∀ c : Dev Cert.MemDk.nD,
      r.2.mem ((c.tc : Thread Cert.MemDk.nD Cert.MemDk.τ).loc Cert.MemDk.main_arg0) = m ((c.tc : Thread Cert.MemDk.nD Cert.MemDk.τ).loc Cert.MemDk.main_arg0)
      ∧ r.2.mem ((c.tc : Thread Cert.MemDk.nD Cert.MemDk.τ).loc Cert.MemDk.main_arg1) = m ((c.tc : Thread Cert.MemDk.nD Cert.MemDk.τ).loc Cert.MemDk.main_arg1)
      ∧ r.2.mem ((c.tc : Thread Cert.MemDk.nD Cert.MemDk.τ).loc Cert.MemDk.main_arg2) = m ((c.tc : Thread Cert.MemDk.nD Cert.MemDk.τ).loc Cert.MemDk.main_arg2))
      ∧ r.2.sem = fun _ => 0)

def quiescent_MemDkIdeal [hMemDkIdeal : Cert.MemDkIdeal.Facts] : Prop :=
  ∀ (m : (ℓ : Loc Cert.MemDkIdeal.nD Cert.MemDkIdeal.τ Cert.MemDkIdeal.sig) → Buf (Elt Ideal) ℓ) (g : Dev Cert.MemDkIdeal.nD → PrngReg), Pre_MemDkIdeal m →
    θ_run (Cert.MemDkIdeal.defs (F := Ideal)) (onTc (τ := Cert.MemDkIdeal.τ) (Cert.MemDkIdeal.main (F := Ideal))) ⟨m, fun _ => 0, g⟩ (fun r => (∀ c : Dev Cert.MemDkIdeal.nD,
      r.2.mem ((c.tc : Thread Cert.MemDkIdeal.nD Cert.MemDkIdeal.τ).loc Cert.MemDkIdeal.main_arg0) = m ((c.tc : Thread Cert.MemDkIdeal.nD Cert.MemDkIdeal.τ).loc Cert.MemDkIdeal.main_arg0)
      ∧ r.2.mem ((c.tc : Thread Cert.MemDkIdeal.nD Cert.MemDkIdeal.τ).loc Cert.MemDkIdeal.main_arg1) = m ((c.tc : Thread Cert.MemDkIdeal.nD Cert.MemDkIdeal.τ).loc Cert.MemDkIdeal.main_arg1)
      ∧ r.2.mem ((c.tc : Thread Cert.MemDkIdeal.nD Cert.MemDkIdeal.τ).loc Cert.MemDkIdeal.main_arg2) = m ((c.tc : Thread Cert.MemDkIdeal.nD Cert.MemDkIdeal.τ).loc Cert.MemDkIdeal.main_arg2))
      ∧ r.2.sem = fun _ => 0)

def quiescent_MemDkRefIdeal [hMemDkRefIdeal : Cert.MemDkRefIdeal.Facts] : Prop :=
  ∀ (m : (ℓ : Loc Cert.MemDkRefIdeal.nD Cert.MemDkRefIdeal.τ Cert.MemDkRefIdeal.sig) → Buf (Elt Ideal) ℓ) (g : Dev Cert.MemDkRefIdeal.nD → PrngReg), Pre_MemDkRefIdeal m →
    θ_run (Cert.MemDkRefIdeal.defs (F := Ideal)) (onTc (τ := Cert.MemDkRefIdeal.τ) (Cert.MemDkRefIdeal.main (F := Ideal))) ⟨m, fun _ => 0, g⟩ (fun r => (∀ c : Dev Cert.MemDkRefIdeal.nD,
      r.2.mem ((c.tc : Thread Cert.MemDkRefIdeal.nD Cert.MemDkRefIdeal.τ).loc Cert.MemDkRefIdeal.main_arg0) = m ((c.tc : Thread Cert.MemDkRefIdeal.nD Cert.MemDkRefIdeal.τ).loc Cert.MemDkRefIdeal.main_arg0)
      ∧ r.2.mem ((c.tc : Thread Cert.MemDkRefIdeal.nD Cert.MemDkRefIdeal.τ).loc Cert.MemDkRefIdeal.main_arg1) = m ((c.tc : Thread Cert.MemDkRefIdeal.nD Cert.MemDkRefIdeal.τ).loc Cert.MemDkRefIdeal.main_arg1)
      ∧ r.2.mem ((c.tc : Thread Cert.MemDkRefIdeal.nD Cert.MemDkRefIdeal.τ).loc Cert.MemDkRefIdeal.main_arg2) = m ((c.tc : Thread Cert.MemDkRefIdeal.nD Cert.MemDkRefIdeal.τ).loc Cert.MemDkRefIdeal.main_arg2))
      ∧ r.2.sem = fun _ => 0)

def quiescent_MemDv [hMemDv : Cert.MemDv.Facts] : Prop :=
  ∀ (m : (ℓ : Loc Cert.MemDv.nD Cert.MemDv.τ Cert.MemDv.sig) → Buf (Elt Bits) ℓ) (g : Dev Cert.MemDv.nD → PrngReg), Pre_MemDv m →
    θ_run (Cert.MemDv.defs (F := Bits)) (onTc (τ := Cert.MemDv.τ) (Cert.MemDv.main (F := Bits))) ⟨m, fun _ => 0, g⟩ (fun r => (∀ c : Dev Cert.MemDv.nD,
      r.2.mem ((c.tc : Thread Cert.MemDv.nD Cert.MemDv.τ).loc Cert.MemDv.main_arg0) = m ((c.tc : Thread Cert.MemDv.nD Cert.MemDv.τ).loc Cert.MemDv.main_arg0)
      ∧ r.2.mem ((c.tc : Thread Cert.MemDv.nD Cert.MemDv.τ).loc Cert.MemDv.main_arg1) = m ((c.tc : Thread Cert.MemDv.nD Cert.MemDv.τ).loc Cert.MemDv.main_arg1)
      ∧ r.2.mem ((c.tc : Thread Cert.MemDv.nD Cert.MemDv.τ).loc Cert.MemDv.main_arg2) = m ((c.tc : Thread Cert.MemDv.nD Cert.MemDv.τ).loc Cert.MemDv.main_arg2)
      ∧ r.2.mem ((c.tc : Thread Cert.MemDv.nD Cert.MemDv.τ).loc Cert.MemDv.main_arg3) = m ((c.tc : Thread Cert.MemDv.nD Cert.MemDv.τ).loc Cert.MemDv.main_arg3))
      ∧ r.2.sem = fun _ => 0)

def quiescent_MemDvIdeal [hMemDvIdeal : Cert.MemDvIdeal.Facts] : Prop :=
  ∀ (m : (ℓ : Loc Cert.MemDvIdeal.nD Cert.MemDvIdeal.τ Cert.MemDvIdeal.sig) → Buf (Elt Ideal) ℓ) (g : Dev Cert.MemDvIdeal.nD → PrngReg), Pre_MemDvIdeal m →
    θ_run (Cert.MemDvIdeal.defs (F := Ideal)) (onTc (τ := Cert.MemDvIdeal.τ) (Cert.MemDvIdeal.main (F := Ideal))) ⟨m, fun _ => 0, g⟩ (fun r => (∀ c : Dev Cert.MemDvIdeal.nD,
      r.2.mem ((c.tc : Thread Cert.MemDvIdeal.nD Cert.MemDvIdeal.τ).loc Cert.MemDvIdeal.main_arg0) = m ((c.tc : Thread Cert.MemDvIdeal.nD Cert.MemDvIdeal.τ).loc Cert.MemDvIdeal.main_arg0)
      ∧ r.2.mem ((c.tc : Thread Cert.MemDvIdeal.nD Cert.MemDvIdeal.τ).loc Cert.MemDvIdeal.main_arg1) = m ((c.tc : Thread Cert.MemDvIdeal.nD Cert.MemDvIdeal.τ).loc Cert.MemDvIdeal.main_arg1)
      ∧ r.2.mem ((c.tc : Thread Cert.MemDvIdeal.nD Cert.MemDvIdeal.τ).loc Cert.MemDvIdeal.main_arg2) = m ((c.tc : Thread Cert.MemDvIdeal.nD Cert.MemDvIdeal.τ).loc Cert.MemDvIdeal.main_arg2)
      ∧ r.2.mem ((c.tc : Thread Cert.MemDvIdeal.nD Cert.MemDvIdeal.τ).loc Cert.MemDvIdeal.main_arg3) = m ((c.tc : Thread Cert.MemDvIdeal.nD Cert.MemDvIdeal.τ).loc Cert.MemDvIdeal.main_arg3))
      ∧ r.2.sem = fun _ => 0)

def quiescent_MemDvRefIdeal [hMemDvRefIdeal : Cert.MemDvRefIdeal.Facts] : Prop :=
  ∀ (m : (ℓ : Loc Cert.MemDvRefIdeal.nD Cert.MemDvRefIdeal.τ Cert.MemDvRefIdeal.sig) → Buf (Elt Ideal) ℓ) (g : Dev Cert.MemDvRefIdeal.nD → PrngReg), Pre_MemDvRefIdeal m →
    θ_run (Cert.MemDvRefIdeal.defs (F := Ideal)) (onTc (τ := Cert.MemDvRefIdeal.τ) (Cert.MemDvRefIdeal.main (F := Ideal))) ⟨m, fun _ => 0, g⟩ (fun r => (∀ c : Dev Cert.MemDvRefIdeal.nD,
      r.2.mem ((c.tc : Thread Cert.MemDvRefIdeal.nD Cert.MemDvRefIdeal.τ).loc Cert.MemDvRefIdeal.main_arg0) = m ((c.tc : Thread Cert.MemDvRefIdeal.nD Cert.MemDvRefIdeal.τ).loc Cert.MemDvRefIdeal.main_arg0)
      ∧ r.2.mem ((c.tc : Thread Cert.MemDvRefIdeal.nD Cert.MemDvRefIdeal.τ).loc Cert.MemDvRefIdeal.main_arg1) = m ((c.tc : Thread Cert.MemDvRefIdeal.nD Cert.MemDvRefIdeal.τ).loc Cert.MemDvRefIdeal.main_arg1)
      ∧ r.2.mem ((c.tc : Thread Cert.MemDvRefIdeal.nD Cert.MemDvRefIdeal.τ).loc Cert.MemDvRefIdeal.main_arg2) = m ((c.tc : Thread Cert.MemDvRefIdeal.nD Cert.MemDvRefIdeal.τ).loc Cert.MemDvRefIdeal.main_arg2)
      ∧ r.2.mem ((c.tc : Thread Cert.MemDvRefIdeal.nD Cert.MemDvRefIdeal.τ).loc Cert.MemDvRefIdeal.main_arg3) = m ((c.tc : Thread Cert.MemDvRefIdeal.nD Cert.MemDvRefIdeal.τ).loc Cert.MemDvRefIdeal.main_arg3))
      ∧ r.2.sem = fun _ => 0)

def quiescent_InZ [hInZ : Cert.InZ.Facts] : Prop :=
  ∀ (m : (ℓ : Loc Cert.InZ.nD Cert.InZ.τ Cert.InZ.sig) → Buf (Elt Bits) ℓ) (g : Dev Cert.InZ.nD → PrngReg), Pre_InZ m →
    θ_run (Cert.InZ.defs (F := Bits)) (onTc (τ := Cert.InZ.τ) (Cert.InZ.main (F := Bits))) ⟨m, fun _ => 0, g⟩ (fun r => (∀ c : Dev Cert.InZ.nD,
      r.2.mem ((c.tc : Thread Cert.InZ.nD Cert.InZ.τ).loc Cert.InZ.main_arg0) = m ((c.tc : Thread Cert.InZ.nD Cert.InZ.τ).loc Cert.InZ.main_arg0)
      ∧ r.2.mem ((c.tc : Thread Cert.InZ.nD Cert.InZ.τ).loc Cert.InZ.main_arg1) = m ((c.tc : Thread Cert.InZ.nD Cert.InZ.τ).loc Cert.InZ.main_arg1))
      ∧ r.2.sem = fun _ => 0)

def quiescent_InZIdeal [hInZIdeal : Cert.InZIdeal.Facts] : Prop :=
  ∀ (m : (ℓ : Loc Cert.InZIdeal.nD Cert.InZIdeal.τ Cert.InZIdeal.sig) → Buf (Elt Ideal) ℓ) (g : Dev Cert.InZIdeal.nD → PrngReg), Pre_InZIdeal m →
    θ_run (Cert.InZIdeal.defs (F := Ideal)) (onTc (τ := Cert.InZIdeal.τ) (Cert.InZIdeal.main (F := Ideal))) ⟨m, fun _ => 0, g⟩ (fun r => (∀ c : Dev Cert.InZIdeal.nD,
      r.2.mem ((c.tc : Thread Cert.InZIdeal.nD Cert.InZIdeal.τ).loc Cert.InZIdeal.main_arg0) = m ((c.tc : Thread Cert.InZIdeal.nD Cert.InZIdeal.τ).loc Cert.InZIdeal.main_arg0)
      ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ r.2.sem = fun _ => 0)

def quiescent_InZRefIdeal [hInZRefIdeal : Cert.InZRefIdeal.Facts] : Prop :=
  ∀ (m : (ℓ : Loc Cert.InZRefIdeal.nD Cert.InZRefIdeal.τ Cert.InZRefIdeal.sig) → Buf (Elt Ideal) ℓ) (g : Dev Cert.InZRefIdeal.nD → PrngReg), Pre_InZRefIdeal m →
    θ_run (Cert.InZRefIdeal.defs (F := Ideal)) (onTc (τ := Cert.InZRefIdeal.τ) (Cert.InZRefIdeal.main (F := Ideal))) ⟨m, fun _ => 0, g⟩ (fun r => (∀ c : Dev Cert.InZRefIdeal.nD,
      r.2.mem ((c.tc : Thread Cert.InZRefIdeal.nD Cert.InZRefIdeal.τ).loc Cert.InZRefIdeal.main_arg0) = m ((c.tc : Thread Cert.InZRefIdeal.nD Cert.InZRefIdeal.τ).loc Cert.InZRefIdeal.main_arg0)
      ∧ r.2.mem ((c.tc : Thread Cert.InZRefIdeal.nD Cert.InZRefIdeal.τ).loc Cert.InZRefIdeal.main_arg1) = m ((c.tc : Thread Cert.InZRefIdeal.nD Cert.InZRefIdeal.τ).loc Cert.InZRefIdeal.main_arg1))
      ∧ r.2.sem = fun _ => 0)

def quiescent_InZDw [hInZDw : Cert.InZDw.Facts] : Prop :=
  ∀ (m : (ℓ : Loc Cert.InZDw.nD Cert.InZDw.τ Cert.InZDw.sig) → Buf (Elt Bits) ℓ) (g : Dev Cert.InZDw.nD → PrngReg), Pre_InZDw m →
    θ_run (Cert.InZDw.defs (F := Bits)) (onTc (τ := Cert.InZDw.τ) (Cert.InZDw.main (F := Bits))) ⟨m, fun _ => 0, g⟩ (fun r => (∀ c : Dev Cert.InZDw.nD,
      r.2.mem ((c.tc : Thread Cert.InZDw.nD Cert.InZDw.τ).loc Cert.InZDw.main_arg0) = m ((c.tc : Thread Cert.InZDw.nD Cert.InZDw.τ).loc Cert.InZDw.main_arg0)
      ∧ r.2.mem ((c.tc : Thread Cert.InZDw.nD Cert.InZDw.τ).loc Cert.InZDw.main_arg1) = m ((c.tc : Thread Cert.InZDw.nD Cert.InZDw.τ).loc Cert.InZDw.main_arg1)
      ∧ r.2.mem ((c.tc : Thread Cert.InZDw.nD Cert.InZDw.τ).loc Cert.InZDw.main_arg2) = m ((c.tc : Thread Cert.InZDw.nD Cert.InZDw.τ).loc Cert.InZDw.main_arg2))
      ∧ r.2.sem = fun _ => 0)

def quiescent_InZDwIdeal [hInZDwIdeal : Cert.InZDwIdeal.Facts] : Prop :=
  ∀ (m : (ℓ : Loc Cert.InZDwIdeal.nD Cert.InZDwIdeal.τ Cert.InZDwIdeal.sig) → Buf (Elt Ideal) ℓ) (g : Dev Cert.InZDwIdeal.nD → PrngReg), Pre_InZDwIdeal m →
    θ_run (Cert.InZDwIdeal.defs (F := Ideal)) (onTc (τ := Cert.InZDwIdeal.τ) (Cert.InZDwIdeal.main (F := Ideal))) ⟨m, fun _ => 0, g⟩ (fun r => (∀ c : Dev Cert.InZDwIdeal.nD,
      r.2.mem ((c.tc : Thread Cert.InZDwIdeal.nD Cert.InZDwIdeal.τ).loc Cert.InZDwIdeal.main_arg0) = m ((c.tc : Thread Cert.InZDwIdeal.nD Cert.InZDwIdeal.τ).loc Cert.InZDwIdeal.main_arg0)
      ∧ r.2.mem ((c.tc : Thread Cert.InZDwIdeal.nD Cert.InZDwIdeal.τ).loc Cert.InZDwIdeal.main_arg1) = m ((c.tc : Thread Cert.InZDwIdeal.nD Cert.InZDwIdeal.τ).loc Cert.InZDwIdeal.main_arg1)
      ∧ r.2.mem ((c.tc : Thread Cert.InZDwIdeal.nD Cert.InZDwIdeal.τ).loc Cert.InZDwIdeal.main_arg2) = m ((c.tc : Thread Cert.InZDwIdeal.nD Cert.InZDwIdeal.τ).loc Cert.InZDwIdeal.main_arg2))
      ∧ r.2.sem = fun _ => 0)

def quiescent_InZDwRefIdeal [hInZDwRefIdeal : Cert.InZDwRefIdeal.Facts] : Prop :=
  ∀ (m : (ℓ : Loc Cert.InZDwRefIdeal.nD Cert.InZDwRefIdeal.τ Cert.InZDwRefIdeal.sig) → Buf (Elt Ideal) ℓ) (g : Dev Cert.InZDwRefIdeal.nD → PrngReg), Pre_InZDwRefIdeal m →
    θ_run (Cert.InZDwRefIdeal.defs (F := Ideal)) (onTc (τ := Cert.InZDwRefIdeal.τ) (Cert.InZDwRefIdeal.main (F := Ideal))) ⟨m, fun _ => 0, g⟩ (fun r => (∀ c : Dev Cert.InZDwRefIdeal.nD,
      r.2.mem ((c.tc : Thread Cert.InZDwRefIdeal.nD Cert.InZDwRefIdeal.τ).loc Cert.InZDwRefIdeal.main_arg0) = m ((c.tc : Thread Cert.InZDwRefIdeal.nD Cert.InZDwRefIdeal.τ).loc Cert.InZDwRefIdeal.main_arg0)
      ∧ r.2.mem ((c.tc : Thread Cert.InZDwRefIdeal.nD Cert.InZDwRefIdeal.τ).loc Cert.InZDwRefIdeal.main_arg1) = m ((c.tc : Thread Cert.InZDwRefIdeal.nD Cert.InZDwRefIdeal.τ).loc Cert.InZDwRefIdeal.main_arg1)
      ∧ r.2.mem ((c.tc : Thread Cert.InZDwRefIdeal.nD Cert.InZDwRefIdeal.τ).loc Cert.InZDwRefIdeal.main_arg2) = m ((c.tc : Thread Cert.InZDwRefIdeal.nD Cert.InZDwRefIdeal.τ).loc Cert.InZDwRefIdeal.main_arg2))
      ∧ r.2.sem = fun _ => 0)

def quiescent_InZDh [hInZDh : Cert.InZDh.Facts] : Prop :=
  ∀ (m : (ℓ : Loc Cert.InZDh.nD Cert.InZDh.τ Cert.InZDh.sig) → Buf (Elt Bits) ℓ) (g : Dev Cert.InZDh.nD → PrngReg), Pre_InZDh m →
    θ_run (Cert.InZDh.defs (F := Bits)) (onTc (τ := Cert.InZDh.τ) (Cert.InZDh.main (F := Bits))) ⟨m, fun _ => 0, g⟩ (fun r => (∀ c : Dev Cert.InZDh.nD,
      r.2.mem ((c.tc : Thread Cert.InZDh.nD Cert.InZDh.τ).loc Cert.InZDh.main_arg0) = m ((c.tc : Thread Cert.InZDh.nD Cert.InZDh.τ).loc Cert.InZDh.main_arg0)
      ∧ r.2.mem ((c.tc : Thread Cert.InZDh.nD Cert.InZDh.τ).loc Cert.InZDh.main_arg1) = m ((c.tc : Thread Cert.InZDh.nD Cert.InZDh.τ).loc Cert.InZDh.main_arg1)
      ∧ r.2.mem ((c.tc : Thread Cert.InZDh.nD Cert.InZDh.τ).loc Cert.InZDh.main_arg2) = m ((c.tc : Thread Cert.InZDh.nD Cert.InZDh.τ).loc Cert.InZDh.main_arg2))
      ∧ r.2.sem = fun _ => 0)

def quiescent_InZDhIdeal [hInZDhIdeal : Cert.InZDhIdeal.Facts] : Prop :=
  ∀ (m : (ℓ : Loc Cert.InZDhIdeal.nD Cert.InZDhIdeal.τ Cert.InZDhIdeal.sig) → Buf (Elt Ideal) ℓ) (g : Dev Cert.InZDhIdeal.nD → PrngReg), Pre_InZDhIdeal m →
    θ_run (Cert.InZDhIdeal.defs (F := Ideal)) (onTc (τ := Cert.InZDhIdeal.τ) (Cert.InZDhIdeal.main (F := Ideal))) ⟨m, fun _ => 0, g⟩ (fun r => (∀ c : Dev Cert.InZDhIdeal.nD,
      r.2.mem ((c.tc : Thread Cert.InZDhIdeal.nD Cert.InZDhIdeal.τ).loc Cert.InZDhIdeal.main_arg0) = m ((c.tc : Thread Cert.InZDhIdeal.nD Cert.InZDhIdeal.τ).loc Cert.InZDhIdeal.main_arg0)
      ∧ r.2.mem ((c.tc : Thread Cert.InZDhIdeal.nD Cert.InZDhIdeal.τ).loc Cert.InZDhIdeal.main_arg1) = m ((c.tc : Thread Cert.InZDhIdeal.nD Cert.InZDhIdeal.τ).loc Cert.InZDhIdeal.main_arg1)
      ∧ r.2.mem ((c.tc : Thread Cert.InZDhIdeal.nD Cert.InZDhIdeal.τ).loc Cert.InZDhIdeal.main_arg2) = m ((c.tc : Thread Cert.InZDhIdeal.nD Cert.InZDhIdeal.τ).loc Cert.InZDhIdeal.main_arg2))
      ∧ r.2.sem = fun _ => 0)

def quiescent_InZDhRefIdeal [hInZDhRefIdeal : Cert.InZDhRefIdeal.Facts] : Prop :=
  ∀ (m : (ℓ : Loc Cert.InZDhRefIdeal.nD Cert.InZDhRefIdeal.τ Cert.InZDhRefIdeal.sig) → Buf (Elt Ideal) ℓ) (g : Dev Cert.InZDhRefIdeal.nD → PrngReg), Pre_InZDhRefIdeal m →
    θ_run (Cert.InZDhRefIdeal.defs (F := Ideal)) (onTc (τ := Cert.InZDhRefIdeal.τ) (Cert.InZDhRefIdeal.main (F := Ideal))) ⟨m, fun _ => 0, g⟩ (fun r => (∀ c : Dev Cert.InZDhRefIdeal.nD,
      r.2.mem ((c.tc : Thread Cert.InZDhRefIdeal.nD Cert.InZDhRefIdeal.τ).loc Cert.InZDhRefIdeal.main_arg0) = m ((c.tc : Thread Cert.InZDhRefIdeal.nD Cert.InZDhRefIdeal.τ).loc Cert.InZDhRefIdeal.main_arg0)
      ∧ r.2.mem ((c.tc : Thread Cert.InZDhRefIdeal.nD Cert.InZDhRefIdeal.τ).loc Cert.InZDhRefIdeal.main_arg1) = m ((c.tc : Thread Cert.InZDhRefIdeal.nD Cert.InZDhRefIdeal.τ).loc Cert.InZDhRefIdeal.main_arg1)
      ∧ r.2.mem ((c.tc : Thread Cert.InZDhRefIdeal.nD Cert.InZDhRefIdeal.τ).loc Cert.InZDhRefIdeal.main_arg2) = m ((c.tc : Thread Cert.InZDhRefIdeal.nD Cert.InZDhRefIdeal.τ).loc Cert.InZDhRefIdeal.main_arg2))
      ∧ r.2.sem = fun _ => 0)

def quiescent_InXbc [hInXbc : Cert.InXbc.Facts] : Prop :=
  ∀ (m : (ℓ : Loc Cert.InXbc.nD Cert.InXbc.τ Cert.InXbc.sig) → Buf (Elt Bits) ℓ) (g : Dev Cert.InXbc.nD → PrngReg), Pre_InXbc m →
    θ_run (Cert.InXbc.defs (F := Bits)) (onTc (τ := Cert.InXbc.τ) (Cert.InXbc.main (F := Bits))) ⟨m, fun _ => 0, g⟩ (fun r => (∀ c : Dev Cert.InXbc.nD,
      r.2.mem ((c.tc : Thread Cert.InXbc.nD Cert.InXbc.τ).loc Cert.InXbc.main_arg0) = m ((c.tc : Thread Cert.InXbc.nD Cert.InXbc.τ).loc Cert.InXbc.main_arg0)
      ∧ r.2.mem ((c.tc : Thread Cert.InXbc.nD Cert.InXbc.τ).loc Cert.InXbc.main_arg1) = m ((c.tc : Thread Cert.InXbc.nD Cert.InXbc.τ).loc Cert.InXbc.main_arg1))
      ∧ r.2.sem = fun _ => 0)

def quiescent_InXbcIdeal [hInXbcIdeal : Cert.InXbcIdeal.Facts] : Prop :=
  ∀ (m : (ℓ : Loc Cert.InXbcIdeal.nD Cert.InXbcIdeal.τ Cert.InXbcIdeal.sig) → Buf (Elt Ideal) ℓ) (g : Dev Cert.InXbcIdeal.nD → PrngReg), Pre_InXbcIdeal m →
    θ_run (Cert.InXbcIdeal.defs (F := Ideal)) (onTc (τ := Cert.InXbcIdeal.τ) (Cert.InXbcIdeal.main (F := Ideal))) ⟨m, fun _ => 0, g⟩ (fun r => (∀ c : Dev Cert.InXbcIdeal.nD,
      r.2.mem ((c.tc : Thread Cert.InXbcIdeal.nD Cert.InXbcIdeal.τ).loc Cert.InXbcIdeal.main_arg0) = m ((c.tc : Thread Cert.InXbcIdeal.nD Cert.InXbcIdeal.τ).loc Cert.InXbcIdeal.main_arg0)
      ∧ r.2.mem ((c.tc : Thread Cert.InXbcIdeal.nD Cert.InXbcIdeal.τ).loc Cert.InXbcIdeal.main_arg1) = m ((c.tc : Thread Cert.InXbcIdeal.nD Cert.InXbcIdeal.τ).loc Cert.InXbcIdeal.main_arg1))
      ∧ r.2.sem = fun _ => 0)

def quiescent_InXbcRefIdeal [hInXbcRefIdeal : Cert.InXbcRefIdeal.Facts] : Prop :=
  ∀ (m : (ℓ : Loc Cert.InXbcRefIdeal.nD Cert.InXbcRefIdeal.τ Cert.InXbcRefIdeal.sig) → Buf (Elt Ideal) ℓ) (g : Dev Cert.InXbcRefIdeal.nD → PrngReg), Pre_InXbcRefIdeal m →
    θ_run (Cert.InXbcRefIdeal.defs (F := Ideal)) (onTc (τ := Cert.InXbcRefIdeal.τ) (Cert.InXbcRefIdeal.main (F := Ideal))) ⟨m, fun _ => 0, g⟩ (fun r => (∀ c : Dev Cert.InXbcRefIdeal.nD,
      r.2.mem ((c.tc : Thread Cert.InXbcRefIdeal.nD Cert.InXbcRefIdeal.τ).loc Cert.InXbcRefIdeal.main_arg0) = m ((c.tc : Thread Cert.InXbcRefIdeal.nD Cert.InXbcRefIdeal.τ).loc Cert.InXbcRefIdeal.main_arg0)
      ∧ r.2.mem ((c.tc : Thread Cert.InXbcRefIdeal.nD Cert.InXbcRefIdeal.τ).loc Cert.InXbcRefIdeal.main_arg1) = m ((c.tc : Thread Cert.InXbcRefIdeal.nD Cert.InXbcRefIdeal.τ).loc Cert.InXbcRefIdeal.main_arg1))
      ∧ r.2.sem = fun _ => 0)

def quiescent_InXbcDw [hInXbcDw : Cert.InXbcDw.Facts] : Prop :=
  ∀ (m : (ℓ : Loc Cert.InXbcDw.nD Cert.InXbcDw.τ Cert.InXbcDw.sig) → Buf (Elt Bits) ℓ) (g : Dev Cert.InXbcDw.nD → PrngReg), Pre_InXbcDw m →
    θ_run (Cert.InXbcDw.defs (F := Bits)) (onTc (τ := Cert.InXbcDw.τ) (Cert.InXbcDw.main (F := Bits))) ⟨m, fun _ => 0, g⟩ (fun r => (∀ c : Dev Cert.InXbcDw.nD,
      r.2.mem ((c.tc : Thread Cert.InXbcDw.nD Cert.InXbcDw.τ).loc Cert.InXbcDw.main_arg0) = m ((c.tc : Thread Cert.InXbcDw.nD Cert.InXbcDw.τ).loc Cert.InXbcDw.main_arg0)
      ∧ r.2.mem ((c.tc : Thread Cert.InXbcDw.nD Cert.InXbcDw.τ).loc Cert.InXbcDw.main_arg1) = m ((c.tc : Thread Cert.InXbcDw.nD Cert.InXbcDw.τ).loc Cert.InXbcDw.main_arg1)
      ∧ r.2.mem ((c.tc : Thread Cert.InXbcDw.nD Cert.InXbcDw.τ).loc Cert.InXbcDw.main_arg2) = m ((c.tc : Thread Cert.InXbcDw.nD Cert.InXbcDw.τ).loc Cert.InXbcDw.main_arg2))
      ∧ r.2.sem = fun _ => 0)

def quiescent_InXbcDwIdeal [hInXbcDwIdeal : Cert.InXbcDwIdeal.Facts] : Prop :=
  ∀ (m : (ℓ : Loc Cert.InXbcDwIdeal.nD Cert.InXbcDwIdeal.τ Cert.InXbcDwIdeal.sig) → Buf (Elt Ideal) ℓ) (g : Dev Cert.InXbcDwIdeal.nD → PrngReg), Pre_InXbcDwIdeal m →
    θ_run (Cert.InXbcDwIdeal.defs (F := Ideal)) (onTc (τ := Cert.InXbcDwIdeal.τ) (Cert.InXbcDwIdeal.main (F := Ideal))) ⟨m, fun _ => 0, g⟩ (fun r => (∀ c : Dev Cert.InXbcDwIdeal.nD,
      r.2.mem ((c.tc : Thread Cert.InXbcDwIdeal.nD Cert.InXbcDwIdeal.τ).loc Cert.InXbcDwIdeal.main_arg0) = m ((c.tc : Thread Cert.InXbcDwIdeal.nD Cert.InXbcDwIdeal.τ).loc Cert.InXbcDwIdeal.main_arg0)
      ∧ r.2.mem ((c.tc : Thread Cert.InXbcDwIdeal.nD Cert.InXbcDwIdeal.τ).loc Cert.InXbcDwIdeal.main_arg1) = m ((c.tc : Thread Cert.InXbcDwIdeal.nD Cert.InXbcDwIdeal.τ).loc Cert.InXbcDwIdeal.main_arg1)
      ∧ r.2.mem ((c.tc : Thread Cert.InXbcDwIdeal.nD Cert.InXbcDwIdeal.τ).loc Cert.InXbcDwIdeal.main_arg2) = m ((c.tc : Thread Cert.InXbcDwIdeal.nD Cert.InXbcDwIdeal.τ).loc Cert.InXbcDwIdeal.main_arg2))
      ∧ r.2.sem = fun _ => 0)

def quiescent_InXbcDwRefIdeal [hInXbcDwRefIdeal : Cert.InXbcDwRefIdeal.Facts] : Prop :=
  ∀ (m : (ℓ : Loc Cert.InXbcDwRefIdeal.nD Cert.InXbcDwRefIdeal.τ Cert.InXbcDwRefIdeal.sig) → Buf (Elt Ideal) ℓ) (g : Dev Cert.InXbcDwRefIdeal.nD → PrngReg), Pre_InXbcDwRefIdeal m →
    θ_run (Cert.InXbcDwRefIdeal.defs (F := Ideal)) (onTc (τ := Cert.InXbcDwRefIdeal.τ) (Cert.InXbcDwRefIdeal.main (F := Ideal))) ⟨m, fun _ => 0, g⟩ (fun r => (∀ c : Dev Cert.InXbcDwRefIdeal.nD,
      r.2.mem ((c.tc : Thread Cert.InXbcDwRefIdeal.nD Cert.InXbcDwRefIdeal.τ).loc Cert.InXbcDwRefIdeal.main_arg0) = m ((c.tc : Thread Cert.InXbcDwRefIdeal.nD Cert.InXbcDwRefIdeal.τ).loc Cert.InXbcDwRefIdeal.main_arg0)
      ∧ r.2.mem ((c.tc : Thread Cert.InXbcDwRefIdeal.nD Cert.InXbcDwRefIdeal.τ).loc Cert.InXbcDwRefIdeal.main_arg1) = m ((c.tc : Thread Cert.InXbcDwRefIdeal.nD Cert.InXbcDwRefIdeal.τ).loc Cert.InXbcDwRefIdeal.main_arg1)
      ∧ r.2.mem ((c.tc : Thread Cert.InXbcDwRefIdeal.nD Cert.InXbcDwRefIdeal.τ).loc Cert.InXbcDwRefIdeal.main_arg2) = m ((c.tc : Thread Cert.InXbcDwRefIdeal.nD Cert.InXbcDwRefIdeal.τ).loc Cert.InXbcDwRefIdeal.main_arg2))
      ∧ r.2.sem = fun _ => 0)

def quiescent_InXbcDh [hInXbcDh : Cert.InXbcDh.Facts] : Prop :=
  ∀ (m : (ℓ : Loc Cert.InXbcDh.nD Cert.InXbcDh.τ Cert.InXbcDh.sig) → Buf (Elt Bits) ℓ) (g : Dev Cert.InXbcDh.nD → PrngReg), Pre_InXbcDh m →
    θ_run (Cert.InXbcDh.defs (F := Bits)) (onTc (τ := Cert.InXbcDh.τ) (Cert.InXbcDh.main (F := Bits))) ⟨m, fun _ => 0, g⟩ (fun r => (∀ c : Dev Cert.InXbcDh.nD,
      r.2.mem ((c.tc : Thread Cert.InXbcDh.nD Cert.InXbcDh.τ).loc Cert.InXbcDh.main_arg0) = m ((c.tc : Thread Cert.InXbcDh.nD Cert.InXbcDh.τ).loc Cert.InXbcDh.main_arg0)
      ∧ r.2.mem ((c.tc : Thread Cert.InXbcDh.nD Cert.InXbcDh.τ).loc Cert.InXbcDh.main_arg1) = m ((c.tc : Thread Cert.InXbcDh.nD Cert.InXbcDh.τ).loc Cert.InXbcDh.main_arg1)
      ∧ r.2.mem ((c.tc : Thread Cert.InXbcDh.nD Cert.InXbcDh.τ).loc Cert.InXbcDh.main_arg2) = m ((c.tc : Thread Cert.InXbcDh.nD Cert.InXbcDh.τ).loc Cert.InXbcDh.main_arg2)
      ∧ r.2.mem ((c.tc : Thread Cert.InXbcDh.nD Cert.InXbcDh.τ).loc Cert.InXbcDh.main_arg3) = m ((c.tc : Thread Cert.InXbcDh.nD Cert.InXbcDh.τ).loc Cert.InXbcDh.main_arg3))
      ∧ r.2.sem = fun _ => 0)

def quiescent_InXbcDhIdeal [hInXbcDhIdeal : Cert.InXbcDhIdeal.Facts] : Prop :=
  ∀ (m : (ℓ : Loc Cert.InXbcDhIdeal.nD Cert.InXbcDhIdeal.τ Cert.InXbcDhIdeal.sig) → Buf (Elt Ideal) ℓ) (g : Dev Cert.InXbcDhIdeal.nD → PrngReg), Pre_InXbcDhIdeal m →
    θ_run (Cert.InXbcDhIdeal.defs (F := Ideal)) (onTc (τ := Cert.InXbcDhIdeal.τ) (Cert.InXbcDhIdeal.main (F := Ideal))) ⟨m, fun _ => 0, g⟩ (fun r => (∀ c : Dev Cert.InXbcDhIdeal.nD,
      r.2.mem ((c.tc : Thread Cert.InXbcDhIdeal.nD Cert.InXbcDhIdeal.τ).loc Cert.InXbcDhIdeal.main_arg0) = m ((c.tc : Thread Cert.InXbcDhIdeal.nD Cert.InXbcDhIdeal.τ).loc Cert.InXbcDhIdeal.main_arg0)
      ∧ r.2.mem ((c.tc : Thread Cert.InXbcDhIdeal.nD Cert.InXbcDhIdeal.τ).loc Cert.InXbcDhIdeal.main_arg1) = m ((c.tc : Thread Cert.InXbcDhIdeal.nD Cert.InXbcDhIdeal.τ).loc Cert.InXbcDhIdeal.main_arg1)
      ∧ r.2.mem ((c.tc : Thread Cert.InXbcDhIdeal.nD Cert.InXbcDhIdeal.τ).loc Cert.InXbcDhIdeal.main_arg2) = m ((c.tc : Thread Cert.InXbcDhIdeal.nD Cert.InXbcDhIdeal.τ).loc Cert.InXbcDhIdeal.main_arg2)
      ∧ r.2.mem ((c.tc : Thread Cert.InXbcDhIdeal.nD Cert.InXbcDhIdeal.τ).loc Cert.InXbcDhIdeal.main_arg3) = m ((c.tc : Thread Cert.InXbcDhIdeal.nD Cert.InXbcDhIdeal.τ).loc Cert.InXbcDhIdeal.main_arg3))
      ∧ r.2.sem = fun _ => 0)

def quiescent_InXbcDhRefIdeal [hInXbcDhRefIdeal : Cert.InXbcDhRefIdeal.Facts] : Prop :=
  ∀ (m : (ℓ : Loc Cert.InXbcDhRefIdeal.nD Cert.InXbcDhRefIdeal.τ Cert.InXbcDhRefIdeal.sig) → Buf (Elt Ideal) ℓ) (g : Dev Cert.InXbcDhRefIdeal.nD → PrngReg), Pre_InXbcDhRefIdeal m →
    θ_run (Cert.InXbcDhRefIdeal.defs (F := Ideal)) (onTc (τ := Cert.InXbcDhRefIdeal.τ) (Cert.InXbcDhRefIdeal.main (F := Ideal))) ⟨m, fun _ => 0, g⟩ (fun r => (∀ c : Dev Cert.InXbcDhRefIdeal.nD,
      r.2.mem ((c.tc : Thread Cert.InXbcDhRefIdeal.nD Cert.InXbcDhRefIdeal.τ).loc Cert.InXbcDhRefIdeal.main_arg0) = m ((c.tc : Thread Cert.InXbcDhRefIdeal.nD Cert.InXbcDhRefIdeal.τ).loc Cert.InXbcDhRefIdeal.main_arg0)
      ∧ r.2.mem ((c.tc : Thread Cert.InXbcDhRefIdeal.nD Cert.InXbcDhRefIdeal.τ).loc Cert.InXbcDhRefIdeal.main_arg1) = m ((c.tc : Thread Cert.InXbcDhRefIdeal.nD Cert.InXbcDhRefIdeal.τ).loc Cert.InXbcDhRefIdeal.main_arg1)
      ∧ r.2.mem ((c.tc : Thread Cert.InXbcDhRefIdeal.nD Cert.InXbcDhRefIdeal.τ).loc Cert.InXbcDhRefIdeal.main_arg2) = m ((c.tc : Thread Cert.InXbcDhRefIdeal.nD Cert.InXbcDhRefIdeal.τ).loc Cert.InXbcDhRefIdeal.main_arg2)
      ∧ r.2.mem ((c.tc : Thread Cert.InXbcDhRefIdeal.nD Cert.InXbcDhRefIdeal.τ).loc Cert.InXbcDhRefIdeal.main_arg3) = m ((c.tc : Thread Cert.InXbcDhRefIdeal.nD Cert.InXbcDhRefIdeal.τ).loc Cert.InXbcDhRefIdeal.main_arg3))
      ∧ r.2.sem = fun _ => 0)

def quiescent_InRkv [hInRkv : Cert.InRkv.Facts] : Prop :=
  ∀ (m : (ℓ : Loc Cert.InRkv.nD Cert.InRkv.τ Cert.InRkv.sig) → Buf (Elt Bits) ℓ) (g : Dev Cert.InRkv.nD → PrngReg), Pre_InRkv m →
    θ_run (Cert.InRkv.defs (F := Bits)) (onTc (τ := Cert.InRkv.τ) (Cert.InRkv.main (F := Bits))) ⟨m, fun _ => 0, g⟩ (fun r => (∀ c : Dev Cert.InRkv.nD,
      r.2.mem ((c.tc : Thread Cert.InRkv.nD Cert.InRkv.τ).loc Cert.InRkv.main_arg0) = m ((c.tc : Thread Cert.InRkv.nD Cert.InRkv.τ).loc Cert.InRkv.main_arg0)
      ∧ r.2.mem ((c.tc : Thread Cert.InRkv.nD Cert.InRkv.τ).loc Cert.InRkv.main_arg1) = m ((c.tc : Thread Cert.InRkv.nD Cert.InRkv.τ).loc Cert.InRkv.main_arg1))
      ∧ r.2.sem = fun _ => 0)

def quiescent_InRkvIdeal [hInRkvIdeal : Cert.InRkvIdeal.Facts] : Prop :=
  ∀ (m : (ℓ : Loc Cert.InRkvIdeal.nD Cert.InRkvIdeal.τ Cert.InRkvIdeal.sig) → Buf (Elt Ideal) ℓ) (g : Dev Cert.InRkvIdeal.nD → PrngReg), Pre_InRkvIdeal m →
    θ_run (Cert.InRkvIdeal.defs (F := Ideal)) (onTc (τ := Cert.InRkvIdeal.τ) (Cert.InRkvIdeal.main (F := Ideal))) ⟨m, fun _ => 0, g⟩ (fun r => (∀ c : Dev Cert.InRkvIdeal.nD,
      r.2.mem ((c.tc : Thread Cert.InRkvIdeal.nD Cert.InRkvIdeal.τ).loc Cert.InRkvIdeal.main_arg0) = m ((c.tc : Thread Cert.InRkvIdeal.nD Cert.InRkvIdeal.τ).loc Cert.InRkvIdeal.main_arg0)
      ∧ r.2.mem ((c.tc : Thread Cert.InRkvIdeal.nD Cert.InRkvIdeal.τ).loc Cert.InRkvIdeal.main_arg1) = m ((c.tc : Thread Cert.InRkvIdeal.nD Cert.InRkvIdeal.τ).loc Cert.InRkvIdeal.main_arg1))
      ∧ r.2.sem = fun _ => 0)

def quiescent_InRkvRefIdeal [hInRkvRefIdeal : Cert.InRkvRefIdeal.Facts] : Prop :=
  ∀ (m : (ℓ : Loc Cert.InRkvRefIdeal.nD Cert.InRkvRefIdeal.τ Cert.InRkvRefIdeal.sig) → Buf (Elt Ideal) ℓ) (g : Dev Cert.InRkvRefIdeal.nD → PrngReg), Pre_InRkvRefIdeal m →
    θ_run (Cert.InRkvRefIdeal.defs (F := Ideal)) (onTc (τ := Cert.InRkvRefIdeal.τ) (Cert.InRkvRefIdeal.main (F := Ideal))) ⟨m, fun _ => 0, g⟩ (fun r => (∀ c : Dev Cert.InRkvRefIdeal.nD,
      r.2.mem ((c.tc : Thread Cert.InRkvRefIdeal.nD Cert.InRkvRefIdeal.τ).loc Cert.InRkvRefIdeal.main_arg0) = m ((c.tc : Thread Cert.InRkvRefIdeal.nD Cert.InRkvRefIdeal.τ).loc Cert.InRkvRefIdeal.main_arg0)
      ∧ r.2.mem ((c.tc : Thread Cert.InRkvRefIdeal.nD Cert.InRkvRefIdeal.τ).loc Cert.InRkvRefIdeal.main_arg1) = m ((c.tc : Thread Cert.InRkvRefIdeal.nD Cert.InRkvRefIdeal.τ).loc Cert.InRkvRefIdeal.main_arg1))
      ∧ r.2.sem = fun _ => 0)

def quiescent_InRkvDw [hInRkvDw : Cert.InRkvDw.Facts] : Prop :=
  ∀ (m : (ℓ : Loc Cert.InRkvDw.nD Cert.InRkvDw.τ Cert.InRkvDw.sig) → Buf (Elt Bits) ℓ) (g : Dev Cert.InRkvDw.nD → PrngReg), Pre_InRkvDw m →
    θ_run (Cert.InRkvDw.defs (F := Bits)) (onTc (τ := Cert.InRkvDw.τ) (Cert.InRkvDw.main (F := Bits))) ⟨m, fun _ => 0, g⟩ (fun r => (∀ c : Dev Cert.InRkvDw.nD,
      r.2.mem ((c.tc : Thread Cert.InRkvDw.nD Cert.InRkvDw.τ).loc Cert.InRkvDw.main_arg0) = m ((c.tc : Thread Cert.InRkvDw.nD Cert.InRkvDw.τ).loc Cert.InRkvDw.main_arg0)
      ∧ r.2.mem ((c.tc : Thread Cert.InRkvDw.nD Cert.InRkvDw.τ).loc Cert.InRkvDw.main_arg1) = m ((c.tc : Thread Cert.InRkvDw.nD Cert.InRkvDw.τ).loc Cert.InRkvDw.main_arg1)
      ∧ r.2.mem ((c.tc : Thread Cert.InRkvDw.nD Cert.InRkvDw.τ).loc Cert.InRkvDw.main_arg2) = m ((c.tc : Thread Cert.InRkvDw.nD Cert.InRkvDw.τ).loc Cert.InRkvDw.main_arg2))
      ∧ r.2.sem = fun _ => 0)

def quiescent_InRkvDwIdeal [hInRkvDwIdeal : Cert.InRkvDwIdeal.Facts] : Prop :=
  ∀ (m : (ℓ : Loc Cert.InRkvDwIdeal.nD Cert.InRkvDwIdeal.τ Cert.InRkvDwIdeal.sig) → Buf (Elt Ideal) ℓ) (g : Dev Cert.InRkvDwIdeal.nD → PrngReg), Pre_InRkvDwIdeal m →
    θ_run (Cert.InRkvDwIdeal.defs (F := Ideal)) (onTc (τ := Cert.InRkvDwIdeal.τ) (Cert.InRkvDwIdeal.main (F := Ideal))) ⟨m, fun _ => 0, g⟩ (fun r => (∀ c : Dev Cert.InRkvDwIdeal.nD,
      r.2.mem ((c.tc : Thread Cert.InRkvDwIdeal.nD Cert.InRkvDwIdeal.τ).loc Cert.InRkvDwIdeal.main_arg0) = m ((c.tc : Thread Cert.InRkvDwIdeal.nD Cert.InRkvDwIdeal.τ).loc Cert.InRkvDwIdeal.main_arg0)
      ∧ r.2.mem ((c.tc : Thread Cert.InRkvDwIdeal.nD Cert.InRkvDwIdeal.τ).loc Cert.InRkvDwIdeal.main_arg1) = m ((c.tc : Thread Cert.InRkvDwIdeal.nD Cert.InRkvDwIdeal.τ).loc Cert.InRkvDwIdeal.main_arg1)
      ∧ r.2.mem ((c.tc : Thread Cert.InRkvDwIdeal.nD Cert.InRkvDwIdeal.τ).loc Cert.InRkvDwIdeal.main_arg2) = m ((c.tc : Thread Cert.InRkvDwIdeal.nD Cert.InRkvDwIdeal.τ).loc Cert.InRkvDwIdeal.main_arg2))
      ∧ r.2.sem = fun _ => 0)

def quiescent_InRkvDwRefIdeal [hInRkvDwRefIdeal : Cert.InRkvDwRefIdeal.Facts] : Prop :=
  ∀ (m : (ℓ : Loc Cert.InRkvDwRefIdeal.nD Cert.InRkvDwRefIdeal.τ Cert.InRkvDwRefIdeal.sig) → Buf (Elt Ideal) ℓ) (g : Dev Cert.InRkvDwRefIdeal.nD → PrngReg), Pre_InRkvDwRefIdeal m →
    θ_run (Cert.InRkvDwRefIdeal.defs (F := Ideal)) (onTc (τ := Cert.InRkvDwRefIdeal.τ) (Cert.InRkvDwRefIdeal.main (F := Ideal))) ⟨m, fun _ => 0, g⟩ (fun r => (∀ c : Dev Cert.InRkvDwRefIdeal.nD,
      r.2.mem ((c.tc : Thread Cert.InRkvDwRefIdeal.nD Cert.InRkvDwRefIdeal.τ).loc Cert.InRkvDwRefIdeal.main_arg0) = m ((c.tc : Thread Cert.InRkvDwRefIdeal.nD Cert.InRkvDwRefIdeal.τ).loc Cert.InRkvDwRefIdeal.main_arg0)
      ∧ r.2.mem ((c.tc : Thread Cert.InRkvDwRefIdeal.nD Cert.InRkvDwRefIdeal.τ).loc Cert.InRkvDwRefIdeal.main_arg1) = m ((c.tc : Thread Cert.InRkvDwRefIdeal.nD Cert.InRkvDwRefIdeal.τ).loc Cert.InRkvDwRefIdeal.main_arg1)
      ∧ r.2.mem ((c.tc : Thread Cert.InRkvDwRefIdeal.nD Cert.InRkvDwRefIdeal.τ).loc Cert.InRkvDwRefIdeal.main_arg2) = m ((c.tc : Thread Cert.InRkvDwRefIdeal.nD Cert.InRkvDwRefIdeal.τ).loc Cert.InRkvDwRefIdeal.main_arg2))
      ∧ r.2.sem = fun _ => 0)

def quiescent_InRkvDh [hInRkvDh : Cert.InRkvDh.Facts] : Prop :=
  ∀ (m : (ℓ : Loc Cert.InRkvDh.nD Cert.InRkvDh.τ Cert.InRkvDh.sig) → Buf (Elt Bits) ℓ) (g : Dev Cert.InRkvDh.nD → PrngReg), Pre_InRkvDh m →
    θ_run (Cert.InRkvDh.defs (F := Bits)) (onTc (τ := Cert.InRkvDh.τ) (Cert.InRkvDh.main (F := Bits))) ⟨m, fun _ => 0, g⟩ (fun r => (∀ c : Dev Cert.InRkvDh.nD,
      r.2.mem ((c.tc : Thread Cert.InRkvDh.nD Cert.InRkvDh.τ).loc Cert.InRkvDh.main_arg0) = m ((c.tc : Thread Cert.InRkvDh.nD Cert.InRkvDh.τ).loc Cert.InRkvDh.main_arg0)
      ∧ r.2.mem ((c.tc : Thread Cert.InRkvDh.nD Cert.InRkvDh.τ).loc Cert.InRkvDh.main_arg1) = m ((c.tc : Thread Cert.InRkvDh.nD Cert.InRkvDh.τ).loc Cert.InRkvDh.main_arg1)
      ∧ r.2.mem ((c.tc : Thread Cert.InRkvDh.nD Cert.InRkvDh.τ).loc Cert.InRkvDh.main_arg2) = m ((c.tc : Thread Cert.InRkvDh.nD Cert.InRkvDh.τ).loc Cert.InRkvDh.main_arg2)
      ∧ r.2.mem ((c.tc : Thread Cert.InRkvDh.nD Cert.InRkvDh.τ).loc Cert.InRkvDh.main_arg3) = m ((c.tc : Thread Cert.InRkvDh.nD Cert.InRkvDh.τ).loc Cert.InRkvDh.main_arg3))
      ∧ r.2.sem = fun _ => 0)

def quiescent_InRkvDhIdeal [hInRkvDhIdeal : Cert.InRkvDhIdeal.Facts] : Prop :=
  ∀ (m : (ℓ : Loc Cert.InRkvDhIdeal.nD Cert.InRkvDhIdeal.τ Cert.InRkvDhIdeal.sig) → Buf (Elt Ideal) ℓ) (g : Dev Cert.InRkvDhIdeal.nD → PrngReg), Pre_InRkvDhIdeal m →
    θ_run (Cert.InRkvDhIdeal.defs (F := Ideal)) (onTc (τ := Cert.InRkvDhIdeal.τ) (Cert.InRkvDhIdeal.main (F := Ideal))) ⟨m, fun _ => 0, g⟩ (fun r => (∀ c : Dev Cert.InRkvDhIdeal.nD,
      r.2.mem ((c.tc : Thread Cert.InRkvDhIdeal.nD Cert.InRkvDhIdeal.τ).loc Cert.InRkvDhIdeal.main_arg0) = m ((c.tc : Thread Cert.InRkvDhIdeal.nD Cert.InRkvDhIdeal.τ).loc Cert.InRkvDhIdeal.main_arg0)
      ∧ r.2.mem ((c.tc : Thread Cert.InRkvDhIdeal.nD Cert.InRkvDhIdeal.τ).loc Cert.InRkvDhIdeal.main_arg1) = m ((c.tc : Thread Cert.InRkvDhIdeal.nD Cert.InRkvDhIdeal.τ).loc Cert.InRkvDhIdeal.main_arg1)
      ∧ r.2.mem ((c.tc : Thread Cert.InRkvDhIdeal.nD Cert.InRkvDhIdeal.τ).loc Cert.InRkvDhIdeal.main_arg2) = m ((c.tc : Thread Cert.InRkvDhIdeal.nD Cert.InRkvDhIdeal.τ).loc Cert.InRkvDhIdeal.main_arg2)
      ∧ r.2.mem ((c.tc : Thread Cert.InRkvDhIdeal.nD Cert.InRkvDhIdeal.τ).loc Cert.InRkvDhIdeal.main_arg3) = m ((c.tc : Thread Cert.InRkvDhIdeal.nD Cert.InRkvDhIdeal.τ).loc Cert.InRkvDhIdeal.main_arg3))
      ∧ r.2.sem = fun _ => 0)

def quiescent_InRkvDhRefIdeal [hInRkvDhRefIdeal : Cert.InRkvDhRefIdeal.Facts] : Prop :=
  ∀ (m : (ℓ : Loc Cert.InRkvDhRefIdeal.nD Cert.InRkvDhRefIdeal.τ Cert.InRkvDhRefIdeal.sig) → Buf (Elt Ideal) ℓ) (g : Dev Cert.InRkvDhRefIdeal.nD → PrngReg), Pre_InRkvDhRefIdeal m →
    θ_run (Cert.InRkvDhRefIdeal.defs (F := Ideal)) (onTc (τ := Cert.InRkvDhRefIdeal.τ) (Cert.InRkvDhRefIdeal.main (F := Ideal))) ⟨m, fun _ => 0, g⟩ (fun r => (∀ c : Dev Cert.InRkvDhRefIdeal.nD,
      r.2.mem ((c.tc : Thread Cert.InRkvDhRefIdeal.nD Cert.InRkvDhRefIdeal.τ).loc Cert.InRkvDhRefIdeal.main_arg0) = m ((c.tc : Thread Cert.InRkvDhRefIdeal.nD Cert.InRkvDhRefIdeal.τ).loc Cert.InRkvDhRefIdeal.main_arg0)
      ∧ r.2.mem ((c.tc : Thread Cert.InRkvDhRefIdeal.nD Cert.InRkvDhRefIdeal.τ).loc Cert.InRkvDhRefIdeal.main_arg1) = m ((c.tc : Thread Cert.InRkvDhRefIdeal.nD Cert.InRkvDhRefIdeal.τ).loc Cert.InRkvDhRefIdeal.main_arg1)
      ∧ r.2.mem ((c.tc : Thread Cert.InRkvDhRefIdeal.nD Cert.InRkvDhRefIdeal.τ).loc Cert.InRkvDhRefIdeal.main_arg2) = m ((c.tc : Thread Cert.InRkvDhRefIdeal.nD Cert.InRkvDhRefIdeal.τ).loc Cert.InRkvDhRefIdeal.main_arg2)
      ∧ r.2.mem ((c.tc : Thread Cert.InRkvDhRefIdeal.nD Cert.InRkvDhRefIdeal.τ).loc Cert.InRkvDhRefIdeal.main_arg3) = m ((c.tc : Thread Cert.InRkvDhRefIdeal.nD Cert.InRkvDhRefIdeal.τ).loc Cert.InRkvDhRefIdeal.main_arg3))
      ∧ r.2.sem = fun _ => 0)

def quiescent_InPs [hInPs : Cert.InPs.Facts] : Prop :=
  ∀ (m : (ℓ : Loc Cert.InPs.nD Cert.InPs.τ Cert.InPs.sig) → Buf (Elt Bits) ℓ) (g : Dev Cert.InPs.nD → PrngReg), Pre_InPs m →
    θ_run (Cert.InPs.defs (F := Bits)) (onTc (τ := Cert.InPs.τ) (Cert.InPs.main (F := Bits))) ⟨m, fun _ => 0, g⟩ (fun r => (∀ c : Dev Cert.InPs.nD,
      r.2.mem ((c.tc : Thread Cert.InPs.nD Cert.InPs.τ).loc Cert.InPs.main_arg0) = m ((c.tc : Thread Cert.InPs.nD Cert.InPs.τ).loc Cert.InPs.main_arg0)
      ∧ r.2.mem ((c.tc : Thread Cert.InPs.nD Cert.InPs.τ).loc Cert.InPs.main_arg1) = m ((c.tc : Thread Cert.InPs.nD Cert.InPs.τ).loc Cert.InPs.main_arg1))
      ∧ r.2.sem = fun _ => 0)

def quiescent_InPsIdeal [hInPsIdeal : Cert.InPsIdeal.Facts] : Prop :=
  ∀ (m : (ℓ : Loc Cert.InPsIdeal.nD Cert.InPsIdeal.τ Cert.InPsIdeal.sig) → Buf (Elt Ideal) ℓ) (g : Dev Cert.InPsIdeal.nD → PrngReg), Pre_InPsIdeal m →
    θ_run (Cert.InPsIdeal.defs (F := Ideal)) (onTc (τ := Cert.InPsIdeal.τ) (Cert.InPsIdeal.main (F := Ideal))) ⟨m, fun _ => 0, g⟩ (fun r => (∀ c : Dev Cert.InPsIdeal.nD,
      r.2.mem ((c.tc : Thread Cert.InPsIdeal.nD Cert.InPsIdeal.τ).loc Cert.InPsIdeal.main_arg0) = m ((c.tc : Thread Cert.InPsIdeal.nD Cert.InPsIdeal.τ).loc Cert.InPsIdeal.main_arg0)
      ∧ r.2.mem ((c.tc : Thread Cert.InPsIdeal.nD Cert.InPsIdeal.τ).loc Cert.InPsIdeal.main_arg1) = m ((c.tc : Thread Cert.InPsIdeal.nD Cert.InPsIdeal.τ).loc Cert.InPsIdeal.main_arg1))
      ∧ r.2.sem = fun _ => 0)

def quiescent_InPsRefIdeal [hInPsRefIdeal : Cert.InPsRefIdeal.Facts] : Prop :=
  ∀ (m : (ℓ : Loc Cert.InPsRefIdeal.nD Cert.InPsRefIdeal.τ Cert.InPsRefIdeal.sig) → Buf (Elt Ideal) ℓ) (g : Dev Cert.InPsRefIdeal.nD → PrngReg), Pre_InPsRefIdeal m →
    θ_run (Cert.InPsRefIdeal.defs (F := Ideal)) (onTc (τ := Cert.InPsRefIdeal.τ) (Cert.InPsRefIdeal.main (F := Ideal))) ⟨m, fun _ => 0, g⟩ (fun r => (∀ c : Dev Cert.InPsRefIdeal.nD,
      r.2.mem ((c.tc : Thread Cert.InPsRefIdeal.nD Cert.InPsRefIdeal.τ).loc Cert.InPsRefIdeal.main_arg0) = m ((c.tc : Thread Cert.InPsRefIdeal.nD Cert.InPsRefIdeal.τ).loc Cert.InPsRefIdeal.main_arg0)
      ∧ r.2.mem ((c.tc : Thread Cert.InPsRefIdeal.nD Cert.InPsRefIdeal.τ).loc Cert.InPsRefIdeal.main_arg1) = m ((c.tc : Thread Cert.InPsRefIdeal.nD Cert.InPsRefIdeal.τ).loc Cert.InPsRefIdeal.main_arg1))
      ∧ r.2.sem = fun _ => 0)

def quiescent_InPsDw [hInPsDw : Cert.InPsDw.Facts] : Prop :=
  ∀ (m : (ℓ : Loc Cert.InPsDw.nD Cert.InPsDw.τ Cert.InPsDw.sig) → Buf (Elt Bits) ℓ) (g : Dev Cert.InPsDw.nD → PrngReg), Pre_InPsDw m →
    θ_run (Cert.InPsDw.defs (F := Bits)) (onTc (τ := Cert.InPsDw.τ) (Cert.InPsDw.main (F := Bits))) ⟨m, fun _ => 0, g⟩ (fun r => (∀ c : Dev Cert.InPsDw.nD,
      r.2.mem ((c.tc : Thread Cert.InPsDw.nD Cert.InPsDw.τ).loc Cert.InPsDw.main_arg0) = m ((c.tc : Thread Cert.InPsDw.nD Cert.InPsDw.τ).loc Cert.InPsDw.main_arg0)
      ∧ r.2.mem ((c.tc : Thread Cert.InPsDw.nD Cert.InPsDw.τ).loc Cert.InPsDw.main_arg1) = m ((c.tc : Thread Cert.InPsDw.nD Cert.InPsDw.τ).loc Cert.InPsDw.main_arg1)
      ∧ r.2.mem ((c.tc : Thread Cert.InPsDw.nD Cert.InPsDw.τ).loc Cert.InPsDw.main_arg2) = m ((c.tc : Thread Cert.InPsDw.nD Cert.InPsDw.τ).loc Cert.InPsDw.main_arg2))
      ∧ r.2.sem = fun _ => 0)

def quiescent_InPsDwIdeal [hInPsDwIdeal : Cert.InPsDwIdeal.Facts] : Prop :=
  ∀ (m : (ℓ : Loc Cert.InPsDwIdeal.nD Cert.InPsDwIdeal.τ Cert.InPsDwIdeal.sig) → Buf (Elt Ideal) ℓ) (g : Dev Cert.InPsDwIdeal.nD → PrngReg), Pre_InPsDwIdeal m →
    θ_run (Cert.InPsDwIdeal.defs (F := Ideal)) (onTc (τ := Cert.InPsDwIdeal.τ) (Cert.InPsDwIdeal.main (F := Ideal))) ⟨m, fun _ => 0, g⟩ (fun r => (∀ c : Dev Cert.InPsDwIdeal.nD,
      r.2.mem ((c.tc : Thread Cert.InPsDwIdeal.nD Cert.InPsDwIdeal.τ).loc Cert.InPsDwIdeal.main_arg0) = m ((c.tc : Thread Cert.InPsDwIdeal.nD Cert.InPsDwIdeal.τ).loc Cert.InPsDwIdeal.main_arg0)
      ∧ r.2.mem ((c.tc : Thread Cert.InPsDwIdeal.nD Cert.InPsDwIdeal.τ).loc Cert.InPsDwIdeal.main_arg1) = m ((c.tc : Thread Cert.InPsDwIdeal.nD Cert.InPsDwIdeal.τ).loc Cert.InPsDwIdeal.main_arg1)
      ∧ r.2.mem ((c.tc : Thread Cert.InPsDwIdeal.nD Cert.InPsDwIdeal.τ).loc Cert.InPsDwIdeal.main_arg2) = m ((c.tc : Thread Cert.InPsDwIdeal.nD Cert.InPsDwIdeal.τ).loc Cert.InPsDwIdeal.main_arg2))
      ∧ r.2.sem = fun _ => 0)

def quiescent_InPsDwRefIdeal [hInPsDwRefIdeal : Cert.InPsDwRefIdeal.Facts] : Prop :=
  ∀ (m : (ℓ : Loc Cert.InPsDwRefIdeal.nD Cert.InPsDwRefIdeal.τ Cert.InPsDwRefIdeal.sig) → Buf (Elt Ideal) ℓ) (g : Dev Cert.InPsDwRefIdeal.nD → PrngReg), Pre_InPsDwRefIdeal m →
    θ_run (Cert.InPsDwRefIdeal.defs (F := Ideal)) (onTc (τ := Cert.InPsDwRefIdeal.τ) (Cert.InPsDwRefIdeal.main (F := Ideal))) ⟨m, fun _ => 0, g⟩ (fun r => (∀ c : Dev Cert.InPsDwRefIdeal.nD,
      r.2.mem ((c.tc : Thread Cert.InPsDwRefIdeal.nD Cert.InPsDwRefIdeal.τ).loc Cert.InPsDwRefIdeal.main_arg0) = m ((c.tc : Thread Cert.InPsDwRefIdeal.nD Cert.InPsDwRefIdeal.τ).loc Cert.InPsDwRefIdeal.main_arg0)
      ∧ r.2.mem ((c.tc : Thread Cert.InPsDwRefIdeal.nD Cert.InPsDwRefIdeal.τ).loc Cert.InPsDwRefIdeal.main_arg1) = m ((c.tc : Thread Cert.InPsDwRefIdeal.nD Cert.InPsDwRefIdeal.τ).loc Cert.InPsDwRefIdeal.main_arg1)
      ∧ r.2.mem ((c.tc : Thread Cert.InPsDwRefIdeal.nD Cert.InPsDwRefIdeal.τ).loc Cert.InPsDwRefIdeal.main_arg2) = m ((c.tc : Thread Cert.InPsDwRefIdeal.nD Cert.InPsDwRefIdeal.τ).loc Cert.InPsDwRefIdeal.main_arg2))
      ∧ r.2.sem = fun _ => 0)

def quiescent_InPsDh [hInPsDh : Cert.InPsDh.Facts] : Prop :=
  ∀ (m : (ℓ : Loc Cert.InPsDh.nD Cert.InPsDh.τ Cert.InPsDh.sig) → Buf (Elt Bits) ℓ) (g : Dev Cert.InPsDh.nD → PrngReg), Pre_InPsDh m →
    θ_run (Cert.InPsDh.defs (F := Bits)) (onTc (τ := Cert.InPsDh.τ) (Cert.InPsDh.main (F := Bits))) ⟨m, fun _ => 0, g⟩ (fun r => (∀ c : Dev Cert.InPsDh.nD,
      r.2.mem ((c.tc : Thread Cert.InPsDh.nD Cert.InPsDh.τ).loc Cert.InPsDh.main_arg0) = m ((c.tc : Thread Cert.InPsDh.nD Cert.InPsDh.τ).loc Cert.InPsDh.main_arg0)
      ∧ r.2.mem ((c.tc : Thread Cert.InPsDh.nD Cert.InPsDh.τ).loc Cert.InPsDh.main_arg1) = m ((c.tc : Thread Cert.InPsDh.nD Cert.InPsDh.τ).loc Cert.InPsDh.main_arg1)
      ∧ r.2.mem ((c.tc : Thread Cert.InPsDh.nD Cert.InPsDh.τ).loc Cert.InPsDh.main_arg2) = m ((c.tc : Thread Cert.InPsDh.nD Cert.InPsDh.τ).loc Cert.InPsDh.main_arg2)
      ∧ r.2.mem ((c.tc : Thread Cert.InPsDh.nD Cert.InPsDh.τ).loc Cert.InPsDh.main_arg3) = m ((c.tc : Thread Cert.InPsDh.nD Cert.InPsDh.τ).loc Cert.InPsDh.main_arg3))
      ∧ r.2.sem = fun _ => 0)

def quiescent_InPsDhIdeal [hInPsDhIdeal : Cert.InPsDhIdeal.Facts] : Prop :=
  ∀ (m : (ℓ : Loc Cert.InPsDhIdeal.nD Cert.InPsDhIdeal.τ Cert.InPsDhIdeal.sig) → Buf (Elt Ideal) ℓ) (g : Dev Cert.InPsDhIdeal.nD → PrngReg), Pre_InPsDhIdeal m →
    θ_run (Cert.InPsDhIdeal.defs (F := Ideal)) (onTc (τ := Cert.InPsDhIdeal.τ) (Cert.InPsDhIdeal.main (F := Ideal))) ⟨m, fun _ => 0, g⟩ (fun r => (∀ c : Dev Cert.InPsDhIdeal.nD,
      r.2.mem ((c.tc : Thread Cert.InPsDhIdeal.nD Cert.InPsDhIdeal.τ).loc Cert.InPsDhIdeal.main_arg0) = m ((c.tc : Thread Cert.InPsDhIdeal.nD Cert.InPsDhIdeal.τ).loc Cert.InPsDhIdeal.main_arg0)
      ∧ r.2.mem ((c.tc : Thread Cert.InPsDhIdeal.nD Cert.InPsDhIdeal.τ).loc Cert.InPsDhIdeal.main_arg1) = m ((c.tc : Thread Cert.InPsDhIdeal.nD Cert.InPsDhIdeal.τ).loc Cert.InPsDhIdeal.main_arg1)
      ∧ r.2.mem ((c.tc : Thread Cert.InPsDhIdeal.nD Cert.InPsDhIdeal.τ).loc Cert.InPsDhIdeal.main_arg2) = m ((c.tc : Thread Cert.InPsDhIdeal.nD Cert.InPsDhIdeal.τ).loc Cert.InPsDhIdeal.main_arg2)
      ∧ r.2.mem ((c.tc : Thread Cert.InPsDhIdeal.nD Cert.InPsDhIdeal.τ).loc Cert.InPsDhIdeal.main_arg3) = m ((c.tc : Thread Cert.InPsDhIdeal.nD Cert.InPsDhIdeal.τ).loc Cert.InPsDhIdeal.main_arg3))
      ∧ r.2.sem = fun _ => 0)

def quiescent_InPsDhRefIdeal [hInPsDhRefIdeal : Cert.InPsDhRefIdeal.Facts] : Prop :=
  ∀ (m : (ℓ : Loc Cert.InPsDhRefIdeal.nD Cert.InPsDhRefIdeal.τ Cert.InPsDhRefIdeal.sig) → Buf (Elt Ideal) ℓ) (g : Dev Cert.InPsDhRefIdeal.nD → PrngReg), Pre_InPsDhRefIdeal m →
    θ_run (Cert.InPsDhRefIdeal.defs (F := Ideal)) (onTc (τ := Cert.InPsDhRefIdeal.τ) (Cert.InPsDhRefIdeal.main (F := Ideal))) ⟨m, fun _ => 0, g⟩ (fun r => (∀ c : Dev Cert.InPsDhRefIdeal.nD,
      r.2.mem ((c.tc : Thread Cert.InPsDhRefIdeal.nD Cert.InPsDhRefIdeal.τ).loc Cert.InPsDhRefIdeal.main_arg0) = m ((c.tc : Thread Cert.InPsDhRefIdeal.nD Cert.InPsDhRefIdeal.τ).loc Cert.InPsDhRefIdeal.main_arg0)
      ∧ r.2.mem ((c.tc : Thread Cert.InPsDhRefIdeal.nD Cert.InPsDhRefIdeal.τ).loc Cert.InPsDhRefIdeal.main_arg1) = m ((c.tc : Thread Cert.InPsDhRefIdeal.nD Cert.InPsDhRefIdeal.τ).loc Cert.InPsDhRefIdeal.main_arg1)
      ∧ r.2.mem ((c.tc : Thread Cert.InPsDhRefIdeal.nD Cert.InPsDhRefIdeal.τ).loc Cert.InPsDhRefIdeal.main_arg2) = m ((c.tc : Thread Cert.InPsDhRefIdeal.nD Cert.InPsDhRefIdeal.τ).loc Cert.InPsDhRefIdeal.main_arg2)
      ∧ r.2.mem ((c.tc : Thread Cert.InPsDhRefIdeal.nD Cert.InPsDhRefIdeal.τ).loc Cert.InPsDhRefIdeal.main_arg3) = m ((c.tc : Thread Cert.InPsDhRefIdeal.nD Cert.InPsDhRefIdeal.τ).loc Cert.InPsDhRefIdeal.main_arg3))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3))
      ∧ r.2.sem = fun _ => 0)

def quiescent_NormMixBwd [hNormMixBwd : Cert.NormMixBwd.Facts] : Prop :=
  ∀ (m : (ℓ : Loc Cert.NormMixBwd.nD Cert.NormMixBwd.τ Cert.NormMixBwd.sig) → Buf (Elt Bits) ℓ) (g : Dev Cert.NormMixBwd.nD → PrngReg), Pre_NormMixBwd m →
    θ_run (Cert.NormMixBwd.defs (F := Bits)) (onTc (τ := Cert.NormMixBwd.τ) (Cert.NormMixBwd.main (F := Bits))) ⟨m, fun _ => 0, g⟩ (fun r => (∀ c : Dev Cert.NormMixBwd.nD,
      r.2.mem ((c.tc : Thread Cert.NormMixBwd.nD Cert.NormMixBwd.τ).loc Cert.NormMixBwd.main_arg0) = m ((c.tc : Thread Cert.NormMixBwd.nD Cert.NormMixBwd.τ).loc Cert.NormMixBwd.main_arg0)
      ∧ r.2.mem ((c.tc : Thread Cert.NormMixBwd.nD Cert.NormMixBwd.τ).loc Cert.NormMixBwd.main_arg1) = m ((c.tc : Thread Cert.NormMixBwd.nD Cert.NormMixBwd.τ).loc Cert.NormMixBwd.main_arg1)
      ∧ r.2.mem ((c.tc : Thread Cert.NormMixBwd.nD Cert.NormMixBwd.τ).loc Cert.NormMixBwd.main_arg2) = m ((c.tc : Thread Cert.NormMixBwd.nD Cert.NormMixBwd.τ).loc Cert.NormMixBwd.main_arg2)
      ∧ r.2.mem ((c.tc : Thread Cert.NormMixBwd.nD Cert.NormMixBwd.τ).loc Cert.NormMixBwd.main_arg3) = m ((c.tc : Thread Cert.NormMixBwd.nD Cert.NormMixBwd.τ).loc Cert.NormMixBwd.main_arg3))
      ∧ r.2.sem = fun _ => 0)

def quiescent_NormMixBwdIdeal [hNormMixBwdIdeal : Cert.NormMixBwdIdeal.Facts] : Prop :=
  ∀ (m : (ℓ : Loc Cert.NormMixBwdIdeal.nD Cert.NormMixBwdIdeal.τ Cert.NormMixBwdIdeal.sig) → Buf (Elt Ideal) ℓ) (g : Dev Cert.NormMixBwdIdeal.nD → PrngReg), Pre_NormMixBwdIdeal m →
    θ_run (Cert.NormMixBwdIdeal.defs (F := Ideal)) (onTc (τ := Cert.NormMixBwdIdeal.τ) (Cert.NormMixBwdIdeal.main (F := Ideal))) ⟨m, fun _ => 0, g⟩ (fun r => (∀ c : Dev Cert.NormMixBwdIdeal.nD,
      r.2.mem ((c.tc : Thread Cert.NormMixBwdIdeal.nD Cert.NormMixBwdIdeal.τ).loc Cert.NormMixBwdIdeal.main_arg0) = m ((c.tc : Thread Cert.NormMixBwdIdeal.nD Cert.NormMixBwdIdeal.τ).loc Cert.NormMixBwdIdeal.main_arg0)
      ∧ r.2.mem ((c.tc : Thread Cert.NormMixBwdIdeal.nD Cert.NormMixBwdIdeal.τ).loc Cert.NormMixBwdIdeal.main_arg1) = m ((c.tc : Thread Cert.NormMixBwdIdeal.nD Cert.NormMixBwdIdeal.τ).loc Cert.NormMixBwdIdeal.main_arg1)
      ∧ r.2.mem ((c.tc : Thread Cert.NormMixBwdIdeal.nD Cert.NormMixBwdIdeal.τ).loc Cert.NormMixBwdIdeal.main_arg2) = m ((c.tc : Thread Cert.NormMixBwdIdeal.nD Cert.NormMixBwdIdeal.τ).loc Cert.NormMixBwdIdeal.main_arg2)
      ∧ r.2.mem ((c.tc : Thread Cert.NormMixBwdIdeal.nD Cert.NormMixBwdIdeal.τ).loc Cert.NormMixBwdIdeal.main_arg3) = m ((c.tc : Thread Cert.NormMixBwdIdeal.nD Cert.NormMixBwdIdeal.τ).loc Cert.NormMixBwdIdeal.main_arg3))
      ∧ r.2.sem = fun _ => 0)

def quiescent_NormMixBwdRefIdeal [hNormMixBwdRefIdeal : Cert.NormMixBwdRefIdeal.Facts] : Prop :=
  ∀ (m : (ℓ : Loc Cert.NormMixBwdRefIdeal.nD Cert.NormMixBwdRefIdeal.τ Cert.NormMixBwdRefIdeal.sig) → Buf (Elt Ideal) ℓ) (g : Dev Cert.NormMixBwdRefIdeal.nD → PrngReg), Pre_NormMixBwdRefIdeal m →
    θ_run (Cert.NormMixBwdRefIdeal.defs (F := Ideal)) (onTc (τ := Cert.NormMixBwdRefIdeal.τ) (Cert.NormMixBwdRefIdeal.main (F := Ideal))) ⟨m, fun _ => 0, g⟩ (fun r => (∀ c : Dev Cert.NormMixBwdRefIdeal.nD,
      r.2.mem ((c.tc : Thread Cert.NormMixBwdRefIdeal.nD Cert.NormMixBwdRefIdeal.τ).loc Cert.NormMixBwdRefIdeal.main_arg0) = m ((c.tc : Thread Cert.NormMixBwdRefIdeal.nD Cert.NormMixBwdRefIdeal.τ).loc Cert.NormMixBwdRefIdeal.main_arg0)
      ∧ r.2.mem ((c.tc : Thread Cert.NormMixBwdRefIdeal.nD Cert.NormMixBwdRefIdeal.τ).loc Cert.NormMixBwdRefIdeal.main_arg1) = m ((c.tc : Thread Cert.NormMixBwdRefIdeal.nD Cert.NormMixBwdRefIdeal.τ).loc Cert.NormMixBwdRefIdeal.main_arg1)
      ∧ r.2.mem ((c.tc : Thread Cert.NormMixBwdRefIdeal.nD Cert.NormMixBwdRefIdeal.τ).loc Cert.NormMixBwdRefIdeal.main_arg2) = m ((c.tc : Thread Cert.NormMixBwdRefIdeal.nD Cert.NormMixBwdRefIdeal.τ).loc Cert.NormMixBwdRefIdeal.main_arg2)
      ∧ r.2.mem ((c.tc : Thread Cert.NormMixBwdRefIdeal.nD Cert.NormMixBwdRefIdeal.τ).loc Cert.NormMixBwdRefIdeal.main_arg3) = m ((c.tc : Thread Cert.NormMixBwdRefIdeal.nD Cert.NormMixBwdRefIdeal.τ).loc Cert.NormMixBwdRefIdeal.main_arg3))
      ∧ r.2.sem = fun _ => 0)

def quiescent_NormMemBwd [hNormMemBwd : Cert.NormMemBwd.Facts] : Prop :=
  ∀ (m : (ℓ : Loc Cert.NormMemBwd.nD Cert.NormMemBwd.τ Cert.NormMemBwd.sig) → Buf (Elt Bits) ℓ) (g : Dev Cert.NormMemBwd.nD → PrngReg), Pre_NormMemBwd m →
    θ_run (Cert.NormMemBwd.defs (F := Bits)) (onTc (τ := Cert.NormMemBwd.τ) (Cert.NormMemBwd.main (F := Bits))) ⟨m, fun _ => 0, g⟩ (fun r => (∀ c : Dev Cert.NormMemBwd.nD,
      r.2.mem ((c.tc : Thread Cert.NormMemBwd.nD Cert.NormMemBwd.τ).loc Cert.NormMemBwd.main_arg0) = m ((c.tc : Thread Cert.NormMemBwd.nD Cert.NormMemBwd.τ).loc Cert.NormMemBwd.main_arg0)
      ∧ r.2.mem ((c.tc : Thread Cert.NormMemBwd.nD Cert.NormMemBwd.τ).loc Cert.NormMemBwd.main_arg1) = m ((c.tc : Thread Cert.NormMemBwd.nD Cert.NormMemBwd.τ).loc Cert.NormMemBwd.main_arg1)
      ∧ r.2.mem ((c.tc : Thread Cert.NormMemBwd.nD Cert.NormMemBwd.τ).loc Cert.NormMemBwd.main_arg2) = m ((c.tc : Thread Cert.NormMemBwd.nD Cert.NormMemBwd.τ).loc Cert.NormMemBwd.main_arg2))
      ∧ r.2.sem = fun _ => 0)

def quiescent_NormMemBwdIdeal [hNormMemBwdIdeal : Cert.NormMemBwdIdeal.Facts] : Prop :=
  ∀ (m : (ℓ : Loc Cert.NormMemBwdIdeal.nD Cert.NormMemBwdIdeal.τ Cert.NormMemBwdIdeal.sig) → Buf (Elt Ideal) ℓ) (g : Dev Cert.NormMemBwdIdeal.nD → PrngReg), Pre_NormMemBwdIdeal m →
    θ_run (Cert.NormMemBwdIdeal.defs (F := Ideal)) (onTc (τ := Cert.NormMemBwdIdeal.τ) (Cert.NormMemBwdIdeal.main (F := Ideal))) ⟨m, fun _ => 0, g⟩ (fun r => (∀ c : Dev Cert.NormMemBwdIdeal.nD,
      r.2.mem ((c.tc : Thread Cert.NormMemBwdIdeal.nD Cert.NormMemBwdIdeal.τ).loc Cert.NormMemBwdIdeal.main_arg0) = m ((c.tc : Thread Cert.NormMemBwdIdeal.nD Cert.NormMemBwdIdeal.τ).loc Cert.NormMemBwdIdeal.main_arg0)
      ∧ r.2.mem ((c.tc : Thread Cert.NormMemBwdIdeal.nD Cert.NormMemBwdIdeal.τ).loc Cert.NormMemBwdIdeal.main_arg1) = m ((c.tc : Thread Cert.NormMemBwdIdeal.nD Cert.NormMemBwdIdeal.τ).loc Cert.NormMemBwdIdeal.main_arg1)
      ∧ r.2.mem ((c.tc : Thread Cert.NormMemBwdIdeal.nD Cert.NormMemBwdIdeal.τ).loc Cert.NormMemBwdIdeal.main_arg2) = m ((c.tc : Thread Cert.NormMemBwdIdeal.nD Cert.NormMemBwdIdeal.τ).loc Cert.NormMemBwdIdeal.main_arg2))
      ∧ r.2.sem = fun _ => 0)

def quiescent_NormMemBwdRefIdeal [hNormMemBwdRefIdeal : Cert.NormMemBwdRefIdeal.Facts] : Prop :=
  ∀ (m : (ℓ : Loc Cert.NormMemBwdRefIdeal.nD Cert.NormMemBwdRefIdeal.τ Cert.NormMemBwdRefIdeal.sig) → Buf (Elt Ideal) ℓ) (g : Dev Cert.NormMemBwdRefIdeal.nD → PrngReg), Pre_NormMemBwdRefIdeal m →
    θ_run (Cert.NormMemBwdRefIdeal.defs (F := Ideal)) (onTc (τ := Cert.NormMemBwdRefIdeal.τ) (Cert.NormMemBwdRefIdeal.main (F := Ideal))) ⟨m, fun _ => 0, g⟩ (fun r => (∀ c : Dev Cert.NormMemBwdRefIdeal.nD,
      r.2.mem ((c.tc : Thread Cert.NormMemBwdRefIdeal.nD Cert.NormMemBwdRefIdeal.τ).loc Cert.NormMemBwdRefIdeal.main_arg0) = m ((c.tc : Thread Cert.NormMemBwdRefIdeal.nD Cert.NormMemBwdRefIdeal.τ).loc Cert.NormMemBwdRefIdeal.main_arg0)
      ∧ r.2.mem ((c.tc : Thread Cert.NormMemBwdRefIdeal.nD Cert.NormMemBwdRefIdeal.τ).loc Cert.NormMemBwdRefIdeal.main_arg1) = m ((c.tc : Thread Cert.NormMemBwdRefIdeal.nD Cert.NormMemBwdRefIdeal.τ).loc Cert.NormMemBwdRefIdeal.main_arg1)
      ∧ r.2.mem ((c.tc : Thread Cert.NormMemBwdRefIdeal.nD Cert.NormMemBwdRefIdeal.τ).loc Cert.NormMemBwdRefIdeal.main_arg2) = m ((c.tc : Thread Cert.NormMemBwdRefIdeal.nD Cert.NormMemBwdRefIdeal.τ).loc Cert.NormMemBwdRefIdeal.main_arg2))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_AdamWFfn1 [hAdamWFfn1 : Cert.AdamWFfn1.Facts] : Prop :=
  ∀ (m : (ℓ : Loc Cert.AdamWFfn1.nD Cert.AdamWFfn1.τ Cert.AdamWFfn1.sig) → Buf (Elt Bits) ℓ) (g : Dev Cert.AdamWFfn1.nD → PrngReg), Pre_AdamWFfn1 m →
    θ_run (Cert.AdamWFfn1.defs (F := Bits)) (onTc (τ := Cert.AdamWFfn1.τ) (Cert.AdamWFfn1.main (F := Bits))) ⟨m, fun _ => 0, g⟩ (fun r => (∀ c : Dev Cert.AdamWFfn1.nD,
      r.2.mem ((c.tc : Thread Cert.AdamWFfn1.nD Cert.AdamWFfn1.τ).loc Cert.AdamWFfn1.main_arg0) = m ((c.tc : Thread Cert.AdamWFfn1.nD Cert.AdamWFfn1.τ).loc Cert.AdamWFfn1.main_arg0)
      ∧ r.2.mem ((c.tc : Thread Cert.AdamWFfn1.nD Cert.AdamWFfn1.τ).loc Cert.AdamWFfn1.main_arg1) = m ((c.tc : Thread Cert.AdamWFfn1.nD Cert.AdamWFfn1.τ).loc Cert.AdamWFfn1.main_arg1)
      ∧ r.2.mem ((c.tc : Thread Cert.AdamWFfn1.nD Cert.AdamWFfn1.τ).loc Cert.AdamWFfn1.main_arg2) = m ((c.tc : Thread Cert.AdamWFfn1.nD Cert.AdamWFfn1.τ).loc Cert.AdamWFfn1.main_arg2)
      ∧ r.2.mem ((c.tc : Thread Cert.AdamWFfn1.nD Cert.AdamWFfn1.τ).loc Cert.AdamWFfn1.main_arg3) = m ((c.tc : Thread Cert.AdamWFfn1.nD Cert.AdamWFfn1.τ).loc Cert.AdamWFfn1.main_arg3))
      ∧ r.2.sem = fun _ => 0)

def quiescent_AdamWFfn1Ideal [hAdamWFfn1Ideal : Cert.AdamWFfn1Ideal.Facts] : Prop :=
  ∀ (m : (ℓ : Loc Cert.AdamWFfn1Ideal.nD Cert.AdamWFfn1Ideal.τ Cert.AdamWFfn1Ideal.sig) → Buf (Elt Ideal) ℓ) (g : Dev Cert.AdamWFfn1Ideal.nD → PrngReg), Pre_AdamWFfn1Ideal m →
    θ_run (Cert.AdamWFfn1Ideal.defs (F := Ideal)) (onTc (τ := Cert.AdamWFfn1Ideal.τ) (Cert.AdamWFfn1Ideal.main (F := Ideal))) ⟨m, fun _ => 0, g⟩ (fun r => (∀ c : Dev Cert.AdamWFfn1Ideal.nD,
      r.2.mem ((c.tc : Thread Cert.AdamWFfn1Ideal.nD Cert.AdamWFfn1Ideal.τ).loc Cert.AdamWFfn1Ideal.main_arg0) = m ((c.tc : Thread Cert.AdamWFfn1Ideal.nD Cert.AdamWFfn1Ideal.τ).loc Cert.AdamWFfn1Ideal.main_arg0)
      ∧ r.2.mem ((c.tc : Thread Cert.AdamWFfn1Ideal.nD Cert.AdamWFfn1Ideal.τ).loc Cert.AdamWFfn1Ideal.main_arg1) = m ((c.tc : Thread Cert.AdamWFfn1Ideal.nD Cert.AdamWFfn1Ideal.τ).loc Cert.AdamWFfn1Ideal.main_arg1)
      ∧ r.2.mem ((c.tc : Thread Cert.AdamWFfn1Ideal.nD Cert.AdamWFfn1Ideal.τ).loc Cert.AdamWFfn1Ideal.main_arg2) = m ((c.tc : Thread Cert.AdamWFfn1Ideal.nD Cert.AdamWFfn1Ideal.τ).loc Cert.AdamWFfn1Ideal.main_arg2)
      ∧ r.2.mem ((c.tc : Thread Cert.AdamWFfn1Ideal.nD Cert.AdamWFfn1Ideal.τ).loc Cert.AdamWFfn1Ideal.main_arg3) = m ((c.tc : Thread Cert.AdamWFfn1Ideal.nD Cert.AdamWFfn1Ideal.τ).loc Cert.AdamWFfn1Ideal.main_arg3))
      ∧ r.2.sem = fun _ => 0)

def quiescent_AdamWFfn1RefIdeal [hAdamWFfn1RefIdeal : Cert.AdamWFfn1RefIdeal.Facts] : Prop :=
  ∀ (m : (ℓ : Loc Cert.AdamWFfn1RefIdeal.nD Cert.AdamWFfn1RefIdeal.τ Cert.AdamWFfn1RefIdeal.sig) → Buf (Elt Ideal) ℓ) (g : Dev Cert.AdamWFfn1RefIdeal.nD → PrngReg), Pre_AdamWFfn1RefIdeal m →
    θ_run (Cert.AdamWFfn1RefIdeal.defs (F := Ideal)) (onTc (τ := Cert.AdamWFfn1RefIdeal.τ) (Cert.AdamWFfn1RefIdeal.main (F := Ideal))) ⟨m, fun _ => 0, g⟩ (fun r => (∀ c : Dev Cert.AdamWFfn1RefIdeal.nD,
      r.2.mem ((c.tc : Thread Cert.AdamWFfn1RefIdeal.nD Cert.AdamWFfn1RefIdeal.τ).loc Cert.AdamWFfn1RefIdeal.main_arg0) = m ((c.tc : Thread Cert.AdamWFfn1RefIdeal.nD Cert.AdamWFfn1RefIdeal.τ).loc Cert.AdamWFfn1RefIdeal.main_arg0)
      ∧ r.2.mem ((c.tc : Thread Cert.AdamWFfn1RefIdeal.nD Cert.AdamWFfn1RefIdeal.τ).loc Cert.AdamWFfn1RefIdeal.main_arg1) = m ((c.tc : Thread Cert.AdamWFfn1RefIdeal.nD Cert.AdamWFfn1RefIdeal.τ).loc Cert.AdamWFfn1RefIdeal.main_arg1)
      ∧ r.2.mem ((c.tc : Thread Cert.AdamWFfn1RefIdeal.nD Cert.AdamWFfn1RefIdeal.τ).loc Cert.AdamWFfn1RefIdeal.main_arg2) = m ((c.tc : Thread Cert.AdamWFfn1RefIdeal.nD Cert.AdamWFfn1RefIdeal.τ).loc Cert.AdamWFfn1RefIdeal.main_arg2)
      ∧ r.2.mem ((c.tc : Thread Cert.AdamWFfn1RefIdeal.nD Cert.AdamWFfn1RefIdeal.τ).loc Cert.AdamWFfn1RefIdeal.main_arg3) = m ((c.tc : Thread Cert.AdamWFfn1RefIdeal.nD Cert.AdamWFfn1RefIdeal.τ).loc Cert.AdamWFfn1RefIdeal.main_arg3))
      ∧ r.2.sem = fun _ => 0)

def quiescent_AdamWFfn2 [hAdamWFfn2 : Cert.AdamWFfn2.Facts] : Prop :=
  ∀ (m : (ℓ : Loc Cert.AdamWFfn2.nD Cert.AdamWFfn2.τ Cert.AdamWFfn2.sig) → Buf (Elt Bits) ℓ) (g : Dev Cert.AdamWFfn2.nD → PrngReg), Pre_AdamWFfn2 m →
    θ_run (Cert.AdamWFfn2.defs (F := Bits)) (onTc (τ := Cert.AdamWFfn2.τ) (Cert.AdamWFfn2.main (F := Bits))) ⟨m, fun _ => 0, g⟩ (fun r => (∀ c : Dev Cert.AdamWFfn2.nD,
      r.2.mem ((c.tc : Thread Cert.AdamWFfn2.nD Cert.AdamWFfn2.τ).loc Cert.AdamWFfn2.main_arg0) = m ((c.tc : Thread Cert.AdamWFfn2.nD Cert.AdamWFfn2.τ).loc Cert.AdamWFfn2.main_arg0)
      ∧ r.2.mem ((c.tc : Thread Cert.AdamWFfn2.nD Cert.AdamWFfn2.τ).loc Cert.AdamWFfn2.main_arg1) = m ((c.tc : Thread Cert.AdamWFfn2.nD Cert.AdamWFfn2.τ).loc Cert.AdamWFfn2.main_arg1)
      ∧ r.2.mem ((c.tc : Thread Cert.AdamWFfn2.nD Cert.AdamWFfn2.τ).loc Cert.AdamWFfn2.main_arg2) = m ((c.tc : Thread Cert.AdamWFfn2.nD Cert.AdamWFfn2.τ).loc Cert.AdamWFfn2.main_arg2)
      ∧ r.2.mem ((c.tc : Thread Cert.AdamWFfn2.nD Cert.AdamWFfn2.τ).loc Cert.AdamWFfn2.main_arg3) = m ((c.tc : Thread Cert.AdamWFfn2.nD Cert.AdamWFfn2.τ).loc Cert.AdamWFfn2.main_arg3))
      ∧ r.2.sem = fun _ => 0)

def quiescent_AdamWFfn2Ideal [hAdamWFfn2Ideal : Cert.AdamWFfn2Ideal.Facts] : Prop :=
  ∀ (m : (ℓ : Loc Cert.AdamWFfn2Ideal.nD Cert.AdamWFfn2Ideal.τ Cert.AdamWFfn2Ideal.sig) → Buf (Elt Ideal) ℓ) (g : Dev Cert.AdamWFfn2Ideal.nD → PrngReg), Pre_AdamWFfn2Ideal m →
    θ_run (Cert.AdamWFfn2Ideal.defs (F := Ideal)) (onTc (τ := Cert.AdamWFfn2Ideal.τ) (Cert.AdamWFfn2Ideal.main (F := Ideal))) ⟨m, fun _ => 0, g⟩ (fun r => (∀ c : Dev Cert.AdamWFfn2Ideal.nD,
      r.2.mem ((c.tc : Thread Cert.AdamWFfn2Ideal.nD Cert.AdamWFfn2Ideal.τ).loc Cert.AdamWFfn2Ideal.main_arg0) = m ((c.tc : Thread Cert.AdamWFfn2Ideal.nD Cert.AdamWFfn2Ideal.τ).loc Cert.AdamWFfn2Ideal.main_arg0)
      ∧ r.2.mem ((c.tc : Thread Cert.AdamWFfn2Ideal.nD Cert.AdamWFfn2Ideal.τ).loc Cert.AdamWFfn2Ideal.main_arg1) = m ((c.tc : Thread Cert.AdamWFfn2Ideal.nD Cert.AdamWFfn2Ideal.τ).loc Cert.AdamWFfn2Ideal.main_arg1)
      ∧ r.2.mem ((c.tc : Thread Cert.AdamWFfn2Ideal.nD Cert.AdamWFfn2Ideal.τ).loc Cert.AdamWFfn2Ideal.main_arg2) = m ((c.tc : Thread Cert.AdamWFfn2Ideal.nD Cert.AdamWFfn2Ideal.τ).loc Cert.AdamWFfn2Ideal.main_arg2)
      ∧ r.2.mem ((c.tc : Thread Cert.AdamWFfn2Ideal.nD Cert.AdamWFfn2Ideal.τ).loc Cert.AdamWFfn2Ideal.main_arg3) = m ((c.tc : Thread Cert.AdamWFfn2Ideal.nD Cert.AdamWFfn2Ideal.τ).loc Cert.AdamWFfn2Ideal.main_arg3))
      ∧ r.2.sem = fun _ => 0)

def quiescent_AdamWFfn2RefIdeal [hAdamWFfn2RefIdeal : Cert.AdamWFfn2RefIdeal.Facts] : Prop :=
  ∀ (m : (ℓ : Loc Cert.AdamWFfn2RefIdeal.nD Cert.AdamWFfn2RefIdeal.τ Cert.AdamWFfn2RefIdeal.sig) → Buf (Elt Ideal) ℓ) (g : Dev Cert.AdamWFfn2RefIdeal.nD → PrngReg), Pre_AdamWFfn2RefIdeal m →
    θ_run (Cert.AdamWFfn2RefIdeal.defs (F := Ideal)) (onTc (τ := Cert.AdamWFfn2RefIdeal.τ) (Cert.AdamWFfn2RefIdeal.main (F := Ideal))) ⟨m, fun _ => 0, g⟩ (fun r => (∀ c : Dev Cert.AdamWFfn2RefIdeal.nD,
      r.2.mem ((c.tc : Thread Cert.AdamWFfn2RefIdeal.nD Cert.AdamWFfn2RefIdeal.τ).loc Cert.AdamWFfn2RefIdeal.main_arg0) = m ((c.tc : Thread Cert.AdamWFfn2RefIdeal.nD Cert.AdamWFfn2RefIdeal.τ).loc Cert.AdamWFfn2RefIdeal.main_arg0)
      ∧ r.2.mem ((c.tc : Thread Cert.AdamWFfn2RefIdeal.nD Cert.AdamWFfn2RefIdeal.τ).loc Cert.AdamWFfn2RefIdeal.main_arg1) = m ((c.tc : Thread Cert.AdamWFfn2RefIdeal.nD Cert.AdamWFfn2RefIdeal.τ).loc Cert.AdamWFfn2RefIdeal.main_arg1)
      ∧ r.2.mem ((c.tc : Thread Cert.AdamWFfn2RefIdeal.nD Cert.AdamWFfn2RefIdeal.τ).loc Cert.AdamWFfn2RefIdeal.main_arg2) = m ((c.tc : Thread Cert.AdamWFfn2RefIdeal.nD Cert.AdamWFfn2RefIdeal.τ).loc Cert.AdamWFfn2RefIdeal.main_arg2)
      ∧ r.2.mem ((c.tc : Thread Cert.AdamWFfn2RefIdeal.nD Cert.AdamWFfn2RefIdeal.τ).loc Cert.AdamWFfn2RefIdeal.main_arg3) = m ((c.tc : Thread Cert.AdamWFfn2RefIdeal.nD Cert.AdamWFfn2RefIdeal.τ).loc Cert.AdamWFfn2RefIdeal.main_arg3))
      ∧ r.2.sem = fun _ => 0)

def quiescent_AdamWSquare [hAdamWSquare : Cert.AdamWSquare.Facts] : Prop :=
  ∀ (m : (ℓ : Loc Cert.AdamWSquare.nD Cert.AdamWSquare.τ Cert.AdamWSquare.sig) → Buf (Elt Bits) ℓ) (g : Dev Cert.AdamWSquare.nD → PrngReg), Pre_AdamWSquare m →
    θ_run (Cert.AdamWSquare.defs (F := Bits)) (onTc (τ := Cert.AdamWSquare.τ) (Cert.AdamWSquare.main (F := Bits))) ⟨m, fun _ => 0, g⟩ (fun r => (∀ c : Dev Cert.AdamWSquare.nD,
      r.2.mem ((c.tc : Thread Cert.AdamWSquare.nD Cert.AdamWSquare.τ).loc Cert.AdamWSquare.main_arg0) = m ((c.tc : Thread Cert.AdamWSquare.nD Cert.AdamWSquare.τ).loc Cert.AdamWSquare.main_arg0)
      ∧ r.2.mem ((c.tc : Thread Cert.AdamWSquare.nD Cert.AdamWSquare.τ).loc Cert.AdamWSquare.main_arg1) = m ((c.tc : Thread Cert.AdamWSquare.nD Cert.AdamWSquare.τ).loc Cert.AdamWSquare.main_arg1)
      ∧ r.2.mem ((c.tc : Thread Cert.AdamWSquare.nD Cert.AdamWSquare.τ).loc Cert.AdamWSquare.main_arg2) = m ((c.tc : Thread Cert.AdamWSquare.nD Cert.AdamWSquare.τ).loc Cert.AdamWSquare.main_arg2)
      ∧ r.2.mem ((c.tc : Thread Cert.AdamWSquare.nD Cert.AdamWSquare.τ).loc Cert.AdamWSquare.main_arg3) = m ((c.tc : Thread Cert.AdamWSquare.nD Cert.AdamWSquare.τ).loc Cert.AdamWSquare.main_arg3))
      ∧ r.2.sem = fun _ => 0)

def quiescent_AdamWSquareIdeal [hAdamWSquareIdeal : Cert.AdamWSquareIdeal.Facts] : Prop :=
  ∀ (m : (ℓ : Loc Cert.AdamWSquareIdeal.nD Cert.AdamWSquareIdeal.τ Cert.AdamWSquareIdeal.sig) → Buf (Elt Ideal) ℓ) (g : Dev Cert.AdamWSquareIdeal.nD → PrngReg), Pre_AdamWSquareIdeal m →
    θ_run (Cert.AdamWSquareIdeal.defs (F := Ideal)) (onTc (τ := Cert.AdamWSquareIdeal.τ) (Cert.AdamWSquareIdeal.main (F := Ideal))) ⟨m, fun _ => 0, g⟩ (fun r => (∀ c : Dev Cert.AdamWSquareIdeal.nD,
      r.2.mem ((c.tc : Thread Cert.AdamWSquareIdeal.nD Cert.AdamWSquareIdeal.τ).loc Cert.AdamWSquareIdeal.main_arg0) = m ((c.tc : Thread Cert.AdamWSquareIdeal.nD Cert.AdamWSquareIdeal.τ).loc Cert.AdamWSquareIdeal.main_arg0)
      ∧ r.2.mem ((c.tc : Thread Cert.AdamWSquareIdeal.nD Cert.AdamWSquareIdeal.τ).loc Cert.AdamWSquareIdeal.main_arg1) = m ((c.tc : Thread Cert.AdamWSquareIdeal.nD Cert.AdamWSquareIdeal.τ).loc Cert.AdamWSquareIdeal.main_arg1)
      ∧ r.2.mem ((c.tc : Thread Cert.AdamWSquareIdeal.nD Cert.AdamWSquareIdeal.τ).loc Cert.AdamWSquareIdeal.main_arg2) = m ((c.tc : Thread Cert.AdamWSquareIdeal.nD Cert.AdamWSquareIdeal.τ).loc Cert.AdamWSquareIdeal.main_arg2)
      ∧ r.2.mem ((c.tc : Thread Cert.AdamWSquareIdeal.nD Cert.AdamWSquareIdeal.τ).loc Cert.AdamWSquareIdeal.main_arg3) = m ((c.tc : Thread Cert.AdamWSquareIdeal.nD Cert.AdamWSquareIdeal.τ).loc Cert.AdamWSquareIdeal.main_arg3))
      ∧ r.2.sem = fun _ => 0)

def quiescent_AdamWSquareRefIdeal [hAdamWSquareRefIdeal : Cert.AdamWSquareRefIdeal.Facts] : Prop :=
  ∀ (m : (ℓ : Loc Cert.AdamWSquareRefIdeal.nD Cert.AdamWSquareRefIdeal.τ Cert.AdamWSquareRefIdeal.sig) → Buf (Elt Ideal) ℓ) (g : Dev Cert.AdamWSquareRefIdeal.nD → PrngReg), Pre_AdamWSquareRefIdeal m →
    θ_run (Cert.AdamWSquareRefIdeal.defs (F := Ideal)) (onTc (τ := Cert.AdamWSquareRefIdeal.τ) (Cert.AdamWSquareRefIdeal.main (F := Ideal))) ⟨m, fun _ => 0, g⟩ (fun r => (∀ c : Dev Cert.AdamWSquareRefIdeal.nD,
      r.2.mem ((c.tc : Thread Cert.AdamWSquareRefIdeal.nD Cert.AdamWSquareRefIdeal.τ).loc Cert.AdamWSquareRefIdeal.main_arg0) = m ((c.tc : Thread Cert.AdamWSquareRefIdeal.nD Cert.AdamWSquareRefIdeal.τ).loc Cert.AdamWSquareRefIdeal.main_arg0)
      ∧ r.2.mem ((c.tc : Thread Cert.AdamWSquareRefIdeal.nD Cert.AdamWSquareRefIdeal.τ).loc Cert.AdamWSquareRefIdeal.main_arg1) = m ((c.tc : Thread Cert.AdamWSquareRefIdeal.nD Cert.AdamWSquareRefIdeal.τ).loc Cert.AdamWSquareRefIdeal.main_arg1)
      ∧ r.2.mem ((c.tc : Thread Cert.AdamWSquareRefIdeal.nD Cert.AdamWSquareRefIdeal.τ).loc Cert.AdamWSquareRefIdeal.main_arg2) = m ((c.tc : Thread Cert.AdamWSquareRefIdeal.nD Cert.AdamWSquareRefIdeal.τ).loc Cert.AdamWSquareRefIdeal.main_arg2)
      ∧ r.2.mem ((c.tc : Thread Cert.AdamWSquareRefIdeal.nD Cert.AdamWSquareRefIdeal.τ).loc Cert.AdamWSquareRefIdeal.main_arg3) = m ((c.tc : Thread Cert.AdamWSquareRefIdeal.nD Cert.AdamWSquareRefIdeal.τ).loc Cert.AdamWSquareRefIdeal.main_arg3))
      ∧ r.2.sem = fun _ => 0)

def quiescent_SumIn [hSumIn : Cert.SumIn.Facts] : Prop :=
  ∀ (m : (ℓ : Loc Cert.SumIn.nD Cert.SumIn.τ Cert.SumIn.sig) → Buf (Elt Bits) ℓ) (g : Dev Cert.SumIn.nD → PrngReg), Pre_SumIn m →
    θ_run (Cert.SumIn.defs (F := Bits)) (onTc (τ := Cert.SumIn.τ) (Cert.SumIn.main (F := Bits))) ⟨m, fun _ => 0, g⟩ (fun r => (∀ c : Dev Cert.SumIn.nD,
      r.2.mem ((c.tc : Thread Cert.SumIn.nD Cert.SumIn.τ).loc Cert.SumIn.main_arg0) = m ((c.tc : Thread Cert.SumIn.nD Cert.SumIn.τ).loc Cert.SumIn.main_arg0))
      ∧ r.2.sem = fun _ => 0)

def quiescent_SumInIdeal [hSumInIdeal : Cert.SumInIdeal.Facts] : Prop :=
  ∀ (m : (ℓ : Loc Cert.SumInIdeal.nD Cert.SumInIdeal.τ Cert.SumInIdeal.sig) → Buf (Elt Ideal) ℓ) (g : Dev Cert.SumInIdeal.nD → PrngReg), Pre_SumInIdeal m →
    θ_run (Cert.SumInIdeal.defs (F := Ideal)) (onTc (τ := Cert.SumInIdeal.τ) (Cert.SumInIdeal.main (F := Ideal))) ⟨m, fun _ => 0, g⟩ (fun r => (∀ c : Dev Cert.SumInIdeal.nD,
      r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ r.2.sem = fun _ => 0)

def quiescent_SumInRefIdeal [hSumInRefIdeal : Cert.SumInRefIdeal.Facts] : Prop :=
  ∀ (m : (ℓ : Loc Cert.SumInRefIdeal.nD Cert.SumInRefIdeal.τ Cert.SumInRefIdeal.sig) → Buf (Elt Ideal) ℓ) (g : Dev Cert.SumInRefIdeal.nD → PrngReg), Pre_SumInRefIdeal m →
    θ_run (Cert.SumInRefIdeal.defs (F := Ideal)) (onTc (τ := Cert.SumInRefIdeal.τ) (Cert.SumInRefIdeal.main (F := Ideal))) ⟨m, fun _ => 0, g⟩ (fun r => (∀ c : Dev Cert.SumInRefIdeal.nD,
      r.2.mem ((c.tc : Thread Cert.SumInRefIdeal.nD Cert.SumInRefIdeal.τ).loc Cert.SumInRefIdeal.main_arg0) = m ((c.tc : Thread Cert.SumInRefIdeal.nD Cert.SumInRefIdeal.τ).loc Cert.SumInRefIdeal.main_arg0))
      ∧ r.2.sem = fun _ => 0)

def quiescent_AdamWIn [hAdamWIn : Cert.AdamWIn.Facts] : Prop :=
  ∀ (m : (ℓ : Loc Cert.AdamWIn.nD Cert.AdamWIn.τ Cert.AdamWIn.sig) → Buf (Elt Bits) ℓ) (g : Dev Cert.AdamWIn.nD → PrngReg), Pre_AdamWIn m →
    θ_run (Cert.AdamWIn.defs (F := Bits)) (onTc (τ := Cert.AdamWIn.τ) (Cert.AdamWIn.main (F := Bits))) ⟨m, fun _ => 0, g⟩ (fun r => (∀ c : Dev Cert.AdamWIn.nD,
      r.2.mem ((c.tc : Thread Cert.AdamWIn.nD Cert.AdamWIn.τ).loc Cert.AdamWIn.main_arg0) = m ((c.tc : Thread Cert.AdamWIn.nD Cert.AdamWIn.τ).loc Cert.AdamWIn.main_arg0)
      ∧ r.2.mem ((c.tc : Thread Cert.AdamWIn.nD Cert.AdamWIn.τ).loc Cert.AdamWIn.main_arg1) = m ((c.tc : Thread Cert.AdamWIn.nD Cert.AdamWIn.τ).loc Cert.AdamWIn.main_arg1)
      ∧ r.2.mem ((c.tc : Thread Cert.AdamWIn.nD Cert.AdamWIn.τ).loc Cert.AdamWIn.main_arg2) = m ((c.tc : Thread Cert.AdamWIn.nD Cert.AdamWIn.τ).loc Cert.AdamWIn.main_arg2)
      ∧ r.2.mem ((c.tc : Thread Cert.AdamWIn.nD Cert.AdamWIn.τ).loc Cert.AdamWIn.main_arg3) = m ((c.tc : Thread Cert.AdamWIn.nD Cert.AdamWIn.τ).loc Cert.AdamWIn.main_arg3))
      ∧ r.2.sem = fun _ => 0)

def quiescent_AdamWInIdeal [hAdamWInIdeal : Cert.AdamWInIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg), Pre_AdamWInIdeal m →
    θ_run (Cert.AdamWInIdeal.defs (F := Ideal)) (onTc (τ := Cert.AdamWInIdeal.τ) (Cert.AdamWInIdeal.main (F := Ideal))) ⟨m, fun _ => 0, g⟩ (fun r => (∀ c : Dev Cert.AdamWInIdeal.nD,
      r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
      ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
      ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
      ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ r.2.sem = fun _ => 0)

def quiescent_AdamWInRefIdeal [hAdamWInRefIdeal : Cert.AdamWInRefIdeal.Facts] : Prop :=
  ∀ (m : (ℓ : Loc Cert.AdamWInRefIdeal.nD Cert.AdamWInRefIdeal.τ Cert.AdamWInRefIdeal.sig) → Buf (Elt Ideal) ℓ) (g : Dev Cert.AdamWInRefIdeal.nD → PrngReg), Pre_AdamWInRefIdeal m →
    θ_run (Cert.AdamWInRefIdeal.defs (F := Ideal)) (onTc (τ := Cert.AdamWInRefIdeal.τ) (Cert.AdamWInRefIdeal.main (F := Ideal))) ⟨m, fun _ => 0, g⟩ (fun r => (∀ c : Dev Cert.AdamWInRefIdeal.nD,
      r.2.mem ((c.tc : Thread Cert.AdamWInRefIdeal.nD Cert.AdamWInRefIdeal.τ).loc Cert.AdamWInRefIdeal.main_arg0) = m ((c.tc : Thread Cert.AdamWInRefIdeal.nD Cert.AdamWInRefIdeal.τ).loc Cert.AdamWInRefIdeal.main_arg0)
      ∧ r.2.mem ((c.tc : Thread Cert.AdamWInRefIdeal.nD Cert.AdamWInRefIdeal.τ).loc Cert.AdamWInRefIdeal.main_arg1) = m ((c.tc : Thread Cert.AdamWInRefIdeal.nD Cert.AdamWInRefIdeal.τ).loc Cert.AdamWInRefIdeal.main_arg1)
      ∧ r.2.mem ((c.tc : Thread Cert.AdamWInRefIdeal.nD Cert.AdamWInRefIdeal.τ).loc Cert.AdamWInRefIdeal.main_arg2) = m ((c.tc : Thread Cert.AdamWInRefIdeal.nD Cert.AdamWInRefIdeal.τ).loc Cert.AdamWInRefIdeal.main_arg2)
      ∧ r.2.mem ((c.tc : Thread Cert.AdamWInRefIdeal.nD Cert.AdamWInRefIdeal.τ).loc Cert.AdamWInRefIdeal.main_arg3) = m ((c.tc : Thread Cert.AdamWInRefIdeal.nD Cert.AdamWInRefIdeal.τ).loc Cert.AdamWInRefIdeal.main_arg3))
      ∧ r.2.sem = fun _ => 0)

def quiescent_AdamWConv [hAdamWConv : Cert.AdamWConv.Facts] : Prop :=
  ∀ (m : (ℓ : Loc Cert.AdamWConv.nD Cert.AdamWConv.τ Cert.AdamWConv.sig) → Buf (Elt Bits) ℓ) (g : Dev Cert.AdamWConv.nD → PrngReg), Pre_AdamWConv m →
    θ_run (Cert.AdamWConv.defs (F := Bits)) (onTc (τ := Cert.AdamWConv.τ) (Cert.AdamWConv.main (F := Bits))) ⟨m, fun _ => 0, g⟩ (fun r => (∀ c : Dev Cert.AdamWConv.nD,
      r.2.mem ((c.tc : Thread Cert.AdamWConv.nD Cert.AdamWConv.τ).loc Cert.AdamWConv.main_arg0) = m ((c.tc : Thread Cert.AdamWConv.nD Cert.AdamWConv.τ).loc Cert.AdamWConv.main_arg0)
      ∧ r.2.mem ((c.tc : Thread Cert.AdamWConv.nD Cert.AdamWConv.τ).loc Cert.AdamWConv.main_arg1) = m ((c.tc : Thread Cert.AdamWConv.nD Cert.AdamWConv.τ).loc Cert.AdamWConv.main_arg1)
      ∧ r.2.mem ((c.tc : Thread Cert.AdamWConv.nD Cert.AdamWConv.τ).loc Cert.AdamWConv.main_arg2) = m ((c.tc : Thread Cert.AdamWConv.nD Cert.AdamWConv.τ).loc Cert.AdamWConv.main_arg2)
      ∧ r.2.mem ((c.tc : Thread Cert.AdamWConv.nD Cert.AdamWConv.τ).loc Cert.AdamWConv.main_arg3) = m ((c.tc : Thread Cert.AdamWConv.nD Cert.AdamWConv.τ).loc Cert.AdamWConv.main_arg3))
      ∧ r.2.sem = fun _ => 0)

def quiescent_AdamWConvIdeal [hAdamWConvIdeal : Cert.AdamWConvIdeal.Facts] : Prop :=
  ∀ (m : (ℓ : Loc Cert.AdamWConvIdeal.nD Cert.AdamWConvIdeal.τ Cert.AdamWConvIdeal.sig) → Buf (Elt Ideal) ℓ) (g : Dev Cert.AdamWConvIdeal.nD → PrngReg), Pre_AdamWConvIdeal m →
    θ_run (Cert.AdamWConvIdeal.defs (F := Ideal)) (onTc (τ := Cert.AdamWConvIdeal.τ) (Cert.AdamWConvIdeal.main (F := Ideal))) ⟨m, fun _ => 0, g⟩ (fun r => (∀ c : Dev Cert.AdamWConvIdeal.nD,
      r.2.mem ((c.tc : Thread Cert.AdamWConvIdeal.nD Cert.AdamWConvIdeal.τ).loc Cert.AdamWConvIdeal.main_arg0) = m ((c.tc : Thread Cert.AdamWConvIdeal.nD Cert.AdamWConvIdeal.τ).loc Cert.AdamWConvIdeal.main_arg0)
      ∧ r.2.mem ((c.tc : Thread Cert.AdamWConvIdeal.nD Cert.AdamWConvIdeal.τ).loc Cert.AdamWConvIdeal.main_arg1) = m ((c.tc : Thread Cert.AdamWConvIdeal.nD Cert.AdamWConvIdeal.τ).loc Cert.AdamWConvIdeal.main_arg1)
      ∧ r.2.mem ((c.tc : Thread Cert.AdamWConvIdeal.nD Cert.AdamWConvIdeal.τ).loc Cert.AdamWConvIdeal.main_arg2) = m ((c.tc : Thread Cert.AdamWConvIdeal.nD Cert.AdamWConvIdeal.τ).loc Cert.AdamWConvIdeal.main_arg2)
      ∧ r.2.mem ((c.tc : Thread Cert.AdamWConvIdeal.nD Cert.AdamWConvIdeal.τ).loc Cert.AdamWConvIdeal.main_arg3) = m ((c.tc : Thread Cert.AdamWConvIdeal.nD Cert.AdamWConvIdeal.τ).loc Cert.AdamWConvIdeal.main_arg3))
      ∧ r.2.sem = fun _ => 0)

def quiescent_AdamWConvRefIdeal [hAdamWConvRefIdeal : Cert.AdamWConvRefIdeal.Facts] : Prop :=
  ∀ (m : (ℓ : Loc Cert.AdamWConvRefIdeal.nD Cert.AdamWConvRefIdeal.τ Cert.AdamWConvRefIdeal.sig) → Buf (Elt Ideal) ℓ) (g : Dev Cert.AdamWConvRefIdeal.nD → PrngReg), Pre_AdamWConvRefIdeal m →
    θ_run (Cert.AdamWConvRefIdeal.defs (F := Ideal)) (onTc (τ := Cert.AdamWConvRefIdeal.τ) (Cert.AdamWConvRefIdeal.main (F := Ideal))) ⟨m, fun _ => 0, g⟩ (fun r => (∀ c : Dev Cert.AdamWConvRefIdeal.nD,
      r.2.mem ((c.tc : Thread Cert.AdamWConvRefIdeal.nD Cert.AdamWConvRefIdeal.τ).loc Cert.AdamWConvRefIdeal.main_arg0) = m ((c.tc : Thread Cert.AdamWConvRefIdeal.nD Cert.AdamWConvRefIdeal.τ).loc Cert.AdamWConvRefIdeal.main_arg0)
      ∧ r.2.mem ((c.tc : Thread Cert.AdamWConvRefIdeal.nD Cert.AdamWConvRefIdeal.τ).loc Cert.AdamWConvRefIdeal.main_arg1) = m ((c.tc : Thread Cert.AdamWConvRefIdeal.nD Cert.AdamWConvRefIdeal.τ).loc Cert.AdamWConvRefIdeal.main_arg1)
      ∧ r.2.mem ((c.tc : Thread Cert.AdamWConvRefIdeal.nD Cert.AdamWConvRefIdeal.τ).loc Cert.AdamWConvRefIdeal.main_arg2) = m ((c.tc : Thread Cert.AdamWConvRefIdeal.nD Cert.AdamWConvRefIdeal.τ).loc Cert.AdamWConvRefIdeal.main_arg2)
      ∧ r.2.mem ((c.tc : Thread Cert.AdamWConvRefIdeal.nD Cert.AdamWConvRefIdeal.τ).loc Cert.AdamWConvRefIdeal.main_arg3) = m ((c.tc : Thread Cert.AdamWConvRefIdeal.nD Cert.AdamWConvRefIdeal.τ).loc Cert.AdamWConvRefIdeal.main_arg3))
      ∧ r.2.sem = fun _ => 0)

def quiescent_AdamWRank [hAdamWRank : Cert.AdamWRank.Facts] : Prop :=
  ∀ (m : (ℓ : Loc Cert.AdamWRank.nD Cert.AdamWRank.τ Cert.AdamWRank.sig) → Buf (Elt Bits) ℓ) (g : Dev Cert.AdamWRank.nD → PrngReg), Pre_AdamWRank m →
    θ_run (Cert.AdamWRank.defs (F := Bits)) (onTc (τ := Cert.AdamWRank.τ) (Cert.AdamWRank.main (F := Bits))) ⟨m, fun _ => 0, g⟩ (fun r => (∀ c : Dev Cert.AdamWRank.nD,
      r.2.mem ((c.tc : Thread Cert.AdamWRank.nD Cert.AdamWRank.τ).loc Cert.AdamWRank.main_arg0) = m ((c.tc : Thread Cert.AdamWRank.nD Cert.AdamWRank.τ).loc Cert.AdamWRank.main_arg0)
      ∧ r.2.mem ((c.tc : Thread Cert.AdamWRank.nD Cert.AdamWRank.τ).loc Cert.AdamWRank.main_arg1) = m ((c.tc : Thread Cert.AdamWRank.nD Cert.AdamWRank.τ).loc Cert.AdamWRank.main_arg1)
      ∧ r.2.mem ((c.tc : Thread Cert.AdamWRank.nD Cert.AdamWRank.τ).loc Cert.AdamWRank.main_arg2) = m ((c.tc : Thread Cert.AdamWRank.nD Cert.AdamWRank.τ).loc Cert.AdamWRank.main_arg2)
      ∧ r.2.mem ((c.tc : Thread Cert.AdamWRank.nD Cert.AdamWRank.τ).loc Cert.AdamWRank.main_arg3) = m ((c.tc : Thread Cert.AdamWRank.nD Cert.AdamWRank.τ).loc Cert.AdamWRank.main_arg3))
      ∧ r.2.sem = fun _ => 0)

def quiescent_AdamWRankIdeal [hAdamWRankIdeal : Cert.AdamWRankIdeal.Facts] : Prop :=
  ∀ (m : (ℓ : Loc Cert.AdamWRankIdeal.nD Cert.AdamWRankIdeal.τ Cert.AdamWRankIdeal.sig) → Buf (Elt Ideal) ℓ) (g : Dev Cert.AdamWRankIdeal.nD → PrngReg), Pre_AdamWRankIdeal m →
    θ_run (Cert.AdamWRankIdeal.defs (F := Ideal)) (onTc (τ := Cert.AdamWRankIdeal.τ) (Cert.AdamWRankIdeal.main (F := Ideal))) ⟨m, fun _ => 0, g⟩ (fun r => (∀ c : Dev Cert.AdamWRankIdeal.nD,
      r.2.mem ((c.tc : Thread Cert.AdamWRankIdeal.nD Cert.AdamWRankIdeal.τ).loc Cert.AdamWRankIdeal.main_arg0) = m ((c.tc : Thread Cert.AdamWRankIdeal.nD Cert.AdamWRankIdeal.τ).loc Cert.AdamWRankIdeal.main_arg0)
      ∧ r.2.mem ((c.tc : Thread Cert.AdamWRankIdeal.nD Cert.AdamWRankIdeal.τ).loc Cert.AdamWRankIdeal.main_arg1) = m ((c.tc : Thread Cert.AdamWRankIdeal.nD Cert.AdamWRankIdeal.τ).loc Cert.AdamWRankIdeal.main_arg1)
      ∧ r.2.mem ((c.tc : Thread Cert.AdamWRankIdeal.nD Cert.AdamWRankIdeal.τ).loc Cert.AdamWRankIdeal.main_arg2) = m ((c.tc : Thread Cert.AdamWRankIdeal.nD Cert.AdamWRankIdeal.τ).loc Cert.AdamWRankIdeal.main_arg2)
      ∧ r.2.mem ((c.tc : Thread Cert.AdamWRankIdeal.nD Cert.AdamWRankIdeal.τ).loc Cert.AdamWRankIdeal.main_arg3) = m ((c.tc : Thread Cert.AdamWRankIdeal.nD Cert.AdamWRankIdeal.τ).loc Cert.AdamWRankIdeal.main_arg3))
      ∧ r.2.sem = fun _ => 0)

def quiescent_AdamWRankRefIdeal [hAdamWRankRefIdeal : Cert.AdamWRankRefIdeal.Facts] : Prop :=
  ∀ (m : (ℓ : Loc Cert.AdamWRankRefIdeal.nD Cert.AdamWRankRefIdeal.τ Cert.AdamWRankRefIdeal.sig) → Buf (Elt Ideal) ℓ) (g : Dev Cert.AdamWRankRefIdeal.nD → PrngReg), Pre_AdamWRankRefIdeal m →
    θ_run (Cert.AdamWRankRefIdeal.defs (F := Ideal)) (onTc (τ := Cert.AdamWRankRefIdeal.τ) (Cert.AdamWRankRefIdeal.main (F := Ideal))) ⟨m, fun _ => 0, g⟩ (fun r => (∀ c : Dev Cert.AdamWRankRefIdeal.nD,
      r.2.mem ((c.tc : Thread Cert.AdamWRankRefIdeal.nD Cert.AdamWRankRefIdeal.τ).loc Cert.AdamWRankRefIdeal.main_arg0) = m ((c.tc : Thread Cert.AdamWRankRefIdeal.nD Cert.AdamWRankRefIdeal.τ).loc Cert.AdamWRankRefIdeal.main_arg0)
      ∧ r.2.mem ((c.tc : Thread Cert.AdamWRankRefIdeal.nD Cert.AdamWRankRefIdeal.τ).loc Cert.AdamWRankRefIdeal.main_arg1) = m ((c.tc : Thread Cert.AdamWRankRefIdeal.nD Cert.AdamWRankRefIdeal.τ).loc Cert.AdamWRankRefIdeal.main_arg1)
      ∧ r.2.mem ((c.tc : Thread Cert.AdamWRankRefIdeal.nD Cert.AdamWRankRefIdeal.τ).loc Cert.AdamWRankRefIdeal.main_arg2) = m ((c.tc : Thread Cert.AdamWRankRefIdeal.nD Cert.AdamWRankRefIdeal.τ).loc Cert.AdamWRankRefIdeal.main_arg2)
      ∧ r.2.mem ((c.tc : Thread Cert.AdamWRankRefIdeal.nD Cert.AdamWRankRefIdeal.τ).loc Cert.AdamWRankRefIdeal.main_arg3) = m ((c.tc : Thread Cert.AdamWRankRefIdeal.nD Cert.AdamWRankRefIdeal.τ).loc Cert.AdamWRankRefIdeal.main_arg3))
      ∧ r.2.sem = fun _ => 0)

def quiescent_AdamWGate [hAdamWGate : Cert.AdamWGate.Facts] : Prop :=
  ∀ (m : (ℓ : Loc Cert.AdamWGate.nD Cert.AdamWGate.τ Cert.AdamWGate.sig) → Buf (Elt Bits) ℓ) (g : Dev Cert.AdamWGate.nD → PrngReg), Pre_AdamWGate m →
    θ_run (Cert.AdamWGate.defs (F := Bits)) (onTc (τ := Cert.AdamWGate.τ) (Cert.AdamWGate.main (F := Bits))) ⟨m, fun _ => 0, g⟩ (fun r => (∀ c : Dev Cert.AdamWGate.nD,
      r.2.mem ((c.tc : Thread Cert.AdamWGate.nD Cert.AdamWGate.τ).loc Cert.AdamWGate.main_arg0) = m ((c.tc : Thread Cert.AdamWGate.nD Cert.AdamWGate.τ).loc Cert.AdamWGate.main_arg0)
      ∧ r.2.mem ((c.tc : Thread Cert.AdamWGate.nD Cert.AdamWGate.τ).loc Cert.AdamWGate.main_arg1) = m ((c.tc : Thread Cert.AdamWGate.nD Cert.AdamWGate.τ).loc Cert.AdamWGate.main_arg1)
      ∧ r.2.mem ((c.tc : Thread Cert.AdamWGate.nD Cert.AdamWGate.τ).loc Cert.AdamWGate.main_arg2) = m ((c.tc : Thread Cert.AdamWGate.nD Cert.AdamWGate.τ).loc Cert.AdamWGate.main_arg2)
      ∧ r.2.mem ((c.tc : Thread Cert.AdamWGate.nD Cert.AdamWGate.τ).loc Cert.AdamWGate.main_arg3) = m ((c.tc : Thread Cert.AdamWGate.nD Cert.AdamWGate.τ).loc Cert.AdamWGate.main_arg3))
      ∧ r.2.sem = fun _ => 0)

def quiescent_AdamWGateIdeal [hAdamWGateIdeal : Cert.AdamWGateIdeal.Facts] : Prop :=
  ∀ (m : (ℓ : Loc Cert.AdamWGateIdeal.nD Cert.AdamWGateIdeal.τ Cert.AdamWGateIdeal.sig) → Buf (Elt Ideal) ℓ) (g : Dev Cert.AdamWGateIdeal.nD → PrngReg), Pre_AdamWGateIdeal m →
    θ_run (Cert.AdamWGateIdeal.defs (F := Ideal)) (onTc (τ := Cert.AdamWGateIdeal.τ) (Cert.AdamWGateIdeal.main (F := Ideal))) ⟨m, fun _ => 0, g⟩ (fun r => (∀ c : Dev Cert.AdamWGateIdeal.nD,
      r.2.mem ((c.tc : Thread Cert.AdamWGateIdeal.nD Cert.AdamWGateIdeal.τ).loc Cert.AdamWGateIdeal.main_arg0) = m ((c.tc : Thread Cert.AdamWGateIdeal.nD Cert.AdamWGateIdeal.τ).loc Cert.AdamWGateIdeal.main_arg0)
      ∧ r.2.mem ((c.tc : Thread Cert.AdamWGateIdeal.nD Cert.AdamWGateIdeal.τ).loc Cert.AdamWGateIdeal.main_arg1) = m ((c.tc : Thread Cert.AdamWGateIdeal.nD Cert.AdamWGateIdeal.τ).loc Cert.AdamWGateIdeal.main_arg1)
      ∧ r.2.mem ((c.tc : Thread Cert.AdamWGateIdeal.nD Cert.AdamWGateIdeal.τ).loc Cert.AdamWGateIdeal.main_arg2) = m ((c.tc : Thread Cert.AdamWGateIdeal.nD Cert.AdamWGateIdeal.τ).loc Cert.AdamWGateIdeal.main_arg2)
      ∧ r.2.mem ((c.tc : Thread Cert.AdamWGateIdeal.nD Cert.AdamWGateIdeal.τ).loc Cert.AdamWGateIdeal.main_arg3) = m ((c.tc : Thread Cert.AdamWGateIdeal.nD Cert.AdamWGateIdeal.τ).loc Cert.AdamWGateIdeal.main_arg3))
      ∧ r.2.sem = fun _ => 0)

def quiescent_AdamWGateRefIdeal [hAdamWGateRefIdeal : Cert.AdamWGateRefIdeal.Facts] : Prop :=
  ∀ (m : (ℓ : Loc Cert.AdamWGateRefIdeal.nD Cert.AdamWGateRefIdeal.τ Cert.AdamWGateRefIdeal.sig) → Buf (Elt Ideal) ℓ) (g : Dev Cert.AdamWGateRefIdeal.nD → PrngReg), Pre_AdamWGateRefIdeal m →
    θ_run (Cert.AdamWGateRefIdeal.defs (F := Ideal)) (onTc (τ := Cert.AdamWGateRefIdeal.τ) (Cert.AdamWGateRefIdeal.main (F := Ideal))) ⟨m, fun _ => 0, g⟩ (fun r => (∀ c : Dev Cert.AdamWGateRefIdeal.nD,
      r.2.mem ((c.tc : Thread Cert.AdamWGateRefIdeal.nD Cert.AdamWGateRefIdeal.τ).loc Cert.AdamWGateRefIdeal.main_arg0) = m ((c.tc : Thread Cert.AdamWGateRefIdeal.nD Cert.AdamWGateRefIdeal.τ).loc Cert.AdamWGateRefIdeal.main_arg0)
      ∧ r.2.mem ((c.tc : Thread Cert.AdamWGateRefIdeal.nD Cert.AdamWGateRefIdeal.τ).loc Cert.AdamWGateRefIdeal.main_arg1) = m ((c.tc : Thread Cert.AdamWGateRefIdeal.nD Cert.AdamWGateRefIdeal.τ).loc Cert.AdamWGateRefIdeal.main_arg1)
      ∧ r.2.mem ((c.tc : Thread Cert.AdamWGateRefIdeal.nD Cert.AdamWGateRefIdeal.τ).loc Cert.AdamWGateRefIdeal.main_arg2) = m ((c.tc : Thread Cert.AdamWGateRefIdeal.nD Cert.AdamWGateRefIdeal.τ).loc Cert.AdamWGateRefIdeal.main_arg2)
      ∧ r.2.mem ((c.tc : Thread Cert.AdamWGateRefIdeal.nD Cert.AdamWGateRefIdeal.τ).loc Cert.AdamWGateRefIdeal.main_arg3) = m ((c.tc : Thread Cert.AdamWGateRefIdeal.nD Cert.AdamWGateRefIdeal.τ).loc Cert.AdamWGateRefIdeal.main_arg3))
      ∧ r.2.sem = fun _ => 0)

def quiescent_AdamWSmall [hAdamWSmall : Cert.AdamWSmall.Facts] : Prop :=
  ∀ (m : (ℓ : Loc Cert.AdamWSmall.nD Cert.AdamWSmall.τ Cert.AdamWSmall.sig) → Buf (Elt Bits) ℓ) (g : Dev Cert.AdamWSmall.nD → PrngReg), Pre_AdamWSmall m →
    θ_run (Cert.AdamWSmall.defs (F := Bits)) (onTc (τ := Cert.AdamWSmall.τ) (Cert.AdamWSmall.main (F := Bits))) ⟨m, fun _ => 0, g⟩ (fun r => (∀ c : Dev Cert.AdamWSmall.nD,
      r.2.mem ((c.tc : Thread Cert.AdamWSmall.nD Cert.AdamWSmall.τ).loc Cert.AdamWSmall.main_arg0) = m ((c.tc : Thread Cert.AdamWSmall.nD Cert.AdamWSmall.τ).loc Cert.AdamWSmall.main_arg0)
      ∧ r.2.mem ((c.tc : Thread Cert.AdamWSmall.nD Cert.AdamWSmall.τ).loc Cert.AdamWSmall.main_arg1) = m ((c.tc : Thread Cert.AdamWSmall.nD Cert.AdamWSmall.τ).loc Cert.AdamWSmall.main_arg1)
      ∧ r.2.mem ((c.tc : Thread Cert.AdamWSmall.nD Cert.AdamWSmall.τ).loc Cert.AdamWSmall.main_arg2) = m ((c.tc : Thread Cert.AdamWSmall.nD Cert.AdamWSmall.τ).loc Cert.AdamWSmall.main_arg2)
      ∧ r.2.mem ((c.tc : Thread Cert.AdamWSmall.nD Cert.AdamWSmall.τ).loc Cert.AdamWSmall.main_arg3) = m ((c.tc : Thread Cert.AdamWSmall.nD Cert.AdamWSmall.τ).loc Cert.AdamWSmall.main_arg3)
      ∧ r.2.mem ((c.tc : Thread Cert.AdamWSmall.nD Cert.AdamWSmall.τ).loc Cert.AdamWSmall.main_arg4) = m ((c.tc : Thread Cert.AdamWSmall.nD Cert.AdamWSmall.τ).loc Cert.AdamWSmall.main_arg4)
      ∧ r.2.mem ((c.tc : Thread Cert.AdamWSmall.nD Cert.AdamWSmall.τ).loc Cert.AdamWSmall.main_arg5) = m ((c.tc : Thread Cert.AdamWSmall.nD Cert.AdamWSmall.τ).loc Cert.AdamWSmall.main_arg5)
      ∧ r.2.mem ((c.tc : Thread Cert.AdamWSmall.nD Cert.AdamWSmall.τ).loc Cert.AdamWSmall.main_arg6) = m ((c.tc : Thread Cert.AdamWSmall.nD Cert.AdamWSmall.τ).loc Cert.AdamWSmall.main_arg6)
      ∧ r.2.mem ((c.tc : Thread Cert.AdamWSmall.nD Cert.AdamWSmall.τ).loc Cert.AdamWSmall.main_arg7) = m ((c.tc : Thread Cert.AdamWSmall.nD Cert.AdamWSmall.τ).loc Cert.AdamWSmall.main_arg7)
      ∧ r.2.mem ((c.tc : Thread Cert.AdamWSmall.nD Cert.AdamWSmall.τ).loc Cert.AdamWSmall.main_arg8) = m ((c.tc : Thread Cert.AdamWSmall.nD Cert.AdamWSmall.τ).loc Cert.AdamWSmall.main_arg8)
      ∧ r.2.mem ((c.tc : Thread Cert.AdamWSmall.nD Cert.AdamWSmall.τ).loc Cert.AdamWSmall.main_arg9) = m ((c.tc : Thread Cert.AdamWSmall.nD Cert.AdamWSmall.τ).loc Cert.AdamWSmall.main_arg9)
      ∧ r.2.mem ((c.tc : Thread Cert.AdamWSmall.nD Cert.AdamWSmall.τ).loc Cert.AdamWSmall.main_arg10) = m ((c.tc : Thread Cert.AdamWSmall.nD Cert.AdamWSmall.τ).loc Cert.AdamWSmall.main_arg10)
      ∧ r.2.mem ((c.tc : Thread Cert.AdamWSmall.nD Cert.AdamWSmall.τ).loc Cert.AdamWSmall.main_arg11) = m ((c.tc : Thread Cert.AdamWSmall.nD Cert.AdamWSmall.τ).loc Cert.AdamWSmall.main_arg11)
      ∧ r.2.mem ((c.tc : Thread Cert.AdamWSmall.nD Cert.AdamWSmall.τ).loc Cert.AdamWSmall.main_arg12) = m ((c.tc : Thread Cert.AdamWSmall.nD Cert.AdamWSmall.τ).loc Cert.AdamWSmall.main_arg12)
      ∧ r.2.mem ((c.tc : Thread Cert.AdamWSmall.nD Cert.AdamWSmall.τ).loc Cert.AdamWSmall.main_arg13) = m ((c.tc : Thread Cert.AdamWSmall.nD Cert.AdamWSmall.τ).loc Cert.AdamWSmall.main_arg13)
      ∧ r.2.mem ((c.tc : Thread Cert.AdamWSmall.nD Cert.AdamWSmall.τ).loc Cert.AdamWSmall.main_arg14) = m ((c.tc : Thread Cert.AdamWSmall.nD Cert.AdamWSmall.τ).loc Cert.AdamWSmall.main_arg14)
      ∧ r.2.mem ((c.tc : Thread Cert.AdamWSmall.nD Cert.AdamWSmall.τ).loc Cert.AdamWSmall.main_arg15) = m ((c.tc : Thread Cert.AdamWSmall.nD Cert.AdamWSmall.τ).loc Cert.AdamWSmall.main_arg15)
      ∧ r.2.mem ((c.tc : Thread Cert.AdamWSmall.nD Cert.AdamWSmall.τ).loc Cert.AdamWSmall.main_arg16) = m ((c.tc : Thread Cert.AdamWSmall.nD Cert.AdamWSmall.τ).loc Cert.AdamWSmall.main_arg16)
      ∧ r.2.mem ((c.tc : Thread Cert.AdamWSmall.nD Cert.AdamWSmall.τ).loc Cert.AdamWSmall.main_arg17) = m ((c.tc : Thread Cert.AdamWSmall.nD Cert.AdamWSmall.τ).loc Cert.AdamWSmall.main_arg17)
      ∧ r.2.mem ((c.tc : Thread Cert.AdamWSmall.nD Cert.AdamWSmall.τ).loc Cert.AdamWSmall.main_arg18) = m ((c.tc : Thread Cert.AdamWSmall.nD Cert.AdamWSmall.τ).loc Cert.AdamWSmall.main_arg18)
      ∧ r.2.mem ((c.tc : Thread Cert.AdamWSmall.nD Cert.AdamWSmall.τ).loc Cert.AdamWSmall.main_arg19) = m ((c.tc : Thread Cert.AdamWSmall.nD Cert.AdamWSmall.τ).loc Cert.AdamWSmall.main_arg19)
      ∧ r.2.mem ((c.tc : Thread Cert.AdamWSmall.nD Cert.AdamWSmall.τ).loc Cert.AdamWSmall.main_arg20) = m ((c.tc : Thread Cert.AdamWSmall.nD Cert.AdamWSmall.τ).loc Cert.AdamWSmall.main_arg20)
      ∧ r.2.mem ((c.tc : Thread Cert.AdamWSmall.nD Cert.AdamWSmall.τ).loc Cert.AdamWSmall.main_arg21) = m ((c.tc : Thread Cert.AdamWSmall.nD Cert.AdamWSmall.τ).loc Cert.AdamWSmall.main_arg21)
      ∧ r.2.mem ((c.tc : Thread Cert.AdamWSmall.nD Cert.AdamWSmall.τ).loc Cert.AdamWSmall.main_arg22) = m ((c.tc : Thread Cert.AdamWSmall.nD Cert.AdamWSmall.τ).loc Cert.AdamWSmall.main_arg22)
      ∧ r.2.mem ((c.tc : Thread Cert.AdamWSmall.nD Cert.AdamWSmall.τ).loc Cert.AdamWSmall.main_arg23) = m ((c.tc : Thread Cert.AdamWSmall.nD Cert.AdamWSmall.τ).loc Cert.AdamWSmall.main_arg23)
      ∧ r.2.mem ((c.tc : Thread Cert.AdamWSmall.nD Cert.AdamWSmall.τ).loc Cert.AdamWSmall.main_arg24) = m ((c.tc : Thread Cert.AdamWSmall.nD Cert.AdamWSmall.τ).loc Cert.AdamWSmall.main_arg24)
      ∧ r.2.mem ((c.tc : Thread Cert.AdamWSmall.nD Cert.AdamWSmall.τ).loc Cert.AdamWSmall.main_arg25) = m ((c.tc : Thread Cert.AdamWSmall.nD Cert.AdamWSmall.τ).loc Cert.AdamWSmall.main_arg25)
      ∧ r.2.mem ((c.tc : Thread Cert.AdamWSmall.nD Cert.AdamWSmall.τ).loc Cert.AdamWSmall.main_arg26) = m ((c.tc : Thread Cert.AdamWSmall.nD Cert.AdamWSmall.τ).loc Cert.AdamWSmall.main_arg26)
      ∧ r.2.mem ((c.tc : Thread Cert.AdamWSmall.nD Cert.AdamWSmall.τ).loc Cert.AdamWSmall.main_arg27) = m ((c.tc : Thread Cert.AdamWSmall.nD Cert.AdamWSmall.τ).loc Cert.AdamWSmall.main_arg27)
      ∧ r.2.mem ((c.tc : Thread Cert.AdamWSmall.nD Cert.AdamWSmall.τ).loc Cert.AdamWSmall.main_arg28) = m ((c.tc : Thread Cert.AdamWSmall.nD Cert.AdamWSmall.τ).loc Cert.AdamWSmall.main_arg28)
      ∧ r.2.mem ((c.tc : Thread Cert.AdamWSmall.nD Cert.AdamWSmall.τ).loc Cert.AdamWSmall.main_arg29) = m ((c.tc : Thread Cert.AdamWSmall.nD Cert.AdamWSmall.τ).loc Cert.AdamWSmall.main_arg29)
      ∧ r.2.mem ((c.tc : Thread Cert.AdamWSmall.nD Cert.AdamWSmall.τ).loc Cert.AdamWSmall.main_arg30) = m ((c.tc : Thread Cert.AdamWSmall.nD Cert.AdamWSmall.τ).loc Cert.AdamWSmall.main_arg30)
      ∧ r.2.mem ((c.tc : Thread Cert.AdamWSmall.nD Cert.AdamWSmall.τ).loc Cert.AdamWSmall.main_arg31) = m ((c.tc : Thread Cert.AdamWSmall.nD Cert.AdamWSmall.τ).loc Cert.AdamWSmall.main_arg31)
      ∧ r.2.mem ((c.tc : Thread Cert.AdamWSmall.nD Cert.AdamWSmall.τ).loc Cert.AdamWSmall.main_arg32) = m ((c.tc : Thread Cert.AdamWSmall.nD Cert.AdamWSmall.τ).loc Cert.AdamWSmall.main_arg32)
      ∧ r.2.mem ((c.tc : Thread Cert.AdamWSmall.nD Cert.AdamWSmall.τ).loc Cert.AdamWSmall.main_arg33) = m ((c.tc : Thread Cert.AdamWSmall.nD Cert.AdamWSmall.τ).loc Cert.AdamWSmall.main_arg33)
      ∧ r.2.mem ((c.tc : Thread Cert.AdamWSmall.nD Cert.AdamWSmall.τ).loc Cert.AdamWSmall.main_arg34) = m ((c.tc : Thread Cert.AdamWSmall.nD Cert.AdamWSmall.τ).loc Cert.AdamWSmall.main_arg34)
      ∧ r.2.mem ((c.tc : Thread Cert.AdamWSmall.nD Cert.AdamWSmall.τ).loc Cert.AdamWSmall.main_arg35) = m ((c.tc : Thread Cert.AdamWSmall.nD Cert.AdamWSmall.τ).loc Cert.AdamWSmall.main_arg35)
      ∧ r.2.mem ((c.tc : Thread Cert.AdamWSmall.nD Cert.AdamWSmall.τ).loc Cert.AdamWSmall.main_arg36) = m ((c.tc : Thread Cert.AdamWSmall.nD Cert.AdamWSmall.τ).loc Cert.AdamWSmall.main_arg36)
      ∧ r.2.mem ((c.tc : Thread Cert.AdamWSmall.nD Cert.AdamWSmall.τ).loc Cert.AdamWSmall.main_arg37) = m ((c.tc : Thread Cert.AdamWSmall.nD Cert.AdamWSmall.τ).loc Cert.AdamWSmall.main_arg37)
      ∧ r.2.mem ((c.tc : Thread Cert.AdamWSmall.nD Cert.AdamWSmall.τ).loc Cert.AdamWSmall.main_arg38) = m ((c.tc : Thread Cert.AdamWSmall.nD Cert.AdamWSmall.τ).loc Cert.AdamWSmall.main_arg38)
      ∧ r.2.mem ((c.tc : Thread Cert.AdamWSmall.nD Cert.AdamWSmall.τ).loc Cert.AdamWSmall.main_arg39) = m ((c.tc : Thread Cert.AdamWSmall.nD Cert.AdamWSmall.τ).loc Cert.AdamWSmall.main_arg39)
      ∧ r.2.mem ((c.tc : Thread Cert.AdamWSmall.nD Cert.AdamWSmall.τ).loc Cert.AdamWSmall.main_arg40) = m ((c.tc : Thread Cert.AdamWSmall.nD Cert.AdamWSmall.τ).loc Cert.AdamWSmall.main_arg40)
      ∧ r.2.mem ((c.tc : Thread Cert.AdamWSmall.nD Cert.AdamWSmall.τ).loc Cert.AdamWSmall.main_arg41) = m ((c.tc : Thread Cert.AdamWSmall.nD Cert.AdamWSmall.τ).loc Cert.AdamWSmall.main_arg41)
      ∧ r.2.mem ((c.tc : Thread Cert.AdamWSmall.nD Cert.AdamWSmall.τ).loc Cert.AdamWSmall.main_arg42) = m ((c.tc : Thread Cert.AdamWSmall.nD Cert.AdamWSmall.τ).loc Cert.AdamWSmall.main_arg42)
      ∧ r.2.mem ((c.tc : Thread Cert.AdamWSmall.nD Cert.AdamWSmall.τ).loc Cert.AdamWSmall.main_arg43) = m ((c.tc : Thread Cert.AdamWSmall.nD Cert.AdamWSmall.τ).loc Cert.AdamWSmall.main_arg43)
      ∧ r.2.mem ((c.tc : Thread Cert.AdamWSmall.nD Cert.AdamWSmall.τ).loc Cert.AdamWSmall.main_arg44) = m ((c.tc : Thread Cert.AdamWSmall.nD Cert.AdamWSmall.τ).loc Cert.AdamWSmall.main_arg44)
      ∧ r.2.mem ((c.tc : Thread Cert.AdamWSmall.nD Cert.AdamWSmall.τ).loc Cert.AdamWSmall.main_arg45) = m ((c.tc : Thread Cert.AdamWSmall.nD Cert.AdamWSmall.τ).loc Cert.AdamWSmall.main_arg45)
      ∧ r.2.mem ((c.tc : Thread Cert.AdamWSmall.nD Cert.AdamWSmall.τ).loc Cert.AdamWSmall.main_arg46) = m ((c.tc : Thread Cert.AdamWSmall.nD Cert.AdamWSmall.τ).loc Cert.AdamWSmall.main_arg46)
      ∧ r.2.mem ((c.tc : Thread Cert.AdamWSmall.nD Cert.AdamWSmall.τ).loc Cert.AdamWSmall.main_arg47) = m ((c.tc : Thread Cert.AdamWSmall.nD Cert.AdamWSmall.τ).loc Cert.AdamWSmall.main_arg47)
      ∧ r.2.mem ((c.tc : Thread Cert.AdamWSmall.nD Cert.AdamWSmall.τ).loc Cert.AdamWSmall.main_arg48) = m ((c.tc : Thread Cert.AdamWSmall.nD Cert.AdamWSmall.τ).loc Cert.AdamWSmall.main_arg48)
      ∧ r.2.mem ((c.tc : Thread Cert.AdamWSmall.nD Cert.AdamWSmall.τ).loc Cert.AdamWSmall.main_arg49) = m ((c.tc : Thread Cert.AdamWSmall.nD Cert.AdamWSmall.τ).loc Cert.AdamWSmall.main_arg49)
      ∧ r.2.mem ((c.tc : Thread Cert.AdamWSmall.nD Cert.AdamWSmall.τ).loc Cert.AdamWSmall.main_arg50) = m ((c.tc : Thread Cert.AdamWSmall.nD Cert.AdamWSmall.τ).loc Cert.AdamWSmall.main_arg50)
      ∧ r.2.mem ((c.tc : Thread Cert.AdamWSmall.nD Cert.AdamWSmall.τ).loc Cert.AdamWSmall.main_arg51) = m ((c.tc : Thread Cert.AdamWSmall.nD Cert.AdamWSmall.τ).loc Cert.AdamWSmall.main_arg51)
      ∧ r.2.mem ((c.tc : Thread Cert.AdamWSmall.nD Cert.AdamWSmall.τ).loc Cert.AdamWSmall.main_arg52) = m ((c.tc : Thread Cert.AdamWSmall.nD Cert.AdamWSmall.τ).loc Cert.AdamWSmall.main_arg52)
      ∧ r.2.mem ((c.tc : Thread Cert.AdamWSmall.nD Cert.AdamWSmall.τ).loc Cert.AdamWSmall.main_arg53) = m ((c.tc : Thread Cert.AdamWSmall.nD Cert.AdamWSmall.τ).loc Cert.AdamWSmall.main_arg53)
      ∧ r.2.mem ((c.tc : Thread Cert.AdamWSmall.nD Cert.AdamWSmall.τ).loc Cert.AdamWSmall.main_arg54) = m ((c.tc : Thread Cert.AdamWSmall.nD Cert.AdamWSmall.τ).loc Cert.AdamWSmall.main_arg54))
      ∧ r.2.sem = fun _ => 0)

def quiescent_AdamWSmallIdeal [hAdamWSmallIdeal : Cert.AdamWSmallIdeal.Facts] : Prop :=
  ∀ (m : (ℓ : Loc Cert.AdamWSmallIdeal.nD Cert.AdamWSmallIdeal.τ Cert.AdamWSmallIdeal.sig) → Buf (Elt Ideal) ℓ) (g : Dev Cert.AdamWSmallIdeal.nD → PrngReg), Pre_AdamWSmallIdeal m →
    θ_run (Cert.AdamWSmallIdeal.defs (F := Ideal)) (onTc (τ := Cert.AdamWSmallIdeal.τ) (Cert.AdamWSmallIdeal.main (F := Ideal))) ⟨m, fun _ => 0, g⟩ (fun r => (∀ c : Dev Cert.AdamWSmallIdeal.nD,
      r.2.mem ((c.tc : Thread Cert.AdamWSmallIdeal.nD Cert.AdamWSmallIdeal.τ).loc Cert.AdamWSmallIdeal.main_arg0) = m ((c.tc : Thread Cert.AdamWSmallIdeal.nD Cert.AdamWSmallIdeal.τ).loc Cert.AdamWSmallIdeal.main_arg0)
      ∧ r.2.mem ((c.tc : Thread Cert.AdamWSmallIdeal.nD Cert.AdamWSmallIdeal.τ).loc Cert.AdamWSmallIdeal.main_arg1) = m ((c.tc : Thread Cert.AdamWSmallIdeal.nD Cert.AdamWSmallIdeal.τ).loc Cert.AdamWSmallIdeal.main_arg1)
      ∧ r.2.mem ((c.tc : Thread Cert.AdamWSmallIdeal.nD Cert.AdamWSmallIdeal.τ).loc Cert.AdamWSmallIdeal.main_arg2) = m ((c.tc : Thread Cert.AdamWSmallIdeal.nD Cert.AdamWSmallIdeal.τ).loc Cert.AdamWSmallIdeal.main_arg2)
      ∧ r.2.mem ((c.tc : Thread Cert.AdamWSmallIdeal.nD Cert.AdamWSmallIdeal.τ).loc Cert.AdamWSmallIdeal.main_arg3) = m ((c.tc : Thread Cert.AdamWSmallIdeal.nD Cert.AdamWSmallIdeal.τ).loc Cert.AdamWSmallIdeal.main_arg3)
      ∧ r.2.mem ((c.tc : Thread Cert.AdamWSmallIdeal.nD Cert.AdamWSmallIdeal.τ).loc Cert.AdamWSmallIdeal.main_arg4) = m ((c.tc : Thread Cert.AdamWSmallIdeal.nD Cert.AdamWSmallIdeal.τ).loc Cert.AdamWSmallIdeal.main_arg4)
      ∧ r.2.mem ((c.tc : Thread Cert.AdamWSmallIdeal.nD Cert.AdamWSmallIdeal.τ).loc Cert.AdamWSmallIdeal.main_arg5) = m ((c.tc : Thread Cert.AdamWSmallIdeal.nD Cert.AdamWSmallIdeal.τ).loc Cert.AdamWSmallIdeal.main_arg5)
      ∧ r.2.mem ((c.tc : Thread Cert.AdamWSmallIdeal.nD Cert.AdamWSmallIdeal.τ).loc Cert.AdamWSmallIdeal.main_arg6) = m ((c.tc : Thread Cert.AdamWSmallIdeal.nD Cert.AdamWSmallIdeal.τ).loc Cert.AdamWSmallIdeal.main_arg6)
      ∧ r.2.mem ((c.tc : Thread Cert.AdamWSmallIdeal.nD Cert.AdamWSmallIdeal.τ).loc Cert.AdamWSmallIdeal.main_arg7) = m ((c.tc : Thread Cert.AdamWSmallIdeal.nD Cert.AdamWSmallIdeal.τ).loc Cert.AdamWSmallIdeal.main_arg7)
      ∧ r.2.mem ((c.tc : Thread Cert.AdamWSmallIdeal.nD Cert.AdamWSmallIdeal.τ).loc Cert.AdamWSmallIdeal.main_arg8) = m ((c.tc : Thread Cert.AdamWSmallIdeal.nD Cert.AdamWSmallIdeal.τ).loc Cert.AdamWSmallIdeal.main_arg8)
      ∧ r.2.mem ((c.tc : Thread Cert.AdamWSmallIdeal.nD Cert.AdamWSmallIdeal.τ).loc Cert.AdamWSmallIdeal.main_arg9) = m ((c.tc : Thread Cert.AdamWSmallIdeal.nD Cert.AdamWSmallIdeal.τ).loc Cert.AdamWSmallIdeal.main_arg9)
      ∧ r.2.mem ((c.tc : Thread Cert.AdamWSmallIdeal.nD Cert.AdamWSmallIdeal.τ).loc Cert.AdamWSmallIdeal.main_arg10) = m ((c.tc : Thread Cert.AdamWSmallIdeal.nD Cert.AdamWSmallIdeal.τ).loc Cert.AdamWSmallIdeal.main_arg10)
      ∧ r.2.mem ((c.tc : Thread Cert.AdamWSmallIdeal.nD Cert.AdamWSmallIdeal.τ).loc Cert.AdamWSmallIdeal.main_arg11) = m ((c.tc : Thread Cert.AdamWSmallIdeal.nD Cert.AdamWSmallIdeal.τ).loc Cert.AdamWSmallIdeal.main_arg11)
      ∧ r.2.mem ((c.tc : Thread Cert.AdamWSmallIdeal.nD Cert.AdamWSmallIdeal.τ).loc Cert.AdamWSmallIdeal.main_arg12) = m ((c.tc : Thread Cert.AdamWSmallIdeal.nD Cert.AdamWSmallIdeal.τ).loc Cert.AdamWSmallIdeal.main_arg12)
      ∧ r.2.mem ((c.tc : Thread Cert.AdamWSmallIdeal.nD Cert.AdamWSmallIdeal.τ).loc Cert.AdamWSmallIdeal.main_arg13) = m ((c.tc : Thread Cert.AdamWSmallIdeal.nD Cert.AdamWSmallIdeal.τ).loc Cert.AdamWSmallIdeal.main_arg13)
      ∧ r.2.mem ((c.tc : Thread Cert.AdamWSmallIdeal.nD Cert.AdamWSmallIdeal.τ).loc Cert.AdamWSmallIdeal.main_arg14) = m ((c.tc : Thread Cert.AdamWSmallIdeal.nD Cert.AdamWSmallIdeal.τ).loc Cert.AdamWSmallIdeal.main_arg14)
      ∧ r.2.mem ((c.tc : Thread Cert.AdamWSmallIdeal.nD Cert.AdamWSmallIdeal.τ).loc Cert.AdamWSmallIdeal.main_arg15) = m ((c.tc : Thread Cert.AdamWSmallIdeal.nD Cert.AdamWSmallIdeal.τ).loc Cert.AdamWSmallIdeal.main_arg15)
      ∧ r.2.mem ((c.tc : Thread Cert.AdamWSmallIdeal.nD Cert.AdamWSmallIdeal.τ).loc Cert.AdamWSmallIdeal.main_arg16) = m ((c.tc : Thread Cert.AdamWSmallIdeal.nD Cert.AdamWSmallIdeal.τ).loc Cert.AdamWSmallIdeal.main_arg16)
      ∧ r.2.mem ((c.tc : Thread Cert.AdamWSmallIdeal.nD Cert.AdamWSmallIdeal.τ).loc Cert.AdamWSmallIdeal.main_arg17) = m ((c.tc : Thread Cert.AdamWSmallIdeal.nD Cert.AdamWSmallIdeal.τ).loc Cert.AdamWSmallIdeal.main_arg17)
      ∧ r.2.mem ((c.tc : Thread Cert.AdamWSmallIdeal.nD Cert.AdamWSmallIdeal.τ).loc Cert.AdamWSmallIdeal.main_arg18) = m ((c.tc : Thread Cert.AdamWSmallIdeal.nD Cert.AdamWSmallIdeal.τ).loc Cert.AdamWSmallIdeal.main_arg18)
      ∧ r.2.mem ((c.tc : Thread Cert.AdamWSmallIdeal.nD Cert.AdamWSmallIdeal.τ).loc Cert.AdamWSmallIdeal.main_arg19) = m ((c.tc : Thread Cert.AdamWSmallIdeal.nD Cert.AdamWSmallIdeal.τ).loc Cert.AdamWSmallIdeal.main_arg19)
      ∧ r.2.mem ((c.tc : Thread Cert.AdamWSmallIdeal.nD Cert.AdamWSmallIdeal.τ).loc Cert.AdamWSmallIdeal.main_arg20) = m ((c.tc : Thread Cert.AdamWSmallIdeal.nD Cert.AdamWSmallIdeal.τ).loc Cert.AdamWSmallIdeal.main_arg20)
      ∧ r.2.mem ((c.tc : Thread Cert.AdamWSmallIdeal.nD Cert.AdamWSmallIdeal.τ).loc Cert.AdamWSmallIdeal.main_arg21) = m ((c.tc : Thread Cert.AdamWSmallIdeal.nD Cert.AdamWSmallIdeal.τ).loc Cert.AdamWSmallIdeal.main_arg21)
      ∧ r.2.mem ((c.tc : Thread Cert.AdamWSmallIdeal.nD Cert.AdamWSmallIdeal.τ).loc Cert.AdamWSmallIdeal.main_arg22) = m ((c.tc : Thread Cert.AdamWSmallIdeal.nD Cert.AdamWSmallIdeal.τ).loc Cert.AdamWSmallIdeal.main_arg22)
      ∧ r.2.mem ((c.tc : Thread Cert.AdamWSmallIdeal.nD Cert.AdamWSmallIdeal.τ).loc Cert.AdamWSmallIdeal.main_arg23) = m ((c.tc : Thread Cert.AdamWSmallIdeal.nD Cert.AdamWSmallIdeal.τ).loc Cert.AdamWSmallIdeal.main_arg23)
      ∧ r.2.mem ((c.tc : Thread Cert.AdamWSmallIdeal.nD Cert.AdamWSmallIdeal.τ).loc Cert.AdamWSmallIdeal.main_arg24) = m ((c.tc : Thread Cert.AdamWSmallIdeal.nD Cert.AdamWSmallIdeal.τ).loc Cert.AdamWSmallIdeal.main_arg24)
      ∧ r.2.mem ((c.tc : Thread Cert.AdamWSmallIdeal.nD Cert.AdamWSmallIdeal.τ).loc Cert.AdamWSmallIdeal.main_arg25) = m ((c.tc : Thread Cert.AdamWSmallIdeal.nD Cert.AdamWSmallIdeal.τ).loc Cert.AdamWSmallIdeal.main_arg25)
      ∧ r.2.mem ((c.tc : Thread Cert.AdamWSmallIdeal.nD Cert.AdamWSmallIdeal.τ).loc Cert.AdamWSmallIdeal.main_arg26) = m ((c.tc : Thread Cert.AdamWSmallIdeal.nD Cert.AdamWSmallIdeal.τ).loc Cert.AdamWSmallIdeal.main_arg26)
      ∧ r.2.mem ((c.tc : Thread Cert.AdamWSmallIdeal.nD Cert.AdamWSmallIdeal.τ).loc Cert.AdamWSmallIdeal.main_arg27) = m ((c.tc : Thread Cert.AdamWSmallIdeal.nD Cert.AdamWSmallIdeal.τ).loc Cert.AdamWSmallIdeal.main_arg27)
      ∧ r.2.mem ((c.tc : Thread Cert.AdamWSmallIdeal.nD Cert.AdamWSmallIdeal.τ).loc Cert.AdamWSmallIdeal.main_arg28) = m ((c.tc : Thread Cert.AdamWSmallIdeal.nD Cert.AdamWSmallIdeal.τ).loc Cert.AdamWSmallIdeal.main_arg28)
      ∧ r.2.mem ((c.tc : Thread Cert.AdamWSmallIdeal.nD Cert.AdamWSmallIdeal.τ).loc Cert.AdamWSmallIdeal.main_arg29) = m ((c.tc : Thread Cert.AdamWSmallIdeal.nD Cert.AdamWSmallIdeal.τ).loc Cert.AdamWSmallIdeal.main_arg29)
      ∧ r.2.mem ((c.tc : Thread Cert.AdamWSmallIdeal.nD Cert.AdamWSmallIdeal.τ).loc Cert.AdamWSmallIdeal.main_arg30) = m ((c.tc : Thread Cert.AdamWSmallIdeal.nD Cert.AdamWSmallIdeal.τ).loc Cert.AdamWSmallIdeal.main_arg30)
      ∧ r.2.mem ((c.tc : Thread Cert.AdamWSmallIdeal.nD Cert.AdamWSmallIdeal.τ).loc Cert.AdamWSmallIdeal.main_arg31) = m ((c.tc : Thread Cert.AdamWSmallIdeal.nD Cert.AdamWSmallIdeal.τ).loc Cert.AdamWSmallIdeal.main_arg31)
      ∧ r.2.mem ((c.tc : Thread Cert.AdamWSmallIdeal.nD Cert.AdamWSmallIdeal.τ).loc Cert.AdamWSmallIdeal.main_arg32) = m ((c.tc : Thread Cert.AdamWSmallIdeal.nD Cert.AdamWSmallIdeal.τ).loc Cert.AdamWSmallIdeal.main_arg32)
      ∧ r.2.mem ((c.tc : Thread Cert.AdamWSmallIdeal.nD Cert.AdamWSmallIdeal.τ).loc Cert.AdamWSmallIdeal.main_arg33) = m ((c.tc : Thread Cert.AdamWSmallIdeal.nD Cert.AdamWSmallIdeal.τ).loc Cert.AdamWSmallIdeal.main_arg33)
      ∧ r.2.mem ((c.tc : Thread Cert.AdamWSmallIdeal.nD Cert.AdamWSmallIdeal.τ).loc Cert.AdamWSmallIdeal.main_arg34) = m ((c.tc : Thread Cert.AdamWSmallIdeal.nD Cert.AdamWSmallIdeal.τ).loc Cert.AdamWSmallIdeal.main_arg34)
      ∧ r.2.mem ((c.tc : Thread Cert.AdamWSmallIdeal.nD Cert.AdamWSmallIdeal.τ).loc Cert.AdamWSmallIdeal.main_arg35) = m ((c.tc : Thread Cert.AdamWSmallIdeal.nD Cert.AdamWSmallIdeal.τ).loc Cert.AdamWSmallIdeal.main_arg35)
      ∧ r.2.mem ((c.tc : Thread Cert.AdamWSmallIdeal.nD Cert.AdamWSmallIdeal.τ).loc Cert.AdamWSmallIdeal.main_arg36) = m ((c.tc : Thread Cert.AdamWSmallIdeal.nD Cert.AdamWSmallIdeal.τ).loc Cert.AdamWSmallIdeal.main_arg36)
      ∧ r.2.mem ((c.tc : Thread Cert.AdamWSmallIdeal.nD Cert.AdamWSmallIdeal.τ).loc Cert.AdamWSmallIdeal.main_arg37) = m ((c.tc : Thread Cert.AdamWSmallIdeal.nD Cert.AdamWSmallIdeal.τ).loc Cert.AdamWSmallIdeal.main_arg37)
      ∧ r.2.mem ((c.tc : Thread Cert.AdamWSmallIdeal.nD Cert.AdamWSmallIdeal.τ).loc Cert.AdamWSmallIdeal.main_arg38) = m ((c.tc : Thread Cert.AdamWSmallIdeal.nD Cert.AdamWSmallIdeal.τ).loc Cert.AdamWSmallIdeal.main_arg38)
      ∧ r.2.mem ((c.tc : Thread Cert.AdamWSmallIdeal.nD Cert.AdamWSmallIdeal.τ).loc Cert.AdamWSmallIdeal.main_arg39) = m ((c.tc : Thread Cert.AdamWSmallIdeal.nD Cert.AdamWSmallIdeal.τ).loc Cert.AdamWSmallIdeal.main_arg39)
      ∧ r.2.mem ((c.tc : Thread Cert.AdamWSmallIdeal.nD Cert.AdamWSmallIdeal.τ).loc Cert.AdamWSmallIdeal.main_arg40) = m ((c.tc : Thread Cert.AdamWSmallIdeal.nD Cert.AdamWSmallIdeal.τ).loc Cert.AdamWSmallIdeal.main_arg40)
      ∧ r.2.mem ((c.tc : Thread Cert.AdamWSmallIdeal.nD Cert.AdamWSmallIdeal.τ).loc Cert.AdamWSmallIdeal.main_arg41) = m ((c.tc : Thread Cert.AdamWSmallIdeal.nD Cert.AdamWSmallIdeal.τ).loc Cert.AdamWSmallIdeal.main_arg41)
      ∧ r.2.mem ((c.tc : Thread Cert.AdamWSmallIdeal.nD Cert.AdamWSmallIdeal.τ).loc Cert.AdamWSmallIdeal.main_arg42) = m ((c.tc : Thread Cert.AdamWSmallIdeal.nD Cert.AdamWSmallIdeal.τ).loc Cert.AdamWSmallIdeal.main_arg42)
      ∧ r.2.mem ((c.tc : Thread Cert.AdamWSmallIdeal.nD Cert.AdamWSmallIdeal.τ).loc Cert.AdamWSmallIdeal.main_arg43) = m ((c.tc : Thread Cert.AdamWSmallIdeal.nD Cert.AdamWSmallIdeal.τ).loc Cert.AdamWSmallIdeal.main_arg43)
      ∧ r.2.mem ((c.tc : Thread Cert.AdamWSmallIdeal.nD Cert.AdamWSmallIdeal.τ).loc Cert.AdamWSmallIdeal.main_arg44) = m ((c.tc : Thread Cert.AdamWSmallIdeal.nD Cert.AdamWSmallIdeal.τ).loc Cert.AdamWSmallIdeal.main_arg44)
      ∧ r.2.mem ((c.tc : Thread Cert.AdamWSmallIdeal.nD Cert.AdamWSmallIdeal.τ).loc Cert.AdamWSmallIdeal.main_arg45) = m ((c.tc : Thread Cert.AdamWSmallIdeal.nD Cert.AdamWSmallIdeal.τ).loc Cert.AdamWSmallIdeal.main_arg45)
      ∧ r.2.mem ((c.tc : Thread Cert.AdamWSmallIdeal.nD Cert.AdamWSmallIdeal.τ).loc Cert.AdamWSmallIdeal.main_arg46) = m ((c.tc : Thread Cert.AdamWSmallIdeal.nD Cert.AdamWSmallIdeal.τ).loc Cert.AdamWSmallIdeal.main_arg46)
      ∧ r.2.mem ((c.tc : Thread Cert.AdamWSmallIdeal.nD Cert.AdamWSmallIdeal.τ).loc Cert.AdamWSmallIdeal.main_arg47) = m ((c.tc : Thread Cert.AdamWSmallIdeal.nD Cert.AdamWSmallIdeal.τ).loc Cert.AdamWSmallIdeal.main_arg47)
      ∧ r.2.mem ((c.tc : Thread Cert.AdamWSmallIdeal.nD Cert.AdamWSmallIdeal.τ).loc Cert.AdamWSmallIdeal.main_arg48) = m ((c.tc : Thread Cert.AdamWSmallIdeal.nD Cert.AdamWSmallIdeal.τ).loc Cert.AdamWSmallIdeal.main_arg48)
      ∧ r.2.mem ((c.tc : Thread Cert.AdamWSmallIdeal.nD Cert.AdamWSmallIdeal.τ).loc Cert.AdamWSmallIdeal.main_arg49) = m ((c.tc : Thread Cert.AdamWSmallIdeal.nD Cert.AdamWSmallIdeal.τ).loc Cert.AdamWSmallIdeal.main_arg49)
      ∧ r.2.mem ((c.tc : Thread Cert.AdamWSmallIdeal.nD Cert.AdamWSmallIdeal.τ).loc Cert.AdamWSmallIdeal.main_arg50) = m ((c.tc : Thread Cert.AdamWSmallIdeal.nD Cert.AdamWSmallIdeal.τ).loc Cert.AdamWSmallIdeal.main_arg50)
      ∧ r.2.mem ((c.tc : Thread Cert.AdamWSmallIdeal.nD Cert.AdamWSmallIdeal.τ).loc Cert.AdamWSmallIdeal.main_arg51) = m ((c.tc : Thread Cert.AdamWSmallIdeal.nD Cert.AdamWSmallIdeal.τ).loc Cert.AdamWSmallIdeal.main_arg51)
      ∧ r.2.mem ((c.tc : Thread Cert.AdamWSmallIdeal.nD Cert.AdamWSmallIdeal.τ).loc Cert.AdamWSmallIdeal.main_arg52) = m ((c.tc : Thread Cert.AdamWSmallIdeal.nD Cert.AdamWSmallIdeal.τ).loc Cert.AdamWSmallIdeal.main_arg52)
      ∧ r.2.mem ((c.tc : Thread Cert.AdamWSmallIdeal.nD Cert.AdamWSmallIdeal.τ).loc Cert.AdamWSmallIdeal.main_arg53) = m ((c.tc : Thread Cert.AdamWSmallIdeal.nD Cert.AdamWSmallIdeal.τ).loc Cert.AdamWSmallIdeal.main_arg53)
      ∧ r.2.mem ((c.tc : Thread Cert.AdamWSmallIdeal.nD Cert.AdamWSmallIdeal.τ).loc Cert.AdamWSmallIdeal.main_arg54) = m ((c.tc : Thread Cert.AdamWSmallIdeal.nD Cert.AdamWSmallIdeal.τ).loc Cert.AdamWSmallIdeal.main_arg54))
      ∧ r.2.sem = fun _ => 0)

def quiescent_AdamWSmallRefIdeal [hAdamWSmallRefIdeal : Cert.AdamWSmallRefIdeal.Facts] : Prop :=
  ∀ (m : (ℓ : Loc Cert.AdamWSmallRefIdeal.nD Cert.AdamWSmallRefIdeal.τ Cert.AdamWSmallRefIdeal.sig) → Buf (Elt Ideal) ℓ) (g : Dev Cert.AdamWSmallRefIdeal.nD → PrngReg), Pre_AdamWSmallRefIdeal m →
    θ_run (Cert.AdamWSmallRefIdeal.defs (F := Ideal)) (onTc (τ := Cert.AdamWSmallRefIdeal.τ) (Cert.AdamWSmallRefIdeal.main (F := Ideal))) ⟨m, fun _ => 0, g⟩ (fun r => (∀ c : Dev Cert.AdamWSmallRefIdeal.nD,
      r.2.mem ((c.tc : Thread Cert.AdamWSmallRefIdeal.nD Cert.AdamWSmallRefIdeal.τ).loc Cert.AdamWSmallRefIdeal.main_arg0) = m ((c.tc : Thread Cert.AdamWSmallRefIdeal.nD Cert.AdamWSmallRefIdeal.τ).loc Cert.AdamWSmallRefIdeal.main_arg0)
      ∧ r.2.mem ((c.tc : Thread Cert.AdamWSmallRefIdeal.nD Cert.AdamWSmallRefIdeal.τ).loc Cert.AdamWSmallRefIdeal.main_arg1) = m ((c.tc : Thread Cert.AdamWSmallRefIdeal.nD Cert.AdamWSmallRefIdeal.τ).loc Cert.AdamWSmallRefIdeal.main_arg1)
      ∧ r.2.mem ((c.tc : Thread Cert.AdamWSmallRefIdeal.nD Cert.AdamWSmallRefIdeal.τ).loc Cert.AdamWSmallRefIdeal.main_arg2) = m ((c.tc : Thread Cert.AdamWSmallRefIdeal.nD Cert.AdamWSmallRefIdeal.τ).loc Cert.AdamWSmallRefIdeal.main_arg2)
      ∧ r.2.mem ((c.tc : Thread Cert.AdamWSmallRefIdeal.nD Cert.AdamWSmallRefIdeal.τ).loc Cert.AdamWSmallRefIdeal.main_arg3) = m ((c.tc : Thread Cert.AdamWSmallRefIdeal.nD Cert.AdamWSmallRefIdeal.τ).loc Cert.AdamWSmallRefIdeal.main_arg3)
      ∧ r.2.mem ((c.tc : Thread Cert.AdamWSmallRefIdeal.nD Cert.AdamWSmallRefIdeal.τ).loc Cert.AdamWSmallRefIdeal.main_arg4) = m ((c.tc : Thread Cert.AdamWSmallRefIdeal.nD Cert.AdamWSmallRefIdeal.τ).loc Cert.AdamWSmallRefIdeal.main_arg4)
      ∧ r.2.mem ((c.tc : Thread Cert.AdamWSmallRefIdeal.nD Cert.AdamWSmallRefIdeal.τ).loc Cert.AdamWSmallRefIdeal.main_arg5) = m ((c.tc : Thread Cert.AdamWSmallRefIdeal.nD Cert.AdamWSmallRefIdeal.τ).loc Cert.AdamWSmallRefIdeal.main_arg5)
      ∧ r.2.mem ((c.tc : Thread Cert.AdamWSmallRefIdeal.nD Cert.AdamWSmallRefIdeal.τ).loc Cert.AdamWSmallRefIdeal.main_arg6) = m ((c.tc : Thread Cert.AdamWSmallRefIdeal.nD Cert.AdamWSmallRefIdeal.τ).loc Cert.AdamWSmallRefIdeal.main_arg6)
      ∧ r.2.mem ((c.tc : Thread Cert.AdamWSmallRefIdeal.nD Cert.AdamWSmallRefIdeal.τ).loc Cert.AdamWSmallRefIdeal.main_arg7) = m ((c.tc : Thread Cert.AdamWSmallRefIdeal.nD Cert.AdamWSmallRefIdeal.τ).loc Cert.AdamWSmallRefIdeal.main_arg7)
      ∧ r.2.mem ((c.tc : Thread Cert.AdamWSmallRefIdeal.nD Cert.AdamWSmallRefIdeal.τ).loc Cert.AdamWSmallRefIdeal.main_arg8) = m ((c.tc : Thread Cert.AdamWSmallRefIdeal.nD Cert.AdamWSmallRefIdeal.τ).loc Cert.AdamWSmallRefIdeal.main_arg8)
      ∧ r.2.mem ((c.tc : Thread Cert.AdamWSmallRefIdeal.nD Cert.AdamWSmallRefIdeal.τ).loc Cert.AdamWSmallRefIdeal.main_arg9) = m ((c.tc : Thread Cert.AdamWSmallRefIdeal.nD Cert.AdamWSmallRefIdeal.τ).loc Cert.AdamWSmallRefIdeal.main_arg9)
      ∧ r.2.mem ((c.tc : Thread Cert.AdamWSmallRefIdeal.nD Cert.AdamWSmallRefIdeal.τ).loc Cert.AdamWSmallRefIdeal.main_arg10) = m ((c.tc : Thread Cert.AdamWSmallRefIdeal.nD Cert.AdamWSmallRefIdeal.τ).loc Cert.AdamWSmallRefIdeal.main_arg10)
      ∧ r.2.mem ((c.tc : Thread Cert.AdamWSmallRefIdeal.nD Cert.AdamWSmallRefIdeal.τ).loc Cert.AdamWSmallRefIdeal.main_arg11) = m ((c.tc : Thread Cert.AdamWSmallRefIdeal.nD Cert.AdamWSmallRefIdeal.τ).loc Cert.AdamWSmallRefIdeal.main_arg11)
      ∧ r.2.mem ((c.tc : Thread Cert.AdamWSmallRefIdeal.nD Cert.AdamWSmallRefIdeal.τ).loc Cert.AdamWSmallRefIdeal.main_arg12) = m ((c.tc : Thread Cert.AdamWSmallRefIdeal.nD Cert.AdamWSmallRefIdeal.τ).loc Cert.AdamWSmallRefIdeal.main_arg12)
      ∧ r.2.mem ((c.tc : Thread Cert.AdamWSmallRefIdeal.nD Cert.AdamWSmallRefIdeal.τ).loc Cert.AdamWSmallRefIdeal.main_arg13) = m ((c.tc : Thread Cert.AdamWSmallRefIdeal.nD Cert.AdamWSmallRefIdeal.τ).loc Cert.AdamWSmallRefIdeal.main_arg13)
      ∧ r.2.mem ((c.tc : Thread Cert.AdamWSmallRefIdeal.nD Cert.AdamWSmallRefIdeal.τ).loc Cert.AdamWSmallRefIdeal.main_arg14) = m ((c.tc : Thread Cert.AdamWSmallRefIdeal.nD Cert.AdamWSmallRefIdeal.τ).loc Cert.AdamWSmallRefIdeal.main_arg14)
      ∧ r.2.mem ((c.tc : Thread Cert.AdamWSmallRefIdeal.nD Cert.AdamWSmallRefIdeal.τ).loc Cert.AdamWSmallRefIdeal.main_arg15) = m ((c.tc : Thread Cert.AdamWSmallRefIdeal.nD Cert.AdamWSmallRefIdeal.τ).loc Cert.AdamWSmallRefIdeal.main_arg15)
      ∧ r.2.mem ((c.tc : Thread Cert.AdamWSmallRefIdeal.nD Cert.AdamWSmallRefIdeal.τ).loc Cert.AdamWSmallRefIdeal.main_arg16) = m ((c.tc : Thread Cert.AdamWSmallRefIdeal.nD Cert.AdamWSmallRefIdeal.τ).loc Cert.AdamWSmallRefIdeal.main_arg16)
      ∧ r.2.mem ((c.tc : Thread Cert.AdamWSmallRefIdeal.nD Cert.AdamWSmallRefIdeal.τ).loc Cert.AdamWSmallRefIdeal.main_arg17) = m ((c.tc : Thread Cert.AdamWSmallRefIdeal.nD Cert.AdamWSmallRefIdeal.τ).loc Cert.AdamWSmallRefIdeal.main_arg17)
      ∧ r.2.mem ((c.tc : Thread Cert.AdamWSmallRefIdeal.nD Cert.AdamWSmallRefIdeal.τ).loc Cert.AdamWSmallRefIdeal.main_arg18) = m ((c.tc : Thread Cert.AdamWSmallRefIdeal.nD Cert.AdamWSmallRefIdeal.τ).loc Cert.AdamWSmallRefIdeal.main_arg18)
      ∧ r.2.mem ((c.tc : Thread Cert.AdamWSmallRefIdeal.nD Cert.AdamWSmallRefIdeal.τ).loc Cert.AdamWSmallRefIdeal.main_arg19) = m ((c.tc : Thread Cert.AdamWSmallRefIdeal.nD Cert.AdamWSmallRefIdeal.τ).loc Cert.AdamWSmallRefIdeal.main_arg19)
      ∧ r.2.mem ((c.tc : Thread Cert.AdamWSmallRefIdeal.nD Cert.AdamWSmallRefIdeal.τ).loc Cert.AdamWSmallRefIdeal.main_arg20) = m ((c.tc : Thread Cert.AdamWSmallRefIdeal.nD Cert.AdamWSmallRefIdeal.τ).loc Cert.AdamWSmallRefIdeal.main_arg20)
      ∧ r.2.mem ((c.tc : Thread Cert.AdamWSmallRefIdeal.nD Cert.AdamWSmallRefIdeal.τ).loc Cert.AdamWSmallRefIdeal.main_arg21) = m ((c.tc : Thread Cert.AdamWSmallRefIdeal.nD Cert.AdamWSmallRefIdeal.τ).loc Cert.AdamWSmallRefIdeal.main_arg21)
      ∧ r.2.mem ((c.tc : Thread Cert.AdamWSmallRefIdeal.nD Cert.AdamWSmallRefIdeal.τ).loc Cert.AdamWSmallRefIdeal.main_arg22) = m ((c.tc : Thread Cert.AdamWSmallRefIdeal.nD Cert.AdamWSmallRefIdeal.τ).loc Cert.AdamWSmallRefIdeal.main_arg22)
      ∧ r.2.mem ((c.tc : Thread Cert.AdamWSmallRefIdeal.nD Cert.AdamWSmallRefIdeal.τ).loc Cert.AdamWSmallRefIdeal.main_arg23) = m ((c.tc : Thread Cert.AdamWSmallRefIdeal.nD Cert.AdamWSmallRefIdeal.τ).loc Cert.AdamWSmallRefIdeal.main_arg23)
      ∧ r.2.mem ((c.tc : Thread Cert.AdamWSmallRefIdeal.nD Cert.AdamWSmallRefIdeal.τ).loc Cert.AdamWSmallRefIdeal.main_arg24) = m ((c.tc : Thread Cert.AdamWSmallRefIdeal.nD Cert.AdamWSmallRefIdeal.τ).loc Cert.AdamWSmallRefIdeal.main_arg24)
      ∧ r.2.mem ((c.tc : Thread Cert.AdamWSmallRefIdeal.nD Cert.AdamWSmallRefIdeal.τ).loc Cert.AdamWSmallRefIdeal.main_arg25) = m ((c.tc : Thread Cert.AdamWSmallRefIdeal.nD Cert.AdamWSmallRefIdeal.τ).loc Cert.AdamWSmallRefIdeal.main_arg25)
      ∧ r.2.mem ((c.tc : Thread Cert.AdamWSmallRefIdeal.nD Cert.AdamWSmallRefIdeal.τ).loc Cert.AdamWSmallRefIdeal.main_arg26) = m ((c.tc : Thread Cert.AdamWSmallRefIdeal.nD Cert.AdamWSmallRefIdeal.τ).loc Cert.AdamWSmallRefIdeal.main_arg26)
      ∧ r.2.mem ((c.tc : Thread Cert.AdamWSmallRefIdeal.nD Cert.AdamWSmallRefIdeal.τ).loc Cert.AdamWSmallRefIdeal.main_arg27) = m ((c.tc : Thread Cert.AdamWSmallRefIdeal.nD Cert.AdamWSmallRefIdeal.τ).loc Cert.AdamWSmallRefIdeal.main_arg27)
      ∧ r.2.mem ((c.tc : Thread Cert.AdamWSmallRefIdeal.nD Cert.AdamWSmallRefIdeal.τ).loc Cert.AdamWSmallRefIdeal.main_arg28) = m ((c.tc : Thread Cert.AdamWSmallRefIdeal.nD Cert.AdamWSmallRefIdeal.τ).loc Cert.AdamWSmallRefIdeal.main_arg28)
      ∧ r.2.mem ((c.tc : Thread Cert.AdamWSmallRefIdeal.nD Cert.AdamWSmallRefIdeal.τ).loc Cert.AdamWSmallRefIdeal.main_arg29) = m ((c.tc : Thread Cert.AdamWSmallRefIdeal.nD Cert.AdamWSmallRefIdeal.τ).loc Cert.AdamWSmallRefIdeal.main_arg29)
      ∧ r.2.mem ((c.tc : Thread Cert.AdamWSmallRefIdeal.nD Cert.AdamWSmallRefIdeal.τ).loc Cert.AdamWSmallRefIdeal.main_arg30) = m ((c.tc : Thread Cert.AdamWSmallRefIdeal.nD Cert.AdamWSmallRefIdeal.τ).loc Cert.AdamWSmallRefIdeal.main_arg30)
      ∧ r.2.mem ((c.tc : Thread Cert.AdamWSmallRefIdeal.nD Cert.AdamWSmallRefIdeal.τ).loc Cert.AdamWSmallRefIdeal.main_arg31) = m ((c.tc : Thread Cert.AdamWSmallRefIdeal.nD Cert.AdamWSmallRefIdeal.τ).loc Cert.AdamWSmallRefIdeal.main_arg31)
      ∧ r.2.mem ((c.tc : Thread Cert.AdamWSmallRefIdeal.nD Cert.AdamWSmallRefIdeal.τ).loc Cert.AdamWSmallRefIdeal.main_arg32) = m ((c.tc : Thread Cert.AdamWSmallRefIdeal.nD Cert.AdamWSmallRefIdeal.τ).loc Cert.AdamWSmallRefIdeal.main_arg32)
      ∧ r.2.mem ((c.tc : Thread Cert.AdamWSmallRefIdeal.nD Cert.AdamWSmallRefIdeal.τ).loc Cert.AdamWSmallRefIdeal.main_arg33) = m ((c.tc : Thread Cert.AdamWSmallRefIdeal.nD Cert.AdamWSmallRefIdeal.τ).loc Cert.AdamWSmallRefIdeal.main_arg33)
      ∧ r.2.mem ((c.tc : Thread Cert.AdamWSmallRefIdeal.nD Cert.AdamWSmallRefIdeal.τ).loc Cert.AdamWSmallRefIdeal.main_arg34) = m ((c.tc : Thread Cert.AdamWSmallRefIdeal.nD Cert.AdamWSmallRefIdeal.τ).loc Cert.AdamWSmallRefIdeal.main_arg34)
      ∧ r.2.mem ((c.tc : Thread Cert.AdamWSmallRefIdeal.nD Cert.AdamWSmallRefIdeal.τ).loc Cert.AdamWSmallRefIdeal.main_arg35) = m ((c.tc : Thread Cert.AdamWSmallRefIdeal.nD Cert.AdamWSmallRefIdeal.τ).loc Cert.AdamWSmallRefIdeal.main_arg35)
      ∧ r.2.mem ((c.tc : Thread Cert.AdamWSmallRefIdeal.nD Cert.AdamWSmallRefIdeal.τ).loc Cert.AdamWSmallRefIdeal.main_arg36) = m ((c.tc : Thread Cert.AdamWSmallRefIdeal.nD Cert.AdamWSmallRefIdeal.τ).loc Cert.AdamWSmallRefIdeal.main_arg36)
      ∧ r.2.mem ((c.tc : Thread Cert.AdamWSmallRefIdeal.nD Cert.AdamWSmallRefIdeal.τ).loc Cert.AdamWSmallRefIdeal.main_arg37) = m ((c.tc : Thread Cert.AdamWSmallRefIdeal.nD Cert.AdamWSmallRefIdeal.τ).loc Cert.AdamWSmallRefIdeal.main_arg37)
      ∧ r.2.mem ((c.tc : Thread Cert.AdamWSmallRefIdeal.nD Cert.AdamWSmallRefIdeal.τ).loc Cert.AdamWSmallRefIdeal.main_arg38) = m ((c.tc : Thread Cert.AdamWSmallRefIdeal.nD Cert.AdamWSmallRefIdeal.τ).loc Cert.AdamWSmallRefIdeal.main_arg38)
      ∧ r.2.mem ((c.tc : Thread Cert.AdamWSmallRefIdeal.nD Cert.AdamWSmallRefIdeal.τ).loc Cert.AdamWSmallRefIdeal.main_arg39) = m ((c.tc : Thread Cert.AdamWSmallRefIdeal.nD Cert.AdamWSmallRefIdeal.τ).loc Cert.AdamWSmallRefIdeal.main_arg39)
      ∧ r.2.mem ((c.tc : Thread Cert.AdamWSmallRefIdeal.nD Cert.AdamWSmallRefIdeal.τ).loc Cert.AdamWSmallRefIdeal.main_arg40) = m ((c.tc : Thread Cert.AdamWSmallRefIdeal.nD Cert.AdamWSmallRefIdeal.τ).loc Cert.AdamWSmallRefIdeal.main_arg40)
      ∧ r.2.mem ((c.tc : Thread Cert.AdamWSmallRefIdeal.nD Cert.AdamWSmallRefIdeal.τ).loc Cert.AdamWSmallRefIdeal.main_arg41) = m ((c.tc : Thread Cert.AdamWSmallRefIdeal.nD Cert.AdamWSmallRefIdeal.τ).loc Cert.AdamWSmallRefIdeal.main_arg41)
      ∧ r.2.mem ((c.tc : Thread Cert.AdamWSmallRefIdeal.nD Cert.AdamWSmallRefIdeal.τ).loc Cert.AdamWSmallRefIdeal.main_arg42) = m ((c.tc : Thread Cert.AdamWSmallRefIdeal.nD Cert.AdamWSmallRefIdeal.τ).loc Cert.AdamWSmallRefIdeal.main_arg42)
      ∧ r.2.mem ((c.tc : Thread Cert.AdamWSmallRefIdeal.nD Cert.AdamWSmallRefIdeal.τ).loc Cert.AdamWSmallRefIdeal.main_arg43) = m ((c.tc : Thread Cert.AdamWSmallRefIdeal.nD Cert.AdamWSmallRefIdeal.τ).loc Cert.AdamWSmallRefIdeal.main_arg43)
      ∧ r.2.mem ((c.tc : Thread Cert.AdamWSmallRefIdeal.nD Cert.AdamWSmallRefIdeal.τ).loc Cert.AdamWSmallRefIdeal.main_arg44) = m ((c.tc : Thread Cert.AdamWSmallRefIdeal.nD Cert.AdamWSmallRefIdeal.τ).loc Cert.AdamWSmallRefIdeal.main_arg44)
      ∧ r.2.mem ((c.tc : Thread Cert.AdamWSmallRefIdeal.nD Cert.AdamWSmallRefIdeal.τ).loc Cert.AdamWSmallRefIdeal.main_arg45) = m ((c.tc : Thread Cert.AdamWSmallRefIdeal.nD Cert.AdamWSmallRefIdeal.τ).loc Cert.AdamWSmallRefIdeal.main_arg45)
      ∧ r.2.mem ((c.tc : Thread Cert.AdamWSmallRefIdeal.nD Cert.AdamWSmallRefIdeal.τ).loc Cert.AdamWSmallRefIdeal.main_arg46) = m ((c.tc : Thread Cert.AdamWSmallRefIdeal.nD Cert.AdamWSmallRefIdeal.τ).loc Cert.AdamWSmallRefIdeal.main_arg46)
      ∧ r.2.mem ((c.tc : Thread Cert.AdamWSmallRefIdeal.nD Cert.AdamWSmallRefIdeal.τ).loc Cert.AdamWSmallRefIdeal.main_arg47) = m ((c.tc : Thread Cert.AdamWSmallRefIdeal.nD Cert.AdamWSmallRefIdeal.τ).loc Cert.AdamWSmallRefIdeal.main_arg47)
      ∧ r.2.mem ((c.tc : Thread Cert.AdamWSmallRefIdeal.nD Cert.AdamWSmallRefIdeal.τ).loc Cert.AdamWSmallRefIdeal.main_arg48) = m ((c.tc : Thread Cert.AdamWSmallRefIdeal.nD Cert.AdamWSmallRefIdeal.τ).loc Cert.AdamWSmallRefIdeal.main_arg48)
      ∧ r.2.mem ((c.tc : Thread Cert.AdamWSmallRefIdeal.nD Cert.AdamWSmallRefIdeal.τ).loc Cert.AdamWSmallRefIdeal.main_arg49) = m ((c.tc : Thread Cert.AdamWSmallRefIdeal.nD Cert.AdamWSmallRefIdeal.τ).loc Cert.AdamWSmallRefIdeal.main_arg49)
      ∧ r.2.mem ((c.tc : Thread Cert.AdamWSmallRefIdeal.nD Cert.AdamWSmallRefIdeal.τ).loc Cert.AdamWSmallRefIdeal.main_arg50) = m ((c.tc : Thread Cert.AdamWSmallRefIdeal.nD Cert.AdamWSmallRefIdeal.τ).loc Cert.AdamWSmallRefIdeal.main_arg50)
      ∧ r.2.mem ((c.tc : Thread Cert.AdamWSmallRefIdeal.nD Cert.AdamWSmallRefIdeal.τ).loc Cert.AdamWSmallRefIdeal.main_arg51) = m ((c.tc : Thread Cert.AdamWSmallRefIdeal.nD Cert.AdamWSmallRefIdeal.τ).loc Cert.AdamWSmallRefIdeal.main_arg51)
      ∧ r.2.mem ((c.tc : Thread Cert.AdamWSmallRefIdeal.nD Cert.AdamWSmallRefIdeal.τ).loc Cert.AdamWSmallRefIdeal.main_arg52) = m ((c.tc : Thread Cert.AdamWSmallRefIdeal.nD Cert.AdamWSmallRefIdeal.τ).loc Cert.AdamWSmallRefIdeal.main_arg52)
      ∧ r.2.mem ((c.tc : Thread Cert.AdamWSmallRefIdeal.nD Cert.AdamWSmallRefIdeal.τ).loc Cert.AdamWSmallRefIdeal.main_arg53) = m ((c.tc : Thread Cert.AdamWSmallRefIdeal.nD Cert.AdamWSmallRefIdeal.τ).loc Cert.AdamWSmallRefIdeal.main_arg53)
      ∧ r.2.mem ((c.tc : Thread Cert.AdamWSmallRefIdeal.nD Cert.AdamWSmallRefIdeal.τ).loc Cert.AdamWSmallRefIdeal.main_arg54) = m ((c.tc : Thread Cert.AdamWSmallRefIdeal.nD Cert.AdamWSmallRefIdeal.τ).loc Cert.AdamWSmallRefIdeal.main_arg54))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1))
      ∧ r.2.sem = fun _ => 0)

def quiescent_NormMemFwd [hNormMemFwd : Cert.NormMemFwd.Facts] : Prop :=
  ∀ (m : (ℓ : Loc Cert.NormMemFwd.nD Cert.NormMemFwd.τ Cert.NormMemFwd.sig) → Buf (Elt Bits) ℓ) (g : Dev Cert.NormMemFwd.nD → PrngReg), Pre_NormMemFwd m →
    θ_run (Cert.NormMemFwd.defs (F := Bits)) (onTc (τ := Cert.NormMemFwd.τ) (Cert.NormMemFwd.main (F := Bits))) ⟨m, fun _ => 0, g⟩ (fun r => (∀ c : Dev Cert.NormMemFwd.nD,
      r.2.mem ((c.tc : Thread Cert.NormMemFwd.nD Cert.NormMemFwd.τ).loc Cert.NormMemFwd.main_arg0) = m ((c.tc : Thread Cert.NormMemFwd.nD Cert.NormMemFwd.τ).loc Cert.NormMemFwd.main_arg0)
      ∧ r.2.mem ((c.tc : Thread Cert.NormMemFwd.nD Cert.NormMemFwd.τ).loc Cert.NormMemFwd.main_arg1) = m ((c.tc : Thread Cert.NormMemFwd.nD Cert.NormMemFwd.τ).loc Cert.NormMemFwd.main_arg1))
      ∧ r.2.sem = fun _ => 0)

def quiescent_NormMemFwdIdeal [hNormMemFwdIdeal : Cert.NormMemFwdIdeal.Facts] : Prop :=
  ∀ (m : (ℓ : Loc Cert.NormMemFwdIdeal.nD Cert.NormMemFwdIdeal.τ Cert.NormMemFwdIdeal.sig) → Buf (Elt Ideal) ℓ) (g : Dev Cert.NormMemFwdIdeal.nD → PrngReg), Pre_NormMemFwdIdeal m →
    θ_run (Cert.NormMemFwdIdeal.defs (F := Ideal)) (onTc (τ := Cert.NormMemFwdIdeal.τ) (Cert.NormMemFwdIdeal.main (F := Ideal))) ⟨m, fun _ => 0, g⟩ (fun r => (∀ c : Dev Cert.NormMemFwdIdeal.nD,
      r.2.mem ((c.tc : Thread Cert.NormMemFwdIdeal.nD Cert.NormMemFwdIdeal.τ).loc Cert.NormMemFwdIdeal.main_arg0) = m ((c.tc : Thread Cert.NormMemFwdIdeal.nD Cert.NormMemFwdIdeal.τ).loc Cert.NormMemFwdIdeal.main_arg0)
      ∧ r.2.mem ((c.tc : Thread Cert.NormMemFwdIdeal.nD Cert.NormMemFwdIdeal.τ).loc Cert.NormMemFwdIdeal.main_arg1) = m ((c.tc : Thread Cert.NormMemFwdIdeal.nD Cert.NormMemFwdIdeal.τ).loc Cert.NormMemFwdIdeal.main_arg1))
      ∧ r.2.sem = fun _ => 0)

def quiescent_NormMemFwdRefIdeal [hNormMemFwdRefIdeal : Cert.NormMemFwdRefIdeal.Facts] : Prop :=
  ∀ (m : (ℓ : Loc Cert.NormMemFwdRefIdeal.nD Cert.NormMemFwdRefIdeal.τ Cert.NormMemFwdRefIdeal.sig) → Buf (Elt Ideal) ℓ) (g : Dev Cert.NormMemFwdRefIdeal.nD → PrngReg), Pre_NormMemFwdRefIdeal m →
    θ_run (Cert.NormMemFwdRefIdeal.defs (F := Ideal)) (onTc (τ := Cert.NormMemFwdRefIdeal.τ) (Cert.NormMemFwdRefIdeal.main (F := Ideal))) ⟨m, fun _ => 0, g⟩ (fun r => (∀ c : Dev Cert.NormMemFwdRefIdeal.nD,
      r.2.mem ((c.tc : Thread Cert.NormMemFwdRefIdeal.nD Cert.NormMemFwdRefIdeal.τ).loc Cert.NormMemFwdRefIdeal.main_arg0) = m ((c.tc : Thread Cert.NormMemFwdRefIdeal.nD Cert.NormMemFwdRefIdeal.τ).loc Cert.NormMemFwdRefIdeal.main_arg0)
      ∧ r.2.mem ((c.tc : Thread Cert.NormMemFwdRefIdeal.nD Cert.NormMemFwdRefIdeal.τ).loc Cert.NormMemFwdRefIdeal.main_arg1) = m ((c.tc : Thread Cert.NormMemFwdRefIdeal.nD Cert.NormMemFwdRefIdeal.τ).loc Cert.NormMemFwdRefIdeal.main_arg1))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2))
      ∧ r.2.sem = fun _ => 0)

def preserves_Kernel_KernelIdeal : Prop :=
  True

def algebraic_KernelIdeal_ReferenceIdeal_pre_arguments_finite [hKernelIdeal : Cert.KernelIdeal.Facts] [hReferenceIdeal : Cert.ReferenceIdeal.Facts] [hPre_arguments_finite : Cert.Pre_arguments_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_arguments_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_v64) = v1 c
          ∧ r.2.mem ((c.tc : Thread Cert.ReferenceIdeal.nD Cert.ReferenceIdeal.τ).loc Cert.ReferenceIdeal.main_v63) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Ffn1_Ffn1Ideal : Prop :=
  True

def algebraic_Ffn1Ideal_Ffn1RefIdeal [hFfn1Ideal : Cert.Ffn1Ideal.Facts] [hFfn1RefIdeal : Cert.Ffn1RefIdeal.Facts] : Prop :=
  ∀ (m : (ℓ : Loc Cert.Ffn1Ideal.nD Cert.Ffn1Ideal.τ Cert.Ffn1Ideal.sig) → Buf (Elt Ideal) ℓ) (g : Dev Cert.Ffn1Ideal.nD → PrngReg)
    (m' : (ℓ : Loc Cert.Ffn1RefIdeal.nD Cert.Ffn1RefIdeal.τ Cert.Ffn1RefIdeal.sig) → Buf (Elt Ideal) ℓ) (g' : Dev Cert.Ffn1RefIdeal.nD → PrngReg), Pre_Ffn1Ideal m →
    (∀ c : Dev Cert.Ffn1Ideal.nD,
      m' ((c.tc : Thread Cert.Ffn1RefIdeal.nD Cert.Ffn1RefIdeal.τ).loc Cert.Ffn1RefIdeal.main_arg0) = m ((c.tc : Thread Cert.Ffn1Ideal.nD Cert.Ffn1Ideal.τ).loc Cert.Ffn1Ideal.main_arg0)
      ∧ m' ((c.tc : Thread Cert.Ffn1RefIdeal.nD Cert.Ffn1RefIdeal.τ).loc Cert.Ffn1RefIdeal.main_arg1) = m ((c.tc : Thread Cert.Ffn1Ideal.nD Cert.Ffn1Ideal.τ).loc Cert.Ffn1Ideal.main_arg1)) →
    ∃ (v0 : (c : Dev Cert.Ffn1Ideal.nD) → Buf (Elt Ideal) ((c.tc : Thread Cert.Ffn1Ideal.nD Cert.Ffn1Ideal.τ).loc Cert.Ffn1Ideal.main_v0_0)) (v1 : (c : Dev Cert.Ffn1Ideal.nD) → Buf (Elt Ideal) ((c.tc : Thread Cert.Ffn1Ideal.nD Cert.Ffn1Ideal.τ).loc Cert.Ffn1Ideal.main_v0_1)),
      θ_run (Cert.Ffn1Ideal.defs (F := Ideal)) (onTc (τ := Cert.Ffn1Ideal.τ) (Cert.Ffn1Ideal.main (F := Ideal))) ⟨m, fun _ => 0, g⟩ (fun r => ∀ c : Dev Cert.Ffn1Ideal.nD,
          r.2.mem ((c.tc : Thread Cert.Ffn1Ideal.nD Cert.Ffn1Ideal.τ).loc Cert.Ffn1Ideal.main_v0_0) = v0 c
          ∧ r.2.mem ((c.tc : Thread Cert.Ffn1Ideal.nD Cert.Ffn1Ideal.τ).loc Cert.Ffn1Ideal.main_v0_1) = v1 c
          ∧ r.2.mem ((c.tc : Thread Cert.Ffn1Ideal.nD Cert.Ffn1Ideal.τ).loc Cert.Ffn1Ideal.main_arg0) = m ((c.tc : Thread Cert.Ffn1Ideal.nD Cert.Ffn1Ideal.τ).loc Cert.Ffn1Ideal.main_arg0)
          ∧ r.2.mem ((c.tc : Thread Cert.Ffn1Ideal.nD Cert.Ffn1Ideal.τ).loc Cert.Ffn1Ideal.main_arg1) = m ((c.tc : Thread Cert.Ffn1Ideal.nD Cert.Ffn1Ideal.τ).loc Cert.Ffn1Ideal.main_arg1))
      ∧ θ_run (Cert.Ffn1RefIdeal.defs (F := Ideal)) (onTc (τ := Cert.Ffn1RefIdeal.τ) (Cert.Ffn1RefIdeal.main (F := Ideal))) ⟨m', fun _ => 0, g'⟩ (fun r => ∀ c : Dev Cert.Ffn1RefIdeal.nD,
          r.2.mem ((c.tc : Thread Cert.Ffn1RefIdeal.nD Cert.Ffn1RefIdeal.τ).loc Cert.Ffn1RefIdeal.main_v7) = v0 c
          ∧ r.2.mem ((c.tc : Thread Cert.Ffn1RefIdeal.nD Cert.Ffn1RefIdeal.τ).loc Cert.Ffn1RefIdeal.main_v8) = v1 c
          ∧ r.2.mem ((c.tc : Thread Cert.Ffn1RefIdeal.nD Cert.Ffn1RefIdeal.τ).loc Cert.Ffn1RefIdeal.main_arg0) = m' ((c.tc : Thread Cert.Ffn1RefIdeal.nD Cert.Ffn1RefIdeal.τ).loc Cert.Ffn1RefIdeal.main_arg0)
          ∧ r.2.mem ((c.tc : Thread Cert.Ffn1RefIdeal.nD Cert.Ffn1RefIdeal.τ).loc Cert.Ffn1RefIdeal.main_arg1) = m' ((c.tc : Thread Cert.Ffn1RefIdeal.nD Cert.Ffn1RefIdeal.τ).loc Cert.Ffn1RefIdeal.main_arg1))

def preserves_Ffn2_Ffn2Ideal : Prop :=
  True

def algebraic_Ffn2Ideal_Ffn2RefIdeal [hFfn2Ideal : Cert.Ffn2Ideal.Facts] [hFfn2RefIdeal : Cert.Ffn2RefIdeal.Facts] : Prop :=
  ∀ (m : (ℓ : Loc Cert.Ffn2Ideal.nD Cert.Ffn2Ideal.τ Cert.Ffn2Ideal.sig) → Buf (Elt Ideal) ℓ) (g : Dev Cert.Ffn2Ideal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2Ideal m →
    (∀ c : Dev Cert.Ffn2Ideal.nD,
      m' ((c.tc : Thread Cert.Ffn2RefIdeal.nD Cert.Ffn2RefIdeal.τ).loc Cert.Ffn2RefIdeal.main_arg0) = m ((c.tc : Thread Cert.Ffn2Ideal.nD Cert.Ffn2Ideal.τ).loc Cert.Ffn2Ideal.main_arg0)
      ∧ m' ((c.tc : Thread Cert.Ffn2RefIdeal.nD Cert.Ffn2RefIdeal.τ).loc Cert.Ffn2RefIdeal.main_arg1) = m ((c.tc : Thread Cert.Ffn2Ideal.nD Cert.Ffn2Ideal.τ).loc Cert.Ffn2Ideal.main_arg1)
      ∧ m' ((c.tc : Thread Cert.Ffn2RefIdeal.nD Cert.Ffn2RefIdeal.τ).loc Cert.Ffn2RefIdeal.main_arg2) = m ((c.tc : Thread Cert.Ffn2Ideal.nD Cert.Ffn2Ideal.τ).loc Cert.Ffn2Ideal.main_arg2)) →
    ∃ (v0 : (c : Dev Cert.Ffn2Ideal.nD) → Buf (Elt Ideal) ((c.tc : Thread Cert.Ffn2Ideal.nD Cert.Ffn2Ideal.τ).loc Cert.Ffn2Ideal.main_v0)),
      θ_run (Cert.Ffn2Ideal.defs (F := Ideal)) (onTc (τ := Cert.Ffn2Ideal.τ) (Cert.Ffn2Ideal.main (F := Ideal))) ⟨m, fun _ => 0, g⟩ (fun r => ∀ c : Dev Cert.Ffn2Ideal.nD,
          r.2.mem ((c.tc : Thread Cert.Ffn2Ideal.nD Cert.Ffn2Ideal.τ).loc Cert.Ffn2Ideal.main_v0) = v0 c
          ∧ r.2.mem ((c.tc : Thread Cert.Ffn2Ideal.nD Cert.Ffn2Ideal.τ).loc Cert.Ffn2Ideal.main_arg0) = m ((c.tc : Thread Cert.Ffn2Ideal.nD Cert.Ffn2Ideal.τ).loc Cert.Ffn2Ideal.main_arg0)
          ∧ r.2.mem ((c.tc : Thread Cert.Ffn2Ideal.nD Cert.Ffn2Ideal.τ).loc Cert.Ffn2Ideal.main_arg1) = m ((c.tc : Thread Cert.Ffn2Ideal.nD Cert.Ffn2Ideal.τ).loc Cert.Ffn2Ideal.main_arg1)
          ∧ r.2.mem ((c.tc : Thread Cert.Ffn2Ideal.nD Cert.Ffn2Ideal.τ).loc Cert.Ffn2Ideal.main_arg2) = m ((c.tc : Thread Cert.Ffn2Ideal.nD Cert.Ffn2Ideal.τ).loc Cert.Ffn2Ideal.main_arg2))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v3) = v0 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2))

def preserves_FfnDw2_FfnDw2Ideal : Prop :=
  True

def algebraic_FfnDw2Ideal_FfnDw2RefIdeal [hFfnDw2Ideal : Cert.FfnDw2Ideal.Facts] [hFfnDw2RefIdeal : Cert.FfnDw2RefIdeal.Facts] : Prop :=
  ∀ (m : (ℓ : Loc Cert.FfnDw2Ideal.nD Cert.FfnDw2Ideal.τ Cert.FfnDw2Ideal.sig) → Buf (Elt Ideal) ℓ) (g : Dev Cert.FfnDw2Ideal.nD → PrngReg)
    (m' : (ℓ : Loc Cert.FfnDw2RefIdeal.nD Cert.FfnDw2RefIdeal.τ Cert.FfnDw2RefIdeal.sig) → Buf (Elt Ideal) ℓ) (g' : Dev Cert.FfnDw2RefIdeal.nD → PrngReg), Pre_FfnDw2Ideal m →
    (∀ c : Dev Cert.FfnDw2Ideal.nD,
      m' ((c.tc : Thread Cert.FfnDw2RefIdeal.nD Cert.FfnDw2RefIdeal.τ).loc Cert.FfnDw2RefIdeal.main_arg0) = m ((c.tc : Thread Cert.FfnDw2Ideal.nD Cert.FfnDw2Ideal.τ).loc Cert.FfnDw2Ideal.main_arg0)
      ∧ m' ((c.tc : Thread Cert.FfnDw2RefIdeal.nD Cert.FfnDw2RefIdeal.τ).loc Cert.FfnDw2RefIdeal.main_arg1) = m ((c.tc : Thread Cert.FfnDw2Ideal.nD Cert.FfnDw2Ideal.τ).loc Cert.FfnDw2Ideal.main_arg1)
      ∧ m' ((c.tc : Thread Cert.FfnDw2RefIdeal.nD Cert.FfnDw2RefIdeal.τ).loc Cert.FfnDw2RefIdeal.main_arg2) = m ((c.tc : Thread Cert.FfnDw2Ideal.nD Cert.FfnDw2Ideal.τ).loc Cert.FfnDw2Ideal.main_arg2)) →
    ∃ (v0 : (c : Dev Cert.FfnDw2Ideal.nD) → Buf (Elt Ideal) ((c.tc : Thread Cert.FfnDw2Ideal.nD Cert.FfnDw2Ideal.τ).loc Cert.FfnDw2Ideal.main_v0)),
      θ_run (Cert.FfnDw2Ideal.defs (F := Ideal)) (onTc (τ := Cert.FfnDw2Ideal.τ) (Cert.FfnDw2Ideal.main (F := Ideal))) ⟨m, fun _ => 0, g⟩ (fun r => ∀ c : Dev Cert.FfnDw2Ideal.nD,
          r.2.mem ((c.tc : Thread Cert.FfnDw2Ideal.nD Cert.FfnDw2Ideal.τ).loc Cert.FfnDw2Ideal.main_v0) = v0 c
          ∧ r.2.mem ((c.tc : Thread Cert.FfnDw2Ideal.nD Cert.FfnDw2Ideal.τ).loc Cert.FfnDw2Ideal.main_arg0) = m ((c.tc : Thread Cert.FfnDw2Ideal.nD Cert.FfnDw2Ideal.τ).loc Cert.FfnDw2Ideal.main_arg0)
          ∧ r.2.mem ((c.tc : Thread Cert.FfnDw2Ideal.nD Cert.FfnDw2Ideal.τ).loc Cert.FfnDw2Ideal.main_arg1) = m ((c.tc : Thread Cert.FfnDw2Ideal.nD Cert.FfnDw2Ideal.τ).loc Cert.FfnDw2Ideal.main_arg1)
          ∧ r.2.mem ((c.tc : Thread Cert.FfnDw2Ideal.nD Cert.FfnDw2Ideal.τ).loc Cert.FfnDw2Ideal.main_arg2) = m ((c.tc : Thread Cert.FfnDw2Ideal.nD Cert.FfnDw2Ideal.τ).loc Cert.FfnDw2Ideal.main_arg2))
      ∧ θ_run (Cert.FfnDw2RefIdeal.defs (F := Ideal)) (onTc (τ := Cert.FfnDw2RefIdeal.τ) (Cert.FfnDw2RefIdeal.main (F := Ideal))) ⟨m', fun _ => 0, g'⟩ (fun r => ∀ c : Dev Cert.FfnDw2RefIdeal.nD,
          r.2.mem ((c.tc : Thread Cert.FfnDw2RefIdeal.nD Cert.FfnDw2RefIdeal.τ).loc Cert.FfnDw2RefIdeal.main_v6) = v0 c
          ∧ r.2.mem ((c.tc : Thread Cert.FfnDw2RefIdeal.nD Cert.FfnDw2RefIdeal.τ).loc Cert.FfnDw2RefIdeal.main_arg0) = m' ((c.tc : Thread Cert.FfnDw2RefIdeal.nD Cert.FfnDw2RefIdeal.τ).loc Cert.FfnDw2RefIdeal.main_arg0)
          ∧ r.2.mem ((c.tc : Thread Cert.FfnDw2RefIdeal.nD Cert.FfnDw2RefIdeal.τ).loc Cert.FfnDw2RefIdeal.main_arg1) = m' ((c.tc : Thread Cert.FfnDw2RefIdeal.nD Cert.FfnDw2RefIdeal.τ).loc Cert.FfnDw2RefIdeal.main_arg1)
          ∧ r.2.mem ((c.tc : Thread Cert.FfnDw2RefIdeal.nD Cert.FfnDw2RefIdeal.τ).loc Cert.FfnDw2RefIdeal.main_arg2) = m' ((c.tc : Thread Cert.FfnDw2RefIdeal.nD Cert.FfnDw2RefIdeal.τ).loc Cert.FfnDw2RefIdeal.main_arg2))

def preserves_FfnDhid_FfnDhidIdeal : Prop :=
  True

def algebraic_FfnDhidIdeal_FfnDhidRefIdeal [hFfnDhidIdeal : Cert.FfnDhidIdeal.Facts] [hFfnDhidRefIdeal : Cert.FfnDhidRefIdeal.Facts] : Prop :=
  ∀ (m : (ℓ : Loc Cert.FfnDhidIdeal.nD Cert.FfnDhidIdeal.τ Cert.FfnDhidIdeal.sig) → Buf (Elt Ideal) ℓ) (g : Dev Cert.FfnDhidIdeal.nD → PrngReg)
    (m' : (ℓ : Loc Cert.FfnDhidRefIdeal.nD Cert.FfnDhidRefIdeal.τ Cert.FfnDhidRefIdeal.sig) → Buf (Elt Ideal) ℓ) (g' : Dev Cert.FfnDhidRefIdeal.nD → PrngReg), Pre_FfnDhidIdeal m →
    (∀ c : Dev Cert.FfnDhidIdeal.nD,
      m' ((c.tc : Thread Cert.FfnDhidRefIdeal.nD Cert.FfnDhidRefIdeal.τ).loc Cert.FfnDhidRefIdeal.main_arg0) = m ((c.tc : Thread Cert.FfnDhidIdeal.nD Cert.FfnDhidIdeal.τ).loc Cert.FfnDhidIdeal.main_arg0)
      ∧ m' ((c.tc : Thread Cert.FfnDhidRefIdeal.nD Cert.FfnDhidRefIdeal.τ).loc Cert.FfnDhidRefIdeal.main_arg1) = m ((c.tc : Thread Cert.FfnDhidIdeal.nD Cert.FfnDhidIdeal.τ).loc Cert.FfnDhidIdeal.main_arg1)
      ∧ m' ((c.tc : Thread Cert.FfnDhidRefIdeal.nD Cert.FfnDhidRefIdeal.τ).loc Cert.FfnDhidRefIdeal.main_arg2) = m ((c.tc : Thread Cert.FfnDhidIdeal.nD Cert.FfnDhidIdeal.τ).loc Cert.FfnDhidIdeal.main_arg2)) →
    ∃ (v0 : (c : Dev Cert.FfnDhidIdeal.nD) → Buf (Elt Ideal) ((c.tc : Thread Cert.FfnDhidIdeal.nD Cert.FfnDhidIdeal.τ).loc Cert.FfnDhidIdeal.main_v2)),
      θ_run (Cert.FfnDhidIdeal.defs (F := Ideal)) (onTc (τ := Cert.FfnDhidIdeal.τ) (Cert.FfnDhidIdeal.main (F := Ideal))) ⟨m, fun _ => 0, g⟩ (fun r => ∀ c : Dev Cert.FfnDhidIdeal.nD,
          r.2.mem ((c.tc : Thread Cert.FfnDhidIdeal.nD Cert.FfnDhidIdeal.τ).loc Cert.FfnDhidIdeal.main_v2) = v0 c
          ∧ r.2.mem ((c.tc : Thread Cert.FfnDhidIdeal.nD Cert.FfnDhidIdeal.τ).loc Cert.FfnDhidIdeal.main_arg0) = m ((c.tc : Thread Cert.FfnDhidIdeal.nD Cert.FfnDhidIdeal.τ).loc Cert.FfnDhidIdeal.main_arg0)
          ∧ r.2.mem ((c.tc : Thread Cert.FfnDhidIdeal.nD Cert.FfnDhidIdeal.τ).loc Cert.FfnDhidIdeal.main_arg1) = m ((c.tc : Thread Cert.FfnDhidIdeal.nD Cert.FfnDhidIdeal.τ).loc Cert.FfnDhidIdeal.main_arg1)
          ∧ r.2.mem ((c.tc : Thread Cert.FfnDhidIdeal.nD Cert.FfnDhidIdeal.τ).loc Cert.FfnDhidIdeal.main_arg2) = m ((c.tc : Thread Cert.FfnDhidIdeal.nD Cert.FfnDhidIdeal.τ).loc Cert.FfnDhidIdeal.main_arg2))
      ∧ θ_run (Cert.FfnDhidRefIdeal.defs (F := Ideal)) (onTc (τ := Cert.FfnDhidRefIdeal.τ) (Cert.FfnDhidRefIdeal.main (F := Ideal))) ⟨m', fun _ => 0, g'⟩ (fun r => ∀ c : Dev Cert.FfnDhidRefIdeal.nD,
          r.2.mem ((c.tc : Thread Cert.FfnDhidRefIdeal.nD Cert.FfnDhidRefIdeal.τ).loc Cert.FfnDhidRefIdeal.main_v14) = v0 c
          ∧ r.2.mem ((c.tc : Thread Cert.FfnDhidRefIdeal.nD Cert.FfnDhidRefIdeal.τ).loc Cert.FfnDhidRefIdeal.main_arg0) = m' ((c.tc : Thread Cert.FfnDhidRefIdeal.nD Cert.FfnDhidRefIdeal.τ).loc Cert.FfnDhidRefIdeal.main_arg0)
          ∧ r.2.mem ((c.tc : Thread Cert.FfnDhidRefIdeal.nD Cert.FfnDhidRefIdeal.τ).loc Cert.FfnDhidRefIdeal.main_arg1) = m' ((c.tc : Thread Cert.FfnDhidRefIdeal.nD Cert.FfnDhidRefIdeal.τ).loc Cert.FfnDhidRefIdeal.main_arg1)
          ∧ r.2.mem ((c.tc : Thread Cert.FfnDhidRefIdeal.nD Cert.FfnDhidRefIdeal.τ).loc Cert.FfnDhidRefIdeal.main_arg2) = m' ((c.tc : Thread Cert.FfnDhidRefIdeal.nD Cert.FfnDhidRefIdeal.τ).loc Cert.FfnDhidRefIdeal.main_arg2))

def preserves_FfnDw1_FfnDw1Ideal : Prop :=
  True

def algebraic_FfnDw1Ideal_FfnDw1RefIdeal [hFfnDw1Ideal : Cert.FfnDw1Ideal.Facts] [hFfnDw1RefIdeal : Cert.FfnDw1RefIdeal.Facts] : Prop :=
  ∀ (m : (ℓ : Loc Cert.FfnDw1Ideal.nD Cert.FfnDw1Ideal.τ Cert.FfnDw1Ideal.sig) → Buf (Elt Ideal) ℓ) (g : Dev Cert.FfnDw1Ideal.nD → PrngReg)
    (m' : (ℓ : Loc Cert.FfnDw1RefIdeal.nD Cert.FfnDw1RefIdeal.τ Cert.FfnDw1RefIdeal.sig) → Buf (Elt Ideal) ℓ) (g' : Dev Cert.FfnDw1RefIdeal.nD → PrngReg), Pre_FfnDw1Ideal m →
    (∀ c : Dev Cert.FfnDw1Ideal.nD,
      m' ((c.tc : Thread Cert.FfnDw1RefIdeal.nD Cert.FfnDw1RefIdeal.τ).loc Cert.FfnDw1RefIdeal.main_arg0) = m ((c.tc : Thread Cert.FfnDw1Ideal.nD Cert.FfnDw1Ideal.τ).loc Cert.FfnDw1Ideal.main_arg0)
      ∧ m' ((c.tc : Thread Cert.FfnDw1RefIdeal.nD Cert.FfnDw1RefIdeal.τ).loc Cert.FfnDw1RefIdeal.main_arg1) = m ((c.tc : Thread Cert.FfnDw1Ideal.nD Cert.FfnDw1Ideal.τ).loc Cert.FfnDw1Ideal.main_arg1)
      ∧ m' ((c.tc : Thread Cert.FfnDw1RefIdeal.nD Cert.FfnDw1RefIdeal.τ).loc Cert.FfnDw1RefIdeal.main_arg2) = m ((c.tc : Thread Cert.FfnDw1Ideal.nD Cert.FfnDw1Ideal.τ).loc Cert.FfnDw1Ideal.main_arg2)) →
    ∃ (v0 : (c : Dev Cert.FfnDw1Ideal.nD) → Buf (Elt Ideal) ((c.tc : Thread Cert.FfnDw1Ideal.nD Cert.FfnDw1Ideal.τ).loc Cert.FfnDw1Ideal.main_v0)),
      θ_run (Cert.FfnDw1Ideal.defs (F := Ideal)) (onTc (τ := Cert.FfnDw1Ideal.τ) (Cert.FfnDw1Ideal.main (F := Ideal))) ⟨m, fun _ => 0, g⟩ (fun r => ∀ c : Dev Cert.FfnDw1Ideal.nD,
          r.2.mem ((c.tc : Thread Cert.FfnDw1Ideal.nD Cert.FfnDw1Ideal.τ).loc Cert.FfnDw1Ideal.main_v0) = v0 c
          ∧ r.2.mem ((c.tc : Thread Cert.FfnDw1Ideal.nD Cert.FfnDw1Ideal.τ).loc Cert.FfnDw1Ideal.main_arg0) = m ((c.tc : Thread Cert.FfnDw1Ideal.nD Cert.FfnDw1Ideal.τ).loc Cert.FfnDw1Ideal.main_arg0)
          ∧ r.2.mem ((c.tc : Thread Cert.FfnDw1Ideal.nD Cert.FfnDw1Ideal.τ).loc Cert.FfnDw1Ideal.main_arg1) = m ((c.tc : Thread Cert.FfnDw1Ideal.nD Cert.FfnDw1Ideal.τ).loc Cert.FfnDw1Ideal.main_arg1)
          ∧ r.2.mem ((c.tc : Thread Cert.FfnDw1Ideal.nD Cert.FfnDw1Ideal.τ).loc Cert.FfnDw1Ideal.main_arg2) = m ((c.tc : Thread Cert.FfnDw1Ideal.nD Cert.FfnDw1Ideal.τ).loc Cert.FfnDw1Ideal.main_arg2))
      ∧ θ_run (Cert.FfnDw1RefIdeal.defs (F := Ideal)) (onTc (τ := Cert.FfnDw1RefIdeal.τ) (Cert.FfnDw1RefIdeal.main (F := Ideal))) ⟨m', fun _ => 0, g'⟩ (fun r => ∀ c : Dev Cert.FfnDw1RefIdeal.nD,
          r.2.mem ((c.tc : Thread Cert.FfnDw1RefIdeal.nD Cert.FfnDw1RefIdeal.τ).loc Cert.FfnDw1RefIdeal.main_v10) = v0 c
          ∧ r.2.mem ((c.tc : Thread Cert.FfnDw1RefIdeal.nD Cert.FfnDw1RefIdeal.τ).loc Cert.FfnDw1RefIdeal.main_arg0) = m' ((c.tc : Thread Cert.FfnDw1RefIdeal.nD Cert.FfnDw1RefIdeal.τ).loc Cert.FfnDw1RefIdeal.main_arg0)
          ∧ r.2.mem ((c.tc : Thread Cert.FfnDw1RefIdeal.nD Cert.FfnDw1RefIdeal.τ).loc Cert.FfnDw1RefIdeal.main_arg1) = m' ((c.tc : Thread Cert.FfnDw1RefIdeal.nD Cert.FfnDw1RefIdeal.τ).loc Cert.FfnDw1RefIdeal.main_arg1)
          ∧ r.2.mem ((c.tc : Thread Cert.FfnDw1RefIdeal.nD Cert.FfnDw1RefIdeal.τ).loc Cert.FfnDw1RefIdeal.main_arg2) = m' ((c.tc : Thread Cert.FfnDw1RefIdeal.nD Cert.FfnDw1RefIdeal.τ).loc Cert.FfnDw1RefIdeal.main_arg2))

def preserves_FfnDh3_FfnDh3Ideal : Prop :=
  True

def algebraic_FfnDh3Ideal_FfnDh3RefIdeal [hFfnDh3Ideal : Cert.FfnDh3Ideal.Facts] [hFfnDh3RefIdeal : Cert.FfnDh3RefIdeal.Facts] : Prop :=
  ∀ (m : (ℓ : Loc Cert.FfnDh3Ideal.nD Cert.FfnDh3Ideal.τ Cert.FfnDh3Ideal.sig) → Buf (Elt Ideal) ℓ) (g : Dev Cert.FfnDh3Ideal.nD → PrngReg)
    (m' : (ℓ : Loc Cert.FfnDh3RefIdeal.nD Cert.FfnDh3RefIdeal.τ Cert.FfnDh3RefIdeal.sig) → Buf (Elt Ideal) ℓ) (g' : Dev Cert.FfnDh3RefIdeal.nD → PrngReg), Pre_FfnDh3Ideal m →
    (∀ c : Dev Cert.FfnDh3Ideal.nD,
      m' ((c.tc : Thread Cert.FfnDh3RefIdeal.nD Cert.FfnDh3RefIdeal.τ).loc Cert.FfnDh3RefIdeal.main_arg0) = m ((c.tc : Thread Cert.FfnDh3Ideal.nD Cert.FfnDh3Ideal.τ).loc Cert.FfnDh3Ideal.main_arg0)
      ∧ m' ((c.tc : Thread Cert.FfnDh3RefIdeal.nD Cert.FfnDh3RefIdeal.τ).loc Cert.FfnDh3RefIdeal.main_arg1) = m ((c.tc : Thread Cert.FfnDh3Ideal.nD Cert.FfnDh3Ideal.τ).loc Cert.FfnDh3Ideal.main_arg1)
      ∧ m' ((c.tc : Thread Cert.FfnDh3RefIdeal.nD Cert.FfnDh3RefIdeal.τ).loc Cert.FfnDh3RefIdeal.main_arg2) = m ((c.tc : Thread Cert.FfnDh3Ideal.nD Cert.FfnDh3Ideal.τ).loc Cert.FfnDh3Ideal.main_arg2)) →
    ∃ (v0 : (c : Dev Cert.FfnDh3Ideal.nD) → Buf (Elt Ideal) ((c.tc : Thread Cert.FfnDh3Ideal.nD Cert.FfnDh3Ideal.τ).loc Cert.FfnDh3Ideal.main_v0)),
      θ_run (Cert.FfnDh3Ideal.defs (F := Ideal)) (onTc (τ := Cert.FfnDh3Ideal.τ) (Cert.FfnDh3Ideal.main (F := Ideal))) ⟨m, fun _ => 0, g⟩ (fun r => ∀ c : Dev Cert.FfnDh3Ideal.nD,
          r.2.mem ((c.tc : Thread Cert.FfnDh3Ideal.nD Cert.FfnDh3Ideal.τ).loc Cert.FfnDh3Ideal.main_v0) = v0 c
          ∧ r.2.mem ((c.tc : Thread Cert.FfnDh3Ideal.nD Cert.FfnDh3Ideal.τ).loc Cert.FfnDh3Ideal.main_arg0) = m ((c.tc : Thread Cert.FfnDh3Ideal.nD Cert.FfnDh3Ideal.τ).loc Cert.FfnDh3Ideal.main_arg0)
          ∧ r.2.mem ((c.tc : Thread Cert.FfnDh3Ideal.nD Cert.FfnDh3Ideal.τ).loc Cert.FfnDh3Ideal.main_arg1) = m ((c.tc : Thread Cert.FfnDh3Ideal.nD Cert.FfnDh3Ideal.τ).loc Cert.FfnDh3Ideal.main_arg1)
          ∧ r.2.mem ((c.tc : Thread Cert.FfnDh3Ideal.nD Cert.FfnDh3Ideal.τ).loc Cert.FfnDh3Ideal.main_arg2) = m ((c.tc : Thread Cert.FfnDh3Ideal.nD Cert.FfnDh3Ideal.τ).loc Cert.FfnDh3Ideal.main_arg2))
      ∧ θ_run (Cert.FfnDh3RefIdeal.defs (F := Ideal)) (onTc (τ := Cert.FfnDh3RefIdeal.τ) (Cert.FfnDh3RefIdeal.main (F := Ideal))) ⟨m', fun _ => 0, g'⟩ (fun r => ∀ c : Dev Cert.FfnDh3RefIdeal.nD,
          r.2.mem ((c.tc : Thread Cert.FfnDh3RefIdeal.nD Cert.FfnDh3RefIdeal.τ).loc Cert.FfnDh3RefIdeal.main_v7) = v0 c
          ∧ r.2.mem ((c.tc : Thread Cert.FfnDh3RefIdeal.nD Cert.FfnDh3RefIdeal.τ).loc Cert.FfnDh3RefIdeal.main_arg0) = m' ((c.tc : Thread Cert.FfnDh3RefIdeal.nD Cert.FfnDh3RefIdeal.τ).loc Cert.FfnDh3RefIdeal.main_arg0)
          ∧ r.2.mem ((c.tc : Thread Cert.FfnDh3RefIdeal.nD Cert.FfnDh3RefIdeal.τ).loc Cert.FfnDh3RefIdeal.main_arg1) = m' ((c.tc : Thread Cert.FfnDh3RefIdeal.nD Cert.FfnDh3RefIdeal.τ).loc Cert.FfnDh3RefIdeal.main_arg1)
          ∧ r.2.mem ((c.tc : Thread Cert.FfnDh3RefIdeal.nD Cert.FfnDh3RefIdeal.τ).loc Cert.FfnDh3RefIdeal.main_arg2) = m' ((c.tc : Thread Cert.FfnDh3RefIdeal.nD Cert.FfnDh3RefIdeal.τ).loc Cert.FfnDh3RefIdeal.main_arg2))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)) →
    ∃ (v0 : (c : Dev Cert.QueryIdeal.nD) → Buf (Elt Ideal) ((c.tc : Thread Cert.QueryIdeal.nD Cert.QueryIdeal.τ).loc Cert.QueryIdeal.main_v0)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v0) = v0 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v3) = v0 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v3) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)
      ∧ m' ((c.tc : Thread Cert.ProjDwRefIdeal.nD Cert.ProjDwRefIdeal.τ).loc Cert.ProjDwRefIdeal.main_arg2) = m ((c.tc : Thread Cert.ProjDwIdeal.nD Cert.ProjDwIdeal.τ).loc Cert.ProjDwIdeal.main_arg2)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
          ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v5) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1)
          ∧ r.2.mem ((c.tc : Thread Cert.ProjDwRefIdeal.nD Cert.ProjDwRefIdeal.τ).loc Cert.ProjDwRefIdeal.main_arg2) = m' ((c.tc : Thread Cert.ProjDwRefIdeal.nD Cert.ProjDwRefIdeal.τ).loc Cert.ProjDwRefIdeal.main_arg2))

def preserves_ProjDy_ProjDyIdeal : Prop :=
  True

def algebraic_ProjDyIdeal_ProjDyRefIdeal [hProjDyIdeal : Cert.ProjDyIdeal.Facts] [hProjDyRefIdeal : Cert.ProjDyRefIdeal.Facts] : Prop :=
  ∀ (m : (ℓ : Loc Cert.ProjDyIdeal.nD Cert.ProjDyIdeal.τ Cert.ProjDyIdeal.sig) → Buf (Elt Ideal) ℓ) (g : Dev Cert.ProjDyIdeal.nD → PrngReg)
    (m' : (ℓ : Loc Cert.ProjDyRefIdeal.nD Cert.ProjDyRefIdeal.τ Cert.ProjDyRefIdeal.sig) → Buf (Elt Ideal) ℓ) (g' : Dev Cert.ProjDyRefIdeal.nD → PrngReg), Pre_ProjDyIdeal m →
    (∀ c : Dev Cert.ProjDyIdeal.nD,
      m' ((c.tc : Thread Cert.ProjDyRefIdeal.nD Cert.ProjDyRefIdeal.τ).loc Cert.ProjDyRefIdeal.main_arg0) = m ((c.tc : Thread Cert.ProjDyIdeal.nD Cert.ProjDyIdeal.τ).loc Cert.ProjDyIdeal.main_arg0)
      ∧ m' ((c.tc : Thread Cert.ProjDyRefIdeal.nD Cert.ProjDyRefIdeal.τ).loc Cert.ProjDyRefIdeal.main_arg1) = m ((c.tc : Thread Cert.ProjDyIdeal.nD Cert.ProjDyIdeal.τ).loc Cert.ProjDyIdeal.main_arg1)
      ∧ m' ((c.tc : Thread Cert.ProjDyRefIdeal.nD Cert.ProjDyRefIdeal.τ).loc Cert.ProjDyRefIdeal.main_arg2) = m ((c.tc : Thread Cert.ProjDyIdeal.nD Cert.ProjDyIdeal.τ).loc Cert.ProjDyIdeal.main_arg2)) →
    ∃ (v0 : (c : Dev Cert.ProjDyIdeal.nD) → Buf (Elt Ideal) ((c.tc : Thread Cert.ProjDyIdeal.nD Cert.ProjDyIdeal.τ).loc Cert.ProjDyIdeal.main_v0)),
      θ_run (Cert.ProjDyIdeal.defs (F := Ideal)) (onTc (τ := Cert.ProjDyIdeal.τ) (Cert.ProjDyIdeal.main (F := Ideal))) ⟨m, fun _ => 0, g⟩ (fun r => ∀ c : Dev Cert.ProjDyIdeal.nD,
          r.2.mem ((c.tc : Thread Cert.ProjDyIdeal.nD Cert.ProjDyIdeal.τ).loc Cert.ProjDyIdeal.main_v0) = v0 c
          ∧ r.2.mem ((c.tc : Thread Cert.ProjDyIdeal.nD Cert.ProjDyIdeal.τ).loc Cert.ProjDyIdeal.main_arg0) = m ((c.tc : Thread Cert.ProjDyIdeal.nD Cert.ProjDyIdeal.τ).loc Cert.ProjDyIdeal.main_arg0)
          ∧ r.2.mem ((c.tc : Thread Cert.ProjDyIdeal.nD Cert.ProjDyIdeal.τ).loc Cert.ProjDyIdeal.main_arg1) = m ((c.tc : Thread Cert.ProjDyIdeal.nD Cert.ProjDyIdeal.τ).loc Cert.ProjDyIdeal.main_arg1)
          ∧ r.2.mem ((c.tc : Thread Cert.ProjDyIdeal.nD Cert.ProjDyIdeal.τ).loc Cert.ProjDyIdeal.main_arg2) = m ((c.tc : Thread Cert.ProjDyIdeal.nD Cert.ProjDyIdeal.τ).loc Cert.ProjDyIdeal.main_arg2))
      ∧ θ_run (Cert.ProjDyRefIdeal.defs (F := Ideal)) (onTc (τ := Cert.ProjDyRefIdeal.τ) (Cert.ProjDyRefIdeal.main (F := Ideal))) ⟨m', fun _ => 0, g'⟩ (fun r => ∀ c : Dev Cert.ProjDyRefIdeal.nD,
          r.2.mem ((c.tc : Thread Cert.ProjDyRefIdeal.nD Cert.ProjDyRefIdeal.τ).loc Cert.ProjDyRefIdeal.main_v4) = v0 c
          ∧ r.2.mem ((c.tc : Thread Cert.ProjDyRefIdeal.nD Cert.ProjDyRefIdeal.τ).loc Cert.ProjDyRefIdeal.main_arg0) = m' ((c.tc : Thread Cert.ProjDyRefIdeal.nD Cert.ProjDyRefIdeal.τ).loc Cert.ProjDyRefIdeal.main_arg0)
          ∧ r.2.mem ((c.tc : Thread Cert.ProjDyRefIdeal.nD Cert.ProjDyRefIdeal.τ).loc Cert.ProjDyRefIdeal.main_arg1) = m' ((c.tc : Thread Cert.ProjDyRefIdeal.nD Cert.ProjDyRefIdeal.τ).loc Cert.ProjDyRefIdeal.main_arg1)
          ∧ r.2.mem ((c.tc : Thread Cert.ProjDyRefIdeal.nD Cert.ProjDyRefIdeal.τ).loc Cert.ProjDyRefIdeal.main_arg2) = m' ((c.tc : Thread Cert.ProjDyRefIdeal.nD Cert.ProjDyRefIdeal.τ).loc Cert.ProjDyRefIdeal.main_arg2))

def preserves_QueryDw_QueryDwIdeal : Prop :=
  True

def algebraic_QueryDwIdeal_QueryDwRefIdeal [hQueryDwIdeal : Cert.QueryDwIdeal.Facts] [hQueryDwRefIdeal : Cert.QueryDwRefIdeal.Facts] : Prop :=
  ∀ (m : (ℓ : Loc Cert.QueryDwIdeal.nD Cert.QueryDwIdeal.τ Cert.QueryDwIdeal.sig) → Buf (Elt Ideal) ℓ) (g : Dev Cert.QueryDwIdeal.nD → PrngReg)
    (m' : (ℓ : Loc Cert.QueryDwRefIdeal.nD Cert.QueryDwRefIdeal.τ Cert.QueryDwRefIdeal.sig) → Buf (Elt Ideal) ℓ) (g' : Dev Cert.QueryDwRefIdeal.nD → PrngReg), Pre_QueryDwIdeal m →
    (∀ c : Dev Cert.QueryDwIdeal.nD,
      m' ((c.tc : Thread Cert.QueryDwRefIdeal.nD Cert.QueryDwRefIdeal.τ).loc Cert.QueryDwRefIdeal.main_arg0) = m ((c.tc : Thread Cert.QueryDwIdeal.nD Cert.QueryDwIdeal.τ).loc Cert.QueryDwIdeal.main_arg0)
      ∧ m' ((c.tc : Thread Cert.QueryDwRefIdeal.nD Cert.QueryDwRefIdeal.τ).loc Cert.QueryDwRefIdeal.main_arg1) = m ((c.tc : Thread Cert.QueryDwIdeal.nD Cert.QueryDwIdeal.τ).loc Cert.QueryDwIdeal.main_arg1)
      ∧ m' ((c.tc : Thread Cert.QueryDwRefIdeal.nD Cert.QueryDwRefIdeal.τ).loc Cert.QueryDwRefIdeal.main_arg2) = m ((c.tc : Thread Cert.QueryDwIdeal.nD Cert.QueryDwIdeal.τ).loc Cert.QueryDwIdeal.main_arg2)) →
    ∃ (v0 : (c : Dev Cert.QueryDwIdeal.nD) → Buf (Elt Ideal) ((c.tc : Thread Cert.QueryDwIdeal.nD Cert.QueryDwIdeal.τ).loc Cert.QueryDwIdeal.main_v0)),
      θ_run (Cert.QueryDwIdeal.defs (F := Ideal)) (onTc (τ := Cert.QueryDwIdeal.τ) (Cert.QueryDwIdeal.main (F := Ideal))) ⟨m, fun _ => 0, g⟩ (fun r => ∀ c : Dev Cert.QueryDwIdeal.nD,
          r.2.mem ((c.tc : Thread Cert.QueryDwIdeal.nD Cert.QueryDwIdeal.τ).loc Cert.QueryDwIdeal.main_v0) = v0 c
          ∧ r.2.mem ((c.tc : Thread Cert.QueryDwIdeal.nD Cert.QueryDwIdeal.τ).loc Cert.QueryDwIdeal.main_arg0) = m ((c.tc : Thread Cert.QueryDwIdeal.nD Cert.QueryDwIdeal.τ).loc Cert.QueryDwIdeal.main_arg0)
          ∧ r.2.mem ((c.tc : Thread Cert.QueryDwIdeal.nD Cert.QueryDwIdeal.τ).loc Cert.QueryDwIdeal.main_arg1) = m ((c.tc : Thread Cert.QueryDwIdeal.nD Cert.QueryDwIdeal.τ).loc Cert.QueryDwIdeal.main_arg1)
          ∧ r.2.mem ((c.tc : Thread Cert.QueryDwIdeal.nD Cert.QueryDwIdeal.τ).loc Cert.QueryDwIdeal.main_arg2) = m ((c.tc : Thread Cert.QueryDwIdeal.nD Cert.QueryDwIdeal.τ).loc Cert.QueryDwIdeal.main_arg2))
      ∧ θ_run (Cert.QueryDwRefIdeal.defs (F := Ideal)) (onTc (τ := Cert.QueryDwRefIdeal.τ) (Cert.QueryDwRefIdeal.main (F := Ideal))) ⟨m', fun _ => 0, g'⟩ (fun r => ∀ c : Dev Cert.QueryDwRefIdeal.nD,
          r.2.mem ((c.tc : Thread Cert.QueryDwRefIdeal.nD Cert.QueryDwRefIdeal.τ).loc Cert.QueryDwRefIdeal.main_v6) = v0 c
          ∧ r.2.mem ((c.tc : Thread Cert.QueryDwRefIdeal.nD Cert.QueryDwRefIdeal.τ).loc Cert.QueryDwRefIdeal.main_arg0) = m' ((c.tc : Thread Cert.QueryDwRefIdeal.nD Cert.QueryDwRefIdeal.τ).loc Cert.QueryDwRefIdeal.main_arg0)
          ∧ r.2.mem ((c.tc : Thread Cert.QueryDwRefIdeal.nD Cert.QueryDwRefIdeal.τ).loc Cert.QueryDwRefIdeal.main_arg1) = m' ((c.tc : Thread Cert.QueryDwRefIdeal.nD Cert.QueryDwRefIdeal.τ).loc Cert.QueryDwRefIdeal.main_arg1)
          ∧ r.2.mem ((c.tc : Thread Cert.QueryDwRefIdeal.nD Cert.QueryDwRefIdeal.τ).loc Cert.QueryDwRefIdeal.main_arg2) = m' ((c.tc : Thread Cert.QueryDwRefIdeal.nD Cert.QueryDwRefIdeal.τ).loc Cert.QueryDwRefIdeal.main_arg2))

def preserves_QueryDh_QueryDhIdeal : Prop :=
  True

def algebraic_QueryDhIdeal_QueryDhRefIdeal [hQueryDhIdeal : Cert.QueryDhIdeal.Facts] [hQueryDhRefIdeal : Cert.QueryDhRefIdeal.Facts] : Prop :=
  ∀ (m : (ℓ : Loc Cert.QueryDhIdeal.nD Cert.QueryDhIdeal.τ Cert.QueryDhIdeal.sig) → Buf (Elt Ideal) ℓ) (g : Dev Cert.QueryDhIdeal.nD → PrngReg)
    (m' : (ℓ : Loc Cert.QueryDhRefIdeal.nD Cert.QueryDhRefIdeal.τ Cert.QueryDhRefIdeal.sig) → Buf (Elt Ideal) ℓ) (g' : Dev Cert.QueryDhRefIdeal.nD → PrngReg), Pre_QueryDhIdeal m →
    (∀ c : Dev Cert.QueryDhIdeal.nD,
      m' ((c.tc : Thread Cert.QueryDhRefIdeal.nD Cert.QueryDhRefIdeal.τ).loc Cert.QueryDhRefIdeal.main_arg0) = m ((c.tc : Thread Cert.QueryDhIdeal.nD Cert.QueryDhIdeal.τ).loc Cert.QueryDhIdeal.main_arg0)
      ∧ m' ((c.tc : Thread Cert.QueryDhRefIdeal.nD Cert.QueryDhRefIdeal.τ).loc Cert.QueryDhRefIdeal.main_arg1) = m ((c.tc : Thread Cert.QueryDhIdeal.nD Cert.QueryDhIdeal.τ).loc Cert.QueryDhIdeal.main_arg1)
      ∧ m' ((c.tc : Thread Cert.QueryDhRefIdeal.nD Cert.QueryDhRefIdeal.τ).loc Cert.QueryDhRefIdeal.main_arg2) = m ((c.tc : Thread Cert.QueryDhIdeal.nD Cert.QueryDhIdeal.τ).loc Cert.QueryDhIdeal.main_arg2)) →
    ∃ (v0 : (c : Dev Cert.QueryDhIdeal.nD) → Buf (Elt Ideal) ((c.tc : Thread Cert.QueryDhIdeal.nD Cert.QueryDhIdeal.τ).loc Cert.QueryDhIdeal.main_v0)),
      θ_run (Cert.QueryDhIdeal.defs (F := Ideal)) (onTc (τ := Cert.QueryDhIdeal.τ) (Cert.QueryDhIdeal.main (F := Ideal))) ⟨m, fun _ => 0, g⟩ (fun r => ∀ c : Dev Cert.QueryDhIdeal.nD,
          r.2.mem ((c.tc : Thread Cert.QueryDhIdeal.nD Cert.QueryDhIdeal.τ).loc Cert.QueryDhIdeal.main_v0) = v0 c
          ∧ r.2.mem ((c.tc : Thread Cert.QueryDhIdeal.nD Cert.QueryDhIdeal.τ).loc Cert.QueryDhIdeal.main_arg0) = m ((c.tc : Thread Cert.QueryDhIdeal.nD Cert.QueryDhIdeal.τ).loc Cert.QueryDhIdeal.main_arg0)
          ∧ r.2.mem ((c.tc : Thread Cert.QueryDhIdeal.nD Cert.QueryDhIdeal.τ).loc Cert.QueryDhIdeal.main_arg1) = m ((c.tc : Thread Cert.QueryDhIdeal.nD Cert.QueryDhIdeal.τ).loc Cert.QueryDhIdeal.main_arg1)
          ∧ r.2.mem ((c.tc : Thread Cert.QueryDhIdeal.nD Cert.QueryDhIdeal.τ).loc Cert.QueryDhIdeal.main_arg2) = m ((c.tc : Thread Cert.QueryDhIdeal.nD Cert.QueryDhIdeal.τ).loc Cert.QueryDhIdeal.main_arg2))
      ∧ θ_run (Cert.QueryDhRefIdeal.defs (F := Ideal)) (onTc (τ := Cert.QueryDhRefIdeal.τ) (Cert.QueryDhRefIdeal.main (F := Ideal))) ⟨m', fun _ => 0, g'⟩ (fun r => ∀ c : Dev Cert.QueryDhRefIdeal.nD,
          r.2.mem ((c.tc : Thread Cert.QueryDhRefIdeal.nD Cert.QueryDhRefIdeal.τ).loc Cert.QueryDhRefIdeal.main_v5) = v0 c
          ∧ r.2.mem ((c.tc : Thread Cert.QueryDhRefIdeal.nD Cert.QueryDhRefIdeal.τ).loc Cert.QueryDhRefIdeal.main_arg0) = m' ((c.tc : Thread Cert.QueryDhRefIdeal.nD Cert.QueryDhRefIdeal.τ).loc Cert.QueryDhRefIdeal.main_arg0)
          ∧ r.2.mem ((c.tc : Thread Cert.QueryDhRefIdeal.nD Cert.QueryDhRefIdeal.τ).loc Cert.QueryDhRefIdeal.main_arg1) = m' ((c.tc : Thread Cert.QueryDhRefIdeal.nD Cert.QueryDhRefIdeal.τ).loc Cert.QueryDhRefIdeal.main_arg1)
          ∧ r.2.mem ((c.tc : Thread Cert.QueryDhRefIdeal.nD Cert.QueryDhRefIdeal.τ).loc Cert.QueryDhRefIdeal.main_arg2) = m' ((c.tc : Thread Cert.QueryDhRefIdeal.nD Cert.QueryDhRefIdeal.τ).loc Cert.QueryDhRefIdeal.main_arg2))

def preserves_MemKv_MemKvIdeal : Prop :=
  True

def algebraic_MemKvIdeal_MemKvRefIdeal [hMemKvIdeal : Cert.MemKvIdeal.Facts] [hMemKvRefIdeal : Cert.MemKvRefIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.MemKvRefIdeal.nD Cert.MemKvRefIdeal.τ Cert.MemKvRefIdeal.sig) → Buf (Elt Ideal) ℓ) (g' : Dev Cert.MemKvRefIdeal.nD → PrngReg), Pre_MemKvIdeal m →
    (∀ c : Dev Cert.MemKvIdeal.nD,
      m' ((c.tc : Thread Cert.MemKvRefIdeal.nD Cert.MemKvRefIdeal.τ).loc Cert.MemKvRefIdeal.main_arg0) = m ((c.tc : Thread Cert.MemKvIdeal.nD Cert.MemKvIdeal.τ).loc Cert.MemKvIdeal.main_arg0)
      ∧ m' ((c.tc : Thread Cert.MemKvRefIdeal.nD Cert.MemKvRefIdeal.τ).loc Cert.MemKvRefIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v0)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v0) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.MemKvRefIdeal.defs (F := Ideal)) (onTc (τ := Cert.MemKvRefIdeal.τ) (Cert.MemKvRefIdeal.main (F := Ideal))) ⟨m', fun _ => 0, g'⟩ (fun r => ∀ c : Dev Cert.MemKvRefIdeal.nD,
          r.2.mem ((c.tc : Thread Cert.MemKvRefIdeal.nD Cert.MemKvRefIdeal.τ).loc Cert.MemKvRefIdeal.main_v2) = v0 c
          ∧ r.2.mem ((c.tc : Thread Cert.MemKvRefIdeal.nD Cert.MemKvRefIdeal.τ).loc Cert.MemKvRefIdeal.main_arg0) = m' ((c.tc : Thread Cert.MemKvRefIdeal.nD Cert.MemKvRefIdeal.τ).loc Cert.MemKvRefIdeal.main_arg0)
          ∧ r.2.mem ((c.tc : Thread Cert.MemKvRefIdeal.nD Cert.MemKvRefIdeal.τ).loc Cert.MemKvRefIdeal.main_arg1) = m' ((c.tc : Thread Cert.MemKvRefIdeal.nD Cert.MemKvRefIdeal.τ).loc Cert.MemKvRefIdeal.main_arg1))

def preserves_MemKvDw_MemKvDwIdeal : Prop :=
  True

def algebraic_MemKvDwIdeal_MemKvDwRefIdeal [hMemKvDwIdeal : Cert.MemKvDwIdeal.Facts] [hMemKvDwRefIdeal : Cert.MemKvDwRefIdeal.Facts] : Prop :=
  ∀ (m : (ℓ : Loc Cert.MemKvDwIdeal.nD Cert.MemKvDwIdeal.τ Cert.MemKvDwIdeal.sig) → Buf (Elt Ideal) ℓ) (g : Dev Cert.MemKvDwIdeal.nD → PrngReg)
    (m' : (ℓ : Loc Cert.MemKvDwRefIdeal.nD Cert.MemKvDwRefIdeal.τ Cert.MemKvDwRefIdeal.sig) → Buf (Elt Ideal) ℓ) (g' : Dev Cert.MemKvDwRefIdeal.nD → PrngReg), Pre_MemKvDwIdeal m →
    (∀ c : Dev Cert.MemKvDwIdeal.nD,
      m' ((c.tc : Thread Cert.MemKvDwRefIdeal.nD Cert.MemKvDwRefIdeal.τ).loc Cert.MemKvDwRefIdeal.main_arg0) = m ((c.tc : Thread Cert.MemKvDwIdeal.nD Cert.MemKvDwIdeal.τ).loc Cert.MemKvDwIdeal.main_arg0)
      ∧ m' ((c.tc : Thread Cert.MemKvDwRefIdeal.nD Cert.MemKvDwRefIdeal.τ).loc Cert.MemKvDwRefIdeal.main_arg1) = m ((c.tc : Thread Cert.MemKvDwIdeal.nD Cert.MemKvDwIdeal.τ).loc Cert.MemKvDwIdeal.main_arg1)
      ∧ m' ((c.tc : Thread Cert.MemKvDwRefIdeal.nD Cert.MemKvDwRefIdeal.τ).loc Cert.MemKvDwRefIdeal.main_arg2) = m ((c.tc : Thread Cert.MemKvDwIdeal.nD Cert.MemKvDwIdeal.τ).loc Cert.MemKvDwIdeal.main_arg2)) →
    ∃ (v0 : (c : Dev Cert.MemKvDwIdeal.nD) → Buf (Elt Ideal) ((c.tc : Thread Cert.MemKvDwIdeal.nD Cert.MemKvDwIdeal.τ).loc Cert.MemKvDwIdeal.main_v0)),
      θ_run (Cert.MemKvDwIdeal.defs (F := Ideal)) (onTc (τ := Cert.MemKvDwIdeal.τ) (Cert.MemKvDwIdeal.main (F := Ideal))) ⟨m, fun _ => 0, g⟩ (fun r => ∀ c : Dev Cert.MemKvDwIdeal.nD,
          r.2.mem ((c.tc : Thread Cert.MemKvDwIdeal.nD Cert.MemKvDwIdeal.τ).loc Cert.MemKvDwIdeal.main_v0) = v0 c
          ∧ r.2.mem ((c.tc : Thread Cert.MemKvDwIdeal.nD Cert.MemKvDwIdeal.τ).loc Cert.MemKvDwIdeal.main_arg0) = m ((c.tc : Thread Cert.MemKvDwIdeal.nD Cert.MemKvDwIdeal.τ).loc Cert.MemKvDwIdeal.main_arg0)
          ∧ r.2.mem ((c.tc : Thread Cert.MemKvDwIdeal.nD Cert.MemKvDwIdeal.τ).loc Cert.MemKvDwIdeal.main_arg1) = m ((c.tc : Thread Cert.MemKvDwIdeal.nD Cert.MemKvDwIdeal.τ).loc Cert.MemKvDwIdeal.main_arg1)
          ∧ r.2.mem ((c.tc : Thread Cert.MemKvDwIdeal.nD Cert.MemKvDwIdeal.τ).loc Cert.MemKvDwIdeal.main_arg2) = m ((c.tc : Thread Cert.MemKvDwIdeal.nD Cert.MemKvDwIdeal.τ).loc Cert.MemKvDwIdeal.main_arg2))
      ∧ θ_run (Cert.MemKvDwRefIdeal.defs (F := Ideal)) (onTc (τ := Cert.MemKvDwRefIdeal.τ) (Cert.MemKvDwRefIdeal.main (F := Ideal))) ⟨m', fun _ => 0, g'⟩ (fun r => ∀ c : Dev Cert.MemKvDwRefIdeal.nD,
          r.2.mem ((c.tc : Thread Cert.MemKvDwRefIdeal.nD Cert.MemKvDwRefIdeal.τ).loc Cert.MemKvDwRefIdeal.main_v5) = v0 c
          ∧ r.2.mem ((c.tc : Thread Cert.MemKvDwRefIdeal.nD Cert.MemKvDwRefIdeal.τ).loc Cert.MemKvDwRefIdeal.main_arg0) = m' ((c.tc : Thread Cert.MemKvDwRefIdeal.nD Cert.MemKvDwRefIdeal.τ).loc Cert.MemKvDwRefIdeal.main_arg0)
          ∧ r.2.mem ((c.tc : Thread Cert.MemKvDwRefIdeal.nD Cert.MemKvDwRefIdeal.τ).loc Cert.MemKvDwRefIdeal.main_arg1) = m' ((c.tc : Thread Cert.MemKvDwRefIdeal.nD Cert.MemKvDwRefIdeal.τ).loc Cert.MemKvDwRefIdeal.main_arg1)
          ∧ r.2.mem ((c.tc : Thread Cert.MemKvDwRefIdeal.nD Cert.MemKvDwRefIdeal.τ).loc Cert.MemKvDwRefIdeal.main_arg2) = m' ((c.tc : Thread Cert.MemKvDwRefIdeal.nD Cert.MemKvDwRefIdeal.τ).loc Cert.MemKvDwRefIdeal.main_arg2))

def preserves_MemDk_MemDkIdeal : Prop :=
  True

def algebraic_MemDkIdeal_MemDkRefIdeal [hMemDkIdeal : Cert.MemDkIdeal.Facts] [hMemDkRefIdeal : Cert.MemDkRefIdeal.Facts] : Prop :=
  ∀ (m : (ℓ : Loc Cert.MemDkIdeal.nD Cert.MemDkIdeal.τ Cert.MemDkIdeal.sig) → Buf (Elt Ideal) ℓ) (g : Dev Cert.MemDkIdeal.nD → PrngReg)
    (m' : (ℓ : Loc Cert.MemDkRefIdeal.nD Cert.MemDkRefIdeal.τ Cert.MemDkRefIdeal.sig) → Buf (Elt Ideal) ℓ) (g' : Dev Cert.MemDkRefIdeal.nD → PrngReg), Pre_MemDkIdeal m →
    (∀ c : Dev Cert.MemDkIdeal.nD,
      m' ((c.tc : Thread Cert.MemDkRefIdeal.nD Cert.MemDkRefIdeal.τ).loc Cert.MemDkRefIdeal.main_arg0) = m ((c.tc : Thread Cert.MemDkIdeal.nD Cert.MemDkIdeal.τ).loc Cert.MemDkIdeal.main_arg0)
      ∧ m' ((c.tc : Thread Cert.MemDkRefIdeal.nD Cert.MemDkRefIdeal.τ).loc Cert.MemDkRefIdeal.main_arg1) = m ((c.tc : Thread Cert.MemDkIdeal.nD Cert.MemDkIdeal.τ).loc Cert.MemDkIdeal.main_arg1)
      ∧ m' ((c.tc : Thread Cert.MemDkRefIdeal.nD Cert.MemDkRefIdeal.τ).loc Cert.MemDkRefIdeal.main_arg2) = m ((c.tc : Thread Cert.MemDkIdeal.nD Cert.MemDkIdeal.τ).loc Cert.MemDkIdeal.main_arg2)) →
    ∃ (v0 : (c : Dev Cert.MemDkIdeal.nD) → Buf (Elt Ideal) ((c.tc : Thread Cert.MemDkIdeal.nD Cert.MemDkIdeal.τ).loc Cert.MemDkIdeal.main_v0)),
      θ_run (Cert.MemDkIdeal.defs (F := Ideal)) (onTc (τ := Cert.MemDkIdeal.τ) (Cert.MemDkIdeal.main (F := Ideal))) ⟨m, fun _ => 0, g⟩ (fun r => ∀ c : Dev Cert.MemDkIdeal.nD,
          r.2.mem ((c.tc : Thread Cert.MemDkIdeal.nD Cert.MemDkIdeal.τ).loc Cert.MemDkIdeal.main_v0) = v0 c
          ∧ r.2.mem ((c.tc : Thread Cert.MemDkIdeal.nD Cert.MemDkIdeal.τ).loc Cert.MemDkIdeal.main_arg0) = m ((c.tc : Thread Cert.MemDkIdeal.nD Cert.MemDkIdeal.τ).loc Cert.MemDkIdeal.main_arg0)
          ∧ r.2.mem ((c.tc : Thread Cert.MemDkIdeal.nD Cert.MemDkIdeal.τ).loc Cert.MemDkIdeal.main_arg1) = m ((c.tc : Thread Cert.MemDkIdeal.nD Cert.MemDkIdeal.τ).loc Cert.MemDkIdeal.main_arg1)
          ∧ r.2.mem ((c.tc : Thread Cert.MemDkIdeal.nD Cert.MemDkIdeal.τ).loc Cert.MemDkIdeal.main_arg2) = m ((c.tc : Thread Cert.MemDkIdeal.nD Cert.MemDkIdeal.τ).loc Cert.MemDkIdeal.main_arg2))
      ∧ θ_run (Cert.MemDkRefIdeal.defs (F := Ideal)) (onTc (τ := Cert.MemDkRefIdeal.τ) (Cert.MemDkRefIdeal.main (F := Ideal))) ⟨m', fun _ => 0, g'⟩ (fun r => ∀ c : Dev Cert.MemDkRefIdeal.nD,
          r.2.mem ((c.tc : Thread Cert.MemDkRefIdeal.nD Cert.MemDkRefIdeal.τ).loc Cert.MemDkRefIdeal.main_v3) = v0 c
          ∧ r.2.mem ((c.tc : Thread Cert.MemDkRefIdeal.nD Cert.MemDkRefIdeal.τ).loc Cert.MemDkRefIdeal.main_arg0) = m' ((c.tc : Thread Cert.MemDkRefIdeal.nD Cert.MemDkRefIdeal.τ).loc Cert.MemDkRefIdeal.main_arg0)
          ∧ r.2.mem ((c.tc : Thread Cert.MemDkRefIdeal.nD Cert.MemDkRefIdeal.τ).loc Cert.MemDkRefIdeal.main_arg1) = m' ((c.tc : Thread Cert.MemDkRefIdeal.nD Cert.MemDkRefIdeal.τ).loc Cert.MemDkRefIdeal.main_arg1)
          ∧ r.2.mem ((c.tc : Thread Cert.MemDkRefIdeal.nD Cert.MemDkRefIdeal.τ).loc Cert.MemDkRefIdeal.main_arg2) = m' ((c.tc : Thread Cert.MemDkRefIdeal.nD Cert.MemDkRefIdeal.τ).loc Cert.MemDkRefIdeal.main_arg2))

def preserves_MemDv_MemDvIdeal : Prop :=
  True

def algebraic_MemDvIdeal_MemDvRefIdeal [hMemDvIdeal : Cert.MemDvIdeal.Facts] [hMemDvRefIdeal : Cert.MemDvRefIdeal.Facts] : Prop :=
  ∀ (m : (ℓ : Loc Cert.MemDvIdeal.nD Cert.MemDvIdeal.τ Cert.MemDvIdeal.sig) → Buf (Elt Ideal) ℓ) (g : Dev Cert.MemDvIdeal.nD → PrngReg)
    (m' : (ℓ : Loc Cert.MemDvRefIdeal.nD Cert.MemDvRefIdeal.τ Cert.MemDvRefIdeal.sig) → Buf (Elt Ideal) ℓ) (g' : Dev Cert.MemDvRefIdeal.nD → PrngReg), Pre_MemDvIdeal m →
    (∀ c : Dev Cert.MemDvIdeal.nD,
      m' ((c.tc : Thread Cert.MemDvRefIdeal.nD Cert.MemDvRefIdeal.τ).loc Cert.MemDvRefIdeal.main_arg0) = m ((c.tc : Thread Cert.MemDvIdeal.nD Cert.MemDvIdeal.τ).loc Cert.MemDvIdeal.main_arg0)
      ∧ m' ((c.tc : Thread Cert.MemDvRefIdeal.nD Cert.MemDvRefIdeal.τ).loc Cert.MemDvRefIdeal.main_arg1) = m ((c.tc : Thread Cert.MemDvIdeal.nD Cert.MemDvIdeal.τ).loc Cert.MemDvIdeal.main_arg1)
      ∧ m' ((c.tc : Thread Cert.MemDvRefIdeal.nD Cert.MemDvRefIdeal.τ).loc Cert.MemDvRefIdeal.main_arg2) = m ((c.tc : Thread Cert.MemDvIdeal.nD Cert.MemDvIdeal.τ).loc Cert.MemDvIdeal.main_arg2)
      ∧ m' ((c.tc : Thread Cert.MemDvRefIdeal.nD Cert.MemDvRefIdeal.τ).loc Cert.MemDvRefIdeal.main_arg3) = m ((c.tc : Thread Cert.MemDvIdeal.nD Cert.MemDvIdeal.τ).loc Cert.MemDvIdeal.main_arg3)) →
    ∃ (v0 : (c : Dev Cert.MemDvIdeal.nD) → Buf (Elt Ideal) ((c.tc : Thread Cert.MemDvIdeal.nD Cert.MemDvIdeal.τ).loc Cert.MemDvIdeal.main_v0)),
      θ_run (Cert.MemDvIdeal.defs (F := Ideal)) (onTc (τ := Cert.MemDvIdeal.τ) (Cert.MemDvIdeal.main (F := Ideal))) ⟨m, fun _ => 0, g⟩ (fun r => ∀ c : Dev Cert.MemDvIdeal.nD,
          r.2.mem ((c.tc : Thread Cert.MemDvIdeal.nD Cert.MemDvIdeal.τ).loc Cert.MemDvIdeal.main_v0) = v0 c
          ∧ r.2.mem ((c.tc : Thread Cert.MemDvIdeal.nD Cert.MemDvIdeal.τ).loc Cert.MemDvIdeal.main_arg0) = m ((c.tc : Thread Cert.MemDvIdeal.nD Cert.MemDvIdeal.τ).loc Cert.MemDvIdeal.main_arg0)
          ∧ r.2.mem ((c.tc : Thread Cert.MemDvIdeal.nD Cert.MemDvIdeal.τ).loc Cert.MemDvIdeal.main_arg1) = m ((c.tc : Thread Cert.MemDvIdeal.nD Cert.MemDvIdeal.τ).loc Cert.MemDvIdeal.main_arg1)
          ∧ r.2.mem ((c.tc : Thread Cert.MemDvIdeal.nD Cert.MemDvIdeal.τ).loc Cert.MemDvIdeal.main_arg2) = m ((c.tc : Thread Cert.MemDvIdeal.nD Cert.MemDvIdeal.τ).loc Cert.MemDvIdeal.main_arg2)
          ∧ r.2.mem ((c.tc : Thread Cert.MemDvIdeal.nD Cert.MemDvIdeal.τ).loc Cert.MemDvIdeal.main_arg3) = m ((c.tc : Thread Cert.MemDvIdeal.nD Cert.MemDvIdeal.τ).loc Cert.MemDvIdeal.main_arg3))
      ∧ θ_run (Cert.MemDvRefIdeal.defs (F := Ideal)) (onTc (τ := Cert.MemDvRefIdeal.τ) (Cert.MemDvRefIdeal.main (F := Ideal))) ⟨m', fun _ => 0, g'⟩ (fun r => ∀ c : Dev Cert.MemDvRefIdeal.nD,
          r.2.mem ((c.tc : Thread Cert.MemDvRefIdeal.nD Cert.MemDvRefIdeal.τ).loc Cert.MemDvRefIdeal.main_v4) = v0 c
          ∧ r.2.mem ((c.tc : Thread Cert.MemDvRefIdeal.nD Cert.MemDvRefIdeal.τ).loc Cert.MemDvRefIdeal.main_arg0) = m' ((c.tc : Thread Cert.MemDvRefIdeal.nD Cert.MemDvRefIdeal.τ).loc Cert.MemDvRefIdeal.main_arg0)
          ∧ r.2.mem ((c.tc : Thread Cert.MemDvRefIdeal.nD Cert.MemDvRefIdeal.τ).loc Cert.MemDvRefIdeal.main_arg1) = m' ((c.tc : Thread Cert.MemDvRefIdeal.nD Cert.MemDvRefIdeal.τ).loc Cert.MemDvRefIdeal.main_arg1)
          ∧ r.2.mem ((c.tc : Thread Cert.MemDvRefIdeal.nD Cert.MemDvRefIdeal.τ).loc Cert.MemDvRefIdeal.main_arg2) = m' ((c.tc : Thread Cert.MemDvRefIdeal.nD Cert.MemDvRefIdeal.τ).loc Cert.MemDvRefIdeal.main_arg2)
          ∧ r.2.mem ((c.tc : Thread Cert.MemDvRefIdeal.nD Cert.MemDvRefIdeal.τ).loc Cert.MemDvRefIdeal.main_arg3) = m' ((c.tc : Thread Cert.MemDvRefIdeal.nD Cert.MemDvRefIdeal.τ).loc Cert.MemDvRefIdeal.main_arg3))

def preserves_InZ_InZIdeal : Prop :=
  True

def algebraic_InZIdeal_InZRefIdeal [hInZIdeal : Cert.InZIdeal.Facts] [hInZRefIdeal : Cert.InZRefIdeal.Facts] : Prop :=
  ∀ (m : (ℓ : Loc Cert.InZIdeal.nD Cert.InZIdeal.τ Cert.InZIdeal.sig) → Buf (Elt Ideal) ℓ) (g : Dev Cert.InZIdeal.nD → PrngReg)
    (m' : (ℓ : Loc Cert.InZRefIdeal.nD Cert.InZRefIdeal.τ Cert.InZRefIdeal.sig) → Buf (Elt Ideal) ℓ) (g' : Dev Cert.InZRefIdeal.nD → PrngReg), Pre_InZIdeal m →
    (∀ c : Dev Cert.InZIdeal.nD,
      m' ((c.tc : Thread Cert.InZRefIdeal.nD Cert.InZRefIdeal.τ).loc Cert.InZRefIdeal.main_arg0) = m ((c.tc : Thread Cert.InZIdeal.nD Cert.InZIdeal.τ).loc Cert.InZIdeal.main_arg0)
      ∧ m' ((c.tc : Thread Cert.InZRefIdeal.nD Cert.InZRefIdeal.τ).loc Cert.InZRefIdeal.main_arg1) = m ((c.tc : Thread Cert.InZIdeal.nD Cert.InZIdeal.τ).loc Cert.InZIdeal.main_arg1)) →
    ∃ (v0 : (c : Dev Cert.InZIdeal.nD) → Buf (Elt Ideal) ((c.tc : Thread Cert.InZIdeal.nD Cert.InZIdeal.τ).loc Cert.InZIdeal.main_v0)),
      θ_run (Cert.InZIdeal.defs (F := Ideal)) (onTc (τ := Cert.InZIdeal.τ) (Cert.InZIdeal.main (F := Ideal))) ⟨m, fun _ => 0, g⟩ (fun r => ∀ c : Dev Cert.InZIdeal.nD,
          r.2.mem ((c.tc : Thread Cert.InZIdeal.nD Cert.InZIdeal.τ).loc Cert.InZIdeal.main_v0) = v0 c
          ∧ r.2.mem ((c.tc : Thread Cert.InZIdeal.nD Cert.InZIdeal.τ).loc Cert.InZIdeal.main_arg0) = m ((c.tc : Thread Cert.InZIdeal.nD Cert.InZIdeal.τ).loc Cert.InZIdeal.main_arg0)
          ∧ r.2.mem ((c.tc : Thread Cert.InZIdeal.nD Cert.InZIdeal.τ).loc Cert.InZIdeal.main_arg1) = m ((c.tc : Thread Cert.InZIdeal.nD Cert.InZIdeal.τ).loc Cert.InZIdeal.main_arg1))
      ∧ θ_run (Cert.InZRefIdeal.defs (F := Ideal)) (onTc (τ := Cert.InZRefIdeal.τ) (Cert.InZRefIdeal.main (F := Ideal))) ⟨m', fun _ => 0, g'⟩ (fun r => ∀ c : Dev Cert.InZRefIdeal.nD,
          r.2.mem ((c.tc : Thread Cert.InZRefIdeal.nD Cert.InZRefIdeal.τ).loc Cert.InZRefIdeal.main_v3) = v0 c
          ∧ r.2.mem ((c.tc : Thread Cert.InZRefIdeal.nD Cert.InZRefIdeal.τ).loc Cert.InZRefIdeal.main_arg0) = m' ((c.tc : Thread Cert.InZRefIdeal.nD Cert.InZRefIdeal.τ).loc Cert.InZRefIdeal.main_arg0)
          ∧ r.2.mem ((c.tc : Thread Cert.InZRefIdeal.nD Cert.InZRefIdeal.τ).loc Cert.InZRefIdeal.main_arg1) = m' ((c.tc : Thread Cert.InZRefIdeal.nD Cert.InZRefIdeal.τ).loc Cert.InZRefIdeal.main_arg1))

def preserves_InZDw_InZDwIdeal : Prop :=
  True

def algebraic_InZDwIdeal_InZDwRefIdeal [hInZDwIdeal : Cert.InZDwIdeal.Facts] [hInZDwRefIdeal : Cert.InZDwRefIdeal.Facts] : Prop :=
  ∀ (m : (ℓ : Loc Cert.InZDwIdeal.nD Cert.InZDwIdeal.τ Cert.InZDwIdeal.sig) → Buf (Elt Ideal) ℓ) (g : Dev Cert.InZDwIdeal.nD → PrngReg)
    (m' : (ℓ : Loc Cert.InZDwRefIdeal.nD Cert.InZDwRefIdeal.τ Cert.InZDwRefIdeal.sig) → Buf (Elt Ideal) ℓ) (g' : Dev Cert.InZDwRefIdeal.nD → PrngReg), Pre_InZDwIdeal m →
    (∀ c : Dev Cert.InZDwIdeal.nD,
      m' ((c.tc : Thread Cert.InZDwRefIdeal.nD Cert.InZDwRefIdeal.τ).loc Cert.InZDwRefIdeal.main_arg0) = m ((c.tc : Thread Cert.InZDwIdeal.nD Cert.InZDwIdeal.τ).loc Cert.InZDwIdeal.main_arg0)
      ∧ m' ((c.tc : Thread Cert.InZDwRefIdeal.nD Cert.InZDwRefIdeal.τ).loc Cert.InZDwRefIdeal.main_arg1) = m ((c.tc : Thread Cert.InZDwIdeal.nD Cert.InZDwIdeal.τ).loc Cert.InZDwIdeal.main_arg1)
      ∧ m' ((c.tc : Thread Cert.InZDwRefIdeal.nD Cert.InZDwRefIdeal.τ).loc Cert.InZDwRefIdeal.main_arg2) = m ((c.tc : Thread Cert.InZDwIdeal.nD Cert.InZDwIdeal.τ).loc Cert.InZDwIdeal.main_arg2)) →
    ∃ (v0 : (c : Dev Cert.InZDwIdeal.nD) → Buf (Elt Ideal) ((c.tc : Thread Cert.InZDwIdeal.nD Cert.InZDwIdeal.τ).loc Cert.InZDwIdeal.main_v0)),
      θ_run (Cert.InZDwIdeal.defs (F := Ideal)) (onTc (τ := Cert.InZDwIdeal.τ) (Cert.InZDwIdeal.main (F := Ideal))) ⟨m, fun _ => 0, g⟩ (fun r => ∀ c : Dev Cert.InZDwIdeal.nD,
          r.2.mem ((c.tc : Thread Cert.InZDwIdeal.nD Cert.InZDwIdeal.τ).loc Cert.InZDwIdeal.main_v0) = v0 c
          ∧ r.2.mem ((c.tc : Thread Cert.InZDwIdeal.nD Cert.InZDwIdeal.τ).loc Cert.InZDwIdeal.main_arg0) = m ((c.tc : Thread Cert.InZDwIdeal.nD Cert.InZDwIdeal.τ).loc Cert.InZDwIdeal.main_arg0)
          ∧ r.2.mem ((c.tc : Thread Cert.InZDwIdeal.nD Cert.InZDwIdeal.τ).loc Cert.InZDwIdeal.main_arg1) = m ((c.tc : Thread Cert.InZDwIdeal.nD Cert.InZDwIdeal.τ).loc Cert.InZDwIdeal.main_arg1)
          ∧ r.2.mem ((c.tc : Thread Cert.InZDwIdeal.nD Cert.InZDwIdeal.τ).loc Cert.InZDwIdeal.main_arg2) = m ((c.tc : Thread Cert.InZDwIdeal.nD Cert.InZDwIdeal.τ).loc Cert.InZDwIdeal.main_arg2))
      ∧ θ_run (Cert.InZDwRefIdeal.defs (F := Ideal)) (onTc (τ := Cert.InZDwRefIdeal.τ) (Cert.InZDwRefIdeal.main (F := Ideal))) ⟨m', fun _ => 0, g'⟩ (fun r => ∀ c : Dev Cert.InZDwRefIdeal.nD,
          r.2.mem ((c.tc : Thread Cert.InZDwRefIdeal.nD Cert.InZDwRefIdeal.τ).loc Cert.InZDwRefIdeal.main_v8) = v0 c
          ∧ r.2.mem ((c.tc : Thread Cert.InZDwRefIdeal.nD Cert.InZDwRefIdeal.τ).loc Cert.InZDwRefIdeal.main_arg0) = m' ((c.tc : Thread Cert.InZDwRefIdeal.nD Cert.InZDwRefIdeal.τ).loc Cert.InZDwRefIdeal.main_arg0)
          ∧ r.2.mem ((c.tc : Thread Cert.InZDwRefIdeal.nD Cert.InZDwRefIdeal.τ).loc Cert.InZDwRefIdeal.main_arg1) = m' ((c.tc : Thread Cert.InZDwRefIdeal.nD Cert.InZDwRefIdeal.τ).loc Cert.InZDwRefIdeal.main_arg1)
          ∧ r.2.mem ((c.tc : Thread Cert.InZDwRefIdeal.nD Cert.InZDwRefIdeal.τ).loc Cert.InZDwRefIdeal.main_arg2) = m' ((c.tc : Thread Cert.InZDwRefIdeal.nD Cert.InZDwRefIdeal.τ).loc Cert.InZDwRefIdeal.main_arg2))

def preserves_InZDh_InZDhIdeal : Prop :=
  True

def algebraic_InZDhIdeal_InZDhRefIdeal [hInZDhIdeal : Cert.InZDhIdeal.Facts] [hInZDhRefIdeal : Cert.InZDhRefIdeal.Facts] : Prop :=
  ∀ (m : (ℓ : Loc Cert.InZDhIdeal.nD Cert.InZDhIdeal.τ Cert.InZDhIdeal.sig) → Buf (Elt Ideal) ℓ) (g : Dev Cert.InZDhIdeal.nD → PrngReg)
    (m' : (ℓ : Loc Cert.InZDhRefIdeal.nD Cert.InZDhRefIdeal.τ Cert.InZDhRefIdeal.sig) → Buf (Elt Ideal) ℓ) (g' : Dev Cert.InZDhRefIdeal.nD → PrngReg), Pre_InZDhIdeal m →
    (∀ c : Dev Cert.InZDhIdeal.nD,
      m' ((c.tc : Thread Cert.InZDhRefIdeal.nD Cert.InZDhRefIdeal.τ).loc Cert.InZDhRefIdeal.main_arg0) = m ((c.tc : Thread Cert.InZDhIdeal.nD Cert.InZDhIdeal.τ).loc Cert.InZDhIdeal.main_arg0)
      ∧ m' ((c.tc : Thread Cert.InZDhRefIdeal.nD Cert.InZDhRefIdeal.τ).loc Cert.InZDhRefIdeal.main_arg1) = m ((c.tc : Thread Cert.InZDhIdeal.nD Cert.InZDhIdeal.τ).loc Cert.InZDhIdeal.main_arg1)
      ∧ m' ((c.tc : Thread Cert.InZDhRefIdeal.nD Cert.InZDhRefIdeal.τ).loc Cert.InZDhRefIdeal.main_arg2) = m ((c.tc : Thread Cert.InZDhIdeal.nD Cert.InZDhIdeal.τ).loc Cert.InZDhIdeal.main_arg2)) →
    ∃ (v0 : (c : Dev Cert.InZDhIdeal.nD) → Buf (Elt Ideal) ((c.tc : Thread Cert.InZDhIdeal.nD Cert.InZDhIdeal.τ).loc Cert.InZDhIdeal.main_v0)),
      θ_run (Cert.InZDhIdeal.defs (F := Ideal)) (onTc (τ := Cert.InZDhIdeal.τ) (Cert.InZDhIdeal.main (F := Ideal))) ⟨m, fun _ => 0, g⟩ (fun r => ∀ c : Dev Cert.InZDhIdeal.nD,
          r.2.mem ((c.tc : Thread Cert.InZDhIdeal.nD Cert.InZDhIdeal.τ).loc Cert.InZDhIdeal.main_v0) = v0 c
          ∧ r.2.mem ((c.tc : Thread Cert.InZDhIdeal.nD Cert.InZDhIdeal.τ).loc Cert.InZDhIdeal.main_arg0) = m ((c.tc : Thread Cert.InZDhIdeal.nD Cert.InZDhIdeal.τ).loc Cert.InZDhIdeal.main_arg0)
          ∧ r.2.mem ((c.tc : Thread Cert.InZDhIdeal.nD Cert.InZDhIdeal.τ).loc Cert.InZDhIdeal.main_arg1) = m ((c.tc : Thread Cert.InZDhIdeal.nD Cert.InZDhIdeal.τ).loc Cert.InZDhIdeal.main_arg1)
          ∧ r.2.mem ((c.tc : Thread Cert.InZDhIdeal.nD Cert.InZDhIdeal.τ).loc Cert.InZDhIdeal.main_arg2) = m ((c.tc : Thread Cert.InZDhIdeal.nD Cert.InZDhIdeal.τ).loc Cert.InZDhIdeal.main_arg2))
      ∧ θ_run (Cert.InZDhRefIdeal.defs (F := Ideal)) (onTc (τ := Cert.InZDhRefIdeal.τ) (Cert.InZDhRefIdeal.main (F := Ideal))) ⟨m', fun _ => 0, g'⟩ (fun r => ∀ c : Dev Cert.InZDhRefIdeal.nD,
          r.2.mem ((c.tc : Thread Cert.InZDhRefIdeal.nD Cert.InZDhRefIdeal.τ).loc Cert.InZDhRefIdeal.main_v5) = v0 c
          ∧ r.2.mem ((c.tc : Thread Cert.InZDhRefIdeal.nD Cert.InZDhRefIdeal.τ).loc Cert.InZDhRefIdeal.main_arg0) = m' ((c.tc : Thread Cert.InZDhRefIdeal.nD Cert.InZDhRefIdeal.τ).loc Cert.InZDhRefIdeal.main_arg0)
          ∧ r.2.mem ((c.tc : Thread Cert.InZDhRefIdeal.nD Cert.InZDhRefIdeal.τ).loc Cert.InZDhRefIdeal.main_arg1) = m' ((c.tc : Thread Cert.InZDhRefIdeal.nD Cert.InZDhRefIdeal.τ).loc Cert.InZDhRefIdeal.main_arg1)
          ∧ r.2.mem ((c.tc : Thread Cert.InZDhRefIdeal.nD Cert.InZDhRefIdeal.τ).loc Cert.InZDhRefIdeal.main_arg2) = m' ((c.tc : Thread Cert.InZDhRefIdeal.nD Cert.InZDhRefIdeal.τ).loc Cert.InZDhRefIdeal.main_arg2))

def preserves_InXbc_InXbcIdeal : Prop :=
  True

def algebraic_InXbcIdeal_InXbcRefIdeal [hInXbcIdeal : Cert.InXbcIdeal.Facts] [hInXbcRefIdeal : Cert.InXbcRefIdeal.Facts] : Prop :=
  ∀ (m : (ℓ : Loc Cert.InXbcIdeal.nD Cert.InXbcIdeal.τ Cert.InXbcIdeal.sig) → Buf (Elt Ideal) ℓ) (g : Dev Cert.InXbcIdeal.nD → PrngReg)
    (m' : (ℓ : Loc Cert.InXbcRefIdeal.nD Cert.InXbcRefIdeal.τ Cert.InXbcRefIdeal.sig) → Buf (Elt Ideal) ℓ) (g' : Dev Cert.InXbcRefIdeal.nD → PrngReg), Pre_InXbcIdeal m →
    (∀ c : Dev Cert.InXbcIdeal.nD,
      m' ((c.tc : Thread Cert.InXbcRefIdeal.nD Cert.InXbcRefIdeal.τ).loc Cert.InXbcRefIdeal.main_arg0) = m ((c.tc : Thread Cert.InXbcIdeal.nD Cert.InXbcIdeal.τ).loc Cert.InXbcIdeal.main_arg0)
      ∧ m' ((c.tc : Thread Cert.InXbcRefIdeal.nD Cert.InXbcRefIdeal.τ).loc Cert.InXbcRefIdeal.main_arg1) = m ((c.tc : Thread Cert.InXbcIdeal.nD Cert.InXbcIdeal.τ).loc Cert.InXbcIdeal.main_arg1)) →
    ∃ (v0 : (c : Dev Cert.InXbcIdeal.nD) → Buf (Elt Ideal) ((c.tc : Thread Cert.InXbcIdeal.nD Cert.InXbcIdeal.τ).loc Cert.InXbcIdeal.main_v0)),
      θ_run (Cert.InXbcIdeal.defs (F := Ideal)) (onTc (τ := Cert.InXbcIdeal.τ) (Cert.InXbcIdeal.main (F := Ideal))) ⟨m, fun _ => 0, g⟩ (fun r => ∀ c : Dev Cert.InXbcIdeal.nD,
          r.2.mem ((c.tc : Thread Cert.InXbcIdeal.nD Cert.InXbcIdeal.τ).loc Cert.InXbcIdeal.main_v0) = v0 c
          ∧ r.2.mem ((c.tc : Thread Cert.InXbcIdeal.nD Cert.InXbcIdeal.τ).loc Cert.InXbcIdeal.main_arg0) = m ((c.tc : Thread Cert.InXbcIdeal.nD Cert.InXbcIdeal.τ).loc Cert.InXbcIdeal.main_arg0)
          ∧ r.2.mem ((c.tc : Thread Cert.InXbcIdeal.nD Cert.InXbcIdeal.τ).loc Cert.InXbcIdeal.main_arg1) = m ((c.tc : Thread Cert.InXbcIdeal.nD Cert.InXbcIdeal.τ).loc Cert.InXbcIdeal.main_arg1))
      ∧ θ_run (Cert.InXbcRefIdeal.defs (F := Ideal)) (onTc (τ := Cert.InXbcRefIdeal.τ) (Cert.InXbcRefIdeal.main (F := Ideal))) ⟨m', fun _ => 0, g'⟩ (fun r => ∀ c : Dev Cert.InXbcRefIdeal.nD,
          r.2.mem ((c.tc : Thread Cert.InXbcRefIdeal.nD Cert.InXbcRefIdeal.τ).loc Cert.InXbcRefIdeal.main_v3) = v0 c
          ∧ r.2.mem ((c.tc : Thread Cert.InXbcRefIdeal.nD Cert.InXbcRefIdeal.τ).loc Cert.InXbcRefIdeal.main_arg0) = m' ((c.tc : Thread Cert.InXbcRefIdeal.nD Cert.InXbcRefIdeal.τ).loc Cert.InXbcRefIdeal.main_arg0)
          ∧ r.2.mem ((c.tc : Thread Cert.InXbcRefIdeal.nD Cert.InXbcRefIdeal.τ).loc Cert.InXbcRefIdeal.main_arg1) = m' ((c.tc : Thread Cert.InXbcRefIdeal.nD Cert.InXbcRefIdeal.τ).loc Cert.InXbcRefIdeal.main_arg1))

def preserves_InXbcDw_InXbcDwIdeal : Prop :=
  True

def algebraic_InXbcDwIdeal_InXbcDwRefIdeal [hInXbcDwIdeal : Cert.InXbcDwIdeal.Facts] [hInXbcDwRefIdeal : Cert.InXbcDwRefIdeal.Facts] : Prop :=
  ∀ (m : (ℓ : Loc Cert.InXbcDwIdeal.nD Cert.InXbcDwIdeal.τ Cert.InXbcDwIdeal.sig) → Buf (Elt Ideal) ℓ) (g : Dev Cert.InXbcDwIdeal.nD → PrngReg)
    (m' : (ℓ : Loc Cert.InXbcDwRefIdeal.nD Cert.InXbcDwRefIdeal.τ Cert.InXbcDwRefIdeal.sig) → Buf (Elt Ideal) ℓ) (g' : Dev Cert.InXbcDwRefIdeal.nD → PrngReg), Pre_InXbcDwIdeal m →
    (∀ c : Dev Cert.InXbcDwIdeal.nD,
      m' ((c.tc : Thread Cert.InXbcDwRefIdeal.nD Cert.InXbcDwRefIdeal.τ).loc Cert.InXbcDwRefIdeal.main_arg0) = m ((c.tc : Thread Cert.InXbcDwIdeal.nD Cert.InXbcDwIdeal.τ).loc Cert.InXbcDwIdeal.main_arg0)
      ∧ m' ((c.tc : Thread Cert.InXbcDwRefIdeal.nD Cert.InXbcDwRefIdeal.τ).loc Cert.InXbcDwRefIdeal.main_arg1) = m ((c.tc : Thread Cert.InXbcDwIdeal.nD Cert.InXbcDwIdeal.τ).loc Cert.InXbcDwIdeal.main_arg1)
      ∧ m' ((c.tc : Thread Cert.InXbcDwRefIdeal.nD Cert.InXbcDwRefIdeal.τ).loc Cert.InXbcDwRefIdeal.main_arg2) = m ((c.tc : Thread Cert.InXbcDwIdeal.nD Cert.InXbcDwIdeal.τ).loc Cert.InXbcDwIdeal.main_arg2)) →
    ∃ (v0 : (c : Dev Cert.InXbcDwIdeal.nD) → Buf (Elt Ideal) ((c.tc : Thread Cert.InXbcDwIdeal.nD Cert.InXbcDwIdeal.τ).loc Cert.InXbcDwIdeal.main_v0)),
      θ_run (Cert.InXbcDwIdeal.defs (F := Ideal)) (onTc (τ := Cert.InXbcDwIdeal.τ) (Cert.InXbcDwIdeal.main (F := Ideal))) ⟨m, fun _ => 0, g⟩ (fun r => ∀ c : Dev Cert.InXbcDwIdeal.nD,
          r.2.mem ((c.tc : Thread Cert.InXbcDwIdeal.nD Cert.InXbcDwIdeal.τ).loc Cert.InXbcDwIdeal.main_v0) = v0 c
          ∧ r.2.mem ((c.tc : Thread Cert.InXbcDwIdeal.nD Cert.InXbcDwIdeal.τ).loc Cert.InXbcDwIdeal.main_arg0) = m ((c.tc : Thread Cert.InXbcDwIdeal.nD Cert.InXbcDwIdeal.τ).loc Cert.InXbcDwIdeal.main_arg0)
          ∧ r.2.mem ((c.tc : Thread Cert.InXbcDwIdeal.nD Cert.InXbcDwIdeal.τ).loc Cert.InXbcDwIdeal.main_arg1) = m ((c.tc : Thread Cert.InXbcDwIdeal.nD Cert.InXbcDwIdeal.τ).loc Cert.InXbcDwIdeal.main_arg1)
          ∧ r.2.mem ((c.tc : Thread Cert.InXbcDwIdeal.nD Cert.InXbcDwIdeal.τ).loc Cert.InXbcDwIdeal.main_arg2) = m ((c.tc : Thread Cert.InXbcDwIdeal.nD Cert.InXbcDwIdeal.τ).loc Cert.InXbcDwIdeal.main_arg2))
      ∧ θ_run (Cert.InXbcDwRefIdeal.defs (F := Ideal)) (onTc (τ := Cert.InXbcDwRefIdeal.τ) (Cert.InXbcDwRefIdeal.main (F := Ideal))) ⟨m', fun _ => 0, g'⟩ (fun r => ∀ c : Dev Cert.InXbcDwRefIdeal.nD,
          r.2.mem ((c.tc : Thread Cert.InXbcDwRefIdeal.nD Cert.InXbcDwRefIdeal.τ).loc Cert.InXbcDwRefIdeal.main_v8) = v0 c
          ∧ r.2.mem ((c.tc : Thread Cert.InXbcDwRefIdeal.nD Cert.InXbcDwRefIdeal.τ).loc Cert.InXbcDwRefIdeal.main_arg0) = m' ((c.tc : Thread Cert.InXbcDwRefIdeal.nD Cert.InXbcDwRefIdeal.τ).loc Cert.InXbcDwRefIdeal.main_arg0)
          ∧ r.2.mem ((c.tc : Thread Cert.InXbcDwRefIdeal.nD Cert.InXbcDwRefIdeal.τ).loc Cert.InXbcDwRefIdeal.main_arg1) = m' ((c.tc : Thread Cert.InXbcDwRefIdeal.nD Cert.InXbcDwRefIdeal.τ).loc Cert.InXbcDwRefIdeal.main_arg1)
          ∧ r.2.mem ((c.tc : Thread Cert.InXbcDwRefIdeal.nD Cert.InXbcDwRefIdeal.τ).loc Cert.InXbcDwRefIdeal.main_arg2) = m' ((c.tc : Thread Cert.InXbcDwRefIdeal.nD Cert.InXbcDwRefIdeal.τ).loc Cert.InXbcDwRefIdeal.main_arg2))

def preserves_InXbcDh_InXbcDhIdeal : Prop :=
  True

def algebraic_InXbcDhIdeal_InXbcDhRefIdeal [hInXbcDhIdeal : Cert.InXbcDhIdeal.Facts] [hInXbcDhRefIdeal : Cert.InXbcDhRefIdeal.Facts] : Prop :=
  ∀ (m : (ℓ : Loc Cert.InXbcDhIdeal.nD Cert.InXbcDhIdeal.τ Cert.InXbcDhIdeal.sig) → Buf (Elt Ideal) ℓ) (g : Dev Cert.InXbcDhIdeal.nD → PrngReg)
    (m' : (ℓ : Loc Cert.InXbcDhRefIdeal.nD Cert.InXbcDhRefIdeal.τ Cert.InXbcDhRefIdeal.sig) → Buf (Elt Ideal) ℓ) (g' : Dev Cert.InXbcDhRefIdeal.nD → PrngReg), Pre_InXbcDhIdeal m →
    (∀ c : Dev Cert.InXbcDhIdeal.nD,
      m' ((c.tc : Thread Cert.InXbcDhRefIdeal.nD Cert.InXbcDhRefIdeal.τ).loc Cert.InXbcDhRefIdeal.main_arg0) = m ((c.tc : Thread Cert.InXbcDhIdeal.nD Cert.InXbcDhIdeal.τ).loc Cert.InXbcDhIdeal.main_arg0)
      ∧ m' ((c.tc : Thread Cert.InXbcDhRefIdeal.nD Cert.InXbcDhRefIdeal.τ).loc Cert.InXbcDhRefIdeal.main_arg1) = m ((c.tc : Thread Cert.InXbcDhIdeal.nD Cert.InXbcDhIdeal.τ).loc Cert.InXbcDhIdeal.main_arg1)
      ∧ m' ((c.tc : Thread Cert.InXbcDhRefIdeal.nD Cert.InXbcDhRefIdeal.τ).loc Cert.InXbcDhRefIdeal.main_arg2) = m ((c.tc : Thread Cert.InXbcDhIdeal.nD Cert.InXbcDhIdeal.τ).loc Cert.InXbcDhIdeal.main_arg2)
      ∧ m' ((c.tc : Thread Cert.InXbcDhRefIdeal.nD Cert.InXbcDhRefIdeal.τ).loc Cert.InXbcDhRefIdeal.main_arg3) = m ((c.tc : Thread Cert.InXbcDhIdeal.nD Cert.InXbcDhIdeal.τ).loc Cert.InXbcDhIdeal.main_arg3)) →
    ∃ (v0 : (c : Dev Cert.InXbcDhIdeal.nD) → Buf (Elt Ideal) ((c.tc : Thread Cert.InXbcDhIdeal.nD Cert.InXbcDhIdeal.τ).loc Cert.InXbcDhIdeal.main_v0)),
      θ_run (Cert.InXbcDhIdeal.defs (F := Ideal)) (onTc (τ := Cert.InXbcDhIdeal.τ) (Cert.InXbcDhIdeal.main (F := Ideal))) ⟨m, fun _ => 0, g⟩ (fun r => ∀ c : Dev Cert.InXbcDhIdeal.nD,
          r.2.mem ((c.tc : Thread Cert.InXbcDhIdeal.nD Cert.InXbcDhIdeal.τ).loc Cert.InXbcDhIdeal.main_v0) = v0 c
          ∧ r.2.mem ((c.tc : Thread Cert.InXbcDhIdeal.nD Cert.InXbcDhIdeal.τ).loc Cert.InXbcDhIdeal.main_arg0) = m ((c.tc : Thread Cert.InXbcDhIdeal.nD Cert.InXbcDhIdeal.τ).loc Cert.InXbcDhIdeal.main_arg0)
          ∧ r.2.mem ((c.tc : Thread Cert.InXbcDhIdeal.nD Cert.InXbcDhIdeal.τ).loc Cert.InXbcDhIdeal.main_arg1) = m ((c.tc : Thread Cert.InXbcDhIdeal.nD Cert.InXbcDhIdeal.τ).loc Cert.InXbcDhIdeal.main_arg1)
          ∧ r.2.mem ((c.tc : Thread Cert.InXbcDhIdeal.nD Cert.InXbcDhIdeal.τ).loc Cert.InXbcDhIdeal.main_arg2) = m ((c.tc : Thread Cert.InXbcDhIdeal.nD Cert.InXbcDhIdeal.τ).loc Cert.InXbcDhIdeal.main_arg2)
          ∧ r.2.mem ((c.tc : Thread Cert.InXbcDhIdeal.nD Cert.InXbcDhIdeal.τ).loc Cert.InXbcDhIdeal.main_arg3) = m ((c.tc : Thread Cert.InXbcDhIdeal.nD Cert.InXbcDhIdeal.τ).loc Cert.InXbcDhIdeal.main_arg3))
      ∧ θ_run (Cert.InXbcDhRefIdeal.defs (F := Ideal)) (onTc (τ := Cert.InXbcDhRefIdeal.τ) (Cert.InXbcDhRefIdeal.main (F := Ideal))) ⟨m', fun _ => 0, g'⟩ (fun r => ∀ c : Dev Cert.InXbcDhRefIdeal.nD,
          r.2.mem ((c.tc : Thread Cert.InXbcDhRefIdeal.nD Cert.InXbcDhRefIdeal.τ).loc Cert.InXbcDhRefIdeal.main_v6) = v0 c
          ∧ r.2.mem ((c.tc : Thread Cert.InXbcDhRefIdeal.nD Cert.InXbcDhRefIdeal.τ).loc Cert.InXbcDhRefIdeal.main_arg0) = m' ((c.tc : Thread Cert.InXbcDhRefIdeal.nD Cert.InXbcDhRefIdeal.τ).loc Cert.InXbcDhRefIdeal.main_arg0)
          ∧ r.2.mem ((c.tc : Thread Cert.InXbcDhRefIdeal.nD Cert.InXbcDhRefIdeal.τ).loc Cert.InXbcDhRefIdeal.main_arg1) = m' ((c.tc : Thread Cert.InXbcDhRefIdeal.nD Cert.InXbcDhRefIdeal.τ).loc Cert.InXbcDhRefIdeal.main_arg1)
          ∧ r.2.mem ((c.tc : Thread Cert.InXbcDhRefIdeal.nD Cert.InXbcDhRefIdeal.τ).loc Cert.InXbcDhRefIdeal.main_arg2) = m' ((c.tc : Thread Cert.InXbcDhRefIdeal.nD Cert.InXbcDhRefIdeal.τ).loc Cert.InXbcDhRefIdeal.main_arg2)
          ∧ r.2.mem ((c.tc : Thread Cert.InXbcDhRefIdeal.nD Cert.InXbcDhRefIdeal.τ).loc Cert.InXbcDhRefIdeal.main_arg3) = m' ((c.tc : Thread Cert.InXbcDhRefIdeal.nD Cert.InXbcDhRefIdeal.τ).loc Cert.InXbcDhRefIdeal.main_arg3))

def preserves_InRkv_InRkvIdeal : Prop :=
  True

def algebraic_InRkvIdeal_InRkvRefIdeal [hInRkvIdeal : Cert.InRkvIdeal.Facts] [hInRkvRefIdeal : Cert.InRkvRefIdeal.Facts] : Prop :=
  ∀ (m : (ℓ : Loc Cert.InRkvIdeal.nD Cert.InRkvIdeal.τ Cert.InRkvIdeal.sig) → Buf (Elt Ideal) ℓ) (g : Dev Cert.InRkvIdeal.nD → PrngReg)
    (m' : (ℓ : Loc Cert.InRkvRefIdeal.nD Cert.InRkvRefIdeal.τ Cert.InRkvRefIdeal.sig) → Buf (Elt Ideal) ℓ) (g' : Dev Cert.InRkvRefIdeal.nD → PrngReg), Pre_InRkvIdeal m →
    (∀ c : Dev Cert.InRkvIdeal.nD,
      m' ((c.tc : Thread Cert.InRkvRefIdeal.nD Cert.InRkvRefIdeal.τ).loc Cert.InRkvRefIdeal.main_arg0) = m ((c.tc : Thread Cert.InRkvIdeal.nD Cert.InRkvIdeal.τ).loc Cert.InRkvIdeal.main_arg0)
      ∧ m' ((c.tc : Thread Cert.InRkvRefIdeal.nD Cert.InRkvRefIdeal.τ).loc Cert.InRkvRefIdeal.main_arg1) = m ((c.tc : Thread Cert.InRkvIdeal.nD Cert.InRkvIdeal.τ).loc Cert.InRkvIdeal.main_arg1)) →
    ∃ (v0 : (c : Dev Cert.InRkvIdeal.nD) → Buf (Elt Ideal) ((c.tc : Thread Cert.InRkvIdeal.nD Cert.InRkvIdeal.τ).loc Cert.InRkvIdeal.main_v0)),
      θ_run (Cert.InRkvIdeal.defs (F := Ideal)) (onTc (τ := Cert.InRkvIdeal.τ) (Cert.InRkvIdeal.main (F := Ideal))) ⟨m, fun _ => 0, g⟩ (fun r => ∀ c : Dev Cert.InRkvIdeal.nD,
          r.2.mem ((c.tc : Thread Cert.InRkvIdeal.nD Cert.InRkvIdeal.τ).loc Cert.InRkvIdeal.main_v0) = v0 c
          ∧ r.2.mem ((c.tc : Thread Cert.InRkvIdeal.nD Cert.InRkvIdeal.τ).loc Cert.InRkvIdeal.main_arg0) = m ((c.tc : Thread Cert.InRkvIdeal.nD Cert.InRkvIdeal.τ).loc Cert.InRkvIdeal.main_arg0)
          ∧ r.2.mem ((c.tc : Thread Cert.InRkvIdeal.nD Cert.InRkvIdeal.τ).loc Cert.InRkvIdeal.main_arg1) = m ((c.tc : Thread Cert.InRkvIdeal.nD Cert.InRkvIdeal.τ).loc Cert.InRkvIdeal.main_arg1))
      ∧ θ_run (Cert.InRkvRefIdeal.defs (F := Ideal)) (onTc (τ := Cert.InRkvRefIdeal.τ) (Cert.InRkvRefIdeal.main (F := Ideal))) ⟨m', fun _ => 0, g'⟩ (fun r => ∀ c : Dev Cert.InRkvRefIdeal.nD,
          r.2.mem ((c.tc : Thread Cert.InRkvRefIdeal.nD Cert.InRkvRefIdeal.τ).loc Cert.InRkvRefIdeal.main_v3) = v0 c
          ∧ r.2.mem ((c.tc : Thread Cert.InRkvRefIdeal.nD Cert.InRkvRefIdeal.τ).loc Cert.InRkvRefIdeal.main_arg0) = m' ((c.tc : Thread Cert.InRkvRefIdeal.nD Cert.InRkvRefIdeal.τ).loc Cert.InRkvRefIdeal.main_arg0)
          ∧ r.2.mem ((c.tc : Thread Cert.InRkvRefIdeal.nD Cert.InRkvRefIdeal.τ).loc Cert.InRkvRefIdeal.main_arg1) = m' ((c.tc : Thread Cert.InRkvRefIdeal.nD Cert.InRkvRefIdeal.τ).loc Cert.InRkvRefIdeal.main_arg1))

def preserves_InRkvDw_InRkvDwIdeal : Prop :=
  True

def algebraic_InRkvDwIdeal_InRkvDwRefIdeal [hInRkvDwIdeal : Cert.InRkvDwIdeal.Facts] [hInRkvDwRefIdeal : Cert.InRkvDwRefIdeal.Facts] : Prop :=
  ∀ (m : (ℓ : Loc Cert.InRkvDwIdeal.nD Cert.InRkvDwIdeal.τ Cert.InRkvDwIdeal.sig) → Buf (Elt Ideal) ℓ) (g : Dev Cert.InRkvDwIdeal.nD → PrngReg)
    (m' : (ℓ : Loc Cert.InRkvDwRefIdeal.nD Cert.InRkvDwRefIdeal.τ Cert.InRkvDwRefIdeal.sig) → Buf (Elt Ideal) ℓ) (g' : Dev Cert.InRkvDwRefIdeal.nD → PrngReg), Pre_InRkvDwIdeal m →
    (∀ c : Dev Cert.InRkvDwIdeal.nD,
      m' ((c.tc : Thread Cert.InRkvDwRefIdeal.nD Cert.InRkvDwRefIdeal.τ).loc Cert.InRkvDwRefIdeal.main_arg0) = m ((c.tc : Thread Cert.InRkvDwIdeal.nD Cert.InRkvDwIdeal.τ).loc Cert.InRkvDwIdeal.main_arg0)
      ∧ m' ((c.tc : Thread Cert.InRkvDwRefIdeal.nD Cert.InRkvDwRefIdeal.τ).loc Cert.InRkvDwRefIdeal.main_arg1) = m ((c.tc : Thread Cert.InRkvDwIdeal.nD Cert.InRkvDwIdeal.τ).loc Cert.InRkvDwIdeal.main_arg1)
      ∧ m' ((c.tc : Thread Cert.InRkvDwRefIdeal.nD Cert.InRkvDwRefIdeal.τ).loc Cert.InRkvDwRefIdeal.main_arg2) = m ((c.tc : Thread Cert.InRkvDwIdeal.nD Cert.InRkvDwIdeal.τ).loc Cert.InRkvDwIdeal.main_arg2)) →
    ∃ (v0 : (c : Dev Cert.InRkvDwIdeal.nD) → Buf (Elt Ideal) ((c.tc : Thread Cert.InRkvDwIdeal.nD Cert.InRkvDwIdeal.τ).loc Cert.InRkvDwIdeal.main_v0)),
      θ_run (Cert.InRkvDwIdeal.defs (F := Ideal)) (onTc (τ := Cert.InRkvDwIdeal.τ) (Cert.InRkvDwIdeal.main (F := Ideal))) ⟨m, fun _ => 0, g⟩ (fun r => ∀ c : Dev Cert.InRkvDwIdeal.nD,
          r.2.mem ((c.tc : Thread Cert.InRkvDwIdeal.nD Cert.InRkvDwIdeal.τ).loc Cert.InRkvDwIdeal.main_v0) = v0 c
          ∧ r.2.mem ((c.tc : Thread Cert.InRkvDwIdeal.nD Cert.InRkvDwIdeal.τ).loc Cert.InRkvDwIdeal.main_arg0) = m ((c.tc : Thread Cert.InRkvDwIdeal.nD Cert.InRkvDwIdeal.τ).loc Cert.InRkvDwIdeal.main_arg0)
          ∧ r.2.mem ((c.tc : Thread Cert.InRkvDwIdeal.nD Cert.InRkvDwIdeal.τ).loc Cert.InRkvDwIdeal.main_arg1) = m ((c.tc : Thread Cert.InRkvDwIdeal.nD Cert.InRkvDwIdeal.τ).loc Cert.InRkvDwIdeal.main_arg1)
          ∧ r.2.mem ((c.tc : Thread Cert.InRkvDwIdeal.nD Cert.InRkvDwIdeal.τ).loc Cert.InRkvDwIdeal.main_arg2) = m ((c.tc : Thread Cert.InRkvDwIdeal.nD Cert.InRkvDwIdeal.τ).loc Cert.InRkvDwIdeal.main_arg2))
      ∧ θ_run (Cert.InRkvDwRefIdeal.defs (F := Ideal)) (onTc (τ := Cert.InRkvDwRefIdeal.τ) (Cert.InRkvDwRefIdeal.main (F := Ideal))) ⟨m', fun _ => 0, g'⟩ (fun r => ∀ c : Dev Cert.InRkvDwRefIdeal.nD,
          r.2.mem ((c.tc : Thread Cert.InRkvDwRefIdeal.nD Cert.InRkvDwRefIdeal.τ).loc Cert.InRkvDwRefIdeal.main_v8) = v0 c
          ∧ r.2.mem ((c.tc : Thread Cert.InRkvDwRefIdeal.nD Cert.InRkvDwRefIdeal.τ).loc Cert.InRkvDwRefIdeal.main_arg0) = m' ((c.tc : Thread Cert.InRkvDwRefIdeal.nD Cert.InRkvDwRefIdeal.τ).loc Cert.InRkvDwRefIdeal.main_arg0)
          ∧ r.2.mem ((c.tc : Thread Cert.InRkvDwRefIdeal.nD Cert.InRkvDwRefIdeal.τ).loc Cert.InRkvDwRefIdeal.main_arg1) = m' ((c.tc : Thread Cert.InRkvDwRefIdeal.nD Cert.InRkvDwRefIdeal.τ).loc Cert.InRkvDwRefIdeal.main_arg1)
          ∧ r.2.mem ((c.tc : Thread Cert.InRkvDwRefIdeal.nD Cert.InRkvDwRefIdeal.τ).loc Cert.InRkvDwRefIdeal.main_arg2) = m' ((c.tc : Thread Cert.InRkvDwRefIdeal.nD Cert.InRkvDwRefIdeal.τ).loc Cert.InRkvDwRefIdeal.main_arg2))

def preserves_InRkvDh_InRkvDhIdeal : Prop :=
  True

def algebraic_InRkvDhIdeal_InRkvDhRefIdeal [hInRkvDhIdeal : Cert.InRkvDhIdeal.Facts] [hInRkvDhRefIdeal : Cert.InRkvDhRefIdeal.Facts] : Prop :=
  ∀ (m : (ℓ : Loc Cert.InRkvDhIdeal.nD Cert.InRkvDhIdeal.τ Cert.InRkvDhIdeal.sig) → Buf (Elt Ideal) ℓ) (g : Dev Cert.InRkvDhIdeal.nD → PrngReg)
    (m' : (ℓ : Loc Cert.InRkvDhRefIdeal.nD Cert.InRkvDhRefIdeal.τ Cert.InRkvDhRefIdeal.sig) → Buf (Elt Ideal) ℓ) (g' : Dev Cert.InRkvDhRefIdeal.nD → PrngReg), Pre_InRkvDhIdeal m →
    (∀ c : Dev Cert.InRkvDhIdeal.nD,
      m' ((c.tc : Thread Cert.InRkvDhRefIdeal.nD Cert.InRkvDhRefIdeal.τ).loc Cert.InRkvDhRefIdeal.main_arg0) = m ((c.tc : Thread Cert.InRkvDhIdeal.nD Cert.InRkvDhIdeal.τ).loc Cert.InRkvDhIdeal.main_arg0)
      ∧ m' ((c.tc : Thread Cert.InRkvDhRefIdeal.nD Cert.InRkvDhRefIdeal.τ).loc Cert.InRkvDhRefIdeal.main_arg1) = m ((c.tc : Thread Cert.InRkvDhIdeal.nD Cert.InRkvDhIdeal.τ).loc Cert.InRkvDhIdeal.main_arg1)
      ∧ m' ((c.tc : Thread Cert.InRkvDhRefIdeal.nD Cert.InRkvDhRefIdeal.τ).loc Cert.InRkvDhRefIdeal.main_arg2) = m ((c.tc : Thread Cert.InRkvDhIdeal.nD Cert.InRkvDhIdeal.τ).loc Cert.InRkvDhIdeal.main_arg2)
      ∧ m' ((c.tc : Thread Cert.InRkvDhRefIdeal.nD Cert.InRkvDhRefIdeal.τ).loc Cert.InRkvDhRefIdeal.main_arg3) = m ((c.tc : Thread Cert.InRkvDhIdeal.nD Cert.InRkvDhIdeal.τ).loc Cert.InRkvDhIdeal.main_arg3)) →
    ∃ (v0 : (c : Dev Cert.InRkvDhIdeal.nD) → Buf (Elt Ideal) ((c.tc : Thread Cert.InRkvDhIdeal.nD Cert.InRkvDhIdeal.τ).loc Cert.InRkvDhIdeal.main_v0)),
      θ_run (Cert.InRkvDhIdeal.defs (F := Ideal)) (onTc (τ := Cert.InRkvDhIdeal.τ) (Cert.InRkvDhIdeal.main (F := Ideal))) ⟨m, fun _ => 0, g⟩ (fun r => ∀ c : Dev Cert.InRkvDhIdeal.nD,
          r.2.mem ((c.tc : Thread Cert.InRkvDhIdeal.nD Cert.InRkvDhIdeal.τ).loc Cert.InRkvDhIdeal.main_v0) = v0 c
          ∧ r.2.mem ((c.tc : Thread Cert.InRkvDhIdeal.nD Cert.InRkvDhIdeal.τ).loc Cert.InRkvDhIdeal.main_arg0) = m ((c.tc : Thread Cert.InRkvDhIdeal.nD Cert.InRkvDhIdeal.τ).loc Cert.InRkvDhIdeal.main_arg0)
          ∧ r.2.mem ((c.tc : Thread Cert.InRkvDhIdeal.nD Cert.InRkvDhIdeal.τ).loc Cert.InRkvDhIdeal.main_arg1) = m ((c.tc : Thread Cert.InRkvDhIdeal.nD Cert.InRkvDhIdeal.τ).loc Cert.InRkvDhIdeal.main_arg1)
          ∧ r.2.mem ((c.tc : Thread Cert.InRkvDhIdeal.nD Cert.InRkvDhIdeal.τ).loc Cert.InRkvDhIdeal.main_arg2) = m ((c.tc : Thread Cert.InRkvDhIdeal.nD Cert.InRkvDhIdeal.τ).loc Cert.InRkvDhIdeal.main_arg2)
          ∧ r.2.mem ((c.tc : Thread Cert.InRkvDhIdeal.nD Cert.InRkvDhIdeal.τ).loc Cert.InRkvDhIdeal.main_arg3) = m ((c.tc : Thread Cert.InRkvDhIdeal.nD Cert.InRkvDhIdeal.τ).loc Cert.InRkvDhIdeal.main_arg3))
      ∧ θ_run (Cert.InRkvDhRefIdeal.defs (F := Ideal)) (onTc (τ := Cert.InRkvDhRefIdeal.τ) (Cert.InRkvDhRefIdeal.main (F := Ideal))) ⟨m', fun _ => 0, g'⟩ (fun r => ∀ c : Dev Cert.InRkvDhRefIdeal.nD,
          r.2.mem ((c.tc : Thread Cert.InRkvDhRefIdeal.nD Cert.InRkvDhRefIdeal.τ).loc Cert.InRkvDhRefIdeal.main_v6) = v0 c
          ∧ r.2.mem ((c.tc : Thread Cert.InRkvDhRefIdeal.nD Cert.InRkvDhRefIdeal.τ).loc Cert.InRkvDhRefIdeal.main_arg0) = m' ((c.tc : Thread Cert.InRkvDhRefIdeal.nD Cert.InRkvDhRefIdeal.τ).loc Cert.InRkvDhRefIdeal.main_arg0)
          ∧ r.2.mem ((c.tc : Thread Cert.InRkvDhRefIdeal.nD Cert.InRkvDhRefIdeal.τ).loc Cert.InRkvDhRefIdeal.main_arg1) = m' ((c.tc : Thread Cert.InRkvDhRefIdeal.nD Cert.InRkvDhRefIdeal.τ).loc Cert.InRkvDhRefIdeal.main_arg1)
          ∧ r.2.mem ((c.tc : Thread Cert.InRkvDhRefIdeal.nD Cert.InRkvDhRefIdeal.τ).loc Cert.InRkvDhRefIdeal.main_arg2) = m' ((c.tc : Thread Cert.InRkvDhRefIdeal.nD Cert.InRkvDhRefIdeal.τ).loc Cert.InRkvDhRefIdeal.main_arg2)
          ∧ r.2.mem ((c.tc : Thread Cert.InRkvDhRefIdeal.nD Cert.InRkvDhRefIdeal.τ).loc Cert.InRkvDhRefIdeal.main_arg3) = m' ((c.tc : Thread Cert.InRkvDhRefIdeal.nD Cert.InRkvDhRefIdeal.τ).loc Cert.InRkvDhRefIdeal.main_arg3))

def preserves_InPs_InPsIdeal : Prop :=
  True

def algebraic_InPsIdeal_InPsRefIdeal [hInPsIdeal : Cert.InPsIdeal.Facts] [hInPsRefIdeal : Cert.InPsRefIdeal.Facts] : Prop :=
  ∀ (m : (ℓ : Loc Cert.InPsIdeal.nD Cert.InPsIdeal.τ Cert.InPsIdeal.sig) → Buf (Elt Ideal) ℓ) (g : Dev Cert.InPsIdeal.nD → PrngReg)
    (m' : (ℓ : Loc Cert.InPsRefIdeal.nD Cert.InPsRefIdeal.τ Cert.InPsRefIdeal.sig) → Buf (Elt Ideal) ℓ) (g' : Dev Cert.InPsRefIdeal.nD → PrngReg), Pre_InPsIdeal m →
    (∀ c : Dev Cert.InPsIdeal.nD,
      m' ((c.tc : Thread Cert.InPsRefIdeal.nD Cert.InPsRefIdeal.τ).loc Cert.InPsRefIdeal.main_arg0) = m ((c.tc : Thread Cert.InPsIdeal.nD Cert.InPsIdeal.τ).loc Cert.InPsIdeal.main_arg0)
      ∧ m' ((c.tc : Thread Cert.InPsRefIdeal.nD Cert.InPsRefIdeal.τ).loc Cert.InPsRefIdeal.main_arg1) = m ((c.tc : Thread Cert.InPsIdeal.nD Cert.InPsIdeal.τ).loc Cert.InPsIdeal.main_arg1)) →
    ∃ (v0 : (c : Dev Cert.InPsIdeal.nD) → Buf (Elt Ideal) ((c.tc : Thread Cert.InPsIdeal.nD Cert.InPsIdeal.τ).loc Cert.InPsIdeal.main_v0)),
      θ_run (Cert.InPsIdeal.defs (F := Ideal)) (onTc (τ := Cert.InPsIdeal.τ) (Cert.InPsIdeal.main (F := Ideal))) ⟨m, fun _ => 0, g⟩ (fun r => ∀ c : Dev Cert.InPsIdeal.nD,
          r.2.mem ((c.tc : Thread Cert.InPsIdeal.nD Cert.InPsIdeal.τ).loc Cert.InPsIdeal.main_v0) = v0 c
          ∧ r.2.mem ((c.tc : Thread Cert.InPsIdeal.nD Cert.InPsIdeal.τ).loc Cert.InPsIdeal.main_arg0) = m ((c.tc : Thread Cert.InPsIdeal.nD Cert.InPsIdeal.τ).loc Cert.InPsIdeal.main_arg0)
          ∧ r.2.mem ((c.tc : Thread Cert.InPsIdeal.nD Cert.InPsIdeal.τ).loc Cert.InPsIdeal.main_arg1) = m ((c.tc : Thread Cert.InPsIdeal.nD Cert.InPsIdeal.τ).loc Cert.InPsIdeal.main_arg1))
      ∧ θ_run (Cert.InPsRefIdeal.defs (F := Ideal)) (onTc (τ := Cert.InPsRefIdeal.τ) (Cert.InPsRefIdeal.main (F := Ideal))) ⟨m', fun _ => 0, g'⟩ (fun r => ∀ c : Dev Cert.InPsRefIdeal.nD,
          r.2.mem ((c.tc : Thread Cert.InPsRefIdeal.nD Cert.InPsRefIdeal.τ).loc Cert.InPsRefIdeal.main_v3) = v0 c
          ∧ r.2.mem ((c.tc : Thread Cert.InPsRefIdeal.nD Cert.InPsRefIdeal.τ).loc Cert.InPsRefIdeal.main_arg0) = m' ((c.tc : Thread Cert.InPsRefIdeal.nD Cert.InPsRefIdeal.τ).loc Cert.InPsRefIdeal.main_arg0)
          ∧ r.2.mem ((c.tc : Thread Cert.InPsRefIdeal.nD Cert.InPsRefIdeal.τ).loc Cert.InPsRefIdeal.main_arg1) = m' ((c.tc : Thread Cert.InPsRefIdeal.nD Cert.InPsRefIdeal.τ).loc Cert.InPsRefIdeal.main_arg1))

def preserves_InPsDw_InPsDwIdeal : Prop :=
  True

def algebraic_InPsDwIdeal_InPsDwRefIdeal [hInPsDwIdeal : Cert.InPsDwIdeal.Facts] [hInPsDwRefIdeal : Cert.InPsDwRefIdeal.Facts] : Prop :=
  ∀ (m : (ℓ : Loc Cert.InPsDwIdeal.nD Cert.InPsDwIdeal.τ Cert.InPsDwIdeal.sig) → Buf (Elt Ideal) ℓ) (g : Dev Cert.InPsDwIdeal.nD → PrngReg)
    (m' : (ℓ : Loc Cert.InPsDwRefIdeal.nD Cert.InPsDwRefIdeal.τ Cert.InPsDwRefIdeal.sig) → Buf (Elt Ideal) ℓ) (g' : Dev Cert.InPsDwRefIdeal.nD → PrngReg), Pre_InPsDwIdeal m →
    (∀ c : Dev Cert.InPsDwIdeal.nD,
      m' ((c.tc : Thread Cert.InPsDwRefIdeal.nD Cert.InPsDwRefIdeal.τ).loc Cert.InPsDwRefIdeal.main_arg0) = m ((c.tc : Thread Cert.InPsDwIdeal.nD Cert.InPsDwIdeal.τ).loc Cert.InPsDwIdeal.main_arg0)
      ∧ m' ((c.tc : Thread Cert.InPsDwRefIdeal.nD Cert.InPsDwRefIdeal.τ).loc Cert.InPsDwRefIdeal.main_arg1) = m ((c.tc : Thread Cert.InPsDwIdeal.nD Cert.InPsDwIdeal.τ).loc Cert.InPsDwIdeal.main_arg1)
      ∧ m' ((c.tc : Thread Cert.InPsDwRefIdeal.nD Cert.InPsDwRefIdeal.τ).loc Cert.InPsDwRefIdeal.main_arg2) = m ((c.tc : Thread Cert.InPsDwIdeal.nD Cert.InPsDwIdeal.τ).loc Cert.InPsDwIdeal.main_arg2)) →
    ∃ (v0 : (c : Dev Cert.InPsDwIdeal.nD) → Buf (Elt Ideal) ((c.tc : Thread Cert.InPsDwIdeal.nD Cert.InPsDwIdeal.τ).loc Cert.InPsDwIdeal.main_v0)),
      θ_run (Cert.InPsDwIdeal.defs (F := Ideal)) (onTc (τ := Cert.InPsDwIdeal.τ) (Cert.InPsDwIdeal.main (F := Ideal))) ⟨m, fun _ => 0, g⟩ (fun r => ∀ c : Dev Cert.InPsDwIdeal.nD,
          r.2.mem ((c.tc : Thread Cert.InPsDwIdeal.nD Cert.InPsDwIdeal.τ).loc Cert.InPsDwIdeal.main_v0) = v0 c
          ∧ r.2.mem ((c.tc : Thread Cert.InPsDwIdeal.nD Cert.InPsDwIdeal.τ).loc Cert.InPsDwIdeal.main_arg0) = m ((c.tc : Thread Cert.InPsDwIdeal.nD Cert.InPsDwIdeal.τ).loc Cert.InPsDwIdeal.main_arg0)
          ∧ r.2.mem ((c.tc : Thread Cert.InPsDwIdeal.nD Cert.InPsDwIdeal.τ).loc Cert.InPsDwIdeal.main_arg1) = m ((c.tc : Thread Cert.InPsDwIdeal.nD Cert.InPsDwIdeal.τ).loc Cert.InPsDwIdeal.main_arg1)
          ∧ r.2.mem ((c.tc : Thread Cert.InPsDwIdeal.nD Cert.InPsDwIdeal.τ).loc Cert.InPsDwIdeal.main_arg2) = m ((c.tc : Thread Cert.InPsDwIdeal.nD Cert.InPsDwIdeal.τ).loc Cert.InPsDwIdeal.main_arg2))
      ∧ θ_run (Cert.InPsDwRefIdeal.defs (F := Ideal)) (onTc (τ := Cert.InPsDwRefIdeal.τ) (Cert.InPsDwRefIdeal.main (F := Ideal))) ⟨m', fun _ => 0, g'⟩ (fun r => ∀ c : Dev Cert.InPsDwRefIdeal.nD,
          r.2.mem ((c.tc : Thread Cert.InPsDwRefIdeal.nD Cert.InPsDwRefIdeal.τ).loc Cert.InPsDwRefIdeal.main_v8) = v0 c
          ∧ r.2.mem ((c.tc : Thread Cert.InPsDwRefIdeal.nD Cert.InPsDwRefIdeal.τ).loc Cert.InPsDwRefIdeal.main_arg0) = m' ((c.tc : Thread Cert.InPsDwRefIdeal.nD Cert.InPsDwRefIdeal.τ).loc Cert.InPsDwRefIdeal.main_arg0)
          ∧ r.2.mem ((c.tc : Thread Cert.InPsDwRefIdeal.nD Cert.InPsDwRefIdeal.τ).loc Cert.InPsDwRefIdeal.main_arg1) = m' ((c.tc : Thread Cert.InPsDwRefIdeal.nD Cert.InPsDwRefIdeal.τ).loc Cert.InPsDwRefIdeal.main_arg1)
          ∧ r.2.mem ((c.tc : Thread Cert.InPsDwRefIdeal.nD Cert.InPsDwRefIdeal.τ).loc Cert.InPsDwRefIdeal.main_arg2) = m' ((c.tc : Thread Cert.InPsDwRefIdeal.nD Cert.InPsDwRefIdeal.τ).loc Cert.InPsDwRefIdeal.main_arg2))

def preserves_InPsDh_InPsDhIdeal : Prop :=
  True

def algebraic_InPsDhIdeal_InPsDhRefIdeal [hInPsDhIdeal : Cert.InPsDhIdeal.Facts] [hInPsDhRefIdeal : Cert.InPsDhRefIdeal.Facts] : Prop :=
  ∀ (m : (ℓ : Loc Cert.InPsDhIdeal.nD Cert.InPsDhIdeal.τ Cert.InPsDhIdeal.sig) → Buf (Elt Ideal) ℓ) (g : Dev Cert.InPsDhIdeal.nD → PrngReg)
    (m' : (ℓ : Loc Cert.InPsDhRefIdeal.nD Cert.InPsDhRefIdeal.τ Cert.InPsDhRefIdeal.sig) → Buf (Elt Ideal) ℓ) (g' : Dev Cert.InPsDhRefIdeal.nD → PrngReg), Pre_InPsDhIdeal m →
    (∀ c : Dev Cert.InPsDhIdeal.nD,
      m' ((c.tc : Thread Cert.InPsDhRefIdeal.nD Cert.InPsDhRefIdeal.τ).loc Cert.InPsDhRefIdeal.main_arg0) = m ((c.tc : Thread Cert.InPsDhIdeal.nD Cert.InPsDhIdeal.τ).loc Cert.InPsDhIdeal.main_arg0)
      ∧ m' ((c.tc : Thread Cert.InPsDhRefIdeal.nD Cert.InPsDhRefIdeal.τ).loc Cert.InPsDhRefIdeal.main_arg1) = m ((c.tc : Thread Cert.InPsDhIdeal.nD Cert.InPsDhIdeal.τ).loc Cert.InPsDhIdeal.main_arg1)
      ∧ m' ((c.tc : Thread Cert.InPsDhRefIdeal.nD Cert.InPsDhRefIdeal.τ).loc Cert.InPsDhRefIdeal.main_arg2) = m ((c.tc : Thread Cert.InPsDhIdeal.nD Cert.InPsDhIdeal.τ).loc Cert.InPsDhIdeal.main_arg2)
      ∧ m' ((c.tc : Thread Cert.InPsDhRefIdeal.nD Cert.InPsDhRefIdeal.τ).loc Cert.InPsDhRefIdeal.main_arg3) = m ((c.tc : Thread Cert.InPsDhIdeal.nD Cert.InPsDhIdeal.τ).loc Cert.InPsDhIdeal.main_arg3)) →
    ∃ (v0 : (c : Dev Cert.InPsDhIdeal.nD) → Buf (Elt Ideal) ((c.tc : Thread Cert.InPsDhIdeal.nD Cert.InPsDhIdeal.τ).loc Cert.InPsDhIdeal.main_v0)),
      θ_run (Cert.InPsDhIdeal.defs (F := Ideal)) (onTc (τ := Cert.InPsDhIdeal.τ) (Cert.InPsDhIdeal.main (F := Ideal))) ⟨m, fun _ => 0, g⟩ (fun r => ∀ c : Dev Cert.InPsDhIdeal.nD,
          r.2.mem ((c.tc : Thread Cert.InPsDhIdeal.nD Cert.InPsDhIdeal.τ).loc Cert.InPsDhIdeal.main_v0) = v0 c
          ∧ r.2.mem ((c.tc : Thread Cert.InPsDhIdeal.nD Cert.InPsDhIdeal.τ).loc Cert.InPsDhIdeal.main_arg0) = m ((c.tc : Thread Cert.InPsDhIdeal.nD Cert.InPsDhIdeal.τ).loc Cert.InPsDhIdeal.main_arg0)
          ∧ r.2.mem ((c.tc : Thread Cert.InPsDhIdeal.nD Cert.InPsDhIdeal.τ).loc Cert.InPsDhIdeal.main_arg1) = m ((c.tc : Thread Cert.InPsDhIdeal.nD Cert.InPsDhIdeal.τ).loc Cert.InPsDhIdeal.main_arg1)
          ∧ r.2.mem ((c.tc : Thread Cert.InPsDhIdeal.nD Cert.InPsDhIdeal.τ).loc Cert.InPsDhIdeal.main_arg2) = m ((c.tc : Thread Cert.InPsDhIdeal.nD Cert.InPsDhIdeal.τ).loc Cert.InPsDhIdeal.main_arg2)
          ∧ r.2.mem ((c.tc : Thread Cert.InPsDhIdeal.nD Cert.InPsDhIdeal.τ).loc Cert.InPsDhIdeal.main_arg3) = m ((c.tc : Thread Cert.InPsDhIdeal.nD Cert.InPsDhIdeal.τ).loc Cert.InPsDhIdeal.main_arg3))
      ∧ θ_run (Cert.InPsDhRefIdeal.defs (F := Ideal)) (onTc (τ := Cert.InPsDhRefIdeal.τ) (Cert.InPsDhRefIdeal.main (F := Ideal))) ⟨m', fun _ => 0, g'⟩ (fun r => ∀ c : Dev Cert.InPsDhRefIdeal.nD,
          r.2.mem ((c.tc : Thread Cert.InPsDhRefIdeal.nD Cert.InPsDhRefIdeal.τ).loc Cert.InPsDhRefIdeal.main_v6) = v0 c
          ∧ r.2.mem ((c.tc : Thread Cert.InPsDhRefIdeal.nD Cert.InPsDhRefIdeal.τ).loc Cert.InPsDhRefIdeal.main_arg0) = m' ((c.tc : Thread Cert.InPsDhRefIdeal.nD Cert.InPsDhRefIdeal.τ).loc Cert.InPsDhRefIdeal.main_arg0)
          ∧ r.2.mem ((c.tc : Thread Cert.InPsDhRefIdeal.nD Cert.InPsDhRefIdeal.τ).loc Cert.InPsDhRefIdeal.main_arg1) = m' ((c.tc : Thread Cert.InPsDhRefIdeal.nD Cert.InPsDhRefIdeal.τ).loc Cert.InPsDhRefIdeal.main_arg1)
          ∧ r.2.mem ((c.tc : Thread Cert.InPsDhRefIdeal.nD Cert.InPsDhRefIdeal.τ).loc Cert.InPsDhRefIdeal.main_arg2) = m' ((c.tc : Thread Cert.InPsDhRefIdeal.nD Cert.InPsDhRefIdeal.τ).loc Cert.InPsDhRefIdeal.main_arg2)
          ∧ r.2.mem ((c.tc : Thread Cert.InPsDhRefIdeal.nD Cert.InPsDhRefIdeal.τ).loc Cert.InPsDhRefIdeal.main_arg3) = m' ((c.tc : Thread Cert.InPsDhRefIdeal.nD Cert.InPsDhRefIdeal.τ).loc Cert.InPsDhRefIdeal.main_arg3))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v39) = v0 c
          ∧ r.2.mem ((c.tc : Thread Cert.NormBwdRefIdeal.nD Cert.NormBwdRefIdeal.τ).loc Cert.NormBwdRefIdeal.main_v38) = v1 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3))

def preserves_NormMixBwd_NormMixBwdIdeal : Prop :=
  True

def algebraic_NormMixBwdIdeal_NormMixBwdRefIdeal [hNormMixBwdIdeal : Cert.NormMixBwdIdeal.Facts] [hNormMixBwdRefIdeal : Cert.NormMixBwdRefIdeal.Facts] : Prop :=
  ∀ (m : (ℓ : Loc Cert.NormMixBwdIdeal.nD Cert.NormMixBwdIdeal.τ Cert.NormMixBwdIdeal.sig) → Buf (Elt Ideal) ℓ) (g : Dev Cert.NormMixBwdIdeal.nD → PrngReg)
    (m' : (ℓ : Loc Cert.NormMixBwdRefIdeal.nD Cert.NormMixBwdRefIdeal.τ Cert.NormMixBwdRefIdeal.sig) → Buf (Elt Ideal) ℓ) (g' : Dev Cert.NormMixBwdRefIdeal.nD → PrngReg), Pre_NormMixBwdIdeal m →
    (∀ c : Dev Cert.NormMixBwdIdeal.nD,
      m' ((c.tc : Thread Cert.NormMixBwdRefIdeal.nD Cert.NormMixBwdRefIdeal.τ).loc Cert.NormMixBwdRefIdeal.main_arg0) = m ((c.tc : Thread Cert.NormMixBwdIdeal.nD Cert.NormMixBwdIdeal.τ).loc Cert.NormMixBwdIdeal.main_arg0)
      ∧ m' ((c.tc : Thread Cert.NormMixBwdRefIdeal.nD Cert.NormMixBwdRefIdeal.τ).loc Cert.NormMixBwdRefIdeal.main_arg1) = m ((c.tc : Thread Cert.NormMixBwdIdeal.nD Cert.NormMixBwdIdeal.τ).loc Cert.NormMixBwdIdeal.main_arg1)
      ∧ m' ((c.tc : Thread Cert.NormMixBwdRefIdeal.nD Cert.NormMixBwdRefIdeal.τ).loc Cert.NormMixBwdRefIdeal.main_arg2) = m ((c.tc : Thread Cert.NormMixBwdIdeal.nD Cert.NormMixBwdIdeal.τ).loc Cert.NormMixBwdIdeal.main_arg2)
      ∧ m' ((c.tc : Thread Cert.NormMixBwdRefIdeal.nD Cert.NormMixBwdRefIdeal.τ).loc Cert.NormMixBwdRefIdeal.main_arg3) = m ((c.tc : Thread Cert.NormMixBwdIdeal.nD Cert.NormMixBwdIdeal.τ).loc Cert.NormMixBwdIdeal.main_arg3)) →
    ∃ (v0 : (c : Dev Cert.NormMixBwdIdeal.nD) → Buf (Elt Ideal) ((c.tc : Thread Cert.NormMixBwdIdeal.nD Cert.NormMixBwdIdeal.τ).loc Cert.NormMixBwdIdeal.main_v0_0)) (v1 : (c : Dev Cert.NormMixBwdIdeal.nD) → Buf (Elt Ideal) ((c.tc : Thread Cert.NormMixBwdIdeal.nD Cert.NormMixBwdIdeal.τ).loc Cert.NormMixBwdIdeal.main_v0_1)),
      θ_run (Cert.NormMixBwdIdeal.defs (F := Ideal)) (onTc (τ := Cert.NormMixBwdIdeal.τ) (Cert.NormMixBwdIdeal.main (F := Ideal))) ⟨m, fun _ => 0, g⟩ (fun r => ∀ c : Dev Cert.NormMixBwdIdeal.nD,
          r.2.mem ((c.tc : Thread Cert.NormMixBwdIdeal.nD Cert.NormMixBwdIdeal.τ).loc Cert.NormMixBwdIdeal.main_v0_0) = v0 c
          ∧ r.2.mem ((c.tc : Thread Cert.NormMixBwdIdeal.nD Cert.NormMixBwdIdeal.τ).loc Cert.NormMixBwdIdeal.main_v0_1) = v1 c
          ∧ r.2.mem ((c.tc : Thread Cert.NormMixBwdIdeal.nD Cert.NormMixBwdIdeal.τ).loc Cert.NormMixBwdIdeal.main_arg0) = m ((c.tc : Thread Cert.NormMixBwdIdeal.nD Cert.NormMixBwdIdeal.τ).loc Cert.NormMixBwdIdeal.main_arg0)
          ∧ r.2.mem ((c.tc : Thread Cert.NormMixBwdIdeal.nD Cert.NormMixBwdIdeal.τ).loc Cert.NormMixBwdIdeal.main_arg1) = m ((c.tc : Thread Cert.NormMixBwdIdeal.nD Cert.NormMixBwdIdeal.τ).loc Cert.NormMixBwdIdeal.main_arg1)
          ∧ r.2.mem ((c.tc : Thread Cert.NormMixBwdIdeal.nD Cert.NormMixBwdIdeal.τ).loc Cert.NormMixBwdIdeal.main_arg2) = m ((c.tc : Thread Cert.NormMixBwdIdeal.nD Cert.NormMixBwdIdeal.τ).loc Cert.NormMixBwdIdeal.main_arg2)
          ∧ r.2.mem ((c.tc : Thread Cert.NormMixBwdIdeal.nD Cert.NormMixBwdIdeal.τ).loc Cert.NormMixBwdIdeal.main_arg3) = m ((c.tc : Thread Cert.NormMixBwdIdeal.nD Cert.NormMixBwdIdeal.τ).loc Cert.NormMixBwdIdeal.main_arg3))
      ∧ θ_run (Cert.NormMixBwdRefIdeal.defs (F := Ideal)) (onTc (τ := Cert.NormMixBwdRefIdeal.τ) (Cert.NormMixBwdRefIdeal.main (F := Ideal))) ⟨m', fun _ => 0, g'⟩ (fun r => ∀ c : Dev Cert.NormMixBwdRefIdeal.nD,
          r.2.mem ((c.tc : Thread Cert.NormMixBwdRefIdeal.nD Cert.NormMixBwdRefIdeal.τ).loc Cert.NormMixBwdRefIdeal.main_v38) = v0 c
          ∧ r.2.mem ((c.tc : Thread Cert.NormMixBwdRefIdeal.nD Cert.NormMixBwdRefIdeal.τ).loc Cert.NormMixBwdRefIdeal.main_v37) = v1 c
          ∧ r.2.mem ((c.tc : Thread Cert.NormMixBwdRefIdeal.nD Cert.NormMixBwdRefIdeal.τ).loc Cert.NormMixBwdRefIdeal.main_arg0) = m' ((c.tc : Thread Cert.NormMixBwdRefIdeal.nD Cert.NormMixBwdRefIdeal.τ).loc Cert.NormMixBwdRefIdeal.main_arg0)
          ∧ r.2.mem ((c.tc : Thread Cert.NormMixBwdRefIdeal.nD Cert.NormMixBwdRefIdeal.τ).loc Cert.NormMixBwdRefIdeal.main_arg1) = m' ((c.tc : Thread Cert.NormMixBwdRefIdeal.nD Cert.NormMixBwdRefIdeal.τ).loc Cert.NormMixBwdRefIdeal.main_arg1)
          ∧ r.2.mem ((c.tc : Thread Cert.NormMixBwdRefIdeal.nD Cert.NormMixBwdRefIdeal.τ).loc Cert.NormMixBwdRefIdeal.main_arg2) = m' ((c.tc : Thread Cert.NormMixBwdRefIdeal.nD Cert.NormMixBwdRefIdeal.τ).loc Cert.NormMixBwdRefIdeal.main_arg2)
          ∧ r.2.mem ((c.tc : Thread Cert.NormMixBwdRefIdeal.nD Cert.NormMixBwdRefIdeal.τ).loc Cert.NormMixBwdRefIdeal.main_arg3) = m' ((c.tc : Thread Cert.NormMixBwdRefIdeal.nD Cert.NormMixBwdRefIdeal.τ).loc Cert.NormMixBwdRefIdeal.main_arg3))

def preserves_NormMemBwd_NormMemBwdIdeal : Prop :=
  True

def algebraic_NormMemBwdIdeal_NormMemBwdRefIdeal [hNormMemBwdIdeal : Cert.NormMemBwdIdeal.Facts] [hNormMemBwdRefIdeal : Cert.NormMemBwdRefIdeal.Facts] : Prop :=
  ∀ (m : (ℓ : Loc Cert.NormMemBwdIdeal.nD Cert.NormMemBwdIdeal.τ Cert.NormMemBwdIdeal.sig) → Buf (Elt Ideal) ℓ) (g : Dev Cert.NormMemBwdIdeal.nD → PrngReg)
    (m' : (ℓ : Loc Cert.NormMemBwdRefIdeal.nD Cert.NormMemBwdRefIdeal.τ Cert.NormMemBwdRefIdeal.sig) → Buf (Elt Ideal) ℓ) (g' : Dev Cert.NormMemBwdRefIdeal.nD → PrngReg), Pre_NormMemBwdIdeal m →
    (∀ c : Dev Cert.NormMemBwdIdeal.nD,
      m' ((c.tc : Thread Cert.NormMemBwdRefIdeal.nD Cert.NormMemBwdRefIdeal.τ).loc Cert.NormMemBwdRefIdeal.main_arg0) = m ((c.tc : Thread Cert.NormMemBwdIdeal.nD Cert.NormMemBwdIdeal.τ).loc Cert.NormMemBwdIdeal.main_arg0)
      ∧ m' ((c.tc : Thread Cert.NormMemBwdRefIdeal.nD Cert.NormMemBwdRefIdeal.τ).loc Cert.NormMemBwdRefIdeal.main_arg1) = m ((c.tc : Thread Cert.NormMemBwdIdeal.nD Cert.NormMemBwdIdeal.τ).loc Cert.NormMemBwdIdeal.main_arg1)
      ∧ m' ((c.tc : Thread Cert.NormMemBwdRefIdeal.nD Cert.NormMemBwdRefIdeal.τ).loc Cert.NormMemBwdRefIdeal.main_arg2) = m ((c.tc : Thread Cert.NormMemBwdIdeal.nD Cert.NormMemBwdIdeal.τ).loc Cert.NormMemBwdIdeal.main_arg2)) →
    ∃ (v0 : (c : Dev Cert.NormMemBwdIdeal.nD) → Buf (Elt Ideal) ((c.tc : Thread Cert.NormMemBwdIdeal.nD Cert.NormMemBwdIdeal.τ).loc Cert.NormMemBwdIdeal.main_v0)),
      θ_run (Cert.NormMemBwdIdeal.defs (F := Ideal)) (onTc (τ := Cert.NormMemBwdIdeal.τ) (Cert.NormMemBwdIdeal.main (F := Ideal))) ⟨m, fun _ => 0, g⟩ (fun r => ∀ c : Dev Cert.NormMemBwdIdeal.nD,
          r.2.mem ((c.tc : Thread Cert.NormMemBwdIdeal.nD Cert.NormMemBwdIdeal.τ).loc Cert.NormMemBwdIdeal.main_v0) = v0 c
          ∧ r.2.mem ((c.tc : Thread Cert.NormMemBwdIdeal.nD Cert.NormMemBwdIdeal.τ).loc Cert.NormMemBwdIdeal.main_arg0) = m ((c.tc : Thread Cert.NormMemBwdIdeal.nD Cert.NormMemBwdIdeal.τ).loc Cert.NormMemBwdIdeal.main_arg0)
          ∧ r.2.mem ((c.tc : Thread Cert.NormMemBwdIdeal.nD Cert.NormMemBwdIdeal.τ).loc Cert.NormMemBwdIdeal.main_arg1) = m ((c.tc : Thread Cert.NormMemBwdIdeal.nD Cert.NormMemBwdIdeal.τ).loc Cert.NormMemBwdIdeal.main_arg1)
          ∧ r.2.mem ((c.tc : Thread Cert.NormMemBwdIdeal.nD Cert.NormMemBwdIdeal.τ).loc Cert.NormMemBwdIdeal.main_arg2) = m ((c.tc : Thread Cert.NormMemBwdIdeal.nD Cert.NormMemBwdIdeal.τ).loc Cert.NormMemBwdIdeal.main_arg2))
      ∧ θ_run (Cert.NormMemBwdRefIdeal.defs (F := Ideal)) (onTc (τ := Cert.NormMemBwdRefIdeal.τ) (Cert.NormMemBwdRefIdeal.main (F := Ideal))) ⟨m', fun _ => 0, g'⟩ (fun r => ∀ c : Dev Cert.NormMemBwdRefIdeal.nD,
          r.2.mem ((c.tc : Thread Cert.NormMemBwdRefIdeal.nD Cert.NormMemBwdRefIdeal.τ).loc Cert.NormMemBwdRefIdeal.main_v18) = v0 c
          ∧ r.2.mem ((c.tc : Thread Cert.NormMemBwdRefIdeal.nD Cert.NormMemBwdRefIdeal.τ).loc Cert.NormMemBwdRefIdeal.main_arg0) = m' ((c.tc : Thread Cert.NormMemBwdRefIdeal.nD Cert.NormMemBwdRefIdeal.τ).loc Cert.NormMemBwdRefIdeal.main_arg0)
          ∧ r.2.mem ((c.tc : Thread Cert.NormMemBwdRefIdeal.nD Cert.NormMemBwdRefIdeal.τ).loc Cert.NormMemBwdRefIdeal.main_arg1) = m' ((c.tc : Thread Cert.NormMemBwdRefIdeal.nD Cert.NormMemBwdRefIdeal.τ).loc Cert.NormMemBwdRefIdeal.main_arg1)
          ∧ r.2.mem ((c.tc : Thread Cert.NormMemBwdRefIdeal.nD Cert.NormMemBwdRefIdeal.τ).loc Cert.NormMemBwdRefIdeal.main_arg2) = m' ((c.tc : Thread Cert.NormMemBwdRefIdeal.nD Cert.NormMemBwdRefIdeal.τ).loc Cert.NormMemBwdRefIdeal.main_arg2))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)) (v3 : (c : Dev Cert.LossHeadIdeal.nD) → Buf (Elt Ideal) ((c.tc : Thread Cert.LossHeadIdeal.nD Cert.LossHeadIdeal.τ).loc Cert.LossHeadIdeal.main_v0_3)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_v0_3) = v3 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v53) = v0 c
          ∧ r.2.mem ((c.tc : Thread Cert.LossHeadRefIdeal.nD Cert.LossHeadRefIdeal.τ).loc Cert.LossHeadRefIdeal.main_v51) = v1 c
          ∧ r.2.mem ((c.tc : Thread Cert.LossHeadRefIdeal.nD Cert.LossHeadRefIdeal.τ).loc Cert.LossHeadRefIdeal.main_v54) = v2 c
          ∧ r.2.mem ((c.tc : Thread Cert.LossHeadRefIdeal.nD Cert.LossHeadRefIdeal.τ).loc Cert.LossHeadRefIdeal.main_v52) = v3 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_AdamWFfn1_AdamWFfn1Ideal : Prop :=
  IdealRules.named_const.Statement Cert.AdamWFfn1Ideal.κ "c1" .f32 0x3FC48605#32 ((8388608 / 5463681 : ℝ) : EReal)
  ∧ IdealRules.named_const.Statement Cert.AdamWFfn1Ideal.κ "c2" .f32 0x42C8E6D3#32 ((268435456 / 2672307 : ℝ) : EReal)

def algebraic_AdamWFfn1Ideal_AdamWFfn1RefIdeal [hAdamWFfn1Ideal : Cert.AdamWFfn1Ideal.Facts] [hAdamWFfn1RefIdeal : Cert.AdamWFfn1RefIdeal.Facts] : Prop :=
  ∀ (m : (ℓ : Loc Cert.AdamWFfn1Ideal.nD Cert.AdamWFfn1Ideal.τ Cert.AdamWFfn1Ideal.sig) → Buf (Elt Ideal) ℓ) (g : Dev Cert.AdamWFfn1Ideal.nD → PrngReg)
    (m' : (ℓ : Loc Cert.AdamWFfn1RefIdeal.nD Cert.AdamWFfn1RefIdeal.τ Cert.AdamWFfn1RefIdeal.sig) → Buf (Elt Ideal) ℓ) (g' : Dev Cert.AdamWFfn1RefIdeal.nD → PrngReg), Pre_AdamWFfn1Ideal m →
    (∀ c : Dev Cert.AdamWFfn1Ideal.nD,
      m' ((c.tc : Thread Cert.AdamWFfn1RefIdeal.nD Cert.AdamWFfn1RefIdeal.τ).loc Cert.AdamWFfn1RefIdeal.main_arg0) = m ((c.tc : Thread Cert.AdamWFfn1Ideal.nD Cert.AdamWFfn1Ideal.τ).loc Cert.AdamWFfn1Ideal.main_arg0)
      ∧ m' ((c.tc : Thread Cert.AdamWFfn1RefIdeal.nD Cert.AdamWFfn1RefIdeal.τ).loc Cert.AdamWFfn1RefIdeal.main_arg1) = m ((c.tc : Thread Cert.AdamWFfn1Ideal.nD Cert.AdamWFfn1Ideal.τ).loc Cert.AdamWFfn1Ideal.main_arg1)
      ∧ m' ((c.tc : Thread Cert.AdamWFfn1RefIdeal.nD Cert.AdamWFfn1RefIdeal.τ).loc Cert.AdamWFfn1RefIdeal.main_arg2) = m ((c.tc : Thread Cert.AdamWFfn1Ideal.nD Cert.AdamWFfn1Ideal.τ).loc Cert.AdamWFfn1Ideal.main_arg2)
      ∧ m' ((c.tc : Thread Cert.AdamWFfn1RefIdeal.nD Cert.AdamWFfn1RefIdeal.τ).loc Cert.AdamWFfn1RefIdeal.main_arg3) = m ((c.tc : Thread Cert.AdamWFfn1Ideal.nD Cert.AdamWFfn1Ideal.τ).loc Cert.AdamWFfn1Ideal.main_arg3)) →
    ∃ (v0 : (c : Dev Cert.AdamWFfn1Ideal.nD) → Buf (Elt Ideal) ((c.tc : Thread Cert.AdamWFfn1Ideal.nD Cert.AdamWFfn1Ideal.τ).loc Cert.AdamWFfn1Ideal.main_v0_0)) (v1 : (c : Dev Cert.AdamWFfn1Ideal.nD) → Buf (Elt Ideal) ((c.tc : Thread Cert.AdamWFfn1Ideal.nD Cert.AdamWFfn1Ideal.τ).loc Cert.AdamWFfn1Ideal.main_v0_1)) (v2 : (c : Dev Cert.AdamWFfn1Ideal.nD) → Buf (Elt Ideal) ((c.tc : Thread Cert.AdamWFfn1Ideal.nD Cert.AdamWFfn1Ideal.τ).loc Cert.AdamWFfn1Ideal.main_v0_2)) (v3 : (c : Dev Cert.AdamWFfn1Ideal.nD) → Buf (Elt Ideal) ((c.tc : Thread Cert.AdamWFfn1Ideal.nD Cert.AdamWFfn1Ideal.τ).loc Cert.AdamWFfn1Ideal.main_v0_3)),
      θ_run (Cert.AdamWFfn1Ideal.defs (F := Ideal)) (onTc (τ := Cert.AdamWFfn1Ideal.τ) (Cert.AdamWFfn1Ideal.main (F := Ideal))) ⟨m, fun _ => 0, g⟩ (fun r => ∀ c : Dev Cert.AdamWFfn1Ideal.nD,
          r.2.mem ((c.tc : Thread Cert.AdamWFfn1Ideal.nD Cert.AdamWFfn1Ideal.τ).loc Cert.AdamWFfn1Ideal.main_v0_0) = v0 c
          ∧ r.2.mem ((c.tc : Thread Cert.AdamWFfn1Ideal.nD Cert.AdamWFfn1Ideal.τ).loc Cert.AdamWFfn1Ideal.main_v0_1) = v1 c
          ∧ r.2.mem ((c.tc : Thread Cert.AdamWFfn1Ideal.nD Cert.AdamWFfn1Ideal.τ).loc Cert.AdamWFfn1Ideal.main_v0_2) = v2 c
          ∧ r.2.mem ((c.tc : Thread Cert.AdamWFfn1Ideal.nD Cert.AdamWFfn1Ideal.τ).loc Cert.AdamWFfn1Ideal.main_v0_3) = v3 c
          ∧ r.2.mem ((c.tc : Thread Cert.AdamWFfn1Ideal.nD Cert.AdamWFfn1Ideal.τ).loc Cert.AdamWFfn1Ideal.main_arg0) = m ((c.tc : Thread Cert.AdamWFfn1Ideal.nD Cert.AdamWFfn1Ideal.τ).loc Cert.AdamWFfn1Ideal.main_arg0)
          ∧ r.2.mem ((c.tc : Thread Cert.AdamWFfn1Ideal.nD Cert.AdamWFfn1Ideal.τ).loc Cert.AdamWFfn1Ideal.main_arg1) = m ((c.tc : Thread Cert.AdamWFfn1Ideal.nD Cert.AdamWFfn1Ideal.τ).loc Cert.AdamWFfn1Ideal.main_arg1)
          ∧ r.2.mem ((c.tc : Thread Cert.AdamWFfn1Ideal.nD Cert.AdamWFfn1Ideal.τ).loc Cert.AdamWFfn1Ideal.main_arg2) = m ((c.tc : Thread Cert.AdamWFfn1Ideal.nD Cert.AdamWFfn1Ideal.τ).loc Cert.AdamWFfn1Ideal.main_arg2)
          ∧ r.2.mem ((c.tc : Thread Cert.AdamWFfn1Ideal.nD Cert.AdamWFfn1Ideal.τ).loc Cert.AdamWFfn1Ideal.main_arg3) = m ((c.tc : Thread Cert.AdamWFfn1Ideal.nD Cert.AdamWFfn1Ideal.τ).loc Cert.AdamWFfn1Ideal.main_arg3))
      ∧ θ_run (Cert.AdamWFfn1RefIdeal.defs (F := Ideal)) (onTc (τ := Cert.AdamWFfn1RefIdeal.τ) (Cert.AdamWFfn1RefIdeal.main (F := Ideal))) ⟨m', fun _ => 0, g'⟩ (fun r => ∀ c : Dev Cert.AdamWFfn1RefIdeal.nD,
          r.2.mem ((c.tc : Thread Cert.AdamWFfn1RefIdeal.nD Cert.AdamWFfn1RefIdeal.τ).loc Cert.AdamWFfn1RefIdeal.main_v1) = v0 c
          ∧ r.2.mem ((c.tc : Thread Cert.AdamWFfn1RefIdeal.nD Cert.AdamWFfn1RefIdeal.τ).loc Cert.AdamWFfn1RefIdeal.main_v25) = v1 c
          ∧ r.2.mem ((c.tc : Thread Cert.AdamWFfn1RefIdeal.nD Cert.AdamWFfn1RefIdeal.τ).loc Cert.AdamWFfn1RefIdeal.main_v6) = v2 c
          ∧ r.2.mem ((c.tc : Thread Cert.AdamWFfn1RefIdeal.nD Cert.AdamWFfn1RefIdeal.τ).loc Cert.AdamWFfn1RefIdeal.main_v12) = v3 c
          ∧ r.2.mem ((c.tc : Thread Cert.AdamWFfn1RefIdeal.nD Cert.AdamWFfn1RefIdeal.τ).loc Cert.AdamWFfn1RefIdeal.main_arg0) = m' ((c.tc : Thread Cert.AdamWFfn1RefIdeal.nD Cert.AdamWFfn1RefIdeal.τ).loc Cert.AdamWFfn1RefIdeal.main_arg0)
          ∧ r.2.mem ((c.tc : Thread Cert.AdamWFfn1RefIdeal.nD Cert.AdamWFfn1RefIdeal.τ).loc Cert.AdamWFfn1RefIdeal.main_arg1) = m' ((c.tc : Thread Cert.AdamWFfn1RefIdeal.nD Cert.AdamWFfn1RefIdeal.τ).loc Cert.AdamWFfn1RefIdeal.main_arg1)
          ∧ r.2.mem ((c.tc : Thread Cert.AdamWFfn1RefIdeal.nD Cert.AdamWFfn1RefIdeal.τ).loc Cert.AdamWFfn1RefIdeal.main_arg2) = m' ((c.tc : Thread Cert.AdamWFfn1RefIdeal.nD Cert.AdamWFfn1RefIdeal.τ).loc Cert.AdamWFfn1RefIdeal.main_arg2)
          ∧ r.2.mem ((c.tc : Thread Cert.AdamWFfn1RefIdeal.nD Cert.AdamWFfn1RefIdeal.τ).loc Cert.AdamWFfn1RefIdeal.main_arg3) = m' ((c.tc : Thread Cert.AdamWFfn1RefIdeal.nD Cert.AdamWFfn1RefIdeal.τ).loc Cert.AdamWFfn1RefIdeal.main_arg3))

def preserves_AdamWFfn2_AdamWFfn2Ideal : Prop :=
  IdealRules.named_const.Statement Cert.AdamWFfn2Ideal.κ "c1" .f32 0x3FC48605#32 ((8388608 / 5463681 : ℝ) : EReal)
  ∧ IdealRules.named_const.Statement Cert.AdamWFfn2Ideal.κ "c2" .f32 0x42C8E6D3#32 ((268435456 / 2672307 : ℝ) : EReal)

def algebraic_AdamWFfn2Ideal_AdamWFfn2RefIdeal [hAdamWFfn2Ideal : Cert.AdamWFfn2Ideal.Facts] [hAdamWFfn2RefIdeal : Cert.AdamWFfn2RefIdeal.Facts] : Prop :=
  ∀ (m : (ℓ : Loc Cert.AdamWFfn2Ideal.nD Cert.AdamWFfn2Ideal.τ Cert.AdamWFfn2Ideal.sig) → Buf (Elt Ideal) ℓ) (g : Dev Cert.AdamWFfn2Ideal.nD → PrngReg)
    (m' : (ℓ : Loc Cert.AdamWFfn2RefIdeal.nD Cert.AdamWFfn2RefIdeal.τ Cert.AdamWFfn2RefIdeal.sig) → Buf (Elt Ideal) ℓ) (g' : Dev Cert.AdamWFfn2RefIdeal.nD → PrngReg), Pre_AdamWFfn2Ideal m →
    (∀ c : Dev Cert.AdamWFfn2Ideal.nD,
      m' ((c.tc : Thread Cert.AdamWFfn2RefIdeal.nD Cert.AdamWFfn2RefIdeal.τ).loc Cert.AdamWFfn2RefIdeal.main_arg0) = m ((c.tc : Thread Cert.AdamWFfn2Ideal.nD Cert.AdamWFfn2Ideal.τ).loc Cert.AdamWFfn2Ideal.main_arg0)
      ∧ m' ((c.tc : Thread Cert.AdamWFfn2RefIdeal.nD Cert.AdamWFfn2RefIdeal.τ).loc Cert.AdamWFfn2RefIdeal.main_arg1) = m ((c.tc : Thread Cert.AdamWFfn2Ideal.nD Cert.AdamWFfn2Ideal.τ).loc Cert.AdamWFfn2Ideal.main_arg1)
      ∧ m' ((c.tc : Thread Cert.AdamWFfn2RefIdeal.nD Cert.AdamWFfn2RefIdeal.τ).loc Cert.AdamWFfn2RefIdeal.main_arg2) = m ((c.tc : Thread Cert.AdamWFfn2Ideal.nD Cert.AdamWFfn2Ideal.τ).loc Cert.AdamWFfn2Ideal.main_arg2)
      ∧ m' ((c.tc : Thread Cert.AdamWFfn2RefIdeal.nD Cert.AdamWFfn2RefIdeal.τ).loc Cert.AdamWFfn2RefIdeal.main_arg3) = m ((c.tc : Thread Cert.AdamWFfn2Ideal.nD Cert.AdamWFfn2Ideal.τ).loc Cert.AdamWFfn2Ideal.main_arg3)) →
    ∃ (v0 : (c : Dev Cert.AdamWFfn2Ideal.nD) → Buf (Elt Ideal) ((c.tc : Thread Cert.AdamWFfn2Ideal.nD Cert.AdamWFfn2Ideal.τ).loc Cert.AdamWFfn2Ideal.main_v0_0)) (v1 : (c : Dev Cert.AdamWFfn2Ideal.nD) → Buf (Elt Ideal) ((c.tc : Thread Cert.AdamWFfn2Ideal.nD Cert.AdamWFfn2Ideal.τ).loc Cert.AdamWFfn2Ideal.main_v0_1)) (v2 : (c : Dev Cert.AdamWFfn2Ideal.nD) → Buf (Elt Ideal) ((c.tc : Thread Cert.AdamWFfn2Ideal.nD Cert.AdamWFfn2Ideal.τ).loc Cert.AdamWFfn2Ideal.main_v0_2)) (v3 : (c : Dev Cert.AdamWFfn2Ideal.nD) → Buf (Elt Ideal) ((c.tc : Thread Cert.AdamWFfn2Ideal.nD Cert.AdamWFfn2Ideal.τ).loc Cert.AdamWFfn2Ideal.main_v0_3)),
      θ_run (Cert.AdamWFfn2Ideal.defs (F := Ideal)) (onTc (τ := Cert.AdamWFfn2Ideal.τ) (Cert.AdamWFfn2Ideal.main (F := Ideal))) ⟨m, fun _ => 0, g⟩ (fun r => ∀ c : Dev Cert.AdamWFfn2Ideal.nD,
          r.2.mem ((c.tc : Thread Cert.AdamWFfn2Ideal.nD Cert.AdamWFfn2Ideal.τ).loc Cert.AdamWFfn2Ideal.main_v0_0) = v0 c
          ∧ r.2.mem ((c.tc : Thread Cert.AdamWFfn2Ideal.nD Cert.AdamWFfn2Ideal.τ).loc Cert.AdamWFfn2Ideal.main_v0_1) = v1 c
          ∧ r.2.mem ((c.tc : Thread Cert.AdamWFfn2Ideal.nD Cert.AdamWFfn2Ideal.τ).loc Cert.AdamWFfn2Ideal.main_v0_2) = v2 c
          ∧ r.2.mem ((c.tc : Thread Cert.AdamWFfn2Ideal.nD Cert.AdamWFfn2Ideal.τ).loc Cert.AdamWFfn2Ideal.main_v0_3) = v3 c
          ∧ r.2.mem ((c.tc : Thread Cert.AdamWFfn2Ideal.nD Cert.AdamWFfn2Ideal.τ).loc Cert.AdamWFfn2Ideal.main_arg0) = m ((c.tc : Thread Cert.AdamWFfn2Ideal.nD Cert.AdamWFfn2Ideal.τ).loc Cert.AdamWFfn2Ideal.main_arg0)
          ∧ r.2.mem ((c.tc : Thread Cert.AdamWFfn2Ideal.nD Cert.AdamWFfn2Ideal.τ).loc Cert.AdamWFfn2Ideal.main_arg1) = m ((c.tc : Thread Cert.AdamWFfn2Ideal.nD Cert.AdamWFfn2Ideal.τ).loc Cert.AdamWFfn2Ideal.main_arg1)
          ∧ r.2.mem ((c.tc : Thread Cert.AdamWFfn2Ideal.nD Cert.AdamWFfn2Ideal.τ).loc Cert.AdamWFfn2Ideal.main_arg2) = m ((c.tc : Thread Cert.AdamWFfn2Ideal.nD Cert.AdamWFfn2Ideal.τ).loc Cert.AdamWFfn2Ideal.main_arg2)
          ∧ r.2.mem ((c.tc : Thread Cert.AdamWFfn2Ideal.nD Cert.AdamWFfn2Ideal.τ).loc Cert.AdamWFfn2Ideal.main_arg3) = m ((c.tc : Thread Cert.AdamWFfn2Ideal.nD Cert.AdamWFfn2Ideal.τ).loc Cert.AdamWFfn2Ideal.main_arg3))
      ∧ θ_run (Cert.AdamWFfn2RefIdeal.defs (F := Ideal)) (onTc (τ := Cert.AdamWFfn2RefIdeal.τ) (Cert.AdamWFfn2RefIdeal.main (F := Ideal))) ⟨m', fun _ => 0, g'⟩ (fun r => ∀ c : Dev Cert.AdamWFfn2RefIdeal.nD,
          r.2.mem ((c.tc : Thread Cert.AdamWFfn2RefIdeal.nD Cert.AdamWFfn2RefIdeal.τ).loc Cert.AdamWFfn2RefIdeal.main_v1) = v0 c
          ∧ r.2.mem ((c.tc : Thread Cert.AdamWFfn2RefIdeal.nD Cert.AdamWFfn2RefIdeal.τ).loc Cert.AdamWFfn2RefIdeal.main_v25) = v1 c
          ∧ r.2.mem ((c.tc : Thread Cert.AdamWFfn2RefIdeal.nD Cert.AdamWFfn2RefIdeal.τ).loc Cert.AdamWFfn2RefIdeal.main_v6) = v2 c
          ∧ r.2.mem ((c.tc : Thread Cert.AdamWFfn2RefIdeal.nD Cert.AdamWFfn2RefIdeal.τ).loc Cert.AdamWFfn2RefIdeal.main_v12) = v3 c
          ∧ r.2.mem ((c.tc : Thread Cert.AdamWFfn2RefIdeal.nD Cert.AdamWFfn2RefIdeal.τ).loc Cert.AdamWFfn2RefIdeal.main_arg0) = m' ((c.tc : Thread Cert.AdamWFfn2RefIdeal.nD Cert.AdamWFfn2RefIdeal.τ).loc Cert.AdamWFfn2RefIdeal.main_arg0)
          ∧ r.2.mem ((c.tc : Thread Cert.AdamWFfn2RefIdeal.nD Cert.AdamWFfn2RefIdeal.τ).loc Cert.AdamWFfn2RefIdeal.main_arg1) = m' ((c.tc : Thread Cert.AdamWFfn2RefIdeal.nD Cert.AdamWFfn2RefIdeal.τ).loc Cert.AdamWFfn2RefIdeal.main_arg1)
          ∧ r.2.mem ((c.tc : Thread Cert.AdamWFfn2RefIdeal.nD Cert.AdamWFfn2RefIdeal.τ).loc Cert.AdamWFfn2RefIdeal.main_arg2) = m' ((c.tc : Thread Cert.AdamWFfn2RefIdeal.nD Cert.AdamWFfn2RefIdeal.τ).loc Cert.AdamWFfn2RefIdeal.main_arg2)
          ∧ r.2.mem ((c.tc : Thread Cert.AdamWFfn2RefIdeal.nD Cert.AdamWFfn2RefIdeal.τ).loc Cert.AdamWFfn2RefIdeal.main_arg3) = m' ((c.tc : Thread Cert.AdamWFfn2RefIdeal.nD Cert.AdamWFfn2RefIdeal.τ).loc Cert.AdamWFfn2RefIdeal.main_arg3))

def preserves_AdamWSquare_AdamWSquareIdeal : Prop :=
  IdealRules.named_const.Statement Cert.AdamWSquareIdeal.κ "c1" .f32 0x3FC48605#32 ((8388608 / 5463681 : ℝ) : EReal)
  ∧ IdealRules.named_const.Statement Cert.AdamWSquareIdeal.κ "c2" .f32 0x42C8E6D3#32 ((268435456 / 2672307 : ℝ) : EReal)

def algebraic_AdamWSquareIdeal_AdamWSquareRefIdeal [hAdamWSquareIdeal : Cert.AdamWSquareIdeal.Facts] [hAdamWSquareRefIdeal : Cert.AdamWSquareRefIdeal.Facts] : Prop :=
  ∀ (m : (ℓ : Loc Cert.AdamWSquareIdeal.nD Cert.AdamWSquareIdeal.τ Cert.AdamWSquareIdeal.sig) → Buf (Elt Ideal) ℓ) (g : Dev Cert.AdamWSquareIdeal.nD → PrngReg)
    (m' : (ℓ : Loc Cert.AdamWSquareRefIdeal.nD Cert.AdamWSquareRefIdeal.τ Cert.AdamWSquareRefIdeal.sig) → Buf (Elt Ideal) ℓ) (g' : Dev Cert.AdamWSquareRefIdeal.nD → PrngReg), Pre_AdamWSquareIdeal m →
    (∀ c : Dev Cert.AdamWSquareIdeal.nD,
      m' ((c.tc : Thread Cert.AdamWSquareRefIdeal.nD Cert.AdamWSquareRefIdeal.τ).loc Cert.AdamWSquareRefIdeal.main_arg0) = m ((c.tc : Thread Cert.AdamWSquareIdeal.nD Cert.AdamWSquareIdeal.τ).loc Cert.AdamWSquareIdeal.main_arg0)
      ∧ m' ((c.tc : Thread Cert.AdamWSquareRefIdeal.nD Cert.AdamWSquareRefIdeal.τ).loc Cert.AdamWSquareRefIdeal.main_arg1) = m ((c.tc : Thread Cert.AdamWSquareIdeal.nD Cert.AdamWSquareIdeal.τ).loc Cert.AdamWSquareIdeal.main_arg1)
      ∧ m' ((c.tc : Thread Cert.AdamWSquareRefIdeal.nD Cert.AdamWSquareRefIdeal.τ).loc Cert.AdamWSquareRefIdeal.main_arg2) = m ((c.tc : Thread Cert.AdamWSquareIdeal.nD Cert.AdamWSquareIdeal.τ).loc Cert.AdamWSquareIdeal.main_arg2)
      ∧ m' ((c.tc : Thread Cert.AdamWSquareRefIdeal.nD Cert.AdamWSquareRefIdeal.τ).loc Cert.AdamWSquareRefIdeal.main_arg3) = m ((c.tc : Thread Cert.AdamWSquareIdeal.nD Cert.AdamWSquareIdeal.τ).loc Cert.AdamWSquareIdeal.main_arg3)) →
    ∃ (v0 : (c : Dev Cert.AdamWSquareIdeal.nD) → Buf (Elt Ideal) ((c.tc : Thread Cert.AdamWSquareIdeal.nD Cert.AdamWSquareIdeal.τ).loc Cert.AdamWSquareIdeal.main_v0_0)) (v1 : (c : Dev Cert.AdamWSquareIdeal.nD) → Buf (Elt Ideal) ((c.tc : Thread Cert.AdamWSquareIdeal.nD Cert.AdamWSquareIdeal.τ).loc Cert.AdamWSquareIdeal.main_v0_1)) (v2 : (c : Dev Cert.AdamWSquareIdeal.nD) → Buf (Elt Ideal) ((c.tc : Thread Cert.AdamWSquareIdeal.nD Cert.AdamWSquareIdeal.τ).loc Cert.AdamWSquareIdeal.main_v0_2)) (v3 : (c : Dev Cert.AdamWSquareIdeal.nD) → Buf (Elt Ideal) ((c.tc : Thread Cert.AdamWSquareIdeal.nD Cert.AdamWSquareIdeal.τ).loc Cert.AdamWSquareIdeal.main_v0_3)),
      θ_run (Cert.AdamWSquareIdeal.defs (F := Ideal)) (onTc (τ := Cert.AdamWSquareIdeal.τ) (Cert.AdamWSquareIdeal.main (F := Ideal))) ⟨m, fun _ => 0, g⟩ (fun r => ∀ c : Dev Cert.AdamWSquareIdeal.nD,
          r.2.mem ((c.tc : Thread Cert.AdamWSquareIdeal.nD Cert.AdamWSquareIdeal.τ).loc Cert.AdamWSquareIdeal.main_v0_0) = v0 c
          ∧ r.2.mem ((c.tc : Thread Cert.AdamWSquareIdeal.nD Cert.AdamWSquareIdeal.τ).loc Cert.AdamWSquareIdeal.main_v0_1) = v1 c
          ∧ r.2.mem ((c.tc : Thread Cert.AdamWSquareIdeal.nD Cert.AdamWSquareIdeal.τ).loc Cert.AdamWSquareIdeal.main_v0_2) = v2 c
          ∧ r.2.mem ((c.tc : Thread Cert.AdamWSquareIdeal.nD Cert.AdamWSquareIdeal.τ).loc Cert.AdamWSquareIdeal.main_v0_3) = v3 c
          ∧ r.2.mem ((c.tc : Thread Cert.AdamWSquareIdeal.nD Cert.AdamWSquareIdeal.τ).loc Cert.AdamWSquareIdeal.main_arg0) = m ((c.tc : Thread Cert.AdamWSquareIdeal.nD Cert.AdamWSquareIdeal.τ).loc Cert.AdamWSquareIdeal.main_arg0)
          ∧ r.2.mem ((c.tc : Thread Cert.AdamWSquareIdeal.nD Cert.AdamWSquareIdeal.τ).loc Cert.AdamWSquareIdeal.main_arg1) = m ((c.tc : Thread Cert.AdamWSquareIdeal.nD Cert.AdamWSquareIdeal.τ).loc Cert.AdamWSquareIdeal.main_arg1)
          ∧ r.2.mem ((c.tc : Thread Cert.AdamWSquareIdeal.nD Cert.AdamWSquareIdeal.τ).loc Cert.AdamWSquareIdeal.main_arg2) = m ((c.tc : Thread Cert.AdamWSquareIdeal.nD Cert.AdamWSquareIdeal.τ).loc Cert.AdamWSquareIdeal.main_arg2)
          ∧ r.2.mem ((c.tc : Thread Cert.AdamWSquareIdeal.nD Cert.AdamWSquareIdeal.τ).loc Cert.AdamWSquareIdeal.main_arg3) = m ((c.tc : Thread Cert.AdamWSquareIdeal.nD Cert.AdamWSquareIdeal.τ).loc Cert.AdamWSquareIdeal.main_arg3))
      ∧ θ_run (Cert.AdamWSquareRefIdeal.defs (F := Ideal)) (onTc (τ := Cert.AdamWSquareRefIdeal.τ) (Cert.AdamWSquareRefIdeal.main (F := Ideal))) ⟨m', fun _ => 0, g'⟩ (fun r => ∀ c : Dev Cert.AdamWSquareRefIdeal.nD,
          r.2.mem ((c.tc : Thread Cert.AdamWSquareRefIdeal.nD Cert.AdamWSquareRefIdeal.τ).loc Cert.AdamWSquareRefIdeal.main_v1) = v0 c
          ∧ r.2.mem ((c.tc : Thread Cert.AdamWSquareRefIdeal.nD Cert.AdamWSquareRefIdeal.τ).loc Cert.AdamWSquareRefIdeal.main_v25) = v1 c
          ∧ r.2.mem ((c.tc : Thread Cert.AdamWSquareRefIdeal.nD Cert.AdamWSquareRefIdeal.τ).loc Cert.AdamWSquareRefIdeal.main_v6) = v2 c
          ∧ r.2.mem ((c.tc : Thread Cert.AdamWSquareRefIdeal.nD Cert.AdamWSquareRefIdeal.τ).loc Cert.AdamWSquareRefIdeal.main_v12) = v3 c
          ∧ r.2.mem ((c.tc : Thread Cert.AdamWSquareRefIdeal.nD Cert.AdamWSquareRefIdeal.τ).loc Cert.AdamWSquareRefIdeal.main_arg0) = m' ((c.tc : Thread Cert.AdamWSquareRefIdeal.nD Cert.AdamWSquareRefIdeal.τ).loc Cert.AdamWSquareRefIdeal.main_arg0)
          ∧ r.2.mem ((c.tc : Thread Cert.AdamWSquareRefIdeal.nD Cert.AdamWSquareRefIdeal.τ).loc Cert.AdamWSquareRefIdeal.main_arg1) = m' ((c.tc : Thread Cert.AdamWSquareRefIdeal.nD Cert.AdamWSquareRefIdeal.τ).loc Cert.AdamWSquareRefIdeal.main_arg1)
          ∧ r.2.mem ((c.tc : Thread Cert.AdamWSquareRefIdeal.nD Cert.AdamWSquareRefIdeal.τ).loc Cert.AdamWSquareRefIdeal.main_arg2) = m' ((c.tc : Thread Cert.AdamWSquareRefIdeal.nD Cert.AdamWSquareRefIdeal.τ).loc Cert.AdamWSquareRefIdeal.main_arg2)
          ∧ r.2.mem ((c.tc : Thread Cert.AdamWSquareRefIdeal.nD Cert.AdamWSquareRefIdeal.τ).loc Cert.AdamWSquareRefIdeal.main_arg3) = m' ((c.tc : Thread Cert.AdamWSquareRefIdeal.nD Cert.AdamWSquareRefIdeal.τ).loc Cert.AdamWSquareRefIdeal.main_arg3))

def preserves_SumIn_SumInIdeal : Prop :=
  True

def algebraic_SumInIdeal_SumInRefIdeal [hSumInIdeal : Cert.SumInIdeal.Facts] [hSumInRefIdeal : Cert.SumInRefIdeal.Facts] : Prop :=
  ∀ (m : (ℓ : Loc Cert.SumInIdeal.nD Cert.SumInIdeal.τ Cert.SumInIdeal.sig) → Buf (Elt Ideal) ℓ) (g : Dev Cert.SumInIdeal.nD → PrngReg)
    (m' : (ℓ : Loc Cert.SumInRefIdeal.nD Cert.SumInRefIdeal.τ Cert.SumInRefIdeal.sig) → Buf (Elt Ideal) ℓ) (g' : Dev Cert.SumInRefIdeal.nD → PrngReg), Pre_SumInIdeal m →
    (∀ c : Dev Cert.SumInIdeal.nD,
      m' ((c.tc : Thread Cert.SumInRefIdeal.nD Cert.SumInRefIdeal.τ).loc Cert.SumInRefIdeal.main_arg0) = m ((c.tc : Thread Cert.SumInIdeal.nD Cert.SumInIdeal.τ).loc Cert.SumInIdeal.main_arg0)) →
    ∃ (v0 : (c : Dev Cert.SumInIdeal.nD) → Buf (Elt Ideal) ((c.tc : Thread Cert.SumInIdeal.nD Cert.SumInIdeal.τ).loc Cert.SumInIdeal.main_v0)),
      θ_run (Cert.SumInIdeal.defs (F := Ideal)) (onTc (τ := Cert.SumInIdeal.τ) (Cert.SumInIdeal.main (F := Ideal))) ⟨m, fun _ => 0, g⟩ (fun r => ∀ c : Dev Cert.SumInIdeal.nD,
          r.2.mem ((c.tc : Thread Cert.SumInIdeal.nD Cert.SumInIdeal.τ).loc Cert.SumInIdeal.main_v0) = v0 c
          ∧ r.2.mem ((c.tc : Thread Cert.SumInIdeal.nD Cert.SumInIdeal.τ).loc Cert.SumInIdeal.main_arg0) = m ((c.tc : Thread Cert.SumInIdeal.nD Cert.SumInIdeal.τ).loc Cert.SumInIdeal.main_arg0))
      ∧ θ_run (Cert.SumInRefIdeal.defs (F := Ideal)) (onTc (τ := Cert.SumInRefIdeal.τ) (Cert.SumInRefIdeal.main (F := Ideal))) ⟨m', fun _ => 0, g'⟩ (fun r => ∀ c : Dev Cert.SumInRefIdeal.nD,
          r.2.mem ((c.tc : Thread Cert.SumInRefIdeal.nD Cert.SumInRefIdeal.τ).loc Cert.SumInRefIdeal.main_v1) = v0 c
          ∧ r.2.mem ((c.tc : Thread Cert.SumInRefIdeal.nD Cert.SumInRefIdeal.τ).loc Cert.SumInRefIdeal.main_arg0) = m' ((c.tc : Thread Cert.SumInRefIdeal.nD Cert.SumInRefIdeal.τ).loc Cert.SumInRefIdeal.main_arg0))

def preserves_AdamWIn_AdamWInIdeal : Prop :=
  IdealRules.named_const.Statement Cert.AdamWInIdeal.κ "c1" .f32 0x3FC48605#32 ((8388608 / 5463681 : ℝ) : EReal)
  ∧ IdealRules.named_const.Statement Cert.AdamWInIdeal.κ "c2" .f32 0x42C8E6D3#32 ((268435456 / 2672307 : ℝ) : EReal)

def algebraic_AdamWInIdeal_AdamWInRefIdeal [hAdamWInIdeal : Cert.AdamWInIdeal.Facts] [hAdamWInRefIdeal : Cert.AdamWInRefIdeal.Facts] : Prop :=
  ∀ (m : (ℓ : Loc Cert.AdamWInIdeal.nD Cert.AdamWInIdeal.τ Cert.AdamWInIdeal.sig) → Buf (Elt Ideal) ℓ) (g : Dev Cert.AdamWInIdeal.nD → PrngReg)
    (m' : (ℓ : Loc Cert.AdamWInRefIdeal.nD Cert.AdamWInRefIdeal.τ Cert.AdamWInRefIdeal.sig) → Buf (Elt Ideal) ℓ) (g' : Dev Cert.AdamWInRefIdeal.nD → PrngReg), Pre_AdamWInIdeal m →
    (∀ c : Dev Cert.AdamWInIdeal.nD,
      m' ((c.tc : Thread Cert.AdamWInRefIdeal.nD Cert.AdamWInRefIdeal.τ).loc Cert.AdamWInRefIdeal.main_arg0) = m ((c.tc : Thread Cert.AdamWInIdeal.nD Cert.AdamWInIdeal.τ).loc Cert.AdamWInIdeal.main_arg0)
      ∧ m' ((c.tc : Thread Cert.AdamWInRefIdeal.nD Cert.AdamWInRefIdeal.τ).loc Cert.AdamWInRefIdeal.main_arg1) = m ((c.tc : Thread Cert.AdamWInIdeal.nD Cert.AdamWInIdeal.τ).loc Cert.AdamWInIdeal.main_arg1)
      ∧ m' ((c.tc : Thread Cert.AdamWInRefIdeal.nD Cert.AdamWInRefIdeal.τ).loc Cert.AdamWInRefIdeal.main_arg2) = m ((c.tc : Thread Cert.AdamWInIdeal.nD Cert.AdamWInIdeal.τ).loc Cert.AdamWInIdeal.main_arg2)
      ∧ m' ((c.tc : Thread Cert.AdamWInRefIdeal.nD Cert.AdamWInRefIdeal.τ).loc Cert.AdamWInRefIdeal.main_arg3) = m ((c.tc : Thread Cert.AdamWInIdeal.nD Cert.AdamWInIdeal.τ).loc Cert.AdamWInIdeal.main_arg3)) →
    ∃ (v0 : (c : Dev Cert.AdamWInIdeal.nD) → Buf (Elt Ideal) ((c.tc : Thread Cert.AdamWInIdeal.nD Cert.AdamWInIdeal.τ).loc Cert.AdamWInIdeal.main_v2_0)) (v1 : (c : Dev Cert.AdamWInIdeal.nD) → Buf (Elt Ideal) ((c.tc : Thread Cert.AdamWInIdeal.nD Cert.AdamWInIdeal.τ).loc Cert.AdamWInIdeal.main_v2_1)) (v2 : (c : Dev Cert.AdamWInIdeal.nD) → Buf (Elt Ideal) ((c.tc : Thread Cert.AdamWInIdeal.nD Cert.AdamWInIdeal.τ).loc Cert.AdamWInIdeal.main_v2_2)) (v3 : (c : Dev Cert.AdamWInIdeal.nD) → Buf (Elt Ideal) ((c.tc : Thread Cert.AdamWInIdeal.nD Cert.AdamWInIdeal.τ).loc Cert.AdamWInIdeal.main_v2_3)),
      θ_run (Cert.AdamWInIdeal.defs (F := Ideal)) (onTc (τ := Cert.AdamWInIdeal.τ) (Cert.AdamWInIdeal.main (F := Ideal))) ⟨m, fun _ => 0, g⟩ (fun r => ∀ c : Dev Cert.AdamWInIdeal.nD,
          r.2.mem ((c.tc : Thread Cert.AdamWInIdeal.nD Cert.AdamWInIdeal.τ).loc Cert.AdamWInIdeal.main_v2_0) = v0 c
          ∧ r.2.mem ((c.tc : Thread Cert.AdamWInIdeal.nD Cert.AdamWInIdeal.τ).loc Cert.AdamWInIdeal.main_v2_1) = v1 c
          ∧ r.2.mem ((c.tc : Thread Cert.AdamWInIdeal.nD Cert.AdamWInIdeal.τ).loc Cert.AdamWInIdeal.main_v2_2) = v2 c
          ∧ r.2.mem ((c.tc : Thread Cert.AdamWInIdeal.nD Cert.AdamWInIdeal.τ).loc Cert.AdamWInIdeal.main_v2_3) = v3 c
          ∧ r.2.mem ((c.tc : Thread Cert.AdamWInIdeal.nD Cert.AdamWInIdeal.τ).loc Cert.AdamWInIdeal.main_arg0) = m ((c.tc : Thread Cert.AdamWInIdeal.nD Cert.AdamWInIdeal.τ).loc Cert.AdamWInIdeal.main_arg0)
          ∧ r.2.mem ((c.tc : Thread Cert.AdamWInIdeal.nD Cert.AdamWInIdeal.τ).loc Cert.AdamWInIdeal.main_arg1) = m ((c.tc : Thread Cert.AdamWInIdeal.nD Cert.AdamWInIdeal.τ).loc Cert.AdamWInIdeal.main_arg1)
          ∧ r.2.mem ((c.tc : Thread Cert.AdamWInIdeal.nD Cert.AdamWInIdeal.τ).loc Cert.AdamWInIdeal.main_arg2) = m ((c.tc : Thread Cert.AdamWInIdeal.nD Cert.AdamWInIdeal.τ).loc Cert.AdamWInIdeal.main_arg2)
          ∧ r.2.mem ((c.tc : Thread Cert.AdamWInIdeal.nD Cert.AdamWInIdeal.τ).loc Cert.AdamWInIdeal.main_arg3) = m ((c.tc : Thread Cert.AdamWInIdeal.nD Cert.AdamWInIdeal.τ).loc Cert.AdamWInIdeal.main_arg3))
      ∧ θ_run (Cert.AdamWInRefIdeal.defs (F := Ideal)) (onTc (τ := Cert.AdamWInRefIdeal.τ) (Cert.AdamWInRefIdeal.main (F := Ideal))) ⟨m', fun _ => 0, g'⟩ (fun r => ∀ c : Dev Cert.AdamWInRefIdeal.nD,
          r.2.mem ((c.tc : Thread Cert.AdamWInRefIdeal.nD Cert.AdamWInRefIdeal.τ).loc Cert.AdamWInRefIdeal.main_v0) = v0 c
          ∧ r.2.mem ((c.tc : Thread Cert.AdamWInRefIdeal.nD Cert.AdamWInRefIdeal.τ).loc Cert.AdamWInRefIdeal.main_v24) = v1 c
          ∧ r.2.mem ((c.tc : Thread Cert.AdamWInRefIdeal.nD Cert.AdamWInRefIdeal.τ).loc Cert.AdamWInRefIdeal.main_v5) = v2 c
          ∧ r.2.mem ((c.tc : Thread Cert.AdamWInRefIdeal.nD Cert.AdamWInRefIdeal.τ).loc Cert.AdamWInRefIdeal.main_v11) = v3 c
          ∧ r.2.mem ((c.tc : Thread Cert.AdamWInRefIdeal.nD Cert.AdamWInRefIdeal.τ).loc Cert.AdamWInRefIdeal.main_arg0) = m' ((c.tc : Thread Cert.AdamWInRefIdeal.nD Cert.AdamWInRefIdeal.τ).loc Cert.AdamWInRefIdeal.main_arg0)
          ∧ r.2.mem ((c.tc : Thread Cert.AdamWInRefIdeal.nD Cert.AdamWInRefIdeal.τ).loc Cert.AdamWInRefIdeal.main_arg1) = m' ((c.tc : Thread Cert.AdamWInRefIdeal.nD Cert.AdamWInRefIdeal.τ).loc Cert.AdamWInRefIdeal.main_arg1)
          ∧ r.2.mem ((c.tc : Thread Cert.AdamWInRefIdeal.nD Cert.AdamWInRefIdeal.τ).loc Cert.AdamWInRefIdeal.main_arg2) = m' ((c.tc : Thread Cert.AdamWInRefIdeal.nD Cert.AdamWInRefIdeal.τ).loc Cert.AdamWInRefIdeal.main_arg2)
          ∧ r.2.mem ((c.tc : Thread Cert.AdamWInRefIdeal.nD Cert.AdamWInRefIdeal.τ).loc Cert.AdamWInRefIdeal.main_arg3) = m' ((c.tc : Thread Cert.AdamWInRefIdeal.nD Cert.AdamWInRefIdeal.τ).loc Cert.AdamWInRefIdeal.main_arg3))

def preserves_AdamWConv_AdamWConvIdeal : Prop :=
  IdealRules.named_const.Statement Cert.AdamWConvIdeal.κ "c1" .f32 0x3FC48605#32 ((8388608 / 5463681 : ℝ) : EReal)
  ∧ IdealRules.named_const.Statement Cert.AdamWConvIdeal.κ "c2" .f32 0x42C8E6D3#32 ((268435456 / 2672307 : ℝ) : EReal)

def algebraic_AdamWConvIdeal_AdamWConvRefIdeal [hAdamWConvIdeal : Cert.AdamWConvIdeal.Facts] [hAdamWConvRefIdeal : Cert.AdamWConvRefIdeal.Facts] : Prop :=
  ∀ (m : (ℓ : Loc Cert.AdamWConvIdeal.nD Cert.AdamWConvIdeal.τ Cert.AdamWConvIdeal.sig) → Buf (Elt Ideal) ℓ) (g : Dev Cert.AdamWConvIdeal.nD → PrngReg)
    (m' : (ℓ : Loc Cert.AdamWConvRefIdeal.nD Cert.AdamWConvRefIdeal.τ Cert.AdamWConvRefIdeal.sig) → Buf (Elt Ideal) ℓ) (g' : Dev Cert.AdamWConvRefIdeal.nD → PrngReg), Pre_AdamWConvIdeal m →
    (∀ c : Dev Cert.AdamWConvIdeal.nD,
      m' ((c.tc : Thread Cert.AdamWConvRefIdeal.nD Cert.AdamWConvRefIdeal.τ).loc Cert.AdamWConvRefIdeal.main_arg0) = m ((c.tc : Thread Cert.AdamWConvIdeal.nD Cert.AdamWConvIdeal.τ).loc Cert.AdamWConvIdeal.main_arg0)
      ∧ m' ((c.tc : Thread Cert.AdamWConvRefIdeal.nD Cert.AdamWConvRefIdeal.τ).loc Cert.AdamWConvRefIdeal.main_arg1) = m ((c.tc : Thread Cert.AdamWConvIdeal.nD Cert.AdamWConvIdeal.τ).loc Cert.AdamWConvIdeal.main_arg1)
      ∧ m' ((c.tc : Thread Cert.AdamWConvRefIdeal.nD Cert.AdamWConvRefIdeal.τ).loc Cert.AdamWConvRefIdeal.main_arg2) = m ((c.tc : Thread Cert.AdamWConvIdeal.nD Cert.AdamWConvIdeal.τ).loc Cert.AdamWConvIdeal.main_arg2)
      ∧ m' ((c.tc : Thread Cert.AdamWConvRefIdeal.nD Cert.AdamWConvRefIdeal.τ).loc Cert.AdamWConvRefIdeal.main_arg3) = m ((c.tc : Thread Cert.AdamWConvIdeal.nD Cert.AdamWConvIdeal.τ).loc Cert.AdamWConvIdeal.main_arg3)) →
    ∃ (v0 : (c : Dev Cert.AdamWConvIdeal.nD) → Buf (Elt Ideal) ((c.tc : Thread Cert.AdamWConvIdeal.nD Cert.AdamWConvIdeal.τ).loc Cert.AdamWConvIdeal.main_v0_0)) (v1 : (c : Dev Cert.AdamWConvIdeal.nD) → Buf (Elt Ideal) ((c.tc : Thread Cert.AdamWConvIdeal.nD Cert.AdamWConvIdeal.τ).loc Cert.AdamWConvIdeal.main_v0_1)) (v2 : (c : Dev Cert.AdamWConvIdeal.nD) → Buf (Elt Ideal) ((c.tc : Thread Cert.AdamWConvIdeal.nD Cert.AdamWConvIdeal.τ).loc Cert.AdamWConvIdeal.main_v0_2)) (v3 : (c : Dev Cert.AdamWConvIdeal.nD) → Buf (Elt Ideal) ((c.tc : Thread Cert.AdamWConvIdeal.nD Cert.AdamWConvIdeal.τ).loc Cert.AdamWConvIdeal.main_v0_3)),
      θ_run (Cert.AdamWConvIdeal.defs (F := Ideal)) (onTc (τ := Cert.AdamWConvIdeal.τ) (Cert.AdamWConvIdeal.main (F := Ideal))) ⟨m, fun _ => 0, g⟩ (fun r => ∀ c : Dev Cert.AdamWConvIdeal.nD,
          r.2.mem ((c.tc : Thread Cert.AdamWConvIdeal.nD Cert.AdamWConvIdeal.τ).loc Cert.AdamWConvIdeal.main_v0_0) = v0 c
          ∧ r.2.mem ((c.tc : Thread Cert.AdamWConvIdeal.nD Cert.AdamWConvIdeal.τ).loc Cert.AdamWConvIdeal.main_v0_1) = v1 c
          ∧ r.2.mem ((c.tc : Thread Cert.AdamWConvIdeal.nD Cert.AdamWConvIdeal.τ).loc Cert.AdamWConvIdeal.main_v0_2) = v2 c
          ∧ r.2.mem ((c.tc : Thread Cert.AdamWConvIdeal.nD Cert.AdamWConvIdeal.τ).loc Cert.AdamWConvIdeal.main_v0_3) = v3 c
          ∧ r.2.mem ((c.tc : Thread Cert.AdamWConvIdeal.nD Cert.AdamWConvIdeal.τ).loc Cert.AdamWConvIdeal.main_arg0) = m ((c.tc : Thread Cert.AdamWConvIdeal.nD Cert.AdamWConvIdeal.τ).loc Cert.AdamWConvIdeal.main_arg0)
          ∧ r.2.mem ((c.tc : Thread Cert.AdamWConvIdeal.nD Cert.AdamWConvIdeal.τ).loc Cert.AdamWConvIdeal.main_arg1) = m ((c.tc : Thread Cert.AdamWConvIdeal.nD Cert.AdamWConvIdeal.τ).loc Cert.AdamWConvIdeal.main_arg1)
          ∧ r.2.mem ((c.tc : Thread Cert.AdamWConvIdeal.nD Cert.AdamWConvIdeal.τ).loc Cert.AdamWConvIdeal.main_arg2) = m ((c.tc : Thread Cert.AdamWConvIdeal.nD Cert.AdamWConvIdeal.τ).loc Cert.AdamWConvIdeal.main_arg2)
          ∧ r.2.mem ((c.tc : Thread Cert.AdamWConvIdeal.nD Cert.AdamWConvIdeal.τ).loc Cert.AdamWConvIdeal.main_arg3) = m ((c.tc : Thread Cert.AdamWConvIdeal.nD Cert.AdamWConvIdeal.τ).loc Cert.AdamWConvIdeal.main_arg3))
      ∧ θ_run (Cert.AdamWConvRefIdeal.defs (F := Ideal)) (onTc (τ := Cert.AdamWConvRefIdeal.τ) (Cert.AdamWConvRefIdeal.main (F := Ideal))) ⟨m', fun _ => 0, g'⟩ (fun r => ∀ c : Dev Cert.AdamWConvRefIdeal.nD,
          r.2.mem ((c.tc : Thread Cert.AdamWConvRefIdeal.nD Cert.AdamWConvRefIdeal.τ).loc Cert.AdamWConvRefIdeal.main_v0) = v0 c
          ∧ r.2.mem ((c.tc : Thread Cert.AdamWConvRefIdeal.nD Cert.AdamWConvRefIdeal.τ).loc Cert.AdamWConvRefIdeal.main_v24) = v1 c
          ∧ r.2.mem ((c.tc : Thread Cert.AdamWConvRefIdeal.nD Cert.AdamWConvRefIdeal.τ).loc Cert.AdamWConvRefIdeal.main_v5) = v2 c
          ∧ r.2.mem ((c.tc : Thread Cert.AdamWConvRefIdeal.nD Cert.AdamWConvRefIdeal.τ).loc Cert.AdamWConvRefIdeal.main_v11) = v3 c
          ∧ r.2.mem ((c.tc : Thread Cert.AdamWConvRefIdeal.nD Cert.AdamWConvRefIdeal.τ).loc Cert.AdamWConvRefIdeal.main_arg0) = m' ((c.tc : Thread Cert.AdamWConvRefIdeal.nD Cert.AdamWConvRefIdeal.τ).loc Cert.AdamWConvRefIdeal.main_arg0)
          ∧ r.2.mem ((c.tc : Thread Cert.AdamWConvRefIdeal.nD Cert.AdamWConvRefIdeal.τ).loc Cert.AdamWConvRefIdeal.main_arg1) = m' ((c.tc : Thread Cert.AdamWConvRefIdeal.nD Cert.AdamWConvRefIdeal.τ).loc Cert.AdamWConvRefIdeal.main_arg1)
          ∧ r.2.mem ((c.tc : Thread Cert.AdamWConvRefIdeal.nD Cert.AdamWConvRefIdeal.τ).loc Cert.AdamWConvRefIdeal.main_arg2) = m' ((c.tc : Thread Cert.AdamWConvRefIdeal.nD Cert.AdamWConvRefIdeal.τ).loc Cert.AdamWConvRefIdeal.main_arg2)
          ∧ r.2.mem ((c.tc : Thread Cert.AdamWConvRefIdeal.nD Cert.AdamWConvRefIdeal.τ).loc Cert.AdamWConvRefIdeal.main_arg3) = m' ((c.tc : Thread Cert.AdamWConvRefIdeal.nD Cert.AdamWConvRefIdeal.τ).loc Cert.AdamWConvRefIdeal.main_arg3))

def preserves_AdamWRank_AdamWRankIdeal : Prop :=
  IdealRules.named_const.Statement Cert.AdamWRankIdeal.κ "c1" .f32 0x3FC48605#32 ((8388608 / 5463681 : ℝ) : EReal)
  ∧ IdealRules.named_const.Statement Cert.AdamWRankIdeal.κ "c2" .f32 0x42C8E6D3#32 ((268435456 / 2672307 : ℝ) : EReal)

def algebraic_AdamWRankIdeal_AdamWRankRefIdeal [hAdamWRankIdeal : Cert.AdamWRankIdeal.Facts] [hAdamWRankRefIdeal : Cert.AdamWRankRefIdeal.Facts] : Prop :=
  ∀ (m : (ℓ : Loc Cert.AdamWRankIdeal.nD Cert.AdamWRankIdeal.τ Cert.AdamWRankIdeal.sig) → Buf (Elt Ideal) ℓ) (g : Dev Cert.AdamWRankIdeal.nD → PrngReg)
    (m' : (ℓ : Loc Cert.AdamWRankRefIdeal.nD Cert.AdamWRankRefIdeal.τ Cert.AdamWRankRefIdeal.sig) → Buf (Elt Ideal) ℓ) (g' : Dev Cert.AdamWRankRefIdeal.nD → PrngReg), Pre_AdamWRankIdeal m →
    (∀ c : Dev Cert.AdamWRankIdeal.nD,
      m' ((c.tc : Thread Cert.AdamWRankRefIdeal.nD Cert.AdamWRankRefIdeal.τ).loc Cert.AdamWRankRefIdeal.main_arg0) = m ((c.tc : Thread Cert.AdamWRankIdeal.nD Cert.AdamWRankIdeal.τ).loc Cert.AdamWRankIdeal.main_arg0)
      ∧ m' ((c.tc : Thread Cert.AdamWRankRefIdeal.nD Cert.AdamWRankRefIdeal.τ).loc Cert.AdamWRankRefIdeal.main_arg1) = m ((c.tc : Thread Cert.AdamWRankIdeal.nD Cert.AdamWRankIdeal.τ).loc Cert.AdamWRankIdeal.main_arg1)
      ∧ m' ((c.tc : Thread Cert.AdamWRankRefIdeal.nD Cert.AdamWRankRefIdeal.τ).loc Cert.AdamWRankRefIdeal.main_arg2) = m ((c.tc : Thread Cert.AdamWRankIdeal.nD Cert.AdamWRankIdeal.τ).loc Cert.AdamWRankIdeal.main_arg2)
      ∧ m' ((c.tc : Thread Cert.AdamWRankRefIdeal.nD Cert.AdamWRankRefIdeal.τ).loc Cert.AdamWRankRefIdeal.main_arg3) = m ((c.tc : Thread Cert.AdamWRankIdeal.nD Cert.AdamWRankIdeal.τ).loc Cert.AdamWRankIdeal.main_arg3)) →
    ∃ (v0 : (c : Dev Cert.AdamWRankIdeal.nD) → Buf (Elt Ideal) ((c.tc : Thread Cert.AdamWRankIdeal.nD Cert.AdamWRankIdeal.τ).loc Cert.AdamWRankIdeal.main_v0_0)) (v1 : (c : Dev Cert.AdamWRankIdeal.nD) → Buf (Elt Ideal) ((c.tc : Thread Cert.AdamWRankIdeal.nD Cert.AdamWRankIdeal.τ).loc Cert.AdamWRankIdeal.main_v0_1)) (v2 : (c : Dev Cert.AdamWRankIdeal.nD) → Buf (Elt Ideal) ((c.tc : Thread Cert.AdamWRankIdeal.nD Cert.AdamWRankIdeal.τ).loc Cert.AdamWRankIdeal.main_v0_2)) (v3 : (c : Dev Cert.AdamWRankIdeal.nD) → Buf (Elt Ideal) ((c.tc : Thread Cert.AdamWRankIdeal.nD Cert.AdamWRankIdeal.τ).loc Cert.AdamWRankIdeal.main_v0_3)),
      θ_run (Cert.AdamWRankIdeal.defs (F := Ideal)) (onTc (τ := Cert.AdamWRankIdeal.τ) (Cert.AdamWRankIdeal.main (F := Ideal))) ⟨m, fun _ => 0, g⟩ (fun r => ∀ c : Dev Cert.AdamWRankIdeal.nD,
          r.2.mem ((c.tc : Thread Cert.AdamWRankIdeal.nD Cert.AdamWRankIdeal.τ).loc Cert.AdamWRankIdeal.main_v0_0) = v0 c
          ∧ r.2.mem ((c.tc : Thread Cert.AdamWRankIdeal.nD Cert.AdamWRankIdeal.τ).loc Cert.AdamWRankIdeal.main_v0_1) = v1 c
          ∧ r.2.mem ((c.tc : Thread Cert.AdamWRankIdeal.nD Cert.AdamWRankIdeal.τ).loc Cert.AdamWRankIdeal.main_v0_2) = v2 c
          ∧ r.2.mem ((c.tc : Thread Cert.AdamWRankIdeal.nD Cert.AdamWRankIdeal.τ).loc Cert.AdamWRankIdeal.main_v0_3) = v3 c
          ∧ r.2.mem ((c.tc : Thread Cert.AdamWRankIdeal.nD Cert.AdamWRankIdeal.τ).loc Cert.AdamWRankIdeal.main_arg0) = m ((c.tc : Thread Cert.AdamWRankIdeal.nD Cert.AdamWRankIdeal.τ).loc Cert.AdamWRankIdeal.main_arg0)
          ∧ r.2.mem ((c.tc : Thread Cert.AdamWRankIdeal.nD Cert.AdamWRankIdeal.τ).loc Cert.AdamWRankIdeal.main_arg1) = m ((c.tc : Thread Cert.AdamWRankIdeal.nD Cert.AdamWRankIdeal.τ).loc Cert.AdamWRankIdeal.main_arg1)
          ∧ r.2.mem ((c.tc : Thread Cert.AdamWRankIdeal.nD Cert.AdamWRankIdeal.τ).loc Cert.AdamWRankIdeal.main_arg2) = m ((c.tc : Thread Cert.AdamWRankIdeal.nD Cert.AdamWRankIdeal.τ).loc Cert.AdamWRankIdeal.main_arg2)
          ∧ r.2.mem ((c.tc : Thread Cert.AdamWRankIdeal.nD Cert.AdamWRankIdeal.τ).loc Cert.AdamWRankIdeal.main_arg3) = m ((c.tc : Thread Cert.AdamWRankIdeal.nD Cert.AdamWRankIdeal.τ).loc Cert.AdamWRankIdeal.main_arg3))
      ∧ θ_run (Cert.AdamWRankRefIdeal.defs (F := Ideal)) (onTc (τ := Cert.AdamWRankRefIdeal.τ) (Cert.AdamWRankRefIdeal.main (F := Ideal))) ⟨m', fun _ => 0, g'⟩ (fun r => ∀ c : Dev Cert.AdamWRankRefIdeal.nD,
          r.2.mem ((c.tc : Thread Cert.AdamWRankRefIdeal.nD Cert.AdamWRankRefIdeal.τ).loc Cert.AdamWRankRefIdeal.main_v0) = v0 c
          ∧ r.2.mem ((c.tc : Thread Cert.AdamWRankRefIdeal.nD Cert.AdamWRankRefIdeal.τ).loc Cert.AdamWRankRefIdeal.main_v24) = v1 c
          ∧ r.2.mem ((c.tc : Thread Cert.AdamWRankRefIdeal.nD Cert.AdamWRankRefIdeal.τ).loc Cert.AdamWRankRefIdeal.main_v5) = v2 c
          ∧ r.2.mem ((c.tc : Thread Cert.AdamWRankRefIdeal.nD Cert.AdamWRankRefIdeal.τ).loc Cert.AdamWRankRefIdeal.main_v11) = v3 c
          ∧ r.2.mem ((c.tc : Thread Cert.AdamWRankRefIdeal.nD Cert.AdamWRankRefIdeal.τ).loc Cert.AdamWRankRefIdeal.main_arg0) = m' ((c.tc : Thread Cert.AdamWRankRefIdeal.nD Cert.AdamWRankRefIdeal.τ).loc Cert.AdamWRankRefIdeal.main_arg0)
          ∧ r.2.mem ((c.tc : Thread Cert.AdamWRankRefIdeal.nD Cert.AdamWRankRefIdeal.τ).loc Cert.AdamWRankRefIdeal.main_arg1) = m' ((c.tc : Thread Cert.AdamWRankRefIdeal.nD Cert.AdamWRankRefIdeal.τ).loc Cert.AdamWRankRefIdeal.main_arg1)
          ∧ r.2.mem ((c.tc : Thread Cert.AdamWRankRefIdeal.nD Cert.AdamWRankRefIdeal.τ).loc Cert.AdamWRankRefIdeal.main_arg2) = m' ((c.tc : Thread Cert.AdamWRankRefIdeal.nD Cert.AdamWRankRefIdeal.τ).loc Cert.AdamWRankRefIdeal.main_arg2)
          ∧ r.2.mem ((c.tc : Thread Cert.AdamWRankRefIdeal.nD Cert.AdamWRankRefIdeal.τ).loc Cert.AdamWRankRefIdeal.main_arg3) = m' ((c.tc : Thread Cert.AdamWRankRefIdeal.nD Cert.AdamWRankRefIdeal.τ).loc Cert.AdamWRankRefIdeal.main_arg3))

def preserves_AdamWGate_AdamWGateIdeal : Prop :=
  IdealRules.named_const.Statement Cert.AdamWGateIdeal.κ "c1" .f32 0x3FC48605#32 ((8388608 / 5463681 : ℝ) : EReal)
  ∧ IdealRules.named_const.Statement Cert.AdamWGateIdeal.κ "c2" .f32 0x42C8E6D3#32 ((268435456 / 2672307 : ℝ) : EReal)

def algebraic_AdamWGateIdeal_AdamWGateRefIdeal [hAdamWGateIdeal : Cert.AdamWGateIdeal.Facts] [hAdamWGateRefIdeal : Cert.AdamWGateRefIdeal.Facts] : Prop :=
  ∀ (m : (ℓ : Loc Cert.AdamWGateIdeal.nD Cert.AdamWGateIdeal.τ Cert.AdamWGateIdeal.sig) → Buf (Elt Ideal) ℓ) (g : Dev Cert.AdamWGateIdeal.nD → PrngReg)
    (m' : (ℓ : Loc Cert.AdamWGateRefIdeal.nD Cert.AdamWGateRefIdeal.τ Cert.AdamWGateRefIdeal.sig) → Buf (Elt Ideal) ℓ) (g' : Dev Cert.AdamWGateRefIdeal.nD → PrngReg), Pre_AdamWGateIdeal m →
    (∀ c : Dev Cert.AdamWGateIdeal.nD,
      m' ((c.tc : Thread Cert.AdamWGateRefIdeal.nD Cert.AdamWGateRefIdeal.τ).loc Cert.AdamWGateRefIdeal.main_arg0) = m ((c.tc : Thread Cert.AdamWGateIdeal.nD Cert.AdamWGateIdeal.τ).loc Cert.AdamWGateIdeal.main_arg0)
      ∧ m' ((c.tc : Thread Cert.AdamWGateRefIdeal.nD Cert.AdamWGateRefIdeal.τ).loc Cert.AdamWGateRefIdeal.main_arg1) = m ((c.tc : Thread Cert.AdamWGateIdeal.nD Cert.AdamWGateIdeal.τ).loc Cert.AdamWGateIdeal.main_arg1)
      ∧ m' ((c.tc : Thread Cert.AdamWGateRefIdeal.nD Cert.AdamWGateRefIdeal.τ).loc Cert.AdamWGateRefIdeal.main_arg2) = m ((c.tc : Thread Cert.AdamWGateIdeal.nD Cert.AdamWGateIdeal.τ).loc Cert.AdamWGateIdeal.main_arg2)
      ∧ m' ((c.tc : Thread Cert.AdamWGateRefIdeal.nD Cert.AdamWGateRefIdeal.τ).loc Cert.AdamWGateRefIdeal.main_arg3) = m ((c.tc : Thread Cert.AdamWGateIdeal.nD Cert.AdamWGateIdeal.τ).loc Cert.AdamWGateIdeal.main_arg3)) →
    ∃ (v0 : (c : Dev Cert.AdamWGateIdeal.nD) → Buf (Elt Ideal) ((c.tc : Thread Cert.AdamWGateIdeal.nD Cert.AdamWGateIdeal.τ).loc Cert.AdamWGateIdeal.main_v0_0)) (v1 : (c : Dev Cert.AdamWGateIdeal.nD) → Buf (Elt Ideal) ((c.tc : Thread Cert.AdamWGateIdeal.nD Cert.AdamWGateIdeal.τ).loc Cert.AdamWGateIdeal.main_v0_1)) (v2 : (c : Dev Cert.AdamWGateIdeal.nD) → Buf (Elt Ideal) ((c.tc : Thread Cert.AdamWGateIdeal.nD Cert.AdamWGateIdeal.τ).loc Cert.AdamWGateIdeal.main_v0_2)) (v3 : (c : Dev Cert.AdamWGateIdeal.nD) → Buf (Elt Ideal) ((c.tc : Thread Cert.AdamWGateIdeal.nD Cert.AdamWGateIdeal.τ).loc Cert.AdamWGateIdeal.main_v0_3)),
      θ_run (Cert.AdamWGateIdeal.defs (F := Ideal)) (onTc (τ := Cert.AdamWGateIdeal.τ) (Cert.AdamWGateIdeal.main (F := Ideal))) ⟨m, fun _ => 0, g⟩ (fun r => ∀ c : Dev Cert.AdamWGateIdeal.nD,
          r.2.mem ((c.tc : Thread Cert.AdamWGateIdeal.nD Cert.AdamWGateIdeal.τ).loc Cert.AdamWGateIdeal.main_v0_0) = v0 c
          ∧ r.2.mem ((c.tc : Thread Cert.AdamWGateIdeal.nD Cert.AdamWGateIdeal.τ).loc Cert.AdamWGateIdeal.main_v0_1) = v1 c
          ∧ r.2.mem ((c.tc : Thread Cert.AdamWGateIdeal.nD Cert.AdamWGateIdeal.τ).loc Cert.AdamWGateIdeal.main_v0_2) = v2 c
          ∧ r.2.mem ((c.tc : Thread Cert.AdamWGateIdeal.nD Cert.AdamWGateIdeal.τ).loc Cert.AdamWGateIdeal.main_v0_3) = v3 c
          ∧ r.2.mem ((c.tc : Thread Cert.AdamWGateIdeal.nD Cert.AdamWGateIdeal.τ).loc Cert.AdamWGateIdeal.main_arg0) = m ((c.tc : Thread Cert.AdamWGateIdeal.nD Cert.AdamWGateIdeal.τ).loc Cert.AdamWGateIdeal.main_arg0)
          ∧ r.2.mem ((c.tc : Thread Cert.AdamWGateIdeal.nD Cert.AdamWGateIdeal.τ).loc Cert.AdamWGateIdeal.main_arg1) = m ((c.tc : Thread Cert.AdamWGateIdeal.nD Cert.AdamWGateIdeal.τ).loc Cert.AdamWGateIdeal.main_arg1)
          ∧ r.2.mem ((c.tc : Thread Cert.AdamWGateIdeal.nD Cert.AdamWGateIdeal.τ).loc Cert.AdamWGateIdeal.main_arg2) = m ((c.tc : Thread Cert.AdamWGateIdeal.nD Cert.AdamWGateIdeal.τ).loc Cert.AdamWGateIdeal.main_arg2)
          ∧ r.2.mem ((c.tc : Thread Cert.AdamWGateIdeal.nD Cert.AdamWGateIdeal.τ).loc Cert.AdamWGateIdeal.main_arg3) = m ((c.tc : Thread Cert.AdamWGateIdeal.nD Cert.AdamWGateIdeal.τ).loc Cert.AdamWGateIdeal.main_arg3))
      ∧ θ_run (Cert.AdamWGateRefIdeal.defs (F := Ideal)) (onTc (τ := Cert.AdamWGateRefIdeal.τ) (Cert.AdamWGateRefIdeal.main (F := Ideal))) ⟨m', fun _ => 0, g'⟩ (fun r => ∀ c : Dev Cert.AdamWGateRefIdeal.nD,
          r.2.mem ((c.tc : Thread Cert.AdamWGateRefIdeal.nD Cert.AdamWGateRefIdeal.τ).loc Cert.AdamWGateRefIdeal.main_v0) = v0 c
          ∧ r.2.mem ((c.tc : Thread Cert.AdamWGateRefIdeal.nD Cert.AdamWGateRefIdeal.τ).loc Cert.AdamWGateRefIdeal.main_v24) = v1 c
          ∧ r.2.mem ((c.tc : Thread Cert.AdamWGateRefIdeal.nD Cert.AdamWGateRefIdeal.τ).loc Cert.AdamWGateRefIdeal.main_v5) = v2 c
          ∧ r.2.mem ((c.tc : Thread Cert.AdamWGateRefIdeal.nD Cert.AdamWGateRefIdeal.τ).loc Cert.AdamWGateRefIdeal.main_v11) = v3 c
          ∧ r.2.mem ((c.tc : Thread Cert.AdamWGateRefIdeal.nD Cert.AdamWGateRefIdeal.τ).loc Cert.AdamWGateRefIdeal.main_arg0) = m' ((c.tc : Thread Cert.AdamWGateRefIdeal.nD Cert.AdamWGateRefIdeal.τ).loc Cert.AdamWGateRefIdeal.main_arg0)
          ∧ r.2.mem ((c.tc : Thread Cert.AdamWGateRefIdeal.nD Cert.AdamWGateRefIdeal.τ).loc Cert.AdamWGateRefIdeal.main_arg1) = m' ((c.tc : Thread Cert.AdamWGateRefIdeal.nD Cert.AdamWGateRefIdeal.τ).loc Cert.AdamWGateRefIdeal.main_arg1)
          ∧ r.2.mem ((c.tc : Thread Cert.AdamWGateRefIdeal.nD Cert.AdamWGateRefIdeal.τ).loc Cert.AdamWGateRefIdeal.main_arg2) = m' ((c.tc : Thread Cert.AdamWGateRefIdeal.nD Cert.AdamWGateRefIdeal.τ).loc Cert.AdamWGateRefIdeal.main_arg2)
          ∧ r.2.mem ((c.tc : Thread Cert.AdamWGateRefIdeal.nD Cert.AdamWGateRefIdeal.τ).loc Cert.AdamWGateRefIdeal.main_arg3) = m' ((c.tc : Thread Cert.AdamWGateRefIdeal.nD Cert.AdamWGateRefIdeal.τ).loc Cert.AdamWGateRefIdeal.main_arg3))

def preserves_AdamWSmall_AdamWSmallIdeal : Prop :=
  IdealRules.named_const.Statement Cert.AdamWSmallIdeal.κ "c1" .f32 0x3FC48605#32 ((8388608 / 5463681 : ℝ) : EReal)
  ∧ IdealRules.named_const.Statement Cert.AdamWSmallIdeal.κ "c2" .f32 0x42C8E6D3#32 ((268435456 / 2672307 : ℝ) : EReal)

def algebraic_AdamWSmallIdeal_AdamWSmallRefIdeal [hAdamWSmallIdeal : Cert.AdamWSmallIdeal.Facts] [hAdamWSmallRefIdeal : Cert.AdamWSmallRefIdeal.Facts] : Prop :=
  ∀ (m : (ℓ : Loc Cert.AdamWSmallIdeal.nD Cert.AdamWSmallIdeal.τ Cert.AdamWSmallIdeal.sig) → Buf (Elt Ideal) ℓ) (g : Dev Cert.AdamWSmallIdeal.nD → PrngReg)
    (m' : (ℓ : Loc Cert.AdamWSmallRefIdeal.nD Cert.AdamWSmallRefIdeal.τ Cert.AdamWSmallRefIdeal.sig) → Buf (Elt Ideal) ℓ) (g' : Dev Cert.AdamWSmallRefIdeal.nD → PrngReg), Pre_AdamWSmallIdeal m →
    (∀ c : Dev Cert.AdamWSmallIdeal.nD,
      m' ((c.tc : Thread Cert.AdamWSmallRefIdeal.nD Cert.AdamWSmallRefIdeal.τ).loc Cert.AdamWSmallRefIdeal.main_arg0) = m ((c.tc : Thread Cert.AdamWSmallIdeal.nD Cert.AdamWSmallIdeal.τ).loc Cert.AdamWSmallIdeal.main_arg0)
      ∧ m' ((c.tc : Thread Cert.AdamWSmallRefIdeal.nD Cert.AdamWSmallRefIdeal.τ).loc Cert.AdamWSmallRefIdeal.main_arg1) = m ((c.tc : Thread Cert.AdamWSmallIdeal.nD Cert.AdamWSmallIdeal.τ).loc Cert.AdamWSmallIdeal.main_arg1)
      ∧ m' ((c.tc : Thread Cert.AdamWSmallRefIdeal.nD Cert.AdamWSmallRefIdeal.τ).loc Cert.AdamWSmallRefIdeal.main_arg2) = m ((c.tc : Thread Cert.AdamWSmallIdeal.nD Cert.AdamWSmallIdeal.τ).loc Cert.AdamWSmallIdeal.main_arg2)
      ∧ m' ((c.tc : Thread Cert.AdamWSmallRefIdeal.nD Cert.AdamWSmallRefIdeal.τ).loc Cert.AdamWSmallRefIdeal.main_arg3) = m ((c.tc : Thread Cert.AdamWSmallIdeal.nD Cert.AdamWSmallIdeal.τ).loc Cert.AdamWSmallIdeal.main_arg3)
      ∧ m' ((c.tc : Thread Cert.AdamWSmallRefIdeal.nD Cert.AdamWSmallRefIdeal.τ).loc Cert.AdamWSmallRefIdeal.main_arg4) = m ((c.tc : Thread Cert.AdamWSmallIdeal.nD Cert.AdamWSmallIdeal.τ).loc Cert.AdamWSmallIdeal.main_arg4)
      ∧ m' ((c.tc : Thread Cert.AdamWSmallRefIdeal.nD Cert.AdamWSmallRefIdeal.τ).loc Cert.AdamWSmallRefIdeal.main_arg5) = m ((c.tc : Thread Cert.AdamWSmallIdeal.nD Cert.AdamWSmallIdeal.τ).loc Cert.AdamWSmallIdeal.main_arg5)
      ∧ m' ((c.tc : Thread Cert.AdamWSmallRefIdeal.nD Cert.AdamWSmallRefIdeal.τ).loc Cert.AdamWSmallRefIdeal.main_arg6) = m ((c.tc : Thread Cert.AdamWSmallIdeal.nD Cert.AdamWSmallIdeal.τ).loc Cert.AdamWSmallIdeal.main_arg6)
      ∧ m' ((c.tc : Thread Cert.AdamWSmallRefIdeal.nD Cert.AdamWSmallRefIdeal.τ).loc Cert.AdamWSmallRefIdeal.main_arg7) = m ((c.tc : Thread Cert.AdamWSmallIdeal.nD Cert.AdamWSmallIdeal.τ).loc Cert.AdamWSmallIdeal.main_arg7)
      ∧ m' ((c.tc : Thread Cert.AdamWSmallRefIdeal.nD Cert.AdamWSmallRefIdeal.τ).loc Cert.AdamWSmallRefIdeal.main_arg8) = m ((c.tc : Thread Cert.AdamWSmallIdeal.nD Cert.AdamWSmallIdeal.τ).loc Cert.AdamWSmallIdeal.main_arg8)
      ∧ m' ((c.tc : Thread Cert.AdamWSmallRefIdeal.nD Cert.AdamWSmallRefIdeal.τ).loc Cert.AdamWSmallRefIdeal.main_arg9) = m ((c.tc : Thread Cert.AdamWSmallIdeal.nD Cert.AdamWSmallIdeal.τ).loc Cert.AdamWSmallIdeal.main_arg9)
      ∧ m' ((c.tc : Thread Cert.AdamWSmallRefIdeal.nD Cert.AdamWSmallRefIdeal.τ).loc Cert.AdamWSmallRefIdeal.main_arg10) = m ((c.tc : Thread Cert.AdamWSmallIdeal.nD Cert.AdamWSmallIdeal.τ).loc Cert.AdamWSmallIdeal.main_arg10)
      ∧ m' ((c.tc : Thread Cert.AdamWSmallRefIdeal.nD Cert.AdamWSmallRefIdeal.τ).loc Cert.AdamWSmallRefIdeal.main_arg11) = m ((c.tc : Thread Cert.AdamWSmallIdeal.nD Cert.AdamWSmallIdeal.τ).loc Cert.AdamWSmallIdeal.main_arg11)
      ∧ m' ((c.tc : Thread Cert.AdamWSmallRefIdeal.nD Cert.AdamWSmallRefIdeal.τ).loc Cert.AdamWSmallRefIdeal.main_arg12) = m ((c.tc : Thread Cert.AdamWSmallIdeal.nD Cert.AdamWSmallIdeal.τ).loc Cert.AdamWSmallIdeal.main_arg12)
      ∧ m' ((c.tc : Thread Cert.AdamWSmallRefIdeal.nD Cert.AdamWSmallRefIdeal.τ).loc Cert.AdamWSmallRefIdeal.main_arg13) = m ((c.tc : Thread Cert.AdamWSmallIdeal.nD Cert.AdamWSmallIdeal.τ).loc Cert.AdamWSmallIdeal.main_arg13)
      ∧ m' ((c.tc : Thread Cert.AdamWSmallRefIdeal.nD Cert.AdamWSmallRefIdeal.τ).loc Cert.AdamWSmallRefIdeal.main_arg14) = m ((c.tc : Thread Cert.AdamWSmallIdeal.nD Cert.AdamWSmallIdeal.τ).loc Cert.AdamWSmallIdeal.main_arg14)
      ∧ m' ((c.tc : Thread Cert.AdamWSmallRefIdeal.nD Cert.AdamWSmallRefIdeal.τ).loc Cert.AdamWSmallRefIdeal.main_arg15) = m ((c.tc : Thread Cert.AdamWSmallIdeal.nD Cert.AdamWSmallIdeal.τ).loc Cert.AdamWSmallIdeal.main_arg15)
      ∧ m' ((c.tc : Thread Cert.AdamWSmallRefIdeal.nD Cert.AdamWSmallRefIdeal.τ).loc Cert.AdamWSmallRefIdeal.main_arg16) = m ((c.tc : Thread Cert.AdamWSmallIdeal.nD Cert.AdamWSmallIdeal.τ).loc Cert.AdamWSmallIdeal.main_arg16)
      ∧ m' ((c.tc : Thread Cert.AdamWSmallRefIdeal.nD Cert.AdamWSmallRefIdeal.τ).loc Cert.AdamWSmallRefIdeal.main_arg17) = m ((c.tc : Thread Cert.AdamWSmallIdeal.nD Cert.AdamWSmallIdeal.τ).loc Cert.AdamWSmallIdeal.main_arg17)
      ∧ m' ((c.tc : Thread Cert.AdamWSmallRefIdeal.nD Cert.AdamWSmallRefIdeal.τ).loc Cert.AdamWSmallRefIdeal.main_arg18) = m ((c.tc : Thread Cert.AdamWSmallIdeal.nD Cert.AdamWSmallIdeal.τ).loc Cert.AdamWSmallIdeal.main_arg18)
      ∧ m' ((c.tc : Thread Cert.AdamWSmallRefIdeal.nD Cert.AdamWSmallRefIdeal.τ).loc Cert.AdamWSmallRefIdeal.main_arg19) = m ((c.tc : Thread Cert.AdamWSmallIdeal.nD Cert.AdamWSmallIdeal.τ).loc Cert.AdamWSmallIdeal.main_arg19)
      ∧ m' ((c.tc : Thread Cert.AdamWSmallRefIdeal.nD Cert.AdamWSmallRefIdeal.τ).loc Cert.AdamWSmallRefIdeal.main_arg20) = m ((c.tc : Thread Cert.AdamWSmallIdeal.nD Cert.AdamWSmallIdeal.τ).loc Cert.AdamWSmallIdeal.main_arg20)
      ∧ m' ((c.tc : Thread Cert.AdamWSmallRefIdeal.nD Cert.AdamWSmallRefIdeal.τ).loc Cert.AdamWSmallRefIdeal.main_arg21) = m ((c.tc : Thread Cert.AdamWSmallIdeal.nD Cert.AdamWSmallIdeal.τ).loc Cert.AdamWSmallIdeal.main_arg21)
      ∧ m' ((c.tc : Thread Cert.AdamWSmallRefIdeal.nD Cert.AdamWSmallRefIdeal.τ).loc Cert.AdamWSmallRefIdeal.main_arg22) = m ((c.tc : Thread Cert.AdamWSmallIdeal.nD Cert.AdamWSmallIdeal.τ).loc Cert.AdamWSmallIdeal.main_arg22)
      ∧ m' ((c.tc : Thread Cert.AdamWSmallRefIdeal.nD Cert.AdamWSmallRefIdeal.τ).loc Cert.AdamWSmallRefIdeal.main_arg23) = m ((c.tc : Thread Cert.AdamWSmallIdeal.nD Cert.AdamWSmallIdeal.τ).loc Cert.AdamWSmallIdeal.main_arg23)
      ∧ m' ((c.tc : Thread Cert.AdamWSmallRefIdeal.nD Cert.AdamWSmallRefIdeal.τ).loc Cert.AdamWSmallRefIdeal.main_arg24) = m ((c.tc : Thread Cert.AdamWSmallIdeal.nD Cert.AdamWSmallIdeal.τ).loc Cert.AdamWSmallIdeal.main_arg24)
      ∧ m' ((c.tc : Thread Cert.AdamWSmallRefIdeal.nD Cert.AdamWSmallRefIdeal.τ).loc Cert.AdamWSmallRefIdeal.main_arg25) = m ((c.tc : Thread Cert.AdamWSmallIdeal.nD Cert.AdamWSmallIdeal.τ).loc Cert.AdamWSmallIdeal.main_arg25)
      ∧ m' ((c.tc : Thread Cert.AdamWSmallRefIdeal.nD Cert.AdamWSmallRefIdeal.τ).loc Cert.AdamWSmallRefIdeal.main_arg26) = m ((c.tc : Thread Cert.AdamWSmallIdeal.nD Cert.AdamWSmallIdeal.τ).loc Cert.AdamWSmallIdeal.main_arg26)
      ∧ m' ((c.tc : Thread Cert.AdamWSmallRefIdeal.nD Cert.AdamWSmallRefIdeal.τ).loc Cert.AdamWSmallRefIdeal.main_arg27) = m ((c.tc : Thread Cert.AdamWSmallIdeal.nD Cert.AdamWSmallIdeal.τ).loc Cert.AdamWSmallIdeal.main_arg27)
      ∧ m' ((c.tc : Thread Cert.AdamWSmallRefIdeal.nD Cert.AdamWSmallRefIdeal.τ).loc Cert.AdamWSmallRefIdeal.main_arg28) = m ((c.tc : Thread Cert.AdamWSmallIdeal.nD Cert.AdamWSmallIdeal.τ).loc Cert.AdamWSmallIdeal.main_arg28)
      ∧ m' ((c.tc : Thread Cert.AdamWSmallRefIdeal.nD Cert.AdamWSmallRefIdeal.τ).loc Cert.AdamWSmallRefIdeal.main_arg29) = m ((c.tc : Thread Cert.AdamWSmallIdeal.nD Cert.AdamWSmallIdeal.τ).loc Cert.AdamWSmallIdeal.main_arg29)
      ∧ m' ((c.tc : Thread Cert.AdamWSmallRefIdeal.nD Cert.AdamWSmallRefIdeal.τ).loc Cert.AdamWSmallRefIdeal.main_arg30) = m ((c.tc : Thread Cert.AdamWSmallIdeal.nD Cert.AdamWSmallIdeal.τ).loc Cert.AdamWSmallIdeal.main_arg30)
      ∧ m' ((c.tc : Thread Cert.AdamWSmallRefIdeal.nD Cert.AdamWSmallRefIdeal.τ).loc Cert.AdamWSmallRefIdeal.main_arg31) = m ((c.tc : Thread Cert.AdamWSmallIdeal.nD Cert.AdamWSmallIdeal.τ).loc Cert.AdamWSmallIdeal.main_arg31)
      ∧ m' ((c.tc : Thread Cert.AdamWSmallRefIdeal.nD Cert.AdamWSmallRefIdeal.τ).loc Cert.AdamWSmallRefIdeal.main_arg32) = m ((c.tc : Thread Cert.AdamWSmallIdeal.nD Cert.AdamWSmallIdeal.τ).loc Cert.AdamWSmallIdeal.main_arg32)
      ∧ m' ((c.tc : Thread Cert.AdamWSmallRefIdeal.nD Cert.AdamWSmallRefIdeal.τ).loc Cert.AdamWSmallRefIdeal.main_arg33) = m ((c.tc : Thread Cert.AdamWSmallIdeal.nD Cert.AdamWSmallIdeal.τ).loc Cert.AdamWSmallIdeal.main_arg33)
      ∧ m' ((c.tc : Thread Cert.AdamWSmallRefIdeal.nD Cert.AdamWSmallRefIdeal.τ).loc Cert.AdamWSmallRefIdeal.main_arg34) = m ((c.tc : Thread Cert.AdamWSmallIdeal.nD Cert.AdamWSmallIdeal.τ).loc Cert.AdamWSmallIdeal.main_arg34)
      ∧ m' ((c.tc : Thread Cert.AdamWSmallRefIdeal.nD Cert.AdamWSmallRefIdeal.τ).loc Cert.AdamWSmallRefIdeal.main_arg35) = m ((c.tc : Thread Cert.AdamWSmallIdeal.nD Cert.AdamWSmallIdeal.τ).loc Cert.AdamWSmallIdeal.main_arg35)
      ∧ m' ((c.tc : Thread Cert.AdamWSmallRefIdeal.nD Cert.AdamWSmallRefIdeal.τ).loc Cert.AdamWSmallRefIdeal.main_arg36) = m ((c.tc : Thread Cert.AdamWSmallIdeal.nD Cert.AdamWSmallIdeal.τ).loc Cert.AdamWSmallIdeal.main_arg36)
      ∧ m' ((c.tc : Thread Cert.AdamWSmallRefIdeal.nD Cert.AdamWSmallRefIdeal.τ).loc Cert.AdamWSmallRefIdeal.main_arg37) = m ((c.tc : Thread Cert.AdamWSmallIdeal.nD Cert.AdamWSmallIdeal.τ).loc Cert.AdamWSmallIdeal.main_arg37)
      ∧ m' ((c.tc : Thread Cert.AdamWSmallRefIdeal.nD Cert.AdamWSmallRefIdeal.τ).loc Cert.AdamWSmallRefIdeal.main_arg38) = m ((c.tc : Thread Cert.AdamWSmallIdeal.nD Cert.AdamWSmallIdeal.τ).loc Cert.AdamWSmallIdeal.main_arg38)
      ∧ m' ((c.tc : Thread Cert.AdamWSmallRefIdeal.nD Cert.AdamWSmallRefIdeal.τ).loc Cert.AdamWSmallRefIdeal.main_arg39) = m ((c.tc : Thread Cert.AdamWSmallIdeal.nD Cert.AdamWSmallIdeal.τ).loc Cert.AdamWSmallIdeal.main_arg39)
      ∧ m' ((c.tc : Thread Cert.AdamWSmallRefIdeal.nD Cert.AdamWSmallRefIdeal.τ).loc Cert.AdamWSmallRefIdeal.main_arg40) = m ((c.tc : Thread Cert.AdamWSmallIdeal.nD Cert.AdamWSmallIdeal.τ).loc Cert.AdamWSmallIdeal.main_arg40)
      ∧ m' ((c.tc : Thread Cert.AdamWSmallRefIdeal.nD Cert.AdamWSmallRefIdeal.τ).loc Cert.AdamWSmallRefIdeal.main_arg41) = m ((c.tc : Thread Cert.AdamWSmallIdeal.nD Cert.AdamWSmallIdeal.τ).loc Cert.AdamWSmallIdeal.main_arg41)
      ∧ m' ((c.tc : Thread Cert.AdamWSmallRefIdeal.nD Cert.AdamWSmallRefIdeal.τ).loc Cert.AdamWSmallRefIdeal.main_arg42) = m ((c.tc : Thread Cert.AdamWSmallIdeal.nD Cert.AdamWSmallIdeal.τ).loc Cert.AdamWSmallIdeal.main_arg42)
      ∧ m' ((c.tc : Thread Cert.AdamWSmallRefIdeal.nD Cert.AdamWSmallRefIdeal.τ).loc Cert.AdamWSmallRefIdeal.main_arg43) = m ((c.tc : Thread Cert.AdamWSmallIdeal.nD Cert.AdamWSmallIdeal.τ).loc Cert.AdamWSmallIdeal.main_arg43)
      ∧ m' ((c.tc : Thread Cert.AdamWSmallRefIdeal.nD Cert.AdamWSmallRefIdeal.τ).loc Cert.AdamWSmallRefIdeal.main_arg44) = m ((c.tc : Thread Cert.AdamWSmallIdeal.nD Cert.AdamWSmallIdeal.τ).loc Cert.AdamWSmallIdeal.main_arg44)
      ∧ m' ((c.tc : Thread Cert.AdamWSmallRefIdeal.nD Cert.AdamWSmallRefIdeal.τ).loc Cert.AdamWSmallRefIdeal.main_arg45) = m ((c.tc : Thread Cert.AdamWSmallIdeal.nD Cert.AdamWSmallIdeal.τ).loc Cert.AdamWSmallIdeal.main_arg45)
      ∧ m' ((c.tc : Thread Cert.AdamWSmallRefIdeal.nD Cert.AdamWSmallRefIdeal.τ).loc Cert.AdamWSmallRefIdeal.main_arg46) = m ((c.tc : Thread Cert.AdamWSmallIdeal.nD Cert.AdamWSmallIdeal.τ).loc Cert.AdamWSmallIdeal.main_arg46)
      ∧ m' ((c.tc : Thread Cert.AdamWSmallRefIdeal.nD Cert.AdamWSmallRefIdeal.τ).loc Cert.AdamWSmallRefIdeal.main_arg47) = m ((c.tc : Thread Cert.AdamWSmallIdeal.nD Cert.AdamWSmallIdeal.τ).loc Cert.AdamWSmallIdeal.main_arg47)
      ∧ m' ((c.tc : Thread Cert.AdamWSmallRefIdeal.nD Cert.AdamWSmallRefIdeal.τ).loc Cert.AdamWSmallRefIdeal.main_arg48) = m ((c.tc : Thread Cert.AdamWSmallIdeal.nD Cert.AdamWSmallIdeal.τ).loc Cert.AdamWSmallIdeal.main_arg48)
      ∧ m' ((c.tc : Thread Cert.AdamWSmallRefIdeal.nD Cert.AdamWSmallRefIdeal.τ).loc Cert.AdamWSmallRefIdeal.main_arg49) = m ((c.tc : Thread Cert.AdamWSmallIdeal.nD Cert.AdamWSmallIdeal.τ).loc Cert.AdamWSmallIdeal.main_arg49)
      ∧ m' ((c.tc : Thread Cert.AdamWSmallRefIdeal.nD Cert.AdamWSmallRefIdeal.τ).loc Cert.AdamWSmallRefIdeal.main_arg50) = m ((c.tc : Thread Cert.AdamWSmallIdeal.nD Cert.AdamWSmallIdeal.τ).loc Cert.AdamWSmallIdeal.main_arg50)
      ∧ m' ((c.tc : Thread Cert.AdamWSmallRefIdeal.nD Cert.AdamWSmallRefIdeal.τ).loc Cert.AdamWSmallRefIdeal.main_arg51) = m ((c.tc : Thread Cert.AdamWSmallIdeal.nD Cert.AdamWSmallIdeal.τ).loc Cert.AdamWSmallIdeal.main_arg51)
      ∧ m' ((c.tc : Thread Cert.AdamWSmallRefIdeal.nD Cert.AdamWSmallRefIdeal.τ).loc Cert.AdamWSmallRefIdeal.main_arg52) = m ((c.tc : Thread Cert.AdamWSmallIdeal.nD Cert.AdamWSmallIdeal.τ).loc Cert.AdamWSmallIdeal.main_arg52)
      ∧ m' ((c.tc : Thread Cert.AdamWSmallRefIdeal.nD Cert.AdamWSmallRefIdeal.τ).loc Cert.AdamWSmallRefIdeal.main_arg53) = m ((c.tc : Thread Cert.AdamWSmallIdeal.nD Cert.AdamWSmallIdeal.τ).loc Cert.AdamWSmallIdeal.main_arg53)
      ∧ m' ((c.tc : Thread Cert.AdamWSmallRefIdeal.nD Cert.AdamWSmallRefIdeal.τ).loc Cert.AdamWSmallRefIdeal.main_arg54) = m ((c.tc : Thread Cert.AdamWSmallIdeal.nD Cert.AdamWSmallIdeal.τ).loc Cert.AdamWSmallIdeal.main_arg54)) →
    ∃ (v0 : (c : Dev Cert.AdamWSmallIdeal.nD) → Buf (Elt Ideal) ((c.tc : Thread Cert.AdamWSmallIdeal.nD Cert.AdamWSmallIdeal.τ).loc Cert.AdamWSmallIdeal.main_v66_0)) (v1 : (c : Dev Cert.AdamWSmallIdeal.nD) → Buf (Elt Ideal) ((c.tc : Thread Cert.AdamWSmallIdeal.nD Cert.AdamWSmallIdeal.τ).loc Cert.AdamWSmallIdeal.main_v66_1)) (v2 : (c : Dev Cert.AdamWSmallIdeal.nD) → Buf (Elt Ideal) ((c.tc : Thread Cert.AdamWSmallIdeal.nD Cert.AdamWSmallIdeal.τ).loc Cert.AdamWSmallIdeal.main_v66_2)) (v3 : (c : Dev Cert.AdamWSmallIdeal.nD) → Buf (Elt Ideal) ((c.tc : Thread Cert.AdamWSmallIdeal.nD Cert.AdamWSmallIdeal.τ).loc Cert.AdamWSmallIdeal.main_v66_3)),
      θ_run (Cert.AdamWSmallIdeal.defs (F := Ideal)) (onTc (τ := Cert.AdamWSmallIdeal.τ) (Cert.AdamWSmallIdeal.main (F := Ideal))) ⟨m, fun _ => 0, g⟩ (fun r => ∀ c : Dev Cert.AdamWSmallIdeal.nD,
          r.2.mem ((c.tc : Thread Cert.AdamWSmallIdeal.nD Cert.AdamWSmallIdeal.τ).loc Cert.AdamWSmallIdeal.main_v66_0) = v0 c
          ∧ r.2.mem ((c.tc : Thread Cert.AdamWSmallIdeal.nD Cert.AdamWSmallIdeal.τ).loc Cert.AdamWSmallIdeal.main_v66_1) = v1 c
          ∧ r.2.mem ((c.tc : Thread Cert.AdamWSmallIdeal.nD Cert.AdamWSmallIdeal.τ).loc Cert.AdamWSmallIdeal.main_v66_2) = v2 c
          ∧ r.2.mem ((c.tc : Thread Cert.AdamWSmallIdeal.nD Cert.AdamWSmallIdeal.τ).loc Cert.AdamWSmallIdeal.main_v66_3) = v3 c
          ∧ r.2.mem ((c.tc : Thread Cert.AdamWSmallIdeal.nD Cert.AdamWSmallIdeal.τ).loc Cert.AdamWSmallIdeal.main_arg0) = m ((c.tc : Thread Cert.AdamWSmallIdeal.nD Cert.AdamWSmallIdeal.τ).loc Cert.AdamWSmallIdeal.main_arg0)
          ∧ r.2.mem ((c.tc : Thread Cert.AdamWSmallIdeal.nD Cert.AdamWSmallIdeal.τ).loc Cert.AdamWSmallIdeal.main_arg1) = m ((c.tc : Thread Cert.AdamWSmallIdeal.nD Cert.AdamWSmallIdeal.τ).loc Cert.AdamWSmallIdeal.main_arg1)
          ∧ r.2.mem ((c.tc : Thread Cert.AdamWSmallIdeal.nD Cert.AdamWSmallIdeal.τ).loc Cert.AdamWSmallIdeal.main_arg2) = m ((c.tc : Thread Cert.AdamWSmallIdeal.nD Cert.AdamWSmallIdeal.τ).loc Cert.AdamWSmallIdeal.main_arg2)
          ∧ r.2.mem ((c.tc : Thread Cert.AdamWSmallIdeal.nD Cert.AdamWSmallIdeal.τ).loc Cert.AdamWSmallIdeal.main_arg3) = m ((c.tc : Thread Cert.AdamWSmallIdeal.nD Cert.AdamWSmallIdeal.τ).loc Cert.AdamWSmallIdeal.main_arg3)
          ∧ r.2.mem ((c.tc : Thread Cert.AdamWSmallIdeal.nD Cert.AdamWSmallIdeal.τ).loc Cert.AdamWSmallIdeal.main_arg4) = m ((c.tc : Thread Cert.AdamWSmallIdeal.nD Cert.AdamWSmallIdeal.τ).loc Cert.AdamWSmallIdeal.main_arg4)
          ∧ r.2.mem ((c.tc : Thread Cert.AdamWSmallIdeal.nD Cert.AdamWSmallIdeal.τ).loc Cert.AdamWSmallIdeal.main_arg5) = m ((c.tc : Thread Cert.AdamWSmallIdeal.nD Cert.AdamWSmallIdeal.τ).loc Cert.AdamWSmallIdeal.main_arg5)
          ∧ r.2.mem ((c.tc : Thread Cert.AdamWSmallIdeal.nD Cert.AdamWSmallIdeal.τ).loc Cert.AdamWSmallIdeal.main_arg6) = m ((c.tc : Thread Cert.AdamWSmallIdeal.nD Cert.AdamWSmallIdeal.τ).loc Cert.AdamWSmallIdeal.main_arg6)
          ∧ r.2.mem ((c.tc : Thread Cert.AdamWSmallIdeal.nD Cert.AdamWSmallIdeal.τ).loc Cert.AdamWSmallIdeal.main_arg7) = m ((c.tc : Thread Cert.AdamWSmallIdeal.nD Cert.AdamWSmallIdeal.τ).loc Cert.AdamWSmallIdeal.main_arg7)
          ∧ r.2.mem ((c.tc : Thread Cert.AdamWSmallIdeal.nD Cert.AdamWSmallIdeal.τ).loc Cert.AdamWSmallIdeal.main_arg8) = m ((c.tc : Thread Cert.AdamWSmallIdeal.nD Cert.AdamWSmallIdeal.τ).loc Cert.AdamWSmallIdeal.main_arg8)
          ∧ r.2.mem ((c.tc : Thread Cert.AdamWSmallIdeal.nD Cert.AdamWSmallIdeal.τ).loc Cert.AdamWSmallIdeal.main_arg9) = m ((c.tc : Thread Cert.AdamWSmallIdeal.nD Cert.AdamWSmallIdeal.τ).loc Cert.AdamWSmallIdeal.main_arg9)
          ∧ r.2.mem ((c.tc : Thread Cert.AdamWSmallIdeal.nD Cert.AdamWSmallIdeal.τ).loc Cert.AdamWSmallIdeal.main_arg10) = m ((c.tc : Thread Cert.AdamWSmallIdeal.nD Cert.AdamWSmallIdeal.τ).loc Cert.AdamWSmallIdeal.main_arg10)
          ∧ r.2.mem ((c.tc : Thread Cert.AdamWSmallIdeal.nD Cert.AdamWSmallIdeal.τ).loc Cert.AdamWSmallIdeal.main_arg11) = m ((c.tc : Thread Cert.AdamWSmallIdeal.nD Cert.AdamWSmallIdeal.τ).loc Cert.AdamWSmallIdeal.main_arg11)
          ∧ r.2.mem ((c.tc : Thread Cert.AdamWSmallIdeal.nD Cert.AdamWSmallIdeal.τ).loc Cert.AdamWSmallIdeal.main_arg12) = m ((c.tc : Thread Cert.AdamWSmallIdeal.nD Cert.AdamWSmallIdeal.τ).loc Cert.AdamWSmallIdeal.main_arg12)
          ∧ r.2.mem ((c.tc : Thread Cert.AdamWSmallIdeal.nD Cert.AdamWSmallIdeal.τ).loc Cert.AdamWSmallIdeal.main_arg13) = m ((c.tc : Thread Cert.AdamWSmallIdeal.nD Cert.AdamWSmallIdeal.τ).loc Cert.AdamWSmallIdeal.main_arg13)
          ∧ r.2.mem ((c.tc : Thread Cert.AdamWSmallIdeal.nD Cert.AdamWSmallIdeal.τ).loc Cert.AdamWSmallIdeal.main_arg14) = m ((c.tc : Thread Cert.AdamWSmallIdeal.nD Cert.AdamWSmallIdeal.τ).loc Cert.AdamWSmallIdeal.main_arg14)
          ∧ r.2.mem ((c.tc : Thread Cert.AdamWSmallIdeal.nD Cert.AdamWSmallIdeal.τ).loc Cert.AdamWSmallIdeal.main_arg15) = m ((c.tc : Thread Cert.AdamWSmallIdeal.nD Cert.AdamWSmallIdeal.τ).loc Cert.AdamWSmallIdeal.main_arg15)
          ∧ r.2.mem ((c.tc : Thread Cert.AdamWSmallIdeal.nD Cert.AdamWSmallIdeal.τ).loc Cert.AdamWSmallIdeal.main_arg16) = m ((c.tc : Thread Cert.AdamWSmallIdeal.nD Cert.AdamWSmallIdeal.τ).loc Cert.AdamWSmallIdeal.main_arg16)
          ∧ r.2.mem ((c.tc : Thread Cert.AdamWSmallIdeal.nD Cert.AdamWSmallIdeal.τ).loc Cert.AdamWSmallIdeal.main_arg17) = m ((c.tc : Thread Cert.AdamWSmallIdeal.nD Cert.AdamWSmallIdeal.τ).loc Cert.AdamWSmallIdeal.main_arg17)
          ∧ r.2.mem ((c.tc : Thread Cert.AdamWSmallIdeal.nD Cert.AdamWSmallIdeal.τ).loc Cert.AdamWSmallIdeal.main_arg18) = m ((c.tc : Thread Cert.AdamWSmallIdeal.nD Cert.AdamWSmallIdeal.τ).loc Cert.AdamWSmallIdeal.main_arg18)
          ∧ r.2.mem ((c.tc : Thread Cert.AdamWSmallIdeal.nD Cert.AdamWSmallIdeal.τ).loc Cert.AdamWSmallIdeal.main_arg19) = m ((c.tc : Thread Cert.AdamWSmallIdeal.nD Cert.AdamWSmallIdeal.τ).loc Cert.AdamWSmallIdeal.main_arg19)
          ∧ r.2.mem ((c.tc : Thread Cert.AdamWSmallIdeal.nD Cert.AdamWSmallIdeal.τ).loc Cert.AdamWSmallIdeal.main_arg20) = m ((c.tc : Thread Cert.AdamWSmallIdeal.nD Cert.AdamWSmallIdeal.τ).loc Cert.AdamWSmallIdeal.main_arg20)
          ∧ r.2.mem ((c.tc : Thread Cert.AdamWSmallIdeal.nD Cert.AdamWSmallIdeal.τ).loc Cert.AdamWSmallIdeal.main_arg21) = m ((c.tc : Thread Cert.AdamWSmallIdeal.nD Cert.AdamWSmallIdeal.τ).loc Cert.AdamWSmallIdeal.main_arg21)
          ∧ r.2.mem ((c.tc : Thread Cert.AdamWSmallIdeal.nD Cert.AdamWSmallIdeal.τ).loc Cert.AdamWSmallIdeal.main_arg22) = m ((c.tc : Thread Cert.AdamWSmallIdeal.nD Cert.AdamWSmallIdeal.τ).loc Cert.AdamWSmallIdeal.main_arg22)
          ∧ r.2.mem ((c.tc : Thread Cert.AdamWSmallIdeal.nD Cert.AdamWSmallIdeal.τ).loc Cert.AdamWSmallIdeal.main_arg23) = m ((c.tc : Thread Cert.AdamWSmallIdeal.nD Cert.AdamWSmallIdeal.τ).loc Cert.AdamWSmallIdeal.main_arg23)
          ∧ r.2.mem ((c.tc : Thread Cert.AdamWSmallIdeal.nD Cert.AdamWSmallIdeal.τ).loc Cert.AdamWSmallIdeal.main_arg24) = m ((c.tc : Thread Cert.AdamWSmallIdeal.nD Cert.AdamWSmallIdeal.τ).loc Cert.AdamWSmallIdeal.main_arg24)
          ∧ r.2.mem ((c.tc : Thread Cert.AdamWSmallIdeal.nD Cert.AdamWSmallIdeal.τ).loc Cert.AdamWSmallIdeal.main_arg25) = m ((c.tc : Thread Cert.AdamWSmallIdeal.nD Cert.AdamWSmallIdeal.τ).loc Cert.AdamWSmallIdeal.main_arg25)
          ∧ r.2.mem ((c.tc : Thread Cert.AdamWSmallIdeal.nD Cert.AdamWSmallIdeal.τ).loc Cert.AdamWSmallIdeal.main_arg26) = m ((c.tc : Thread Cert.AdamWSmallIdeal.nD Cert.AdamWSmallIdeal.τ).loc Cert.AdamWSmallIdeal.main_arg26)
          ∧ r.2.mem ((c.tc : Thread Cert.AdamWSmallIdeal.nD Cert.AdamWSmallIdeal.τ).loc Cert.AdamWSmallIdeal.main_arg27) = m ((c.tc : Thread Cert.AdamWSmallIdeal.nD Cert.AdamWSmallIdeal.τ).loc Cert.AdamWSmallIdeal.main_arg27)
          ∧ r.2.mem ((c.tc : Thread Cert.AdamWSmallIdeal.nD Cert.AdamWSmallIdeal.τ).loc Cert.AdamWSmallIdeal.main_arg28) = m ((c.tc : Thread Cert.AdamWSmallIdeal.nD Cert.AdamWSmallIdeal.τ).loc Cert.AdamWSmallIdeal.main_arg28)
          ∧ r.2.mem ((c.tc : Thread Cert.AdamWSmallIdeal.nD Cert.AdamWSmallIdeal.τ).loc Cert.AdamWSmallIdeal.main_arg29) = m ((c.tc : Thread Cert.AdamWSmallIdeal.nD Cert.AdamWSmallIdeal.τ).loc Cert.AdamWSmallIdeal.main_arg29)
          ∧ r.2.mem ((c.tc : Thread Cert.AdamWSmallIdeal.nD Cert.AdamWSmallIdeal.τ).loc Cert.AdamWSmallIdeal.main_arg30) = m ((c.tc : Thread Cert.AdamWSmallIdeal.nD Cert.AdamWSmallIdeal.τ).loc Cert.AdamWSmallIdeal.main_arg30)
          ∧ r.2.mem ((c.tc : Thread Cert.AdamWSmallIdeal.nD Cert.AdamWSmallIdeal.τ).loc Cert.AdamWSmallIdeal.main_arg31) = m ((c.tc : Thread Cert.AdamWSmallIdeal.nD Cert.AdamWSmallIdeal.τ).loc Cert.AdamWSmallIdeal.main_arg31)
          ∧ r.2.mem ((c.tc : Thread Cert.AdamWSmallIdeal.nD Cert.AdamWSmallIdeal.τ).loc Cert.AdamWSmallIdeal.main_arg32) = m ((c.tc : Thread Cert.AdamWSmallIdeal.nD Cert.AdamWSmallIdeal.τ).loc Cert.AdamWSmallIdeal.main_arg32)
          ∧ r.2.mem ((c.tc : Thread Cert.AdamWSmallIdeal.nD Cert.AdamWSmallIdeal.τ).loc Cert.AdamWSmallIdeal.main_arg33) = m ((c.tc : Thread Cert.AdamWSmallIdeal.nD Cert.AdamWSmallIdeal.τ).loc Cert.AdamWSmallIdeal.main_arg33)
          ∧ r.2.mem ((c.tc : Thread Cert.AdamWSmallIdeal.nD Cert.AdamWSmallIdeal.τ).loc Cert.AdamWSmallIdeal.main_arg34) = m ((c.tc : Thread Cert.AdamWSmallIdeal.nD Cert.AdamWSmallIdeal.τ).loc Cert.AdamWSmallIdeal.main_arg34)
          ∧ r.2.mem ((c.tc : Thread Cert.AdamWSmallIdeal.nD Cert.AdamWSmallIdeal.τ).loc Cert.AdamWSmallIdeal.main_arg35) = m ((c.tc : Thread Cert.AdamWSmallIdeal.nD Cert.AdamWSmallIdeal.τ).loc Cert.AdamWSmallIdeal.main_arg35)
          ∧ r.2.mem ((c.tc : Thread Cert.AdamWSmallIdeal.nD Cert.AdamWSmallIdeal.τ).loc Cert.AdamWSmallIdeal.main_arg36) = m ((c.tc : Thread Cert.AdamWSmallIdeal.nD Cert.AdamWSmallIdeal.τ).loc Cert.AdamWSmallIdeal.main_arg36)
          ∧ r.2.mem ((c.tc : Thread Cert.AdamWSmallIdeal.nD Cert.AdamWSmallIdeal.τ).loc Cert.AdamWSmallIdeal.main_arg37) = m ((c.tc : Thread Cert.AdamWSmallIdeal.nD Cert.AdamWSmallIdeal.τ).loc Cert.AdamWSmallIdeal.main_arg37)
          ∧ r.2.mem ((c.tc : Thread Cert.AdamWSmallIdeal.nD Cert.AdamWSmallIdeal.τ).loc Cert.AdamWSmallIdeal.main_arg38) = m ((c.tc : Thread Cert.AdamWSmallIdeal.nD Cert.AdamWSmallIdeal.τ).loc Cert.AdamWSmallIdeal.main_arg38)
          ∧ r.2.mem ((c.tc : Thread Cert.AdamWSmallIdeal.nD Cert.AdamWSmallIdeal.τ).loc Cert.AdamWSmallIdeal.main_arg39) = m ((c.tc : Thread Cert.AdamWSmallIdeal.nD Cert.AdamWSmallIdeal.τ).loc Cert.AdamWSmallIdeal.main_arg39)
          ∧ r.2.mem ((c.tc : Thread Cert.AdamWSmallIdeal.nD Cert.AdamWSmallIdeal.τ).loc Cert.AdamWSmallIdeal.main_arg40) = m ((c.tc : Thread Cert.AdamWSmallIdeal.nD Cert.AdamWSmallIdeal.τ).loc Cert.AdamWSmallIdeal.main_arg40)
          ∧ r.2.mem ((c.tc : Thread Cert.AdamWSmallIdeal.nD Cert.AdamWSmallIdeal.τ).loc Cert.AdamWSmallIdeal.main_arg41) = m ((c.tc : Thread Cert.AdamWSmallIdeal.nD Cert.AdamWSmallIdeal.τ).loc Cert.AdamWSmallIdeal.main_arg41)
          ∧ r.2.mem ((c.tc : Thread Cert.AdamWSmallIdeal.nD Cert.AdamWSmallIdeal.τ).loc Cert.AdamWSmallIdeal.main_arg42) = m ((c.tc : Thread Cert.AdamWSmallIdeal.nD Cert.AdamWSmallIdeal.τ).loc Cert.AdamWSmallIdeal.main_arg42)
          ∧ r.2.mem ((c.tc : Thread Cert.AdamWSmallIdeal.nD Cert.AdamWSmallIdeal.τ).loc Cert.AdamWSmallIdeal.main_arg43) = m ((c.tc : Thread Cert.AdamWSmallIdeal.nD Cert.AdamWSmallIdeal.τ).loc Cert.AdamWSmallIdeal.main_arg43)
          ∧ r.2.mem ((c.tc : Thread Cert.AdamWSmallIdeal.nD Cert.AdamWSmallIdeal.τ).loc Cert.AdamWSmallIdeal.main_arg44) = m ((c.tc : Thread Cert.AdamWSmallIdeal.nD Cert.AdamWSmallIdeal.τ).loc Cert.AdamWSmallIdeal.main_arg44)
          ∧ r.2.mem ((c.tc : Thread Cert.AdamWSmallIdeal.nD Cert.AdamWSmallIdeal.τ).loc Cert.AdamWSmallIdeal.main_arg45) = m ((c.tc : Thread Cert.AdamWSmallIdeal.nD Cert.AdamWSmallIdeal.τ).loc Cert.AdamWSmallIdeal.main_arg45)
          ∧ r.2.mem ((c.tc : Thread Cert.AdamWSmallIdeal.nD Cert.AdamWSmallIdeal.τ).loc Cert.AdamWSmallIdeal.main_arg46) = m ((c.tc : Thread Cert.AdamWSmallIdeal.nD Cert.AdamWSmallIdeal.τ).loc Cert.AdamWSmallIdeal.main_arg46)
          ∧ r.2.mem ((c.tc : Thread Cert.AdamWSmallIdeal.nD Cert.AdamWSmallIdeal.τ).loc Cert.AdamWSmallIdeal.main_arg47) = m ((c.tc : Thread Cert.AdamWSmallIdeal.nD Cert.AdamWSmallIdeal.τ).loc Cert.AdamWSmallIdeal.main_arg47)
          ∧ r.2.mem ((c.tc : Thread Cert.AdamWSmallIdeal.nD Cert.AdamWSmallIdeal.τ).loc Cert.AdamWSmallIdeal.main_arg48) = m ((c.tc : Thread Cert.AdamWSmallIdeal.nD Cert.AdamWSmallIdeal.τ).loc Cert.AdamWSmallIdeal.main_arg48)
          ∧ r.2.mem ((c.tc : Thread Cert.AdamWSmallIdeal.nD Cert.AdamWSmallIdeal.τ).loc Cert.AdamWSmallIdeal.main_arg49) = m ((c.tc : Thread Cert.AdamWSmallIdeal.nD Cert.AdamWSmallIdeal.τ).loc Cert.AdamWSmallIdeal.main_arg49)
          ∧ r.2.mem ((c.tc : Thread Cert.AdamWSmallIdeal.nD Cert.AdamWSmallIdeal.τ).loc Cert.AdamWSmallIdeal.main_arg50) = m ((c.tc : Thread Cert.AdamWSmallIdeal.nD Cert.AdamWSmallIdeal.τ).loc Cert.AdamWSmallIdeal.main_arg50)
          ∧ r.2.mem ((c.tc : Thread Cert.AdamWSmallIdeal.nD Cert.AdamWSmallIdeal.τ).loc Cert.AdamWSmallIdeal.main_arg51) = m ((c.tc : Thread Cert.AdamWSmallIdeal.nD Cert.AdamWSmallIdeal.τ).loc Cert.AdamWSmallIdeal.main_arg51)
          ∧ r.2.mem ((c.tc : Thread Cert.AdamWSmallIdeal.nD Cert.AdamWSmallIdeal.τ).loc Cert.AdamWSmallIdeal.main_arg52) = m ((c.tc : Thread Cert.AdamWSmallIdeal.nD Cert.AdamWSmallIdeal.τ).loc Cert.AdamWSmallIdeal.main_arg52)
          ∧ r.2.mem ((c.tc : Thread Cert.AdamWSmallIdeal.nD Cert.AdamWSmallIdeal.τ).loc Cert.AdamWSmallIdeal.main_arg53) = m ((c.tc : Thread Cert.AdamWSmallIdeal.nD Cert.AdamWSmallIdeal.τ).loc Cert.AdamWSmallIdeal.main_arg53)
          ∧ r.2.mem ((c.tc : Thread Cert.AdamWSmallIdeal.nD Cert.AdamWSmallIdeal.τ).loc Cert.AdamWSmallIdeal.main_arg54) = m ((c.tc : Thread Cert.AdamWSmallIdeal.nD Cert.AdamWSmallIdeal.τ).loc Cert.AdamWSmallIdeal.main_arg54))
      ∧ θ_run (Cert.AdamWSmallRefIdeal.defs (F := Ideal)) (onTc (τ := Cert.AdamWSmallRefIdeal.τ) (Cert.AdamWSmallRefIdeal.main (F := Ideal))) ⟨m', fun _ => 0, g'⟩ (fun r => ∀ c : Dev Cert.AdamWSmallRefIdeal.nD,
          r.2.mem ((c.tc : Thread Cert.AdamWSmallRefIdeal.nD Cert.AdamWSmallRefIdeal.τ).loc Cert.AdamWSmallRefIdeal.main_v66) = v0 c
          ∧ r.2.mem ((c.tc : Thread Cert.AdamWSmallRefIdeal.nD Cert.AdamWSmallRefIdeal.τ).loc Cert.AdamWSmallRefIdeal.main_v90) = v1 c
          ∧ r.2.mem ((c.tc : Thread Cert.AdamWSmallRefIdeal.nD Cert.AdamWSmallRefIdeal.τ).loc Cert.AdamWSmallRefIdeal.main_v71) = v2 c
          ∧ r.2.mem ((c.tc : Thread Cert.AdamWSmallRefIdeal.nD Cert.AdamWSmallRefIdeal.τ).loc Cert.AdamWSmallRefIdeal.main_v77) = v3 c
          ∧ r.2.mem ((c.tc : Thread Cert.AdamWSmallRefIdeal.nD Cert.AdamWSmallRefIdeal.τ).loc Cert.AdamWSmallRefIdeal.main_arg0) = m' ((c.tc : Thread Cert.AdamWSmallRefIdeal.nD Cert.AdamWSmallRefIdeal.τ).loc Cert.AdamWSmallRefIdeal.main_arg0)
          ∧ r.2.mem ((c.tc : Thread Cert.AdamWSmallRefIdeal.nD Cert.AdamWSmallRefIdeal.τ).loc Cert.AdamWSmallRefIdeal.main_arg1) = m' ((c.tc : Thread Cert.AdamWSmallRefIdeal.nD Cert.AdamWSmallRefIdeal.τ).loc Cert.AdamWSmallRefIdeal.main_arg1)
          ∧ r.2.mem ((c.tc : Thread Cert.AdamWSmallRefIdeal.nD Cert.AdamWSmallRefIdeal.τ).loc Cert.AdamWSmallRefIdeal.main_arg2) = m' ((c.tc : Thread Cert.AdamWSmallRefIdeal.nD Cert.AdamWSmallRefIdeal.τ).loc Cert.AdamWSmallRefIdeal.main_arg2)
          ∧ r.2.mem ((c.tc : Thread Cert.AdamWSmallRefIdeal.nD Cert.AdamWSmallRefIdeal.τ).loc Cert.AdamWSmallRefIdeal.main_arg3) = m' ((c.tc : Thread Cert.AdamWSmallRefIdeal.nD Cert.AdamWSmallRefIdeal.τ).loc Cert.AdamWSmallRefIdeal.main_arg3)
          ∧ r.2.mem ((c.tc : Thread Cert.AdamWSmallRefIdeal.nD Cert.AdamWSmallRefIdeal.τ).loc Cert.AdamWSmallRefIdeal.main_arg4) = m' ((c.tc : Thread Cert.AdamWSmallRefIdeal.nD Cert.AdamWSmallRefIdeal.τ).loc Cert.AdamWSmallRefIdeal.main_arg4)
          ∧ r.2.mem ((c.tc : Thread Cert.AdamWSmallRefIdeal.nD Cert.AdamWSmallRefIdeal.τ).loc Cert.AdamWSmallRefIdeal.main_arg5) = m' ((c.tc : Thread Cert.AdamWSmallRefIdeal.nD Cert.AdamWSmallRefIdeal.τ).loc Cert.AdamWSmallRefIdeal.main_arg5)
          ∧ r.2.mem ((c.tc : Thread Cert.AdamWSmallRefIdeal.nD Cert.AdamWSmallRefIdeal.τ).loc Cert.AdamWSmallRefIdeal.main_arg6) = m' ((c.tc : Thread Cert.AdamWSmallRefIdeal.nD Cert.AdamWSmallRefIdeal.τ).loc Cert.AdamWSmallRefIdeal.main_arg6)
          ∧ r.2.mem ((c.tc : Thread Cert.AdamWSmallRefIdeal.nD Cert.AdamWSmallRefIdeal.τ).loc Cert.AdamWSmallRefIdeal.main_arg7) = m' ((c.tc : Thread Cert.AdamWSmallRefIdeal.nD Cert.AdamWSmallRefIdeal.τ).loc Cert.AdamWSmallRefIdeal.main_arg7)
          ∧ r.2.mem ((c.tc : Thread Cert.AdamWSmallRefIdeal.nD Cert.AdamWSmallRefIdeal.τ).loc Cert.AdamWSmallRefIdeal.main_arg8) = m' ((c.tc : Thread Cert.AdamWSmallRefIdeal.nD Cert.AdamWSmallRefIdeal.τ).loc Cert.AdamWSmallRefIdeal.main_arg8)
          ∧ r.2.mem ((c.tc : Thread Cert.AdamWSmallRefIdeal.nD Cert.AdamWSmallRefIdeal.τ).loc Cert.AdamWSmallRefIdeal.main_arg9) = m' ((c.tc : Thread Cert.AdamWSmallRefIdeal.nD Cert.AdamWSmallRefIdeal.τ).loc Cert.AdamWSmallRefIdeal.main_arg9)
          ∧ r.2.mem ((c.tc : Thread Cert.AdamWSmallRefIdeal.nD Cert.AdamWSmallRefIdeal.τ).loc Cert.AdamWSmallRefIdeal.main_arg10) = m' ((c.tc : Thread Cert.AdamWSmallRefIdeal.nD Cert.AdamWSmallRefIdeal.τ).loc Cert.AdamWSmallRefIdeal.main_arg10)
          ∧ r.2.mem ((c.tc : Thread Cert.AdamWSmallRefIdeal.nD Cert.AdamWSmallRefIdeal.τ).loc Cert.AdamWSmallRefIdeal.main_arg11) = m' ((c.tc : Thread Cert.AdamWSmallRefIdeal.nD Cert.AdamWSmallRefIdeal.τ).loc Cert.AdamWSmallRefIdeal.main_arg11)
          ∧ r.2.mem ((c.tc : Thread Cert.AdamWSmallRefIdeal.nD Cert.AdamWSmallRefIdeal.τ).loc Cert.AdamWSmallRefIdeal.main_arg12) = m' ((c.tc : Thread Cert.AdamWSmallRefIdeal.nD Cert.AdamWSmallRefIdeal.τ).loc Cert.AdamWSmallRefIdeal.main_arg12)
          ∧ r.2.mem ((c.tc : Thread Cert.AdamWSmallRefIdeal.nD Cert.AdamWSmallRefIdeal.τ).loc Cert.AdamWSmallRefIdeal.main_arg13) = m' ((c.tc : Thread Cert.AdamWSmallRefIdeal.nD Cert.AdamWSmallRefIdeal.τ).loc Cert.AdamWSmallRefIdeal.main_arg13)
          ∧ r.2.mem ((c.tc : Thread Cert.AdamWSmallRefIdeal.nD Cert.AdamWSmallRefIdeal.τ).loc Cert.AdamWSmallRefIdeal.main_arg14) = m' ((c.tc : Thread Cert.AdamWSmallRefIdeal.nD Cert.AdamWSmallRefIdeal.τ).loc Cert.AdamWSmallRefIdeal.main_arg14)
          ∧ r.2.mem ((c.tc : Thread Cert.AdamWSmallRefIdeal.nD Cert.AdamWSmallRefIdeal.τ).loc Cert.AdamWSmallRefIdeal.main_arg15) = m' ((c.tc : Thread Cert.AdamWSmallRefIdeal.nD Cert.AdamWSmallRefIdeal.τ).loc Cert.AdamWSmallRefIdeal.main_arg15)
          ∧ r.2.mem ((c.tc : Thread Cert.AdamWSmallRefIdeal.nD Cert.AdamWSmallRefIdeal.τ).loc Cert.AdamWSmallRefIdeal.main_arg16) = m' ((c.tc : Thread Cert.AdamWSmallRefIdeal.nD Cert.AdamWSmallRefIdeal.τ).loc Cert.AdamWSmallRefIdeal.main_arg16)
          ∧ r.2.mem ((c.tc : Thread Cert.AdamWSmallRefIdeal.nD Cert.AdamWSmallRefIdeal.τ).loc Cert.AdamWSmallRefIdeal.main_arg17) = m' ((c.tc : Thread Cert.AdamWSmallRefIdeal.nD Cert.AdamWSmallRefIdeal.τ).loc Cert.AdamWSmallRefIdeal.main_arg17)
          ∧ r.2.mem ((c.tc : Thread Cert.AdamWSmallRefIdeal.nD Cert.AdamWSmallRefIdeal.τ).loc Cert.AdamWSmallRefIdeal.main_arg18) = m' ((c.tc : Thread Cert.AdamWSmallRefIdeal.nD Cert.AdamWSmallRefIdeal.τ).loc Cert.AdamWSmallRefIdeal.main_arg18)
          ∧ r.2.mem ((c.tc : Thread Cert.AdamWSmallRefIdeal.nD Cert.AdamWSmallRefIdeal.τ).loc Cert.AdamWSmallRefIdeal.main_arg19) = m' ((c.tc : Thread Cert.AdamWSmallRefIdeal.nD Cert.AdamWSmallRefIdeal.τ).loc Cert.AdamWSmallRefIdeal.main_arg19)
          ∧ r.2.mem ((c.tc : Thread Cert.AdamWSmallRefIdeal.nD Cert.AdamWSmallRefIdeal.τ).loc Cert.AdamWSmallRefIdeal.main_arg20) = m' ((c.tc : Thread Cert.AdamWSmallRefIdeal.nD Cert.AdamWSmallRefIdeal.τ).loc Cert.AdamWSmallRefIdeal.main_arg20)
          ∧ r.2.mem ((c.tc : Thread Cert.AdamWSmallRefIdeal.nD Cert.AdamWSmallRefIdeal.τ).loc Cert.AdamWSmallRefIdeal.main_arg21) = m' ((c.tc : Thread Cert.AdamWSmallRefIdeal.nD Cert.AdamWSmallRefIdeal.τ).loc Cert.AdamWSmallRefIdeal.main_arg21)
          ∧ r.2.mem ((c.tc : Thread Cert.AdamWSmallRefIdeal.nD Cert.AdamWSmallRefIdeal.τ).loc Cert.AdamWSmallRefIdeal.main_arg22) = m' ((c.tc : Thread Cert.AdamWSmallRefIdeal.nD Cert.AdamWSmallRefIdeal.τ).loc Cert.AdamWSmallRefIdeal.main_arg22)
          ∧ r.2.mem ((c.tc : Thread Cert.AdamWSmallRefIdeal.nD Cert.AdamWSmallRefIdeal.τ).loc Cert.AdamWSmallRefIdeal.main_arg23) = m' ((c.tc : Thread Cert.AdamWSmallRefIdeal.nD Cert.AdamWSmallRefIdeal.τ).loc Cert.AdamWSmallRefIdeal.main_arg23)
          ∧ r.2.mem ((c.tc : Thread Cert.AdamWSmallRefIdeal.nD Cert.AdamWSmallRefIdeal.τ).loc Cert.AdamWSmallRefIdeal.main_arg24) = m' ((c.tc : Thread Cert.AdamWSmallRefIdeal.nD Cert.AdamWSmallRefIdeal.τ).loc Cert.AdamWSmallRefIdeal.main_arg24)
          ∧ r.2.mem ((c.tc : Thread Cert.AdamWSmallRefIdeal.nD Cert.AdamWSmallRefIdeal.τ).loc Cert.AdamWSmallRefIdeal.main_arg25) = m' ((c.tc : Thread Cert.AdamWSmallRefIdeal.nD Cert.AdamWSmallRefIdeal.τ).loc Cert.AdamWSmallRefIdeal.main_arg25)
          ∧ r.2.mem ((c.tc : Thread Cert.AdamWSmallRefIdeal.nD Cert.AdamWSmallRefIdeal.τ).loc Cert.AdamWSmallRefIdeal.main_arg26) = m' ((c.tc : Thread Cert.AdamWSmallRefIdeal.nD Cert.AdamWSmallRefIdeal.τ).loc Cert.AdamWSmallRefIdeal.main_arg26)
          ∧ r.2.mem ((c.tc : Thread Cert.AdamWSmallRefIdeal.nD Cert.AdamWSmallRefIdeal.τ).loc Cert.AdamWSmallRefIdeal.main_arg27) = m' ((c.tc : Thread Cert.AdamWSmallRefIdeal.nD Cert.AdamWSmallRefIdeal.τ).loc Cert.AdamWSmallRefIdeal.main_arg27)
          ∧ r.2.mem ((c.tc : Thread Cert.AdamWSmallRefIdeal.nD Cert.AdamWSmallRefIdeal.τ).loc Cert.AdamWSmallRefIdeal.main_arg28) = m' ((c.tc : Thread Cert.AdamWSmallRefIdeal.nD Cert.AdamWSmallRefIdeal.τ).loc Cert.AdamWSmallRefIdeal.main_arg28)
          ∧ r.2.mem ((c.tc : Thread Cert.AdamWSmallRefIdeal.nD Cert.AdamWSmallRefIdeal.τ).loc Cert.AdamWSmallRefIdeal.main_arg29) = m' ((c.tc : Thread Cert.AdamWSmallRefIdeal.nD Cert.AdamWSmallRefIdeal.τ).loc Cert.AdamWSmallRefIdeal.main_arg29)
          ∧ r.2.mem ((c.tc : Thread Cert.AdamWSmallRefIdeal.nD Cert.AdamWSmallRefIdeal.τ).loc Cert.AdamWSmallRefIdeal.main_arg30) = m' ((c.tc : Thread Cert.AdamWSmallRefIdeal.nD Cert.AdamWSmallRefIdeal.τ).loc Cert.AdamWSmallRefIdeal.main_arg30)
          ∧ r.2.mem ((c.tc : Thread Cert.AdamWSmallRefIdeal.nD Cert.AdamWSmallRefIdeal.τ).loc Cert.AdamWSmallRefIdeal.main_arg31) = m' ((c.tc : Thread Cert.AdamWSmallRefIdeal.nD Cert.AdamWSmallRefIdeal.τ).loc Cert.AdamWSmallRefIdeal.main_arg31)
          ∧ r.2.mem ((c.tc : Thread Cert.AdamWSmallRefIdeal.nD Cert.AdamWSmallRefIdeal.τ).loc Cert.AdamWSmallRefIdeal.main_arg32) = m' ((c.tc : Thread Cert.AdamWSmallRefIdeal.nD Cert.AdamWSmallRefIdeal.τ).loc Cert.AdamWSmallRefIdeal.main_arg32)
          ∧ r.2.mem ((c.tc : Thread Cert.AdamWSmallRefIdeal.nD Cert.AdamWSmallRefIdeal.τ).loc Cert.AdamWSmallRefIdeal.main_arg33) = m' ((c.tc : Thread Cert.AdamWSmallRefIdeal.nD Cert.AdamWSmallRefIdeal.τ).loc Cert.AdamWSmallRefIdeal.main_arg33)
          ∧ r.2.mem ((c.tc : Thread Cert.AdamWSmallRefIdeal.nD Cert.AdamWSmallRefIdeal.τ).loc Cert.AdamWSmallRefIdeal.main_arg34) = m' ((c.tc : Thread Cert.AdamWSmallRefIdeal.nD Cert.AdamWSmallRefIdeal.τ).loc Cert.AdamWSmallRefIdeal.main_arg34)
          ∧ r.2.mem ((c.tc : Thread Cert.AdamWSmallRefIdeal.nD Cert.AdamWSmallRefIdeal.τ).loc Cert.AdamWSmallRefIdeal.main_arg35) = m' ((c.tc : Thread Cert.AdamWSmallRefIdeal.nD Cert.AdamWSmallRefIdeal.τ).loc Cert.AdamWSmallRefIdeal.main_arg35)
          ∧ r.2.mem ((c.tc : Thread Cert.AdamWSmallRefIdeal.nD Cert.AdamWSmallRefIdeal.τ).loc Cert.AdamWSmallRefIdeal.main_arg36) = m' ((c.tc : Thread Cert.AdamWSmallRefIdeal.nD Cert.AdamWSmallRefIdeal.τ).loc Cert.AdamWSmallRefIdeal.main_arg36)
          ∧ r.2.mem ((c.tc : Thread Cert.AdamWSmallRefIdeal.nD Cert.AdamWSmallRefIdeal.τ).loc Cert.AdamWSmallRefIdeal.main_arg37) = m' ((c.tc : Thread Cert.AdamWSmallRefIdeal.nD Cert.AdamWSmallRefIdeal.τ).loc Cert.AdamWSmallRefIdeal.main_arg37)
          ∧ r.2.mem ((c.tc : Thread Cert.AdamWSmallRefIdeal.nD Cert.AdamWSmallRefIdeal.τ).loc Cert.AdamWSmallRefIdeal.main_arg38) = m' ((c.tc : Thread Cert.AdamWSmallRefIdeal.nD Cert.AdamWSmallRefIdeal.τ).loc Cert.AdamWSmallRefIdeal.main_arg38)
          ∧ r.2.mem ((c.tc : Thread Cert.AdamWSmallRefIdeal.nD Cert.AdamWSmallRefIdeal.τ).loc Cert.AdamWSmallRefIdeal.main_arg39) = m' ((c.tc : Thread Cert.AdamWSmallRefIdeal.nD Cert.AdamWSmallRefIdeal.τ).loc Cert.AdamWSmallRefIdeal.main_arg39)
          ∧ r.2.mem ((c.tc : Thread Cert.AdamWSmallRefIdeal.nD Cert.AdamWSmallRefIdeal.τ).loc Cert.AdamWSmallRefIdeal.main_arg40) = m' ((c.tc : Thread Cert.AdamWSmallRefIdeal.nD Cert.AdamWSmallRefIdeal.τ).loc Cert.AdamWSmallRefIdeal.main_arg40)
          ∧ r.2.mem ((c.tc : Thread Cert.AdamWSmallRefIdeal.nD Cert.AdamWSmallRefIdeal.τ).loc Cert.AdamWSmallRefIdeal.main_arg41) = m' ((c.tc : Thread Cert.AdamWSmallRefIdeal.nD Cert.AdamWSmallRefIdeal.τ).loc Cert.AdamWSmallRefIdeal.main_arg41)
          ∧ r.2.mem ((c.tc : Thread Cert.AdamWSmallRefIdeal.nD Cert.AdamWSmallRefIdeal.τ).loc Cert.AdamWSmallRefIdeal.main_arg42) = m' ((c.tc : Thread Cert.AdamWSmallRefIdeal.nD Cert.AdamWSmallRefIdeal.τ).loc Cert.AdamWSmallRefIdeal.main_arg42)
          ∧ r.2.mem ((c.tc : Thread Cert.AdamWSmallRefIdeal.nD Cert.AdamWSmallRefIdeal.τ).loc Cert.AdamWSmallRefIdeal.main_arg43) = m' ((c.tc : Thread Cert.AdamWSmallRefIdeal.nD Cert.AdamWSmallRefIdeal.τ).loc Cert.AdamWSmallRefIdeal.main_arg43)
          ∧ r.2.mem ((c.tc : Thread Cert.AdamWSmallRefIdeal.nD Cert.AdamWSmallRefIdeal.τ).loc Cert.AdamWSmallRefIdeal.main_arg44) = m' ((c.tc : Thread Cert.AdamWSmallRefIdeal.nD Cert.AdamWSmallRefIdeal.τ).loc Cert.AdamWSmallRefIdeal.main_arg44)
          ∧ r.2.mem ((c.tc : Thread Cert.AdamWSmallRefIdeal.nD Cert.AdamWSmallRefIdeal.τ).loc Cert.AdamWSmallRefIdeal.main_arg45) = m' ((c.tc : Thread Cert.AdamWSmallRefIdeal.nD Cert.AdamWSmallRefIdeal.τ).loc Cert.AdamWSmallRefIdeal.main_arg45)
          ∧ r.2.mem ((c.tc : Thread Cert.AdamWSmallRefIdeal.nD Cert.AdamWSmallRefIdeal.τ).loc Cert.AdamWSmallRefIdeal.main_arg46) = m' ((c.tc : Thread Cert.AdamWSmallRefIdeal.nD Cert.AdamWSmallRefIdeal.τ).loc Cert.AdamWSmallRefIdeal.main_arg46)
          ∧ r.2.mem ((c.tc : Thread Cert.AdamWSmallRefIdeal.nD Cert.AdamWSmallRefIdeal.τ).loc Cert.AdamWSmallRefIdeal.main_arg47) = m' ((c.tc : Thread Cert.AdamWSmallRefIdeal.nD Cert.AdamWSmallRefIdeal.τ).loc Cert.AdamWSmallRefIdeal.main_arg47)
          ∧ r.2.mem ((c.tc : Thread Cert.AdamWSmallRefIdeal.nD Cert.AdamWSmallRefIdeal.τ).loc Cert.AdamWSmallRefIdeal.main_arg48) = m' ((c.tc : Thread Cert.AdamWSmallRefIdeal.nD Cert.AdamWSmallRefIdeal.τ).loc Cert.AdamWSmallRefIdeal.main_arg48)
          ∧ r.2.mem ((c.tc : Thread Cert.AdamWSmallRefIdeal.nD Cert.AdamWSmallRefIdeal.τ).loc Cert.AdamWSmallRefIdeal.main_arg49) = m' ((c.tc : Thread Cert.AdamWSmallRefIdeal.nD Cert.AdamWSmallRefIdeal.τ).loc Cert.AdamWSmallRefIdeal.main_arg49)
          ∧ r.2.mem ((c.tc : Thread Cert.AdamWSmallRefIdeal.nD Cert.AdamWSmallRefIdeal.τ).loc Cert.AdamWSmallRefIdeal.main_arg50) = m' ((c.tc : Thread Cert.AdamWSmallRefIdeal.nD Cert.AdamWSmallRefIdeal.τ).loc Cert.AdamWSmallRefIdeal.main_arg50)
          ∧ r.2.mem ((c.tc : Thread Cert.AdamWSmallRefIdeal.nD Cert.AdamWSmallRefIdeal.τ).loc Cert.AdamWSmallRefIdeal.main_arg51) = m' ((c.tc : Thread Cert.AdamWSmallRefIdeal.nD Cert.AdamWSmallRefIdeal.τ).loc Cert.AdamWSmallRefIdeal.main_arg51)
          ∧ r.2.mem ((c.tc : Thread Cert.AdamWSmallRefIdeal.nD Cert.AdamWSmallRefIdeal.τ).loc Cert.AdamWSmallRefIdeal.main_arg52) = m' ((c.tc : Thread Cert.AdamWSmallRefIdeal.nD Cert.AdamWSmallRefIdeal.τ).loc Cert.AdamWSmallRefIdeal.main_arg52)
          ∧ r.2.mem ((c.tc : Thread Cert.AdamWSmallRefIdeal.nD Cert.AdamWSmallRefIdeal.τ).loc Cert.AdamWSmallRefIdeal.main_arg53) = m' ((c.tc : Thread Cert.AdamWSmallRefIdeal.nD Cert.AdamWSmallRefIdeal.τ).loc Cert.AdamWSmallRefIdeal.main_arg53)
          ∧ r.2.mem ((c.tc : Thread Cert.AdamWSmallRefIdeal.nD Cert.AdamWSmallRefIdeal.τ).loc Cert.AdamWSmallRefIdeal.main_arg54) = m' ((c.tc : Thread Cert.AdamWSmallRefIdeal.nD Cert.AdamWSmallRefIdeal.τ).loc Cert.AdamWSmallRefIdeal.main_arg54))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v14) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1))

def preserves_NormMemFwd_NormMemFwdIdeal : Prop :=
  True

def algebraic_NormMemFwdIdeal_NormMemFwdRefIdeal [hNormMemFwdIdeal : Cert.NormMemFwdIdeal.Facts] [hNormMemFwdRefIdeal : Cert.NormMemFwdRefIdeal.Facts] : Prop :=
  ∀ (m : (ℓ : Loc Cert.NormMemFwdIdeal.nD Cert.NormMemFwdIdeal.τ Cert.NormMemFwdIdeal.sig) → Buf (Elt Ideal) ℓ) (g : Dev Cert.NormMemFwdIdeal.nD → PrngReg)
    (m' : (ℓ : Loc Cert.NormMemFwdRefIdeal.nD Cert.NormMemFwdRefIdeal.τ Cert.NormMemFwdRefIdeal.sig) → Buf (Elt Ideal) ℓ) (g' : Dev Cert.NormMemFwdRefIdeal.nD → PrngReg), Pre_NormMemFwdIdeal m →
    (∀ c : Dev Cert.NormMemFwdIdeal.nD,
      m' ((c.tc : Thread Cert.NormMemFwdRefIdeal.nD Cert.NormMemFwdRefIdeal.τ).loc Cert.NormMemFwdRefIdeal.main_arg0) = m ((c.tc : Thread Cert.NormMemFwdIdeal.nD Cert.NormMemFwdIdeal.τ).loc Cert.NormMemFwdIdeal.main_arg0)
      ∧ m' ((c.tc : Thread Cert.NormMemFwdRefIdeal.nD Cert.NormMemFwdRefIdeal.τ).loc Cert.NormMemFwdRefIdeal.main_arg1) = m ((c.tc : Thread Cert.NormMemFwdIdeal.nD Cert.NormMemFwdIdeal.τ).loc Cert.NormMemFwdIdeal.main_arg1)) →
    ∃ (v0 : (c : Dev Cert.NormMemFwdIdeal.nD) → Buf (Elt Ideal) ((c.tc : Thread Cert.NormMemFwdIdeal.nD Cert.NormMemFwdIdeal.τ).loc Cert.NormMemFwdIdeal.main_v0)),
      θ_run (Cert.NormMemFwdIdeal.defs (F := Ideal)) (onTc (τ := Cert.NormMemFwdIdeal.τ) (Cert.NormMemFwdIdeal.main (F := Ideal))) ⟨m, fun _ => 0, g⟩ (fun r => ∀ c : Dev Cert.NormMemFwdIdeal.nD,
          r.2.mem ((c.tc : Thread Cert.NormMemFwdIdeal.nD Cert.NormMemFwdIdeal.τ).loc Cert.NormMemFwdIdeal.main_v0) = v0 c
          ∧ r.2.mem ((c.tc : Thread Cert.NormMemFwdIdeal.nD Cert.NormMemFwdIdeal.τ).loc Cert.NormMemFwdIdeal.main_arg0) = m ((c.tc : Thread Cert.NormMemFwdIdeal.nD Cert.NormMemFwdIdeal.τ).loc Cert.NormMemFwdIdeal.main_arg0)
          ∧ r.2.mem ((c.tc : Thread Cert.NormMemFwdIdeal.nD Cert.NormMemFwdIdeal.τ).loc Cert.NormMemFwdIdeal.main_arg1) = m ((c.tc : Thread Cert.NormMemFwdIdeal.nD Cert.NormMemFwdIdeal.τ).loc Cert.NormMemFwdIdeal.main_arg1))
      ∧ θ_run (Cert.NormMemFwdRefIdeal.defs (F := Ideal)) (onTc (τ := Cert.NormMemFwdRefIdeal.τ) (Cert.NormMemFwdRefIdeal.main (F := Ideal))) ⟨m', fun _ => 0, g'⟩ (fun r => ∀ c : Dev Cert.NormMemFwdRefIdeal.nD,
          r.2.mem ((c.tc : Thread Cert.NormMemFwdRefIdeal.nD Cert.NormMemFwdRefIdeal.τ).loc Cert.NormMemFwdRefIdeal.main_v14) = v0 c
          ∧ r.2.mem ((c.tc : Thread Cert.NormMemFwdRefIdeal.nD Cert.NormMemFwdRefIdeal.τ).loc Cert.NormMemFwdRefIdeal.main_arg0) = m' ((c.tc : Thread Cert.NormMemFwdRefIdeal.nD Cert.NormMemFwdRefIdeal.τ).loc Cert.NormMemFwdRefIdeal.main_arg0)
          ∧ r.2.mem ((c.tc : Thread Cert.NormMemFwdRefIdeal.nD Cert.NormMemFwdRefIdeal.τ).loc Cert.NormMemFwdRefIdeal.main_arg1) = m' ((c.tc : Thread Cert.NormMemFwdRefIdeal.nD Cert.NormMemFwdRefIdeal.τ).loc Cert.NormMemFwdRefIdeal.main_arg1))

def preserves_AttnFwd_AttnFwdIdeal : Prop :=
  True

def algebraic_AttnFwdIdeal_AttnFwdRefIdeal [hAttnFwdIdeal : Cert.AttnFwdIdeal.Facts] [hAttnFwdRefIdeal : Cert.AttnFwdRefIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)) →
    ∃ (v0 : (c : Dev Cert.AttnFwdIdeal.nD) → Buf (Elt Ideal) ((c.tc : Thread Cert.AttnFwdIdeal.nD Cert.AttnFwdIdeal.τ).loc Cert.AttnFwdIdeal.main_v0)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v0) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v21) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2))

def Claim : Prop :=
  ∃ (hKernel : Cert.Kernel.Facts) (hKernelIdeal : Cert.KernelIdeal.Facts) (hReferenceIdeal : Cert.ReferenceIdeal.Facts) (hFfn1 : Cert.Ffn1.Facts) (hFfn1Ideal : Cert.Ffn1Ideal.Facts) (hFfn1RefIdeal : Cert.Ffn1RefIdeal.Facts) (hFfn2 : Cert.Ffn2.Facts) (hFfn2Ideal : Cert.Ffn2Ideal.Facts) (hFfn2RefIdeal : Cert.Ffn2RefIdeal.Facts) (hFfnDw2 : Cert.FfnDw2.Facts) (hFfnDw2Ideal : Cert.FfnDw2Ideal.Facts) (hFfnDw2RefIdeal : Cert.FfnDw2RefIdeal.Facts) (hFfnDhid : Cert.FfnDhid.Facts) (hFfnDhidIdeal : Cert.FfnDhidIdeal.Facts) (hFfnDhidRefIdeal : Cert.FfnDhidRefIdeal.Facts) (hFfnDw1 : Cert.FfnDw1.Facts) (hFfnDw1Ideal : Cert.FfnDw1Ideal.Facts) (hFfnDw1RefIdeal : Cert.FfnDw1RefIdeal.Facts) (hFfnDh3 : Cert.FfnDh3.Facts) (hFfnDh3Ideal : Cert.FfnDh3Ideal.Facts) (hFfnDh3RefIdeal : Cert.FfnDh3RefIdeal.Facts) (hQuery : Cert.Query.Facts) (hQueryIdeal : Cert.QueryIdeal.Facts) (hQueryRefIdeal : Cert.QueryRefIdeal.Facts) (hProj : Cert.Proj.Facts) (hProjIdeal : Cert.ProjIdeal.Facts) (hProjRefIdeal : Cert.ProjRefIdeal.Facts) (hProjDw : Cert.ProjDw.Facts) (hProjDwIdeal : Cert.ProjDwIdeal.Facts) (hProjDwRefIdeal : Cert.ProjDwRefIdeal.Facts) (hProjDy : Cert.ProjDy.Facts) (hProjDyIdeal : Cert.ProjDyIdeal.Facts) (hProjDyRefIdeal : Cert.ProjDyRefIdeal.Facts) (hQueryDw : Cert.QueryDw.Facts) (hQueryDwIdeal : Cert.QueryDwIdeal.Facts) (hQueryDwRefIdeal : Cert.QueryDwRefIdeal.Facts) (hQueryDh : Cert.QueryDh.Facts) (hQueryDhIdeal : Cert.QueryDhIdeal.Facts) (hQueryDhRefIdeal : Cert.QueryDhRefIdeal.Facts) (hMemKv : Cert.MemKv.Facts) (hMemKvIdeal : Cert.MemKvIdeal.Facts) (hMemKvRefIdeal : Cert.MemKvRefIdeal.Facts) (hMemKvDw : Cert.MemKvDw.Facts) (hMemKvDwIdeal : Cert.MemKvDwIdeal.Facts) (hMemKvDwRefIdeal : Cert.MemKvDwRefIdeal.Facts) (hMemDk : Cert.MemDk.Facts) (hMemDkIdeal : Cert.MemDkIdeal.Facts) (hMemDkRefIdeal : Cert.MemDkRefIdeal.Facts) (hMemDv : Cert.MemDv.Facts) (hMemDvIdeal : Cert.MemDvIdeal.Facts) (hMemDvRefIdeal : Cert.MemDvRefIdeal.Facts) (hInZ : Cert.InZ.Facts) (hInZIdeal : Cert.InZIdeal.Facts) (hInZRefIdeal : Cert.InZRefIdeal.Facts) (hInZDw : Cert.InZDw.Facts) (hInZDwIdeal : Cert.InZDwIdeal.Facts) (hInZDwRefIdeal : Cert.InZDwRefIdeal.Facts) (hInZDh : Cert.InZDh.Facts) (hInZDhIdeal : Cert.InZDhIdeal.Facts) (hInZDhRefIdeal : Cert.InZDhRefIdeal.Facts) (hInXbc : Cert.InXbc.Facts) (hInXbcIdeal : Cert.InXbcIdeal.Facts) (hInXbcRefIdeal : Cert.InXbcRefIdeal.Facts) (hInXbcDw : Cert.InXbcDw.Facts) (hInXbcDwIdeal : Cert.InXbcDwIdeal.Facts) (hInXbcDwRefIdeal : Cert.InXbcDwRefIdeal.Facts) (hInXbcDh : Cert.InXbcDh.Facts) (hInXbcDhIdeal : Cert.InXbcDhIdeal.Facts) (hInXbcDhRefIdeal : Cert.InXbcDhRefIdeal.Facts) (hInRkv : Cert.InRkv.Facts) (hInRkvIdeal : Cert.InRkvIdeal.Facts) (hInRkvRefIdeal : Cert.InRkvRefIdeal.Facts) (hInRkvDw : Cert.InRkvDw.Facts) (hInRkvDwIdeal : Cert.InRkvDwIdeal.Facts) (hInRkvDwRefIdeal : Cert.InRkvDwRefIdeal.Facts) (hInRkvDh : Cert.InRkvDh.Facts) (hInRkvDhIdeal : Cert.InRkvDhIdeal.Facts) (hInRkvDhRefIdeal : Cert.InRkvDhRefIdeal.Facts) (hInPs : Cert.InPs.Facts) (hInPsIdeal : Cert.InPsIdeal.Facts) (hInPsRefIdeal : Cert.InPsRefIdeal.Facts) (hInPsDw : Cert.InPsDw.Facts) (hInPsDwIdeal : Cert.InPsDwIdeal.Facts) (hInPsDwRefIdeal : Cert.InPsDwRefIdeal.Facts) (hInPsDh : Cert.InPsDh.Facts) (hInPsDhIdeal : Cert.InPsDhIdeal.Facts) (hInPsDhRefIdeal : Cert.InPsDhRefIdeal.Facts) (hNormBwd : Cert.NormBwd.Facts) (hNormBwdIdeal : Cert.NormBwdIdeal.Facts) (hNormBwdRefIdeal : Cert.NormBwdRefIdeal.Facts) (hNormMixBwd : Cert.NormMixBwd.Facts) (hNormMixBwdIdeal : Cert.NormMixBwdIdeal.Facts) (hNormMixBwdRefIdeal : Cert.NormMixBwdRefIdeal.Facts) (hNormMemBwd : Cert.NormMemBwd.Facts) (hNormMemBwdIdeal : Cert.NormMemBwdIdeal.Facts) (hNormMemBwdRefIdeal : Cert.NormMemBwdRefIdeal.Facts) (hLossHead : Cert.LossHead.Facts) (hLossHeadIdeal : Cert.LossHeadIdeal.Facts) (hLossHeadRefIdeal : Cert.LossHeadRefIdeal.Facts) (hAdamWFfn1 : Cert.AdamWFfn1.Facts) (hAdamWFfn1Ideal : Cert.AdamWFfn1Ideal.Facts) (hAdamWFfn1RefIdeal : Cert.AdamWFfn1RefIdeal.Facts) (hAdamWFfn2 : Cert.AdamWFfn2.Facts) (hAdamWFfn2Ideal : Cert.AdamWFfn2Ideal.Facts) (hAdamWFfn2RefIdeal : Cert.AdamWFfn2RefIdeal.Facts) (hAdamWSquare : Cert.AdamWSquare.Facts) (hAdamWSquareIdeal : Cert.AdamWSquareIdeal.Facts) (hAdamWSquareRefIdeal : Cert.AdamWSquareRefIdeal.Facts) (hSumIn : Cert.SumIn.Facts) (hSumInIdeal : Cert.SumInIdeal.Facts) (hSumInRefIdeal : Cert.SumInRefIdeal.Facts) (hAdamWIn : Cert.AdamWIn.Facts) (hAdamWInIdeal : Cert.AdamWInIdeal.Facts) (hAdamWInRefIdeal : Cert.AdamWInRefIdeal.Facts) (hAdamWConv : Cert.AdamWConv.Facts) (hAdamWConvIdeal : Cert.AdamWConvIdeal.Facts) (hAdamWConvRefIdeal : Cert.AdamWConvRefIdeal.Facts) (hAdamWRank : Cert.AdamWRank.Facts) (hAdamWRankIdeal : Cert.AdamWRankIdeal.Facts) (hAdamWRankRefIdeal : Cert.AdamWRankRefIdeal.Facts) (hAdamWGate : Cert.AdamWGate.Facts) (hAdamWGateIdeal : Cert.AdamWGateIdeal.Facts) (hAdamWGateRefIdeal : Cert.AdamWGateRefIdeal.Facts) (hAdamWSmall : Cert.AdamWSmall.Facts) (hAdamWSmallIdeal : Cert.AdamWSmallIdeal.Facts) (hAdamWSmallRefIdeal : Cert.AdamWSmallRefIdeal.Facts) (hNormFwd : Cert.NormFwd.Facts) (hNormFwdIdeal : Cert.NormFwdIdeal.Facts) (hNormFwdRefIdeal : Cert.NormFwdRefIdeal.Facts) (hNormMemFwd : Cert.NormMemFwd.Facts) (hNormMemFwdIdeal : Cert.NormMemFwdIdeal.Facts) (hNormMemFwdRefIdeal : Cert.NormMemFwdRefIdeal.Facts) (hAttnFwd : Cert.AttnFwd.Facts) (hAttnFwdIdeal : Cert.AttnFwdIdeal.Facts) (hAttnFwdRefIdeal : Cert.AttnFwdRefIdeal.Facts) (hPre_arguments_finite : Cert.Pre_arguments_finite.Facts),
    quiescent_Kernel (hKernel := hKernel)
    ∧ quiescent_KernelIdeal (hKernelIdeal := hKernelIdeal)
    ∧ quiescent_KernelIdeal_pre_arguments_finite (hKernelIdeal := hKernelIdeal) (hPre_arguments_finite := hPre_arguments_finite)
    ∧ quiescent_ReferenceIdeal (hReferenceIdeal := hReferenceIdeal)
    ∧ quiescent_ReferenceIdeal_pre_arguments_finite (hReferenceIdeal := hReferenceIdeal) (hPre_arguments_finite := hPre_arguments_finite)
    ∧ quiescent_Ffn1 (hFfn1 := hFfn1)
    ∧ quiescent_Ffn1Ideal (hFfn1Ideal := hFfn1Ideal)
    ∧ quiescent_Ffn1RefIdeal (hFfn1RefIdeal := hFfn1RefIdeal)
    ∧ quiescent_Ffn2 (hFfn2 := hFfn2)
    ∧ quiescent_Ffn2Ideal (hFfn2Ideal := hFfn2Ideal)
    ∧ quiescent_Ffn2RefIdeal (hFfn2RefIdeal := hFfn2RefIdeal)
    ∧ quiescent_FfnDw2 (hFfnDw2 := hFfnDw2)
    ∧ quiescent_FfnDw2Ideal (hFfnDw2Ideal := hFfnDw2Ideal)
    ∧ quiescent_FfnDw2RefIdeal (hFfnDw2RefIdeal := hFfnDw2RefIdeal)
    ∧ quiescent_FfnDhid (hFfnDhid := hFfnDhid)
    ∧ quiescent_FfnDhidIdeal (hFfnDhidIdeal := hFfnDhidIdeal)
    ∧ quiescent_FfnDhidRefIdeal (hFfnDhidRefIdeal := hFfnDhidRefIdeal)
    ∧ quiescent_FfnDw1 (hFfnDw1 := hFfnDw1)
    ∧ quiescent_FfnDw1Ideal (hFfnDw1Ideal := hFfnDw1Ideal)
    ∧ quiescent_FfnDw1RefIdeal (hFfnDw1RefIdeal := hFfnDw1RefIdeal)
    ∧ quiescent_FfnDh3 (hFfnDh3 := hFfnDh3)
    ∧ quiescent_FfnDh3Ideal (hFfnDh3Ideal := hFfnDh3Ideal)
    ∧ quiescent_FfnDh3RefIdeal (hFfnDh3RefIdeal := hFfnDh3RefIdeal)
    ∧ quiescent_Query (hQuery := hQuery)
    ∧ quiescent_QueryIdeal (hQueryIdeal := hQueryIdeal)
    ∧ quiescent_QueryRefIdeal (hQueryRefIdeal := hQueryRefIdeal)
    ∧ quiescent_Proj (hProj := hProj)
    ∧ quiescent_ProjIdeal (hProjIdeal := hProjIdeal)
    ∧ quiescent_ProjRefIdeal (hProjRefIdeal := hProjRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_ProjDy (hProjDy := hProjDy)
    ∧ quiescent_ProjDyIdeal (hProjDyIdeal := hProjDyIdeal)
    ∧ quiescent_ProjDyRefIdeal (hProjDyRefIdeal := hProjDyRefIdeal)
    ∧ quiescent_QueryDw (hQueryDw := hQueryDw)
    ∧ quiescent_QueryDwIdeal (hQueryDwIdeal := hQueryDwIdeal)
    ∧ quiescent_QueryDwRefIdeal (hQueryDwRefIdeal := hQueryDwRefIdeal)
    ∧ quiescent_QueryDh (hQueryDh := hQueryDh)
    ∧ quiescent_QueryDhIdeal (hQueryDhIdeal := hQueryDhIdeal)
    ∧ quiescent_QueryDhRefIdeal (hQueryDhRefIdeal := hQueryDhRefIdeal)
    ∧ quiescent_MemKv (hMemKv := hMemKv)
    ∧ quiescent_MemKvIdeal (hMemKvIdeal := hMemKvIdeal)
    ∧ quiescent_MemKvRefIdeal (hMemKvRefIdeal := hMemKvRefIdeal)
    ∧ quiescent_MemKvDw (hMemKvDw := hMemKvDw)
    ∧ quiescent_MemKvDwIdeal (hMemKvDwIdeal := hMemKvDwIdeal)
    ∧ quiescent_MemKvDwRefIdeal (hMemKvDwRefIdeal := hMemKvDwRefIdeal)
    ∧ quiescent_MemDk (hMemDk := hMemDk)
    ∧ quiescent_MemDkIdeal (hMemDkIdeal := hMemDkIdeal)
    ∧ quiescent_MemDkRefIdeal (hMemDkRefIdeal := hMemDkRefIdeal)
    ∧ quiescent_MemDv (hMemDv := hMemDv)
    ∧ quiescent_MemDvIdeal (hMemDvIdeal := hMemDvIdeal)
    ∧ quiescent_MemDvRefIdeal (hMemDvRefIdeal := hMemDvRefIdeal)
    ∧ quiescent_InZ (hInZ := hInZ)
    ∧ quiescent_InZIdeal (hInZIdeal := hInZIdeal)
    ∧ quiescent_InZRefIdeal (hInZRefIdeal := hInZRefIdeal)
    ∧ quiescent_InZDw (hInZDw := hInZDw)
    ∧ quiescent_InZDwIdeal (hInZDwIdeal := hInZDwIdeal)
    ∧ quiescent_InZDwRefIdeal (hInZDwRefIdeal := hInZDwRefIdeal)
    ∧ quiescent_InZDh (hInZDh := hInZDh)
    ∧ quiescent_InZDhIdeal (hInZDhIdeal := hInZDhIdeal)
    ∧ quiescent_InZDhRefIdeal (hInZDhRefIdeal := hInZDhRefIdeal)
    ∧ quiescent_InXbc (hInXbc := hInXbc)
    ∧ quiescent_InXbcIdeal (hInXbcIdeal := hInXbcIdeal)
    ∧ quiescent_InXbcRefIdeal (hInXbcRefIdeal := hInXbcRefIdeal)
    ∧ quiescent_InXbcDw (hInXbcDw := hInXbcDw)
    ∧ quiescent_InXbcDwIdeal (hInXbcDwIdeal := hInXbcDwIdeal)
    ∧ quiescent_InXbcDwRefIdeal (hInXbcDwRefIdeal := hInXbcDwRefIdeal)
    ∧ quiescent_InXbcDh (hInXbcDh := hInXbcDh)
    ∧ quiescent_InXbcDhIdeal (hInXbcDhIdeal := hInXbcDhIdeal)
    ∧ quiescent_InXbcDhRefIdeal (hInXbcDhRefIdeal := hInXbcDhRefIdeal)
    ∧ quiescent_InRkv (hInRkv := hInRkv)
    ∧ quiescent_InRkvIdeal (hInRkvIdeal := hInRkvIdeal)
    ∧ quiescent_InRkvRefIdeal (hInRkvRefIdeal := hInRkvRefIdeal)
    ∧ quiescent_InRkvDw (hInRkvDw := hInRkvDw)
    ∧ quiescent_InRkvDwIdeal (hInRkvDwIdeal := hInRkvDwIdeal)
    ∧ quiescent_InRkvDwRefIdeal (hInRkvDwRefIdeal := hInRkvDwRefIdeal)
    ∧ quiescent_InRkvDh (hInRkvDh := hInRkvDh)
    ∧ quiescent_InRkvDhIdeal (hInRkvDhIdeal := hInRkvDhIdeal)
    ∧ quiescent_InRkvDhRefIdeal (hInRkvDhRefIdeal := hInRkvDhRefIdeal)
    ∧ quiescent_InPs (hInPs := hInPs)
    ∧ quiescent_InPsIdeal (hInPsIdeal := hInPsIdeal)
    ∧ quiescent_InPsRefIdeal (hInPsRefIdeal := hInPsRefIdeal)
    ∧ quiescent_InPsDw (hInPsDw := hInPsDw)
    ∧ quiescent_InPsDwIdeal (hInPsDwIdeal := hInPsDwIdeal)
    ∧ quiescent_InPsDwRefIdeal (hInPsDwRefIdeal := hInPsDwRefIdeal)
    ∧ quiescent_InPsDh (hInPsDh := hInPsDh)
    ∧ quiescent_InPsDhIdeal (hInPsDhIdeal := hInPsDhIdeal)
    ∧ quiescent_InPsDhRefIdeal (hInPsDhRefIdeal := hInPsDhRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_NormMixBwd (hNormMixBwd := hNormMixBwd)
    ∧ quiescent_NormMixBwdIdeal (hNormMixBwdIdeal := hNormMixBwdIdeal)
    ∧ quiescent_NormMixBwdRefIdeal (hNormMixBwdRefIdeal := hNormMixBwdRefIdeal)
    ∧ quiescent_NormMemBwd (hNormMemBwd := hNormMemBwd)
    ∧ quiescent_NormMemBwdIdeal (hNormMemBwdIdeal := hNormMemBwdIdeal)
    ∧ quiescent_NormMemBwdRefIdeal (hNormMemBwdRefIdeal := hNormMemBwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_AdamWFfn1 (hAdamWFfn1 := hAdamWFfn1)
    ∧ quiescent_AdamWFfn1Ideal (hAdamWFfn1Ideal := hAdamWFfn1Ideal)
    ∧ quiescent_AdamWFfn1RefIdeal (hAdamWFfn1RefIdeal := hAdamWFfn1RefIdeal)
    ∧ quiescent_AdamWFfn2 (hAdamWFfn2 := hAdamWFfn2)
    ∧ quiescent_AdamWFfn2Ideal (hAdamWFfn2Ideal := hAdamWFfn2Ideal)
    ∧ quiescent_AdamWFfn2RefIdeal (hAdamWFfn2RefIdeal := hAdamWFfn2RefIdeal)
    ∧ quiescent_AdamWSquare (hAdamWSquare := hAdamWSquare)
    ∧ quiescent_AdamWSquareIdeal (hAdamWSquareIdeal := hAdamWSquareIdeal)
    ∧ quiescent_AdamWSquareRefIdeal (hAdamWSquareRefIdeal := hAdamWSquareRefIdeal)
    ∧ quiescent_SumIn (hSumIn := hSumIn)
    ∧ quiescent_SumInIdeal (hSumInIdeal := hSumInIdeal)
    ∧ quiescent_SumInRefIdeal (hSumInRefIdeal := hSumInRefIdeal)
    ∧ quiescent_AdamWIn (hAdamWIn := hAdamWIn)
    ∧ quiescent_AdamWInIdeal (hAdamWInIdeal := hAdamWInIdeal)
    ∧ quiescent_AdamWInRefIdeal (hAdamWInRefIdeal := hAdamWInRefIdeal)
    ∧ quiescent_AdamWConv (hAdamWConv := hAdamWConv)
    ∧ quiescent_AdamWConvIdeal (hAdamWConvIdeal := hAdamWConvIdeal)
    ∧ quiescent_AdamWConvRefIdeal (hAdamWConvRefIdeal := hAdamWConvRefIdeal)
    ∧ quiescent_AdamWRank (hAdamWRank := hAdamWRank)
    ∧ quiescent_AdamWRankIdeal (hAdamWRankIdeal := hAdamWRankIdeal)
    ∧ quiescent_AdamWRankRefIdeal (hAdamWRankRefIdeal := hAdamWRankRefIdeal)
    ∧ quiescent_AdamWGate (hAdamWGate := hAdamWGate)
    ∧ quiescent_AdamWGateIdeal (hAdamWGateIdeal := hAdamWGateIdeal)
    ∧ quiescent_AdamWGateRefIdeal (hAdamWGateRefIdeal := hAdamWGateRefIdeal)
    ∧ quiescent_AdamWSmall (hAdamWSmall := hAdamWSmall)
    ∧ quiescent_AdamWSmallIdeal (hAdamWSmallIdeal := hAdamWSmallIdeal)
    ∧ quiescent_AdamWSmallRefIdeal (hAdamWSmallRefIdeal := hAdamWSmallRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_NormMemFwd (hNormMemFwd := hNormMemFwd)
    ∧ quiescent_NormMemFwdIdeal (hNormMemFwdIdeal := hNormMemFwdIdeal)
    ∧ quiescent_NormMemFwdRefIdeal (hNormMemFwdRefIdeal := hNormMemFwdRefIdeal)
    ∧ quiescent_AttnFwd (hAttnFwd := hAttnFwd)
    ∧ quiescent_AttnFwdIdeal (hAttnFwdIdeal := hAttnFwdIdeal)
    ∧ quiescent_AttnFwdRefIdeal (hAttnFwdRefIdeal := hAttnFwdRefIdeal)
    ∧ preserves_Kernel_KernelIdeal
    ∧ algebraic_KernelIdeal_ReferenceIdeal_pre_arguments_finite (hKernelIdeal := hKernelIdeal) (hReferenceIdeal := hReferenceIdeal) (hPre_arguments_finite := hPre_arguments_finite)
    ∧ preserves_Ffn1_Ffn1Ideal
    ∧ algebraic_Ffn1Ideal_Ffn1RefIdeal (hFfn1Ideal := hFfn1Ideal) (hFfn1RefIdeal := hFfn1RefIdeal)
    ∧ preserves_Ffn2_Ffn2Ideal
    ∧ algebraic_Ffn2Ideal_Ffn2RefIdeal (hFfn2Ideal := hFfn2Ideal) (hFfn2RefIdeal := hFfn2RefIdeal)
    ∧ preserves_FfnDw2_FfnDw2Ideal
    ∧ algebraic_FfnDw2Ideal_FfnDw2RefIdeal (hFfnDw2Ideal := hFfnDw2Ideal) (hFfnDw2RefIdeal := hFfnDw2RefIdeal)
    ∧ preserves_FfnDhid_FfnDhidIdeal
    ∧ algebraic_FfnDhidIdeal_FfnDhidRefIdeal (hFfnDhidIdeal := hFfnDhidIdeal) (hFfnDhidRefIdeal := hFfnDhidRefIdeal)
    ∧ preserves_FfnDw1_FfnDw1Ideal
    ∧ algebraic_FfnDw1Ideal_FfnDw1RefIdeal (hFfnDw1Ideal := hFfnDw1Ideal) (hFfnDw1RefIdeal := hFfnDw1RefIdeal)
    ∧ preserves_FfnDh3_FfnDh3Ideal
    ∧ algebraic_FfnDh3Ideal_FfnDh3RefIdeal (hFfnDh3Ideal := hFfnDh3Ideal) (hFfnDh3RefIdeal := hFfnDh3RefIdeal)
    ∧ preserves_Query_QueryIdeal
    ∧ algebraic_QueryIdeal_QueryRefIdeal (hQueryIdeal := hQueryIdeal) (hQueryRefIdeal := hQueryRefIdeal)
    ∧ preserves_Proj_ProjIdeal
    ∧ algebraic_ProjIdeal_ProjRefIdeal (hProjIdeal := hProjIdeal) (hProjRefIdeal := hProjRefIdeal)
    ∧ preserves_ProjDw_ProjDwIdeal
    ∧ algebraic_ProjDwIdeal_ProjDwRefIdeal (hProjDwIdeal := hProjDwIdeal) (hProjDwRefIdeal := hProjDwRefIdeal)
    ∧ preserves_ProjDy_ProjDyIdeal
    ∧ algebraic_ProjDyIdeal_ProjDyRefIdeal (hProjDyIdeal := hProjDyIdeal) (hProjDyRefIdeal := hProjDyRefIdeal)
    ∧ preserves_QueryDw_QueryDwIdeal
    ∧ algebraic_QueryDwIdeal_QueryDwRefIdeal (hQueryDwIdeal := hQueryDwIdeal) (hQueryDwRefIdeal := hQueryDwRefIdeal)
    ∧ preserves_QueryDh_QueryDhIdeal
    ∧ algebraic_QueryDhIdeal_QueryDhRefIdeal (hQueryDhIdeal := hQueryDhIdeal) (hQueryDhRefIdeal := hQueryDhRefIdeal)
    ∧ preserves_MemKv_MemKvIdeal
    ∧ algebraic_MemKvIdeal_MemKvRefIdeal (hMemKvIdeal := hMemKvIdeal) (hMemKvRefIdeal := hMemKvRefIdeal)
    ∧ preserves_MemKvDw_MemKvDwIdeal
    ∧ algebraic_MemKvDwIdeal_MemKvDwRefIdeal (hMemKvDwIdeal := hMemKvDwIdeal) (hMemKvDwRefIdeal := hMemKvDwRefIdeal)
    ∧ preserves_MemDk_MemDkIdeal
    ∧ algebraic_MemDkIdeal_MemDkRefIdeal (hMemDkIdeal := hMemDkIdeal) (hMemDkRefIdeal := hMemDkRefIdeal)
    ∧ preserves_MemDv_MemDvIdeal
    ∧ algebraic_MemDvIdeal_MemDvRefIdeal (hMemDvIdeal := hMemDvIdeal) (hMemDvRefIdeal := hMemDvRefIdeal)
    ∧ preserves_InZ_InZIdeal
    ∧ algebraic_InZIdeal_InZRefIdeal (hInZIdeal := hInZIdeal) (hInZRefIdeal := hInZRefIdeal)
    ∧ preserves_InZDw_InZDwIdeal
    ∧ algebraic_InZDwIdeal_InZDwRefIdeal (hInZDwIdeal := hInZDwIdeal) (hInZDwRefIdeal := hInZDwRefIdeal)
    ∧ preserves_InZDh_InZDhIdeal
    ∧ algebraic_InZDhIdeal_InZDhRefIdeal (hInZDhIdeal := hInZDhIdeal) (hInZDhRefIdeal := hInZDhRefIdeal)
    ∧ preserves_InXbc_InXbcIdeal
    ∧ algebraic_InXbcIdeal_InXbcRefIdeal (hInXbcIdeal := hInXbcIdeal) (hInXbcRefIdeal := hInXbcRefIdeal)
    ∧ preserves_InXbcDw_InXbcDwIdeal
    ∧ algebraic_InXbcDwIdeal_InXbcDwRefIdeal (hInXbcDwIdeal := hInXbcDwIdeal) (hInXbcDwRefIdeal := hInXbcDwRefIdeal)
    ∧ preserves_InXbcDh_InXbcDhIdeal
    ∧ algebraic_InXbcDhIdeal_InXbcDhRefIdeal (hInXbcDhIdeal := hInXbcDhIdeal) (hInXbcDhRefIdeal := hInXbcDhRefIdeal)
    ∧ preserves_InRkv_InRkvIdeal
    ∧ algebraic_InRkvIdeal_InRkvRefIdeal (hInRkvIdeal := hInRkvIdeal) (hInRkvRefIdeal := hInRkvRefIdeal)
    ∧ preserves_InRkvDw_InRkvDwIdeal
    ∧ algebraic_InRkvDwIdeal_InRkvDwRefIdeal (hInRkvDwIdeal := hInRkvDwIdeal) (hInRkvDwRefIdeal := hInRkvDwRefIdeal)
    ∧ preserves_InRkvDh_InRkvDhIdeal
    ∧ algebraic_InRkvDhIdeal_InRkvDhRefIdeal (hInRkvDhIdeal := hInRkvDhIdeal) (hInRkvDhRefIdeal := hInRkvDhRefIdeal)
    ∧ preserves_InPs_InPsIdeal
    ∧ algebraic_InPsIdeal_InPsRefIdeal (hInPsIdeal := hInPsIdeal) (hInPsRefIdeal := hInPsRefIdeal)
    ∧ preserves_InPsDw_InPsDwIdeal
    ∧ algebraic_InPsDwIdeal_InPsDwRefIdeal (hInPsDwIdeal := hInPsDwIdeal) (hInPsDwRefIdeal := hInPsDwRefIdeal)
    ∧ preserves_InPsDh_InPsDhIdeal
    ∧ algebraic_InPsDhIdeal_InPsDhRefIdeal (hInPsDhIdeal := hInPsDhIdeal) (hInPsDhRefIdeal := hInPsDhRefIdeal)
    ∧ preserves_NormBwd_NormBwdIdeal
    ∧ algebraic_NormBwdIdeal_NormBwdRefIdeal (hNormBwdIdeal := hNormBwdIdeal) (hNormBwdRefIdeal := hNormBwdRefIdeal)
    ∧ preserves_NormMixBwd_NormMixBwdIdeal
    ∧ algebraic_NormMixBwdIdeal_NormMixBwdRefIdeal (hNormMixBwdIdeal := hNormMixBwdIdeal) (hNormMixBwdRefIdeal := hNormMixBwdRefIdeal)
    ∧ preserves_NormMemBwd_NormMemBwdIdeal
    ∧ algebraic_NormMemBwdIdeal_NormMemBwdRefIdeal (hNormMemBwdIdeal := hNormMemBwdIdeal) (hNormMemBwdRefIdeal := hNormMemBwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_AdamWFfn1_AdamWFfn1Ideal
    ∧ algebraic_AdamWFfn1Ideal_AdamWFfn1RefIdeal (hAdamWFfn1Ideal := hAdamWFfn1Ideal) (hAdamWFfn1RefIdeal := hAdamWFfn1RefIdeal)
    ∧ preserves_AdamWFfn2_AdamWFfn2Ideal
    ∧ algebraic_AdamWFfn2Ideal_AdamWFfn2RefIdeal (hAdamWFfn2Ideal := hAdamWFfn2Ideal) (hAdamWFfn2RefIdeal := hAdamWFfn2RefIdeal)
    ∧ preserves_AdamWSquare_AdamWSquareIdeal
    ∧ algebraic_AdamWSquareIdeal_AdamWSquareRefIdeal (hAdamWSquareIdeal := hAdamWSquareIdeal) (hAdamWSquareRefIdeal := hAdamWSquareRefIdeal)
    ∧ preserves_SumIn_SumInIdeal
    ∧ algebraic_SumInIdeal_SumInRefIdeal (hSumInIdeal := hSumInIdeal) (hSumInRefIdeal := hSumInRefIdeal)
    ∧ preserves_AdamWIn_AdamWInIdeal
    ∧ algebraic_AdamWInIdeal_AdamWInRefIdeal (hAdamWInIdeal := hAdamWInIdeal) (hAdamWInRefIdeal := hAdamWInRefIdeal)
    ∧ preserves_AdamWConv_AdamWConvIdeal
    ∧ algebraic_AdamWConvIdeal_AdamWConvRefIdeal (hAdamWConvIdeal := hAdamWConvIdeal) (hAdamWConvRefIdeal := hAdamWConvRefIdeal)
    ∧ preserves_AdamWRank_AdamWRankIdeal
    ∧ algebraic_AdamWRankIdeal_AdamWRankRefIdeal (hAdamWRankIdeal := hAdamWRankIdeal) (hAdamWRankRefIdeal := hAdamWRankRefIdeal)
    ∧ preserves_AdamWGate_AdamWGateIdeal
    ∧ algebraic_AdamWGateIdeal_AdamWGateRefIdeal (hAdamWGateIdeal := hAdamWGateIdeal) (hAdamWGateRefIdeal := hAdamWGateRefIdeal)
    ∧ preserves_AdamWSmall_AdamWSmallIdeal
    ∧ algebraic_AdamWSmallIdeal_AdamWSmallRefIdeal (hAdamWSmallIdeal := hAdamWSmallIdeal) (hAdamWSmallRefIdeal := hAdamWSmallRefIdeal)
    ∧ preserves_NormFwd_NormFwdIdeal
    ∧ algebraic_NormFwdIdeal_NormFwdRefIdeal (hNormFwdIdeal := hNormFwdIdeal) (hNormFwdRefIdeal := hNormFwdRefIdeal)
    ∧ preserves_NormMemFwd_NormMemFwdIdeal
    ∧ algebraic_NormMemFwdIdeal_NormMemFwdRefIdeal (hNormMemFwdIdeal := hNormMemFwdIdeal) (hNormMemFwdRefIdeal := hNormMemFwdRefIdeal)
    ∧ preserves_AttnFwd_AttnFwdIdeal
    ∧ algebraic_AttnFwdIdeal_AttnFwdRefIdeal (hAttnFwdIdeal := hAttnFwdIdeal) (hAttnFwdRefIdeal := hAttnFwdRefIdeal)
-- ==== Pre_arguments_finite.lean ====
abbrev S4096x2048 : Shape := ⟨2, ![4096, 2048]⟩
abbrev S256x2048 : Shape := ⟨2, ![256, 2048]⟩
abbrev S_ : Shape := ⟨0, ![]⟩

class Facts : Prop where
  bitsLt_bf16_f32 : FTy.bits .bf16 < FTy.bits .f32
  bcast_S_S4096x2048 : S_.BroadcastsInDim S4096x2048 (![] : Fin 0 → Fin S4096x2048.rank)
  bcast_S_S256x2048 : S_.BroadcastsInDim S256x2048 (![] : Fin 0 → Fin S256x2048.rank)

variable [Facts]

def fn {F : FTy → Type} [FloatOps F] (main_arg0 : FVec F S4096x2048 .bf16) (main_arg1 : FVec F S256x2048 .f32) (main_arg2 : FVec F S256x2048 .f32) (main_arg3 : FVec F S4096x2048 .bf16) : IVec S4096x2048 1 × IVec S256x2048 1 × IVec S256x2048 1 × IVec S4096x2048 1 :=
  let main_v0 : FVec F S4096x2048 .f32 := (extf .f32 · bitsLt_bf16_f32) main_arg0
  let main_v1 : FVec F S4096x2048 .f32 := Host.absf main_v0
  let main_cst : FVec F S_ .f32 := constant S_ .f32 0x7F800000#32
  let main_v2 : FVec F S4096x2048 .f32 := broadcastInDim S4096x2048 ![] bcast_S_S4096x2048 main_cst
  let main_v3 : IVec S4096x2048 1 := cmpf .olt main_v1 main_v2
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_v7 : FVec F S256x2048 .f32 := Host.absf main_arg2
  let main_cst_1 : FVec F S_ .f32 := constant S_ .f32 0x7F800000#32
  let main_v8 : FVec F S256x2048 .f32 := broadcastInDim S256x2048 ![] bcast_S_S256x2048 main_cst_1
  let main_v9 : IVec S256x2048 1 := cmpf .olt main_v7 main_v8
  let main_v10 : FVec F S4096x2048 .f32 := (extf .f32 · bitsLt_bf16_f32) main_arg3
  let main_v11 : FVec F S4096x2048 .f32 := Host.absf main_v10
  let main_cst_2 : FVec F S_ .f32 := constant S_ .f32 0x7F800000#32
  let main_v12 : FVec F S4096x2048 .f32 := broadcastInDim S4096x2048 ![] bcast_S_S4096x2048 main_cst_2
  let main_v13 : IVec S4096x2048 1 := cmpf .olt main_v11 main_v12
  (main_v3, main_v6, main_v9, main_v13)
-- ==== Kernel.lean ====
abbrev S4096x2048 : Shape := ⟨2, ![4096, 2048]⟩
abbrev S256x2048 : Shape := ⟨2, ![256, 2048]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩
abbrev S256x1536 : Shape := ⟨2, ![256, 1536]⟩
abbrev S512x1536 : Shape := ⟨2, ![512, 1536]⟩
abbrev S256x1024 : Shape := ⟨2, ![256, 1024]⟩
abbrev S512x1024 : Shape := ⟨2, ![512, 1024]⟩

abbrev nBuf : Space → Nat
  | .hbm => 7
  | .vmem => 10
  | .smem => 0
  | _ => 0

abbrev bufTy : (tb : Table) → Fin (tcTables nBuf tb) → BufTy
  | .hbm, ⟨0, _⟩ => ⟨S4096x2048, .bf16⟩
  | .hbm, ⟨1, _⟩ => ⟨S256x2048, .f32⟩
  | .hbm, ⟨2, _⟩ => ⟨S256x2048, .f32⟩
  | .hbm, ⟨3, _⟩ => ⟨S4096x2048, .bf16⟩
  | .hbm, ⟨4, _⟩ => ⟨S4096x2048, .bf16⟩
  | .hbm, ⟨5, _⟩ => ⟨S256x2048, .f32⟩
  | .hbm, ⟨6, _⟩ => ⟨S256x2048, .f32⟩
  | .local _ .vmem, ⟨0, _⟩ => ⟨S512x2048, .bf16⟩
  | .local _ .vmem, ⟨1, _⟩ => ⟨S512x2048, .bf16⟩
  | .local _ .vmem, ⟨2, _⟩ => ⟨S256x2048, .f32⟩
  | .local _ .vmem, ⟨3, _⟩ => ⟨S256x2048, .f32⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S256x2048, .f32⟩
  | .local _ .vmem, ⟨9, _⟩ => ⟨S256x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S256x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x2048 : Shape := ⟨2, ![4096, 2048]⟩
abbrev S256x2048 : Shape := ⟨2, ![256, 2048]⟩
abbrev S1x4096x4x512 : Shape := ⟨4, ![1, 4096, 4, 512]⟩
abbrev S1x256x4x512 : Shape := ⟨4, ![1, 256, 4, 512]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x512x4096 : Shape := ⟨4, ![1, 4, 512, 4096]⟩
abbrev S1x4x512x256 : Shape := ⟨4, ![1, 4, 512, 256]⟩
abbrev S4x4096 : Shape := ⟨2, ![4, 4096]⟩
abbrev S1x4x256x512 : Shape := ⟨4, ![1, 4, 256, 512]⟩
abbrev S1x4x4096x512 : Shape := ⟨4, ![1, 4, 4096, 512]⟩

abbrev nBuf : Space → Nat
  | .hbm => 85
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .f32⟩
  | .hbm, ⟨2, _⟩ => ⟨S256x2048, .f32⟩
  | .hbm, ⟨3, _⟩ => ⟨S4096x2048, .bf16⟩
  | .hbm, ⟨4, _⟩ => ⟨S4096x2048, .f32⟩
  | .hbm, ⟨5, _⟩ => ⟨S1x4096x4x512, .f32⟩
  | .hbm, ⟨6, _⟩ => ⟨S1x256x4x512, .f32⟩
  | .hbm, ⟨7, _⟩ => ⟨S1x256x4x512, .f32⟩
  | .hbm, ⟨8, _⟩ => ⟨S1x4x4096x256, .f32⟩
  | .hbm, ⟨9, _⟩ => ⟨S_, .f32⟩
  | .hbm, ⟨10, _⟩ => ⟨S1x4x4096x256, .f32⟩
  | .hbm, ⟨11, _⟩ => ⟨S1x4x4096x256, .f32⟩
  | .hbm, ⟨12, _⟩ => ⟨S_, .f32⟩
  | .hbm, ⟨13, _⟩ => ⟨S1x4x4096, .f32⟩
  | .hbm, ⟨14, _⟩ => ⟨S1x4x4096x1, .f32⟩
  | .hbm, ⟨15, _⟩ => ⟨S1x4x4096x256, .f32⟩
  | .hbm, ⟨16, _⟩ => ⟨S1x4x4096x256, .i1⟩
  | .hbm, ⟨17, _⟩ => ⟨S1x4x4096x256, .f32⟩
  | .hbm, ⟨18, _⟩ => ⟨S_, .f32⟩
  | .hbm, ⟨19, _⟩ => ⟨S1x4x4096, .f32⟩
  | .hbm, ⟨20, _⟩ => ⟨S_, .f32⟩
  | .hbm, ⟨21, _⟩ => ⟨S1x4x4096, .f32⟩
  | .hbm, ⟨22, _⟩ => ⟨S1x4x4096, .f32⟩
  | .hbm, ⟨23, _⟩ => ⟨S_, .f32⟩
  | .hbm, ⟨24, _⟩ => ⟨S1x4x4096, .f32⟩
  | .hbm, ⟨25, _⟩ => ⟨S1x4x4096, .i1⟩
  | .hbm, ⟨26, _⟩ => ⟨S_, .f32⟩
  | .hbm, ⟨27, _⟩ => ⟨S1x4x4096, .f32⟩
  | .hbm, ⟨28, _⟩ => ⟨S1x4x4096, .i1⟩
  | .hbm, ⟨29, _⟩ => ⟨S_, .f32⟩
  | .hbm, ⟨30, _⟩ => ⟨S1x4x4096, .f32⟩
  | .hbm, ⟨31, _⟩ => ⟨S_, .f32⟩
  | .hbm, ⟨32, _⟩ => ⟨S1x4x4096, .f32⟩
  | .hbm, ⟨33, _⟩ => ⟨S_, .f32⟩
  | .hbm, ⟨34, _⟩ => ⟨S1x4x4096, .f32⟩
  | .hbm, ⟨35, _⟩ => ⟨S1x4x4096, .f32⟩
  | .hbm, ⟨36, _⟩ => ⟨S1x4x4096, .f32⟩
  | .hbm, ⟨37, _⟩ => ⟨S1x4x4096x1, .f32⟩
  | .hbm, ⟨38, _⟩ => ⟨S1x4x4096x256, .f32⟩
  | .hbm, ⟨39, _⟩ => ⟨S1x4x4096x256, .f32⟩
  | .hbm, ⟨40, _⟩ => ⟨S1x4x4096x256, .f32⟩
  | .hbm, ⟨41, _⟩ => ⟨S_, .f32⟩
  | .hbm, ⟨42, _⟩ => ⟨S1x4x4096, .f32⟩
  | .hbm, ⟨43, _⟩ => ⟨S1x4x4096x1, .f32⟩
  | .hbm, ⟨44, _⟩ => ⟨S1x4x4096x256, .f32⟩
  | .hbm, ⟨45, _⟩ => ⟨S1x4x4096x256, .f32⟩
  | .hbm, ⟨46, _⟩ => ⟨S1x4x4096x1, .f32⟩
  | .hbm, ⟨47, _⟩ => ⟨S_, .f32⟩
  | .hbm, ⟨48, _⟩ => ⟨S1x4x4096x1, .f32⟩
  | .hbm, ⟨49, _⟩ => ⟨S1x4x4096x1, .f32⟩
  | .hbm, ⟨50, _⟩ => ⟨S1x4x512x4096, .f32⟩
  | .hbm, ⟨51, _⟩ => ⟨S1x4096x4x512, .f32⟩
  | .hbm, ⟨52, _⟩ => ⟨S4096x2048, .f32⟩
  | .hbm, ⟨53, _⟩ => ⟨S4096x2048, .f32⟩
  | .hbm, ⟨54, _⟩ => ⟨S1x4096x4x512, .f32⟩
  | .hbm, ⟨55, _⟩ => ⟨S1x4x512x4096, .f32⟩
  | .hbm, ⟨56, _⟩ => ⟨S1x4x4096x256, .f32⟩
  | .hbm, ⟨57, _⟩ => ⟨S1x4x512x256, .f32⟩
  | .hbm, ⟨58, _⟩ => ⟨S1x256x4x512, .f32⟩
  | .hbm, ⟨59, _⟩ => ⟨S1x4x4096x256, .f32⟩
  | .hbm, ⟨60, _⟩ => ⟨S1x4x4096x256, .f32⟩
  | .hbm, ⟨61, _⟩ => ⟨S1x4x4096x256, .f32⟩
  | .hbm, ⟨62, _⟩ => ⟨S_, .f32⟩
  | .hbm, ⟨63, _⟩ => ⟨S1x4x4096, .f32⟩
  | .hbm, ⟨64, _⟩ => ⟨S1x4x4096x1, .f32⟩
  | .hbm, ⟨65, _⟩ => ⟨S1x4x4096x1, .f32⟩
  | .hbm, ⟨66, _⟩ => ⟨S1x4x4096x256, .f32⟩
  | .hbm, ⟨67, _⟩ => ⟨S1x4x4096x256, .f32⟩
  | .hbm, ⟨68, _⟩ => ⟨S_, .f32⟩
  | .hbm, ⟨69, _⟩ => ⟨S4x4096, .f32⟩
  | .hbm, ⟨70, _⟩ => ⟨S1x4x4096, .f32⟩
  | .hbm, ⟨71, _⟩ => ⟨S1x4x4096x256, .f32⟩
  | .hbm, ⟨72, _⟩ => ⟨S1x4x4096x256, .f32⟩
  | .hbm, ⟨73, _⟩ => ⟨S1x4x4096x256, .f32⟩
  | .hbm, ⟨74, _⟩ => ⟨S_, .f32⟩
  | .hbm, ⟨75, _⟩ => ⟨S1x4x4096x256, .f32⟩
  | .hbm, ⟨76, _⟩ => ⟨S1x4x4096x256, .f32⟩
  | .hbm, ⟨77, _⟩ => ⟨S1x4x256x512, .f32⟩
  | .hbm, ⟨78, _⟩ => ⟨S1x256x4x512, .f32⟩
  | .hbm, ⟨79, _⟩ => ⟨S1x4x4096x512, .f32⟩
  | .hbm, ⟨80, _⟩ => ⟨S1x4096x4x512, .f32⟩
  | .hbm, ⟨81, _⟩ => ⟨S256x2048, .f32⟩
  | .hbm, ⟨82, _⟩ => ⟨S256x2048, .f32⟩
  | .hbm, ⟨83, _⟩ => ⟨S4096x2048, .f32⟩
  | .hbm, ⟨84, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_9 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_cst_10 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_11 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_12 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩

abbrev nD : Nat := 1
abbrev τ : Topo := Topo.v7x

variable {F : FTy → Type} [FloatOps F]
-- ==== Ffn1.lean ====
abbrev S4096x2048 : Shape := ⟨2, ![4096, 2048]⟩
abbrev S8x2048x1024 : Shape := ⟨3, ![8, 2048, 1024]⟩
abbrev S4096x8192 : Shape := ⟨2, ![4096, 8192]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .hbm, ⟨3, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨5, ![4, 8, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg4.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false, false]
-- ==== Ffn1RefIdeal.lean ====
abbrev S4096x2048 : Shape := ⟨2, ![4096, 2048]⟩
abbrev S8x2048x1024 : Shape := ⟨3, ![8, 2048, 1024]⟩
abbrev S2048x8x1024 : Shape := ⟨3, ![2048, 8, 1024]⟩
abbrev S2048x8192 : Shape := ⟨2, ![2048, 8192]⟩
abbrev S4096x8192 : Shape := ⟨2, ![4096, 8192]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x2048, .f32⟩
  | .hbm, ⟨3, _⟩ => ⟨S8x2048x1024, .f32⟩
  | .hbm, ⟨4, _⟩ => ⟨S2048x8x1024, .f32⟩
  | .hbm, ⟨5, _⟩ => ⟨S2048x8192, .f32⟩
  | .hbm, ⟨6, _⟩ => ⟨S4096x8192, .f32⟩
  | .hbm, ⟨7, _⟩ => ⟨S_, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .bf16⟩
  | .hbm, ⟨12, _⟩ => ⟨S4096x8192, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_call0_cst : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩

abbrev nD : Nat := 1
abbrev τ : Topo := Topo.v7x

variable {F : FTy → Type} [FloatOps F]
-- ==== Ffn2.lean ====
abbrev S4096x8192 : Shape := ⟨2, ![4096, 8192]⟩
abbrev S8192x2048 : Shape := ⟨2, ![8192, 2048]⟩
abbrev S4096x2048 : Shape := ⟨2, ![4096, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨5, ![4, 1, 2, 1, 4], ![false, false, false, false, false]⟩

def k0_cond3 (i : grid0.Coords) : BitVec 1 :=
  let arg3 : BitVec 32 := BitVec.ofNat 32 (i 3).val
  let c0_i32_8 : BitVec 32 := 0#32
  let v13 : BitVec 1 := Scalar.cmpi .eq arg3 c0_i32_8
  let arg4 : BitVec 32 := BitVec.ofNat 32 (i 4).val
  let c3_i32 : BitVec 32 := 3#32
  let v14 : BitVec 1 := Scalar.cmpi .eq arg4 c3_i32
  let v15 : BitVec 1 := Scalar.andi v13 v14
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c4_i32 : BitVec 32 := 4#32
  let v0 : BitVec 32 := Scalar.muli arg3 c4_i32
  let v1 : BitVec 32 := Scalar.addi v0 arg4
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c4_i32 : BitVec 32 := 4#32
  let v0 : BitVec 32 := Scalar.muli arg3 c4_i32
  let v1 : BitVec 32 := Scalar.addi v0 arg4
  let c2_i32 : BitVec 32 := 2#32
  let v2 : BitVec 32 := Scalar.muli arg1 c2_i32
  let v3 : BitVec 32 := Scalar.addi v2 arg2
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false, false]
-- ==== Ffn2RefIdeal.lean ====
abbrev S4096x8192 : Shape := ⟨2, ![4096, 8192]⟩
abbrev S8192x2048 : Shape := ⟨2, ![8192, 2048]⟩
abbrev S4096x2048 : Shape := ⟨2, ![4096, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .f32⟩
  | .hbm, ⟨3, _⟩ => ⟨S4096x8192, .f32⟩
  | .hbm, ⟨4, _⟩ => ⟨S8192x2048, .f32⟩
  | .hbm, ⟨5, _⟩ => ⟨S4096x2048, .f32⟩
  | .hbm, ⟨6, _⟩ => ⟨S4096x2048, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== FfnDw2.lean ====
abbrev S4096x8192 : Shape := ⟨2, ![4096, 8192]⟩
abbrev S8192x2048 : Shape := ⟨2, ![8192, 2048]⟩
abbrev S4096x2048 : Shape := ⟨2, ![4096, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .hbm, ⟨3, _⟩ => ⟨S8192x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![8, 1, 2, 1, 2], ![false, false, false, false, false]⟩

def k0_cond3 (i : grid0.Coords) : BitVec 1 :=
  let arg3 : BitVec 32 := BitVec.ofNat 32 (i 3).val
  let c0_i32_8 : BitVec 32 := 0#32
  let v13 : BitVec 1 := Scalar.cmpi .eq arg3 c0_i32_8
  let arg4 : BitVec 32 := BitVec.ofNat 32 (i 4).val
  let c1_i32 : BitVec 32 := 1#32
  let v14 : BitVec 1 := Scalar.cmpi .eq arg4 c1_i32
  let v15 : BitVec 1 := Scalar.andi v13 v14
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg3 c2_i32
  let v1 : BitVec 32 := Scalar.addi v0 arg4
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg3 c2_i32
  let v1 : BitVec 32 := Scalar.addi v0 arg4
  let c2_i32_0 : BitVec 32 := 2#32
  let v2 : BitVec 32 := Scalar.muli arg1 c2_i32_0
  let v3 : BitVec 32 := Scalar.addi v2 arg2
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== FfnDw2RefIdeal.lean ====
abbrev S4096x8192 : Shape := ⟨2, ![4096, 8192]⟩
abbrev S8192x2048 : Shape := ⟨2, ![8192, 2048]⟩
abbrev S4096x2048 : Shape := ⟨2, ![4096, 2048]⟩
abbrev S2048x8192 : Shape := ⟨2, ![2048, 8192]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x2048, .bf16⟩
  | .hbm, ⟨2, _⟩ => ⟨S4096x2048, .bf16⟩
  | .hbm, ⟨3, _⟩ => ⟨S8192x2048, .f32⟩
  | .hbm, ⟨4, _⟩ => ⟨S4096x8192, .f32⟩
  | .hbm, ⟨5, _⟩ => ⟨S4096x2048, .f32⟩
  | .hbm, ⟨6, _⟩ => ⟨S4096x2048, .f32⟩
  | .hbm, ⟨7, _⟩ => ⟨S2048x8192, .f32⟩
  | .hbm, ⟨8, _⟩ => ⟨S8192x2048, .f32⟩
  | .hbm, ⟨9, _⟩ => ⟨S8192x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== FfnDhid.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩
abbrev S1024x2048 : Shape := ⟨2, ![1024, 2048]⟩
abbrev S1024x1024 : Shape := ⟨2, ![1024, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .bf16⟩
  | .hbm, ⟨7, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨5, ![4, 1, 8, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg1 c8_i32
  let v1 : BitVec 32 := Scalar.addi v0 arg2
  let c1_i32 : BitVec 32 := 1#32
  let v2 : BitVec 32 := Scalar.muli arg3 c1_i32
  let v3 : BitVec 32 := Scalar.addi v2 arg4
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg1 c8_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c8_i32 : BitVec 32 := 8#32
  let v0 : BitVec 32 := Scalar.muli arg1 c8_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false, false]
-- ==== FfnDhidRefIdeal.lean ====
abbrev S4096x8192 : Shape := ⟨2, ![4096, 8192]⟩
abbrev S8192x2048 : Shape := ⟨2, ![8192, 2048]⟩
abbrev S4096x2048 : Shape := ⟨2, ![4096, 2048]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S4096x8192, .f32⟩
  | .hbm, ⟨1, _⟩ => ⟨S8192x2048, .bf16⟩
  | .hbm, ⟨2, _⟩ => ⟨S4096x2048, .bf16⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S_, .f32⟩
  | .hbm, ⟨7, _⟩ => ⟨S4096x8192, .f32⟩
  | .hbm, ⟨8, _⟩ => ⟨S4096x8192, .i1⟩
  | .hbm, ⟨9, _⟩ => ⟨S_, .f32⟩
  | .hbm, ⟨10, _⟩ => ⟨S4096x8192, .f32⟩
  | .hbm, ⟨11, _⟩ => ⟨S4096x8192, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S8192x2048, .f32⟩
  | .hbm, ⟨16, _⟩ => ⟨S4096x2048, .f32⟩
  | .hbm, ⟨17, _⟩ => ⟨S4096x2048, .f32⟩
  | .hbm, ⟨18, _⟩ => ⟨S4096x8192, .f32⟩
  | .hbm, ⟨19, _⟩ => ⟨S4096x8192, .f32⟩
  | .hbm, ⟨20, _⟩ => ⟨S_, .f32⟩
  | .hbm, ⟨21, _⟩ => ⟨S4096x8192, .f32⟩
  | .hbm, ⟨22, _⟩ => ⟨S4096x8192, .f32⟩
  | .hbm, ⟨23, _⟩ => ⟨S4096x8192, .bf16⟩
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]
-- ==== FfnDw1.lean ====
abbrev S4096x2048 : Shape := ⟨2, ![4096, 2048]⟩
abbrev S8x2048x1024 : Shape := ⟨3, ![8, 2048, 1024]⟩
abbrev S4096x8192 : Shape := ⟨2, ![4096, 8192]⟩
abbrev S2048x1024 : Shape := ⟨2, ![2048, 1024]⟩
abbrev S1x1024x1024 : Shape := ⟨3, ![1, 1024, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .hbm, ⟨3, _⟩ => ⟨S8x2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1x1024x1024, .bf16⟩
  | .local _ .vmem, ⟨5, _⟩ => ⟨S1x1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![2, 8, 1, 1, 2], ![false, false, false, false, false]⟩

def k0_cond3 (i : grid0.Coords) : BitVec 1 :=
  let arg3 : BitVec 32 := BitVec.ofNat 32 (i 3).val
  let c0_i32_8 : BitVec 32 := 0#32
  let v13 : BitVec 1 := Scalar.cmpi .eq arg3 c0_i32_8
  let arg4 : BitVec 32 := BitVec.ofNat 32 (i 4).val
  let c1_i32 : BitVec 32 := 1#32
  let v14 : BitVec 1 := Scalar.cmpi .eq arg4 c1_i32
  let v15 : BitVec 1 := Scalar.andi v13 v14
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg3 c2_i32
  let v1 : BitVec 32 := Scalar.addi v0 arg4
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg3 c2_i32
  let v1 : BitVec 32 := Scalar.addi v0 arg4
  let c1_i32 : BitVec 32 := 1#32
  let v2 : BitVec 32 := Scalar.muli arg1 c1_i32
  let v3 : BitVec 32 := Scalar.addi v2 arg2
  let c0_i32 : BitVec 32 := 0#32
  ![v1.toNat, v3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c0_i32 : BitVec 32 := 0#32
  ![arg1.toNat, arg0.toNat, arg2.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== FfnDw1RefIdeal.lean ====
abbrev S4096x2048 : Shape := ⟨2, ![4096, 2048]⟩
abbrev S8x2048x1024 : Shape := ⟨3, ![8, 2048, 1024]⟩
abbrev S4096x8192 : Shape := ⟨2, ![4096, 8192]⟩
abbrev S2048x8x1024 : Shape := ⟨3, ![2048, 8, 1024]⟩
abbrev S2048x8192 : Shape := ⟨2, ![2048, 8192]⟩
abbrev S8192x2048 : Shape := ⟨2, ![8192, 2048]⟩

abbrev nBuf : Space → Nat
  | .hbm => 14
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .hbm, ⟨3, _⟩ => ⟨S8x2048x1024, .f32⟩
  | .hbm, ⟨4, _⟩ => ⟨S2048x8x1024, .f32⟩
  | .hbm, ⟨5, _⟩ => ⟨S2048x8192, .f32⟩
  | .hbm, ⟨6, _⟩ => ⟨S4096x2048, .f32⟩
  | .hbm, ⟨7, _⟩ => ⟨S4096x8192, .f32⟩
  | .hbm, ⟨8, _⟩ => ⟨S4096x8192, .f32⟩
  | .hbm, ⟨9, _⟩ => ⟨S8192x2048, .f32⟩
  | .hbm, ⟨10, _⟩ => ⟨S2048x8192, .f32⟩
  | .hbm, ⟨11, _⟩ => ⟨S2048x8192, .bf16⟩
  | .hbm, ⟨12, _⟩ => ⟨S2048x8x1024, .bf16⟩
  | .hbm, ⟨13, _⟩ => ⟨S8x2048x1024, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]
-- ==== FfnDh3.lean ====
abbrev S4096x2048 : Shape := ⟨2, ![4096, 2048]⟩
abbrev S8x2048x1024 : Shape := ⟨3, ![8, 2048, 1024]⟩
abbrev S4096x8192 : Shape := ⟨2, ![4096, 8192]⟩
abbrev S1024x1024 : Shape := ⟨2, ![1024, 1024]⟩
abbrev S1x2048x1024 : Shape := ⟨3, ![1, 2048, 1024]⟩
abbrev S1024x2048 : Shape := ⟨2, ![1024, 2048]⟩
abbrev S2048x1024 : Shape := ⟨2, ![2048, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .hbm, ⟨3, _⟩ => ⟨S4096x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x2048, .bf16⟩
  | .local _ .vmem, ⟨5, _⟩ => ⟨S1024x2048, .bf16⟩
  | .local _ .vmem, ⟨6, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![4, 1, 1, 8, 1], ![false, false, false, false, false]⟩

def k0_cond3 (i : grid0.Coords) : BitVec 1 :=
  let arg3 : BitVec 32 := BitVec.ofNat 32 (i 3).val
  let c7_i32 : BitVec 32 := 7#32
  let v14 : BitVec 1 := Scalar.cmpi .eq arg3 c7_i32
  let arg4 : BitVec 32 := BitVec.ofNat 32 (i 4).val
  let c0_i32_9 : BitVec 32 := 0#32
  let v15 : BitVec 1 := Scalar.cmpi .eq arg4 c0_i32_9
  let v16 : BitVec 1 := Scalar.andi v14 v15
  let v17 : BitVec 32 := Scalar.extui v16
  let c0_i32_10 : BitVec 32 := 0#32
  let v18 : BitVec 1 := Scalar.cmpi .ne v17 c0_i32_10
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c0_i32 : BitVec 32 := 0#32
  ![arg0.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c0_i32 : BitVec 32 := 0#32
  ![arg3.toNat, v1.toNat, arg4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== FfnDh3RefIdeal.lean ====
abbrev S4096x2048 : Shape := ⟨2, ![4096, 2048]⟩
abbrev S8x2048x1024 : Shape := ⟨3, ![8, 2048, 1024]⟩
abbrev S4096x8192 : Shape := ⟨2, ![4096, 8192]⟩
abbrev S2048x8x1024 : Shape := ⟨3, ![2048, 8, 1024]⟩
abbrev S2048x8192 : Shape := ⟨2, ![2048, 8192]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S8x2048x1024, .bf16⟩
  | .hbm, ⟨2, _⟩ => ⟨S4096x8192, .bf16⟩
  | .hbm, ⟨3, _⟩ => ⟨S4096x2048, .f32⟩
  | .hbm, ⟨4, _⟩ => ⟨S8x2048x1024, .f32⟩
  | .hbm, ⟨5, _⟩ => ⟨S2048x8x1024, .f32⟩
  | .hbm, ⟨6, _⟩ => ⟨S2048x8192, .f32⟩
  | .hbm, ⟨7, _⟩ => ⟨S4096x8192, .f32⟩
  | .hbm, ⟨8, _⟩ => ⟨S4096x8192, .f32⟩
  | .hbm, ⟨9, _⟩ => ⟨S4096x2048, .f32⟩
  | .hbm, ⟨10, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Query.lean ====
abbrev S4096x2048 : Shape := ⟨2, ![4096, 2048]⟩
abbrev S2048x2048 : Shape := ⟨2, ![2048, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![4, 1, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c1_i32_0 : BitVec 32 := 1#32
  let v2 : BitVec 32 := Scalar.muli arg1 c1_i32_0
  let v3 : BitVec 32 := Scalar.addi v2 arg2
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== QueryRefIdeal.lean ====
abbrev S4096x2048 : Shape := ⟨2, ![4096, 2048]⟩
abbrev S2048x2048 : Shape := ⟨2, ![2048, 2048]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Proj.lean ====
abbrev S4096x2048 : Shape := ⟨2, ![4096, 2048]⟩
abbrev S2048x2048 : Shape := ⟨2, ![2048, 2048]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨5, ![4, 1, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c2_i32 : BitVec 32 := 2#32
  let v2 : BitVec 32 := Scalar.muli arg1 c2_i32
  let v3 : BitVec 32 := Scalar.addi v2 arg2
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false, false]
-- ==== ProjRefIdeal.lean ====
abbrev S4096x2048 : Shape := ⟨2, ![4096, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== ProjDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![2, 1, 2, 1, 2], ![false, false, false, false, false]⟩

def k0_cond3 (i : grid0.Coords) : BitVec 1 :=
  let arg3 : BitVec 32 := BitVec.ofNat 32 (i 3).val
  let c0_i32_8 : BitVec 32 := 0#32
  let v14 : BitVec 1 := Scalar.cmpi .eq arg3 c0_i32_8
  let arg4 : BitVec 32 := BitVec.ofNat 32 (i 4).val
  let c1_i32 : BitVec 32 := 1#32
  let v15 : BitVec 1 := Scalar.cmpi .eq arg4 c1_i32
  let v16 : BitVec 1 := Scalar.andi v14 v15
  let v17 : BitVec 32 := Scalar.extui v16
  let c0_i32_9 : BitVec 32 := 0#32
  let v18 : BitVec 1 := Scalar.cmpi .ne v17 c0_i32_9
  v18

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg3 c2_i32
  let v1 : BitVec 32 := Scalar.addi v0 arg4
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg3 c2_i32
  let v1 : BitVec 32 := Scalar.addi v0 arg4
  let c2_i32_0 : BitVec 32 := 2#32
  let v2 : BitVec 32 := Scalar.muli arg1 c2_i32_0
  let v3 : BitVec 32 := Scalar.addi v2 arg2
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== ProjDwRefIdeal.lean ====
abbrev S4096x2048 : Shape := ⟨2, ![4096, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ProjDy.lean ====
abbrev S4096x2048 : Shape := ⟨2, ![4096, 2048]⟩
abbrev S2048x2048 : Shape := ⟨2, ![2048, 2048]⟩
abbrev S1024x2048 : Shape := ⟨2, ![1024, 2048]⟩
abbrev S1024x1024 : Shape := ⟨2, ![1024, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1024x2048, .bf16⟩
  | .local _ .vmem, ⟨3, _⟩ => ⟨S1024x2048, .bf16⟩
  | .local _ .vmem, ⟨4, _⟩ => ⟨S1024x1024, .bf16⟩
  | .local _ .vmem, ⟨5, _⟩ => ⟨S1024x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![4, 1, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c1_i32 : BitVec 32 := 1#32
  let v2 : BitVec 32 := Scalar.muli arg3 c1_i32
  let v3 : BitVec 32 := Scalar.addi v2 arg4
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== ProjDyRefIdeal.lean ====
abbrev S4096x2048 : Shape := ⟨2, ![4096, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .f32⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== QueryDw.lean ====
abbrev S4096x2048 : Shape := ⟨2, ![4096, 2048]⟩
abbrev S2048x2048 : Shape := ⟨2, ![2048, 2048]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S2048x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![2, 1, 2, 1, 2], ![false, false, false, false, false]⟩

def k0_cond3 (i : grid0.Coords) : BitVec 1 :=
  let arg3 : BitVec 32 := BitVec.ofNat 32 (i 3).val
  let c0_i32_8 : BitVec 32 := 0#32
  let v13 : BitVec 1 := Scalar.cmpi .eq arg3 c0_i32_8
  let arg4 : BitVec 32 := BitVec.ofNat 32 (i 4).val
  let c1_i32 : BitVec 32 := 1#32
  let v14 : BitVec 1 := Scalar.cmpi .eq arg4 c1_i32
  let v15 : BitVec 1 := Scalar.andi v13 v14
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg3 c2_i32
  let v1 : BitVec 32 := Scalar.addi v0 arg4
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg3 c2_i32
  let v1 : BitVec 32 := Scalar.addi v0 arg4
  let c2_i32_0 : BitVec 32 := 2#32
  let v2 : BitVec 32 := Scalar.muli arg1 c2_i32_0
  let v3 : BitVec 32 := Scalar.addi v2 arg2
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== QueryDwRefIdeal.lean ====
abbrev S4096x2048 : Shape := ⟨2, ![4096, 2048]⟩
abbrev S2048x2048 : Shape := ⟨2, ![2048, 2048]⟩

abbrev nBuf : Space → Nat
  | .hbm => 10
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S2048x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S2048x2048, .f32⟩
  | .hbm, ⟨8, _⟩ => ⟨S2048x2048, .f32⟩
  | .hbm, ⟨9, _⟩ => ⟨S2048x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== QueryDh.lean ====
abbrev S4096x2048 : Shape := ⟨2, ![4096, 2048]⟩
abbrev S2048x2048 : Shape := ⟨2, ![2048, 2048]⟩
abbrev S1024x2048 : Shape := ⟨2, ![1024, 2048]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .bf16⟩
  | .local _ .vmem, ⟨4, _⟩ => ⟨S1024x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![4, 1, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c1_i32_0 : BitVec 32 := 1#32
  let v2 : BitVec 32 := Scalar.muli arg3 c1_i32_0
  let v3 : BitVec 32 := Scalar.addi v2 arg4
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== QueryDhRefIdeal.lean ====
abbrev S4096x2048 : Shape := ⟨2, ![4096, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S2048x2048, .bf16⟩
  | .hbm, ⟨2, _⟩ => ⟨S4096x2048, .bf16⟩
  | .hbm, ⟨3, _⟩ => ⟨S4096x2048, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemKv.lean ====
abbrev S256x2048 : Shape := ⟨2, ![256, 2048]⟩
abbrev S2048x2048 : Shape := ⟨2, ![2048, 2048]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .local _ .vmem, ⟨0, _⟩ => ⟨S256x2048, .bf16⟩
  | .local _ .vmem, ⟨1, _⟩ => ⟨S2048x2048, .bf16⟩
  | .local _ .vmem, ⟨2, _⟩ => ⟨S256x2048, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨5, ![1, 1, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c1_i32_0 : BitVec 32 := 1#32
  let v2 : BitVec 32 := Scalar.muli arg1 c1_i32_0
  let v3 : BitVec 32 := Scalar.addi v2 arg2
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 1 → Memref sig .tc .vmem S256x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true, true, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false, false]
-- ==== MemKvRefIdeal.lean ====
abbrev S256x2048 : Shape := ⟨2, ![256, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S2048x2048, .f32⟩
  | .hbm, ⟨4, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MemKvDw.lean ====
abbrev S256x2048 : Shape := ⟨2, ![256, 2048]⟩
abbrev S2048x2048 : Shape := ⟨2, ![2048, 2048]⟩
abbrev S256x1024 : Shape := ⟨2, ![256, 1024]⟩
abbrev S1024x2048 : Shape := ⟨2, ![1024, 2048]⟩

abbrev nBuf : Space → Nat
  | .hbm => 4
  | .vmem => 5
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S2048x2048, .bf16⟩
  | .local _ .vmem, ⟨0, _⟩ => ⟨S256x1024, .bf16⟩
  | .local _ .vmem, ⟨1, _⟩ => ⟨S256x1024, .bf16⟩
  | .local _ .vmem, ⟨2, _⟩ => ⟨S256x2048, .f32⟩
  | .local _ .vmem, ⟨3, _⟩ => ⟨S1024x2048, .bf16⟩
  | .local _ .vmem, ⟨4, _⟩ => ⟨S1024x2048, .bf16⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![2, 1, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c1_i32_0 : BitVec 32 := 1#32
  let v2 : BitVec 32 := Scalar.muli arg1 c1_i32_0
  let v3 : BitVec 32 := Scalar.addi v2 arg2
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true, true, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== MemKvDwRefIdeal.lean ====
abbrev S256x2048 : Shape := ⟨2, ![256, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S2048x2048, .f32⟩
  | .hbm, ⟨4, _⟩ => ⟨S256x2048, .f32⟩
  | .hbm, ⟨5, _⟩ => ⟨S256x2048, .f32⟩
  | .hbm, ⟨6, _⟩ => ⟨S2048x2048, .f32⟩
  | .hbm, ⟨7, _⟩ => ⟨S2048x2048, .f32⟩
  | .hbm, ⟨8, _⟩ => ⟨S2048x2048, .bf16⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MemDk.lean ====
abbrev S256x2048 : Shape := ⟨2, ![256, 2048]⟩
abbrev S2048x2048 : Shape := ⟨2, ![2048, 2048]⟩

abbrev nBuf : Space → Nat
  | .hbm => 4
  | .vmem => 3
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S256x2048, .f32⟩
  | .local _ .vmem, ⟨0, _⟩ => ⟨S256x2048, .f32⟩
  | .local _ .vmem, ⟨1, _⟩ => ⟨S2048x2048, .bf16⟩
  | .local _ .vmem, ⟨2, _⟩ => ⟨S256x2048, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨5, ![1, 1, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c1_i32_0 : BitVec 32 := 1#32
  let v2 : BitVec 32 := Scalar.muli arg3 c1_i32_0
  let v3 : BitVec 32 := Scalar.addi v2 arg4
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true, true, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false, false]
-- ==== MemDkRefIdeal.lean ====
abbrev S256x2048 : Shape := ⟨2, ![256, 2048]⟩
abbrev S2048x2048 : Shape := ⟨2, ![2048, 2048]⟩

abbrev nBuf : Space → Nat
  | .hbm => 7
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S256x2048, .f32⟩
  | .hbm, ⟨4, _⟩ => ⟨S2048x2048, .f32⟩
  | .hbm, ⟨5, _⟩ => ⟨S256x2048, .f32⟩
  | .hbm, ⟨6, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== MemDv.lean ====
abbrev S256x2048 : Shape := ⟨2, ![256, 2048]⟩
abbrev S2048x2048 : Shape := ⟨2, ![2048, 2048]⟩

abbrev nBuf : Space → Nat
  | .hbm => 5
  | .vmem => 4
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S256x2048, .f32⟩
  | .hbm, ⟨4, _⟩ => ⟨S256x2048, .f32⟩
  | .local _ .vmem, ⟨0, _⟩ => ⟨S256x2048, .f32⟩
  | .local _ .vmem, ⟨1, _⟩ => ⟨S2048x2048, .bf16⟩
  | .local _ .vmem, ⟨2, _⟩ => ⟨S256x2048, .f32⟩
  | .local _ .vmem, ⟨3, _⟩ => ⟨S256x2048, .f32⟩
  | _, _ => ⟨S256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨5, ![1, 1, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c1_i32_0 : BitVec 32 := 1#32
  let v2 : BitVec 32 := Scalar.muli arg3 c1_i32_0
  let v3 : BitVec 32 := Scalar.addi v2 arg4
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, false, true, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true, true, true]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false, false]

abbrev stage0_3 : Fin 1 → Memref sig .tc .vmem S256x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, true, false, false]
-- ==== MemDvRefIdeal.lean ====
abbrev S256x2048 : Shape := ⟨2, ![256, 2048]⟩
abbrev S2048x2048 : Shape := ⟨2, ![2048, 2048]⟩

abbrev nBuf : Space → Nat
  | .hbm => 9
  | .vmem => 0
  | .smem => 0
  | _ => 0

abbrev bufTy : (tb : Table) → Fin (tcTables nBuf tb) → BufTy
  | .hbm, ⟨0, _⟩ => ⟨S256x2048, .bf16⟩
  | .hbm, ⟨1, _⟩ => ⟨S2048x2048, .bf16⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S2048x2048, .f32⟩
  | .hbm, ⟨6, _⟩ => ⟨S256x2048, .f32⟩
  | .hbm, ⟨7, _⟩ => ⟨S256x2048, .f32⟩
  | .hbm, ⟨8, _⟩ => ⟨S256x2048, .f32⟩
  | _, _ => ⟨S256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== InZ.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x1024, .f32⟩
  | .local _ .vmem, ⟨4, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![4, 1, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c1_i32_0 : BitVec 32 := 1#32
  let v2 : BitVec 32 := Scalar.muli arg3 c1_i32_0
  let v3 : BitVec 32 := Scalar.addi v2 arg4
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== InZRefIdeal.lean ====
abbrev S4096x2048 : Shape := ⟨2, ![4096, 2048]⟩
abbrev S1024x2048 : Shape := ⟨2, ![1024, 2048]⟩
abbrev S2048x1024 : Shape := ⟨2, ![2048, 1024]⟩
abbrev S4096x1024 : Shape := ⟨2, ![4096, 1024]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x2048, .f32⟩
  | .hbm, ⟨3, _⟩ => ⟨S1024x2048, .f32⟩
  | .hbm, ⟨4, _⟩ => ⟨S2048x1024, .f32⟩
  | .hbm, ⟨5, _⟩ => ⟨S4096x1024, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InZDw.lean ====
abbrev S4096x2048 : Shape := ⟨2, ![4096, 2048]⟩
abbrev S1024x2048 : Shape := ⟨2, ![1024, 2048]⟩
abbrev S4096x1024 : Shape := ⟨2, ![4096, 1024]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .hbm, ⟨3, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![1, 1, 2, 1, 2], ![false, false, false, false, false]⟩

def k0_cond3 (i : grid0.Coords) : BitVec 1 :=
  let arg3 : BitVec 32 := BitVec.ofNat 32 (i 3).val
  let c0_i32_8 : BitVec 32 := 0#32
  let v13 : BitVec 1 := Scalar.cmpi .eq arg3 c0_i32_8
  let arg4 : BitVec 32 := BitVec.ofNat 32 (i 4).val
  let c1_i32 : BitVec 32 := 1#32
  let v14 : BitVec 1 := Scalar.cmpi .eq arg4 c1_i32
  let v15 : BitVec 1 := Scalar.andi v13 v14
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg3 c2_i32
  let v1 : BitVec 32 := Scalar.addi v0 arg4
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg3 c2_i32
  let v1 : BitVec 32 := Scalar.addi v0 arg4
  let c2_i32_0 : BitVec 32 := 2#32
  let v2 : BitVec 32 := Scalar.muli arg1 c2_i32_0
  let v3 : BitVec 32 := Scalar.addi v2 arg2
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== InZDwRefIdeal.lean ====
abbrev S4096x2048 : Shape := ⟨2, ![4096, 2048]⟩
abbrev S1024x2048 : Shape := ⟨2, ![1024, 2048]⟩
abbrev S4096x1024 : Shape := ⟨2, ![4096, 1024]⟩
abbrev S2048x1024 : Shape := ⟨2, ![2048, 1024]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .hbm, ⟨3, _⟩ => ⟨S1024x2048, .f32⟩
  | .hbm, ⟨4, _⟩ => ⟨S4096x2048, .f32⟩
  | .hbm, ⟨5, _⟩ => ⟨S2048x1024, .f32⟩
  | .hbm, ⟨6, _⟩ => ⟨S4096x1024, .f32⟩
  | .hbm, ⟨7, _⟩ => ⟨S4096x1024, .f32⟩
  | .hbm, ⟨8, _⟩ => ⟨S1024x2048, .f32⟩
  | .hbm, ⟨9, _⟩ => ⟨S2048x1024, .f32⟩
  | .hbm, ⟨10, _⟩ => ⟨S1024x2048, .f32⟩
  | .hbm, ⟨11, _⟩ => ⟨S1024x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InZDh.lean ====
abbrev S4096x2048 : Shape := ⟨2, ![4096, 2048]⟩
abbrev S1024x2048 : Shape := ⟨2, ![1024, 2048]⟩
abbrev S4096x1024 : Shape := ⟨2, ![4096, 1024]⟩
abbrev S1024x1024 : Shape := ⟨2, ![1024, 1024]⟩

abbrev nBuf : Space → Nat
  | .hbm => 4
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .hbm, ⟨3, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .f32⟩
  | .local _ .vmem, ⟨4, _⟩ => ⟨S1024x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![4, 1, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c1_i32_0 : BitVec 32 := 1#32
  let v2 : BitVec 32 := Scalar.muli arg1 c1_i32_0
  let v3 : BitVec 32 := Scalar.addi v2 arg2
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true, true, true]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== InZDhRefIdeal.lean ====
abbrev S4096x2048 : Shape := ⟨2, ![4096, 2048]⟩
abbrev S1024x2048 : Shape := ⟨2, ![1024, 2048]⟩
abbrev S4096x1024 : Shape := ⟨2, ![4096, 1024]⟩
abbrev S2048x1024 : Shape := ⟨2, ![2048, 1024]⟩

abbrev nBuf : Space → Nat
  | .hbm => 9
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1024x2048, .bf16⟩
  | .hbm, ⟨2, _⟩ => ⟨S4096x1024, .bf16⟩
  | .hbm, ⟨3, _⟩ => ⟨S4096x2048, .f32⟩
  | .hbm, ⟨4, _⟩ => ⟨S1024x2048, .f32⟩
  | .hbm, ⟨5, _⟩ => ⟨S2048x1024, .f32⟩
  | .hbm, ⟨6, _⟩ => ⟨S4096x1024, .f32⟩
  | .hbm, ⟨7, _⟩ => ⟨S4096x1024, .f32⟩
  | .hbm, ⟨8, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== InXbc.lean ====
abbrev S4096x2048 : Shape := ⟨2, ![4096, 2048]⟩
abbrev S1536x2048 : Shape := ⟨2, ![1536, 2048]⟩
abbrev S4096x1536 : Shape := ⟨2, ![4096, 1536]⟩
abbrev S1024x2048 : Shape := ⟨2, ![1024, 2048]⟩
abbrev S1024x1536 : Shape := ⟨2, ![1024, 1536]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S1536x2048, .bf16⟩
  | .hbm, ⟨2, _⟩ => ⟨S4096x1536, .f32⟩
  | .local _ .vmem, ⟨0, _⟩ => ⟨S1024x2048, .bf16⟩
  | .local _ .vmem, ⟨1, _⟩ => ⟨S1024x2048, .bf16⟩
  | .local _ .vmem, ⟨2, _⟩ => ⟨S1536x2048, .bf16⟩
  | .local _ .vmem, ⟨3, _⟩ => ⟨S1024x1536, .f32⟩
  | .local _ .vmem, ⟨4, _⟩ => ⟨S1024x1536, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![4, 1, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c1_i32_0 : BitVec 32 := 1#32
  let v2 : BitVec 32 := Scalar.muli arg3 c1_i32_0
  let v3 : BitVec 32 := Scalar.addi v2 arg4
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 1 → Memref sig .tc .vmem S1536x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== InXbcRefIdeal.lean ====
abbrev S4096x2048 : Shape := ⟨2, ![4096, 2048]⟩
abbrev S1536x2048 : Shape := ⟨2, ![1536, 2048]⟩
abbrev S2048x1536 : Shape := ⟨2, ![2048, 1536]⟩
abbrev S4096x1536 : Shape := ⟨2, ![4096, 1536]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1536x2048, .bf16⟩
  | .hbm, ⟨2, _⟩ => ⟨S4096x2048, .f32⟩
  | .hbm, ⟨3, _⟩ => ⟨S1536x2048, .f32⟩
  | .hbm, ⟨4, _⟩ => ⟨S2048x1536, .f32⟩
  | .hbm, ⟨5, _⟩ => ⟨S4096x1536, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InXbcDw.lean ====
abbrev S4096x2048 : Shape := ⟨2, ![4096, 2048]⟩
abbrev S1536x2048 : Shape := ⟨2, ![1536, 2048]⟩
abbrev S4096x1536 : Shape := ⟨2, ![4096, 1536]⟩
abbrev S2048x512 : Shape := ⟨2, ![2048, 512]⟩
abbrev S2048x2048 : Shape := ⟨2, ![2048, 2048]⟩
abbrev S512x2048 : Shape := ⟨2, ![512, 2048]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S1536x2048, .bf16⟩
  | .hbm, ⟨2, _⟩ => ⟨S4096x1536, .bf16⟩
  | .hbm, ⟨3, _⟩ => ⟨S1536x2048, .bf16⟩
  | .local _ .vmem, ⟨0, _⟩ => ⟨S2048x512, .bf16⟩
  | .local _ .vmem, ⟨1, _⟩ => ⟨S2048x512, .bf16⟩
  | .local _ .vmem, ⟨2, _⟩ => ⟨S2048x2048, .bf16⟩
  | .local _ .vmem, ⟨3, _⟩ => ⟨S2048x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![3, 1, 1, 1, 2], ![false, false, false, false, false]⟩

def k0_cond3 (i : grid0.Coords) : BitVec 1 :=
  let arg3 : BitVec 32 := BitVec.ofNat 32 (i 3).val
  let c0_i32_8 : BitVec 32 := 0#32
  let v13 : BitVec 1 := Scalar.cmpi .eq arg3 c0_i32_8
  let arg4 : BitVec 32 := BitVec.ofNat 32 (i 4).val
  let c1_i32 : BitVec 32 := 1#32
  let v14 : BitVec 1 := Scalar.cmpi .eq arg4 c1_i32
  let v15 : BitVec 1 := Scalar.andi v13 v14
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg3 c2_i32
  let v1 : BitVec 32 := Scalar.addi v0 arg4
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg3 c2_i32
  let v1 : BitVec 32 := Scalar.addi v0 arg4
  let c1_i32 : BitVec 32 := 1#32
  let v2 : BitVec 32 := Scalar.muli arg1 c1_i32
  let v3 : BitVec 32 := Scalar.addi v2 arg2
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== InXbcDwRefIdeal.lean ====
abbrev S4096x2048 : Shape := ⟨2, ![4096, 2048]⟩
abbrev S1536x2048 : Shape := ⟨2, ![1536, 2048]⟩
abbrev S4096x1536 : Shape := ⟨2, ![4096, 1536]⟩
abbrev S2048x1536 : Shape := ⟨2, ![2048, 1536]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1536x2048, .bf16⟩
  | .hbm, ⟨2, _⟩ => ⟨S4096x1536, .bf16⟩
  | .hbm, ⟨3, _⟩ => ⟨S1536x2048, .f32⟩
  | .hbm, ⟨4, _⟩ => ⟨S4096x2048, .f32⟩
  | .hbm, ⟨5, _⟩ => ⟨S2048x1536, .f32⟩
  | .hbm, ⟨6, _⟩ => ⟨S4096x1536, .f32⟩
  | .hbm, ⟨7, _⟩ => ⟨S4096x1536, .f32⟩
  | .hbm, ⟨8, _⟩ => ⟨S1536x2048, .f32⟩
  | .hbm, ⟨9, _⟩ => ⟨S2048x1536, .f32⟩
  | .hbm, ⟨10, _⟩ => ⟨S1536x2048, .f32⟩
  | .hbm, ⟨11, _⟩ => ⟨S1536x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InXbcDh.lean ====
abbrev S4096x2048 : Shape := ⟨2, ![4096, 2048]⟩
abbrev S1536x2048 : Shape := ⟨2, ![1536, 2048]⟩
abbrev S4096x1536 : Shape := ⟨2, ![4096, 1536]⟩
abbrev S1024x1536 : Shape := ⟨2, ![1024, 1536]⟩
abbrev S1536x1024 : Shape := ⟨2, ![1536, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S1536x2048, .bf16⟩
  | .hbm, ⟨2, _⟩ => ⟨S4096x1536, .bf16⟩
  | .hbm, ⟨3, _⟩ => ⟨S4096x2048, .f32⟩
  | .hbm, ⟨4, _⟩ => ⟨S4096x2048, .f32⟩
  | .local _ .vmem, ⟨0, _⟩ => ⟨S1024x1536, .bf16⟩
  | .local _ .vmem, ⟨1, _⟩ => ⟨S1024x1536, .bf16⟩
  | .local _ .vmem, ⟨2, _⟩ => ⟨S1536x1024, .bf16⟩
  | .local _ .vmem, ⟨3, _⟩ => ⟨S1536x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨5, ![4, 1, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c2_i32 : BitVec 32 := 2#32
  let v2 : BitVec 32 := Scalar.muli arg1 c2_i32
  let v3 : BitVec 32 := Scalar.addi v2 arg2
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 2 → Memref sig .tc .vmem S1536x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false, false]
-- ==== InXbcDhRefIdeal.lean ====
abbrev S4096x2048 : Shape := ⟨2, ![4096, 2048]⟩
abbrev S1536x2048 : Shape := ⟨2, ![1536, 2048]⟩
abbrev S4096x1536 : Shape := ⟨2, ![4096, 1536]⟩
abbrev S2048x1536 : Shape := ⟨2, ![2048, 1536]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1536x2048, .bf16⟩
  | .hbm, ⟨2, _⟩ => ⟨S4096x1536, .bf16⟩
  | .hbm, ⟨3, _⟩ => ⟨S4096x2048, .f32⟩
  | .hbm, ⟨4, _⟩ => ⟨S4096x2048, .f32⟩
  | .hbm, ⟨5, _⟩ => ⟨S1536x2048, .f32⟩
  | .hbm, ⟨6, _⟩ => ⟨S2048x1536, .f32⟩
  | .hbm, ⟨7, _⟩ => ⟨S4096x1536, .f32⟩
  | .hbm, ⟨8, _⟩ => ⟨S4096x1536, .f32⟩
  | .hbm, ⟨9, _⟩ => ⟨S4096x2048, .f32⟩
  | .hbm, ⟨10, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== InRkv.lean ====
abbrev S4096x2048 : Shape := ⟨2, ![4096, 2048]⟩
abbrev S3072x2048 : Shape := ⟨2, ![3072, 2048]⟩
abbrev S4096x3072 : Shape := ⟨2, ![4096, 3072]⟩
abbrev S1024x2048 : Shape := ⟨2, ![1024, 2048]⟩
abbrev S1536x2048 : Shape := ⟨2, ![1536, 2048]⟩
abbrev S1024x1536 : Shape := ⟨2, ![1024, 1536]⟩

abbrev nBuf : Space → Nat
  | .hbm => 3
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S3072x2048, .bf16⟩
  | .hbm, ⟨2, _⟩ => ⟨S4096x3072, .f32⟩
  | .local _ .vmem, ⟨0, _⟩ => ⟨S1024x2048, .bf16⟩
  | .local _ .vmem, ⟨1, _⟩ => ⟨S1024x2048, .bf16⟩
  | .local _ .vmem, ⟨2, _⟩ => ⟨S1536x2048, .bf16⟩
  | .local _ .vmem, ⟨3, _⟩ => ⟨S1536x2048, .bf16⟩
  | .local _ .vmem, ⟨4, _⟩ => ⟨S1024x1536, .f32⟩
  | .local _ .vmem, ⟨5, _⟩ => ⟨S1024x1536, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![4, 1, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c1_i32 : BitVec 32 := 1#32
  let v2 : BitVec 32 := Scalar.muli arg3 c1_i32
  let v3 : BitVec 32 := Scalar.addi v2 arg4
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 2 → Memref sig .tc .vmem S1536x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== InRkvRefIdeal.lean ====
abbrev S4096x2048 : Shape := ⟨2, ![4096, 2048]⟩
abbrev S3072x2048 : Shape := ⟨2, ![3072, 2048]⟩
abbrev S2048x3072 : Shape := ⟨2, ![2048, 3072]⟩
abbrev S4096x3072 : Shape := ⟨2, ![4096, 3072]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S3072x2048, .bf16⟩
  | .hbm, ⟨2, _⟩ => ⟨S4096x2048, .f32⟩
  | .hbm, ⟨3, _⟩ => ⟨S3072x2048, .f32⟩
  | .hbm, ⟨4, _⟩ => ⟨S2048x3072, .f32⟩
  | .hbm, ⟨5, _⟩ => ⟨S4096x3072, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InRkvDw.lean ====
abbrev S4096x2048 : Shape := ⟨2, ![4096, 2048]⟩
abbrev S3072x2048 : Shape := ⟨2, ![3072, 2048]⟩
abbrev S4096x3072 : Shape := ⟨2, ![4096, 3072]⟩
abbrev S2048x1024 : Shape := ⟨2, ![2048, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2048, .bf16⟩
  | .hbm, ⟨1, _⟩ => ⟨S3072x2048, .bf16⟩
  | .hbm, ⟨2, _⟩ => ⟨S4096x3072, .bf16⟩
  | .hbm, ⟨3, _⟩ => ⟨S3072x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨5, ![3, 1, 2, 1, 2], ![false, false, false, false, false]⟩

def k0_cond3 (i : grid0.Coords) : BitVec 1 :=
  let arg3 : BitVec 32 := BitVec.ofNat 32 (i 3).val
  let c0_i32_8 : BitVec 32 := 0#32
  let v13 : BitVec 1 := Scalar.cmpi .eq arg3 c0_i32_8
  let arg4 : BitVec 32 := BitVec.ofNat 32 (i 4).val
  let c1_i32 : BitVec 32 := 1#32
  let v14 : BitVec 1 := Scalar.cmpi .eq arg4 c1_i32
  let v15 : BitVec 1 := Scalar.andi v13 v14
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg3 c2_i32
  let v1 : BitVec 32 := Scalar.addi v0 arg4
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg3 c2_i32
  let v1 : BitVec 32 := Scalar.addi v0 arg4
  let c2_i32_0 : BitVec 32 := 2#32
  let v2 : BitVec 32 := Scalar.muli arg1 c2_i32_0
  let v3 : BitVec 32 := Scalar.addi v2 arg2
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== InRkvDwRefIdeal.lean ====
abbrev S4096x2048 : Shape := ⟨2, ![4096, 2048]⟩
abbrev S3072x2048 : Shape := ⟨2, ![3072, 2048]⟩
abbrev S4096x3072 : Shape := ⟨2, ![4096, 3072]⟩
abbrev S2048x3072 : Shape := ⟨2, ![2048, 3072]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S3072x2048, .bf16⟩
  | .hbm, ⟨2, _⟩ => ⟨S4096x3072, .bf16⟩
  | .hbm, ⟨3, _⟩ => ⟨S3072x2048, .f32⟩
  | .hbm, ⟨4, _⟩ => ⟨S4096x2048, .f32⟩
  | .hbm, ⟨5, _⟩ => ⟨S2048x3072, .f32⟩
  | .hbm, ⟨6, _⟩ => ⟨S4096x3072, .f32⟩
  | .hbm, ⟨7, _⟩ => ⟨S4096x3072, .f32⟩
  | .hbm, ⟨8, _⟩ => ⟨S3072x2048, .f32⟩
  | .hbm, ⟨9, _⟩ => ⟨S2048x3072, .f32⟩
  | .hbm, ⟨10, _⟩ => ⟨S3072x2048, .f32⟩
  | .hbm, ⟨11, _⟩ => ⟨S3072x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InRkvDh.lean ====
abbrev S4096x2048 : Shape := ⟨2, ![4096, 2048]⟩
abbrev S3072x2048 : Shape := ⟨2, ![3072, 2048]⟩
abbrev S4096x3072 : Shape := ⟨2, ![4096, 3072]⟩
abbrev S1024x1024 : Shape := ⟨2, ![1024, 1024]⟩

abbrev nBuf : Space → Nat
  | .hbm => 5
  | .vmem => 9
  | .smem => 0
  | _ => 0

abbrev bufTy : (tb : Table) → Fin (tcTables nBuf tb) → BufTy
  | .hbm, ⟨0, _⟩ => ⟨S4096x2048, .bf16⟩
  | .hbm, ⟨1, _⟩ => ⟨S3072x2048, .bf16⟩
  | .hbm, ⟨2, _⟩ => ⟨S4096x3072, .bf16⟩
  | .hbm, ⟨3, _⟩ => ⟨S4096x2048, .f32⟩
  | .hbm, ⟨4, _⟩ => ⟨S4096x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨5, ![4, 1, 2, 1, 3], ![false, false, false, false, false]⟩

def k0_cond3 (i : grid0.Coords) : BitVec 1 :=
  let arg3 : BitVec 32 := BitVec.ofNat 32 (i 3).val
  let c0_i32_8 : BitVec 32 := 0#32
  let v13 : BitVec 1 := Scalar.cmpi .eq arg3 c0_i32_8
  let arg4 : BitVec 32 := BitVec.ofNat 32 (i 4).val
  let c2_i32 : BitVec 32 := 2#32
  let v14 : BitVec 1 := Scalar.cmpi .eq arg4 c2_i32
  let v15 : BitVec 1 := Scalar.andi v13 v14
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c3_i32 : BitVec 32 := 3#32
  let v0 : BitVec 32 := Scalar.muli arg3 c3_i32
  let v1 : BitVec 32 := Scalar.addi v0 arg4
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c3_i32 : BitVec 32 := 3#32
  let v0 : BitVec 32 := Scalar.muli arg3 c3_i32
  let v1 : BitVec 32 := Scalar.addi v0 arg4
  let c2_i32 : BitVec 32 := 2#32
  let v2 : BitVec 32 := Scalar.muli arg1 c2_i32
  let v3 : BitVec 32 := Scalar.addi v2 arg2
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false, false]
-- ==== InRkvDhRefIdeal.lean ====
abbrev S4096x2048 : Shape := ⟨2, ![4096, 2048]⟩
abbrev S3072x2048 : Shape := ⟨2, ![3072, 2048]⟩
abbrev S4096x3072 : Shape := ⟨2, ![4096, 3072]⟩
abbrev S2048x3072 : Shape := ⟨2, ![2048, 3072]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S3072x2048, .bf16⟩
  | .hbm, ⟨2, _⟩ => ⟨S4096x3072, .bf16⟩
  | .hbm, ⟨3, _⟩ => ⟨S4096x2048, .f32⟩
  | .hbm, ⟨4, _⟩ => ⟨S4096x2048, .f32⟩
  | .hbm, ⟨5, _⟩ => ⟨S3072x2048, .f32⟩
  | .hbm, ⟨6, _⟩ => ⟨S2048x3072, .f32⟩
  | .hbm, ⟨7, _⟩ => ⟨S4096x3072, .f32⟩
  | .hbm, ⟨8, _⟩ => ⟨S4096x3072, .f32⟩
  | .hbm, ⟨9, _⟩ => ⟨S4096x2048, .f32⟩
  | .hbm, ⟨10, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== InPs.lean ====
abbrev S4096x2048 : Shape := ⟨2, ![4096, 2048]⟩
abbrev S640x2048 : Shape := ⟨2, ![640, 2048]⟩
abbrev S4096x640 : Shape := ⟨2, ![4096, 640]⟩
abbrev S1024x2048 : Shape := ⟨2, ![1024, 2048]⟩
abbrev S1024x640 : Shape := ⟨2, ![1024, 640]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .bf16⟩
  | .hbm, ⟨1, _⟩ => ⟨S640x2048, .bf16⟩
  | .hbm, ⟨2, _⟩ => ⟨S4096x640, .f32⟩
  | .local _ .vmem, ⟨0, _⟩ => ⟨S1024x2048, .bf16⟩
  | .local _ .vmem, ⟨1, _⟩ => ⟨S1024x2048, .bf16⟩
  | .local _ .vmem, ⟨2, _⟩ => ⟨S640x2048, .bf16⟩
  | .local _ .vmem, ⟨3, _⟩ => ⟨S1024x640, .f32⟩
  | .local _ .vmem, ⟨4, _⟩ => ⟨S1024x640, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨5, ![4, 1, 1, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c1_i32_0 : BitVec 32 := 1#32
  let v2 : BitVec 32 := Scalar.muli arg3 c1_i32_0
  let v3 : BitVec 32 := Scalar.addi v2 arg4
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 1 → Memref sig .tc .vmem S640x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true, true, true]

abbrev stage0_2 : Fin 2 → Memref sig .tc .vmem S1024x640 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]
-- ==== InPsRefIdeal.lean ====
abbrev S4096x2048 : Shape := ⟨2, ![4096, 2048]⟩
abbrev S640x2048 : Shape := ⟨2, ![640, 2048]⟩
abbrev S2048x640 : Shape := ⟨2, ![2048, 640]⟩
abbrev S4096x640 : Shape := ⟨2, ![4096, 640]⟩

abbrev nBuf : Space → Nat
  | .hbm => 6
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S640x2048, .bf16⟩
  | .hbm, ⟨2, _⟩ => ⟨S4096x2048, .f32⟩
  | .hbm, ⟨3, _⟩ => ⟨S640x2048, .f32⟩
  | .hbm, ⟨4, _⟩ => ⟨S2048x640, .f32⟩
  | .hbm, ⟨5, _⟩ => ⟨S4096x640, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== InPsDw.lean ====
abbrev S4096x2048 : Shape := ⟨2, ![4096, 2048]⟩
abbrev S640x2048 : Shape := ⟨2, ![640, 2048]⟩
abbrev S4096x640 : Shape := ⟨2, ![4096, 640]⟩
abbrev S2048x640 : Shape := ⟨2, ![2048, 640]⟩
abbrev S2048x2048 : Shape := ⟨2, ![2048, 2048]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S640x2048, .bf16⟩
  | .hbm, ⟨2, _⟩ => ⟨S4096x640, .bf16⟩
  | .hbm, ⟨3, _⟩ => ⟨S640x2048, .bf16⟩
  | .local _ .vmem, ⟨0, _⟩ => ⟨S2048x640, .bf16⟩
  | .local _ .vmem, ⟨1, _⟩ => ⟨S2048x640, .bf16⟩
  | .local _ .vmem, ⟨2, _⟩ => ⟨S2048x2048, .bf16⟩
  | .local _ .vmem, ⟨3, _⟩ => ⟨S2048x2048, .bf16⟩
  | .local _ .vmem, ⟨4, _⟩ => ⟨S640x2048, .bf16⟩
  | .local _ .vmem, ⟨5, _⟩ => ⟨S640x2048, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨5, ![1, 1, 1, 1, 2], ![false, false, false, false, false]⟩

def k0_cond3 (i : grid0.Coords) : BitVec 1 :=
  let arg3 : BitVec 32 := BitVec.ofNat 32 (i 3).val
  let c0_i32_8 : BitVec 32 := 0#32
  let v13 : BitVec 1 := Scalar.cmpi .eq arg3 c0_i32_8
  let arg4 : BitVec 32 := BitVec.ofNat 32 (i 4).val
  let c1_i32 : BitVec 32 := 1#32
  let v14 : BitVec 1 := Scalar.cmpi .eq arg4 c1_i32
  let v15 : BitVec 1 := Scalar.andi v13 v14
  let v16 : BitVec 32 := Scalar.extui v15
  let c0_i32_9 : BitVec 32 := 0#32
  let v17 : BitVec 1 := Scalar.cmpi .ne v16 c0_i32_9
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg3 c2_i32
  let v1 : BitVec 32 := Scalar.addi v0 arg4
  let c0_i32 : BitVec 32 := 0#32
  ![v1.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg3 c2_i32
  let v1 : BitVec 32 := Scalar.addi v0 arg4
  let c1_i32 : BitVec 32 := 1#32
  let v2 : BitVec 32 := Scalar.muli arg1 c1_i32
  let v3 : BitVec 32 := Scalar.addi v2 arg2
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg1 c1_i32
  let v1 : BitVec 32 := Scalar.addi v0 arg2
  let c0_i32 : BitVec 32 := 0#32
  ![arg0.toNat, v1.toNat]

abbrev stage0_0 : Fin 2 → Memref sig .tc .vmem S2048x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true, true]

abbrev stage0_2 : Fin 1 → Memref sig .tc .vmem S640x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, true, false, false]
-- ==== InPsDwRefIdeal.lean ====
abbrev S4096x2048 : Shape := ⟨2, ![4096, 2048]⟩
abbrev S640x2048 : Shape := ⟨2, ![640, 2048]⟩
abbrev S4096x640 : Shape := ⟨2, ![4096, 640]⟩
abbrev S2048x640 : Shape := ⟨2, ![2048, 640]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S640x2048, .bf16⟩
  | .hbm, ⟨2, _⟩ => ⟨S4096x640, .bf16⟩
  | .hbm, ⟨3, _⟩ => ⟨S640x2048, .f32⟩
  | .hbm, ⟨4, _⟩ => ⟨S4096x2048, .f32⟩
  | .hbm, ⟨5, _⟩ => ⟨S2048x640, .f32⟩
  | .hbm, ⟨6, _⟩ => ⟨S4096x640, .f32⟩
  | .hbm, ⟨7, _⟩ => ⟨S4096x640, .f32⟩
  | .hbm, ⟨8, _⟩ => ⟨S640x2048, .f32⟩
  | .hbm, ⟨9, _⟩ => ⟨S2048x640, .f32⟩
  | .hbm, ⟨10, _⟩ => ⟨S640x2048, .f32⟩
  | .hbm, ⟨11, _⟩ => ⟨S640x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== InPsDh.lean ====
abbrev S4096x2048 : Shape := ⟨2, ![4096, 2048]⟩
abbrev S640x2048 : Shape := ⟨2, ![640, 2048]⟩
abbrev S4096x640 : Shape := ⟨2, ![4096, 640]⟩
abbrev S1024x640 : Shape := ⟨2, ![1024, 640]⟩
abbrev S640x1024 : Shape := ⟨2, ![640, 1024]⟩
abbrev S1024x1024 : Shape := ⟨2, ![1024, 1024]⟩

abbrev nBuf : Space → Nat
  | .hbm => 5
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S640x2048, .bf16⟩
  | .hbm, ⟨2, _⟩ => ⟨S4096x640, .bf16⟩
  | .hbm, ⟨3, _⟩ => ⟨S4096x2048, .f32⟩
  | .hbm, ⟨4, _⟩ => ⟨S4096x2048, .f32⟩
  | .local _ .vmem, ⟨0, _⟩ => ⟨S1024x640, .bf16⟩
  | .local _ .vmem, ⟨1, _⟩ => ⟨S1024x640, .bf16⟩
  | .local _ .vmem, ⟨2, _⟩ => ⟨S640x1024, .bf16⟩
  | .local _ .vmem, ⟨3, _⟩ => ⟨S640x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨5, ![4, 1, 2, 1, 1], ![false, false, false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c0_i32 : BitVec 32 := 0#32
  ![arg0.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c1_i32 : BitVec 32 := 1#32
  let v0 : BitVec 32 := Scalar.muli arg3 c1_i32
  let v1 : BitVec 32 := Scalar.addi v0 arg4
  let c2_i32 : BitVec 32 := 2#32
  let v2 : BitVec 32 := Scalar.muli arg1 c2_i32
  let v3 : BitVec 32 := Scalar.addi v2 arg2
  let c0_i32 : BitVec 32 := 0#32
  ![v1.toNat, v3.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let arg4 : BitVec 32 := BitVec.ofNat 32 (i 4).val
  let c2_i32 : BitVec 32 := 2#32
  let v0 : BitVec 32 := Scalar.muli arg1 c2_i32
  let v1 : BitVec 32 := Scalar.addi v0 arg2
  let c0_i32 : BitVec 32 := 0#32
  ![arg0.toNat, v1.toNat]

abbrev stage0_0 : Fin 2 → Memref sig .tc .vmem S1024x640 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false, true, true]

abbrev stage0_1 : Fin 2 → Memref sig .tc .vmem S640x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true, false, false]
-- ==== InPsDhRefIdeal.lean ====
abbrev S4096x2048 : Shape := ⟨2, ![4096, 2048]⟩
abbrev S640x2048 : Shape := ⟨2, ![640, 2048]⟩
abbrev S4096x640 : Shape := ⟨2, ![4096, 640]⟩
abbrev S2048x640 : Shape := ⟨2, ![2048, 640]⟩

abbrev nBuf : Space → Nat
  | .hbm => 11
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S640x2048, .bf16⟩
  | .hbm, ⟨2, _⟩ => ⟨S4096x640, .bf16⟩
  | .hbm, ⟨3, _⟩ => ⟨S4096x2048, .f32⟩
  | .hbm, ⟨4, _⟩ => ⟨S4096x2048, .f32⟩
  | .hbm, ⟨5, _⟩ => ⟨S640x2048, .f32⟩
  | .hbm, ⟨6, _⟩ => ⟨S2048x640, .f32⟩
  | .hbm, ⟨7, _⟩ => ⟨S4096x640, .f32⟩
  | .hbm, ⟨8, _⟩ => ⟨S4096x640, .f32⟩
  | .hbm, ⟨9, _⟩ => ⟨S4096x2048, .f32⟩
  | .hbm, ⟨10, _⟩ => ⟨S4096x2048, .f32⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]
-- ==== NormBwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .bf16⟩
  | .local _ .vmem, ⟨4, _⟩ => ⟨S512x2048, .bf16⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBwdRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 53
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S4096x2048, .f32⟩
  | .hbm, ⟨27, _⟩ => ⟨S_, .f32⟩
  | .hbm, ⟨28, _⟩ => ⟨S2048, .f32⟩
  | .hbm, ⟨29, _⟩ => ⟨S1x2048, .f32⟩
  | .hbm, ⟨30, _⟩ => ⟨S4096x2048, .f32⟩
  | .hbm, ⟨31, _⟩ => ⟨S4096x2048, .f32⟩
  | .hbm, ⟨32, _⟩ => ⟨S_, .f32⟩
  | .hbm, ⟨33, _⟩ => ⟨S2048, .f32⟩
  | .hbm, ⟨34, _⟩ => ⟨S4096x2048, .f32⟩
  | .hbm, ⟨35, _⟩ => ⟨S_, .f32⟩
  | .hbm, ⟨36, _⟩ => ⟨S4096, .f32⟩
  | .hbm, ⟨37, _⟩ => ⟨S4096x1, .f32⟩
  | .hbm, ⟨38, _⟩ => ⟨S4096x2048, .f32⟩
  | .hbm, ⟨39, _⟩ => ⟨S4096x2048, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S1x2048, .f32⟩
  | .hbm, ⟨52, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]
-- ==== NormMixBwd.lean ====
abbrev S4096x2048 : Shape := ⟨2, ![4096, 2048]⟩
abbrev S1x2048 : Shape := ⟨2, ![1, 2048]⟩
abbrev S512x2048 : Shape := ⟨2, ![512, 2048]⟩
abbrev S512 : Shape := ⟨1, ![512]⟩
abbrev S512x1 : Shape := ⟨2, ![512, 1]⟩
abbrev S2048 : Shape := ⟨1, ![2048]⟩

abbrev nBuf : Space → Nat
  | .hbm => 6
  | .vmem => 10
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S512x2048, .f32⟩
  | .local _ .vmem, ⟨4, _⟩ => ⟨S512x2048, .f32⟩
  | .local _ .vmem, ⟨5, _⟩ => ⟨S512x2048, .f32⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormMixBwdRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .f32⟩
  | .hbm, ⟨3, _⟩ => ⟨S4096x2048, .f32⟩
  | .hbm, ⟨4, _⟩ => ⟨S2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S2048, .f32⟩
  | .hbm, ⟨28, _⟩ => ⟨S1x2048, .f32⟩
  | .hbm, ⟨29, _⟩ => ⟨S4096x2048, .f32⟩
  | .hbm, ⟨30, _⟩ => ⟨S4096x2048, .f32⟩
  | .hbm, ⟨31, _⟩ => ⟨S_, .f32⟩
  | .hbm, ⟨32, _⟩ => ⟨S2048, .f32⟩
  | .hbm, ⟨33, _⟩ => ⟨S4096x2048, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x2048, .f32⟩
  | .hbm, ⟨38, _⟩ => ⟨S4096x2048, .f32⟩
  | .hbm, ⟨39, _⟩ => ⟨S4096x1, .f32⟩
  | .hbm, ⟨40, _⟩ => ⟨S_, .f32⟩
  | .hbm, ⟨41, _⟩ => ⟨S4096x1, .f32⟩
  | .hbm, ⟨42, _⟩ => ⟨S4096x1, .f32⟩
  | .hbm, ⟨43, _⟩ => ⟨S_, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S1x2048, .f32⟩
  | .hbm, ⟨51, _⟩ => ⟨S4096x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_6 : Ref sig .tc := ⟨.hbm, 40, rfl⟩
abbrev main_v29 : Ref sig .tc := ⟨.hbm, 41, rfl⟩
abbrev main_v30 : Ref sig .tc := ⟨.hbm, 42, rfl⟩
abbrev main_cst_7 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== NormMemBwd.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 4
  | .vmem => 4
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S1x2048, .f32⟩
  | .local _ .vmem, ⟨0, _⟩ => ⟨S256x2048, .f32⟩
  | .local _ .vmem, ⟨1, _⟩ => ⟨S1x2048, .f32⟩
  | .local _ .vmem, ⟨2, _⟩ => ⟨S256x2048, .f32⟩
  | .local _ .vmem, ⟨3, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let v0 : BitVec 32 := Scalar.subi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let v0 : BitVec 32 := Scalar.subi c0_i32 arg0
  let c0_i32_0 : BitVec 32 := 0#32
  let c0_i32_1 : BitVec 32 := 0#32
  ![v0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== NormMemBwdRefIdeal.lean ====
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 27
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .f32⟩
  | .hbm, ⟨3, _⟩ => ⟨S2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S1x2048, .f32⟩
  | .hbm, ⟨18, _⟩ => ⟨S256x2048, .f32⟩
  | .hbm, ⟨19, _⟩ => ⟨S256x2048, .f32⟩
  | .hbm, ⟨20, _⟩ => ⟨S256x2048, .f32⟩
  | .hbm, ⟨21, _⟩ => ⟨S_, .f32⟩
  | .hbm, ⟨22, _⟩ => ⟨S2048, .f32⟩
  | .hbm, ⟨23, _⟩ => ⟨S1x2048, .f32⟩
  | .hbm, ⟨24, _⟩ => ⟨S_, .f32⟩
  | .hbm, ⟨25, _⟩ => ⟨S2048, .f32⟩
  | .hbm, ⟨26, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== LossHead.lean ====
abbrev S4096x2048 : Shape := ⟨2, ![4096, 2048]⟩
abbrev S1x2048 : Shape := ⟨2, ![1, 2048]⟩
abbrev S8x128 : Shape := ⟨2, ![8, 128]⟩
abbrev S512x2048 : Shape := ⟨2, ![512, 2048]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x1x1 : Shape := ⟨3, ![1, 1, 1]⟩
abbrev S2048 : Shape := ⟨1, ![2048]⟩

abbrev nBuf : Space → Nat
  | .hbm => 7
  | .vmem => 11
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S8x128, .f32⟩
  | .hbm, ⟨4, _⟩ => ⟨S4096x2048, .f32⟩
  | .hbm, ⟨5, _⟩ => ⟨S4096x2048, .bf16⟩
  | .hbm, ⟨6, _⟩ => ⟨S1x2048, .f32⟩
  | .local _ .vmem, ⟨0, _⟩ => ⟨S512x2048, .f32⟩
  | .local _ .vmem, ⟨1, _⟩ => ⟨S512x2048, .f32⟩
  | .local _ .vmem, ⟨2, _⟩ => ⟨S512x2048, .f32⟩
  | .local _ .vmem, ⟨3, _⟩ => ⟨S512x2048, .f32⟩
  | .local _ .vmem, ⟨4, _⟩ => ⟨S1x2048, .f32⟩
  | .local _ .vmem, ⟨5, _⟩ => ⟨S8x128, .f32⟩
  | .local _ .vmem, ⟨6, _⟩ => ⟨S512x2048, .f32⟩
  | .local _ .vmem, ⟨7, _⟩ => ⟨S512x2048, .f32⟩
  | .local _ .vmem, ⟨8, _⟩ => ⟨S512x2048, .bf16⟩
  | .local _ .vmem, ⟨9, _⟩ => ⟨S512x2048, .bf16⟩
  | .local _ .vmem, ⟨10, _⟩ => ⟨S1x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossHeadRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩
abbrev S8x128 : Shape := ⟨2, ![8, 128]⟩

abbrev nBuf : Space → Nat
  | .hbm => 75
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S4096x2048, .f32⟩
  | .hbm, ⟨2, _⟩ => ⟨S1x2048, .f32⟩
  | .hbm, ⟨3, _⟩ => ⟨S2048, .f32⟩
  | .hbm, ⟨4, _⟩ => ⟨S4096x2048, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S4096x1, .f32⟩
  | .hbm, ⟨18, _⟩ => ⟨S4096x1, .f32⟩
  | .hbm, ⟨19, _⟩ => ⟨S4096x2048, .f32⟩
  | .hbm, ⟨20, _⟩ => ⟨S4096x2048, .f32⟩
  | .hbm, ⟨21, _⟩ => ⟨S1x2048, .f32⟩
  | .hbm, ⟨22, _⟩ => ⟨S4096x2048, .f32⟩
  | .hbm, ⟨23, _⟩ => ⟨S4096x2048, .f32⟩
  | .hbm, ⟨24, _⟩ => ⟨S4096x2048, .f32⟩
  | .hbm, ⟨25, _⟩ => ⟨S4096x2048, .f32⟩
  | .hbm, ⟨26, _⟩ => ⟨S_, .f32⟩
  | .hbm, ⟨27, _⟩ => ⟨S4096x2048, .f32⟩
  | .hbm, ⟨28, _⟩ => ⟨S4096x2048, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x2048, .f32⟩
  | .hbm, ⟨46, _⟩ => ⟨S4096x2048, .f32⟩
  | .hbm, ⟨47, _⟩ => ⟨S4096x2048, .f32⟩
  | .hbm, ⟨48, _⟩ => ⟨S_, .f32⟩
  | .hbm, ⟨49, _⟩ => ⟨S2048, .f32⟩
  | .hbm, ⟨50, _⟩ => ⟨S1x2048, .f32⟩
  | .hbm, ⟨51, _⟩ => ⟨S4096x2048, .f32⟩
  | .hbm, ⟨52, _⟩ => ⟨S4096x2048, .f32⟩
  | .hbm, ⟨53, _⟩ => ⟨S_, .f32⟩
  | .hbm, ⟨54, _⟩ => ⟨S2048, .f32⟩
  | .hbm, ⟨55, _⟩ => ⟨S4096x2048, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x2048, .f32⟩
  | .hbm, ⟨60, _⟩ => ⟨S4096x2048, .f32⟩
  | .hbm, ⟨61, _⟩ => ⟨S4096x1, .f32⟩
  | .hbm, ⟨62, _⟩ => ⟨S_, .f32⟩
  | .hbm, ⟨63, _⟩ => ⟨S4096x1, .f32⟩
  | .hbm, ⟨64, _⟩ => ⟨S4096x1, .f32⟩
  | .hbm, ⟨65, _⟩ => ⟨S_, .f32⟩
  | .hbm, ⟨66, _⟩ => ⟨S4096, .f32⟩
  | .hbm, ⟨67, _⟩ => ⟨S4096x2048, .f32⟩
  | .hbm, ⟨68, _⟩ => ⟨S4096x2048, .f32⟩
  | .hbm, ⟨69, _⟩ => ⟨S4096x2048, .f32⟩
  | .hbm, ⟨70, _⟩ => ⟨S4096x2048, .f32⟩
  | .hbm, ⟨71, _⟩ => ⟨S4096x2048, .f32⟩
  | .hbm, ⟨72, _⟩ => ⟨S1x2048, .f32⟩
  | .hbm, ⟨73, _⟩ => ⟨S8x128, .f32⟩
  | .hbm, ⟨74, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩

abbrev nD : Nat := 1
abbrev τ : Topo := Topo.v7x

variable {F : FTy → Type} [FloatOps F]
-- ==== AdamWFfn1.lean ====
abbrev S8x2048x1024 : Shape := ⟨3, ![8, 2048, 1024]⟩
abbrev S2048x1024 : Shape := ⟨2, ![2048, 1024]⟩
abbrev S8x256x1024 : Shape := ⟨3, ![8, 256, 1024]⟩
abbrev S256x1024 : Shape := ⟨2, ![256, 1024]⟩
abbrev S1x256x1024 : Shape := ⟨3, ![1, 256, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S2048x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWFfn1Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamWFfn1RefIdeal.lean ====
abbrev S8x2048x1024 : Shape := ⟨3, ![8, 2048, 1024]⟩
abbrev S2048x1024 : Shape := ⟨2, ![2048, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S8x2048x1024, .f32⟩
  | .hbm, ⟨5, _⟩ => ⟨S_, .f32⟩
  | .hbm, ⟨6, _⟩ => ⟨S2048x1024, .f32⟩
  | .hbm, ⟨7, _⟩ => ⟨S_, .f32⟩
  | .hbm, ⟨8, _⟩ => ⟨S2048x1024, .f32⟩
  | .hbm, ⟨9, _⟩ => ⟨S2048x1024, .f32⟩
  | .hbm, ⟨10, _⟩ => ⟨S_, .f32⟩
  | .hbm, ⟨11, _⟩ => ⟨S2048x1024, .f32⟩
  | .hbm, ⟨12, _⟩ => ⟨S2048x1024, .f32⟩
  | .hbm, ⟨13, _⟩ => ⟨S2048x1024, .f32⟩
  | .hbm, ⟨14, _⟩ => ⟨S_, .f32⟩
  | .hbm, ⟨15, _⟩ => ⟨S2048x1024, .f32⟩
  | .hbm, ⟨16, _⟩ => ⟨S2048x1024, .f32⟩
  | .hbm, ⟨17, _⟩ => ⟨S2048x1024, .f32⟩
  | .hbm, ⟨18, _⟩ => ⟨S_, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S_, .f32⟩
  | .hbm, ⟨23, _⟩ => ⟨S2048x1024, .f32⟩
  | .hbm, ⟨24, _⟩ => ⟨S2048x1024, .f32⟩
  | .hbm, ⟨25, _⟩ => ⟨S_, .f32⟩
  | .hbm, ⟨26, _⟩ => ⟨S2048x1024, .f32⟩
  | .hbm, ⟨27, _⟩ => ⟨S2048x1024, .f32⟩
  | .hbm, ⟨28, _⟩ => ⟨S2048x1024, .f32⟩
  | .hbm, ⟨29, _⟩ => ⟨S_, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048x1024, .f32⟩
  | .hbm, ⟨35, _⟩ => ⟨S2048x1024, .f32⟩
  | .hbm, ⟨36, _⟩ => ⟨S2048x1024, .f32⟩
  | .hbm, ⟨37, _⟩ => ⟨S_, .f32⟩
  | .hbm, ⟨38, _⟩ => ⟨S2048x1024, .f32⟩
  | .hbm, ⟨39, _⟩ => ⟨S2048x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamWFfn2.lean ====
abbrev S8x1024x2048 : Shape := ⟨3, ![8, 1024, 2048]⟩
abbrev S1024x2048 : Shape := ⟨2, ![1024, 2048]⟩
abbrev S8x256x2048 : Shape := ⟨3, ![8, 256, 2048]⟩
abbrev S256x2048 : Shape := ⟨2, ![256, 2048]⟩
abbrev S1x256x2048 : Shape := ⟨3, ![1, 256, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .local _ .vmem, ⟨0, _⟩ => ⟨S8x256x2048, .bf16⟩
  | .local _ .vmem, ⟨1, _⟩ => ⟨S8x256x2048, .bf16⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .f32⟩
  | .local _ .vmem, ⟨15, _⟩ => ⟨S256x2048, .f32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWFfn2Ideal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamWFfn2RefIdeal.lean ====
abbrev S8x1024x2048 : Shape := ⟨3, ![8, 1024, 2048]⟩
abbrev S1024x2048 : Shape := ⟨2, ![1024, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x1024x2048, .bf16⟩
  | .hbm, ⟨1, _⟩ => ⟨S1024x2048, .f32⟩
  | .hbm, ⟨2, _⟩ => ⟨S1024x2048, .f32⟩
  | .hbm, ⟨3, _⟩ => ⟨S1024x2048, .f32⟩
  | .hbm, ⟨4, _⟩ => ⟨S8x1024x2048, .f32⟩
  | .hbm, ⟨5, _⟩ => ⟨S_, .f32⟩
  | .hbm, ⟨6, _⟩ => ⟨S1024x2048, .f32⟩
  | .hbm, ⟨7, _⟩ => ⟨S_, .f32⟩
  | .hbm, ⟨8, _⟩ => ⟨S1024x2048, .f32⟩
  | .hbm, ⟨9, _⟩ => ⟨S1024x2048, .f32⟩
  | .hbm, ⟨10, _⟩ => ⟨S_, .f32⟩
  | .hbm, ⟨11, _⟩ => ⟨S1024x2048, .f32⟩
  | .hbm, ⟨12, _⟩ => ⟨S1024x2048, .f32⟩
  | .hbm, ⟨13, _⟩ => ⟨S1024x2048, .f32⟩
  | .hbm, ⟨14, _⟩ => ⟨S_, .f32⟩
  | .hbm, ⟨15, _⟩ => ⟨S1024x2048, .f32⟩
  | .hbm, ⟨16, _⟩ => ⟨S1024x2048, .f32⟩
  | .hbm, ⟨17, _⟩ => ⟨S1024x2048, .f32⟩
  | .hbm, ⟨18, _⟩ => ⟨S_, .f32⟩
  | .hbm, ⟨19, _⟩ => ⟨S1024x2048, .f32⟩
  | .hbm, ⟨20, _⟩ => ⟨S1024x2048, .f32⟩
  | .hbm, ⟨21, _⟩ => ⟨S1024x2048, .f32⟩
  | .hbm, ⟨22, _⟩ => ⟨S_, .f32⟩
  | .hbm, ⟨23, _⟩ => ⟨S1024x2048, .f32⟩
  | .hbm, ⟨24, _⟩ => ⟨S1024x2048, .f32⟩
  | .hbm, ⟨25, _⟩ => ⟨S_, .f32⟩
  | .hbm, ⟨26, _⟩ => ⟨S1024x2048, .f32⟩
  | .hbm, ⟨27, _⟩ => ⟨S1024x2048, .f32⟩
  | .hbm, ⟨28, _⟩ => ⟨S1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S1024x2048, .f32⟩
  | .hbm, ⟨37, _⟩ => ⟨S_, .f32⟩
  | .hbm, ⟨38, _⟩ => ⟨S1024x2048, .f32⟩
  | .hbm, ⟨39, _⟩ => ⟨S1024x2048, .f32⟩
  | _, _ => ⟨S8x1024x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamWSquare.lean ====
abbrev S8x256x2048 : Shape := ⟨3, ![8, 256, 2048]⟩
abbrev S256x2048 : Shape := ⟨2, ![256, 2048]⟩
abbrev S8x128x2048 : Shape := ⟨3, ![8, 128, 2048]⟩
abbrev S128x2048 : Shape := ⟨2, ![128, 2048]⟩
abbrev S1x128x2048 : Shape := ⟨3, ![1, 128, 2048]⟩

abbrev nBuf : Space → Nat
  | .hbm => 8
  | .vmem => 16
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S256x2048, .f32⟩
  | .hbm, ⟨5, _⟩ => ⟨S256x2048, .f32⟩
  | .hbm, ⟨6, _⟩ => ⟨S256x2048, .f32⟩
  | .hbm, ⟨7, _⟩ => ⟨S256x2048, .f32⟩
  | .local _ .vmem, ⟨0, _⟩ => ⟨S8x128x2048, .bf16⟩
  | .local _ .vmem, ⟨1, _⟩ => ⟨S8x128x2048, .bf16⟩
  | .local _ .vmem, ⟨2, _⟩ => ⟨S128x2048, .f32⟩
  | .local _ .vmem, ⟨3, _⟩ => ⟨S128x2048, .f32⟩
  | .local _ .vmem, ⟨4, _⟩ => ⟨S128x2048, .f32⟩
  | .local _ .vmem, ⟨5, _⟩ => ⟨S128x2048, .f32⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | _, _ => ⟨S8x256x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWSquareIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamWSquareRefIdeal.lean ====
abbrev S8x256x2048 : Shape := ⟨3, ![8, 256, 2048]⟩
abbrev S256x2048 : Shape := ⟨2, ![256, 2048]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x256x2048, .bf16⟩
  | .hbm, ⟨1, _⟩ => ⟨S256x2048, .f32⟩
  | .hbm, ⟨2, _⟩ => ⟨S256x2048, .f32⟩
  | .hbm, ⟨3, _⟩ => ⟨S256x2048, .f32⟩
  | .hbm, ⟨4, _⟩ => ⟨S8x256x2048, .f32⟩
  | .hbm, ⟨5, _⟩ => ⟨S_, .f32⟩
  | .hbm, ⟨6, _⟩ => ⟨S256x2048, .f32⟩
  | .hbm, ⟨7, _⟩ => ⟨S_, .f32⟩
  | .hbm, ⟨8, _⟩ => ⟨S256x2048, .f32⟩
  | .hbm, ⟨9, _⟩ => ⟨S256x2048, .f32⟩
  | .hbm, ⟨10, _⟩ => ⟨S_, .f32⟩
  | .hbm, ⟨11, _⟩ => ⟨S256x2048, .f32⟩
  | .hbm, ⟨12, _⟩ => ⟨S256x2048, .f32⟩
  | .hbm, ⟨13, _⟩ => ⟨S256x2048, .f32⟩
  | .hbm, ⟨14, _⟩ => ⟨S_, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S_, .f32⟩
  | .hbm, ⟨19, _⟩ => ⟨S256x2048, .f32⟩
  | .hbm, ⟨20, _⟩ => ⟨S256x2048, .f32⟩
  | .hbm, ⟨21, _⟩ => ⟨S256x2048, .f32⟩
  | .hbm, ⟨22, _⟩ => ⟨S_, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S256x2048, .f32⟩
  | .hbm, ⟨27, _⟩ => ⟨S256x2048, .f32⟩
  | .hbm, ⟨28, _⟩ => ⟨S256x2048, .f32⟩
  | .hbm, ⟨29, _⟩ => ⟨S_, .f32⟩
  | .hbm, ⟨30, _⟩ => ⟨S256x2048, .f32⟩
  | .hbm, ⟨31, _⟩ => ⟨S256x2048, .f32⟩
  | .hbm, ⟨32, _⟩ => ⟨S256x2048, .f32⟩
  | .hbm, ⟨33, _⟩ => ⟨S_, .f32⟩
  | .hbm, ⟨34, _⟩ => ⟨S256x2048, .f32⟩
  | .hbm, ⟨35, _⟩ => ⟨S256x2048, .f32⟩
  | .hbm, ⟨36, _⟩ => ⟨S256x2048, .f32⟩
  | .hbm, ⟨37, _⟩ => ⟨S_, .f32⟩
  | .hbm, ⟨38, _⟩ => ⟨S256x2048, .f32⟩
  | .hbm, ⟨39, _⟩ => ⟨S256x2048, .f32⟩
  | _, _ => ⟨S8x256x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== SumIn.lean ====
abbrev S8x762x2048 : Shape := ⟨3, ![8, 762, 2048]⟩
abbrev S762x2048 : Shape := ⟨2, ![762, 2048]⟩
abbrev S8x762x256 : Shape := ⟨3, ![8, 762, 256]⟩
abbrev S762x256 : Shape := ⟨2, ![762, 256]⟩
abbrev S1x762x256 : Shape := ⟨3, ![1, 762, 256]⟩

abbrev nBuf : Space → Nat
  | .hbm => 2
  | .vmem => 4
  | .smem => 0
  | _ => 0

abbrev bufTy : (tb : Table) → Fin (tcTables nBuf tb) → BufTy
  | .hbm, ⟨0, _⟩ => ⟨S8x762x2048, .bf16⟩
  | .hbm, ⟨1, _⟩ => ⟨S762x2048, .f32⟩
  | .local _ .vmem, ⟨0, _⟩ => ⟨S8x762x256, .bf16⟩
  | .local _ .vmem, ⟨1, _⟩ => ⟨S8x762x256, .bf16⟩
  | .local _ .vmem, ⟨2, _⟩ => ⟨S762x256, .f32⟩
  | .local _ .vmem, ⟨3, _⟩ => ⟨S762x256, .f32⟩
  | _, _ => ⟨S8x762x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x762x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S762x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SumInRefIdeal.lean ====
abbrev S8x762x2048 : Shape := ⟨3, ![8, 762, 2048]⟩
abbrev S_ : Shape := ⟨0, ![]⟩
abbrev S762x2048 : Shape := ⟨2, ![762, 2048]⟩

abbrev nBuf : Space → Nat
  | .hbm => 4
  | .vmem => 0
  | .smem => 0
  | _ => 0

abbrev bufTy : (tb : Table) → Fin (tcTables nBuf tb) → BufTy
  | .hbm, ⟨0, _⟩ => ⟨S8x762x2048, .bf16⟩
  | .hbm, ⟨1, _⟩ => ⟨S8x762x2048, .f32⟩
  | .hbm, ⟨2, _⟩ => ⟨S_, .f32⟩
  | .hbm, ⟨3, _⟩ => ⟨S762x2048, .f32⟩
  | _, _ => ⟨S8x762x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== AdamWIn.lean ====
abbrev S762x2048 : Shape := ⟨2, ![762, 2048]⟩
abbrev S2048x762 : Shape := ⟨2, ![2048, 762]⟩
abbrev S1x2048x762 : Shape := ⟨3, ![1, 2048, 762]⟩
abbrev S1x256x762 : Shape := ⟨3, ![1, 256, 762]⟩
abbrev S256x762 : Shape := ⟨2, ![256, 762]⟩

abbrev nBuf : Space → Nat
  | .hbm => 10
  | .vmem => 16
  | .smem => 0
  | _ => 0

abbrev bufTy : (tb : Table) → Fin (tcTables nBuf tb) → BufTy
  | .hbm, ⟨0, _⟩ => ⟨S762x2048, .f32⟩
  | .hbm, ⟨1, _⟩ => ⟨S2048x762, .f32⟩
  | .hbm, ⟨2, _⟩ => ⟨S2048x762, .f32⟩
  | .hbm, ⟨3, _⟩ => ⟨S2048x762, .f32⟩
  | .hbm, ⟨4, _⟩ => ⟨S2048x762, .f32⟩
  | .hbm, ⟨5, _⟩ => ⟨S1x2048x762, .f32⟩
  | .hbm, ⟨6, _⟩ => ⟨S2048x762, .f32⟩
  | .hbm, ⟨7, _⟩ => ⟨S2048x762, .f32⟩
  | .hbm, ⟨8, _⟩ => ⟨S2048x762, .f32⟩
  | .hbm, ⟨9, _⟩ => ⟨S2048x762, .f32⟩
  | .local _ .vmem, ⟨0, _⟩ => ⟨S1x256x762, .f32⟩
  | .local _ .vmem, ⟨1, _⟩ => ⟨S1x256x762, .f32⟩
  | .local _ .vmem, ⟨2, _⟩ => ⟨S256x762, .f32⟩
  | .local _ .vmem, ⟨3, _⟩ => ⟨S256x762, .f32⟩
  | .local _ .vmem, ⟨4, _⟩ => ⟨S256x762, .f32⟩
  | .local _ .vmem, ⟨5, _⟩ => ⟨S256x762, .f32⟩
  | .local _ .vmem, ⟨6, _⟩ => ⟨S256x762, .f32⟩
  | .local _ .vmem, ⟨7, _⟩ => ⟨S256x762, .f32⟩
  | .local _ .vmem, ⟨8, _⟩ => ⟨S256x762, .f32⟩
  | .local _ .vmem, ⟨9, _⟩ => ⟨S256x762, .f32⟩
  | .local _ .vmem, ⟨10, _⟩ => ⟨S256x762, .f32⟩
  | .local _ .vmem, ⟨11, _⟩ => ⟨S256x762, .f32⟩
  | .local _ .vmem, ⟨12, _⟩ => ⟨S256x762, .f32⟩
  | .local _ .vmem, ⟨13, _⟩ => ⟨S256x762, .f32⟩
  | .local _ .vmem, ⟨14, _⟩ => ⟨S256x762, .f32⟩
  | .local _ .vmem, ⟨15, _⟩ => ⟨S256x762, .f32⟩
  | _, _ => ⟨S762x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x762 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x762 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x762 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x762 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x762 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x762 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x762 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x762 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWInIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamWInRefIdeal.lean ====
abbrev S762x2048 : Shape := ⟨2, ![762, 2048]⟩
abbrev S2048x762 : Shape := ⟨2, ![2048, 762]⟩
abbrev S_ : Shape := ⟨0, ![]⟩

abbrev nBuf : Space → Nat
  | .hbm => 38
  | .vmem => 0
  | .smem => 0
  | _ => 0

abbrev bufTy : (tb : Table) → Fin (tcTables nBuf tb) → BufTy
  | .hbm, ⟨0, _⟩ => ⟨S762x2048, .f32⟩
  | .hbm, ⟨1, _⟩ => ⟨S2048x762, .f32⟩
  | .hbm, ⟨2, _⟩ => ⟨S2048x762, .f32⟩
  | .hbm, ⟨3, _⟩ => ⟨S2048x762, .f32⟩
  | .hbm, ⟨4, _⟩ => ⟨S2048x762, .f32⟩
  | .hbm, ⟨5, _⟩ => ⟨S_, .f32⟩
  | .hbm, ⟨6, _⟩ => ⟨S2048x762, .f32⟩
  | .hbm, ⟨7, _⟩ => ⟨S2048x762, .f32⟩
  | .hbm, ⟨8, _⟩ => ⟨S_, .f32⟩
  | .hbm, ⟨9, _⟩ => ⟨S2048x762, .f32⟩
  | .hbm, ⟨10, _⟩ => ⟨S2048x762, .f32⟩
  | .hbm, ⟨11, _⟩ => ⟨S2048x762, .f32⟩
  | .hbm, ⟨12, _⟩ => ⟨S_, .f32⟩
  | .hbm, ⟨13, _⟩ => ⟨S2048x762, .f32⟩
  | .hbm, ⟨14, _⟩ => ⟨S2048x762, .f32⟩
  | .hbm, ⟨15, _⟩ => ⟨S2048x762, .f32⟩
  | .hbm, ⟨16, _⟩ => ⟨S_, .f32⟩
  | .hbm, ⟨17, _⟩ => ⟨S2048x762, .f32⟩
  | .hbm, ⟨18, _⟩ => ⟨S2048x762, .f32⟩
  | .hbm, ⟨19, _⟩ => ⟨S2048x762, .f32⟩
  | .hbm, ⟨20, _⟩ => ⟨S_, .f32⟩
  | .hbm, ⟨21, _⟩ => ⟨S2048x762, .f32⟩
  | .hbm, ⟨22, _⟩ => ⟨S2048x762, .f32⟩
  | .hbm, ⟨23, _⟩ => ⟨S_, .f32⟩
  | .hbm, ⟨24, _⟩ => ⟨S2048x762, .f32⟩
  | .hbm, ⟨25, _⟩ => ⟨S2048x762, .f32⟩
  | .hbm, ⟨26, _⟩ => ⟨S2048x762, .f32⟩
  | .hbm, ⟨27, _⟩ => ⟨S_, .f32⟩
  | .hbm, ⟨28, _⟩ => ⟨S2048x762, .f32⟩
  | .hbm, ⟨29, _⟩ => ⟨S2048x762, .f32⟩
  | .hbm, ⟨30, _⟩ => ⟨S2048x762, .f32⟩
  | .hbm, ⟨31, _⟩ => ⟨S_, .f32⟩
  | .hbm, ⟨32, _⟩ => ⟨S2048x762, .f32⟩
  | .hbm, ⟨33, _⟩ => ⟨S2048x762, .f32⟩
  | .hbm, ⟨34, _⟩ => ⟨S2048x762, .f32⟩
  | .hbm, ⟨35, _⟩ => ⟨S_, .f32⟩
  | .hbm, ⟨36, _⟩ => ⟨S2048x762, .f32⟩
  | .hbm, ⟨37, _⟩ => ⟨S2048x762, .f32⟩
  | _, _ => ⟨S762x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩

abbrev nD : Nat := 1
abbrev τ : Topo := Topo.v7x

variable {F : FTy → Type} [FloatOps F]
-- ==== AdamWConv.lean ====
abbrev S8x4x192 : Shape := ⟨3, ![8, 4, 192]⟩
abbrev S4x192 : Shape := ⟨2, ![4, 192]⟩
abbrev S1x4x192 : Shape := ⟨3, ![1, 4, 192]⟩

abbrev nBuf : Space → Nat
  | .hbm => 8
  | .vmem => 8
  | .smem => 0
  | _ => 0

abbrev bufTy : (tb : Table) → Fin (tcTables nBuf tb) → BufTy
  | .hbm, ⟨0, _⟩ => ⟨S8x4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S4x192, .f32⟩
  | .hbm, ⟨5, _⟩ => ⟨S4x192, .f32⟩
  | .hbm, ⟨6, _⟩ => ⟨S4x192, .f32⟩
  | .hbm, ⟨7, _⟩ => ⟨S4x192, .f32⟩
  | .local _ .vmem, ⟨0, _⟩ => ⟨S8x4x192, .f32⟩
  | .local _ .vmem, ⟨1, _⟩ => ⟨S4x192, .f32⟩
  | .local _ .vmem, ⟨2, _⟩ => ⟨S4x192, .f32⟩
  | .local _ .vmem, ⟨3, _⟩ => ⟨S4x192, .f32⟩
  | .local _ .vmem, ⟨4, _⟩ => ⟨S4x192, .f32⟩
  | .local _ .vmem, ⟨5, _⟩ => ⟨S4x192, .f32⟩
  | .local _ .vmem, ⟨6, _⟩ => ⟨S4x192, .f32⟩
  | .local _ .vmem, ⟨7, _⟩ => ⟨S4x192, .f32⟩
  | _, _ => ⟨S8x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x4x192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S4x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamWConvIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamWConvRefIdeal.lean ====
abbrev S8x4x192 : Shape := ⟨3, ![8, 4, 192]⟩
abbrev S4x192 : Shape := ⟨2, ![4, 192]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x4x192, .f32⟩
  | .hbm, ⟨1, _⟩ => ⟨S4x192, .f32⟩
  | .hbm, ⟨2, _⟩ => ⟨S4x192, .f32⟩
  | .hbm, ⟨3, _⟩ => ⟨S4x192, .f32⟩
  | .hbm, ⟨4, _⟩ => ⟨S_, .f32⟩
  | .hbm, ⟨5, _⟩ => ⟨S4x192, .f32⟩
  | .hbm, ⟨6, _⟩ => ⟨S_, .f32⟩
  | .hbm, ⟨7, _⟩ => ⟨S4x192, .f32⟩
  | .hbm, ⟨8, _⟩ => ⟨S4x192, .f32⟩
  | .hbm, ⟨9, _⟩ => ⟨S_, .f32⟩
  | .hbm, ⟨10, _⟩ => ⟨S4x192, .f32⟩
  | .hbm, ⟨11, _⟩ => ⟨S4x192, .f32⟩
  | .hbm, ⟨12, _⟩ => ⟨S4x192, .f32⟩
  | .hbm, ⟨13, _⟩ => ⟨S_, .f32⟩
  | .hbm, ⟨14, _⟩ => ⟨S4x192, .f32⟩
  | .hbm, ⟨15, _⟩ => ⟨S4x192, .f32⟩
  | .hbm, ⟨16, _⟩ => ⟨S4x192, .f32⟩
  | .hbm, ⟨17, _⟩ => ⟨S_, .f32⟩
  | .hbm, ⟨18, _⟩ => ⟨S4x192, .f32⟩
  | .hbm, ⟨19, _⟩ => ⟨S4x192, .f32⟩
  | .hbm, ⟨20, _⟩ => ⟨S4x192, .f32⟩
  | .hbm, ⟨21, _⟩ => ⟨S_, .f32⟩
  | .hbm, ⟨22, _⟩ => ⟨S4x192, .f32⟩
  | .hbm, ⟨23, _⟩ => ⟨S4x192, .f32⟩
  | .hbm, ⟨24, _⟩ => ⟨S_, .f32⟩
  | .hbm, ⟨25, _⟩ => ⟨S4x192, .f32⟩
  | .hbm, ⟨26, _⟩ => ⟨S4x192, .f32⟩
  | .hbm, ⟨27, _⟩ => ⟨S4x192, .f32⟩
  | .hbm, ⟨28, _⟩ => ⟨S_, .f32⟩
  | .hbm, ⟨29, _⟩ => ⟨S4x192, .f32⟩
  | .hbm, ⟨30, _⟩ => ⟨S4x192, .f32⟩
  | .hbm, ⟨31, _⟩ => ⟨S4x192, .f32⟩
  | .hbm, ⟨32, _⟩ => ⟨S_, .f32⟩
  | .hbm, ⟨33, _⟩ => ⟨S4x192, .f32⟩
  | .hbm, ⟨34, _⟩ => ⟨S4x192, .f32⟩
  | .hbm, ⟨35, _⟩ => ⟨S4x192, .f32⟩
  | .hbm, ⟨36, _⟩ => ⟨S_, .f32⟩
  | .hbm, ⟨37, _⟩ => ⟨S4x192, .f32⟩
  | .hbm, ⟨38, _⟩ => ⟨S4x192, .f32⟩
  | _, _ => ⟨S8x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamWRank.lean ====
abbrev S8x96x128 : Shape := ⟨3, ![8, 96, 128]⟩
abbrev S96x128 : Shape := ⟨2, ![96, 128]⟩
abbrev S8x32x128 : Shape := ⟨3, ![8, 32, 128]⟩
abbrev S32x128 : Shape := ⟨2, ![32, 128]⟩
abbrev S1x32x128 : Shape := ⟨3, ![1, 32, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S96x128, .f32⟩
  | .hbm, ⟨5, _⟩ => ⟨S96x128, .f32⟩
  | .hbm, ⟨6, _⟩ => ⟨S96x128, .f32⟩
  | .hbm, ⟨7, _⟩ => ⟨S96x128, .f32⟩
  | .local _ .vmem, ⟨0, _⟩ => ⟨S8x32x128, .f32⟩
  | .local _ .vmem, ⟨1, _⟩ => ⟨S8x32x128, .f32⟩
  | .local _ .vmem, ⟨2, _⟩ => ⟨S32x128, .f32⟩
  | .local _ .vmem, ⟨3, _⟩ => ⟨S32x128, .f32⟩
  | .local _ .vmem, ⟨4, _⟩ => ⟨S32x128, .f32⟩
  | .local _ .vmem, ⟨5, _⟩ => ⟨S32x128, .f32⟩
  | .local _ .vmem, ⟨6, _⟩ => ⟨S32x128, .f32⟩
  | .local _ .vmem, ⟨7, _⟩ => ⟨S32x128, .f32⟩
  | .local _ .vmem, ⟨8, _⟩ => ⟨S32x128, .f32⟩
  | .local _ .vmem, ⟨9, _⟩ => ⟨S32x128, .f32⟩
  | .local _ .vmem, ⟨10, _⟩ => ⟨S32x128, .f32⟩
  | .local _ .vmem, ⟨11, _⟩ => ⟨S32x128, .f32⟩
  | .local _ .vmem, ⟨12, _⟩ => ⟨S32x128, .f32⟩
  | .local _ .vmem, ⟨13, _⟩ => ⟨S32x128, .f32⟩
  | .local _ .vmem, ⟨14, _⟩ => ⟨S32x128, .f32⟩
  | .local _ .vmem, ⟨15, _⟩ => ⟨S32x128, .f32⟩
  | _, _ => ⟨S8x96x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![3], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S32x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S32x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S32x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S32x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWRankIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamWRankRefIdeal.lean ====
abbrev S8x96x128 : Shape := ⟨3, ![8, 96, 128]⟩
abbrev S96x128 : Shape := ⟨2, ![96, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x96x128, .f32⟩
  | .hbm, ⟨1, _⟩ => ⟨S96x128, .f32⟩
  | .hbm, ⟨2, _⟩ => ⟨S96x128, .f32⟩
  | .hbm, ⟨3, _⟩ => ⟨S96x128, .f32⟩
  | .hbm, ⟨4, _⟩ => ⟨S_, .f32⟩
  | .hbm, ⟨5, _⟩ => ⟨S96x128, .f32⟩
  | .hbm, ⟨6, _⟩ => ⟨S_, .f32⟩
  | .hbm, ⟨7, _⟩ => ⟨S96x128, .f32⟩
  | .hbm, ⟨8, _⟩ => ⟨S96x128, .f32⟩
  | .hbm, ⟨9, _⟩ => ⟨S_, .f32⟩
  | .hbm, ⟨10, _⟩ => ⟨S96x128, .f32⟩
  | .hbm, ⟨11, _⟩ => ⟨S96x128, .f32⟩
  | .hbm, ⟨12, _⟩ => ⟨S96x128, .f32⟩
  | .hbm, ⟨13, _⟩ => ⟨S_, .f32⟩
  | .hbm, ⟨14, _⟩ => ⟨S96x128, .f32⟩
  | .hbm, ⟨15, _⟩ => ⟨S96x128, .f32⟩
  | .hbm, ⟨16, _⟩ => ⟨S96x128, .f32⟩
  | .hbm, ⟨17, _⟩ => ⟨S_, .f32⟩
  | .hbm, ⟨18, _⟩ => ⟨S96x128, .f32⟩
  | .hbm, ⟨19, _⟩ => ⟨S96x128, .f32⟩
  | .hbm, ⟨20, _⟩ => ⟨S96x128, .f32⟩
  | .hbm, ⟨21, _⟩ => ⟨S_, .f32⟩
  | .hbm, ⟨22, _⟩ => ⟨S96x128, .f32⟩
  | .hbm, ⟨23, _⟩ => ⟨S96x128, .f32⟩
  | .hbm, ⟨24, _⟩ => ⟨S_, .f32⟩
  | .hbm, ⟨25, _⟩ => ⟨S96x128, .f32⟩
  | .hbm, ⟨26, _⟩ => ⟨S96x128, .f32⟩
  | .hbm, ⟨27, _⟩ => ⟨S96x128, .f32⟩
  | .hbm, ⟨28, _⟩ => ⟨S_, .f32⟩
  | .hbm, ⟨29, _⟩ => ⟨S96x128, .f32⟩
  | .hbm, ⟨30, _⟩ => ⟨S96x128, .f32⟩
  | .hbm, ⟨31, _⟩ => ⟨S96x128, .f32⟩
  | .hbm, ⟨32, _⟩ => ⟨S_, .f32⟩
  | .hbm, ⟨33, _⟩ => ⟨S96x128, .f32⟩
  | .hbm, ⟨34, _⟩ => ⟨S96x128, .f32⟩
  | .hbm, ⟨35, _⟩ => ⟨S96x128, .f32⟩
  | .hbm, ⟨36, _⟩ => ⟨S_, .f32⟩
  | .hbm, ⟨37, _⟩ => ⟨S96x128, .f32⟩
  | .hbm, ⟨38, _⟩ => ⟨S96x128, .f32⟩
  | _, _ => ⟨S8x96x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamWGate.lean ====
abbrev S8x256x128 : Shape := ⟨3, ![8, 256, 128]⟩
abbrev S256x128 : Shape := ⟨2, ![256, 128]⟩
abbrev S8x128x128 : Shape := ⟨3, ![8, 128, 128]⟩
abbrev S128x128 : Shape := ⟨2, ![128, 128]⟩
abbrev S1x128x128 : Shape := ⟨3, ![1, 128, 128]⟩

abbrev nBuf : Space → Nat
  | .hbm => 8
  | .vmem => 16
  | .smem => 0
  | _ => 0

abbrev bufTy : (tb : Table) → Fin (tcTables nBuf tb) → BufTy
  | .hbm, ⟨0, _⟩ => ⟨S8x256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S256x128, .f32⟩
  | .hbm, ⟨5, _⟩ => ⟨S256x128, .f32⟩
  | .hbm, ⟨6, _⟩ => ⟨S256x128, .f32⟩
  | .hbm, ⟨7, _⟩ => ⟨S256x128, .f32⟩
  | .local _ .vmem, ⟨0, _⟩ => ⟨S8x128x128, .f32⟩
  | .local _ .vmem, ⟨1, _⟩ => ⟨S8x128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | _, _ => ⟨S8x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWGateIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamWGateRefIdeal.lean ====
abbrev S8x256x128 : Shape := ⟨3, ![8, 256, 128]⟩
abbrev S256x128 : Shape := ⟨2, ![256, 128]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S8x256x128, .f32⟩
  | .hbm, ⟨1, _⟩ => ⟨S256x128, .f32⟩
  | .hbm, ⟨2, _⟩ => ⟨S256x128, .f32⟩
  | .hbm, ⟨3, _⟩ => ⟨S256x128, .f32⟩
  | .hbm, ⟨4, _⟩ => ⟨S_, .f32⟩
  | .hbm, ⟨5, _⟩ => ⟨S256x128, .f32⟩
  | .hbm, ⟨6, _⟩ => ⟨S_, .f32⟩
  | .hbm, ⟨7, _⟩ => ⟨S256x128, .f32⟩
  | .hbm, ⟨8, _⟩ => ⟨S256x128, .f32⟩
  | .hbm, ⟨9, _⟩ => ⟨S_, .f32⟩
  | .hbm, ⟨10, _⟩ => ⟨S256x128, .f32⟩
  | .hbm, ⟨11, _⟩ => ⟨S256x128, .f32⟩
  | .hbm, ⟨12, _⟩ => ⟨S256x128, .f32⟩
  | .hbm, ⟨13, _⟩ => ⟨S_, .f32⟩
  | .hbm, ⟨14, _⟩ => ⟨S256x128, .f32⟩
  | .hbm, ⟨15, _⟩ => ⟨S256x128, .f32⟩
  | .hbm, ⟨16, _⟩ => ⟨S256x128, .f32⟩
  | .hbm, ⟨17, _⟩ => ⟨S_, .f32⟩
  | .hbm, ⟨18, _⟩ => ⟨S256x128, .f32⟩
  | .hbm, ⟨19, _⟩ => ⟨S256x128, .f32⟩
  | .hbm, ⟨20, _⟩ => ⟨S256x128, .f32⟩
  | .hbm, ⟨21, _⟩ => ⟨S_, .f32⟩
  | .hbm, ⟨22, _⟩ => ⟨S256x128, .f32⟩
  | .hbm, ⟨23, _⟩ => ⟨S256x128, .f32⟩
  | .hbm, ⟨24, _⟩ => ⟨S_, .f32⟩
  | .hbm, ⟨25, _⟩ => ⟨S256x128, .f32⟩
  | .hbm, ⟨26, _⟩ => ⟨S256x128, .f32⟩
  | .hbm, ⟨27, _⟩ => ⟨S256x128, .f32⟩
  | .hbm, ⟨28, _⟩ => ⟨S_, .f32⟩
  | .hbm, ⟨29, _⟩ => ⟨S256x128, .f32⟩
  | .hbm, ⟨30, _⟩ => ⟨S256x128, .f32⟩
  | .hbm, ⟨31, _⟩ => ⟨S256x128, .f32⟩
  | .hbm, ⟨32, _⟩ => ⟨S_, .f32⟩
  | .hbm, ⟨33, _⟩ => ⟨S256x128, .f32⟩
  | .hbm, ⟨34, _⟩ => ⟨S256x128, .f32⟩
  | .hbm, ⟨35, _⟩ => ⟨S256x128, .f32⟩
  | .hbm, ⟨36, _⟩ => ⟨S_, .f32⟩
  | .hbm, ⟨37, _⟩ => ⟨S256x128, .f32⟩
  | .hbm, ⟨38, _⟩ => ⟨S256x128, .f32⟩
  | _, _ => ⟨S8x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_cst_1 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_v12 : Ref sig .tc := ⟨.hbm, 22, rfl⟩
abbrev main_v13 : Ref sig .tc := ⟨.hbm, 23, rfl⟩
abbrev main_cst_5 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_6 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_7 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_v24 : Ref sig .tc := ⟨.hbm, 38, rfl⟩

abbrev nD : Nat := 1
abbrev τ : Topo := Topo.v7x

variable {F : FTy → Type} [FloatOps F]
-- ==== AdamWSmall.lean ====
abbrev S8x184x128 : Shape := ⟨3, ![8, 184, 128]⟩
abbrev S1x2048 : Shape := ⟨2, ![1, 2048]⟩
abbrev S1x1536 : Shape := ⟨2, ![1, 1536]⟩
abbrev S1x16 : Shape := ⟨2, ![1, 16]⟩
abbrev S1x1024 : Shape := ⟨2, ![1, 1024]⟩
abbrev S1x3520 : Shape := ⟨2, ![1, 3520]⟩
abbrev S1x16x64 : Shape := ⟨3, ![1, 16, 64]⟩
abbrev S2048 : Shape := ⟨1, ![2048]⟩
abbrev S1536 : Shape := ⟨1, ![1536]⟩
abbrev S16 : Shape := ⟨1, ![16]⟩
abbrev S1024 : Shape := ⟨1, ![1024]⟩
abbrev S3520 : Shape := ⟨1, ![3520]⟩
abbrev S19440 : Shape := ⟨1, ![19440]⟩
abbrev S4096 : Shape := ⟨1, ![4096]⟩
abbrev S23536 : Shape := ⟨1, ![23536]⟩
abbrev S_ : Shape := ⟨0, ![]⟩
abbrev S23552 : Shape := ⟨1, ![23552]⟩
abbrev S184x128 : Shape := ⟨2, ![184, 128]⟩
abbrev S8x8x128 : Shape := ⟨3, ![8, 8, 128]⟩
abbrev S8x128 : Shape := ⟨2, ![8, 128]⟩
abbrev S1x8x128 : Shape := ⟨3, ![1, 8, 128]⟩

abbrev nBuf : Space → Nat
  | .hbm => 131
  | .vmem => 16
  | .smem => 0
  | _ => 0

abbrev hbmTy0_0 (i : Nat) : BufTy := match i % 128 with
  | 0 => ⟨S8x184x128, .f32⟩
  | 1 => ⟨S1x2048, .f32⟩
  | 2 => ⟨S1x1536, .f32⟩
  | 3 => ⟨S1x16, .f32⟩
  | 4 => ⟨S1x16, .f32⟩
  | 5 => ⟨S1x16, .f32⟩
  | 6 => ⟨S1x1024, .f32⟩
  | 7 => ⟨S1x3520, .f32⟩
  | 8 => ⟨S1x1024, .f32⟩
  | 9 => ⟨S1x1024, .f32⟩
  | 10 => ⟨S1x1024, .f32⟩
  | 11 => ⟨S1x1024, .f32⟩
  | 12 => ⟨S1x16x64, .f32⟩
  | 13 => ⟨S1x1024, .f32⟩
  | 14 => ⟨S1x1024, .f32⟩
  | 15 => ⟨S1x2048, .f32⟩
  | 16 => ⟨S1x2048, .f32⟩
  | 17 => ⟨S1x2048, .f32⟩
  | 18 => ⟨S2048, .f32⟩
  | 19 => ⟨S1x2048, .f32⟩
  | 20 => ⟨S1x1536, .f32⟩
  | 21 => ⟨S1x16, .f32⟩
  | 22 => ⟨S1x16, .f32⟩
  | 23 => ⟨S1x16, .f32⟩
  | 24 => ⟨S1x1024, .f32⟩
  | 25 => ⟨S1x3520, .f32⟩
  | 26 => ⟨S1x1024, .f32⟩
  | 27 => ⟨S1x1024, .f32⟩
  | 28 => ⟨S1x1024, .f32⟩
  | 29 => ⟨S1x1024, .f32⟩
  | 30 => ⟨S1x16x64, .f32⟩
  | 31 => ⟨S1x1024, .f32⟩
  | 32 => ⟨S1x1024, .f32⟩
  | 33 => ⟨S1x2048, .f32⟩
  | 34 => ⟨S1x2048, .f32⟩
  | 35 => ⟨S1x2048, .f32⟩
  | 36 => ⟨S2048, .f32⟩
  | 37 => ⟨S1x2048, .f32⟩
  | 38 => ⟨S1x1536, .f32⟩
  | 39 => ⟨S1x16, .f32⟩
  | 40 => ⟨S1x16, .f32⟩
  | 41 => ⟨S1x16, .f32⟩
  | 42 => ⟨S1x1024, .f32⟩
  | 43 => ⟨S1x3520, .f32⟩
  | 44 => ⟨S1x1024, .f32⟩
  | 45 => ⟨S1x1024, .f32⟩
  | 46 => ⟨S1x1024, .f32⟩
  | 47 => ⟨S1x1024, .f32⟩
  | 48 => ⟨S1x16x64, .f32⟩
  | 49 => ⟨S1x1024, .f32⟩
  | 50 => ⟨S1x1024, .f32⟩
  | 51 => ⟨S1x2048, .f32⟩
  | 52 => ⟨S1x2048, .f32⟩
  | 53 => ⟨S1x2048, .f32⟩
  | 54 => ⟨S2048, .f32⟩
  | 55 => ⟨S2048, .f32⟩
  | 56 => ⟨S1536, .f32⟩
  | 57 => ⟨S16, .f32⟩
  | 58 => ⟨S16, .f32⟩
  | 59 => ⟨S16, .f32⟩
  | 60 => ⟨S1024, .f32⟩
  | 61 => ⟨S3520, .f32⟩
  | 62 => ⟨S1024, .f32⟩
  | 63 => ⟨S1024, .f32⟩
  | 64 => ⟨S1024, .f32⟩
  | 65 => ⟨S1024, .f32⟩
  | 66 => ⟨S1024, .f32⟩
  | 67 => ⟨S1024, .f32⟩
  | 68 => ⟨S1024, .f32⟩
  | 69 => ⟨S2048, .f32⟩
  | 70 => ⟨S2048, .f32⟩
  | 71 => ⟨S2048, .f32⟩
  | 72 => ⟨S19440, .f32⟩
  | 73 => ⟨S4096, .f32⟩
  | 74 => ⟨S23536, .f32⟩
  | 75 => ⟨S_, .i32⟩
  | 76 => ⟨S_, .f32⟩
  | 77 => ⟨S23552, .f32⟩
  | 78 => ⟨S184x128, .f32⟩
  | 79 => ⟨S2048, .f32⟩
  | 80 => ⟨S1536, .f32⟩
  | 81 => ⟨S16, .f32⟩
  | 82 => ⟨S16, .f32⟩
  | 83 => ⟨S16, .f32⟩
  | 84 => ⟨S1024, .f32⟩
  | 85 => ⟨S3520, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S2048, .f32⟩
  | 94 => ⟨S2048, .f32⟩
  | 95 => ⟨S2048, .f32⟩
  | 96 => ⟨S19440, .f32⟩
  | 97 => ⟨S4096, .f32⟩
  | 98 => ⟨S23536, .f32⟩
  | 99 => ⟨S_, .i32⟩
  | 100 => ⟨S_, .f32⟩
  | 101 => ⟨S23552, .f32⟩
  | 102 => ⟨S184x128, .f32⟩
  | 103 => ⟨S2048, .f32⟩
  | 104 => ⟨S1536, .f32⟩
  | 105 => ⟨S16, .f32⟩
  | 106 => ⟨S16, .f32⟩
  | 107 => ⟨S16, .f32⟩
  | 108 => ⟨S1024, .f32⟩
  | 109 => ⟨S3520, .f32⟩
  | 110 => ⟨S1024, .f32⟩
  | 111 => ⟨S1024, .f32⟩
  | 112 => ⟨S1024, .f32⟩
  | 113 => ⟨S1024, .f32⟩
  | 114 => ⟨S1024, .f32⟩
  | 115 => ⟨S1024, .f32⟩
  | 116 => ⟨S1024, .f32⟩
  | 117 => ⟨S2048, .f32⟩
  | 118 => ⟨S2048, .f32⟩
  | 119 => ⟨S2048, .f32⟩
  | 120 => ⟨S19440, .f32⟩
  | 121 => ⟨S4096, .f32⟩
  | 122 => ⟨S23536, .f32⟩
  | 123 => ⟨S_, .i32⟩
  | 124 => ⟨S_, .f32⟩
  | 125 => ⟨S23552, .f32⟩
  | 126 => ⟨S184x128, .f32⟩
  | 127 => ⟨S184x128, .f32⟩
  | _ => ⟨S8x184x128, .f32⟩

abbrev hbmTy0_1 (i : Nat) : BufTy := match i % 128 with
  | 0 => ⟨S184x128, .f32⟩
  | 1 => ⟨S184x128, .f32⟩
  | 2 => ⟨S184x128, .f32⟩
  | _ => ⟨S8x184x128, .f32⟩

abbrev hbmTy (i : Nat) : BufTy := match i / 128 with
  | 0 => hbmTy0_0 i
  | 1 => hbmTy0_1 i
  | _ => ⟨S8x184x128, .f32⟩

abbrev bufTy : (tb : Table) → Fin (tcTables nBuf tb) → BufTy
  | .hbm, ⟨i, _⟩ => hbmTy i
  | .local _ .vmem, ⟨0, _⟩ => ⟨S8x8x128, .f32⟩
  | .local _ .vmem, ⟨1, _⟩ => ⟨S8x8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | .local _ .vmem, ⟨14, _⟩ => ⟨S8x128, .f32⟩
  | .local _ .vmem, ⟨15, _⟩ => ⟨S8x128, .f32⟩
  | _, _ => ⟨S8x184x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_v0 : Ref sig .tc := ⟨.hbm, 55, rfl⟩
abbrev main_v1 : Ref sig .tc := ⟨.hbm, 56, rfl⟩
abbrev main_v2 : Ref sig .tc := ⟨.hbm, 57, rfl⟩
abbrev main_v3 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_c : Ref sig .tc := ⟨.hbm, 75, rfl⟩
abbrev main_call0_v0 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_c_0 : Ref sig .tc := ⟨.hbm, 99, rfl⟩
abbrev main_call1_v0 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_c_1 : Ref sig .tc := ⟨.hbm, 123, rfl⟩
abbrev main_call2_v0 : Ref sig .tc := ⟨.hbm, 124, rfl⟩
abbrev main_v64 : Ref sig .tc := ⟨.hbm, 125, rfl⟩
abbrev main_v65 : Ref sig .tc := ⟨.hbm, 126, rfl⟩
abbrev main_v66_0 : Ref sig .tc := ⟨.hbm, 127, rfl⟩
abbrev main_v66_1 : Ref sig .tc := ⟨.hbm, 128, rfl⟩
abbrev main_v66_2 : Ref sig .tc := ⟨.hbm, 129, rfl⟩
abbrev main_v66_3 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![23], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWSmallIdeal.lean ====
variable {F : FTy → Type} [FloatOps F] [Named F]
def κ : String → Option EReal := fun
  | "c1" => some ((8388608 / 5463681 : ℝ) : EReal)
  | "c2" => some ((268435456 / 2672307 : ℝ) : EReal)
  | _ => none
-- ==== AdamWSmallRefIdeal.lean ====
abbrev S8x184x128 : Shape := ⟨3, ![8, 184, 128]⟩
abbrev S1x2048 : Shape := ⟨2, ![1, 2048]⟩
abbrev S1x1536 : Shape := ⟨2, ![1, 1536]⟩
abbrev S1x16 : Shape := ⟨2, ![1, 16]⟩
abbrev S1x1024 : Shape := ⟨2, ![1, 1024]⟩
abbrev S1x3520 : Shape := ⟨2, ![1, 3520]⟩
abbrev S1x16x64 : Shape := ⟨3, ![1, 16, 64]⟩
abbrev S2048 : Shape := ⟨1, ![2048]⟩
abbrev S1536 : Shape := ⟨1, ![1536]⟩
abbrev S16 : Shape := ⟨1, ![16]⟩
abbrev S1024 : Shape := ⟨1, ![1024]⟩
abbrev S3520 : Shape := ⟨1, ![3520]⟩
abbrev S19440 : Shape := ⟨1, ![19440]⟩
abbrev S4096 : Shape := ⟨1, ![4096]⟩
abbrev S23536 : Shape := ⟨1, ![23536]⟩
abbrev S_ : Shape := ⟨0, ![]⟩
abbrev S23552 : Shape := ⟨1, ![23552]⟩
abbrev S184x128 : Shape := ⟨2, ![184, 128]⟩

abbrev nBuf : Space → Nat
  | .hbm => 162
  | .vmem => 0
  | .smem => 0
  | _ => 0

abbrev hbmTy0_0 (i : Nat) : BufTy := match i % 128 with
  | 0 => ⟨S8x184x128, .f32⟩
  | 1 => ⟨S1x2048, .f32⟩
  | 2 => ⟨S1x1536, .f32⟩
  | 3 => ⟨S1x16, .f32⟩
  | 4 => ⟨S1x16, .f32⟩
  | 5 => ⟨S1x16, .f32⟩
  | 6 => ⟨S1x1024, .f32⟩
  | 7 => ⟨S1x3520, .f32⟩
  | 8 => ⟨S1x1024, .f32⟩
  | 9 => ⟨S1x1024, .f32⟩
  | 10 => ⟨S1x1024, .f32⟩
  | 11 => ⟨S1x1024, .f32⟩
  | 12 => ⟨S1x16x64, .f32⟩
  | 13 => ⟨S1x1024, .f32⟩
  | 14 => ⟨S1x1024, .f32⟩
  | 15 => ⟨S1x2048, .f32⟩
  | 16 => ⟨S1x2048, .f32⟩
  | 17 => ⟨S1x2048, .f32⟩
  | 18 => ⟨S2048, .f32⟩
  | 19 => ⟨S1x2048, .f32⟩
  | 20 => ⟨S1x1536, .f32⟩
  | 21 => ⟨S1x16, .f32⟩
  | 22 => ⟨S1x16, .f32⟩
  | 23 => ⟨S1x16, .f32⟩
  | 24 => ⟨S1x1024, .f32⟩
  | 25 => ⟨S1x3520, .f32⟩
  | 26 => ⟨S1x1024, .f32⟩
  | 27 => ⟨S1x1024, .f32⟩
  | 28 => ⟨S1x1024, .f32⟩
  | 29 => ⟨S1x1024, .f32⟩
  | 30 => ⟨S1x16x64, .f32⟩
  | 31 => ⟨S1x1024, .f32⟩
  | 32 => ⟨S1x1024, .f32⟩
  | 33 => ⟨S1x2048, .f32⟩
  | 34 => ⟨S1x2048, .f32⟩
  | 35 => ⟨S1x2048, .f32⟩
  | 36 => ⟨S2048, .f32⟩
  | 37 => ⟨S1x2048, .f32⟩
  | 38 => ⟨S1x1536, .f32⟩
  | 39 => ⟨S1x16, .f32⟩
  | 40 => ⟨S1x16, .f32⟩
  | 41 => ⟨S1x16, .f32⟩
  | 42 => ⟨S1x1024, .f32⟩
  | 43 => ⟨S1x3520, .f32⟩
  | 44 => ⟨S1x1024, .f32⟩
  | 45 => ⟨S1x1024, .f32⟩
  | 46 => ⟨S1x1024, .f32⟩
  | 47 => ⟨S1x1024, .f32⟩
  | 48 => ⟨S1x16x64, .f32⟩
  | 49 => ⟨S1x1024, .f32⟩
  | 50 => ⟨S1x1024, .f32⟩
  | 51 => ⟨S1x2048, .f32⟩
  | 52 => ⟨S1x2048, .f32⟩
  | 53 => ⟨S1x2048, .f32⟩
  | 54 => ⟨S2048, .f32⟩
  | 55 => ⟨S2048, .f32⟩
  | 56 => ⟨S1536, .f32⟩
  | 57 => ⟨S16, .f32⟩
  | 58 => ⟨S16, .f32⟩
  | 59 => ⟨S16, .f32⟩
  | 60 => ⟨S1024, .f32⟩
  | 61 => ⟨S3520, .f32⟩
  | 62 => ⟨S1024, .f32⟩
  | 63 => ⟨S1024, .f32⟩
  | 64 => ⟨S1024, .f32⟩
  | 65 => ⟨S1024, .f32⟩
  | 66 => ⟨S1024, .f32⟩
  | 67 => ⟨S1024, .f32⟩
  | 68 => ⟨S1024, .f32⟩
  | 69 => ⟨S2048, .f32⟩
  | 70 => ⟨S2048, .f32⟩
  | 71 => ⟨S2048, .f32⟩
  | 72 => ⟨S19440, .f32⟩
  | 73 => ⟨S4096, .f32⟩
  | 74 => ⟨S23536, .f32⟩
  | 75 => ⟨S_, .i32⟩
  | 76 => ⟨S_, .f32⟩
  | 77 => ⟨S23552, .f32⟩
  | 78 => ⟨S184x128, .f32⟩
  | 79 => ⟨S2048, .f32⟩
  | 80 => ⟨S1536, .f32⟩
  | 81 => ⟨S16, .f32⟩
  | 82 => ⟨S16, .f32⟩
  | 83 => ⟨S16, .f32⟩
  | 84 => ⟨S1024, .f32⟩
  | 85 => ⟨S3520, .f32⟩
  | 86 => ⟨S1024, .f32⟩
  | 87 => ⟨S1024, .f32⟩
  | 88 => ⟨S1024, .f32⟩
  | 89 => ⟨S1024, .f32⟩
  | 90 => ⟨S1024, .f32⟩
  | 91 => ⟨S1024, .f32⟩
  | 92 => ⟨S1024, .f32⟩
  | 93 => ⟨S2048, .f32⟩
  | 94 => ⟨S2048, .f32⟩
  | 95 => ⟨S2048, .f32⟩
  | 96 => ⟨S19440, .f32⟩
  | 97 => ⟨S4096, .f32⟩
  | 98 => ⟨S23536, .f32⟩
  | 99 => ⟨S_, .i32⟩
  | 100 => ⟨S_, .f32⟩
  | 101 => ⟨S23552, .f32⟩
  | 102 => ⟨S184x128, .f32⟩
  | 103 => ⟨S2048, .f32⟩
  | 104 => ⟨S1536, .f32⟩
  | 105 => ⟨S16, .f32⟩
  | 106 => ⟨S16, .f32⟩
  | 107 => ⟨S16, .f32⟩
  | 108 => ⟨S1024, .f32⟩
  | 109 => ⟨S3520, .f32⟩
  | 110 => ⟨S1024, .f32⟩
  | 111 => ⟨S1024, .f32⟩
  | 112 => ⟨S1024, .f32⟩
  | 113 => ⟨S1024, .f32⟩
  | 114 => ⟨S1024, .f32⟩
  | 115 => ⟨S1024, .f32⟩
  | 116 => ⟨S1024, .f32⟩
  | 117 => ⟨S2048, .f32⟩
  | 118 => ⟨S2048, .f32⟩
  | 119 => ⟨S2048, .f32⟩
  | 120 => ⟨S19440, .f32⟩
  | 121 => ⟨S4096, .f32⟩
  | 122 => ⟨S23536, .f32⟩
  | 123 => ⟨S_, .i32⟩
  | 124 => ⟨S_, .f32⟩
  | 125 => ⟨S23552, .f32⟩
  | 126 => ⟨S184x128, .f32⟩
  | 127 => ⟨S_, .f32⟩
  | _ => ⟨S8x184x128, .f32⟩

abbrev hbmTy0_1 (i : Nat) : BufTy := match i % 128 with
  | 0 => ⟨S184x128, .f32⟩
  | 1 => ⟨S_, .f32⟩
  | 2 => ⟨S184x128, .f32⟩
  | 3 => ⟨S184x128, .f32⟩
  | 4 => ⟨S_, .f32⟩
  | 5 => ⟨S184x128, .f32⟩
  | 6 => ⟨S184x128, .f32⟩
  | 7 => ⟨S184x128, .f32⟩
  | 8 => ⟨S_, .f32⟩
  | 9 => ⟨S184x128, .f32⟩
  | 10 => ⟨S184x128, .f32⟩
  | 11 => ⟨S184x128, .f32⟩
  | 12 => ⟨S_, .f32⟩
  | 13 => ⟨S184x128, .f32⟩
  | 14 => ⟨S184x128, .f32⟩
  | 15 => ⟨S184x128, .f32⟩
  | 16 => ⟨S_, .f32⟩
  | 17 => ⟨S184x128, .f32⟩
  | 18 => ⟨S184x128, .f32⟩
  | 19 => ⟨S_, .f32⟩
  | 20 => ⟨S184x128, .f32⟩
  | 21 => ⟨S184x128, .f32⟩
  | 22 => ⟨S184x128, .f32⟩
  | 23 => ⟨S_, .f32⟩
  | 24 => ⟨S184x128, .f32⟩
  | 25 => ⟨S184x128, .f32⟩
  | 26 => ⟨S184x128, .f32⟩
  | 27 => ⟨S_, .f32⟩
  | 28 => ⟨S184x128, .f32⟩
  | 29 => ⟨S184x128, .f32⟩
  | 30 => ⟨S184x128, .f32⟩
  | 31 => ⟨S_, .f32⟩
  | 32 => ⟨S184x128, .f32⟩
  | 33 => ⟨S184x128, .f32⟩
  | _ => ⟨S8x184x128, .f32⟩

abbrev hbmTy (i : Nat) : BufTy := match i / 128 with
  | 0 => hbmTy0_0 i
  | 1 => hbmTy0_1 i
  | _ => ⟨S8x184x128, .f32⟩

abbrev bufTy : (tb : Table) → Fin (tcTables nBuf tb) → BufTy
  | .hbm, ⟨i, _⟩ => hbmTy i
  | _, _ => ⟨S8x184x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_arg40 : Ref sig .tc := ⟨.hbm, 40, rfl⟩
abbrev main_arg41 : Ref sig .tc := ⟨.hbm, 41, rfl⟩
abbrev main_arg42 : Ref sig .tc := ⟨.hbm, 42, rfl⟩
abbrev main_arg43 : Ref sig .tc := ⟨.hbm, 43, rfl⟩
abbrev main_arg44 : Ref sig .tc := ⟨.hbm, 44, rfl⟩
abbrev main_arg45 : Ref sig .tc := ⟨.hbm, 45, rfl⟩
abbrev main_arg46 : Ref sig .tc := ⟨.hbm, 46, rfl⟩
abbrev main_arg47 : Ref sig .tc := ⟨.hbm, 47, rfl⟩
abbrev main_arg48 : Ref sig .tc := ⟨.hbm, 48, rfl⟩
abbrev main_arg49 : Ref sig .tc := ⟨.hbm, 49, rfl⟩
abbrev main_arg50 : Ref sig .tc := ⟨.hbm, 50, rfl⟩
abbrev main_arg51 : Ref sig .tc := ⟨.hbm, 51, rfl⟩
abbrev main_arg52 : Ref sig .tc := ⟨.hbm, 52, rfl⟩
abbrev main_arg53 : Ref sig .tc := ⟨.hbm, 53, rfl⟩
abbrev main_arg54 : Ref sig .tc := ⟨.hbm, 54, rfl⟩
abbrev main_v0 : Ref sig .tc := ⟨.hbm, 55, rfl⟩
abbrev main_v1 : Ref sig .tc := ⟨.hbm, 56, rfl⟩
abbrev main_v2 : Ref sig .tc := ⟨.hbm, 57, rfl⟩
abbrev main_v3 : Ref sig .tc := ⟨.hbm, 58, rfl⟩
abbrev main_v4 : Ref sig .tc := ⟨.hbm, 59, rfl⟩
abbrev main_v5 : Ref sig .tc := ⟨.hbm, 60, rfl⟩
abbrev main_v6 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev main_v17 : Ref sig .tc := ⟨.hbm, 72, rfl⟩
abbrev main_v18 : Ref sig .tc := ⟨.hbm, 73, rfl⟩
abbrev main_v19 : Ref sig .tc := ⟨.hbm, 74, rfl⟩
abbrev main_c : Ref sig .tc := ⟨.hbm, 75, rfl⟩
abbrev main_call0_v0 : Ref sig .tc := ⟨.hbm, 76, rfl⟩
abbrev main_v20 : Ref sig .tc := ⟨.hbm, 77, rfl⟩
abbrev main_v21 : Ref sig .tc := ⟨.hbm, 78, rfl⟩
abbrev main_v22 : Ref sig .tc := ⟨.hbm, 79, rfl⟩
abbrev main_v23 : Ref sig .tc := ⟨.hbm, 80, rfl⟩
abbrev main_v24 : Ref sig .tc := ⟨.hbm, 81, rfl⟩
abbrev main_v25 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_v35 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_c_0 : Ref sig .tc := ⟨.hbm, 99, rfl⟩
abbrev main_call1_v0 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_v61 : Ref sig .tc := ⟨.hbm, 120, rfl⟩
abbrev main_v62 : Ref sig .tc := ⟨.hbm, 121, rfl⟩
abbrev main_v63 : Ref sig .tc := ⟨.hbm, 122, rfl⟩
abbrev main_c_1 : Ref sig .tc := ⟨.hbm, 123, rfl⟩
abbrev main_call2_v0 : Ref sig .tc := ⟨.hbm, 124, rfl⟩
abbrev main_v64 : Ref sig .tc := ⟨.hbm, 125, rfl⟩
abbrev main_v65 : Ref sig .tc := ⟨.hbm, 126, rfl⟩
abbrev main_cst : Ref sig .tc := ⟨.hbm, 127, rfl⟩
abbrev main_v66 : Ref sig .tc := ⟨.hbm, 128, rfl⟩
abbrev main_cst_2 : Ref sig .tc := ⟨.hbm, 129, rfl⟩
abbrev main_v67 : Ref sig .tc := ⟨.hbm, 130, rfl⟩
abbrev main_v68 : Ref sig .tc := ⟨.hbm, 131, rfl⟩
abbrev main_cst_3 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_cst_4 : Ref sig .tc := ⟨.hbm, 136, rfl⟩
abbrev main_v72 : Ref sig .tc := ⟨.hbm, 137, rfl⟩
abbrev main_v73 : Ref sig .tc := ⟨.hbm, 138, rfl⟩
abbrev main_v74 : Ref sig .tc := ⟨.hbm, 139, rfl⟩
abbrev main_cst_5 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_cst_6 : Ref sig .tc := ⟨.hbm, 144, rfl⟩
abbrev main_v78 : Ref sig .tc := ⟨.hbm, 145, rfl⟩
abbrev main_v79 : Ref sig .tc := ⟨.hbm, 146, rfl⟩
abbrev main_cst_7 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_cst_8 : Ref sig .tc := ⟨.hbm, 151, rfl⟩
abbrev main_v83 : Ref sig .tc := ⟨.hbm, 152, rfl⟩
abbrev main_v84 : Ref sig .tc := ⟨.hbm, 153, rfl⟩
abbrev main_v85 : Ref sig .tc := ⟨.hbm, 154, rfl⟩
abbrev main_cst_9 : Ref sig .tc := ⟨.hbm, 155, rfl⟩
abbrev main_v86 : Ref sig .tc := ⟨.hbm, 156, rfl⟩
abbrev main_v87 : Ref sig .tc := ⟨.hbm, 157, rfl⟩
abbrev main_v88 : Ref sig .tc := ⟨.hbm, 158, rfl⟩
abbrev main_cst_10 : Ref sig .tc := ⟨.hbm, 159, rfl⟩
abbrev main_v89 : Ref sig .tc := ⟨.hbm, 160, rfl⟩
abbrev main_v90 : Ref sig .tc := ⟨.hbm, 161, rfl⟩

abbrev nD : Nat := 1
abbrev τ : Topo := Topo.v7x

variable {F : FTy → Type} [FloatOps F]
-- ==== NormFwd.lean ====
abbrev S4096x2048 : Shape := ⟨2, ![4096, 2048]⟩
abbrev S1x2048 : Shape := ⟨2, ![1, 2048]⟩
abbrev S1024x2048 : Shape := ⟨2, ![1024, 2048]⟩
abbrev S1024 : Shape := ⟨1, ![1024]⟩
abbrev S1024x1 : Shape := ⟨2, ![1024, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S4096x2048, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .bf16⟩
  | .local _ .vmem, ⟨4, _⟩ => ⟨S1024x2048, .bf16⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormFwdRefIdeal.lean ====
abbrev S4096x2048 : Shape := ⟨2, ![4096, 2048]⟩
abbrev S1x2048 : Shape := ⟨2, ![1, 2048]⟩
abbrev S2048 : Shape := ⟨1, ![2048]⟩
abbrev S_ : Shape := ⟨0, ![]⟩
abbrev S4096 : Shape := ⟨1, ![4096]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S1x2048, .f32⟩
  | .hbm, ⟨2, _⟩ => ⟨S2048, .f32⟩
  | .hbm, ⟨3, _⟩ => ⟨S4096x2048, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x2048, .f32⟩
  | .hbm, ⟨15, _⟩ => ⟨S4096x2048, .f32⟩
  | .hbm, ⟨16, _⟩ => ⟨S1x2048, .f32⟩
  | .hbm, ⟨17, _⟩ => ⟨S4096x2048, .f32⟩
  | .hbm, ⟨18, _⟩ => ⟨S4096x2048, .f32⟩
  | .hbm, ⟨19, _⟩ => ⟨S4096x2048, .bf16⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== NormMemFwd.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 3
  | .vmem => 3
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== NormMemFwdRefIdeal.lean ====
abbrev S256x2048 : Shape := ⟨2, ![256, 2048]⟩
abbrev S1x2048 : Shape := ⟨2, ![1, 2048]⟩
abbrev S2048 : Shape := ⟨1, ![2048]⟩
abbrev S_ : Shape := ⟨0, ![]⟩
abbrev S256 : Shape := ⟨1, ![256]⟩
abbrev S256x1 : Shape := ⟨2, ![256, 1]⟩

abbrev nBuf : Space → Nat
  | .hbm => 20
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S2048, .f32⟩
  | .hbm, ⟨3, _⟩ => ⟨S256x2048, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x2048, .f32⟩
  | .hbm, ⟨15, _⟩ => ⟨S256x2048, .f32⟩
  | .hbm, ⟨16, _⟩ => ⟨S1x2048, .f32⟩
  | .hbm, ⟨17, _⟩ => ⟨S256x2048, .f32⟩
  | .hbm, ⟨18, _⟩ => ⟨S256x2048, .f32⟩
  | .hbm, ⟨19, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== AttnFwd.lean ====
abbrev S4096x2048 : Shape := ⟨2, ![4096, 2048]⟩
abbrev S256x2048 : Shape := ⟨2, ![256, 2048]⟩
abbrev S512x2048 : Shape := ⟨2, ![512, 2048]⟩
abbrev S512x512 : Shape := ⟨2, ![512, 512]⟩
abbrev S256x512 : Shape := ⟨2, ![256, 512]⟩
abbrev S512x256 : Shape := ⟨2, ![512, 256]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S4096x2048, .bf16⟩
  | .hbm, ⟨1, _⟩ => ⟨S256x2048, .f32⟩
  | .hbm, ⟨2, _⟩ => ⟨S256x2048, .f32⟩
  | .hbm, ⟨3, _⟩ => ⟨S4096x2048, .bf16⟩
  | .local _ .vmem, ⟨0, _⟩ => ⟨S512x2048, .bf16⟩
  | .local _ .vmem, ⟨1, _⟩ => ⟨S512x2048, .bf16⟩
  | .local _ .vmem, ⟨2, _⟩ => ⟨S256x2048, .f32⟩
  | .local _ .vmem, ⟨3, _⟩ => ⟨S256x2048, .f32⟩
  | .local _ .vmem, ⟨4, _⟩ => ⟨S512x2048, .bf16⟩
  | .local _ .vmem, ⟨5, _⟩ => ⟨S512x2048, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AttnFwdRefIdeal.lean ====
abbrev S4096x2048 : Shape := ⟨2, ![4096, 2048]⟩
abbrev S256x2048 : Shape := ⟨2, ![256, 2048]⟩
abbrev S1x4096x4x512 : Shape := ⟨4, ![1, 4096, 4, 512]⟩
abbrev S1x256x4x512 : Shape := ⟨4, ![1, 256, 4, 512]⟩
abbrev S1x4x4096x256 : Shape := ⟨4, ![1, 4, 4096, 256]⟩
abbrev S_ : Shape := ⟨0, ![]⟩
abbrev S1x4x4096 : Shape := ⟨3, ![1, 4, 4096]⟩
abbrev S1x4x4096x1 : Shape := ⟨4, ![1, 4, 4096, 1]⟩
abbrev S1x4x512x4096 : Shape := ⟨4, ![1, 4, 512, 4096]⟩

abbrev nBuf : Space → Nat
  | .hbm => 29
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S256x2048, .f32⟩
  | .hbm, ⟨2, _⟩ => ⟨S256x2048, .f32⟩
  | .hbm, ⟨3, _⟩ => ⟨S4096x2048, .f32⟩
  | .hbm, ⟨4, _⟩ => ⟨S1x4096x4x512, .f32⟩
  | .hbm, ⟨5, _⟩ => ⟨S1x256x4x512, .f32⟩
  | .hbm, ⟨6, _⟩ => ⟨S1x256x4x512, .f32⟩
  | .hbm, ⟨7, _⟩ => ⟨S1x4x4096x256, .f32⟩
  | .hbm, ⟨8, _⟩ => ⟨S_, .f32⟩
  | .hbm, ⟨9, _⟩ => ⟨S1x4x4096x256, .f32⟩
  | .hbm, ⟨10, _⟩ => ⟨S1x4x4096x256, .f32⟩
  | .hbm, ⟨11, _⟩ => ⟨S_, .f32⟩
  | .hbm, ⟨12, _⟩ => ⟨S1x4x4096, .f32⟩
  | .hbm, ⟨13, _⟩ => ⟨S_, .f32⟩
  | .hbm, ⟨14, _⟩ => ⟨S1x4x4096, .f32⟩
  | .hbm, ⟨15, _⟩ => ⟨S1x4x4096, .f32⟩
  | .hbm, ⟨16, _⟩ => ⟨S1x4x4096x1, .f32⟩
  | .hbm, ⟨17, _⟩ => ⟨S1x4x4096x256, .f32⟩
  | .hbm, ⟨18, _⟩ => ⟨S1x4x4096x256, .f32⟩
  | .hbm, ⟨19, _⟩ => ⟨S1x4x4096x256, .f32⟩
  | .hbm, ⟨20, _⟩ => ⟨S_, .f32⟩
  | .hbm, ⟨21, _⟩ => ⟨S1x4x4096, .f32⟩
  | .hbm, ⟨22, _⟩ => ⟨S1x4x4096x1, .f32⟩
  | .hbm, ⟨23, _⟩ => ⟨S1x4x4096x256, .f32⟩
  | .hbm, ⟨24, _⟩ => ⟨S1x4x4096x256, .f32⟩
  | .hbm, ⟨25, _⟩ => ⟨S1x4x512x4096, .f32⟩
  | .hbm, ⟨26, _⟩ => ⟨S1x4096x4x512, .f32⟩
  | .hbm, ⟨27, _⟩ => ⟨S4096x2048, .f32⟩
  | .hbm, ⟨28, _⟩ => ⟨S4096x2048, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩

abbrev nD : Nat := 1
abbrev τ : Topo := Topo.v7x

variable {F : FTy → Type} [FloatOps F]
-- ==== Proof.Softmax.lean ====
/- The derivative of a softmax over one row of scores.
   The chain rule goes through the quotient's two arguments, the exponential and the subtraction of the row's maximum. One
   way leaves the maximum out, as a constant; the other also shares the maximum's own gradient out among the entries that
   attain it. On real scores and real gradients the two agree, because what the maximum receives is zero. -/
module

public import Idealize.ShloMosaic.PureOps.Ideal.Laws
public import Idealize.ShloMosaic.Lib.IdealHost

@[expose] public section

noncomputable section

namespace Cert.Softmax

open Idealize.ShloMosaic Finset

variable {n : ℕ}

/-- The maximum of a row. -/
def top (s : Fin n → EReal) : EReal := univ.fold max ⊥ s

/-- The exponential of an entry above the row's maximum. -/
def expo (s : Fin n → EReal) (j : Fin n) : EReal := Ideal.exp (s j - top s)

/-- The sum of the row's exponentials. -/
def mass (s : Fin n → EReal) : EReal := ∑ j, expo s j

/-- The softmax of the row. -/
def soft (s : Fin n → EReal) (j : Fin n) : EReal := Ideal.div (expo s j) (mass s)

/-- One at an entry that attains the maximum, zero elsewhere. -/
def hit (s : Fin n → EReal) (j : Fin n) : EReal := if s j = top s then 1 else 0

/-- The gradient of the scores with the maximum left out, by the quotient rule and the exponential's own derivative. -/
def shifted (s g : Fin n → EReal) (j : Fin n) : EReal :=
  (Ideal.div (g j) (mass s) + (0 - ∑ k, g k * Ideal.div 1 (mass s * mass s) * expo s k)) * expo s j

/-- What the maximum receives, shared among the entries that attain it. -/
def share (s g : Fin n → EReal) : EReal := Ideal.div (∑ j, (0 - shifted s g j)) (∑ j, hit s j)

/-- The gradient of the scores, the maximum's share included. -/
def long (s g : Fin n → EReal) (j : Fin n) : EReal := shifted s g j + share s g * hit s j

/-- A finite sum of reals, read in the extended reals. -/
theorem coe_sum {ι : Type} (t : Finset ι) (f : ι → ℝ) : ((∑ i ∈ t, f i : ℝ) : EReal) = ∑ i ∈ t, (f i : EReal) := by
  classical
  induction t using Finset.induction_on with
  | empty => simp
  | insert a t h ih => rw [sum_insert h, sum_insert h, EReal.coe_add, ih]

/-- A quotient of reals by a real that is not zero. -/
theorem div_real (x y : ℝ) (hy : y ≠ 0) : Ideal.div (x : EReal) (y : EReal) = ((x / y : ℝ) : EReal) := by
  unfold Ideal.div
  rw [if_neg (by exact_mod_cast hy), div_eq_mul_inv, EReal.coe_mul, EReal.coe_inv]

/-- The maximum of a row of reals is one of its entries. -/
theorem top_real (σ : Fin (n + 1) → ℝ) : ∃ k, top (fun j => (σ j : EReal)) = (σ k : EReal) := by
  obtain ⟨k, -, hk⟩ := exists_max_image univ σ univ_nonempty
  refine ⟨k, le_antisymm ?_ ?_⟩
  · exact (fold_max_le _).2 ⟨bot_le, fun j hj => EReal.coe_le_coe_iff.2 (hk j hj)⟩
  · exact (le_fold_max _).2 (Or.inr ⟨k, mem_univ k, le_rfl⟩)

/-- On real rows what the maximum receives is zero, so that its share adds nothing. -/
theorem long_eq_shifted (σ γ : Fin (n + 1) → ℝ) (j : Fin (n + 1)) :
    long (fun k => (σ k : EReal)) (fun k => (γ k : EReal)) j = shifted (fun k => (σ k : EReal)) (fun k => (γ k : EReal)) j := by
  obtain ⟨t, ht⟩ := top_real σ
  set M := σ t with hM
  set s : Fin (n + 1) → EReal := fun k => (σ k : EReal) with hs
  set g : Fin (n + 1) → EReal := fun k => (γ k : EReal) with hg
  set E : Fin (n + 1) → ℝ := fun k => Real.exp (σ k - M) with hE
  have he : ∀ k, expo s k = (E k : EReal) := by
    intro k
    unfold expo
    rw [ht, hs]
    show Ideal.exp (((σ k : ℝ) : EReal) - (M : EReal)) = _
    rw [← EReal.coe_sub]
    rfl
  set L : ℝ := ∑ k, E k with hL
  have hl : mass s = (L : EReal) := by
    unfold mass
    rw [hL, coe_sum]
    exact sum_congr rfl fun k _ => he k
  have hpos : 0 < L := sum_pos (fun k _ => Real.exp_pos _) univ_nonempty
  have hL0 : L ≠ 0 := hpos.ne'
  have hone : Ideal.div 1 (mass s * mass s) = ((1 / (L * L) : ℝ) : EReal) := by
    rw [hl, ← EReal.coe_mul, ← EReal.coe_one, div_real _ _ (mul_ne_zero hL0 hL0)]
  set D : Fin (n + 1) → ℝ := fun k => (γ k / L + (0 - ∑ i, γ i * (1 / (L * L)) * E i)) * E k with hD
  have hshift : ∀ k, shifted s g k = (D k : EReal) := by
    intro k
    unfold shifted
    simp only [he, hone]
    rw [hl, hg]
    simp only
    rw [div_real _ _ hL0, hD]
    simp only [EReal.coe_mul, EReal.coe_add, EReal.coe_sub, coe_sum, EReal.coe_zero]
  have hzero : ∑ k, (0 - D k) = 0 := by
    have h1 : ∑ k, D k = (∑ k, γ k * E k) / L + (0 - (∑ k, γ k * E k) / (L * L)) * L := by
      simp only [hD, add_mul, sum_add_distrib, ← mul_sum]
      congr 1
      · rw [sum_div]; exact sum_congr rfl fun k _ => by ring
      · congr 2
        rw [sum_div]; exact sum_congr rfl fun k _ => by ring
    rw [sum_sub_distrib, h1]
    field_simp
    simp
  have hshare : share s g * hit s j = 0 := by
    unfold share
    have h0 : ∑ k, (0 - shifted s g k) = 0 := by
      have : ∑ k, (0 - shifted s g k) = ((∑ k, (0 - D k) : ℝ) : EReal) := by
        rw [coe_sum]
        exact sum_congr rfl fun k _ => by rw [hshift, EReal.coe_sub, EReal.coe_zero]
      rw [this, hzero, EReal.coe_zero]
    have hc : ∑ k, hit s k ≠ 0 := by
      have hnn : ∀ k ∈ univ, 0 ≤ hit s k := fun k _ => by unfold hit; split_ifs <;> simp
      have ht1 : hit s t = 1 := by unfold hit; rw [if_pos ht.symm]
      have := single_le_sum hnn (mem_univ t)
      rw [ht1] at this
      exact (lt_of_lt_of_le zero_lt_one this).ne'
    rw [h0]
    unfold Ideal.div
    rw [if_neg hc, zero_mul, zero_mul]
  unfold long
  rw [hshare, add_zero]

end Cert.Softmax
-- ==== Proof.Blocked.lean ====
/- Arrays of extended reals read at natural coordinates, and products cut into blocks.
   A blocked product adds, over the blocks of the contracted axis, the sum over the lanes of one block; the sum over the
   whole axis is the same sum. The coordinates are natural numbers here, so that a block's place in its array is plain
   arithmetic. -/
module

public import Idealize.ShloMosaic.Lib.Pipeline.ValueKit
public import Idealize.ShloMosaic.Lib.Pipeline.ReadBack
public import Idealize.ShloMosaic.Lib.Pointwise
public import Idealize.ShloMosaic.PureOps.Ideal.Laws

@[expose] public section

noncomputable section

namespace Cert.Blocked

open Idealize.ShloMosaic Finset

/-- A matrix read at natural coordinates: zero outside. -/
def at2 {A B : ℕ} (x : (⟨2, ![A, B]⟩ : Shape).Idx → EReal) (a b : ℕ) : EReal :=
  if h : a < A ∧ b < B then x (ix2 ⟨a, h.1⟩ ⟨b, h.2⟩) else 0

/-- A rank-3 array read at natural coordinates: zero outside. -/
def at3 {A B C : ℕ} (x : (⟨3, ![A, B, C]⟩ : Shape).Idx → EReal) (a b c : ℕ) : EReal :=
  if h : a < A ∧ b < B ∧ c < C then x (ix3 ⟨a, h.1⟩ ⟨b, h.2.1⟩ ⟨c, h.2.2⟩) else 0

/-- An element is the read at its own coordinates. -/
theorem eq_at2 {A B : ℕ} (x : (⟨2, ![A, B]⟩ : Shape).Idx → EReal) (i : (⟨2, ![A, B]⟩ : Shape).Idx) (a b : ℕ)
    (ha : (i 0 : ℕ) = a) (hb : (i 1 : ℕ) = b) : x i = at2 x a b := by
  subst ha hb
  unfold at2
  rw [dif_pos ⟨(i 0).isLt, (i 1).isLt⟩]
  exact congrArg x (eq_ix2 i)

/-- An element is the read at its own coordinates, rank 3. -/
theorem eq_at3 {A B C : ℕ} (x : (⟨3, ![A, B, C]⟩ : Shape).Idx → EReal) (i : (⟨3, ![A, B, C]⟩ : Shape).Idx) (a b c : ℕ)
    (ha : (i 0 : ℕ) = a) (hb : (i 1 : ℕ) = b) (hc : (i 2 : ℕ) = c) : x i = at3 x a b c := by
  subst ha hb hc
  unfold at3
  rw [dif_pos ⟨(i 0).isLt, (i 1).isLt, (i 2).isLt⟩]
  exact congrArg x (eq_ix3 i)

/-- A sum over an axis of `S` blocks of `n` lanes each, block by block. -/
theorem sum_blocks (S n : ℕ) (f : ℕ → EReal) :
    ∑ s ∈ range S, ∑ k : Fin n, f (s * n + k.val) = ∑ l : Fin (S * n), f l.val := by
  rw [← Fin.sum_univ_univ_mul_add]
  exact Finset.sum_range fun s => ∑ k : Fin n, f (s * n + k.val)

end Cert.Blocked
-- ==== Proof.Words.lean ====
/- The values of four f32 words in the ideal instance. -/
module

public import Idealize.ShloMosaic.Lib.Pointwise
public import Idealize.ShloMosaic.PureOps.Ideal.Laws

@[expose] public section

noncomputable section

namespace Cert.Words

open Idealize.ShloMosaic

/-- The pattern a maximum starts from is below every value. -/
theorem ofBits_bot : Ideal.ofBits .f32 0xFF800000#32 = ⊥ := by
  simp [Ideal.ofBits, Ideal.ieee]

/-- The divisor that corrects the first moment, as the rational number it is. -/
theorem ofBits_c1 : Ideal.ofBits .f32 0x3F26BD02#32 = ((5463681 / 8388608 : ℝ) : EReal) := by
  simp [Ideal.ofBits, Ideal.ieee, -EReal.coe_mul]
  norm_num

/-- The divisor that corrects the second moment, as the rational number it is. -/
theorem ofBits_c2 : Ideal.ofBits .f32 0x3C231ACC#32 = ((2672307 / 268435456 : ℝ) : EReal) := by
  simp [Ideal.ofBits, Ideal.ieee, -EReal.coe_mul]
  norm_num

/-- One half. -/
theorem ofBits_half : Ideal.ofBits .f32 0x3F000000#32 = ((1 / 2 : ℝ) : EReal) := by
  simp [Ideal.ofBits, Ideal.ieee, -EReal.coe_mul]
  norm_num

end Cert.Words
-- ==== Proof.AttnVec.lean ====
/- One head of the attention's backward pass on one block of 512 query rows, as the kernel computes it, and what each
   vector holds at an index. The four heads run through the same steps on different column slices, so the steps are
   written once here. -/
module

public import proofs.«01_k».proof.Proof.Softmax
public import proofs.«01_k».proof.Proof.Blocked
public import proofs.«01_k».proof.Proof.Words
public import proofs.«01_k».proof.Proof.Gen.KernelIdeal.Skeleton

@[expose] public section

noncomputable section

namespace Cert.KernelIdeal.Attention

open Cert.KernelIdeal Cert.KernelIdeal.Gen Cert.Blocked
open Idealize.ShloMosaic Idealize.ShloMosaic.TcCoe
open Finset

/-- The scale of the scores. -/
def scale : EReal := Ideal.ofBits .f32 0x3D3504F3#32

/-- A row of a block of scores. -/
def row (s : FVec Ideal S512x256 .f32) (a : Fin 512) : Fin 256 → EReal := fun j => s (ix2 a j)

/-- The scaled scores of one head. -/
def scoreV (q : FVec Ideal S512x512 .f32) (k : FVec Ideal S256x512 .f32) : FVec Ideal S512x256 .f32 :=
  mulf (matmul dot_S512x512_S256x512_S512x256_1_1_0_0_n_n none (truncf .bf16 q bitsLt_bf16_f32) (truncf .bf16 k bitsLt_bf16_f32)
    (constant S512x256 .f32 0x00000000#32)) (broadcast S512x256 (Scalar.ofBits .f32 0x3D3504F3#32))

/-- The gradient that arrives at one head's softmax. -/
def gradV (g : FVec Ideal S512x512 .f32) (v : FVec Ideal S256x512 .f32) : FVec Ideal S512x256 .f32 :=
  matmul dot_S512x512_S256x512_S512x256_1_1_0_0_n_n none (truncf .bf16 g bitsLt_bf16_f32) (truncf .bf16 v bitsLt_bf16_f32)
    (constant S512x256 .f32 0x00000000#32)

/-- A column spread over the 256 lanes. -/
def spread (x : FVec Ideal S512 .f32) : FVec Ideal S512x256 .f32 :=
  broadcastTo S512x256 (shapeCast S512x1 x shapeCasts_S512_S512x1) broadcasts_S512x1_S512x256

/-- The sum over the 256 lanes. -/
def total (x : FVec Ideal S512x256 .f32) : FVec Ideal S512 .f32 :=
  multiReduction .add [1] S512 x 0x00000000#32 reduces_S512x256_S512 (.inl rfl) rfl

/-- The sum over the one lane of a column. -/
def total1 (x : FVec Ideal S512x1 .f32) : FVec Ideal S512 .f32 :=
  multiReduction .add [1] S512 x 0x00000000#32 reduces_S512x1_S512 (.inl rfl) rfl

/-- The rows' maxima. -/
def topV (s : FVec Ideal S512x256 .f32) : FVec Ideal S512 .f32 :=
  multiReduction .maximumf [1] S512 s 0xFF800000#32 reduces_S512x256_S512 (.inl rfl) rfl

/-- Where a row's maximum is attained. -/
def hitV (s : FVec Ideal S512x256 .f32) : FVec Ideal S512x256 .f32 :=
  sitofp .f32 (extui 32 (cmpf .oeq s (spread (topV s))) natLt_1_32)

/-- The exponentials above the maximum. -/
def expoV (s : FVec Ideal S512x256 .f32) : FVec Ideal S512x256 .f32 := exp (subf s (spread (topV s)))

/-- The sums of the exponentials, as a column. -/
def massV (s : FVec Ideal S512x256 .f32) : FVec Ideal S512x1 .f32 :=
  shapeCast S512x1 (total (expoV s)) shapeCasts_S512_S512x1

/-- The softmax. -/
def softV (s : FVec Ideal S512x256 .f32) : FVec Ideal S512x256 .f32 :=
  divf (expoV s) (broadcastTo S512x256 (massV s) broadcasts_S512x1_S512x256)

/-- One over the squared sums. -/
def invV (s : FVec Ideal S512x256 .f32) : FVec Ideal S512x1 .f32 :=
  divf (broadcast S512x1 (Scalar.ofBits .f32 0x3F800000#32)) (mulf (massV s) (massV s))

/-- What the quotient's denominator receives. -/
def denomV (s dp : FVec Ideal S512x256 .f32) : FVec Ideal S512x1 .f32 :=
  subf (broadcast S512x1 (Scalar.ofBits .f32 0x00000000#32))
    (shapeCast S512x1 (total (mulf (mulf dp (broadcastTo S512x256 (invV s) broadcasts_S512x1_S512x256)) (expoV s))) shapeCasts_S512_S512x1)

/-- The gradient of the shifted scores. -/
def shiftedV (s dp : FVec Ideal S512x256 .f32) : FVec Ideal S512x256 .f32 :=
  mulf (addf (divf dp (broadcastTo S512x256 (massV s) broadcasts_S512x1_S512x256)) (spread (total1 (denomV s dp)))) (expoV s)

/-- What the maximum receives, shared among the entries that attain it. -/
def shareV (s dp : FVec Ideal S512x256 .f32) : FVec Ideal S512 .f32 :=
  divf (total1 (shapeCast S512x1 (total (subf (broadcast S512x256 (Scalar.ofBits .f32 0x00000000#32)) (shiftedV s dp))) shapeCasts_S512_S512x1))
    (total (hitV s))

/-- The gradient of the scores, scaled. -/
def longV (s dp : FVec Ideal S512x256 .f32) : FVec Ideal S512x256 .bf16 :=
  truncf .bf16 (mulf (addf (shiftedV s dp) (mulf (spread (shareV s dp)) (hitV s)))
    (broadcast S512x256 (Scalar.ofBits .f32 0x3D3504F3#32))) bitsLt_bf16_f32

/-- The gradient of one head's queries. -/
def dqH (ds : FVec Ideal S512x256 .bf16) (k : FVec Ideal S256x512 .f32) : FVec Ideal S512x512 .f32 :=
  matmul dot_S512x256_S256x512_S512x512_1_0_0_1_n_n none ds (truncf .bf16 k bitsLt_bf16_f32) (constant S512x512 .f32 0x00000000#32)

/-- A product contracted over the 512 rows: the gradient of one head's keys or values. -/
def dkH (ds : FVec Ideal S512x256 .bf16) (q : FVec Ideal S512x512 .f32) : FVec Ideal S256x512 .f32 :=
  matmul dot_S512x256_S512x512_S256x512_0_0_1_1_n_n none ds (truncf .bf16 q bitsLt_bf16_f32) (constant S256x512 .f32 0x00000000#32)

/-- The pattern the maximum starts from is below every value. -/
theorem ofBits_bot : Ideal.ofBits .f32 0xFF800000#32 = ⊥ := Words.ofBits_bot

/-- An entry of the scaled scores. -/
theorem scoreV_at (q : FVec Ideal S512x512 .f32) (k : FVec Ideal S256x512 .f32) (a : Fin 512) (b : Fin 256) :
    scoreV q k (ix2 a b) = (∑ x : Fin 512, q (ix2 a x) * k (ix2 b x)) * scale := by
  pointwise [scoreV]
  rfl

/-- An entry of the gradient that arrives. -/
theorem gradV_at (g : FVec Ideal S512x512 .f32) (v : FVec Ideal S256x512 .f32) (a : Fin 512) (b : Fin 256) :
    gradV g v (ix2 a b) = ∑ x : Fin 512, g (ix2 a x) * v (ix2 b x) := by
  pointwise [gradV]

/-- A column spread along a row, read at an entry. -/
theorem spread_at (x : FVec Ideal S512 .f32) (a : Fin 512) (b : Fin 256) : spread x (ix2 a b) = x (ix1 a) := by
  pointwise [spread]

/-- A row sum. -/
theorem total_at (x : FVec Ideal S512x256 .f32) (a : Fin 512) : total x (ix1 a) = ∑ j, row x a j := by
  pointwise [total]
  rfl

/-- The sum of a single column. -/
theorem total1_at (x : FVec Ideal S512x1 .f32) (a : Fin 512) : total1 x (ix1 a) = x (ix2 a 0) := by
  pointwise [total1]
  simp

/-- A row's maximum. -/
theorem topV_at (s : FVec Ideal S512x256 .f32) (a : Fin 512) : topV s (ix1 a) = Softmax.top (row s a) := by
  pointwise [topV]
  rw [ofBits_bot]
  rfl

/-- One where an entry attains the maximum, zero elsewhere. -/
theorem hitV_at (s : FVec Ideal S512x256 .f32) (a : Fin 512) (b : Fin 256) : hitV s (ix2 a b) = Softmax.hit (row s a) b := by
  pointwise [hitV]
  rw [spread_at, topV_at]
  unfold Softmax.hit
  show (((BitVec.setWidth 32 (BitVec.ofBool (decide (row s a b = Softmax.top (row s a))))).toInt : ℝ) : EReal) = _
  by_cases h : row s a b = Softmax.top (row s a)
  · rw [if_pos h, decide_eq_true h]
    simp
  · rw [if_neg h, decide_eq_false h]
    simp

/-- An entry of the shifted exponentials. -/
theorem expoV_at (s : FVec Ideal S512x256 .f32) (a : Fin 512) (b : Fin 256) : expoV s (ix2 a b) = Softmax.expo (row s a) b := by
  pointwise [expoV]
  rw [spread_at, topV_at]
  rfl

/-- The sum of a row of exponentials. -/
theorem massV_at (s : FVec Ideal S512x256 .f32) (a : Fin 512) (b : Fin 1) : massV s (ix2 a b) = Softmax.mass (row s a) := by
  pointwise [massV]
  rw [total_at]
  exact sum_congr rfl fun j _ => expoV_at s a j

/-- An entry of the softmax. -/
theorem softV_at (s : FVec Ideal S512x256 .f32) (a : Fin 512) (b : Fin 256) : softV s (ix2 a b) = Softmax.soft (row s a) b := by
  pointwise [softV]
  rw [expoV_at, massV_at]
  rfl

/-- The factor of the quotient rule for the divisor. -/
theorem invV_at (s : FVec Ideal S512x256 .f32) (a : Fin 512) (b : Fin 1) :
    invV s (ix2 a b) = Ideal.div 1 (Softmax.mass (row s a) * Softmax.mass (row s a)) := by
  pointwise [invV]
  rw [massV_at]

/-- The gradient of the quotient's divisor. -/
theorem denomV_at (s dp : FVec Ideal S512x256 .f32) (a : Fin 512) (b : Fin 1) :
    denomV s dp (ix2 a b) = 0 - ∑ k, row dp a k * Ideal.div 1 (Softmax.mass (row s a) * Softmax.mass (row s a)) * Softmax.expo (row s a) k := by
  pointwise [denomV]
  rw [total_at]
  refine congrArg (fun x => (0 : EReal) - x) (sum_congr rfl fun k _ => ?_)
  show mulf (mulf dp (broadcastTo S512x256 (invV s) broadcasts_S512x1_S512x256)) (expoV s) (ix2 a k) = _
  pointwise
  rw [invV_at, expoV_at]
  rfl

/-- The gradient of the shifted scores. -/
theorem shiftedV_at (s dp : FVec Ideal S512x256 .f32) (a : Fin 512) (b : Fin 256) :
    shiftedV s dp (ix2 a b) = Softmax.shifted (row s a) (row dp a) b := by
  pointwise [shiftedV]
  rw [spread_at, total1_at, denomV_at, expoV_at, massV_at]
  rfl

/-- What each entry that attains the maximum receives. -/
theorem shareV_at (s dp : FVec Ideal S512x256 .f32) (a : Fin 512) :
    shareV s dp (ix1 a) = Softmax.share (row s a) (row dp a) := by
  pointwise [shareV]
  rw [total1_at, total_at]
  unfold Softmax.share
  refine congrArg₂ Ideal.div ?_ (sum_congr rfl fun j _ => hitV_at s a j)
  pointwise
  rw [total_at]
  refine sum_congr rfl fun j _ => ?_
  show subf (broadcast S512x256 0) (shiftedV s dp) (ix2 a j) = _
  pointwise
  rw [shiftedV_at]

/-- The gradient of the scores, the maximum's share included. -/
theorem longV_at (s dp : FVec Ideal S512x256 .f32) (a : Fin 512) (b : Fin 256) :
    longV s dp (ix2 a b) = Softmax.long (row s a) (row dp a) b * scale := by
  pointwise [longV]
  rw [spread_at, shareV_at, shiftedV_at, hitV_at]
  rfl

/-- An entry of one head's gradient of the queries. -/
theorem dqH_at (ds : FVec Ideal S512x256 .bf16) (k : FVec Ideal S256x512 .f32) (a : Fin 512) (b : Fin 512) :
    dqH ds k (ix2 a b) = ∑ x : Fin 256, ds (ix2 a x) * k (ix2 x b) := by
  pointwise [dqH]

/-- An entry of one head's sum over the block's rows. -/
theorem dkH_at (ds : FVec Ideal S512x256 .bf16) (q : FVec Ideal S512x512 .f32) (a : Fin 256) (b : Fin 512) :
    dkH ds q (ix2 a b) = ∑ x : Fin 512, ds (ix2 x a) * q (ix2 x b) := by
  pointwise [dkH]

/-- The four heads' gradients of the queries, side by side. -/
def joinQ (x0 x1 x2 x3 : FVec Ideal S512x512 .f32) : FVec Ideal S512x2048 .f32 :=
  addf (addf (addf
    (concatenate S512x2048 1 [⟨S512x1536, broadcast S512x1536 (Scalar.ofBits (F := Ideal) .f32 0x00000000#32)⟩, ⟨S512x512, x3⟩] concatenates_S512x1536_S512x512_S512x2048_d1)
    (concatenate S512x2048 1 [⟨S512x1536, concatenate S512x1536 1 [⟨S512x1024, broadcast S512x1024 (Scalar.ofBits (F := Ideal) .f32 0x00000000#32)⟩, ⟨S512x512, x2⟩] concatenates_S512x1024_S512x512_S512x1536_d1⟩,
      ⟨S512x512, broadcast S512x512 (Scalar.ofBits (F := Ideal) .f32 0x00000000#32)⟩] concatenates_S512x1536_S512x512_S512x2048_d1))
    (concatenate S512x2048 1 [⟨S512x1024, concatenate S512x1024 1 [⟨S512x512, broadcast S512x512 (Scalar.ofBits (F := Ideal) .f32 0x00000000#32)⟩, ⟨S512x512, x1⟩] concatenates_S512x512_S512x512_S512x1024_d1⟩,
      ⟨S512x1024, broadcast S512x1024 (Scalar.ofBits (F := Ideal) .f32 0x00000000#32)⟩] concatenates_S512x1024_S512x1024_S512x2048_d1))
    (concatenate S512x2048 1 [⟨S512x512, x0⟩, ⟨S512x1536, broadcast S512x1536 (Scalar.ofBits (F := Ideal) .f32 0x00000000#32)⟩] concatenates_S512x512_S512x1536_S512x2048_d1)

/-- The four heads' gradients of the keys or values, side by side. -/
def joinK (x0 x1 x2 x3 : FVec Ideal S256x512 .f32) : FVec Ideal S256x2048 .f32 :=
  addf (addf (addf
    (concatenate S256x2048 1 [⟨S256x1536, broadcast S256x1536 (Scalar.ofBits (F := Ideal) .f32 0x00000000#32)⟩, ⟨S256x512, x3⟩] concatenates_S256x1536_S256x512_S256x2048_d1)
    (concatenate S256x2048 1 [⟨S256x1536, concatenate S256x1536 1 [⟨S256x1024, broadcast S256x1024 (Scalar.ofBits (F := Ideal) .f32 0x00000000#32)⟩, ⟨S256x512, x2⟩] concatenates_S256x1024_S256x512_S256x1536_d1⟩,
      ⟨S256x512, broadcast S256x512 (Scalar.ofBits (F := Ideal) .f32 0x00000000#32)⟩] concatenates_S256x1536_S256x512_S256x2048_d1))
    (concatenate S256x2048 1 [⟨S256x1024, concatenate S256x1024 1 [⟨S256x512, broadcast S256x512 (Scalar.ofBits (F := Ideal) .f32 0x00000000#32)⟩, ⟨S256x512, x1⟩] concatenates_S256x512_S256x512_S256x1024_d1⟩,
      ⟨S256x1024, broadcast S256x1024 (Scalar.ofBits (F := Ideal) .f32 0x00000000#32)⟩] concatenates_S256x1024_S256x1024_S256x2048_d1))
    (concatenate S256x2048 1 [⟨S256x512, x0⟩, ⟨S256x1536, broadcast S256x1536 (Scalar.ofBits (F := Ideal) .f32 0x00000000#32)⟩] concatenates_S256x512_S256x1536_S256x2048_d1)

/-- Column `d` of head `h` is column `h * 512 + d` of the four side by side. -/
theorem joinQ_at (x0 x1 x2 x3 : FVec Ideal S512x512 .f32) (a : Fin 512) (h : Fin 4) (d : Fin 512) (b : Fin 2048)
    (hb : (b : ℕ) = h * 512 + d) : joinQ x0 x1 x2 x3 (ix2 a b) = (match h with | 0 => x0 | 1 => x1 | 2 => x2 | 3 => x3) (ix2 a d) := by
  obtain ⟨b, hb'⟩ := b
  obtain ⟨d, hd⟩ := d
  subst hb
  pointwise [joinQ]
  fin_cases h <;> dsimp only at hb' ⊢ <;> (repeat' split) <;> first
    | (exfalso; omega)
    | (simp only [zero_add, add_zero]
       first
         | exact congrArg (fun x => x0 (ix2 a x)) (Fin.ext (by (try dsimp only) <;> omega))
         | exact congrArg (fun x => x1 (ix2 a x)) (Fin.ext (by (try dsimp only) <;> omega))
         | exact congrArg (fun x => x2 (ix2 a x)) (Fin.ext (by (try dsimp only) <;> omega))
         | exact congrArg (fun x => x3 (ix2 a x)) (Fin.ext (by (try dsimp only) <;> omega)))

/-- Column `d` of head `h` is column `h * 512 + d` of the four side by side. -/
theorem joinK_at (x0 x1 x2 x3 : FVec Ideal S256x512 .f32) (a : Fin 256) (h : Fin 4) (d : Fin 512) (b : Fin 2048)
    (hb : (b : ℕ) = h * 512 + d) : joinK x0 x1 x2 x3 (ix2 a b) = (match h with | 0 => x0 | 1 => x1 | 2 => x2 | 3 => x3) (ix2 a d) := by
  obtain ⟨b, hb'⟩ := b
  obtain ⟨d, hd⟩ := d
  subst hb
  pointwise [joinK]
  fin_cases h <;> dsimp only at hb' ⊢ <;> (repeat' split) <;> first
    | (exfalso; omega)
    | (simp only [zero_add, add_zero]
       first
         | exact congrArg (fun x => x0 (ix2 a x)) (Fin.ext (by (try dsimp only) <;> omega))
         | exact congrArg (fun x => x1 (ix2 a x)) (Fin.ext (by (try dsimp only) <;> omega))
         | exact congrArg (fun x => x2 (ix2 a x)) (Fin.ext (by (try dsimp only) <;> omega))
         | exact congrArg (fun x => x3 (ix2 a x)) (Fin.ext (by (try dsimp only) <;> omega)))

/-- The columns of one head, of a block of 512 rows. -/
def cutQ (x : FVec Ideal S512x2048 .f32) : Fin 4 → FVec Ideal S512x512 .f32
  | 0 => extractStridedSlice S512x512 ![0, 0] x slices_S512x2048_o0_0_S512x512
  | 1 => extractStridedSlice S512x512 ![0, 512] x slices_S512x2048_o0_512_S512x512
  | 2 => extractStridedSlice S512x512 ![0, 1024] x slices_S512x2048_o0_1024_S512x512
  | 3 => extractStridedSlice S512x512 ![0, 1536] x slices_S512x2048_o0_1536_S512x512

/-- The columns of one head, of the 256 keys or values. -/
def cutK (x : FVec Ideal S256x2048 .f32) : Fin 4 → FVec Ideal S256x512 .f32
  | 0 => extractStridedSlice S256x512 ![0, 0] x slices_S256x2048_o0_0_S256x512
  | 1 => extractStridedSlice S256x512 ![0, 512] x slices_S256x2048_o0_512_S256x512
  | 2 => extractStridedSlice S256x512 ![0, 1024] x slices_S256x2048_o0_1024_S256x512
  | 3 => extractStridedSlice S256x512 ![0, 1536] x slices_S256x2048_o0_1536_S256x512

/-- An entry of one head's columns of a block of rows. -/
theorem cutQ_at (x : FVec Ideal S512x2048 .f32) (h : Fin 4) (a : Fin 512) (d : Fin 512) :
    cutQ x h (ix2 a d) = at2 x a (h * 512 + d) := by
  fin_cases h <;> pointwise [cutQ] <;> exact eq_at2 x _ _ _ rfl (by simp [ix2])

/-- An entry of one head's columns of the keys or values. -/
theorem cutK_at (x : FVec Ideal S256x2048 .f32) (h : Fin 4) (a : Fin 256) (d : Fin 512) :
    cutK x h (ix2 a d) = at2 x a (h * 512 + d) := by
  fin_cases h <;> pointwise [cutK] <;> exact eq_at2 x _ _ _ rfl (by simp [ix2])

section Steps

variable (x0 : FVec Ideal S512x2048 .bf16) (x1 x2 : FVec Ideal S256x2048 .f32) (x3 : FVec Ideal S512x2048 .bf16)

/-- The queries of the block, widened. -/
def wideQ : FVec Ideal S512x2048 .f32 := extf .f32 x0 bitsLt_bf16_f32

/-- The arriving gradient of the block, widened. -/
def wideG : FVec Ideal S512x2048 .f32 := extf .f32 (truncf .bf16 (extf .f32 x3 bitsLt_bf16_f32 : FVec Ideal S512x2048 .f32) bitsLt_bf16_f32 : FVec Ideal S512x2048 .bf16) bitsLt_bf16_f32

/-- The scores of head `h`. -/
def scoreH (h : Fin 4) : FVec Ideal S512x256 .f32 := scoreV (cutQ (wideQ x0) h) (cutK x1 h)

/-- The gradient that arrives at head `h`'s softmax. -/
def gradH (h : Fin 4) : FVec Ideal S512x256 .f32 := gradV (cutQ (wideG x3) h) (cutK x2 h)

/-- The gradient of head `h`'s scores. -/
def dsH (h : Fin 4) : FVec Ideal S512x256 .bf16 := longV (scoreH x0 x1 h) (gradH x2 x3 h)

/-- The gradient of the queries in a block. -/
def stepQ : FVec Ideal S512x2048 .bf16 :=
  truncf .bf16 (joinQ (dqH (dsH x0 x1 x2 x3 0) (cutK x1 0)) (dqH (dsH x0 x1 x2 x3 1) (cutK x1 1))
    (dqH (dsH x0 x1 x2 x3 2) (cutK x1 2)) (dqH (dsH x0 x1 x2 x3 3) (cutK x1 3))) bitsLt_bf16_f32

/-- What a block adds to the gradient of the keys. -/
def stepK : FVec Ideal S256x2048 .f32 :=
  joinK (dkH (dsH x0 x1 x2 x3 0) (cutQ (wideQ x0) 0)) (dkH (dsH x0 x1 x2 x3 1) (cutQ (wideQ x0) 1))
    (dkH (dsH x0 x1 x2 x3 2) (cutQ (wideQ x0) 2)) (dkH (dsH x0 x1 x2 x3 3) (cutQ (wideQ x0) 3))

/-- What a block adds to the gradient of the values. -/
def stepV : FVec Ideal S256x2048 .f32 :=
  joinK (dkH (truncf .bf16 (softV (scoreH x0 x1 0)) bitsLt_bf16_f32) (cutQ (wideG x3) 0))
    (dkH (truncf .bf16 (softV (scoreH x0 x1 1)) bitsLt_bf16_f32) (cutQ (wideG x3) 1))
    (dkH (truncf .bf16 (softV (scoreH x0 x1 2)) bitsLt_bf16_f32) (cutQ (wideG x3) 2))
    (dkH (truncf .bf16 (softV (scoreH x0 x1 3)) bitsLt_bf16_f32) (cutQ (wideG x3) 3))

end Steps

end Cert.KernelIdeal.Attention
-- ==== Proof.AttnStep.lean ====
/- What the attention's backward kernel leaves in its three output blocks after one grid point. -/
module

public import proofs.«01_k».proof.Proof.AttnVec
public import proofs.«01_k».proof.Proof.Gen.KernelIdeal.Value

@[expose] public section

noncomputable section

namespace Cert.KernelIdeal.Attention

open Cert.KernelIdeal Cert.KernelIdeal.Gen Cert.Blocked
open Idealize.ShloMosaic Idealize.ShloMosaic.TcCoe Idealize.ShloMosaic.Pipeline
open Finset

/-- An accumulator with one more block's share added. -/
def grow (x y : FVec Ideal S256x2048 .f32) : FVec Ideal S256x2048 .f32 :=
  addf (shapeCast S256x2048 x shapeCasts_S256x2048_S256x2048) y

/-- The sum, entry by entry. -/
theorem grow_at (x y : FVec Ideal S256x2048 .f32) (a : Fin 256) (b : Fin 2048) : grow x y (ix2 a b) = x (ix2 a b) + y (ix2 a b) := by
  pointwise [grow]

/-- The keys' accumulator starts at zero. -/
theorem zero5_at (a : Fin 256) (b : Fin 2048) : (k0_pay74 (F := Ideal)) (ix2 a b) = 0 := by
  pointwise [k0_pay74]

/-- The values' accumulator starts at zero. -/
theorem zero6_at (a : Fin 256) (b : Fin 2048) : (k0_pay75 (F := Ideal)) (ix2 a b) = 0 := by
  pointwise [k0_pay75]

variable (c : Dev nD) (i : grid0.Coords) (arg1 : Memref sig .tc .vmem S512x2048 .bf16) (harg1 : arg1.IsWhole) (arg2 : Memref sig .tc .vmem S256x2048 .f32) (harg2 : arg2.IsWhole) (arg3 : Memref sig .tc .vmem S256x2048 .f32) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S256x2048 .f32) (harg6 : arg6.IsWhole) (arg7 : Memref sig .tc .vmem S256x2048 .f32) (harg7 : arg7.IsWhole)
  (x0 : Vec Ideal S512x2048 .bf16) (x1 x2 : Vec Ideal S256x2048 .f32) (x3 : Vec Ideal S512x2048 .bf16) (xo5 xo6 : Vec Ideal S256x2048 .f32)

/-- The gradient of the queries after the first point. -/
theorem outA4 (hc0 : cond0_0 i) :
    out0_A_4 c i arg1 harg1 arg2 harg2 arg3 harg3 arg4 harg4 arg5 harg5 arg6 harg6 arg7 harg7 hc0 x0 x1 x2 x3 = stepQ x0 x1 x2 x3 := by
  frame_out
  rfl

/-- The keys' accumulator after the first point. -/
theorem outA5 (hc0 : cond0_0 i) :
    out0_A_5 c i arg1 harg1 arg2 harg2 arg3 harg3 arg4 harg4 arg5 harg5 arg6 harg6 arg7 harg7 hc0 x0 x1 x2 x3 = grow (k0_pay74 (F := Ideal)) (stepK x0 x1 x2 x3) := by
  frame_out
  rfl

/-- The values' accumulator after the first point. -/
theorem outA6 (hc0 : cond0_0 i) :
    out0_A_6 c i arg1 harg1 arg2 harg2 arg3 harg3 arg4 harg4 arg5 harg5 arg6 harg6 arg7 harg7 hc0 x0 x1 x2 x3 = grow (k0_pay75 (F := Ideal)) (stepV x0 x1 x3) := by
  frame_out
  rfl

/-- The gradient of the queries after a later point. -/
theorem outB4 (hc0 : ¬cond0_0 i) :
    out0_B_4 c i arg1 harg1 arg2 harg2 arg3 harg3 arg4 harg4 arg5 harg5 arg6 harg6 arg7 harg7 hc0 x0 x1 x2 x3 xo5 xo6 = stepQ x0 x1 x2 x3 := by
  frame_out
  rfl

/-- The keys' accumulator after a later point. -/
theorem outB5 (hc0 : ¬cond0_0 i) :
    out0_B_5 c i arg1 harg1 arg2 harg2 arg3 harg3 arg4 harg4 arg5 harg5 arg6 harg6 arg7 harg7 hc0 x0 x1 x2 x3 xo5 xo6 = grow (xo5) (stepK x0 x1 x2 x3) := by
  frame_out
  rfl

/-- The values' accumulator after a later point. -/
theorem outB6 (hc0 : ¬cond0_0 i) :
    out0_B_6 c i arg1 harg1 arg2 harg2 arg3 harg3 arg4 harg4 arg5 harg5 arg6 harg6 arg7 harg7 hc0 x0 x1 x2 x3 xo5 xo6 = grow (xo6) (stepV x0 x1 x3) := by
  frame_out
  rfl

end Cert.KernelIdeal.Attention
-- ==== Proof.AttnBlocks.lean ====
/- The three arrays that the attention's backward kernel leaves, entry by entry. The grid walks the 8 blocks of 512 query
   rows from the last to the first; a block's gradient of the queries is written once, and the gradients of the keys and
   values gather one share from each block. -/
module

public import proofs.«01_k».proof.Proof.AttnStep

@[expose] public section

noncomputable section

namespace Cert.KernelIdeal.Attention

open Cert.KernelIdeal Cert.KernelIdeal.Gen Cert.KernelIdeal.Value Cert.Blocked
open Idealize.ShloMosaic Idealize.ShloMosaic.TcCoe Idealize.SL.Sem
open Finset

section Rows

variable (q : S4096x2048.Idx → EReal) (k v : S256x2048.Idx → EReal) (g : S4096x2048.Idx → EReal)

/-- The scaled scores of query row `r` against the 256 keys, in head `h`. -/
def score (h r : ℕ) (j : Fin 256) : EReal := (∑ d : Fin 512, at2 q r (h * 512 + d) * at2 k j (h * 512 + d)) * scale

/-- The gradient that arrives at row `r` of head `h`'s softmax. -/
def arrive (h r : ℕ) (j : Fin 256) : EReal := ∑ d : Fin 512, at2 g r (h * 512 + d) * at2 v j (h * 512 + d)

/-- The gradient of the scores, what the maximum receives included. -/
def dsLong (h r : ℕ) (j : Fin 256) : EReal := Softmax.long (score q k h r) (arrive v g h r) j * scale

/-- The gradient of the queries. -/
def dqAt (h r d : ℕ) : EReal := ∑ j : Fin 256, dsLong q k v g h r j * at2 k j (h * 512 + d)

/-- What query row `r` adds to the gradient of key `j`. -/
def dkRow (h j d r : ℕ) : EReal := (if hj : j < 256 then dsLong q k v g h r ⟨j, hj⟩ else 0) * at2 q r (h * 512 + d)

/-- What query row `r` adds to the gradient of value `j`. -/
def dvRow (h j d r : ℕ) : EReal := (if hj : j < 256 then Softmax.soft (score q k h r) ⟨j, hj⟩ else 0) * at2 g r (h * 512 + d)

variable {x0 : FVec Ideal S512x2048 .bf16} {x1 x2 : FVec Ideal S256x2048 .f32} {x3 : FVec Ideal S512x2048 .bf16} {R : ℕ}

/-- The scores of a block's row are those of the array's row. -/
theorem scoreH_row (h0 : ∀ (a : Fin 512) (b : ℕ), at2 x0 a b = at2 q (R + a) b) (h1 : ∀ (a : Fin 256) (b : ℕ), at2 x1 a b = at2 k a b) (h : Fin 4) (a : Fin 512) :
    row (scoreH x0 x1 h) a = score q k h (R + a) := by
  funext j
  refine (scoreV_at _ _ a j).trans (congrArg (· * scale) (sum_congr rfl fun d _ => ?_))
  rw [cutQ_at, cutK_at, ← h0, ← h1]
  rfl

/-- The arriving gradient of a block's row is that of the array's row. -/
theorem gradH_row (h2 : ∀ (a : Fin 256) (b : ℕ), at2 x2 a b = at2 v a b) (h3 : ∀ (a : Fin 512) (b : ℕ), at2 x3 a b = at2 g (R + a) b) (h : Fin 4) (a : Fin 512) :
    row (gradH x2 x3 h) a = arrive v g h (R + a) := by
  funext j
  refine (gradV_at _ _ a j).trans (sum_congr rfl fun d _ => ?_)
  rw [cutQ_at, cutK_at, ← h2, ← h3]
  rfl

variable (h0 : ∀ (a : Fin 512) (b : ℕ), at2 x0 a b = at2 q (R + a) b) (h1 : ∀ (a : Fin 256) (b : ℕ), at2 x1 a b = at2 k a b)
  (h2 : ∀ (a : Fin 256) (b : ℕ), at2 x2 a b = at2 v a b) (h3 : ∀ (a : Fin 512) (b : ℕ), at2 x3 a b = at2 g (R + a) b)

include h0 h1 h2 h3 in
theorem dsH_at (h : Fin 4) (a : Fin 512) (j : Fin 256) : dsH x0 x1 x2 x3 h (ix2 a j) = dsLong q k v g h (R + a) j := by
  refine (longV_at _ _ a j).trans ?_
  rw [scoreH_row q k h0 h1, gradH_row v g h2 h3]
  rfl

include h0 h1 h2 h3 in
/-- The block's gradient of the queries. -/
theorem stepQ_at (h : Fin 4) (a d : Fin 512) (b : Fin 2048) (hb : (b : ℕ) = h * 512 + d) :
    stepQ x0 x1 x2 x3 (ix2 a b) = dqAt q k v g h (R + a) d := by
  have key : ∀ h : Fin 4, dqH (dsH x0 x1 x2 x3 h) (cutK x1 h) (ix2 a d) = dqAt q k v g h (R + a) d := by
    intro h
    rw [dqH_at]
    exact sum_congr rfl fun j _ => congrArg₂ (· * ·) (dsH_at q k v g h0 h1 h2 h3 h a j) ((cutK_at x1 h j d).trans (h1 j _))
  refine (joinQ_at _ _ _ _ a h d b hb).trans ?_
  rw [← key h]
  fin_cases h <;> rfl

include h0 h1 h2 h3 in
/-- The block's share of the gradient of the keys. -/
theorem stepK_at (h : Fin 4) (a : Fin 256) (d : Fin 512) (b : Fin 2048) (hb : (b : ℕ) = h * 512 + d) :
    stepK x0 x1 x2 x3 (ix2 a b) = ∑ x : Fin 512, dkRow q k v g h a d (R + x) := by
  have key : ∀ h : Fin 4, dkH (dsH x0 x1 x2 x3 h) (cutQ (wideQ x0) h) (ix2 a d) = ∑ x : Fin 512, dkRow q k v g h a d (R + x) := by
    intro h
    rw [dkH_at]
    refine sum_congr rfl fun x _ => ?_
    unfold dkRow
    rw [dif_pos a.isLt]
    exact congrArg₂ (· * ·) (dsH_at q k v g h0 h1 h2 h3 h x a) ((cutQ_at (wideQ x0) h x d).trans (h0 x _))
  refine (joinK_at _ _ _ _ a h d b hb).trans ?_
  rw [← key h]
  fin_cases h <;> rfl

include h0 h1 h3 in
/-- The block's share of the gradient of the values. -/
theorem stepV_at (h : Fin 4) (a : Fin 256) (d : Fin 512) (b : Fin 2048) (hb : (b : ℕ) = h * 512 + d) :
    stepV x0 x1 x3 (ix2 a b) = ∑ x : Fin 512, dvRow q k g h a d (R + x) := by
  have key : ∀ h : Fin 4, dkH (truncf .bf16 (softV (scoreH x0 x1 h)) bitsLt_bf16_f32) (cutQ (wideG x3) h) (ix2 a d) = ∑ x : Fin 512, dvRow q k g h a d (R + x) := by
    intro h
    rw [dkH_at]
    refine sum_congr rfl fun x _ => ?_
    unfold dvRow
    rw [dif_pos a.isLt]
    refine congrArg₂ (· * ·) ((softV_at (scoreH x0 x1 h) x a).trans ?_) ((cutQ_at (wideG x3) h x d).trans (h3 x _))
    rw [scoreH_row q k h0 h1]
  refine (joinK_at _ _ _ _ a h d b hb).trans ?_
  rw [← key h]
  fin_cases h <;> rfl

end Rows

variable (m : (ℓ : Loc nD τ sig) → Buf (Elt Ideal) ℓ)

/-- The queries as launched. -/
abbrev argQ (c : Dev nD) : S4096x2048.Idx → EReal := m ((c : Thread nD τ).loc main_arg0)
/-- The keys as launched. -/
abbrev argK (c : Dev nD) : S256x2048.Idx → EReal := m ((c : Thread nD τ).loc main_arg1)
/-- The values as launched. -/
abbrev argV (c : Dev nD) : S256x2048.Idx → EReal := m ((c : Thread nD τ).loc main_arg2)
/-- The arriving gradient as launched. -/
abbrev argG (c : Dev nD) : S4096x2048.Idx → EReal := m ((c : Thread nD τ).loc main_arg3)

/-- The blocks that grid point `t` reads or writes: the query rows from the last block to the first, the rest whole. -/
theorem idx_rev : ∀ t : Fin cfg0.N, (win0_0.index t 0 = 7 - t.val ∧ win0_0.index t 1 = 0) ∧ (win0_3.index t 0 = 7 - t.val ∧ win0_3.index t 1 = 0)
      ∧ (win0_4.index t 0 = 7 - t.val ∧ win0_4.index t 1 = 0) :=
  (by decide +kernel : ∀ t : Fin grid0.N, _)

/-- The keys, the values and their gradients are read and written whole. -/
theorem idx_whole : ∀ t : Fin cfg0.N, (win0_1.index t 0 = 0 ∧ win0_1.index t 1 = 0) ∧ (win0_2.index t 0 = 0 ∧ win0_2.index t 1 = 0)
      ∧ (win0_5.index t 0 = 0 ∧ win0_5.index t 1 = 0) ∧ (win0_6.index t 0 = 0 ∧ win0_6.index t 1 = 0) :=
  (by decide +kernel : ∀ t : Fin grid0.N, _)

/-- A read of a block at natural coordinates, from its elements. -/
theorem at2_block {A B A' : ℕ} (x : (⟨2, ![A, B]⟩ : Shape).Idx → EReal) (y : (⟨2, ![A', B]⟩ : Shape).Idx → EReal) (R : ℕ)
    (e : ∀ i : (⟨2, ![A, B]⟩ : Shape).Idx, x i = at2 y (R + (i 0).val) (i 1).val) (a : Fin A) (b : ℕ) : at2 x a b = at2 y (R + a) b := by
  by_cases h : b < B
  · exact (dif_pos ⟨a.isLt, h⟩).trans (e (ix2 a ⟨b, h⟩))
  · unfold at2
    rw [dif_neg (fun hh => h hh.2), dif_neg (fun hh => h hh.2)]

/-- The block of queries that a point reads. -/
theorem blk0 (c : Dev nD) (t : Fin cfg0.N) (a : Fin 512) (b : ℕ) :
    at2 (A := 512) (B := 2048) (iblk m c 0 t) a b = at2 (argQ m c) ((7 - t.val) * 512 + a) b := by
  refine at2_block _ _ _ (fun y => ?_) a b
  unfold iblk
  rw [View.read_apply]
  show (V m c main_arg0 : S4096x2048.Idx → EReal) _ = _
  rw [V_main_arg0]
  obtain ⟨⟨e0, e1⟩, -⟩ := idx_rev t
  refine eq_at2 _ _ _ _ ?_ ?_ <;> blk_simp
  · omega
  · omega

/-- The keys that a point reads. -/
theorem blk1 (c : Dev nD) (t : Fin cfg0.N) (a : Fin 256) (b : ℕ) :
    at2 (A := 256) (B := 2048) (iblk m c 1 t) a b = at2 (argK m c) a b := by
  refine (at2_block _ (argK m c) 0 (fun y => ?_) a b).trans (by rw [zero_add])
  unfold iblk
  rw [View.read_apply]
  show (V m c main_arg1 : S256x2048.Idx → EReal) _ = _
  rw [V_main_arg1]
  obtain ⟨⟨e0, e1⟩, -⟩ := idx_whole t
  refine eq_at2 _ _ _ _ ?_ ?_ <;> blk_simp
  · omega
  · omega

/-- The values that a point reads. -/
theorem blk2 (c : Dev nD) (t : Fin cfg0.N) (a : Fin 256) (b : ℕ) :
    at2 (A := 256) (B := 2048) (iblk m c 2 t) a b = at2 (argV m c) a b := by
  refine (at2_block _ (argV m c) 0 (fun y => ?_) a b).trans (by rw [zero_add])
  unfold iblk
  rw [View.read_apply]
  show (V m c main_arg2 : S256x2048.Idx → EReal) _ = _
  rw [V_main_arg2]
  obtain ⟨-, ⟨e0, e1⟩, -⟩ := idx_whole t
  refine eq_at2 _ _ _ _ ?_ ?_ <;> blk_simp
  · omega
  · omega

/-- The block of the arriving gradient that a point reads. -/
theorem blk3 (c : Dev nD) (t : Fin cfg0.N) (a : Fin 512) (b : ℕ) :
    at2 (A := 512) (B := 2048) (iblk m c 3 t) a b = at2 (argG m c) ((7 - t.val) * 512 + a) b := by
  refine at2_block _ _ _ (fun y => ?_) a b
  unfold iblk
  rw [View.read_apply]
  show (V m c main_arg3 : S4096x2048.Idx → EReal) _ = _
  rw [V_main_arg3]
  obtain ⟨-, ⟨e0, e1⟩, -⟩ := idx_rev t
  refine eq_at2 _ _ _ _ ?_ ?_ <;> blk_simp
  · omega
  · omega

/-- The block of the queries' gradient after point `t`. -/
theorem after4 (c : Dev nD) (t : Fin cfg0.N) : (outsAt0 m c t.val t.isLt).1 = stepQ (iblk m c 0 t) (iblk m c 1 t) (iblk m c 2 t) (iblk m c 3 t) := by
  by_cases h : t.val % 8 = 0
  · rw [outsAt0_A m c t h]
    dsimp only
    rw [outA4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) ((hcond0_0 t).mpr h)]
  · rw [outsAt0_B m c t h]
    dsimp only
    rw [outB4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun e => h ((hcond0_0 t).mp e))]

/-- The keys' accumulator after the first point. -/
theorem after5_first (c : Dev nD) (t : Fin cfg0.N) (h : t.val % 8 = 0) :
    (outsAt0 m c t.val t.isLt).2.1 = grow (k0_pay74 (F := Ideal)) (stepK (iblk m c 0 t) (iblk m c 1 t) (iblk m c 2 t) (iblk m c 3 t)) := by
  rw [outsAt0_A m c t h]
  dsimp only
  rw [outA5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) ((hcond0_0 t).mpr h)]

/-- The values' accumulator after the first point. -/
theorem after6_first (c : Dev nD) (t : Fin cfg0.N) (h : t.val % 8 = 0) :
    (outsAt0 m c t.val t.isLt).2.2 = grow (k0_pay75 (F := Ideal)) (stepV (iblk m c 0 t) (iblk m c 1 t) (iblk m c 3 t)) := by
  rw [outsAt0_A m c t h]
  dsimp only
  rw [outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) ((hcond0_0 t).mpr h)]

/-- The keys' accumulator after a later point. -/
theorem after5_next (c : Dev nD) (t : Fin cfg0.N) (h : ¬t.val % 8 = 0) :
    (outsAt0 m c t.val t.isLt).2.1 = grow (outsAt0 m c (t.val - 1) (Nat.lt_of_le_of_lt (Nat.sub_le _ _) t.isLt)).2.1 (stepK (iblk m c 0 t) (iblk m c 1 t) (iblk m c 2 t) (iblk m c 3 t)) := by
  rw [outsAt0_B m c t h]
  dsimp only
  rw [outB5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun e => h ((hcond0_0 t).mp e))]

/-- The values' accumulator after a later point. -/
theorem after6_next (c : Dev nD) (t : Fin cfg0.N) (h : ¬t.val % 8 = 0) :
    (outsAt0 m c t.val t.isLt).2.2 = grow (outsAt0 m c (t.val - 1) (Nat.lt_of_le_of_lt (Nat.sub_le _ _) t.isLt)).2.2 (stepV (iblk m c 0 t) (iblk m c 1 t) (iblk m c 3 t)) := by
  rw [outsAt0_B m c t h]
  dsimp only
  rw [outB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (iblk m c 3 t) (outsAt0 m c (t.val - 1) (Nat.lt_of_le_of_lt (Nat.sub_le _ _) t.isLt)).2.1 (outsAt0 m c (t.val - 1) (Nat.lt_of_le_of_lt (Nat.sub_le _ _) t.isLt)).2.2 (fun e => h ((hcond0_0 t).mp e))]

/-- What block `s` adds to the keys' accumulator. -/
def addK (c : Dev nD) (h j d s : ℕ) : EReal := ∑ x : Fin 512, dkRow (argQ m c) (argK m c) (argV m c) (argG m c) h j d ((7 - s) * 512 + x)
/-- What block `s` adds to the values' accumulator. -/
def addV (c : Dev nD) (h j d s : ℕ) : EReal := ∑ x : Fin 512, dvRow (argQ m c) (argK m c) (argG m c) h j d ((7 - s) * 512 + x)

/-- The two accumulators after point `t` hold the shares of the blocks so far. -/
theorem after56 (c : Dev nD) (h : Fin 4) (a : Fin 256) (d : Fin 512) (b : Fin 2048) (hb : (b : ℕ) = h * 512 + d) :
    ∀ (t : ℕ) (ht : t < cfg0.N), (outsAt0 m c t ht).2.1 (ix2 a b) = ∑ s ∈ range (t + 1), addK m c h a d s
      ∧ (outsAt0 m c t ht).2.2 (ix2 a b) = ∑ s ∈ range (t + 1), addV m c h a d s := by
  intro t
  induction t with
  | zero =>
    intro ht
    have hk := stepK_at _ _ _ _ (blk0 m c ⟨0, ht⟩) (blk1 m c ⟨0, ht⟩) (blk2 m c ⟨0, ht⟩) (blk3 m c ⟨0, ht⟩) h a d b hb
    have hv := stepV_at _ _ _ (blk0 m c ⟨0, ht⟩) (blk1 m c ⟨0, ht⟩) (blk3 m c ⟨0, ht⟩) h a d b hb
    have e5 := congrFun (after5_first m c ⟨0, ht⟩ rfl) (ix2 a b)
    have e6 := congrFun (after6_first m c ⟨0, ht⟩ rfl) (ix2 a b)
    rw [grow_at, zero5_at, zero_add, hk] at e5
    rw [grow_at, zero6_at, zero_add, hv] at e6
    simp only [zero_add, range_one, sum_singleton]
    exact ⟨e5, e6⟩
  | succ t ih =>
    intro ht
    obtain ⟨i5, i6⟩ := ih (by omega)
    have hN : cfg0.N = 8 := rfl
    have hk := stepK_at _ _ _ _ (blk0 m c ⟨t + 1, ht⟩) (blk1 m c ⟨t + 1, ht⟩) (blk2 m c ⟨t + 1, ht⟩) (blk3 m c ⟨t + 1, ht⟩) h a d b hb
    have hv := stepV_at _ _ _ (blk0 m c ⟨t + 1, ht⟩) (blk1 m c ⟨t + 1, ht⟩) (blk3 m c ⟨t + 1, ht⟩) h a d b hb
    have hne : ¬ (t + 1) % 8 = 0 := by omega
    have e5 := congrFun (after5_next m c ⟨t + 1, ht⟩ hne) (ix2 a b)
    have e6 := congrFun (after6_next m c ⟨t + 1, ht⟩ hne) (ix2 a b)
    rw [grow_at, hk] at e5
    rw [grow_at, hv] at e6
    rw [sum_range_succ _ (t + 1), sum_range_succ _ (t + 1)]
    exact ⟨e5.trans (congrArg (· + _) i5), e6.trans (congrArg (· + _) i6)⟩

/-- The eight shares, from the last block to the first, are the sum over all the rows. -/
theorem shares (f : ℕ → EReal) : ∑ s ∈ range 8, ∑ x : Fin 512, f ((7 - s) * 512 + x) = ∑ r : Fin 4096, f r := by
  rw [← sum_range_reflect]
  refine Eq.trans (sum_congr rfl fun s hs => ?_) (sum_blocks 8 512 f)
  have h8 : s < 8 := mem_range.1 hs
  rw [show 7 - (8 - 1 - s) = s by omega]

/-- The gradient of the queries. -/
def resultQ (c : Dev nD) : S4096x2048.Idx → EReal := fun i =>
  dqAt (argQ m c) (argK m c) (argV m c) (argG m c) ((i 1).val / 512) (i 0).val ((i 1).val % 512)
/-- The gradient of the keys. -/
def resultK (c : Dev nD) : S256x2048.Idx → EReal := fun i =>
  ∑ r : Fin 4096, dkRow (argQ m c) (argK m c) (argV m c) (argG m c) ((i 1).val / 512) (i 0).val ((i 1).val % 512) r
/-- The gradient of the values. -/
def resultV (c : Dev nD) : S256x2048.Idx → EReal := fun i =>
  ∑ r : Fin 4096, dvRow (argQ m c) (argK m c) (argG m c) ((i 1).val / 512) (i 0).val ((i 1).val % 512) r

/-- The queries' gradient at given coordinates. -/
theorem resultQ_at (c : Dev nD) (i : S4096x2048.Idx) (h r d : ℕ) (hh : (i 1).val / 512 = h) (hr : (i 0).val = r) (hd : (i 1).val % 512 = d) :
    dqAt (argQ m c) (argK m c) (argV m c) (argG m c) h r d = resultQ m c i := by
  subst hh hr hd; rfl

/-- The keys' gradient at given coordinates. -/
theorem resultK_at (c : Dev nD) (i : S256x2048.Idx) (h j d : ℕ) (hh : (i 1).val / 512 = h) (hr : (i 0).val = j) (hd : (i 1).val % 512 = d) :
    ∑ r : Fin 4096, dkRow (argQ m c) (argK m c) (argV m c) (argG m c) h j d r = resultK m c i := by
  subst hh hr hd; rfl

/-- The values' gradient at given coordinates. -/
theorem resultV_at (c : Dev nD) (i : S256x2048.Idx) (h j d : ℕ) (hh : (i 1).val / 512 = h) (hr : (i 0).val = j) (hd : (i 1).val % 512 = d) :
    ∑ r : Fin 4096, dvRow (argQ m c) (argK m c) (argG m c) h j d r = resultV m c i := by
  subst hh hr hd; rfl

/-- What the call leaves in the queries' gradient. -/
theorem finalQ (c : Dev nD) : (dats m 0 c).arrAt 4 cfg0.N = resultQ m c := by
  refine (dats m 0 c).arrAt_eq_of_covers 4 (resultQ m c) (by decide +kernel) fun t hf y => ?_
  obtain ⟨-, -, e0, e1⟩ := idx_rev t
  have h0 : (y 0).val < 512 := (y 0).isLt
  have h1 : (y 1).val < 2048 := (y 1).isLt
  blk_simp
  rw [after0_4, after4]
  refine (congrArg (stepQ _ _ _ _) (eq_ix2 y)).trans ?_
  refine (stepQ_at _ _ _ _ (blk0 m c t) (blk1 m c t) (blk2 m c t) (blk3 m c t) ⟨(y 1).val / 512, by omega⟩ (y 0)
    ⟨(y 1).val % 512, by omega⟩ (y 1) (by show (y 1).val = (y 1).val / 512 * 512 + (y 1).val % 512; omega)).trans ?_
  refine resultQ_at m c _ _ _ _ ?_ ?_ ?_ <;> blk_simp <;> dsimp only <;> omega

/-- What the call leaves in the keys' gradient. -/
theorem finalK (c : Dev nD) : (dats m 0 c).arrAt 5 cfg0.N = resultK m c := by
  refine (dats m 0 c).arrAt_eq_of_covers 5 (resultK m c) (by decide +kernel) fun t hf y => ?_
  obtain ⟨-, -, ⟨e0, e1⟩, -⟩ := idx_whole t
  have h0 : (y 0).val < 256 := (y 0).isLt
  have h1 : (y 1).val < 2048 := (y 1).isLt
  have ht : t.val = 7 := by have := (flush0_5 t).mp hf; have := t.isLt; have hN : cfg0.N = 8 := rfl; omega
  blk_simp
  rw [after0_5]
  refine (congrArg ((outsAt0 m c t.val t.isLt).2.1) (eq_ix2 y)).trans ?_
  refine ((after56 m c ⟨(y 1).val / 512, by omega⟩ (y 0)
    ⟨(y 1).val % 512, by omega⟩ (y 1) (by show (y 1).val = (y 1).val / 512 * 512 + (y 1).val % 512; omega)) t.val t.isLt).1.trans ?_
  rw [ht]
  refine (shares (dkRow (argQ m c) (argK m c) (argV m c) (argG m c) ((y 1).val / 512) (y 0).val ((y 1).val % 512))).trans ?_
  refine resultK_at m c _ _ _ _ ?_ ?_ ?_ <;> blk_simp <;> omega

/-- What the call leaves in the values' gradient. -/
theorem finalV (c : Dev nD) : (dats m 0 c).arrAt 6 cfg0.N = resultV m c := by
  refine (dats m 0 c).arrAt_eq_of_covers 6 (resultV m c) (by decide +kernel) fun t hf y => ?_
  obtain ⟨-, -, -, ⟨e0, e1⟩⟩ := idx_whole t
  have h0 : (y 0).val < 256 := (y 0).isLt
  have h1 : (y 1).val < 2048 := (y 1).isLt
  have ht : t.val = 7 := by have := (flush0_6 t).mp hf; have := t.isLt; have hN : cfg0.N = 8 := rfl; omega
  blk_simp
  rw [after0_6]
  refine (congrArg ((outsAt0 m c t.val t.isLt).2.2) (eq_ix2 y)).trans ?_
  refine ((after56 m c ⟨(y 1).val / 512, by omega⟩ (y 0)
    ⟨(y 1).val % 512, by omega⟩ (y 1) (by show (y 1).val = (y 1).val / 512 * 512 + (y 1).val % 512; omega)) t.val t.isLt).2.trans ?_
  rw [ht]
  refine (shares (dvRow (argQ m c) (argK m c) (argG m c) ((y 1).val / 512) (y 0).val ((y 1).val % 512))).trans ?_
  refine resultV_at m c _ _ _ _ ?_ ?_ ?_ <;> blk_simp <;> omega

end Cert.KernelIdeal.Attention
-- ==== Proof.AttnRef.lean ====
/- The reference of the attention's backward step, entry by entry: the gradient of the scores leaves the row's maximum out,
   and the three results are its sums against the keys and the queries, and the sum of the softmax against the arriving
   gradient. -/
module

public import proofs.«01_k».proof.Proof.AttnBlocks
public import proofs.«01_k».proof.Proof.Gen.ReferenceIdeal.Read

@[expose] public section

noncomputable section

namespace Cert.ReferenceIdeal.Attention

open Cert.ReferenceIdeal Cert.ReferenceIdeal.Read Cert.Blocked Cert.Softmax
open Facts₀ Facts
open Cert.KernelIdeal.Attention (score arrive scale ofBits_bot)
open Idealize.ShloMosaic Idealize.ShloMosaic.TcCoe Idealize.SL.Sem
open Finset

/-- Close an equality of reads at natural coordinates: both coordinates by arithmetic. -/
theorem read_at {A B : ℕ} (x : (⟨2, ![A, B]⟩ : Shape).Idx → EReal) (i : (⟨2, ![A, B]⟩ : Shape).Idx) (a b : ℕ) (ha : (i 0).val = a) (hb : (i 1).val = b) :
    x i = at2 x a b := eq_at2 x i a b ha hb

variable (x0 : S4096x2048.Idx → EReal) (x1 x2 : S256x2048.Idx → EReal) (x3 : S4096x2048.Idx → EReal)

/-- The queries, a head to an axis. -/
theorem q_at (i : S1x4096x4x512.Idx) : val_main_v1 (F := Ideal) x0 i = at2 x0 (i 1).val ((i 2).val * 512 + (i 3).val) := by
  have h0 : (i 0).val < 1 := (i 0).isLt
  have h1 : (i 1).val < 4096 := (i 1).isLt
  have h2 : (i 2).val < 4 := (i 2).isLt
  have h3 : (i 3).val < 512 := (i 3).isLt
  rw [val_main_v1_apply]
  refine read_at x0 _ _ _ ?_ ?_
  · show ((((i 0).val * 4096 + (i 1).val) * 4 + (i 2).val) * 512 + (i 3).val) / 2048 = _; omega
  · show ((((i 0).val * 4096 + (i 1).val) * 4 + (i 2).val) * 512 + (i 3).val) % 2048 = _; omega

/-- The arriving gradient, a head to an axis. -/
theorem g_at (i : S1x4x512x4096.Idx) : val_main_v40 (F := Ideal) x3 i = at2 x3 (i 3).val ((i 1).val * 512 + (i 2).val) := by
  have h0 : (i 0).val < 1 := (i 0).isLt
  have h1 : (i 1).val < 4 := (i 1).isLt
  have h2 : (i 2).val < 512 := (i 2).isLt
  have h3 : (i 3).val < 4096 := (i 3).isLt
  rw [val_main_v40_apply, val_main_v39_apply]
  refine read_at x3 _ _ _ ?_ ?_
  · show ((((i 0).val * 4096 + (i 3).val) * 4 + (i 1).val) * 512 + (i 2).val) / 2048 = _; omega
  · show ((((i 0).val * 4096 + (i 3).val) * 4 + (i 1).val) * 512 + (i 2).val) % 2048 = _; omega

/-- The keys, a head to an axis. -/
theorem k_at (i : S1x256x4x512.Idx) : val_main_v2 (F := Ideal) x1 i = at2 x1 (i 1).val ((i 2).val * 512 + (i 3).val) := by
  have h0 : (i 0).val < 1 := (i 0).isLt
  have h1 : (i 1).val < 256 := (i 1).isLt
  have h2 : (i 2).val < 4 := (i 2).isLt
  have h3 : (i 3).val < 512 := (i 3).isLt
  rw [val_main_v2_apply]
  refine read_at x1 _ _ _ ?_ ?_
  · show ((((i 0).val * 256 + (i 1).val) * 4 + (i 2).val) * 512 + (i 3).val) / 2048 = _; omega
  · show ((((i 0).val * 256 + (i 1).val) * 4 + (i 2).val) * 512 + (i 3).val) % 2048 = _; omega

/-- The values, a head to an axis. -/
theorem v_at (i : S1x256x4x512.Idx) : val_main_v3 (F := Ideal) x2 i = at2 x2 (i 1).val ((i 2).val * 512 + (i 3).val) := k_at x2 i

/-- The scaled scores. -/
theorem score_at (i : S1x4x4096x256.Idx) : val_main_v6 (F := Ideal) x0 x1 i = score x0 x1 (i 1).val (i 2).val ⟨(i 3).val, (i 3).isLt⟩ := by
  rw [val_main_v6_apply, val_main_v4_apply, val_main_v5_apply, val_main_cst_apply]
  refine congrArg (· * scale) (sum_congr rfl fun d _ => ?_)
  rw [q_at, k_at]

/-- The gradient that arrives at the softmax. -/
theorem arrive_at (i : S1x4x4096x256.Idx) : val_main_v41 (F := Ideal) x2 x3 i = arrive x2 x3 (i 1).val (i 2).val ⟨(i 3).val, (i 3).isLt⟩ := by
  rw [val_main_v41_apply]
  refine sum_congr rfl fun d _ => ?_
  rw [g_at, v_at]

/-- A row's maximum. -/
theorem top_at (j : S1x4x4096.Idx) : val_main_v7 (F := Ideal) x0 x1 j = top (score x0 x1 (j 1).val (j 2).val) := by
  have hs := score_at x0 x1
  unfold val_main_v7
  revert hs
  generalize val_main_v6 (F := Ideal) x0 x1 = y
  intro hs
  refine (Host.reduce_eq_fold_single (max : EReal → EReal → EReal) y _ reducesTo_S1x4x4096x256_S1x4x4096_d3 (by decide) h_S_ j).trans ?_
  rw [val_main_cst_0_apply]
  refine (congrArg (fun b => fold max b _ _) ofBits_bot).trans (fold_congr fun k _ => ?_)
  exact hs _

/-- The maximum the scores are shifted by. -/
theorem shift_at (i : S1x4x4096x256.Idx) : val_main_v25 (F := Ideal) x0 x1 i = top (score x0 x1 (i 1).val (i 2).val) := by
  rw [val_main_v25_apply, val_main_v24_apply, val_main_v14_apply, val_main_v13_apply, val_main_cst_2_apply, top_at]
  exact (congrArg (fun b => max b _) ofBits_bot).trans (max_eq_right bot_le)

/-- The shifted exponentials. -/
theorem expo_at (i : S1x4x4096x256.Idx) : val_main_v27 (F := Ideal) x0 x1 i = expo (score x0 x1 (i 1).val (i 2).val) ⟨(i 3).val, (i 3).isLt⟩ := by
  rw [val_main_v27_apply, val_main_v26_apply, score_at, shift_at]
  rfl

/-- The sums of a row's exponentials. -/
theorem mass_at (i : S1x4x4096x1.Idx) : val_main_v29 (F := Ideal) x0 x1 i = mass (score x0 x1 (i 1).val (i 2).val) := by
  rw [val_main_v29_apply, val_main_v28_apply, val_main_cst_8_apply]
  refine (congrArg (· + _) Ideal.ofBits_zero_f32).trans ((zero_add _).trans (sum_congr rfl fun k _ => ?_))
  rw [expo_at]

/-- The softmax. -/
theorem soft_at (i : S1x4x4096x256.Idx) : val_main_v31 (F := Ideal) x0 x1 i = soft (score x0 x1 (i 1).val (i 2).val) ⟨(i 3).val, (i 3).isLt⟩ := by
  rw [val_main_v31_apply, val_main_v30_apply, mass_at, expo_at]
  rfl

/-- The gradient of the quotient's divisor. -/
theorem total_at (j : S1x4x4096.Idx) : val_main_v47 (F := Ideal) x0 x1 x2 x3 j
    = ∑ k, arrive x2 x3 (j 1).val (j 2).val k * Ideal.div 1 (mass (score x0 x1 (j 1).val (j 2).val) * mass (score x0 x1 (j 1).val (j 2).val)) * expo (score x0 x1 (j 1).val (j 2).val) k := by
  rw [val_main_v47_apply, val_main_cst_10_apply]
  refine (congrArg (· + _) Ideal.ofBits_zero_f32).trans ((zero_add _).trans (sum_congr rfl fun k _ => ?_))
  rw [val_main_v46_apply, val_main_v45_apply, val_main_v44_apply, val_main_v34_apply, val_main_v33_apply, val_main_v32_apply, val_main_cst_9_apply,
    arrive_at, expo_at, mass_at]
  refine congrArg (fun b => arrive x2 x3 (j 1).val (j 2).val k * Ideal.div b _ * _) Ideal.ofBits_one_f32

/-- A sum over the two unit axes keeps the one entry. -/
theorem neg_at (j : S4x4096.Idx) : val_main_v52 (F := Ideal) x0 x1 x2 x3 j
    = 0 - ∑ k, arrive x2 x3 (j 0).val (j 1).val k * Ideal.div 1 (mass (score x0 x1 (j 0).val (j 1).val) * mass (score x0 x1 (j 0).val (j 1).val)) * expo (score x0 x1 (j 0).val (j 1).val) k := by
  have hn : ∀ i, val_main_v49 (F := Ideal) x0 x1 x2 x3 i = 0 - ∑ k, arrive x2 x3 (i 1).val (i 2).val k * Ideal.div 1 (mass (score x0 x1 (i 1).val (i 2).val) * mass (score x0 x1 (i 1).val (i 2).val)) * expo (score x0 x1 (i 1).val (i 2).val) k := by
    intro i
    have h0 : (i 0).val < 1 := (i 0).isLt
    have h1 : (i 1).val < 4 := (i 1).isLt
    have h2 : (i 2).val < 4096 := (i 2).isLt
    have h3 : (i 3).val < 1 := (i 3).isLt
    have e1 : (idx_main_v48 i 1).val = (i 1).val := by dsimp only; omega
    have e2 : (idx_main_v48 i 2).val = (i 2).val := by dsimp only; omega
    rw [val_main_v49_apply, val_main_v48_apply, total_at, e1, e2]
    show -(_ : EReal) = _
    exact (zero_sub (G := EReal) _).symm
  unfold val_main_v52
  revert hn
  generalize val_main_v49 (F := Ideal) x0 x1 x2 x3 = y
  intro hn
  have h0 : (j 0).val < 4 := (j 0).isLt
  have h1 : (j 1).val < 4096 := (j 1).isLt
  let i0 : S1x4x4096x1.Idx := fun a => match a with
    | ⟨0, _⟩ => ⟨0, Nat.one_pos⟩
    | ⟨1, _⟩ => ⟨(j 0).val, h0⟩
    | ⟨2, _⟩ => ⟨(j 1).val, h1⟩
    | ⟨3, _⟩ => ⟨0, Nat.one_pos⟩
  have hf : univ.filter (fun i => reducesTo_S1x4x4096x1_S4x4096_d0_3.drop i = j) = {i0} := by
    ext i
    rw [mem_filter, mem_singleton]
    have e0 : (reducesTo_S1x4x4096x1_S4x4096_d0_3.drop i 0).val = (i 1).val := Shape.ReducesTo.drop_apply_val_of_eq _ i 0 1 (by decide)
    have e1 : (reducesTo_S1x4x4096x1_S4x4096_d0_3.drop i 1).val = (i 2).val := Shape.ReducesTo.drop_apply_val_of_eq _ i 1 2 (by decide)
    have l0 : (i 0).val < 1 := (i 0).isLt
    have l3 : (i 3).val < 1 := (i 3).isLt
    constructor
    · rintro ⟨-, h⟩
      rw [h] at e0 e1
      funext a
      refine Fin.ext ?_
      match a with
      | ⟨0, _⟩ => show (i 0).val = 0; omega
      | ⟨1, _⟩ => exact e0.symm
      | ⟨2, _⟩ => exact e1.symm
      | ⟨3, _⟩ => show (i 3).val = 0; omega
    · intro h
      refine ⟨mem_univ _, ?_⟩
      subst h
      funext b
      refine Fin.ext ?_
      match b with
      | ⟨0, _⟩ => exact e0
      | ⟨1, _⟩ => exact e1
  refine (congrArg₂ (fun b (t : Finset S1x4x4096x1.Idx) => b + ∑ i ∈ t, y i) Ideal.ofBits_zero_f32 hf).trans ?_
  simp only [zero_add, sum_singleton]
  exact hn i0

/-- The gradient of the scores. -/
theorem ds_at (i : S1x4x4096x256.Idx) : val_main_v58 (F := Ideal) x0 x1 x2 x3 i
    = shifted (score x0 x1 (i 1).val (i 2).val) (arrive x2 x3 (i 1).val (i 2).val) ⟨(i 3).val, (i 3).isLt⟩ * scale := by
  rw [val_main_v58_apply, val_main_v57_apply, val_main_cst_12_apply, val_main_v56_apply, val_main_v55_apply, val_main_v54_apply, val_main_v53_apply,
    val_main_v51_apply, val_main_v50_apply, neg_at, mass_at, expo_at, arrive_at]
  rfl

/-- The gradient of the queries. -/
theorem dq_at (i : S4096x2048.Idx) : val_main_v66 (F := Ideal) x0 x1 x2 x3 i
    = ∑ k : Fin 256, shifted (score x0 x1 ((i 1).val / 512) (i 0).val) (arrive x2 x3 ((i 1).val / 512) (i 0).val) k * scale * at2 x1 k ((i 1).val / 512 * 512 + (i 1).val % 512) := by
  have h0 : (i 0).val < 4096 := (i 0).isLt
  have h1 : (i 1).val < 2048 := (i 1).isLt
  have e0 : ((i 0).val * 2048 + (i 1).val) / 2048 % 4096 = (i 0).val := by omega
  have e1 : ((i 0).val * 2048 + (i 1).val) / 512 % 4 = (i 1).val / 512 := by omega
  have e2 : ((i 0).val * 2048 + (i 1).val) % 512 = (i 1).val % 512 := by omega
  rw [val_main_v66_apply, val_main_v65_apply, val_main_v62_apply]
  refine (val_main_v61_apply x0 x1 x2 x3 _).trans (sum_congr rfl fun k _ => ?_)
  rw [ds_at, k_at]
  dsimp only
  rw [e0, e1, e2]

/-- The gradient of the keys. -/
theorem dk_at (i : S256x2048.Idx) : val_main_v64 (F := Ideal) x0 x1 x2 x3 i
    = ∑ r : Fin 4096, shifted (score x0 x1 ((i 1).val / 512) r) (arrive x2 x3 ((i 1).val / 512) r) ⟨(i 0).val, (i 0).isLt⟩ * scale * at2 x0 r ((i 1).val / 512 * 512 + (i 1).val % 512) := by
  have h0 : (i 0).val < 256 := (i 0).isLt
  have h1 : (i 1).val < 2048 := (i 1).isLt
  have e0 : ((i 0).val * 2048 + (i 1).val) / 2048 % 256 = (i 0).val := by omega
  have e1 : ((i 0).val * 2048 + (i 1).val) / 512 % 4 = (i 1).val / 512 := by omega
  have e2 : ((i 0).val * 2048 + (i 1).val) % 512 = (i 1).val % 512 := by omega
  rw [val_main_v64_apply, val_main_v60_apply, val_main_v59_apply]
  refine sum_congr rfl fun k _ => ?_
  rw [ds_at, q_at]
  dsimp only
  simp only [e0, e1, e2]

/-- The gradient of the values. -/
theorem dv_at (i : S256x2048.Idx) : val_main_v63 (F := Ideal) x0 x1 x3 i
    = ∑ r : Fin 4096, soft (score x0 x1 ((i 1).val / 512) r) ⟨(i 0).val, (i 0).isLt⟩ * at2 x3 r ((i 1).val / 512 * 512 + (i 1).val % 512) := by
  have h0 : (i 0).val < 256 := (i 0).isLt
  have h1 : (i 1).val < 2048 := (i 1).isLt
  have e0 : ((i 0).val * 2048 + (i 1).val) / 2048 % 256 = (i 0).val := by omega
  have e1 : ((i 0).val * 2048 + (i 1).val) / 512 % 4 = (i 1).val / 512 := by omega
  have e2 : ((i 0).val * 2048 + (i 1).val) % 512 = (i 1).val % 512 := by omega
  rw [val_main_v63_apply, val_main_v43_apply, val_main_v42_apply]
  refine sum_congr rfl fun k _ => ?_
  rw [soft_at, g_at, mul_comm]
  dsimp only
  simp only [e0, e1, e2]

end Cert.ReferenceIdeal.Attention
-- ==== Proof.Attention.lean ====
/- The attention's backward step: the kernel's three results are the reference's, on arguments that are all real. -/
module

public import proofs.«01_k».proof.Defs
public import proofs.«01_k».proof.Proof.Softmax
public import proofs.«01_k».proof.Proof.AttnBlocks
public import proofs.«01_k».proof.Proof.AttnRef
public import proofs.«01_k».proof.Proof.Gen.ReferenceIdeal.Run
public import proofs.«01_k».proof.Proof.Gen.Pre_arguments_finite

@[expose] public section

noncomputable section

namespace Cert.Proof.Attention

open Cert.KernelIdeal.Attention Cert.Blocked
open Idealize.ShloMosaic Idealize.ShloMosaic.TcCoe Idealize.SL.Sem
open Finset

/-- An extended real below both infinities is a real. -/
theorem real_of_lt (x : EReal) (h : max x (-x) < ⊤) : ∃ r : ℝ, x = r := by
  induction x with
  | bot => simp at h
  | top => simp at h
  | coe r => exact ⟨r, rfl⟩

/-- The precondition's element test, opened. -/
theorem real_of_test (x : EReal) (h : FloatOps.cmpf (F := Ideal) (φ := .f32) .olt (max x (-x)) (Ideal.ofBits .f32 0x7F800000#32) = 1#1) : ∃ r : ℝ, x = r := by
  have ht : Ideal.ofBits .f32 0x7F800000#32 = ⊤ := by simp [Ideal.ofBits, Ideal.ieee]
  rw [ht] at h
  refine real_of_lt x ?_
  by_contra hn
  have : FloatOps.cmpf (F := Ideal) (φ := .f32) .olt (max x (-x)) ⊤ = 0#1 := by
    show Ideal.cmp .olt (max x (-x)) ⊤ = 0#1
    simp [Ideal.cmp, hn]
  rw [this] at h
  exact absurd h (by decide)

/-- A read of an array of reals is real. -/
theorem real_at2 {A B : ℕ} (x : (⟨2, ![A, B]⟩ : Shape).Idx → EReal) (hx : ∀ i, ∃ r : ℝ, x i = r) (a b : ℕ) : ∃ r : ℝ, at2 x a b = r := by
  unfold at2
  split_ifs
  · exact hx _
  · exact ⟨0, rfl⟩

/-- A sum of products of reals is real. -/
theorem real_dot {n : ℕ} (f g : Fin n → EReal) (hf : ∀ d, ∃ r : ℝ, f d = r) (hg : ∀ d, ∃ r : ℝ, g d = r) : ∃ r : ℝ, ∑ d, f d * g d = r := by
  choose a ha using hf
  choose b hb using hg
  refine ⟨∑ d, a d * b d, ?_⟩
  rw [Softmax.coe_sum]
  exact sum_congr rfl fun d _ => by rw [ha, hb, EReal.coe_mul]

/-- The scale is real. -/
theorem real_scale : ∃ r : ℝ, scale = r := by
  unfold scale
  simp only [Ideal.ofBits, Ideal.ieee]
  exact ⟨_, rfl⟩

variable (q : (⟨2, ![4096, 2048]⟩ : Shape).Idx → EReal) (k v : (⟨2, ![256, 2048]⟩ : Shape).Idx → EReal) (g : (⟨2, ![4096, 2048]⟩ : Shape).Idx → EReal)
  (hq : ∀ i, ∃ r : ℝ, q i = r) (hk : ∀ i, ∃ r : ℝ, k i = r) (hv : ∀ i, ∃ r : ℝ, v i = r) (hg : ∀ i, ∃ r : ℝ, g i = r)

include hq hk hv hg in
/-- On real arguments the gradient of the scores is the one that leaves the maximum out. -/
theorem dsLong_real (h r : ℕ) (j : Fin 256) : dsLong q k v g h r j = Softmax.shifted (score q k h r) (arrive v g h r) j * scale := by
  have hs : ∀ j, ∃ x : ℝ, score q k h r j = x := by
    intro j
    obtain ⟨x, hx⟩ := real_dot _ _ (fun d : Fin 512 => real_at2 q hq r (h * 512 + d)) (fun d : Fin 512 => real_at2 k hk j (h * 512 + d))
    obtain ⟨y, hy⟩ := real_scale
    exact ⟨x * y, by unfold score; rw [hx, hy, EReal.coe_mul]⟩
  have ha : ∀ j, ∃ x : ℝ, arrive v g h r j = x := fun j =>
    real_dot _ _ (fun d : Fin 512 => real_at2 g hg r (h * 512 + d)) (fun d : Fin 512 => real_at2 v hv j (h * 512 + d))
  choose σ hσ using hs
  choose γ hγ using ha
  unfold dsLong
  rw [funext hσ, funext hγ]
  exact congrArg (· * scale) (Softmax.long_eq_shifted σ γ j)

/-- What the precondition says of the launched arguments: every element is real. -/
theorem args_real (m : (ℓ : Loc Cert.KernelIdeal.nD Cert.KernelIdeal.τ Cert.KernelIdeal.sig) → Buf (Elt Ideal) ℓ)
    (hp : Cert.Pre_KernelIdeal_arguments_finite (hPre_arguments_finite := Cert.Pre_arguments_finite.Gen.facts) m) (c : Dev Cert.KernelIdeal.nD) :
    (∀ i, ∃ r : ℝ, argQ m c i = r) ∧ (∀ i, ∃ r : ℝ, argK m c i = r) ∧ (∀ i, ∃ r : ℝ, argV m c i = r) ∧ (∀ i, ∃ r : ℝ, argG m c i = r) := by
  obtain ⟨h0, h1, h2, h3⟩ := hp c
  exact ⟨fun i => real_of_test _ (congrFun h0 i), fun i => real_of_test _ (congrFun h1 i), fun i => real_of_test _ (congrFun h2 i),
    fun i => real_of_test _ (congrFun h3 i)⟩

/-- From memories that agree on the arguments, all of them real, both programs end with the same three results, and the
    arguments unchanged. -/
theorem algebraic : Cert.algebraic_KernelIdeal_ReferenceIdeal_pre_arguments_finite (hPre_arguments_finite := Cert.Pre_arguments_finite.Gen.facts) := by
  intro m ρ m' ρ' hp hag
  refine ⟨fun c => resultQ m c, fun c => resultK m c, fun c => resultV m c,
    (θ_run Cert.KernelIdeal.defs _ _).mono (fun r h c => ⟨(h c).1.trans (finalQ m c), (h c).2.1.trans (finalK m c), (h c).2.2.1.trans (finalV m c), (h c).2.2.2⟩)
      (Cert.KernelIdeal.Value.run_blocks m ρ), ?_⟩
  refine (θ_run Cert.ReferenceIdeal.defs _ _).mono (fun r h c => ⟨(h c).1.trans ?_, (h c).2.1.trans ?_, (h c).2.2.1.trans ?_, (h c).2.2.2⟩)
    (Cert.ReferenceIdeal.Value.run m' ρ')
  all_goals obtain ⟨hq, hk, hv, hg⟩ := args_real m hp c
  · rw [Cert.ReferenceIdeal.Read.val_main_v66_eq]
    funext i
    refine (Cert.ReferenceIdeal.Attention.dq_at _ _ _ _ i).trans ?_
    rw [(hag c).1, (hag c).2.1, (hag c).2.2.1, (hag c).2.2.2]
    show _ = dqAt (argQ m c) (argK m c) (argV m c) (argG m c) ((i 1).val / 512) (i 0).val ((i 1).val % 512)
    unfold dqAt
    refine sum_congr rfl fun j _ => ?_
    rw [dsLong_real _ _ _ _ hq hk hv hg]
  · rw [Cert.ReferenceIdeal.Read.val_main_v64_eq]
    funext i
    refine (Cert.ReferenceIdeal.Attention.dk_at _ _ _ _ i).trans ?_
    rw [(hag c).1, (hag c).2.1, (hag c).2.2.1, (hag c).2.2.2]
    refine sum_congr rfl fun r _ => ?_
    unfold dkRow
    rw [dif_pos (show (i 0).val < 256 from (i 0).isLt), dsLong_real _ _ _ _ hq hk hv hg]
  · rw [Cert.ReferenceIdeal.Read.val_main_v63_eq]
    funext i
    refine (Cert.ReferenceIdeal.Attention.dv_at _ _ _ i).trans ?_
    rw [(hag c).1, (hag c).2.1, (hag c).2.2.2]
    refine sum_congr rfl fun r _ => ?_
    unfold dvRow
    rw [dif_pos (show (i 0).val < 256 from (i 0).isLt)]

/-- The reference runs to its end, leaves its arguments unchanged and every counter at zero. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

end Cert.Proof.Attention
-- ==== Proof.Ffn1.lean ====
/- The product that the program `Ffn1` computes: entry `(i, j)` is row `i` of the left operand times column `j` of the right one, 2048 terms.
   The kernel works block by block on a grid of 32 points; its output array holds the same product as the reference's,
   entry by entry. -/
module

public import proofs.«01_k».proof.Proof.Blocked
public import proofs.«01_k».proof.Proof.Gen.Ffn1Ideal.Value
public import proofs.«01_k».proof.Proof.Gen.Ffn1RefIdeal.Read
public import proofs.«01_k».proof.Defs

@[expose] public section

noncomputable section

namespace Cert.Ffn1Ideal.Product

open Cert.Ffn1Ideal Cert.Ffn1Ideal.Gen Cert.Ffn1Ideal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x2048.Idx → EReal := m ((c : Thread nD τ).loc main_arg0)
/-- The right operand as launched. -/
abbrev rhs (c : Dev nD) : S8x2048x1024.Idx → EReal := m ((c : Thread nD τ).loc main_arg1)

/-- The block that grid point `t` reads or writes of the left operand. -/
theorem idx0 : ∀ t : Fin cfg0.N, win0_0.index t 0 = t.val / 8 ∧ win0_0.index t 1 = 0 :=
  (by decide +kernel : ∀ t : Fin grid0.N, _)

/-- The block that grid point `t` reads or writes of the right operand. -/
theorem idx1 : ∀ t : Fin cfg0.N, win0_1.index t 0 = t.val % 8 ∧ win0_1.index t 1 = 0 ∧ win0_1.index t 2 = 0 :=
  (by decide +kernel : ∀ t : Fin grid0.N, _)

/-- The block that grid point `t` reads or writes of the output. -/
theorem idx2 : ∀ t : Fin cfg0.N, win0_2.index t 0 = t.val / 8 ∧ win0_2.index t 1 = t.val % 8 :=
  (by decide +kernel : ∀ t : Fin grid0.N, _)

/-- The block that grid point `t` reads or writes of the output. -/
theorem idx3 : ∀ t : Fin cfg0.N, win0_3.index t 0 = t.val / 8 ∧ win0_3.index t 1 = t.val % 8 :=
  (by decide +kernel : ∀ t : Fin grid0.N, _)

/-- The block of the left operand at point `t`, read at the array's own coordinates. -/
theorem blk0 (c : Dev nD) (t : Fin cfg0.N) (y : S1024x2048.Idx) :
    iblk m c 0 t y = at2 (lhs m c) ((t.val / 8) * 1024 + (y 0).val) (0 * 2048 + (y 1).val) := by
  unfold iblk
  rw [View.read_apply]
  show (V m c main_arg0 : S4096x2048.Idx → EReal) _ = _
  rw [V_main_arg0]
  obtain ⟨e0, e1⟩ := idx0 t
  have h0 : (y 0).val < 1024 := (y 0).isLt
  have h1 : (y 1).val < 2048 := (y 1).isLt
  refine eq_at2 _ _ _ _ ?_ ?_ <;> blk_simp
  · omega
  · omega

/-- The block of the right operand at point `t`, read at the array's own coordinates. -/
theorem blk1 (c : Dev nD) (t : Fin cfg0.N) (y : S1x2048x1024.Idx) :
    iblk m c 1 t y = at3 (rhs m c) (((t.val % 8) * 1024 + (y 2).val) / 1024) (0 * 2048 + (y 1).val) (((t.val % 8) * 1024 + (y 2).val) % 1024) := by
  unfold iblk
  rw [View.read_apply]
  show (V m c main_arg1 : S8x2048x1024.Idx → EReal) _ = _
  rw [V_main_arg1]
  obtain ⟨e0, e1, e2⟩ := idx1 t
  have h0 : (y 0).val < 1 := (y 0).isLt
  have h1 : (y 1).val < 2048 := (y 1).isLt
  have h2 : (y 2).val < 1024 := (y 2).isLt
  refine eq_at3 _ _ _ _ _ ?_ ?_ ?_ <;> blk_simp
  · omega
  · omega
  · omega

/-- The sum of the products over the lanes `2048 s ≤ l < 2048 s + 2048` of the contracted axis, at row `i` and column `j`. -/
def term (c : Dev nD) (s i j : ℕ) : EReal :=
  ∑ k : Fin 2048, at2 (lhs m c) i (s * 2048 + k.val) * at3 (rhs m c) (j / 1024) (s * 2048 + k.val) (j % 1024)

/-- The whole product at row `i` and column `j`. -/
def total (c : Dev nD) (i j : ℕ) : EReal :=
  ∑ k : Fin 2048, at2 (lhs m c) i k.val * at3 (rhs m c) (j / 1024) k.val (j % 1024)

/-- One block product of the body is the sum over its lanes. -/
theorem pay (x0 : Vec Ideal S1024x2048 .bf16) (x1 : Vec Ideal S1x2048x1024 .bf16) (y : S1024x1024.Idx) :
    k0_pay1 x0 x1 y = ∑ k : Fin 2048, (x0 (ix2 (y 0) k) : EReal) * x1 (ix3 0 k (y 1)) := by
  pointwise [k0_pay1]

/-- The block product at point `t` is one block of the sum. -/
theorem pay_term (c : Dev nD) (t : Fin cfg0.N) (y : S1024x1024.Idx) :
    k0_pay1 (iblk m c 0 t) (iblk m c 1 t) y = term m c (0) ((t.val / 8) * 1024 + (y 0).val) ((t.val % 8) * 1024 + (y 1).val) := by
  rw [pay]
  refine Finset.sum_congr rfl fun k _ => ?_
  rw [blk0, blk1]; rfl

/-- One block is the whole sum. -/
theorem term_eq (c : Dev nD) (i j : ℕ) : term m c 0 i j = total m c i j := by
  unfold term total
  refine Finset.sum_congr rfl fun k _ => ?_
  simp only [zero_mul, zero_add]

/-- What the kernel leaves in its first output at row `i` and column `j`. -/
def value0 (c : Dev nD) (i j : ℕ) : EReal := max (total m c i j) 0 * max (total m c i j) 0

/-- The block that point `t` writes back. -/
theorem out0 (c : Dev nD) (t : Fin cfg0.N) (y : S1024x1024.Idx) :
    out0_2 (iblk m c 0 t) (iblk m c 1 t) y = value0 m c ((t.val / 8) * 1024 + (y 0).val) ((t.val % 8) * 1024 + (y 1).val) := by
  refine Eq.trans ?_ (congrArg (fun a : EReal => max a 0 * max a 0) ((pay_term m c t y).trans (term_eq m c _ _)))
  frame_out
  pointwise [k0_pay2]

/-- The first output array. -/
def result0 (c : Dev nD) : S4096x8192.Idx → EReal := fun i => value0 m c (i 0).val (i 1).val

/-- The array read at an index whose coordinates are known. -/
theorem result0_at (c : Dev nD) (i : S4096x8192.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 1024 := (y 0).isLt
  have h1 : (y 1).val < 1024 := (y 1).isLt
  blk_simp
  rw [after0_2]
  refine (out0 m c t y).trans (result0_at m c _ _ _ ?_ ?_) <;> blk_simp
  · omega
  · omega

/-- What the kernel leaves in its second output at row `i` and column `j`. -/
def value1 (c : Dev nD) (i j : ℕ) : EReal := max (total m c i j) 0

/-- The block that point `t` writes back. -/
theorem out1 (c : Dev nD) (t : Fin cfg0.N) (y : S1024x1024.Idx) :
    out0_3 (iblk m c 0 t) (iblk m c 1 t) y = value1 m c ((t.val / 8) * 1024 + (y 0).val) ((t.val % 8) * 1024 + (y 1).val) := by
  refine Eq.trans ?_ (congrArg (fun a : EReal => max a 0) ((pay_term m c t y).trans (term_eq m c _ _)))
  frame_out
  pointwise [k0_pay3]

/-- The second output array. -/
def result1 (c : Dev nD) : S4096x8192.Idx → EReal := fun i => value1 m c (i 0).val (i 1).val

/-- The array read at an index whose coordinates are known. -/
theorem result1_at (c : Dev nD) (i : S4096x8192.Idx) (a b : ℕ) (ha : (i 0).val = a) (hb : (i 1).val = b) :
    value1 m c a b = result1 m c i := by
  subst ha hb; rfl

/-- After the run the array holds, at every index, the value of the block that covers it. -/
theorem final1 (c : Dev nD) : (dats m 0 c).arrAt 3 cfg0.N = result1 m c := by
  refine (dats m 0 c).arrAt_eq_of_covers 3 (result1 m c) (by decide +kernel) fun t hf y => ?_
  obtain ⟨e0, e1⟩ := idx3 t
  have h0 : (y 0).val < 1024 := (y 0).isLt
  have h1 : (y 1).val < 1024 := (y 1).isLt
  blk_simp
  rw [after0_3]
  refine (out1 m c t y).trans (result1_at m c _ _ _ ?_ ?_) <;> blk_simp
  · omega
  · omega

end Cert.Ffn1Ideal.Product

namespace Cert.Ffn1RefIdeal.Product

open Cert.Ffn1RefIdeal Cert.Ffn1RefIdeal.Gen Cert.Ffn1RefIdeal.Read Cert.Blocked
open Idealize.ShloMosaic Idealize.ShloMosaic.TcCoe Idealize.SL.Sem

/-- The reference's array, entry by entry. -/
theorem ref0 (x0 : S4096x2048.Idx → EReal) (x1 : S8x2048x1024.Idx → EReal) (i : S4096x8192.Idx) :
    val_main_v7 (F := Ideal) x0 x1 i = max (∑ k : Fin 2048, at2 x0 ((i 0).val) k.val * at3 x1 (((i 1).val) / 1024) k.val (((i 1).val) % 1024)) 0 * max (∑ k : Fin 2048, at2 x0 ((i 0).val) k.val * at3 x1 (((i 1).val) / 1024) k.val (((i 1).val) % 1024)) 0 := by
  have h0 : (i 0).val < 4096 := (i 0).isLt
  have h1 : (i 1).val < 8192 := (i 1).isLt
  have e : (∑ k : Fin 2048, x0 (lidx_main_v4 i k) * x1 (idx_main_v2 (idx_main_v3 (ridx_main_v4 i k))) : EReal)
      = ∑ k : Fin 2048, at2 x0 (i 0).val k.val * at3 x1 ((i 1).val / 1024) k.val ((i 1).val % 1024) := by
    refine Finset.sum_congr rfl fun k _ => ?_
    have hk : k.val < 2048 := k.isLt
    first
    | exact congrArg₂ (· * ·) (eq_at2 x0 _ _ _ rfl rfl)
        (eq_at3 x1 _ _ _ _
        (by show (k.val * 8192 + (i 1).val) / 1024 % 8 = (i 1).val / 1024; omega)
        (by show (k.val * 8192 + (i 1).val) / 8192 = k.val; omega)
        (by show (k.val * 8192 + (i 1).val) % 1024 = (i 1).val % 1024; omega))
    | exact (mul_comm _ _).trans (congrArg₂ (· * ·) (eq_at2 x0 _ _ _ rfl rfl)
        (eq_at3 x1 _ _ _ _
        (by show (k.val * 8192 + (i 1).val) / 1024 % 8 = (i 1).val / 1024; omega)
        (by show (k.val * 8192 + (i 1).val) / 8192 = k.val; omega)
        (by show (k.val * 8192 + (i 1).val) % 1024 = (i 1).val % 1024; omega)))
  refine Eq.trans ?_ (congrArg (fun a : EReal => max a 0 * max a 0) e)
  simp only [val_main_v0_apply, val_main_v1_apply, val_main_v2_apply, val_main_v3_apply, val_main_v4_apply, val_main_call0_cst_apply, val_main_call0_v0_apply, val_main_v5_apply, val_main_v6_apply, val_main_v7_apply, val_main_v8_apply]
  pointwise

/-- The reference's array, entry by entry. -/
theorem ref1 (x0 : S4096x2048.Idx → EReal) (x1 : S8x2048x1024.Idx → EReal) (i : S4096x8192.Idx) :
    val_main_v8 (F := Ideal) x0 x1 i = max (∑ k : Fin 2048, at2 x0 ((i 0).val) k.val * at3 x1 (((i 1).val) / 1024) k.val (((i 1).val) % 1024)) 0 := by
  have h0 : (i 0).val < 4096 := (i 0).isLt
  have h1 : (i 1).val < 8192 := (i 1).isLt
  have e : (∑ k : Fin 2048, x0 (lidx_main_v4 i k) * x1 (idx_main_v2 (idx_main_v3 (ridx_main_v4 i k))) : EReal)
      = ∑ k : Fin 2048, at2 x0 (i 0).val k.val * at3 x1 ((i 1).val / 1024) k.val ((i 1).val % 1024) := by
    refine Finset.sum_congr rfl fun k _ => ?_
    have hk : k.val < 2048 := k.isLt
    first
    | exact congrArg₂ (· * ·) (eq_at2 x0 _ _ _ rfl rfl)
        (eq_at3 x1 _ _ _ _
        (by show (k.val * 8192 + (i 1).val) / 1024 % 8 = (i 1).val / 1024; omega)
        (by show (k.val * 8192 + (i 1).val) / 8192 = k.val; omega)
        (by show (k.val * 8192 + (i 1).val) % 1024 = (i 1).val % 1024; omega))
    | exact (mul_comm _ _).trans (congrArg₂ (· * ·) (eq_at2 x0 _ _ _ rfl rfl)
        (eq_at3 x1 _ _ _ _
        (by show (k.val * 8192 + (i 1).val) / 1024 % 8 = (i 1).val / 1024; omega)
        (by show (k.val * 8192 + (i 1).val) / 8192 = k.val; omega)
        (by show (k.val * 8192 + (i 1).val) % 1024 = (i 1).val % 1024; omega)))
  refine Eq.trans ?_ (congrArg (fun a : EReal => max a 0) e)
  simp only [val_main_v0_apply, val_main_v1_apply, val_main_v2_apply, val_main_v3_apply, val_main_v4_apply, val_main_call0_cst_apply, val_main_call0_v0_apply, val_main_v5_apply, val_main_v6_apply, val_main_v7_apply, val_main_v8_apply]
  pointwise

end Cert.Ffn1RefIdeal.Product

namespace Cert.Proof.Ffn1

open Idealize.ShloMosaic Idealize.ShloMosaic.TcCoe Idealize.SL.Sem

/-- From memories that agree on the arguments, both programs end with the same results, and the arguments unchanged. -/
theorem algebraic : Cert.algebraic_Ffn1Ideal_Ffn1RefIdeal := by
  intro m g m' g' _ hag
  refine ⟨fun c => Cert.Ffn1Ideal.Product.result0 m c, fun c => Cert.Ffn1Ideal.Product.result1 m c,
    (θ_run Cert.Ffn1Ideal.defs _ _).mono (fun r h c => ⟨(h c).1.trans (Cert.Ffn1Ideal.Product.final0 m c), (h c).2.1.trans (Cert.Ffn1Ideal.Product.final1 m c), (h c).2.2⟩)
      (Cert.Ffn1Ideal.Value.run_blocks m g), ?_⟩
  refine (θ_run Cert.Ffn1RefIdeal.defs _ _).mono (fun r h c => ⟨(h c).1.trans ?_, (h c).2.1.trans ?_, (h c).2.2⟩)
    (Cert.Ffn1RefIdeal.Value.run m' g')
  · rw [Cert.Ffn1RefIdeal.Read.val_main_v7_eq]
    funext i
    refine (Cert.Ffn1RefIdeal.Product.ref0 _ _ i).trans ?_
    rw [(hag c).1, (hag c).2]
    rfl
  · rw [Cert.Ffn1RefIdeal.Read.val_main_v8_eq]
    funext i
    refine (Cert.Ffn1RefIdeal.Product.ref1 _ _ i).trans ?_
    rw [(hag c).1, (hag c).2]
    rfl

/-- The reference runs to its end, leaves its arguments unchanged and every counter at zero. -/
theorem frame_reference : Cert.quiescent_Ffn1RefIdeal := fun m ρ _ =>
  (θ_run Cert.Ffn1RefIdeal.defs _ _).mono (fun r h => ⟨fun c => (h c).2.2, sem_eq_zero_of_no_sems (by decide) r.2⟩)
    (Cert.Ffn1RefIdeal.Value.run (F := Ideal) m ρ)

end Cert.Proof.Ffn1
-- ==== Proof.Ffn2.lean ====
/- The product that the program `Ffn2` computes: entry `(i, j)` is row `i` of the left operand times column `j` of the right one, 8192 terms.
   The kernel works block by block on a grid of 32 points; its output array holds the same product as the reference's,
   entry by entry. -/
module

public import proofs.«01_k».proof.Proof.Blocked
public import proofs.«01_k».proof.Proof.Gen.Ffn2Ideal.Value
public import proofs.«01_k».proof.Proof.Gen.Ffn2RefIdeal.Read
public import proofs.«01_k».proof.Defs

@[expose] public section

noncomputable section

namespace Cert.Ffn2Ideal.Product

open Cert.Ffn2Ideal Cert.Ffn2Ideal.Gen Cert.Ffn2Ideal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x8192.Idx → EReal := m ((c : Thread nD τ).loc main_arg0)
/-- The right operand as launched. -/
abbrev rhs (c : Dev nD) : S8192x2048.Idx → EReal := m ((c : Thread nD τ).loc main_arg1)
/-- The summand, as launched. -/
abbrev add (c : Dev nD) : S4096x2048.Idx → EReal := m ((c : Thread nD τ).loc main_arg2)

/-- The block that grid point `t` reads or writes of the left operand. -/
theorem idx0 : ∀ t : Fin cfg0.N, win0_0.index t 0 = t.val / 4 / 2 ∧ win0_0.index t 1 = t.val % 4 :=
  (by decide +kernel : ∀ t : Fin grid0.N, _)

/-- The block that grid point `t` reads or writes of the right operand. -/
theorem idx1 : ∀ t : Fin cfg0.N, win0_1.index t 0 = t.val % 4 ∧ win0_1.index t 1 = t.val / 4 % 2 :=
  (by decide +kernel : ∀ t : Fin grid0.N, _)

/-- The block that grid point `t` reads or writes of the third operand. -/
theorem idx2 : ∀ t : Fin cfg0.N, win0_2.index t 0 = t.val / 4 / 2 ∧ win0_2.index t 1 = t.val / 4 % 2 :=
  (by decide +kernel : ∀ t : Fin grid0.N, _)

/-- The block that grid point `t` reads or writes of the output. -/
theorem idx3 : ∀ t : Fin cfg0.N, win0_3.index t 0 = t.val / 4 / 2 ∧ win0_3.index t 1 = t.val / 4 % 2 :=
  (by decide +kernel : ∀ t : Fin grid0.N, _)

/-- The block of the left operand at point `t`, read at the array's own coordinates. -/
theorem blk0 (c : Dev nD) (t : Fin cfg0.N) (y : S1024x2048.Idx) :
    iblk m c 0 t y = at2 (lhs m c) ((t.val / 4 / 2) * 1024 + (y 0).val) ((t.val % 4) * 2048 + (y 1).val) := by
  unfold iblk
  rw [View.read_apply]
  show (V m c main_arg0 : S4096x8192.Idx → EReal) _ = _
  rw [V_main_arg0]
  obtain ⟨e0, e1⟩ := idx0 t
  have h0 : (y 0).val < 1024 := (y 0).isLt
  have h1 : (y 1).val < 2048 := (y 1).isLt
  refine eq_at2 _ _ _ _ ?_ ?_ <;> blk_simp
  · omega
  · omega

/-- The block of the right operand at point `t`, read at the array's own coordinates. -/
theorem blk1 (c : Dev nD) (t : Fin cfg0.N) (y : S2048x1024.Idx) :
    iblk m c 1 t y = at2 (rhs m c) ((t.val % 4) * 2048 + (y 0).val) ((t.val / 4 % 2) * 1024 + (y 1).val) := by
  unfold iblk
  rw [View.read_apply]
  show (V m c main_arg1 : S8192x2048.Idx → EReal) _ = _
  rw [V_main_arg1]
  obtain ⟨e0, e1⟩ := idx1 t
  have h0 : (y 0).val < 2048 := (y 0).isLt
  have h1 : (y 1).val < 1024 := (y 1).isLt
  refine eq_at2 _ _ _ _ ?_ ?_ <;> blk_simp
  · omega
  · omega

/-- The block of the summand at point `t`, read at the array's own coordinates. -/
theorem blk2 (c : Dev nD) (t : Fin cfg0.N) (y : S1024x1024.Idx) :
    iblk m c 2 t y = at2 (add m c) ((t.val / 4 / 2) * 1024 + (y 0).val) ((t.val / 4 % 2) * 1024 + (y 1).val) := by
  unfold iblk
  rw [View.read_apply]
  show (V m c main_arg2 : S4096x2048.Idx → EReal) _ = _
  rw [V_main_arg2]
  obtain ⟨e0, e1⟩ := idx2 t
  have h0 : (y 0).val < 1024 := (y 0).isLt
  have h1 : (y 1).val < 1024 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) i (s * 2048 + k.val) * at2 (rhs m c) (s * 2048 + k.val) j

/-- The whole product at row `i` and column `j`. -/
def total (c : Dev nD) (i j : ℕ) : EReal :=
  ∑ k : Fin 8192, at2 (lhs m c) i k.val * at2 (rhs m c) k.val j

/-- One block product of the body is the sum over its lanes. -/
theorem pay (x0 : Vec Ideal S1024x2048 .bf16) (x1 : Vec Ideal S2048x1024 .bf16) (y : S1024x1024.Idx) :
    k0_pay1 x0 x1 y = ∑ k : Fin 2048, (x0 (ix2 (y 0) k) : EReal) * x1 (ix2 k (y 1)) := by
  pointwise [k0_pay1]

/-- The block product at point `t` is one block of the sum. -/
theorem pay_term (c : Dev nD) (t : Fin cfg0.N) (y : S1024x1024.Idx) :
    k0_pay1 (iblk m c 0 t) (iblk m c 1 t) y = term m c (t.val % 4) ((t.val / 4 / 2) * 1024 + (y 0).val) ((t.val / 4 % 2) * 1024 + (y 1).val) := by
  rw [pay]
  refine Finset.sum_congr rfl fun k _ => ?_
  rw [blk0, blk1]; rfl

/-- What block `s` of run `r` adds at an entry of the block. -/
def step (c : Dev nD) (r s : ℕ) (y : S1024x1024.Idx) : EReal := term m c s ((r / 2) * 1024 + (y 0).val) ((r % 2) * 1024 + (y 1).val)

/-- The first point of a run starts the accumulator at its block's product. -/
theorem scr_first (c : Dev nD) (t : Fin cfg0.N) (h : t.val % 4 = 0) (y : S1024x1024.Idx) :
    (outsAt0 m c t.val t.isLt).2 y = 0 + step m c (t.val / 4) (t.val % 4) y := by
  rw [outsAt0_A m c t h (by omega) (by omega), zero_add]
  refine Eq.trans ?_ (pay_term m c t y)
  frame_out
  pointwise [k0_pay2]

/-- Every later point adds its block's product. -/
theorem scr_next (c : Dev nD) (t : Fin cfg0.N) (h : ¬t.val % 4 = 0) (y : S1024x1024.Idx) :
    (outsAt0 m c t.val t.isLt).2 y
      = (outsAt0 m c (t.val - 1) (Nat.lt_of_le_of_lt (Nat.sub_le _ _) t.isLt)).2 y + step m c (t.val / 4) (t.val % 4) y := by
  refine Eq.trans ?_ (congrArg (_ + ·) (pay_term m c t y))
  by_cases hl : t.val % 4 = 3
  · rw [outsAt0_C m c t h (by omega) hl]
    frame_out
    simp only [read_unread_whole]
    pointwise [k0_pay3]
  · rw [outsAt0_B m c t h (by omega) hl]
    frame_out
    simp only [read_unread_whole]
    pointwise [k0_pay3]

/-- So at each point the accumulator holds the sum of its run's blocks so far. -/
theorem scr (c : Dev nD) (t : Fin cfg0.N) (y : S1024x1024.Idx) :
    (outsAt0 m c t.val t.isLt).2 y = 0 + ∑ s ∈ range (t.val % 4 + 1), step m c (t.val / 4) s y :=
  Pipeline.eq_sum_of_reset_step_apply_divmod (fun n h => (outsAt0 m c n h).2) 4 (fun _ => 0) (step m c)
    (scr_first m c) (scr_next m c) t y

/-- At a run's last point the accumulator holds the whole product. -/
theorem scr_last (c : Dev nD) (t : Fin cfg0.N) (h : t.val % 4 = 3) (y : S1024x1024.Idx) :
    (outsAt0 m c t.val t.isLt).2 y = total m c ((t.val / 4 / 2) * 1024 + (y 0).val) ((t.val / 4 % 2) * 1024 + (y 1).val) := by
  rw [scr, zero_add, h]
  unfold step term
  exact sum_blocks 4 2048 fun l => at2 (lhs m c) ((t.val / 4 / 2) * 1024 + (y 0).val) l * at2 (rhs m c) l ((t.val / 4 % 2) * 1024 + (y 1).val)

/-- What the kernel leaves in its output at row `i` and column `j`. -/
def value0 (c : Dev nD) (i j : ℕ) : EReal := total m c i j + at2 (add m c) i j

/-- The block that point `t` writes back. Points that write back are the last of their run. -/
theorem out0 (c : Dev nD) (t : Fin cfg0.N) (h : t.val % 4 = 3) (y : S1024x1024.Idx) :
    (outsAt0 m c t.val t.isLt).1 y = value0 m c ((t.val / 4 / 2) * 1024 + (y 0).val) ((t.val / 4 % 2) * 1024 + (y 1).val) := by
  have e : (outsAt0 m c t.val t.isLt).1 y = (outsAt0 m c t.val t.isLt).2 y + iblk m c 2 t y := by
    rw [outsAt0_C m c t (by omega) (by omega) h]
    frame_out
    pointwise [k0_pay4]
  rw [e, scr_last m c t h, blk2]; rfl

/-- The output array. -/
def result0 (c : Dev nD) : S4096x2048.Idx → EReal := fun i => value0 m c (i 0).val (i 1).val

/-- The array read at an index whose coordinates are known. -/
theorem result0_at (c : Dev nD) (i : S4096x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 3 cfg0.N = result0 m c := by
  refine (dats m 0 c).arrAt_eq_of_covers 3 (result0 m c) (by decide +kernel) fun t hf y => ?_
  obtain ⟨e0, e1⟩ := idx3 t
  have h0 : (y 0).val < 1024 := (y 0).isLt
  have h1 : (y 1).val < 1024 := (y 1).isLt
  have hm : t.val % 4 = 3 := (flush0_3 t).mp hf
  blk_simp
  rw [after0_3]
  refine (out0 m c t hm y).trans (result0_at m c _ _ _ ?_ ?_) <;> blk_simp
  · omega
  · omega

end Cert.Ffn2Ideal.Product

namespace Cert.Ffn2RefIdeal.Product

open Cert.Ffn2RefIdeal Cert.Ffn2RefIdeal.Gen Cert.Ffn2RefIdeal.Read Cert.Blocked
open Idealize.ShloMosaic Idealize.ShloMosaic.TcCoe Idealize.SL.Sem

/-- The reference's array, entry by entry. -/
theorem ref0 (x0 : S4096x8192.Idx → EReal) (x1 : S8192x2048.Idx → EReal) (x2 : S4096x2048.Idx → EReal) (i : S4096x2048.Idx) :
    val_main_v3 (F := Ideal) x0 x1 x2 i = (∑ k : Fin 8192, at2 x0 ((i 0).val) k.val * at2 x1 k.val ((i 1).val)) + at2 x2 (i 0).val (i 1).val := by
  have h0 : (i 0).val < 4096 := (i 0).isLt
  have h1 : (i 1).val < 2048 := (i 1).isLt
  simp only [val_main_v0_apply, val_main_v1_apply, val_main_v2_apply, val_main_v3_apply]
  rw [add_comm]
  refine congrArg₂ (· + ·) (eq_at2 _ _ _ _ rfl rfl) ?_
  refine Finset.sum_congr rfl fun k _ => ?_
  first
  | exact congrArg₂ (· * ·) (eq_at2 x0 _ _ _ rfl rfl)
      (eq_at2 x1 _ _ _ rfl rfl)
  | exact (mul_comm _ _).trans (congrArg₂ (· * ·) (eq_at2 x0 _ _ _ rfl rfl)
      (eq_at2 x1 _ _ _ rfl rfl))

end Cert.Ffn2RefIdeal.Product

namespace Cert.Proof.Ffn2

open Idealize.ShloMosaic Idealize.ShloMosaic.TcCoe Idealize.SL.Sem

/-- From memories that agree on the arguments, both programs end with the same results, and the arguments unchanged. -/
theorem algebraic : Cert.algebraic_Ffn2Ideal_Ffn2RefIdeal := by
  intro m g m' g' _ hag
  refine ⟨fun c => Cert.Ffn2Ideal.Product.result0 m c,
    (θ_run Cert.Ffn2Ideal.defs _ _).mono (fun r h c => ⟨(h c).1.trans (Cert.Ffn2Ideal.Product.final0 m c), (h c).2⟩)
      (Cert.Ffn2Ideal.Value.run_blocks m g), ?_⟩
  refine (θ_run Cert.Ffn2RefIdeal.defs _ _).mono (fun r h c => ⟨(h c).1.trans ?_, (h c).2⟩)
    (Cert.Ffn2RefIdeal.Value.run m' g')
  rw [Cert.Ffn2RefIdeal.Read.val_main_v3_eq]
  funext i
  refine (Cert.Ffn2RefIdeal.Product.ref0 _ _ _ i).trans ?_
  rw [(hag c).1, (hag c).2.1, (hag c).2.2]
  rfl

/-- The reference runs to its end, leaves its arguments unchanged and every counter at zero. -/
theorem frame_reference : Cert.quiescent_Ffn2RefIdeal := fun m ρ _ =>
  (θ_run Cert.Ffn2RefIdeal.defs _ _).mono (fun r h => ⟨fun c => (h c).2, sem_eq_zero_of_no_sems (by decide) r.2⟩)
    (Cert.Ffn2RefIdeal.Value.run (F := Ideal) m ρ)

end Cert.Proof.Ffn2
-- ==== Proof.FfnDw2.lean ====
/- The product that the program `FfnDw2` computes: entry `(i, j)` is column `i` of the left operand times column `j` of the right one, 4096 terms.
   The kernel works block by block on a grid of 32 points; its output array holds the same product as the reference's,
   entry by entry. -/
module

public import proofs.«01_k».proof.Proof.Blocked
public import proofs.«01_k».proof.Proof.Gen.FfnDw2Ideal.Value
public import proofs.«01_k».proof.Proof.Gen.FfnDw2RefIdeal.Read
public import proofs.«01_k».proof.Defs

@[expose] public section

noncomputable section

namespace Cert.FfnDw2Ideal.Product

open Cert.FfnDw2Ideal Cert.FfnDw2Ideal.Gen Cert.FfnDw2Ideal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x8192.Idx → EReal := m ((c : Thread nD τ).loc main_arg0)
/-- The right operand as launched. -/
abbrev rhs (c : Dev nD) : S4096x2048.Idx → EReal := m ((c : Thread nD τ).loc main_arg2)

/-- The block that grid point `t` reads or writes of the left operand. -/
theorem idx0 : ∀ t : Fin cfg0.N, win0_0.index t 0 = t.val % 2 ∧ win0_0.index t 1 = t.val / 2 / 2 :=
  (by decide +kernel : ∀ t : Fin grid0.N, _)

/-- The block that grid point `t` reads or writes of the right operand. -/
theorem idx1 : ∀ t : Fin cfg0.N, win0_1.index t 0 = t.val % 2 ∧ win0_1.index t 1 = t.val / 2 % 2 :=
  (by decide +kernel : ∀ t : Fin grid0.N, _)

/-- The block that grid point `t` reads or writes of the output. -/
theorem idx2 : ∀ t : Fin cfg0.N, win0_2.index t 0 = t.val / 2 / 2 ∧ win0_2.index t 1 = t.val / 2 % 2 :=
  (by decide +kernel : ∀ t : Fin grid0.N, _)

/-- The block of the left operand at point `t`, read at the array's own coordinates. -/
theorem blk0 (c : Dev nD) (t : Fin cfg0.N) (y : S2048x1024.Idx) :
    iblk m c 0 t y = at2 (lhs m c) ((t.val % 2) * 2048 + (y 0).val) ((t.val / 2 / 2) * 1024 + (y 1).val) := by
  unfold iblk
  rw [View.read_apply]
  show (V m c main_arg0 : S4096x8192.Idx → EReal) _ = _
  rw [V_main_arg0]
  obtain ⟨e0, e1⟩ := idx0 t
  have h0 : (y 0).val < 2048 := (y 0).isLt
  have h1 : (y 1).val < 1024 := (y 1).isLt
  refine eq_at2 _ _ _ _ ?_ ?_ <;> blk_simp
  · omega
  · omega

/-- The block of the right operand at point `t`, read at the array's own coordinates. -/
theorem blk1 (c : Dev nD) (t : Fin cfg0.N) (y : S2048x1024.Idx) :
    iblk m c 1 t y = at2 (rhs m c) ((t.val % 2) * 2048 + (y 0).val) ((t.val / 2 % 2) * 1024 + (y 1).val) := by
  unfold iblk
  rw [View.read_apply]
  show (V m c main_arg2 : S4096x2048.Idx → EReal) _ = _
  rw [V_main_arg2]
  obtain ⟨e0, e1⟩ := idx1 t
  have h0 : (y 0).val < 2048 := (y 0).isLt
  have h1 : (y 1).val < 1024 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) (s * 2048 + k.val) i * at2 (rhs m c) (s * 2048 + k.val) j

/-- The whole product at row `i` and column `j`. -/
def total (c : Dev nD) (i j : ℕ) : EReal :=
  ∑ k : Fin 4096, at2 (lhs m c) k.val i * at2 (rhs m c) k.val j

/-- One block product of the body is the sum over its lanes. -/
theorem pay (x0 : Vec Ideal S2048x1024 .bf16) (x1 : Vec Ideal S2048x1024 .bf16) (y : S1024x1024.Idx) :
    k0_pay1 x0 x1 y = ∑ k : Fin 2048, (x0 (ix2 k (y 0)) : EReal) * x1 (ix2 k (y 1)) := by
  pointwise [k0_pay1]

/-- The block product at point `t` is one block of the sum. -/
theorem pay_term (c : Dev nD) (t : Fin cfg0.N) (y : S1024x1024.Idx) :
    k0_pay1 (iblk m c 0 t) (iblk m c 1 t) y = term m c (t.val % 2) ((t.val / 2 / 2) * 1024 + (y 0).val) ((t.val / 2 % 2) * 1024 + (y 1).val) := by
  rw [pay]
  refine Finset.sum_congr rfl fun k _ => ?_
  rw [blk0, blk1]; rfl

/-- What block `s` of run `r` adds at an entry of the block. -/
def step (c : Dev nD) (r s : ℕ) (y : S1024x1024.Idx) : EReal := term m c s ((r / 2) * 1024 + (y 0).val) ((r % 2) * 1024 + (y 1).val)

/-- The first point of a run starts the accumulator at its block's product. -/
theorem scr_first (c : Dev nD) (t : Fin cfg0.N) (h : t.val % 2 = 0) (y : S1024x1024.Idx) :
    (outsAt0 m c t.val t.isLt).2 y = 0 + step m c (t.val / 2) (t.val % 2) y := by
  rw [outsAt0_A m c t h (by omega) (by omega), zero_add]
  refine Eq.trans ?_ (pay_term m c t y)
  frame_out
  pointwise [k0_pay2]

/-- Every later point adds its block's product. -/
theorem scr_next (c : Dev nD) (t : Fin cfg0.N) (h : ¬t.val % 2 = 0) (y : S1024x1024.Idx) :
    (outsAt0 m c t.val t.isLt).2 y
      = (outsAt0 m c (t.val - 1) (Nat.lt_of_le_of_lt (Nat.sub_le _ _) t.isLt)).2 y + step m c (t.val / 2) (t.val % 2) y := by
  refine Eq.trans ?_ (congrArg (_ + ·) (pay_term m c t y))
  rw [outsAt0_B m c t h (by omega) (by omega)]
  frame_out
  simp only [read_unread_whole]
  pointwise [k0_pay3]

/-- So at each point the accumulator holds the sum of its run's blocks so far. -/
theorem scr (c : Dev nD) (t : Fin cfg0.N) (y : S1024x1024.Idx) :
    (outsAt0 m c t.val t.isLt).2 y = 0 + ∑ s ∈ range (t.val % 2 + 1), step m c (t.val / 2) s y :=
  Pipeline.eq_sum_of_reset_step_apply_divmod (fun n h => (outsAt0 m c n h).2) 2 (fun _ => 0) (step m c)
    (scr_first m c) (scr_next m c) t y

/-- At a run's last point the accumulator holds the whole product. -/
theorem scr_last (c : Dev nD) (t : Fin cfg0.N) (h : t.val % 2 = 1) (y : S1024x1024.Idx) :
    (outsAt0 m c t.val t.isLt).2 y = total m c ((t.val / 2 / 2) * 1024 + (y 0).val) ((t.val / 2 % 2) * 1024 + (y 1).val) := by
  rw [scr, zero_add, h]
  unfold step term
  exact sum_blocks 2 2048 fun l => at2 (lhs m c) l ((t.val / 2 / 2) * 1024 + (y 0).val) * at2 (rhs m c) l ((t.val / 2 % 2) * 1024 + (y 1).val)

/-- What the kernel leaves in its output at row `i` and column `j`. -/
def value0 (c : Dev nD) (i j : ℕ) : EReal := total m c i j

/-- The block that point `t` writes back. Points that write back are the last of their run. -/
theorem out0 (c : Dev nD) (t : Fin cfg0.N) (h : t.val % 2 = 1) (y : S1024x1024.Idx) :
    (outsAt0 m c t.val t.isLt).1 y = value0 m c ((t.val / 2 / 2) * 1024 + (y 0).val) ((t.val / 2 % 2) * 1024 + (y 1).val) := by
  have e : (outsAt0 m c t.val t.isLt).1 y = (outsAt0 m c t.val t.isLt).2 y := by
    rw [outsAt0_B m c t (by omega) (by omega) h]
    frame_out
    pointwise [k0_pay4]
  rw [e, scr_last m c t h]; rfl

/-- The output array. -/
def result0 (c : Dev nD) : S8192x2048.Idx → EReal := fun i => value0 m c (i 0).val (i 1).val

/-- The array read at an index whose coordinates are known. -/
theorem result0_at (c : Dev nD) (i : S8192x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 1024 := (y 0).isLt
  have h1 : (y 1).val < 1024 := (y 1).isLt
  have hm : t.val % 2 = 1 := (flush0_2 t).mp hf
  blk_simp
  rw [after0_2]
  refine (out0 m c t hm y).trans (result0_at m c _ _ _ ?_ ?_) <;> blk_simp
  · omega
  · omega

end Cert.FfnDw2Ideal.Product

namespace Cert.FfnDw2RefIdeal.Product

open Cert.FfnDw2RefIdeal Cert.FfnDw2RefIdeal.Gen Cert.FfnDw2RefIdeal.Read Cert.Blocked
open Idealize.ShloMosaic Idealize.ShloMosaic.TcCoe Idealize.SL.Sem

/-- The reference's array, entry by entry. -/
theorem ref0 (x0 : S4096x8192.Idx → EReal) (x2 : S4096x2048.Idx → EReal) (i : S8192x2048.Idx) :
    val_main_v6 (F := Ideal) x0 x2 i = (∑ k : Fin 4096, at2 x0 k.val ((i 0).val) * at2 x2 k.val ((i 1).val)) := by
  have h0 : (i 0).val < 8192 := (i 0).isLt
  have h1 : (i 1).val < 2048 := (i 1).isLt
  simp only [val_main_v0_apply, val_main_v1_apply, val_main_v2_apply, val_main_v3_apply, val_main_v4_apply, val_main_v5_apply, val_main_v6_apply]
  refine Finset.sum_congr rfl fun k _ => ?_
  first
  | exact congrArg₂ (· * ·) (eq_at2 x0 _ _ _ rfl rfl)
      (eq_at2 x2 _ _ _ rfl rfl)
  | exact (mul_comm _ _).trans (congrArg₂ (· * ·) (eq_at2 x0 _ _ _ rfl rfl)
      (eq_at2 x2 _ _ _ rfl rfl))

end Cert.FfnDw2RefIdeal.Product

namespace Cert.Proof.FfnDw2

open Idealize.ShloMosaic Idealize.ShloMosaic.TcCoe Idealize.SL.Sem

/-- From memories that agree on the arguments, both programs end with the same results, and the arguments unchanged. -/
theorem algebraic : Cert.algebraic_FfnDw2Ideal_FfnDw2RefIdeal := by
  intro m g m' g' _ hag
  refine ⟨fun c => Cert.FfnDw2Ideal.Product.result0 m c,
    (θ_run Cert.FfnDw2Ideal.defs _ _).mono (fun r h c => ⟨(h c).1.trans (Cert.FfnDw2Ideal.Product.final0 m c), (h c).2⟩)
      (Cert.FfnDw2Ideal.Value.run_blocks m g), ?_⟩
  refine (θ_run Cert.FfnDw2RefIdeal.defs _ _).mono (fun r h c => ⟨(h c).1.trans ?_, (h c).2⟩)
    (Cert.FfnDw2RefIdeal.Value.run m' g')
  rw [Cert.FfnDw2RefIdeal.Read.val_main_v6_eq]
  funext i
  refine (Cert.FfnDw2RefIdeal.Product.ref0 _ _ i).trans ?_
  rw [(hag c).1, (hag c).2.2]
  rfl

/-- The reference runs to its end, leaves its arguments unchanged and every counter at zero. -/
theorem frame_reference : Cert.quiescent_FfnDw2RefIdeal := fun m ρ _ =>
  (θ_run Cert.FfnDw2RefIdeal.defs _ _).mono (fun r h => ⟨fun c => (h c).2, sem_eq_zero_of_no_sems (by decide) r.2⟩)
    (Cert.FfnDw2RefIdeal.Value.run (F := Ideal) m ρ)

end Cert.Proof.FfnDw2
-- ==== Proof.FfnDhid.lean ====
/- The product that the program `FfnDhid` computes: entry `(i, j)` is row `i` of the left operand times row `j` of the right one, 2048 terms.
   The kernel works block by block on a grid of 32 points; its output array holds the same product as the reference's,
   entry by entry. -/
module

public import proofs.«01_k».proof.Proof.Blocked
public import Idealize.ShloMosaic.Lib.StableHlo.ReadAt
public import proofs.«01_k».proof.Proof.Gen.FfnDhidIdeal.Value
public import proofs.«01_k».proof.Proof.Gen.FfnDhidRefIdeal.Read
public import proofs.«01_k».proof.Defs

@[expose] public section

noncomputable section

namespace Cert.FfnDhidIdeal.Product

open Cert.FfnDhidIdeal Cert.FfnDhidIdeal.Gen Cert.FfnDhidIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x2048.Idx → EReal := m ((c : Thread nD τ).loc main_arg2)
/-- The right operand as launched. -/
abbrev rhs (c : Dev nD) : S8192x2048.Idx → EReal := m ((c : Thread nD τ).loc main_arg1)
/-- The argument whose sign selects, as launched. -/
abbrev add (c : Dev nD) : S4096x8192.Idx → EReal := m ((c : Thread nD τ).loc main_arg0)

/-- The block that grid point `t` reads or writes of the left operand. -/
theorem idx0 : ∀ t : Fin cfg0.N, win0_0.index t 0 = t.val / 8 ∧ win0_0.index t 1 = 0 :=
  (by decide +kernel : ∀ t : Fin grid0.N, _)

/-- The block that grid point `t` reads or writes of the right operand. -/
theorem idx1 : ∀ t : Fin cfg0.N, win0_1.index t 0 = t.val % 8 ∧ win0_1.index t 1 = 0 :=
  (by decide +kernel : ∀ t : Fin grid0.N, _)

/-- The block that grid point `t` reads or writes of the third operand. -/
theorem idx2 : ∀ t : Fin cfg0.N, win0_2.index t 0 = t.val / 8 ∧ win0_2.index t 1 = t.val % 8 :=
  (by decide +kernel : ∀ t : Fin grid0.N, _)

/-- The block that grid point `t` reads or writes of the output. -/
theorem idx3 : ∀ t : Fin cfg0.N, win0_3.index t 0 = t.val / 8 ∧ win0_3.index t 1 = t.val % 8 :=
  (by decide +kernel : ∀ t : Fin grid0.N, _)

/-- The block of the left operand at point `t`, read at the array's own coordinates. -/
theorem blk0 (c : Dev nD) (t : Fin cfg0.N) (y : S1024x2048.Idx) :
    iblk m c 0 t y = at2 (lhs m c) ((t.val / 8) * 1024 + (y 0).val) (0 * 2048 + (y 1).val) := by
  unfold iblk
  rw [View.read_apply]
  show (V m c main_arg2 : S4096x2048.Idx → EReal) _ = _
  rw [V_main_arg2]
  obtain ⟨e0, e1⟩ := idx0 t
  have h0 : (y 0).val < 1024 := (y 0).isLt
  have h1 : (y 1).val < 2048 := (y 1).isLt
  refine eq_at2 _ _ _ _ ?_ ?_ <;> blk_simp
  · omega
  · omega

/-- The block of the right operand at point `t`, read at the array's own coordinates. -/
theorem blk1 (c : Dev nD) (t : Fin cfg0.N) (y : S1024x2048.Idx) :
    iblk m c 1 t y = at2 (rhs m c) ((t.val % 8) * 1024 + (y 0).val) (0 * 2048 + (y 1).val) := by
  unfold iblk
  rw [View.read_apply]
  show (V m c main_arg1 : S8192x2048.Idx → EReal) _ = _
  rw [V_main_arg1]
  obtain ⟨e0, e1⟩ := idx1 t
  have h0 : (y 0).val < 1024 := (y 0).isLt
  have h1 : (y 1).val < 2048 := (y 1).isLt
  refine eq_at2 _ _ _ _ ?_ ?_ <;> blk_simp
  · omega
  · omega

/-- The third operand, prepared before the call: the positive part of the argument. -/
theorem prep (c : Dev nD) (i : S4096x8192.Idx) : (V m c main_v1 : S4096x8192.Idx → EReal) i = max (add m c i) 0 := by
  unfold V
  after_reads_at

/-- Its block at point `t`, read at the array's own coordinates. -/
theorem blk2 (c : Dev nD) (t : Fin cfg0.N) (y : S1024x1024.Idx) :
    iblk m c 2 t y = max (at2 (add m c) ((t.val / 8) * 1024 + (y 0).val) ((t.val % 8) * 1024 + (y 1).val)) 0 := by
  unfold iblk
  rw [View.read_apply]
  show (V m c main_v1 : S4096x8192.Idx → EReal) _ = _
  rw [prep]
  obtain ⟨e0, e1⟩ := idx2 t
  refine congrArg (fun a : EReal => max a 0) (eq_at2 _ _ _ _ ?_ ?_) <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) i (s * 2048 + k.val) * at2 (rhs m c) j (s * 2048 + k.val)

/-- The whole product at row `i` and column `j`. -/
def total (c : Dev nD) (i j : ℕ) : EReal :=
  ∑ k : Fin 2048, at2 (lhs m c) i k.val * at2 (rhs m c) j k.val

/-- One block is the whole sum. -/
theorem term_eq (c : Dev nD) (i j : ℕ) : term m c 0 i j = total m c i j := by
  unfold term total
  refine Finset.sum_congr rfl fun k _ => ?_
  simp only [zero_mul, zero_add]

/-- The two blocks that the body multiplies at point `t`. -/
abbrev left (c : Dev nD) (t : Fin cfg0.N) : S1024x2048.Idx → EReal := iblk m c 0 t
abbrev right (c : Dev nD) (t : Fin cfg0.N) : S1024x2048.Idx → EReal := iblk m c 1 t

/-- The lanes of the two blocks at point `t` multiply to the whole product. -/
theorem lanes (c : Dev nD) (t : Fin cfg0.N) (y : S1024x1024.Idx) :
    ∑ k : Fin 2048, left m c t (ix2 (y 0) k) * right m c t (ix2 (y 1) k) = total m c ((t.val / 8) * 1024 + (y 0).val) ((t.val % 8) * 1024 + (y 1).val) := by
  rw [← term_eq]
  refine Finset.sum_congr rfl fun k _ => ?_
  unfold left right
  rw [blk0, blk1]; rfl

/-- What the kernel leaves in its output at row `i` and column `j`. -/
def value0 (c : Dev nD) (i j : ℕ) : EReal := Ideal.ofBits .f32 0x40000000#32 * total m c i j * max (at2 (add m c) i j) 0

/-- The block that point `t` writes back. -/
theorem out0 (c : Dev nD) (t : Fin cfg0.N) (y : S1024x1024.Idx) :
    out0_3 (iblk m c 0 t) (iblk m c 1 t) (iblk m c 2 t) y = value0 m c ((t.val / 8) * 1024 + (y 0).val) ((t.val % 8) * 1024 + (y 1).val) := by
  refine Eq.trans ?_ (congrArg₂ (fun a b : EReal => Ideal.ofBits .f32 0x40000000#32 * a * b) (lanes m c t y) (blk2 m c t y))
  frame_out
  pointwise [k0_pay1]

/-- The output array. -/
def result0 (c : Dev nD) : S4096x8192.Idx → EReal := fun i => value0 m c (i 0).val (i 1).val

/-- The array read at an index whose coordinates are known. -/
theorem result0_at (c : Dev nD) (i : S4096x8192.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 3 cfg0.N = result0 m c := by
  refine (dats m 0 c).arrAt_eq_of_covers 3 (result0 m c) (by decide +kernel) fun t hf y => ?_
  obtain ⟨e0, e1⟩ := idx3 t
  have h0 : (y 0).val < 1024 := (y 0).isLt
  have h1 : (y 1).val < 1024 := (y 1).isLt
  blk_simp
  rw [after0_3]
  refine (out0 m c t y).trans (result0_at m c _ _ _ ?_ ?_) <;> blk_simp
  · omega
  · omega

end Cert.FfnDhidIdeal.Product

namespace Cert.FfnDhidRefIdeal.Product

open Cert.FfnDhidRefIdeal Cert.FfnDhidRefIdeal.Gen Cert.FfnDhidRefIdeal.Read Cert.Blocked
open Idealize.ShloMosaic Idealize.ShloMosaic.TcCoe Idealize.SL.Sem

/-- Where the argument is positive the gate passes the product, elsewhere zero: as a product with the positive part. -/
theorem gate (s k x : EReal) : (if 0 < x then s * (k * max x 0) else 0) = k * s * max x 0 := by
  split_ifs with h
  · rw [mul_left_comm, mul_assoc]
  · rw [max_eq_right (not_lt.mp h), mul_zero]

/-- The reference's array, entry by entry. -/
theorem ref0 (x0 : S4096x8192.Idx → EReal) (x1 : S8192x2048.Idx → EReal) (x2 : S4096x2048.Idx → EReal) (i : S4096x8192.Idx) :
    val_main_v14 (F := Ideal) x0 x1 x2 i = Ideal.ofBits .f32 0x40000000#32 * (∑ k : Fin 2048, at2 x2 ((i 0).val) k.val * at2 x1 ((i 1).val) k.val) * max (at2 x0 (i 0).val (i 1).val) 0 := by
  have h0 : (i 0).val < 4096 := (i 0).isLt
  have h1 : (i 1).val < 8192 := (i 1).isLt
  have e : (∑ k : Fin 2048, x2 (lidx_main_v10 i k) * x1 (ridx_main_v10 i k) : EReal)
      = ∑ k : Fin 2048, at2 x2 (i 0).val k.val * at2 x1 (i 1).val k.val := by
    refine Finset.sum_congr rfl fun k _ => ?_
    first
    | exact congrArg₂ (· * ·) (eq_at2 x2 _ _ _ rfl rfl)
        (eq_at2 x1 _ _ _ rfl rfl)
    | exact (mul_comm _ _).trans (congrArg₂ (· * ·) (eq_at2 x2 _ _ _ rfl rfl)
        (eq_at2 x1 _ _ _ rfl rfl))
  refine Eq.trans ?_ (congrArg₂ (fun a b : EReal => Ideal.ofBits .f32 0x40000000#32 * a * max b 0) e (eq_at2 x0 i _ _ rfl rfl))
  simp only [val_main_call0_cst_apply, val_main_call0_v0_apply, val_main_v0_apply, val_main_cst_apply, val_main_v1_apply, val_main_v2_apply, val_main_cst_0_apply, val_main_v3_apply, val_main_v4_apply, val_main_cst_1_apply, val_main_v5_apply, val_main_v6_apply, val_main_v7_apply, val_main_v8_apply, val_main_v9_apply, val_main_v10_apply, val_main_v11_apply, val_main_cst_2_apply, val_main_v12_apply, val_main_v13_apply, val_main_v14_apply]
  refine Eq.trans ?_ (gate _ _ _)
  pointwise

end Cert.FfnDhidRefIdeal.Product

namespace Cert.Proof.FfnDhid

open Idealize.ShloMosaic Idealize.ShloMosaic.TcCoe Idealize.SL.Sem

/-- From memories that agree on the arguments, both programs end with the same results, and the arguments unchanged. -/
theorem algebraic : Cert.algebraic_FfnDhidIdeal_FfnDhidRefIdeal := by
  intro m g m' g' _ hag
  refine ⟨fun c => Cert.FfnDhidIdeal.Product.result0 m c,
    (θ_run Cert.FfnDhidIdeal.defs _ _).mono (fun r h c => ⟨(h c).1.trans (Cert.FfnDhidIdeal.Product.final0 m c), (h c).2⟩)
      (Cert.FfnDhidIdeal.Value.run_blocks m g), ?_⟩
  refine (θ_run Cert.FfnDhidRefIdeal.defs _ _).mono (fun r h c => ⟨(h c).1.trans ?_, (h c).2⟩)
    (Cert.FfnDhidRefIdeal.Value.run m' g')
  rw [Cert.FfnDhidRefIdeal.Read.val_main_v14_eq]
  funext i
  refine (Cert.FfnDhidRefIdeal.Product.ref0 _ _ _ i).trans ?_
  rw [(hag c).1, (hag c).2.1, (hag c).2.2]
  rfl

/-- The reference runs to its end, leaves its arguments unchanged and every counter at zero. -/
theorem frame_reference : Cert.quiescent_FfnDhidRefIdeal := fun m ρ _ =>
  (θ_run Cert.FfnDhidRefIdeal.defs _ _).mono (fun r h => ⟨fun c => (h c).2, sem_eq_zero_of_no_sems (by decide) r.2⟩)
    (Cert.FfnDhidRefIdeal.Value.run (F := Ideal) m ρ)

end Cert.Proof.FfnDhid
-- ==== Proof.FfnDw1.lean ====
/- The product that the program `FfnDw1` computes: entry `(i, j)` is column `i` of the left operand times column `j` of the right one, 4096 terms.
   The kernel works block by block on a grid of 32 points; its output array holds the same product as the reference's,
   entry by entry. -/
module

public import proofs.«01_k».proof.Proof.Blocked
public import proofs.«01_k».proof.Proof.Gen.FfnDw1Ideal.Value
public import proofs.«01_k».proof.Proof.Gen.FfnDw1RefIdeal.Read
public import proofs.«01_k».proof.Defs

@[expose] public section

noncomputable section

namespace Cert.FfnDw1Ideal.Product

open Cert.FfnDw1Ideal Cert.FfnDw1Ideal.Gen Cert.FfnDw1Ideal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x2048.Idx → EReal := m ((c : Thread nD τ).loc main_arg0)
/-- The right operand as launched. -/
abbrev rhs (c : Dev nD) : S4096x8192.Idx → EReal := m ((c : Thread nD τ).loc main_arg2)

/-- The block that grid point `t` reads or writes of the left operand. -/
theorem idx0 : ∀ t : Fin cfg0.N, win0_0.index t 0 = t.val % 2 ∧ win0_0.index t 1 = t.val / 2 / 8 :=
  (by decide +kernel : ∀ t : Fin grid0.N, _)

/-- The block that grid point `t` reads or writes of the right operand. -/
theorem idx1 : ∀ t : Fin cfg0.N, win0_1.index t 0 = t.val % 2 ∧ win0_1.index t 1 = t.val / 2 % 8 :=
  (by decide +kernel : ∀ t : Fin grid0.N, _)

/-- The block that grid point `t` reads or writes of the output. -/
theorem idx2 : ∀ t : Fin cfg0.N, win0_2.index t 0 = t.val / 2 % 8 ∧ win0_2.index t 1 = t.val / 2 / 8 ∧ win0_2.index t 2 = 0 :=
  (by decide +kernel : ∀ t : Fin grid0.N, _)

/-- The block of the left operand at point `t`, read at the array's own coordinates. -/
theorem blk0 (c : Dev nD) (t : Fin cfg0.N) (y : S2048x1024.Idx) :
    iblk m c 0 t y = at2 (lhs m c) ((t.val % 2) * 2048 + (y 0).val) ((t.val / 2 / 8) * 1024 + (y 1).val) := by
  unfold iblk
  rw [View.read_apply]
  show (V m c main_arg0 : S4096x2048.Idx → EReal) _ = _
  rw [V_main_arg0]
  obtain ⟨e0, e1⟩ := idx0 t
  have h0 : (y 0).val < 2048 := (y 0).isLt
  have h1 : (y 1).val < 1024 := (y 1).isLt
  refine eq_at2 _ _ _ _ ?_ ?_ <;> blk_simp
  · omega
  · omega

/-- The block of the right operand at point `t`, read at the array's own coordinates. -/
theorem blk1 (c : Dev nD) (t : Fin cfg0.N) (y : S2048x1024.Idx) :
    iblk m c 1 t y = at2 (rhs m c) ((t.val % 2) * 2048 + (y 0).val) ((t.val / 2 % 8) * 1024 + (y 1).val) := by
  unfold iblk
  rw [View.read_apply]
  show (V m c main_arg2 : S4096x8192.Idx → EReal) _ = _
  rw [V_main_arg2]
  obtain ⟨e0, e1⟩ := idx1 t
  have h0 : (y 0).val < 2048 := (y 0).isLt
  have h1 : (y 1).val < 1024 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) (s * 2048 + k.val) i * at2 (rhs m c) (s * 2048 + k.val) j

/-- The whole product at row `i` and column `j`. -/
def total (c : Dev nD) (i j : ℕ) : EReal :=
  ∑ k : Fin 4096, at2 (lhs m c) k.val i * at2 (rhs m c) k.val j

/-- One block product of the body is the sum over its lanes. -/
theorem pay (x0 : Vec Ideal S2048x1024 .bf16) (x1 : Vec Ideal S2048x1024 .bf16) (y : S1024x1024.Idx) :
    k0_pay1 x0 x1 y = ∑ k : Fin 2048, (x0 (ix2 k (y 0)) : EReal) * x1 (ix2 k (y 1)) := by
  pointwise [k0_pay1]

/-- The block product at point `t` is one block of the sum. -/
theorem pay_term (c : Dev nD) (t : Fin cfg0.N) (y : S1024x1024.Idx) :
    k0_pay1 (iblk m c 0 t) (iblk m c 1 t) y = term m c (t.val % 2) ((t.val / 2 / 8) * 1024 + (y 0).val) ((t.val / 2 % 8) * 1024 + (y 1).val) := by
  rw [pay]
  refine Finset.sum_congr rfl fun k _ => ?_
  rw [blk0, blk1]; rfl

/-- What block `s` of run `r` adds at an entry of the block. -/
def step (c : Dev nD) (r s : ℕ) (y : S1024x1024.Idx) : EReal := term m c s ((r / 8) * 1024 + (y 0).val) ((r % 8) * 1024 + (y 1).val)

/-- The first point of a run starts the accumulator at its block's product. -/
theorem scr_first (c : Dev nD) (t : Fin cfg0.N) (h : t.val % 2 = 0) (y : S1024x1024.Idx) :
    (outsAt0 m c t.val t.isLt).2 y = 0 + step m c (t.val / 2) (t.val % 2) y := by
  rw [outsAt0_A m c t h (by omega) (by omega), zero_add]
  refine Eq.trans ?_ (pay_term m c t y)
  frame_out
  pointwise [k0_pay2]

/-- Every later point adds its block's product. -/
theorem scr_next (c : Dev nD) (t : Fin cfg0.N) (h : ¬t.val % 2 = 0) (y : S1024x1024.Idx) :
    (outsAt0 m c t.val t.isLt).2 y
      = (outsAt0 m c (t.val - 1) (Nat.lt_of_le_of_lt (Nat.sub_le _ _) t.isLt)).2 y + step m c (t.val / 2) (t.val % 2) y := by
  refine Eq.trans ?_ (congrArg (_ + ·) (pay_term m c t y))
  rw [outsAt0_B m c t h (by omega) (by omega)]
  frame_out
  simp only [read_unread_whole]
  pointwise [k0_pay3]

/-- So at each point the accumulator holds the sum of its run's blocks so far. -/
theorem scr (c : Dev nD) (t : Fin cfg0.N) (y : S1024x1024.Idx) :
    (outsAt0 m c t.val t.isLt).2 y = 0 + ∑ s ∈ range (t.val % 2 + 1), step m c (t.val / 2) s y :=
  Pipeline.eq_sum_of_reset_step_apply_divmod (fun n h => (outsAt0 m c n h).2) 2 (fun _ => 0) (step m c)
    (scr_first m c) (scr_next m c) t y

/-- At a run's last point the accumulator holds the whole product. -/
theorem scr_last (c : Dev nD) (t : Fin cfg0.N) (h : t.val % 2 = 1) (y : S1024x1024.Idx) :
    (outsAt0 m c t.val t.isLt).2 y = total m c ((t.val / 2 / 8) * 1024 + (y 0).val) ((t.val / 2 % 8) * 1024 + (y 1).val) := by
  rw [scr, zero_add, h]
  unfold step term
  exact sum_blocks 2 2048 fun l => at2 (lhs m c) l ((t.val / 2 / 8) * 1024 + (y 0).val) * at2 (rhs m c) l ((t.val / 2 % 8) * 1024 + (y 1).val)

/-- What the kernel leaves in its output at row `i` and column `j`. -/
def value0 (c : Dev nD) (i j : ℕ) : EReal := total m c i j

/-- The block that point `t` writes back. Points that write back are the last of their run. -/
theorem out0 (c : Dev nD) (t : Fin cfg0.N) (h : t.val % 2 = 1) (y : S1x1024x1024.Idx) :
    (outsAt0 m c t.val t.isLt).1 y = value0 m c ((t.val / 2 / 8) * 1024 + (y 1).val) ((t.val / 2 % 8) * 1024 + (y 2).val) := by
  have e : (outsAt0 m c t.val t.isLt).1 y = (outsAt0 m c t.val t.isLt).2 (ix2 (y 1) (y 2)) := by
    rw [outsAt0_B m c t (by omega) (by omega) h]
    frame_out
    pointwise [k0_pay4]
  rw [e, scr_last m c t h]; rfl

/-- The output array. -/
def result0 (c : Dev nD) : S8x2048x1024.Idx → EReal := fun i => value0 m c (i 1).val ((i 0).val * 1024 + (i 2).val)

/-- The array read at an index whose coordinates are known. -/
theorem result0_at (c : Dev nD) (i : S8x2048x1024.Idx) (a b : ℕ) (ha : (i 1).val = a) (hb : (i 0).val * 1024 + (i 2).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1, e2⟩ := idx2 t
  have h0 : (y 0).val < 1 := (y 0).isLt
  have h1 : (y 1).val < 1024 := (y 1).isLt
  have h2 : (y 2).val < 1024 := (y 2).isLt
  have hm : t.val % 2 = 1 := (flush0_2 t).mp hf
  blk_simp
  rw [after0_2]
  refine (out0 m c t hm y).trans (result0_at m c _ _ _ ?_ ?_) <;> blk_simp
  · omega
  · omega

end Cert.FfnDw1Ideal.Product

namespace Cert.FfnDw1RefIdeal.Product

open Cert.FfnDw1RefIdeal Cert.FfnDw1RefIdeal.Gen Cert.FfnDw1RefIdeal.Read Cert.Blocked
open Idealize.ShloMosaic Idealize.ShloMosaic.TcCoe Idealize.SL.Sem

/-- The reference's array, entry by entry. -/
theorem ref0 (x0 : S4096x2048.Idx → EReal) (x2 : S4096x8192.Idx → EReal) (i : S8x2048x1024.Idx) :
    val_main_v10 (F := Ideal) x0 x2 i = (∑ k : Fin 4096, at2 x0 k.val ((i 1).val) * at2 x2 k.val (((i 0).val * 1024 + (i 2).val))) := by
  have h0 : (i 0).val < 8 := (i 0).isLt
  have h1 : (i 1).val < 2048 := (i 1).isLt
  have h2 : (i 2).val < 1024 := (i 2).isLt
  simp only [val_main_v0_apply, val_main_v1_apply, val_main_v2_apply, val_main_v3_apply, val_main_v4_apply, val_main_v5_apply, val_main_v6_apply, val_main_v7_apply, val_main_v8_apply, val_main_v9_apply, val_main_v10_apply]
  refine Finset.sum_congr rfl fun k _ => ?_
  first
  | exact congrArg₂ (· * ·) (eq_at2 x0 _ _ _ rfl
      (by show (((i 1).val * 8 + (i 0).val) * 1024 + (i 2).val) / 8192 = (i 1).val; omega))
      (eq_at2 x2 _ _ _ rfl
      (by show (((i 1).val * 8 + (i 0).val) * 1024 + (i 2).val) % 8192 = (i 0).val * 1024 + (i 2).val; omega))
  | exact (mul_comm _ _).trans (congrArg₂ (· * ·) (eq_at2 x0 _ _ _ rfl
      (by show (((i 1).val * 8 + (i 0).val) * 1024 + (i 2).val) / 8192 = (i 1).val; omega))
      (eq_at2 x2 _ _ _ rfl
      (by show (((i 1).val * 8 + (i 0).val) * 1024 + (i 2).val) % 8192 = (i 0).val * 1024 + (i 2).val; omega)))

end Cert.FfnDw1RefIdeal.Product

namespace Cert.Proof.FfnDw1

open Idealize.ShloMosaic Idealize.ShloMosaic.TcCoe Idealize.SL.Sem

/-- From memories that agree on the arguments, both programs end with the same results, and the arguments unchanged. -/
theorem algebraic : Cert.algebraic_FfnDw1Ideal_FfnDw1RefIdeal := by
  intro m g m' g' _ hag
  refine ⟨fun c => Cert.FfnDw1Ideal.Product.result0 m c,
    (θ_run Cert.FfnDw1Ideal.defs _ _).mono (fun r h c => ⟨(h c).1.trans (Cert.FfnDw1Ideal.Product.final0 m c), (h c).2⟩)
      (Cert.FfnDw1Ideal.Value.run_blocks m g), ?_⟩
  refine (θ_run Cert.FfnDw1RefIdeal.defs _ _).mono (fun r h c => ⟨(h c).1.trans ?_, (h c).2⟩)
    (Cert.FfnDw1RefIdeal.Value.run m' g')
  rw [Cert.FfnDw1RefIdeal.Read.val_main_v10_eq]
  funext i
  refine (Cert.FfnDw1RefIdeal.Product.ref0 _ _ i).trans ?_
  rw [(hag c).1, (hag c).2.2]
  rfl

/-- The reference runs to its end, leaves its arguments unchanged and every counter at zero. -/
theorem frame_reference : Cert.quiescent_FfnDw1RefIdeal := fun m ρ _ =>
  (θ_run Cert.FfnDw1RefIdeal.defs _ _).mono (fun r h => ⟨fun c => (h c).2, sem_eq_zero_of_no_sems (by decide) r.2⟩)
    (Cert.FfnDw1RefIdeal.Value.run (F := Ideal) m ρ)

end Cert.Proof.FfnDw1
-- ==== Proof.FfnDh3.lean ====
/- The product that the program `FfnDh3` computes: entry `(i, j)` is row `i` of the left operand times row `j` of the right one, 8192 terms.
   The kernel works block by block on a grid of 32 points; its output array holds the same product as the reference's,
   entry by entry. -/
module

public import proofs.«01_k».proof.Proof.Blocked
public import proofs.«01_k».proof.Proof.Gen.FfnDh3Ideal.Value
public import proofs.«01_k».proof.Proof.Gen.FfnDh3RefIdeal.Read
public import proofs.«01_k».proof.Defs

@[expose] public section

noncomputable section

namespace Cert.FfnDh3Ideal.Product

open Cert.FfnDh3Ideal Cert.FfnDh3Ideal.Gen Cert.FfnDh3Ideal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x8192.Idx → EReal := m ((c : Thread nD τ).loc main_arg2)
/-- The right operand as launched. -/
abbrev rhs (c : Dev nD) : S8x2048x1024.Idx → EReal := m ((c : Thread nD τ).loc main_arg1)

/-- The block that grid point `t` reads or writes of the left operand. -/
theorem idx0 : ∀ t : Fin cfg0.N, win0_0.index t 0 = t.val / 8 ∧ win0_0.index t 1 = t.val % 8 :=
  (by decide +kernel : ∀ t : Fin grid0.N, _)

/-- The block that grid point `t` reads or writes of the right operand. -/
theorem idx1 : ∀ t : Fin cfg0.N, win0_1.index t 0 = t.val % 8 ∧ win0_1.index t 1 = 0 ∧ win0_1.index t 2 = 0 :=
  (by decide +kernel : ∀ t : Fin grid0.N, _)

/-- The block that grid point `t` reads or writes of the output. -/
theorem idx2 : ∀ t : Fin cfg0.N, win0_2.index t 0 = t.val / 8 ∧ win0_2.index t 1 = 0 :=
  (by decide +kernel : ∀ t : Fin grid0.N, _)

/-- The block of the left operand at point `t`, read at the array's own coordinates. -/
theorem blk0 (c : Dev nD) (t : Fin cfg0.N) (y : S1024x1024.Idx) :
    iblk m c 0 t y = at2 (lhs m c) ((t.val / 8) * 1024 + (y 0).val) ((t.val % 8) * 1024 + (y 1).val) := by
  unfold iblk
  rw [View.read_apply]
  show (V m c main_arg2 : S4096x8192.Idx → EReal) _ = _
  rw [V_main_arg2]
  obtain ⟨e0, e1⟩ := idx0 t
  have h0 : (y 0).val < 1024 := (y 0).isLt
  have h1 : (y 1).val < 1024 := (y 1).isLt
  refine eq_at2 _ _ _ _ ?_ ?_ <;> blk_simp
  · omega
  · omega

/-- The block of the right operand at point `t`, read at the array's own coordinates. -/
theorem blk1 (c : Dev nD) (t : Fin cfg0.N) (y : S1x2048x1024.Idx) :
    iblk m c 1 t y = at3 (rhs m c) (((t.val % 8) * 1024 + (y 2).val) / 1024) (0 * 2048 + (y 1).val) (((t.val % 8) * 1024 + (y 2).val) % 1024) := by
  unfold iblk
  rw [View.read_apply]
  show (V m c main_arg1 : S8x2048x1024.Idx → EReal) _ = _
  rw [V_main_arg1]
  obtain ⟨e0, e1, e2⟩ := idx1 t
  have h0 : (y 0).val < 1 := (y 0).isLt
  have h1 : (y 1).val < 2048 := (y 1).isLt
  have h2 : (y 2).val < 1024 := (y 2).isLt
  refine eq_at3 _ _ _ _ _ ?_ ?_ ?_ <;> blk_simp
  · omega
  · omega
  · omega

/-- The sum of the products over the lanes `1024 s ≤ l < 1024 s + 1024` of the contracted axis, at row `i` and column `j`. -/
def term (c : Dev nD) (s i j : ℕ) : EReal :=
  ∑ k : Fin 1024, at2 (lhs m c) i (s * 1024 + k.val) * at3 (rhs m c) ((s * 1024 + k.val) / 1024) j ((s * 1024 + k.val) % 1024)

/-- The whole product at row `i` and column `j`. -/
def total (c : Dev nD) (i j : ℕ) : EReal :=
  ∑ k : Fin 8192, at2 (lhs m c) i k.val * at3 (rhs m c) (k.val / 1024) j (k.val % 1024)

/-- One block product of the body is the sum over its lanes. -/
theorem pay (x0 : Vec Ideal S1024x1024 .bf16) (x1 : Vec Ideal S1x2048x1024 .bf16) (y : S1024x2048.Idx) :
    k0_pay1 x0 x1 y = ∑ k : Fin 1024, (x0 (ix2 (y 0) k) : EReal) * x1 (ix3 0 (y 1) k) := by
  pointwise [k0_pay1]

/-- The block product at point `t` is one block of the sum. -/
theorem pay_term (c : Dev nD) (t : Fin cfg0.N) (y : S1024x2048.Idx) :
    k0_pay1 (iblk m c 0 t) (iblk m c 1 t) y = term m c (t.val % 8) ((t.val / 8) * 1024 + (y 0).val) (0 * 2048 + (y 1).val) := by
  rw [pay]
  refine Finset.sum_congr rfl fun k _ => ?_
  rw [blk0, blk1]; rfl

/-- What block `s` of run `r` adds at an entry of the block. -/
def step (c : Dev nD) (r s : ℕ) (y : S1024x2048.Idx) : EReal := term m c s (r * 1024 + (y 0).val) (0 * 2048 + (y 1).val)

/-- The first point of a run starts the accumulator at its block's product. -/
theorem scr_first (c : Dev nD) (t : Fin cfg0.N) (h : t.val % 8 = 0) (y : S1024x2048.Idx) :
    (outsAt0 m c t.val t.isLt).2 y = 0 + step m c (t.val / 8) (t.val % 8) y := by
  rw [outsAt0_A m c t h (by omega) (by omega), zero_add]
  refine Eq.trans ?_ (pay_term m c t y)
  frame_out
  pointwise [k0_pay2]

/-- Every later point adds its block's product. -/
theorem scr_next (c : Dev nD) (t : Fin cfg0.N) (h : ¬t.val % 8 = 0) (y : S1024x2048.Idx) :
    (outsAt0 m c t.val t.isLt).2 y
      = (outsAt0 m c (t.val - 1) (Nat.lt_of_le_of_lt (Nat.sub_le _ _) t.isLt)).2 y + step m c (t.val / 8) (t.val % 8) y := by
  refine Eq.trans ?_ (congrArg (_ + ·) (pay_term m c t y))
  by_cases hl : t.val % 8 = 7
  · rw [outsAt0_C m c t h (by omega) hl]
    frame_out
    simp only [read_unread_whole]
    pointwise [k0_pay3]
  · rw [outsAt0_B m c t h (by omega) hl]
    frame_out
    simp only [read_unread_whole]
    pointwise [k0_pay3]

/-- So at each point the accumulator holds the sum of its run's blocks so far. -/
theorem scr (c : Dev nD) (t : Fin cfg0.N) (y : S1024x2048.Idx) :
    (outsAt0 m c t.val t.isLt).2 y = 0 + ∑ s ∈ range (t.val % 8 + 1), step m c (t.val / 8) s y :=
  Pipeline.eq_sum_of_reset_step_apply_divmod (fun n h => (outsAt0 m c n h).2) 8 (fun _ => 0) (step m c)
    (scr_first m c) (scr_next m c) t y

/-- At a run's last point the accumulator holds the whole product. -/
theorem scr_last (c : Dev nD) (t : Fin cfg0.N) (h : t.val % 8 = 7) (y : S1024x2048.Idx) :
    (outsAt0 m c t.val t.isLt).2 y = total m c ((t.val / 8) * 1024 + (y 0).val) (0 * 2048 + (y 1).val) := by
  rw [scr, zero_add, h]
  unfold step term
  exact sum_blocks 8 1024 fun l => at2 (lhs m c) ((t.val / 8) * 1024 + (y 0).val) l * at3 (rhs m c) (l / 1024) (0 * 2048 + (y 1).val) (l % 1024)

/-- What the kernel leaves in its output at row `i` and column `j`. -/
def value0 (c : Dev nD) (i j : ℕ) : EReal := total m c i j

/-- The block that point `t` writes back. Points that write back are the last of their run. -/
theorem out0 (c : Dev nD) (t : Fin cfg0.N) (h : t.val % 8 = 7) (y : S1024x2048.Idx) :
    (outsAt0 m c t.val t.isLt).1 y = value0 m c ((t.val / 8) * 1024 + (y 0).val) (0 * 2048 + (y 1).val) := by
  have e : (outsAt0 m c t.val t.isLt).1 y = (outsAt0 m c t.val t.isLt).2 y := by
    rw [outsAt0_C m c t (by omega) (by omega) h]
    frame_out
    pointwise [k0_pay4]
  rw [e, scr_last m c t h]; rfl

/-- The output array. -/
def result0 (c : Dev nD) : S4096x2048.Idx → EReal := fun i => value0 m c (i 0).val (i 1).val

/-- The array read at an index whose coordinates are known. -/
theorem result0_at (c : Dev nD) (i : S4096x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 1024 := (y 0).isLt
  have h1 : (y 1).val < 2048 := (y 1).isLt
  have hm : t.val % 8 = 7 := (flush0_2 t).mp hf
  blk_simp
  rw [after0_2]
  refine (out0 m c t hm y).trans (result0_at m c _ _ _ ?_ ?_) <;> blk_simp
  · omega
  · omega

end Cert.FfnDh3Ideal.Product

namespace Cert.FfnDh3RefIdeal.Product

open Cert.FfnDh3RefIdeal Cert.FfnDh3RefIdeal.Gen Cert.FfnDh3RefIdeal.Read Cert.Blocked
open Idealize.ShloMosaic Idealize.ShloMosaic.TcCoe Idealize.SL.Sem

/-- The reference's array, entry by entry. -/
theorem ref0 (x1 : S8x2048x1024.Idx → EReal) (x2 : S4096x8192.Idx → EReal) (i : S4096x2048.Idx) :
    val_main_v7 (F := Ideal) x1 x2 i = (∑ k : Fin 8192, at2 x2 ((i 0).val) k.val * at3 x1 (k.val / 1024) ((i 1).val) (k.val % 1024)) := by
  have h0 : (i 0).val < 4096 := (i 0).isLt
  have h1 : (i 1).val < 2048 := (i 1).isLt
  simp only [val_main_v0_apply, val_main_v1_apply, val_main_v2_apply, val_main_v3_apply, val_main_v4_apply, val_main_v5_apply, val_main_v6_apply, val_main_v7_apply]
  refine Finset.sum_congr rfl fun k _ => ?_
  have hk : k.val < 8192 := k.isLt
  first
  | exact congrArg₂ (· * ·) (eq_at2 x2 _ _ _ rfl rfl)
      (eq_at3 x1 _ _ _ _
      (by show ((i 1).val * 8192 + k.val) / 1024 % 8 = k.val / 1024; omega)
      (by show ((i 1).val * 8192 + k.val) / 8192 = (i 1).val; omega)
      (by show ((i 1).val * 8192 + k.val) % 1024 = k.val % 1024; omega))
  | exact (mul_comm _ _).trans (congrArg₂ (· * ·) (eq_at2 x2 _ _ _ rfl rfl)
      (eq_at3 x1 _ _ _ _
      (by show ((i 1).val * 8192 + k.val) / 1024 % 8 = k.val / 1024; omega)
      (by show ((i 1).val * 8192 + k.val) / 8192 = (i 1).val; omega)
      (by show ((i 1).val * 8192 + k.val) % 1024 = k.val % 1024; omega)))

end Cert.FfnDh3RefIdeal.Product

namespace Cert.Proof.FfnDh3

open Idealize.ShloMosaic Idealize.ShloMosaic.TcCoe Idealize.SL.Sem

/-- From memories that agree on the arguments, both programs end with the same results, and the arguments unchanged. -/
theorem algebraic : Cert.algebraic_FfnDh3Ideal_FfnDh3RefIdeal := by
  intro m g m' g' _ hag
  refine ⟨fun c => Cert.FfnDh3Ideal.Product.result0 m c,
    (θ_run Cert.FfnDh3Ideal.defs _ _).mono (fun r h c => ⟨(h c).1.trans (Cert.FfnDh3Ideal.Product.final0 m c), (h c).2⟩)
      (Cert.FfnDh3Ideal.Value.run_blocks m g), ?_⟩
  refine (θ_run Cert.FfnDh3RefIdeal.defs _ _).mono (fun r h c => ⟨(h c).1.trans ?_, (h c).2⟩)
    (Cert.FfnDh3RefIdeal.Value.run m' g')
  rw [Cert.FfnDh3RefIdeal.Read.val_main_v7_eq]
  funext i
  refine (Cert.FfnDh3RefIdeal.Product.ref0 _ _ i).trans ?_
  rw [(hag c).2.1, (hag c).2.2]
  rfl

/-- The reference runs to its end, leaves its arguments unchanged and every counter at zero. -/
theorem frame_reference : Cert.quiescent_FfnDh3RefIdeal := fun m ρ _ =>
  (θ_run Cert.FfnDh3RefIdeal.defs _ _).mono (fun r h => ⟨fun c => (h c).2, sem_eq_zero_of_no_sems (by decide) r.2⟩)
    (Cert.FfnDh3RefIdeal.Value.run (F := Ideal) m ρ)

end Cert.Proof.FfnDh3
-- ==== Proof.Query.lean ====
/- The product that the program `Query` computes: entry `(i, j)` is row `i` of the left operand times column `j` of the right one, 2048 terms.
   The kernel works block by block on a grid of 4 points; its output array holds the same product as the reference's,
   entry by entry. -/
module

public import proofs.«01_k».proof.Proof.Blocked
public import proofs.«01_k».proof.Proof.Gen.QueryIdeal.Value
public import proofs.«01_k».proof.Proof.Gen.QueryRefIdeal.Read
public import proofs.«01_k».proof.Defs

@[expose] public section

noncomputable section

namespace Cert.QueryIdeal.Product

open Cert.QueryIdeal Cert.QueryIdeal.Gen Cert.QueryIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x2048.Idx → EReal := m ((c : Thread nD τ).loc main_arg0)
/-- The right operand as launched. -/
abbrev rhs (c : Dev nD) : S2048x2048.Idx → EReal := m ((c : Thread nD τ).loc main_arg1)

/-- The block that grid point `t` reads or writes of the left operand. -/
theorem idx0 : ∀ t : Fin cfg0.N, win0_0.index t 0 = t.val ∧ win0_0.index t 1 = 0 :=
  (by decide +kernel : ∀ t : Fin grid0.N, _)

/-- The block that grid point `t` reads or writes of the right operand. -/
theorem idx1 : ∀ t : Fin cfg0.N, win0_1.index t 0 = 0 ∧ win0_1.index t 1 = 0 :=
  (by decide +kernel : ∀ t : Fin grid0.N, _)

/-- The block that grid point `t` reads or writes of the output. -/
theorem idx2 : ∀ t : Fin cfg0.N, win0_2.index t 0 = t.val ∧ win0_2.index t 1 = 0 :=
  (by decide +kernel : ∀ t : Fin grid0.N, _)

/-- The block of the left operand at point `t`, read at the array's own coordinates. -/
theorem blk0 (c : Dev nD) (t : Fin cfg0.N) (y : S1024x2048.Idx) :
    iblk m c 0 t y = at2 (lhs m c) (t.val * 1024 + (y 0).val) (0 * 2048 + (y 1).val) := by
  unfold iblk
  rw [View.read_apply]
  show (V m c main_arg0 : S4096x2048.Idx → EReal) _ = _
  rw [V_main_arg0]
  obtain ⟨e0, e1⟩ := idx0 t
  have h0 : (y 0).val < 1024 := (y 0).isLt
  have h1 : (y 1).val < 2048 := (y 1).isLt
  refine eq_at2 _ _ _ _ ?_ ?_ <;> blk_simp
  · omega
  · omega

/-- The block of the right operand at point `t`, read at the array's own coordinates. -/
theorem blk1 (c : Dev nD) (t : Fin cfg0.N) (y : S2048x2048.Idx) :
    iblk m c 1 t y = at2 (rhs m c) (0 * 2048 + (y 0).val) (0 * 2048 + (y 1).val) := by
  unfold iblk
  rw [View.read_apply]
  show (V m c main_arg1 : S2048x2048.Idx → EReal) _ = _
  rw [V_main_arg1]
  obtain ⟨e0, e1⟩ := idx1 t
  have h0 : (y 0).val < 2048 := (y 0).isLt
  have h1 : (y 1).val < 2048 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) i (s * 2048 + k.val) * at2 (rhs m c) (s * 2048 + k.val) j

/-- The whole product at row `i` and column `j`. -/
def total (c : Dev nD) (i j : ℕ) : EReal :=
  ∑ k : Fin 2048, at2 (lhs m c) i k.val * at2 (rhs m c) k.val j

/-- One block is the whole sum. -/
theorem term_eq (c : Dev nD) (i j : ℕ) : term m c 0 i j = total m c i j := by
  unfold term total
  refine Finset.sum_congr rfl fun k _ => ?_
  simp only [zero_mul, zero_add]

/-- The two blocks that the body multiplies at point `t`. -/
abbrev left (c : Dev nD) (t : Fin cfg0.N) : S1024x2048.Idx → EReal := iblk m c 0 t
abbrev right (c : Dev nD) (t : Fin cfg0.N) : S2048x2048.Idx → EReal := iblk m c 1 t

/-- The lanes of the two blocks at point `t` multiply to the whole product. -/
theorem lanes (c : Dev nD) (t : Fin cfg0.N) (y : S1024x2048.Idx) :
    ∑ k : Fin 2048, left m c t (ix2 (y 0) k) * right m c t (ix2 k (y 1)) = total m c (t.val * 1024 + (y 0).val) (0 * 2048 + (y 1).val) := by
  rw [← term_eq]
  refine Finset.sum_congr rfl fun k _ => ?_
  unfold left right
  rw [blk0, blk1]; rfl

/-- What the kernel leaves in its output at row `i` and column `j`. -/
def value0 (c : Dev nD) (i j : ℕ) : EReal := total m c i j

/-- The block that point `t` writes back. -/
theorem out0 (c : Dev nD) (t : Fin cfg0.N) (y : S1024x2048.Idx) :
    out0_2 (iblk m c 0 t) (iblk m c 1 t) y = value0 m c (t.val * 1024 + (y 0).val) (0 * 2048 + (y 1).val) := by
  refine Eq.trans ?_ (lanes m c t y)
  frame_out
  pointwise [k0_pay1]

/-- The output array. -/
def result0 (c : Dev nD) : S4096x2048.Idx → EReal := fun i => value0 m c (i 0).val (i 1).val

/-- The array read at an index whose coordinates are known. -/
theorem result0_at (c : Dev nD) (i : S4096x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 1024 := (y 0).isLt
  have h1 : (y 1).val < 2048 := (y 1).isLt
  blk_simp
  rw [after0_2]
  refine (out0 m c t y).trans (result0_at m c _ _ _ ?_ ?_) <;> blk_simp
  · omega
  · omega

end Cert.QueryIdeal.Product

namespace Cert.QueryRefIdeal.Product

open Cert.QueryRefIdeal Cert.QueryRefIdeal.Gen Cert.QueryRefIdeal.Read Cert.Blocked
open Idealize.ShloMosaic Idealize.ShloMosaic.TcCoe Idealize.SL.Sem

/-- The reference's array, entry by entry. -/
theorem ref0 (x0 : S4096x2048.Idx → EReal) (x1 : S2048x2048.Idx → EReal) (i : S4096x2048.Idx) :
    val_main_v3 (F := Ideal) x0 x1 i = (∑ k : Fin 2048, at2 x0 ((i 0).val) k.val * at2 x1 k.val ((i 1).val)) := by
  have h0 : (i 0).val < 4096 := (i 0).isLt
  have h1 : (i 1).val < 2048 := (i 1).isLt
  simp only [val_main_v0_apply, val_main_v1_apply, val_main_v2_apply, val_main_v3_apply]
  refine Finset.sum_congr rfl fun k _ => ?_
  first
  | exact congrArg₂ (· * ·) (eq_at2 x0 _ _ _ rfl rfl)
      (eq_at2 x1 _ _ _ rfl rfl)
  | exact (mul_comm _ _).trans (congrArg₂ (· * ·) (eq_at2 x0 _ _ _ rfl rfl)
      (eq_at2 x1 _ _ _ rfl rfl))

end Cert.QueryRefIdeal.Product

namespace Cert.Proof.Query

open Idealize.ShloMosaic Idealize.ShloMosaic.TcCoe Idealize.SL.Sem

/-- From memories that agree on the arguments, both programs end with the same results, and the arguments unchanged. -/
theorem algebraic : Cert.algebraic_QueryIdeal_QueryRefIdeal := by
  intro m g m' g' _ hag
  refine ⟨fun c => Cert.QueryIdeal.Product.result0 m c,
    (θ_run Cert.QueryIdeal.defs _ _).mono (fun r h c => ⟨(h c).1.trans (Cert.QueryIdeal.Product.final0 m c), (h c).2⟩)
      (Cert.QueryIdeal.Value.run_blocks m g), ?_⟩
  refine (θ_run Cert.QueryRefIdeal.defs _ _).mono (fun r h c => ⟨(h c).1.trans ?_, (h c).2⟩)
    (Cert.QueryRefIdeal.Value.run m' g')
  rw [Cert.QueryRefIdeal.Read.val_main_v3_eq]
  funext i
  refine (Cert.QueryRefIdeal.Product.ref0 _ _ i).trans ?_
  rw [(hag c).1, (hag c).2]
  rfl

/-- The reference runs to its end, leaves its arguments unchanged and every counter at zero. -/
theorem frame_reference : Cert.quiescent_QueryRefIdeal := fun m ρ _ =>
  (θ_run Cert.QueryRefIdeal.defs _ _).mono (fun r h => ⟨fun c => (h c).2, sem_eq_zero_of_no_sems (by decide) r.2⟩)
    (Cert.QueryRefIdeal.Value.run (F := Ideal) m ρ)

end Cert.Proof.Query
-- ==== Proof.Proj.lean ====
/- The product that the program `Proj` computes: entry `(i, j)` is row `i` of the left operand times column `j` of the right one, 2048 terms.
   The kernel works block by block on a grid of 8 points; its output array holds the same product as the reference's,
   entry by entry. -/
module

public import proofs.«01_k».proof.Proof.Blocked
public import proofs.«01_k».proof.Proof.Gen.ProjIdeal.Value
public import proofs.«01_k».proof.Proof.Gen.ProjRefIdeal.Read
public import proofs.«01_k».proof.Defs

@[expose] public section

noncomputable section

namespace Cert.ProjIdeal.Product

open Cert.ProjIdeal Cert.ProjIdeal.Gen Cert.ProjIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x2048.Idx → EReal := m ((c : Thread nD τ).loc main_arg0)
/-- The right operand as launched. -/
abbrev rhs (c : Dev nD) : S2048x2048.Idx → EReal := m ((c : Thread nD τ).loc main_arg1)
/-- The summand, as launched. -/
abbrev add (c : Dev nD) : S4096x2048.Idx → EReal := m ((c : Thread nD τ).loc main_arg2)

/-- The block that grid point `t` reads or writes of the left operand. -/
theorem idx0 : ∀ t : Fin cfg0.N, win0_0.index t 0 = t.val / 2 ∧ win0_0.index t 1 = 0 :=
  (by decide +kernel : ∀ t : Fin grid0.N, _)

/-- The block that grid point `t` reads or writes of the right operand. -/
theorem idx1 : ∀ t : Fin cfg0.N, win0_1.index t 0 = 0 ∧ win0_1.index t 1 = t.val % 2 :=
  (by decide +kernel : ∀ t : Fin grid0.N, _)

/-- The block that grid point `t` reads or writes of the third operand. -/
theorem idx2 : ∀ t : Fin cfg0.N, win0_2.index t 0 = t.val / 2 ∧ win0_2.index t 1 = t.val % 2 :=
  (by decide +kernel : ∀ t : Fin grid0.N, _)

/-- The block that grid point `t` reads or writes of the output. -/
theorem idx3 : ∀ t : Fin cfg0.N, win0_3.index t 0 = t.val / 2 ∧ win0_3.index t 1 = t.val % 2 :=
  (by decide +kernel : ∀ t : Fin grid0.N, _)

/-- The block of the left operand at point `t`, read at the array's own coordinates. -/
theorem blk0 (c : Dev nD) (t : Fin cfg0.N) (y : S1024x2048.Idx) :
    iblk m c 0 t y = at2 (lhs m c) ((t.val / 2) * 1024 + (y 0).val) (0 * 2048 + (y 1).val) := by
  unfold iblk
  rw [View.read_apply]
  show (V m c main_arg0 : S4096x2048.Idx → EReal) _ = _
  rw [V_main_arg0]
  obtain ⟨e0, e1⟩ := idx0 t
  have h0 : (y 0).val < 1024 := (y 0).isLt
  have h1 : (y 1).val < 2048 := (y 1).isLt
  refine eq_at2 _ _ _ _ ?_ ?_ <;> blk_simp
  · omega
  · omega

/-- The block of the right operand at point `t`, read at the array's own coordinates. -/
theorem blk1 (c : Dev nD) (t : Fin cfg0.N) (y : S2048x1024.Idx) :
    iblk m c 1 t y = at2 (rhs m c) (0 * 2048 + (y 0).val) ((t.val % 2) * 1024 + (y 1).val) := by
  unfold iblk
  rw [View.read_apply]
  show (V m c main_arg1 : S2048x2048.Idx → EReal) _ = _
  rw [V_main_arg1]
  obtain ⟨e0, e1⟩ := idx1 t
  have h0 : (y 0).val < 2048 := (y 0).isLt
  have h1 : (y 1).val < 1024 := (y 1).isLt
  refine eq_at2 _ _ _ _ ?_ ?_ <;> blk_simp
  · omega
  · omega

/-- The block of the summand at point `t`, read at the array's own coordinates. -/
theorem blk2 (c : Dev nD) (t : Fin cfg0.N) (y : S1024x1024.Idx) :
    iblk m c 2 t y = at2 (add m c) ((t.val / 2) * 1024 + (y 0).val) ((t.val % 2) * 1024 + (y 1).val) := by
  unfold iblk
  rw [View.read_apply]
  show (V m c main_arg2 : S4096x2048.Idx → EReal) _ = _
  rw [V_main_arg2]
  obtain ⟨e0, e1⟩ := idx2 t
  have h0 : (y 0).val < 1024 := (y 0).isLt
  have h1 : (y 1).val < 1024 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) i (s * 2048 + k.val) * at2 (rhs m c) (s * 2048 + k.val) j

/-- The whole product at row `i` and column `j`. -/
def total (c : Dev nD) (i j : ℕ) : EReal :=
  ∑ k : Fin 2048, at2 (lhs m c) i k.val * at2 (rhs m c) k.val j

/-- One block is the whole sum. -/
theorem term_eq (c : Dev nD) (i j : ℕ) : term m c 0 i j = total m c i j := by
  unfold term total
  refine Finset.sum_congr rfl fun k _ => ?_
  simp only [zero_mul, zero_add]

/-- The two blocks that the body multiplies at point `t`. -/
abbrev left (c : Dev nD) (t : Fin cfg0.N) : S1024x2048.Idx → EReal := iblk m c 0 t
abbrev right (c : Dev nD) (t : Fin cfg0.N) : S2048x1024.Idx → EReal := iblk m c 1 t

/-- The lanes of the two blocks at point `t` multiply to the whole product. -/
theorem lanes (c : Dev nD) (t : Fin cfg0.N) (y : S1024x1024.Idx) :
    ∑ k : Fin 2048, left m c t (ix2 (y 0) k) * right m c t (ix2 k (y 1)) = total m c ((t.val / 2) * 1024 + (y 0).val) ((t.val % 2) * 1024 + (y 1).val) := by
  rw [← term_eq]
  refine Finset.sum_congr rfl fun k _ => ?_
  unfold left right
  rw [blk0, blk1]; rfl

/-- What the kernel leaves in its output at row `i` and column `j`. -/
def value0 (c : Dev nD) (i j : ℕ) : EReal := total m c i j + at2 (add m c) i j

/-- The block that point `t` writes back. -/
theorem out0 (c : Dev nD) (t : Fin cfg0.N) (y : S1024x1024.Idx) :
    out0_3 (iblk m c 0 t) (iblk m c 1 t) (iblk m c 2 t) y = value0 m c ((t.val / 2) * 1024 + (y 0).val) ((t.val % 2) * 1024 + (y 1).val) := by
  refine Eq.trans ?_ (congrArg₂ (· + ·) (lanes m c t y) (blk2 m c t y))
  frame_out
  pointwise [k0_pay1]

/-- The output array. -/
def result0 (c : Dev nD) : S4096x2048.Idx → EReal := fun i => value0 m c (i 0).val (i 1).val

/-- The array read at an index whose coordinates are known. -/
theorem result0_at (c : Dev nD) (i : S4096x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 3 cfg0.N = result0 m c := by
  refine (dats m 0 c).arrAt_eq_of_covers 3 (result0 m c) (by decide +kernel) fun t hf y => ?_
  obtain ⟨e0, e1⟩ := idx3 t
  have h0 : (y 0).val < 1024 := (y 0).isLt
  have h1 : (y 1).val < 1024 := (y 1).isLt
  blk_simp
  rw [after0_3]
  refine (out0 m c t y).trans (result0_at m c _ _ _ ?_ ?_) <;> blk_simp
  · omega
  · omega

end Cert.ProjIdeal.Product

namespace Cert.ProjRefIdeal.Product

open Cert.ProjRefIdeal Cert.ProjRefIdeal.Gen Cert.ProjRefIdeal.Read Cert.Blocked
open Idealize.ShloMosaic Idealize.ShloMosaic.TcCoe Idealize.SL.Sem

/-- The reference's array, entry by entry. -/
theorem ref0 (x0 : S4096x2048.Idx → EReal) (x1 : S2048x2048.Idx → EReal) (x2 : S4096x2048.Idx → EReal) (i : S4096x2048.Idx) :
    val_main_v3 (F := Ideal) x0 x1 x2 i = (∑ k : Fin 2048, at2 x0 ((i 0).val) k.val * at2 x1 k.val ((i 1).val)) + at2 x2 (i 0).val (i 1).val := by
  have h0 : (i 0).val < 4096 := (i 0).isLt
  have h1 : (i 1).val < 2048 := (i 1).isLt
  simp only [val_main_v0_apply, val_main_v1_apply, val_main_v2_apply, val_main_v3_apply]
  rw [add_comm]
  refine congrArg₂ (· + ·) (eq_at2 _ _ _ _ rfl rfl) ?_
  refine Finset.sum_congr rfl fun k _ => ?_
  first
  | exact congrArg₂ (· * ·) (eq_at2 x0 _ _ _ rfl rfl)
      (eq_at2 x1 _ _ _ rfl rfl)
  | exact (mul_comm _ _).trans (congrArg₂ (· * ·) (eq_at2 x0 _ _ _ rfl rfl)
      (eq_at2 x1 _ _ _ rfl rfl))

end Cert.ProjRefIdeal.Product

namespace Cert.Proof.Proj

open Idealize.ShloMosaic Idealize.ShloMosaic.TcCoe Idealize.SL.Sem

/-- From memories that agree on the arguments, both programs end with the same results, and the arguments unchanged. -/
theorem algebraic : Cert.algebraic_ProjIdeal_ProjRefIdeal := by
  intro m g m' g' _ hag
  refine ⟨fun c => Cert.ProjIdeal.Product.result0 m c,
    (θ_run Cert.ProjIdeal.defs _ _).mono (fun r h c => ⟨(h c).1.trans (Cert.ProjIdeal.Product.final0 m c), (h c).2⟩)
      (Cert.ProjIdeal.Value.run_blocks m g), ?_⟩
  refine (θ_run Cert.ProjRefIdeal.defs _ _).mono (fun r h c => ⟨(h c).1.trans ?_, (h c).2⟩)
    (Cert.ProjRefIdeal.Value.run m' g')
  rw [Cert.ProjRefIdeal.Read.val_main_v3_eq]
  funext i
  refine (Cert.ProjRefIdeal.Product.ref0 _ _ _ i).trans ?_
  rw [(hag c).1, (hag c).2.1, (hag c).2.2]
  rfl

/-- The reference runs to its end, leaves its arguments unchanged and every counter at zero. -/
theorem frame_reference : Cert.quiescent_ProjRefIdeal := fun m ρ _ =>
  (θ_run Cert.ProjRefIdeal.defs _ _).mono (fun r h => ⟨fun c => (h c).2, sem_eq_zero_of_no_sems (by decide) r.2⟩)
    (Cert.ProjRefIdeal.Value.run (F := Ideal) m ρ)

end Cert.Proof.Proj
-- ==== Proof.ProjDw.lean ====
/- The product that the program `ProjDw` computes: entry `(i, j)` is column `i` of the left operand times column `j` of the right one, 4096 terms.
   The kernel works block by block on a grid of 8 points; its output array holds the same product as the reference's,
   entry by entry. -/
module

public import proofs.«01_k».proof.Proof.Blocked
public import proofs.«01_k».proof.Proof.Gen.ProjDwIdeal.Value
public import proofs.«01_k».proof.Proof.Gen.ProjDwRefIdeal.Read
public import proofs.«01_k».proof.Defs

@[expose] public section

noncomputable section

namespace Cert.ProjDwIdeal.Product

open Cert.ProjDwIdeal Cert.ProjDwIdeal.Gen Cert.ProjDwIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x2048.Idx → EReal := m ((c : Thread nD τ).loc main_arg0)
/-- The right operand as launched. -/
abbrev rhs (c : Dev nD) : S4096x2048.Idx → EReal := m ((c : Thread nD τ).loc main_arg2)

/-- The block that grid point `t` reads or writes of the left operand. -/
theorem idx0 : ∀ t : Fin cfg0.N, win0_0.index t 0 = t.val % 2 ∧ win0_0.index t 1 = t.val / 2 / 2 :=
  (by decide +kernel : ∀ t : Fin grid0.N, _)

/-- The block that grid point `t` reads or writes of the right operand. -/
theorem idx1 : ∀ t : Fin cfg0.N, win0_1.index t 0 = t.val % 2 ∧ win0_1.index t 1 = t.val / 2 % 2 :=
  (by decide +kernel : ∀ t : Fin grid0.N, _)

/-- The block that grid point `t` reads or writes of the output. -/
theorem idx2 : ∀ t : Fin cfg0.N, win0_2.index t 0 = t.val / 2 / 2 ∧ win0_2.index t 1 = t.val / 2 % 2 :=
  (by decide +kernel : ∀ t : Fin grid0.N, _)

/-- The block of the left operand at point `t`, read at the array's own coordinates. -/
theorem blk0 (c : Dev nD) (t : Fin cfg0.N) (y : S2048x1024.Idx) :
    iblk m c 0 t y = at2 (lhs m c) ((t.val % 2) * 2048 + (y 0).val) ((t.val / 2 / 2) * 1024 + (y 1).val) := by
  unfold iblk
  rw [View.read_apply]
  show (V m c main_arg0 : S4096x2048.Idx → EReal) _ = _
  rw [V_main_arg0]
  obtain ⟨e0, e1⟩ := idx0 t
  have h0 : (y 0).val < 2048 := (y 0).isLt
  have h1 : (y 1).val < 1024 := (y 1).isLt
  refine eq_at2 _ _ _ _ ?_ ?_ <;> blk_simp
  · omega
  · omega

/-- The block of the right operand at point `t`, read at the array's own coordinates. -/
theorem blk1 (c : Dev nD) (t : Fin cfg0.N) (y : S2048x1024.Idx) :
    iblk m c 1 t y = at2 (rhs m c) ((t.val % 2) * 2048 + (y 0).val) ((t.val / 2 % 2) * 1024 + (y 1).val) := by
  unfold iblk
  rw [View.read_apply]
  show (V m c main_arg2 : S4096x2048.Idx → EReal) _ = _
  rw [V_main_arg2]
  obtain ⟨e0, e1⟩ := idx1 t
  have h0 : (y 0).val < 2048 := (y 0).isLt
  have h1 : (y 1).val < 1024 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) (s * 2048 + k.val) i * at2 (rhs m c) (s * 2048 + k.val) j

/-- The whole product at row `i` and column `j`. -/
def total (c : Dev nD) (i j : ℕ) : EReal :=
  ∑ k : Fin 4096, at2 (lhs m c) k.val i * at2 (rhs m c) k.val j

/-- One block product of the body is the sum over its lanes. -/
theorem pay (x0 : Vec Ideal S2048x1024 .bf16) (x1 : Vec Ideal S2048x1024 .f32) (y : S1024x1024.Idx) :
    k0_pay1 x0 x1 y = ∑ k : Fin 2048, (x0 (ix2 k (y 0)) : EReal) * x1 (ix2 k (y 1)) := by
  pointwise [k0_pay1]

/-- The block product at point `t` is one block of the sum. -/
theorem pay_term (c : Dev nD) (t : Fin cfg0.N) (y : S1024x1024.Idx) :
    k0_pay1 (iblk m c 0 t) (iblk m c 1 t) y = term m c (t.val % 2) ((t.val / 2 / 2) * 1024 + (y 0).val) ((t.val / 2 % 2) * 1024 + (y 1).val) := by
  rw [pay]
  refine Finset.sum_congr rfl fun k _ => ?_
  rw [blk0, blk1]; rfl

/-- What block `s` of run `r` adds at an entry of the block. -/
def step (c : Dev nD) (r s : ℕ) (y : S1024x1024.Idx) : EReal := term m c s ((r / 2) * 1024 + (y 0).val) ((r % 2) * 1024 + (y 1).val)

/-- The first point of a run starts the accumulator at its block's product. -/
theorem scr_first (c : Dev nD) (t : Fin cfg0.N) (h : t.val % 2 = 0) (y : S1024x1024.Idx) :
    (outsAt0 m c t.val t.isLt).2 y = 0 + step m c (t.val / 2) (t.val % 2) y := by
  rw [outsAt0_A m c t h (by omega) (by omega), zero_add]
  refine Eq.trans ?_ (pay_term m c t y)
  frame_out
  pointwise [k0_pay2]

/-- Every later point adds its block's product. -/
theorem scr_next (c : Dev nD) (t : Fin cfg0.N) (h : ¬t.val % 2 = 0) (y : S1024x1024.Idx) :
    (outsAt0 m c t.val t.isLt).2 y
      = (outsAt0 m c (t.val - 1) (Nat.lt_of_le_of_lt (Nat.sub_le _ _) t.isLt)).2 y + step m c (t.val / 2) (t.val % 2) y := by
  refine Eq.trans ?_ (congrArg (_ + ·) (pay_term m c t y))
  rw [outsAt0_B m c t h (by omega) (by omega)]
  frame_out
  simp only [read_unread_whole]
  pointwise [k0_pay3]

/-- So at each point the accumulator holds the sum of its run's blocks so far. -/
theorem scr (c : Dev nD) (t : Fin cfg0.N) (y : S1024x1024.Idx) :
    (outsAt0 m c t.val t.isLt).2 y = 0 + ∑ s ∈ range (t.val % 2 + 1), step m c (t.val / 2) s y :=
  Pipeline.eq_sum_of_reset_step_apply_divmod (fun n h => (outsAt0 m c n h).2) 2 (fun _ => 0) (step m c)
    (scr_first m c) (scr_next m c) t y

/-- At a run's last point the accumulator holds the whole product. -/
theorem scr_last (c : Dev nD) (t : Fin cfg0.N) (h : t.val % 2 = 1) (y : S1024x1024.Idx) :
    (outsAt0 m c t.val t.isLt).2 y = total m c ((t.val / 2 / 2) * 1024 + (y 0).val) ((t.val / 2 % 2) * 1024 + (y 1).val) := by
  rw [scr, zero_add, h]
  unfold step term
  exact sum_blocks 2 2048 fun l => at2 (lhs m c) l ((t.val / 2 / 2) * 1024 + (y 0).val) * at2 (rhs m c) l ((t.val / 2 % 2) * 1024 + (y 1).val)

/-- What the kernel leaves in its output at row `i` and column `j`. -/
def value0 (c : Dev nD) (i j : ℕ) : EReal := total m c i j

/-- The block that point `t` writes back. Points that write back are the last of their run. -/
theorem out0 (c : Dev nD) (t : Fin cfg0.N) (h : t.val % 2 = 1) (y : S1024x1024.Idx) :
    (outsAt0 m c t.val t.isLt).1 y = value0 m c ((t.val / 2 / 2) * 1024 + (y 0).val) ((t.val / 2 % 2) * 1024 + (y 1).val) := by
  have e : (outsAt0 m c t.val t.isLt).1 y = (outsAt0 m c t.val t.isLt).2 y := by
    rw [outsAt0_B m c t (by omega) (by omega) h]
    frame_out
    pointwise [k0_pay4]
  rw [e, scr_last m c t h]; rfl

/-- The output array. -/
def result0 (c : Dev nD) : S2048x2048.Idx → EReal := fun i => value0 m c (i 0).val (i 1).val

/-- The array read at an index whose coordinates are known. -/
theorem result0_at (c : Dev nD) (i : S2048x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 1024 := (y 0).isLt
  have h1 : (y 1).val < 1024 := (y 1).isLt
  have hm : t.val % 2 = 1 := (flush0_2 t).mp hf
  blk_simp
  rw [after0_2]
  refine (out0 m c t hm y).trans (result0_at m c _ _ _ ?_ ?_) <;> blk_simp
  · omega
  · omega

end Cert.ProjDwIdeal.Product

namespace Cert.ProjDwRefIdeal.Product

open Cert.ProjDwRefIdeal Cert.ProjDwRefIdeal.Gen Cert.ProjDwRefIdeal.Read Cert.Blocked
open Idealize.ShloMosaic Idealize.ShloMosaic.TcCoe Idealize.SL.Sem

/-- The reference's array, entry by entry. -/
theorem ref0 (x0 : S4096x2048.Idx → EReal) (x2 : S4096x2048.Idx → EReal) (i : S2048x2048.Idx) :
    val_main_v5 (F := Ideal) x0 x2 i = (∑ k : Fin 4096, at2 x0 k.val ((i 0).val) * at2 x2 k.val ((i 1).val)) := by
  have h0 : (i 0).val < 2048 := (i 0).isLt
  have h1 : (i 1).val < 2048 := (i 1).isLt
  simp only [val_main_v0_apply, val_main_v1_apply, val_main_v2_apply, val_main_v3_apply, val_main_v4_apply, val_main_v5_apply]
  refine Finset.sum_congr rfl fun k _ => ?_
  first
  | exact congrArg₂ (· * ·) (eq_at2 x0 _ _ _ rfl rfl)
      (eq_at2 x2 _ _ _ rfl rfl)
  | exact (mul_comm _ _).trans (congrArg₂ (· * ·) (eq_at2 x0 _ _ _ rfl rfl)
      (eq_at2 x2 _ _ _ rfl rfl))

end Cert.ProjDwRefIdeal.Product

namespace Cert.Proof.ProjDw

open Idealize.ShloMosaic Idealize.ShloMosaic.TcCoe Idealize.SL.Sem

/-- From memories that agree on the arguments, both programs end with the same results, and the arguments unchanged. -/
theorem algebraic : Cert.algebraic_ProjDwIdeal_ProjDwRefIdeal := by
  intro m g m' g' _ hag
  refine ⟨fun c => Cert.ProjDwIdeal.Product.result0 m c,
    (θ_run Cert.ProjDwIdeal.defs _ _).mono (fun r h c => ⟨(h c).1.trans (Cert.ProjDwIdeal.Product.final0 m c), (h c).2⟩)
      (Cert.ProjDwIdeal.Value.run_blocks m g), ?_⟩
  refine (θ_run Cert.ProjDwRefIdeal.defs _ _).mono (fun r h c => ⟨(h c).1.trans ?_, (h c).2⟩)
    (Cert.ProjDwRefIdeal.Value.run m' g')
  rw [Cert.ProjDwRefIdeal.Read.val_main_v5_eq]
  funext i
  refine (Cert.ProjDwRefIdeal.Product.ref0 _ _ i).trans ?_
  rw [(hag c).1, (hag c).2.2]
  rfl

/-- The reference runs to its end, leaves its arguments unchanged and every counter at zero. -/
theorem frame_reference : Cert.quiescent_ProjDwRefIdeal := fun m ρ _ =>
  (θ_run Cert.ProjDwRefIdeal.defs _ _).mono (fun r h => ⟨fun c => (h c).2, sem_eq_zero_of_no_sems (by decide) r.2⟩)
    (Cert.ProjDwRefIdeal.Value.run (F := Ideal) m ρ)

end Cert.Proof.ProjDw
-- ==== Proof.ProjDy.lean ====
/- The product that the program `ProjDy` computes: entry `(i, j)` is row `i` of the left operand times row `j` of the right one, 2048 terms.
   The kernel works block by block on a grid of 8 points; its output array holds the same product as the reference's,
   entry by entry. -/
module

public import proofs.«01_k».proof.Proof.Blocked
public import proofs.«01_k».proof.Proof.Gen.ProjDyIdeal.Value
public import proofs.«01_k».proof.Proof.Gen.ProjDyRefIdeal.Read
public import proofs.«01_k».proof.Defs

@[expose] public section

noncomputable section

namespace Cert.ProjDyIdeal.Product

open Cert.ProjDyIdeal Cert.ProjDyIdeal.Gen Cert.ProjDyIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x2048.Idx → EReal := m ((c : Thread nD τ).loc main_arg2)
/-- The right operand as launched. -/
abbrev rhs (c : Dev nD) : S2048x2048.Idx → EReal := m ((c : Thread nD τ).loc main_arg1)

/-- The block that grid point `t` reads or writes of the left operand. -/
theorem idx0 : ∀ t : Fin cfg0.N, win0_0.index t 0 = t.val / 2 ∧ win0_0.index t 1 = 0 :=
  (by decide +kernel : ∀ t : Fin grid0.N, _)

/-- The block that grid point `t` reads or writes of the right operand. -/
theorem idx1 : ∀ t : Fin cfg0.N, win0_1.index t 0 = t.val % 2 ∧ win0_1.index t 1 = 0 :=
  (by decide +kernel : ∀ t : Fin grid0.N, _)

/-- The block that grid point `t` reads or writes of the output. -/
theorem idx2 : ∀ t : Fin cfg0.N, win0_2.index t 0 = t.val / 2 ∧ win0_2.index t 1 = t.val % 2 :=
  (by decide +kernel : ∀ t : Fin grid0.N, _)

/-- The block of the left operand at point `t`, read at the array's own coordinates. -/
theorem blk0 (c : Dev nD) (t : Fin cfg0.N) (y : S1024x2048.Idx) :
    iblk m c 0 t y = at2 (lhs m c) ((t.val / 2) * 1024 + (y 0).val) (0 * 2048 + (y 1).val) := by
  unfold iblk
  rw [View.read_apply]
  show (V m c main_arg2 : S4096x2048.Idx → EReal) _ = _
  rw [V_main_arg2]
  obtain ⟨e0, e1⟩ := idx0 t
  have h0 : (y 0).val < 1024 := (y 0).isLt
  have h1 : (y 1).val < 2048 := (y 1).isLt
  refine eq_at2 _ _ _ _ ?_ ?_ <;> blk_simp
  · omega
  · omega

/-- The block of the right operand at point `t`, read at the array's own coordinates. -/
theorem blk1 (c : Dev nD) (t : Fin cfg0.N) (y : S1024x2048.Idx) :
    iblk m c 1 t y = at2 (rhs m c) ((t.val % 2) * 1024 + (y 0).val) (0 * 2048 + (y 1).val) := by
  unfold iblk
  rw [View.read_apply]
  show (V m c main_arg1 : S2048x2048.Idx → EReal) _ = _
  rw [V_main_arg1]
  obtain ⟨e0, e1⟩ := idx1 t
  have h0 : (y 0).val < 1024 := (y 0).isLt
  have h1 : (y 1).val < 2048 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) i (s * 2048 + k.val) * at2 (rhs m c) j (s * 2048 + k.val)

/-- The whole product at row `i` and column `j`. -/
def total (c : Dev nD) (i j : ℕ) : EReal :=
  ∑ k : Fin 2048, at2 (lhs m c) i k.val * at2 (rhs m c) j k.val

/-- One block is the whole sum. -/
theorem term_eq (c : Dev nD) (i j : ℕ) : term m c 0 i j = total m c i j := by
  unfold term total
  refine Finset.sum_congr rfl fun k _ => ?_
  simp only [zero_mul, zero_add]

/-- The two blocks that the body multiplies at point `t`. -/
abbrev left (c : Dev nD) (t : Fin cfg0.N) : S1024x2048.Idx → EReal := iblk m c 0 t
abbrev right (c : Dev nD) (t : Fin cfg0.N) : S1024x2048.Idx → EReal := iblk m c 1 t

/-- The lanes of the two blocks at point `t` multiply to the whole product. -/
theorem lanes (c : Dev nD) (t : Fin cfg0.N) (y : S1024x1024.Idx) :
    ∑ k : Fin 2048, left m c t (ix2 (y 0) k) * right m c t (ix2 (y 1) k) = total m c ((t.val / 2) * 1024 + (y 0).val) ((t.val % 2) * 1024 + (y 1).val) := by
  rw [← term_eq]
  refine Finset.sum_congr rfl fun k _ => ?_
  unfold left right
  rw [blk0, blk1]; rfl

/-- What the kernel leaves in its output at row `i` and column `j`. -/
def value0 (c : Dev nD) (i j : ℕ) : EReal := total m c i j

/-- The block that point `t` writes back. -/
theorem out0 (c : Dev nD) (t : Fin cfg0.N) (y : S1024x1024.Idx) :
    out0_2 (iblk m c 0 t) (iblk m c 1 t) y = value0 m c ((t.val / 2) * 1024 + (y 0).val) ((t.val % 2) * 1024 + (y 1).val) := by
  refine Eq.trans ?_ (lanes m c t y)
  frame_out
  pointwise [k0_pay1]

/-- The output array. -/
def result0 (c : Dev nD) : S4096x2048.Idx → EReal := fun i => value0 m c (i 0).val (i 1).val

/-- The array read at an index whose coordinates are known. -/
theorem result0_at (c : Dev nD) (i : S4096x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 1024 := (y 0).isLt
  have h1 : (y 1).val < 1024 := (y 1).isLt
  blk_simp
  rw [after0_2]
  refine (out0 m c t y).trans (result0_at m c _ _ _ ?_ ?_) <;> blk_simp
  · omega
  · omega

end Cert.ProjDyIdeal.Product

namespace Cert.ProjDyRefIdeal.Product

open Cert.ProjDyRefIdeal Cert.ProjDyRefIdeal.Gen Cert.ProjDyRefIdeal.Read Cert.Blocked
open Idealize.ShloMosaic Idealize.ShloMosaic.TcCoe Idealize.SL.Sem

/-- The reference's array, entry by entry. -/
theorem ref0 (x1 : S2048x2048.Idx → EReal) (x2 : S4096x2048.Idx → EReal) (i : S4096x2048.Idx) :
    val_main_v4 (F := Ideal) x1 x2 i = (∑ k : Fin 2048, at2 x2 ((i 0).val) k.val * at2 x1 ((i 1).val) k.val) := by
  have h0 : (i 0).val < 4096 := (i 0).isLt
  have h1 : (i 1).val < 2048 := (i 1).isLt
  simp only [val_main_v0_apply, val_main_v1_apply, val_main_v2_apply, val_main_v3_apply, val_main_v4_apply]
  refine Finset.sum_congr rfl fun k _ => ?_
  first
  | exact congrArg₂ (· * ·) (eq_at2 x2 _ _ _ rfl rfl)
      (eq_at2 x1 _ _ _ rfl rfl)
  | exact (mul_comm _ _).trans (congrArg₂ (· * ·) (eq_at2 x2 _ _ _ rfl rfl)
      (eq_at2 x1 _ _ _ rfl rfl))

end Cert.ProjDyRefIdeal.Product

namespace Cert.Proof.ProjDy

open Idealize.ShloMosaic Idealize.ShloMosaic.TcCoe Idealize.SL.Sem

/-- From memories that agree on the arguments, both programs end with the same results, and the arguments unchanged. -/
theorem algebraic : Cert.algebraic_ProjDyIdeal_ProjDyRefIdeal := by
  intro m g m' g' _ hag
  refine ⟨fun c => Cert.ProjDyIdeal.Product.result0 m c,
    (θ_run Cert.ProjDyIdeal.defs _ _).mono (fun r h c => ⟨(h c).1.trans (Cert.ProjDyIdeal.Product.final0 m c), (h c).2⟩)
      (Cert.ProjDyIdeal.Value.run_blocks m g), ?_⟩
  refine (θ_run Cert.ProjDyRefIdeal.defs _ _).mono (fun r h c => ⟨(h c).1.trans ?_, (h c).2⟩)
    (Cert.ProjDyRefIdeal.Value.run m' g')
  rw [Cert.ProjDyRefIdeal.Read.val_main_v4_eq]
  funext i
  refine (Cert.ProjDyRefIdeal.Product.ref0 _ _ i).trans ?_
  rw [(hag c).2.1, (hag c).2.2]
  rfl

/-- The reference runs to its end, leaves its arguments unchanged and every counter at zero. -/
theorem frame_reference : Cert.quiescent_ProjDyRefIdeal := fun m ρ _ =>
  (θ_run Cert.ProjDyRefIdeal.defs _ _).mono (fun r h => ⟨fun c => (h c).2, sem_eq_zero_of_no_sems (by decide) r.2⟩)
    (Cert.ProjDyRefIdeal.Value.run (F := Ideal) m ρ)

end Cert.Proof.ProjDy
-- ==== Proof.QueryDw.lean ====
/- The product that the program `QueryDw` computes: entry `(i, j)` is column `i` of the left operand times column `j` of the right one, 4096 terms.
   The kernel works block by block on a grid of 8 points; its output array holds the same product as the reference's,
   entry by entry. -/
module

public import proofs.«01_k».proof.Proof.Blocked
public import proofs.«01_k».proof.Proof.Gen.QueryDwIdeal.Value
public import proofs.«01_k».proof.Proof.Gen.QueryDwRefIdeal.Read
public import proofs.«01_k».proof.Defs

@[expose] public section

noncomputable section

namespace Cert.QueryDwIdeal.Product

open Cert.QueryDwIdeal Cert.QueryDwIdeal.Gen Cert.QueryDwIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x2048.Idx → EReal := m ((c : Thread nD τ).loc main_arg0)
/-- The right operand as launched. -/
abbrev rhs (c : Dev nD) : S4096x2048.Idx → EReal := m ((c : Thread nD τ).loc main_arg2)

/-- The block that grid point `t` reads or writes of the left operand. -/
theorem idx0 : ∀ t : Fin cfg0.N, win0_0.index t 0 = t.val % 2 ∧ win0_0.index t 1 = t.val / 2 / 2 :=
  (by decide +kernel : ∀ t : Fin grid0.N, _)

/-- The block that grid point `t` reads or writes of the right operand. -/
theorem idx1 : ∀ t : Fin cfg0.N, win0_1.index t 0 = t.val % 2 ∧ win0_1.index t 1 = t.val / 2 % 2 :=
  (by decide +kernel : ∀ t : Fin grid0.N, _)

/-- The block that grid point `t` reads or writes of the output. -/
theorem idx2 : ∀ t : Fin cfg0.N, win0_2.index t 0 = t.val / 2 / 2 ∧ win0_2.index t 1 = t.val / 2 % 2 :=
  (by decide +kernel : ∀ t : Fin grid0.N, _)

/-- The block of the left operand at point `t`, read at the array's own coordinates. -/
theorem blk0 (c : Dev nD) (t : Fin cfg0.N) (y : S2048x1024.Idx) :
    iblk m c 0 t y = at2 (lhs m c) ((t.val % 2) * 2048 + (y 0).val) ((t.val / 2 / 2) * 1024 + (y 1).val) := by
  unfold iblk
  rw [View.read_apply]
  show (V m c main_arg0 : S4096x2048.Idx → EReal) _ = _
  rw [V_main_arg0]
  obtain ⟨e0, e1⟩ := idx0 t
  have h0 : (y 0).val < 2048 := (y 0).isLt
  have h1 : (y 1).val < 1024 := (y 1).isLt
  refine eq_at2 _ _ _ _ ?_ ?_ <;> blk_simp
  · omega
  · omega

/-- The block of the right operand at point `t`, read at the array's own coordinates. -/
theorem blk1 (c : Dev nD) (t : Fin cfg0.N) (y : S2048x1024.Idx) :
    iblk m c 1 t y = at2 (rhs m c) ((t.val % 2) * 2048 + (y 0).val) ((t.val / 2 % 2) * 1024 + (y 1).val) := by
  unfold iblk
  rw [View.read_apply]
  show (V m c main_arg2 : S4096x2048.Idx → EReal) _ = _
  rw [V_main_arg2]
  obtain ⟨e0, e1⟩ := idx1 t
  have h0 : (y 0).val < 2048 := (y 0).isLt
  have h1 : (y 1).val < 1024 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) (s * 2048 + k.val) i * at2 (rhs m c) (s * 2048 + k.val) j

/-- The whole product at row `i` and column `j`. -/
def total (c : Dev nD) (i j : ℕ) : EReal :=
  ∑ k : Fin 4096, at2 (lhs m c) k.val i * at2 (rhs m c) k.val j

/-- One block product of the body is the sum over its lanes. -/
theorem pay (x0 : Vec Ideal S2048x1024 .bf16) (x1 : Vec Ideal S2048x1024 .bf16) (y : S1024x1024.Idx) :
    k0_pay1 x0 x1 y = ∑ k : Fin 2048, (x0 (ix2 k (y 0)) : EReal) * x1 (ix2 k (y 1)) := by
  pointwise [k0_pay1]

/-- The block product at point `t` is one block of the sum. -/
theorem pay_term (c : Dev nD) (t : Fin cfg0.N) (y : S1024x1024.Idx) :
    k0_pay1 (iblk m c 0 t) (iblk m c 1 t) y = term m c (t.val % 2) ((t.val / 2 / 2) * 1024 + (y 0).val) ((t.val / 2 % 2) * 1024 + (y 1).val) := by
  rw [pay]
  refine Finset.sum_congr rfl fun k _ => ?_
  rw [blk0, blk1]; rfl

/-- What block `s` of run `r` adds at an entry of the block. -/
def step (c : Dev nD) (r s : ℕ) (y : S1024x1024.Idx) : EReal := term m c s ((r / 2) * 1024 + (y 0).val) ((r % 2) * 1024 + (y 1).val)

/-- The first point of a run starts the accumulator at its block's product. -/
theorem scr_first (c : Dev nD) (t : Fin cfg0.N) (h : t.val % 2 = 0) (y : S1024x1024.Idx) :
    (outsAt0 m c t.val t.isLt).2 y = 0 + step m c (t.val / 2) (t.val % 2) y := by
  rw [outsAt0_A m c t h (by omega) (by omega), zero_add]
  refine Eq.trans ?_ (pay_term m c t y)
  frame_out
  pointwise [k0_pay2]

/-- Every later point adds its block's product. -/
theorem scr_next (c : Dev nD) (t : Fin cfg0.N) (h : ¬t.val % 2 = 0) (y : S1024x1024.Idx) :
    (outsAt0 m c t.val t.isLt).2 y
      = (outsAt0 m c (t.val - 1) (Nat.lt_of_le_of_lt (Nat.sub_le _ _) t.isLt)).2 y + step m c (t.val / 2) (t.val % 2) y := by
  refine Eq.trans ?_ (congrArg (_ + ·) (pay_term m c t y))
  rw [outsAt0_B m c t h (by omega) (by omega)]
  frame_out
  simp only [read_unread_whole]
  pointwise [k0_pay3]

/-- So at each point the accumulator holds the sum of its run's blocks so far. -/
theorem scr (c : Dev nD) (t : Fin cfg0.N) (y : S1024x1024.Idx) :
    (outsAt0 m c t.val t.isLt).2 y = 0 + ∑ s ∈ range (t.val % 2 + 1), step m c (t.val / 2) s y :=
  Pipeline.eq_sum_of_reset_step_apply_divmod (fun n h => (outsAt0 m c n h).2) 2 (fun _ => 0) (step m c)
    (scr_first m c) (scr_next m c) t y

/-- At a run's last point the accumulator holds the whole product. -/
theorem scr_last (c : Dev nD) (t : Fin cfg0.N) (h : t.val % 2 = 1) (y : S1024x1024.Idx) :
    (outsAt0 m c t.val t.isLt).2 y = total m c ((t.val / 2 / 2) * 1024 + (y 0).val) ((t.val / 2 % 2) * 1024 + (y 1).val) := by
  rw [scr, zero_add, h]
  unfold step term
  exact sum_blocks 2 2048 fun l => at2 (lhs m c) l ((t.val / 2 / 2) * 1024 + (y 0).val) * at2 (rhs m c) l ((t.val / 2 % 2) * 1024 + (y 1).val)

/-- What the kernel leaves in its output at row `i` and column `j`. -/
def value0 (c : Dev nD) (i j : ℕ) : EReal := total m c i j

/-- The block that point `t` writes back. Points that write back are the last of their run. -/
theorem out0 (c : Dev nD) (t : Fin cfg0.N) (h : t.val % 2 = 1) (y : S1024x1024.Idx) :
    (outsAt0 m c t.val t.isLt).1 y = value0 m c ((t.val / 2 / 2) * 1024 + (y 0).val) ((t.val / 2 % 2) * 1024 + (y 1).val) := by
  have e : (outsAt0 m c t.val t.isLt).1 y = (outsAt0 m c t.val t.isLt).2 y := by
    rw [outsAt0_B m c t (by omega) (by omega) h]
    frame_out
    pointwise [k0_pay4]
  rw [e, scr_last m c t h]; rfl

/-- The output array. -/
def result0 (c : Dev nD) : S2048x2048.Idx → EReal := fun i => value0 m c (i 0).val (i 1).val

/-- The array read at an index whose coordinates are known. -/
theorem result0_at (c : Dev nD) (i : S2048x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 1024 := (y 0).isLt
  have h1 : (y 1).val < 1024 := (y 1).isLt
  have hm : t.val % 2 = 1 := (flush0_2 t).mp hf
  blk_simp
  rw [after0_2]
  refine (out0 m c t hm y).trans (result0_at m c _ _ _ ?_ ?_) <;> blk_simp
  · omega
  · omega

end Cert.QueryDwIdeal.Product

namespace Cert.QueryDwRefIdeal.Product

open Cert.QueryDwRefIdeal Cert.QueryDwRefIdeal.Gen Cert.QueryDwRefIdeal.Read Cert.Blocked
open Idealize.ShloMosaic Idealize.ShloMosaic.TcCoe Idealize.SL.Sem

/-- The reference's array, entry by entry. -/
theorem ref0 (x0 : S4096x2048.Idx → EReal) (x2 : S4096x2048.Idx → EReal) (i : S2048x2048.Idx) :
    val_main_v6 (F := Ideal) x0 x2 i = (∑ k : Fin 4096, at2 x0 k.val ((i 0).val) * at2 x2 k.val ((i 1).val)) := by
  have h0 : (i 0).val < 2048 := (i 0).isLt
  have h1 : (i 1).val < 2048 := (i 1).isLt
  simp only [val_main_v0_apply, val_main_v1_apply, val_main_v2_apply, val_main_v3_apply, val_main_v4_apply, val_main_v5_apply, val_main_v6_apply]
  refine Finset.sum_congr rfl fun k _ => ?_
  first
  | exact congrArg₂ (· * ·) (eq_at2 x0 _ _ _ rfl rfl)
      (eq_at2 x2 _ _ _ rfl rfl)
  | exact (mul_comm _ _).trans (congrArg₂ (· * ·) (eq_at2 x0 _ _ _ rfl rfl)
      (eq_at2 x2 _ _ _ rfl rfl))

end Cert.QueryDwRefIdeal.Product

namespace Cert.Proof.QueryDw

open Idealize.ShloMosaic Idealize.ShloMosaic.TcCoe Idealize.SL.Sem

/-- From memories that agree on the arguments, both programs end with the same results, and the arguments unchanged. -/
theorem algebraic : Cert.algebraic_QueryDwIdeal_QueryDwRefIdeal := by
  intro m g m' g' _ hag
  refine ⟨fun c => Cert.QueryDwIdeal.Product.result0 m c,
    (θ_run Cert.QueryDwIdeal.defs _ _).mono (fun r h c => ⟨(h c).1.trans (Cert.QueryDwIdeal.Product.final0 m c), (h c).2⟩)
      (Cert.QueryDwIdeal.Value.run_blocks m g), ?_⟩
  refine (θ_run Cert.QueryDwRefIdeal.defs _ _).mono (fun r h c => ⟨(h c).1.trans ?_, (h c).2⟩)
    (Cert.QueryDwRefIdeal.Value.run m' g')
  rw [Cert.QueryDwRefIdeal.Read.val_main_v6_eq]
  funext i
  refine (Cert.QueryDwRefIdeal.Product.ref0 _ _ i).trans ?_
  rw [(hag c).1, (hag c).2.2]
  rfl

/-- The reference runs to its end, leaves its arguments unchanged and every counter at zero. -/
theorem frame_reference : Cert.quiescent_QueryDwRefIdeal := fun m ρ _ =>
  (θ_run Cert.QueryDwRefIdeal.defs _ _).mono (fun r h => ⟨fun c => (h c).2, sem_eq_zero_of_no_sems (by decide) r.2⟩)
    (Cert.QueryDwRefIdeal.Value.run (F := Ideal) m ρ)

end Cert.Proof.QueryDw
-- ==== Proof.QueryDh.lean ====
/- The product that the program `QueryDh` computes: entry `(i, j)` is row `i` of the left operand times row `j` of the right one, 2048 terms.
   The kernel works block by block on a grid of 4 points; its output array holds the same product as the reference's,
   entry by entry. -/
module

public import proofs.«01_k».proof.Proof.Blocked
public import proofs.«01_k».proof.Proof.Gen.QueryDhIdeal.Value
public import proofs.«01_k».proof.Proof.Gen.QueryDhRefIdeal.Read
public import proofs.«01_k».proof.Defs

@[expose] public section

noncomputable section

namespace Cert.QueryDhIdeal.Product

open Cert.QueryDhIdeal Cert.QueryDhIdeal.Gen Cert.QueryDhIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x2048.Idx → EReal := m ((c : Thread nD τ).loc main_arg2)
/-- The right operand as launched. -/
abbrev rhs (c : Dev nD) : S2048x2048.Idx → EReal := m ((c : Thread nD τ).loc main_arg1)

/-- The block that grid point `t` reads or writes of the left operand. -/
theorem idx0 : ∀ t : Fin cfg0.N, win0_0.index t 0 = t.val ∧ win0_0.index t 1 = 0 :=
  (by decide +kernel : ∀ t : Fin grid0.N, _)

/-- The block that grid point `t` reads or writes of the right operand. -/
theorem idx1 : ∀ t : Fin cfg0.N, win0_1.index t 0 = 0 ∧ win0_1.index t 1 = 0 :=
  (by decide +kernel : ∀ t : Fin grid0.N, _)

/-- The block that grid point `t` reads or writes of the output. -/
theorem idx2 : ∀ t : Fin cfg0.N, win0_2.index t 0 = t.val ∧ win0_2.index t 1 = 0 :=
  (by decide +kernel : ∀ t : Fin grid0.N, _)

/-- The block of the left operand at point `t`, read at the array's own coordinates. -/
theorem blk0 (c : Dev nD) (t : Fin cfg0.N) (y : S1024x2048.Idx) :
    iblk m c 0 t y = at2 (lhs m c) (t.val * 1024 + (y 0).val) (0 * 2048 + (y 1).val) := by
  unfold iblk
  rw [View.read_apply]
  show (V m c main_arg2 : S4096x2048.Idx → EReal) _ = _
  rw [V_main_arg2]
  obtain ⟨e0, e1⟩ := idx0 t
  have h0 : (y 0).val < 1024 := (y 0).isLt
  have h1 : (y 1).val < 2048 := (y 1).isLt
  refine eq_at2 _ _ _ _ ?_ ?_ <;> blk_simp
  · omega
  · omega

/-- The block of the right operand at point `t`, read at the array's own coordinates. -/
theorem blk1 (c : Dev nD) (t : Fin cfg0.N) (y : S2048x2048.Idx) :
    iblk m c 1 t y = at2 (rhs m c) (0 * 2048 + (y 0).val) (0 * 2048 + (y 1).val) := by
  unfold iblk
  rw [View.read_apply]
  show (V m c main_arg1 : S2048x2048.Idx → EReal) _ = _
  rw [V_main_arg1]
  obtain ⟨e0, e1⟩ := idx1 t
  have h0 : (y 0).val < 2048 := (y 0).isLt
  have h1 : (y 1).val < 2048 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) i (s * 2048 + k.val) * at2 (rhs m c) j (s * 2048 + k.val)

/-- The whole product at row `i` and column `j`. -/
def total (c : Dev nD) (i j : ℕ) : EReal :=
  ∑ k : Fin 2048, at2 (lhs m c) i k.val * at2 (rhs m c) j k.val

/-- One block is the whole sum. -/
theorem term_eq (c : Dev nD) (i j : ℕ) : term m c 0 i j = total m c i j := by
  unfold term total
  refine Finset.sum_congr rfl fun k _ => ?_
  simp only [zero_mul, zero_add]

/-- The two blocks that the body multiplies at point `t`. -/
abbrev left (c : Dev nD) (t : Fin cfg0.N) : S1024x2048.Idx → EReal := iblk m c 0 t
abbrev right (c : Dev nD) (t : Fin cfg0.N) : S2048x2048.Idx → EReal := iblk m c 1 t

/-- The lanes of the two blocks at point `t` multiply to the whole product. -/
theorem lanes (c : Dev nD) (t : Fin cfg0.N) (y : S1024x2048.Idx) :
    ∑ k : Fin 2048, left m c t (ix2 (y 0) k) * right m c t (ix2 (y 1) k) = total m c (t.val * 1024 + (y 0).val) (0 * 2048 + (y 1).val) := by
  rw [← term_eq]
  refine Finset.sum_congr rfl fun k _ => ?_
  unfold left right
  rw [blk0, blk1]; rfl

/-- What the kernel leaves in its output at row `i` and column `j`. -/
def value0 (c : Dev nD) (i j : ℕ) : EReal := total m c i j

/-- The block that point `t` writes back. -/
theorem out0 (c : Dev nD) (t : Fin cfg0.N) (y : S1024x2048.Idx) :
    out0_2 (iblk m c 0 t) (iblk m c 1 t) y = value0 m c (t.val * 1024 + (y 0).val) (0 * 2048 + (y 1).val) := by
  refine Eq.trans ?_ (lanes m c t y)
  frame_out
  pointwise [k0_pay1]

/-- The output array. -/
def result0 (c : Dev nD) : S4096x2048.Idx → EReal := fun i => value0 m c (i 0).val (i 1).val

/-- The array read at an index whose coordinates are known. -/
theorem result0_at (c : Dev nD) (i : S4096x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 1024 := (y 0).isLt
  have h1 : (y 1).val < 2048 := (y 1).isLt
  blk_simp
  rw [after0_2]
  refine (out0 m c t y).trans (result0_at m c _ _ _ ?_ ?_) <;> blk_simp
  · omega
  · omega

end Cert.QueryDhIdeal.Product

namespace Cert.QueryDhRefIdeal.Product

open Cert.QueryDhRefIdeal Cert.QueryDhRefIdeal.Gen Cert.QueryDhRefIdeal.Read Cert.Blocked
open Idealize.ShloMosaic Idealize.ShloMosaic.TcCoe Idealize.SL.Sem

/-- The reference's array, entry by entry. -/
theorem ref0 (x1 : S2048x2048.Idx → EReal) (x2 : S4096x2048.Idx → EReal) (i : S4096x2048.Idx) :
    val_main_v5 (F := Ideal) x1 x2 i = (∑ k : Fin 2048, at2 x2 ((i 0).val) k.val * at2 x1 ((i 1).val) k.val) := by
  have h0 : (i 0).val < 4096 := (i 0).isLt
  have h1 : (i 1).val < 2048 := (i 1).isLt
  simp only [val_main_v0_apply, val_main_v1_apply, val_main_v2_apply, val_main_v3_apply, val_main_v4_apply, val_main_v5_apply]
  refine Finset.sum_congr rfl fun k _ => ?_
  first
  | exact congrArg₂ (· * ·) (eq_at2 x2 _ _ _ rfl rfl)
      (eq_at2 x1 _ _ _ rfl rfl)
  | exact (mul_comm _ _).trans (congrArg₂ (· * ·) (eq_at2 x2 _ _ _ rfl rfl)
      (eq_at2 x1 _ _ _ rfl rfl))

end Cert.QueryDhRefIdeal.Product

namespace Cert.Proof.QueryDh

open Idealize.ShloMosaic Idealize.ShloMosaic.TcCoe Idealize.SL.Sem

/-- From memories that agree on the arguments, both programs end with the same results, and the arguments unchanged. -/
theorem algebraic : Cert.algebraic_QueryDhIdeal_QueryDhRefIdeal := by
  intro m g m' g' _ hag
  refine ⟨fun c => Cert.QueryDhIdeal.Product.result0 m c,
    (θ_run Cert.QueryDhIdeal.defs _ _).mono (fun r h c => ⟨(h c).1.trans (Cert.QueryDhIdeal.Product.final0 m c), (h c).2⟩)
      (Cert.QueryDhIdeal.Value.run_blocks m g), ?_⟩
  refine (θ_run Cert.QueryDhRefIdeal.defs _ _).mono (fun r h c => ⟨(h c).1.trans ?_, (h c).2⟩)
    (Cert.QueryDhRefIdeal.Value.run m' g')
  rw [Cert.QueryDhRefIdeal.Read.val_main_v5_eq]
  funext i
  refine (Cert.QueryDhRefIdeal.Product.ref0 _ _ i).trans ?_
  rw [(hag c).2.1, (hag c).2.2]
  rfl

/-- The reference runs to its end, leaves its arguments unchanged and every counter at zero. -/
theorem frame_reference : Cert.quiescent_QueryDhRefIdeal := fun m ρ _ =>
  (θ_run Cert.QueryDhRefIdeal.defs _ _).mono (fun r h => ⟨fun c => (h c).2, sem_eq_zero_of_no_sems (by decide) r.2⟩)
    (Cert.QueryDhRefIdeal.Value.run (F := Ideal) m ρ)

end Cert.Proof.QueryDh
-- ==== Proof.MemKv.lean ====
/- The product that the program `MemKv` computes: entry `(i, j)` is row `i` of the left operand times column `j` of the right one, 2048 terms.
   The kernel works block by block on a grid of 1 points; its output array holds the same product as the reference's,
   entry by entry. -/
module

public import proofs.«01_k».proof.Proof.Blocked
public import proofs.«01_k».proof.Proof.Gen.MemKvIdeal.Value
public import proofs.«01_k».proof.Proof.Gen.MemKvRefIdeal.Read
public import proofs.«01_k».proof.Defs

@[expose] public section

noncomputable section

namespace Cert.MemKvIdeal.Product

open Cert.MemKvIdeal Cert.MemKvIdeal.Gen Cert.MemKvIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S256x2048.Idx → EReal := m ((c : Thread nD τ).loc main_arg0)
/-- The right operand as launched. -/
abbrev rhs (c : Dev nD) : S2048x2048.Idx → EReal := m ((c : Thread nD τ).loc main_arg1)

/-- The block that grid point `t` reads or writes of the left operand. -/
theorem idx0 : ∀ t : Fin cfg0.N, win0_0.index t 0 = 0 ∧ win0_0.index t 1 = 0 :=
  (by decide +kernel : ∀ t : Fin grid0.N, _)

/-- The block that grid point `t` reads or writes of the right operand. -/
theorem idx1 : ∀ t : Fin cfg0.N, win0_1.index t 0 = 0 ∧ win0_1.index t 1 = 0 :=
  (by decide +kernel : ∀ t : Fin grid0.N, _)

/-- The block that grid point `t` reads or writes of the output. -/
theorem idx2 : ∀ t : Fin cfg0.N, win0_2.index t 0 = 0 ∧ win0_2.index t 1 = 0 :=
  (by decide +kernel : ∀ t : Fin grid0.N, _)

/-- The block of the left operand at point `t`, read at the array's own coordinates. -/
theorem blk0 (c : Dev nD) (t : Fin cfg0.N) (y : S256x2048.Idx) :
    iblk m c 0 t y = at2 (lhs m c) (0 * 256 + (y 0).val) (0 * 2048 + (y 1).val) := by
  unfold iblk
  rw [View.read_apply]
  show (V m c main_arg0 : S256x2048.Idx → EReal) _ = _
  rw [V_main_arg0]
  obtain ⟨e0, e1⟩ := idx0 t
  have h0 : (y 0).val < 256 := (y 0).isLt
  have h1 : (y 1).val < 2048 := (y 1).isLt
  refine eq_at2 _ _ _ _ ?_ ?_ <;> blk_simp
  · omega
  · omega

/-- The block of the right operand at point `t`, read at the array's own coordinates. -/
theorem blk1 (c : Dev nD) (t : Fin cfg0.N) (y : S2048x2048.Idx) :
    iblk m c 1 t y = at2 (rhs m c) (0 * 2048 + (y 0).val) (0 * 2048 + (y 1).val) := by
  unfold iblk
  rw [View.read_apply]
  show (V m c main_arg1 : S2048x2048.Idx → EReal) _ = _
  rw [V_main_arg1]
  obtain ⟨e0, e1⟩ := idx1 t
  have h0 : (y 0).val < 2048 := (y 0).isLt
  have h1 : (y 1).val < 2048 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) i (s * 2048 + k.val) * at2 (rhs m c) (s * 2048 + k.val) j

/-- The whole product at row `i` and column `j`. -/
def total (c : Dev nD) (i j : ℕ) : EReal :=
  ∑ k : Fin 2048, at2 (lhs m c) i k.val * at2 (rhs m c) k.val j

/-- One block is the whole sum. -/
theorem term_eq (c : Dev nD) (i j : ℕ) : term m c 0 i j = total m c i j := by
  unfold term total
  refine Finset.sum_congr rfl fun k _ => ?_
  simp only [zero_mul, zero_add]

/-- The two blocks that the body multiplies at point `t`. -/
abbrev left (c : Dev nD) (t : Fin cfg0.N) : S256x2048.Idx → EReal := iblk m c 0 t
abbrev right (c : Dev nD) (t : Fin cfg0.N) : S2048x2048.Idx → EReal := iblk m c 1 t

/-- The lanes of the two blocks at point `t` multiply to the whole product. -/
theorem lanes (c : Dev nD) (t : Fin cfg0.N) (y : S256x2048.Idx) :
    ∑ k : Fin 2048, left m c t (ix2 (y 0) k) * right m c t (ix2 k (y 1)) = total m c (0 * 256 + (y 0).val) (0 * 2048 + (y 1).val) := by
  rw [← term_eq]
  refine Finset.sum_congr rfl fun k _ => ?_
  unfold left right
  rw [blk0, blk1]; rfl

/-- What the kernel leaves in its output at row `i` and column `j`. -/
def value0 (c : Dev nD) (i j : ℕ) : EReal := total m c i j

/-- The block that point `t` writes back. -/
theorem out0 (c : Dev nD) (t : Fin cfg0.N) (y : S256x2048.Idx) :
    out0_2 (iblk m c 0 t) (iblk m c 1 t) y = value0 m c (0 * 256 + (y 0).val) (0 * 2048 + (y 1).val) := by
  refine Eq.trans ?_ (lanes m c t y)
  frame_out
  pointwise [k0_pay1]

/-- The output array. -/
def result0 (c : Dev nD) : S256x2048.Idx → EReal := fun i => value0 m c (i 0).val (i 1).val

/-- The array read at an index whose coordinates are known. -/
theorem result0_at (c : Dev nD) (i : S256x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 256 := (y 0).isLt
  have h1 : (y 1).val < 2048 := (y 1).isLt
  blk_simp
  rw [after0_2]
  refine (out0 m c t y).trans (result0_at m c _ _ _ ?_ ?_) <;> blk_simp
  · omega
  · omega

end Cert.MemKvIdeal.Product

namespace Cert.MemKvRefIdeal.Product

open Cert.MemKvRefIdeal Cert.MemKvRefIdeal.Gen Cert.MemKvRefIdeal.Read Cert.Blocked
open Idealize.ShloMosaic Idealize.ShloMosaic.TcCoe Idealize.SL.Sem

/-- The reference's array, entry by entry. -/
theorem ref0 (x0 : S256x2048.Idx → EReal) (x1 : S2048x2048.Idx → EReal) (i : S256x2048.Idx) :
    val_main_v2 (F := Ideal) x0 x1 i = (∑ k : Fin 2048, at2 x0 ((i 0).val) k.val * at2 x1 k.val ((i 1).val)) := by
  have h0 : (i 0).val < 256 := (i 0).isLt
  have h1 : (i 1).val < 2048 := (i 1).isLt
  simp only [val_main_v0_apply, val_main_v1_apply, val_main_v2_apply]
  refine Finset.sum_congr rfl fun k _ => ?_
  first
  | exact congrArg₂ (· * ·) (eq_at2 x0 _ _ _ rfl rfl)
      (eq_at2 x1 _ _ _ rfl rfl)
  | exact (mul_comm _ _).trans (congrArg₂ (· * ·) (eq_at2 x0 _ _ _ rfl rfl)
      (eq_at2 x1 _ _ _ rfl rfl))

end Cert.MemKvRefIdeal.Product

namespace Cert.Proof.MemKv

open Idealize.ShloMosaic Idealize.ShloMosaic.TcCoe Idealize.SL.Sem

/-- From memories that agree on the arguments, both programs end with the same results, and the arguments unchanged. -/
theorem algebraic : Cert.algebraic_MemKvIdeal_MemKvRefIdeal := by
  intro m g m' g' _ hag
  refine ⟨fun c => Cert.MemKvIdeal.Product.result0 m c,
    (θ_run Cert.MemKvIdeal.defs _ _).mono (fun r h c => ⟨(h c).1.trans (Cert.MemKvIdeal.Product.final0 m c), (h c).2⟩)
      (Cert.MemKvIdeal.Value.run_blocks m g), ?_⟩
  refine (θ_run Cert.MemKvRefIdeal.defs _ _).mono (fun r h c => ⟨(h c).1.trans ?_, (h c).2⟩)
    (Cert.MemKvRefIdeal.Value.run m' g')
  rw [Cert.MemKvRefIdeal.Read.val_main_v2_eq]
  funext i
  refine (Cert.MemKvRefIdeal.Product.ref0 _ _ i).trans ?_
  rw [(hag c).1, (hag c).2]
  rfl

/-- The reference runs to its end, leaves its arguments unchanged and every counter at zero. -/
theorem frame_reference : Cert.quiescent_MemKvRefIdeal := fun m ρ _ =>
  (θ_run Cert.MemKvRefIdeal.defs _ _).mono (fun r h => ⟨fun c => (h c).2, sem_eq_zero_of_no_sems (by decide) r.2⟩)
    (Cert.MemKvRefIdeal.Value.run (F := Ideal) m ρ)

end Cert.Proof.MemKv
-- ==== Proof.MemKvDw.lean ====
/- The product that the program `MemKvDw` computes: entry `(i, j)` is column `i` of the left operand times column `j` of the right one, 256 terms.
   The kernel works block by block on a grid of 2 points; its output array holds the same product as the reference's,
   entry by entry. -/
module

public import proofs.«01_k».proof.Proof.Blocked
public import proofs.«01_k».proof.Proof.Gen.MemKvDwIdeal.Value
public import proofs.«01_k».proof.Proof.Gen.MemKvDwRefIdeal.Read
public import proofs.«01_k».proof.Defs

@[expose] public section

noncomputable section

namespace Cert.MemKvDwIdeal.Product

open Cert.MemKvDwIdeal Cert.MemKvDwIdeal.Gen Cert.MemKvDwIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S256x2048.Idx → EReal := m ((c : Thread nD τ).loc main_arg0)
/-- The right operand as launched. -/
abbrev rhs (c : Dev nD) : S256x2048.Idx → EReal := m ((c : Thread nD τ).loc main_arg2)

/-- The block that grid point `t` reads or writes of the left operand. -/
theorem idx0 : ∀ t : Fin cfg0.N, win0_0.index t 0 = 0 ∧ win0_0.index t 1 = t.val :=
  (by decide +kernel : ∀ t : Fin grid0.N, _)

/-- The block that grid point `t` reads or writes of the right operand. -/
theorem idx1 : ∀ t : Fin cfg0.N, win0_1.index t 0 = 0 ∧ win0_1.index t 1 = 0 :=
  (by decide +kernel : ∀ t : Fin grid0.N, _)

/-- The block that grid point `t` reads or writes of the output. -/
theorem idx2 : ∀ t : Fin cfg0.N, win0_2.index t 0 = t.val ∧ win0_2.index t 1 = 0 :=
  (by decide +kernel : ∀ t : Fin grid0.N, _)

/-- The block of the left operand at point `t`, read at the array's own coordinates. -/
theorem blk0 (c : Dev nD) (t : Fin cfg0.N) (y : S256x1024.Idx) :
    iblk m c 0 t y = at2 (lhs m c) (0 * 256 + (y 0).val) (t.val * 1024 + (y 1).val) := by
  unfold iblk
  rw [View.read_apply]
  show (V m c main_arg0 : S256x2048.Idx → EReal) _ = _
  rw [V_main_arg0]
  obtain ⟨e0, e1⟩ := idx0 t
  have h0 : (y 0).val < 256 := (y 0).isLt
  have h1 : (y 1).val < 1024 := (y 1).isLt
  refine eq_at2 _ _ _ _ ?_ ?_ <;> blk_simp
  · omega
  · omega

/-- The block of the right operand at point `t`, read at the array's own coordinates. -/
theorem blk1 (c : Dev nD) (t : Fin cfg0.N) (y : S256x2048.Idx) :
    iblk m c 1 t y = at2 (rhs m c) (0 * 256 + (y 0).val) (0 * 2048 + (y 1).val) := by
  unfold iblk
  rw [View.read_apply]
  show (V m c main_arg2 : S256x2048.Idx → EReal) _ = _
  rw [V_main_arg2]
  obtain ⟨e0, e1⟩ := idx1 t
  have h0 : (y 0).val < 256 := (y 0).isLt
  have h1 : (y 1).val < 2048 := (y 1).isLt
  refine eq_at2 _ _ _ _ ?_ ?_ <;> blk_simp
  · omega
  · omega

/-- The sum of the products over the lanes `256 s ≤ l < 256 s + 256` of the contracted axis, at row `i` and column `j`. -/
def term (c : Dev nD) (s i j : ℕ) : EReal :=
  ∑ k : Fin 256, at2 (lhs m c) (s * 256 + k.val) i * at2 (rhs m c) (s * 256 + k.val) j

/-- The whole product at row `i` and column `j`. -/
def total (c : Dev nD) (i j : ℕ) : EReal :=
  ∑ k : Fin 256, at2 (lhs m c) k.val i * at2 (rhs m c) k.val j

/-- One block is the whole sum. -/
theorem term_eq (c : Dev nD) (i j : ℕ) : term m c 0 i j = total m c i j := by
  unfold term total
  refine Finset.sum_congr rfl fun k _ => ?_
  simp only [zero_mul, zero_add]

/-- The two blocks that the body multiplies at point `t`. -/
abbrev left (c : Dev nD) (t : Fin cfg0.N) : S256x1024.Idx → EReal := iblk m c 0 t
abbrev right (c : Dev nD) (t : Fin cfg0.N) : S256x2048.Idx → EReal := iblk m c 1 t

/-- The lanes of the two blocks at point `t` multiply to the whole product. -/
theorem lanes (c : Dev nD) (t : Fin cfg0.N) (y : S1024x2048.Idx) :
    ∑ k : Fin 256, left m c t (ix2 k (y 0)) * right m c t (ix2 k (y 1)) = total m c (t.val * 1024 + (y 0).val) (0 * 2048 + (y 1).val) := by
  rw [← term_eq]
  refine Finset.sum_congr rfl fun k _ => ?_
  unfold left right
  rw [blk0, blk1]; rfl

/-- What the kernel leaves in its output at row `i` and column `j`. -/
def value0 (c : Dev nD) (i j : ℕ) : EReal := total m c i j

/-- The block that point `t` writes back. -/
theorem out0 (c : Dev nD) (t : Fin cfg0.N) (y : S1024x2048.Idx) :
    out0_2 (iblk m c 0 t) (iblk m c 1 t) y = value0 m c (t.val * 1024 + (y 0).val) (0 * 2048 + (y 1).val) := by
  refine Eq.trans ?_ (lanes m c t y)
  frame_out
  pointwise [k0_pay1]

/-- The output array. -/
def result0 (c : Dev nD) : S2048x2048.Idx → EReal := fun i => value0 m c (i 0).val (i 1).val

/-- The array read at an index whose coordinates are known. -/
theorem result0_at (c : Dev nD) (i : S2048x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 1024 := (y 0).isLt
  have h1 : (y 1).val < 2048 := (y 1).isLt
  blk_simp
  rw [after0_2]
  refine (out0 m c t y).trans (result0_at m c _ _ _ ?_ ?_) <;> blk_simp
  · omega
  · omega

end Cert.MemKvDwIdeal.Product

namespace Cert.MemKvDwRefIdeal.Product

open Cert.MemKvDwRefIdeal Cert.MemKvDwRefIdeal.Gen Cert.MemKvDwRefIdeal.Read Cert.Blocked
open Idealize.ShloMosaic Idealize.ShloMosaic.TcCoe Idealize.SL.Sem

/-- The reference's array, entry by entry. -/
theorem ref0 (x0 : S256x2048.Idx → EReal) (x2 : S256x2048.Idx → EReal) (i : S2048x2048.Idx) :
    val_main_v5 (F := Ideal) x0 x2 i = (∑ k : Fin 256, at2 x0 k.val ((i 0).val) * at2 x2 k.val ((i 1).val)) := by
  have h0 : (i 0).val < 2048 := (i 0).isLt
  have h1 : (i 1).val < 2048 := (i 1).isLt
  simp only [val_main_v0_apply, val_main_v1_apply, val_main_v2_apply, val_main_v3_apply, val_main_v4_apply, val_main_v5_apply]
  refine Finset.sum_congr rfl fun k _ => ?_
  first
  | exact congrArg₂ (· * ·) (eq_at2 x0 _ _ _ rfl rfl)
      (eq_at2 x2 _ _ _ rfl rfl)
  | exact (mul_comm _ _).trans (congrArg₂ (· * ·) (eq_at2 x0 _ _ _ rfl rfl)
      (eq_at2 x2 _ _ _ rfl rfl))

end Cert.MemKvDwRefIdeal.Product

namespace Cert.Proof.MemKvDw

open Idealize.ShloMosaic Idealize.ShloMosaic.TcCoe Idealize.SL.Sem

/-- From memories that agree on the arguments, both programs end with the same results, and the arguments unchanged. -/
theorem algebraic : Cert.algebraic_MemKvDwIdeal_MemKvDwRefIdeal := by
  intro m g m' g' _ hag
  refine ⟨fun c => Cert.MemKvDwIdeal.Product.result0 m c,
    (θ_run Cert.MemKvDwIdeal.defs _ _).mono (fun r h c => ⟨(h c).1.trans (Cert.MemKvDwIdeal.Product.final0 m c), (h c).2⟩)
      (Cert.MemKvDwIdeal.Value.run_blocks m g), ?_⟩
  refine (θ_run Cert.MemKvDwRefIdeal.defs _ _).mono (fun r h c => ⟨(h c).1.trans ?_, (h c).2⟩)
    (Cert.MemKvDwRefIdeal.Value.run m' g')
  rw [Cert.MemKvDwRefIdeal.Read.val_main_v5_eq]
  funext i
  refine (Cert.MemKvDwRefIdeal.Product.ref0 _ _ i).trans ?_
  rw [(hag c).1, (hag c).2.2]
  rfl

/-- The reference runs to its end, leaves its arguments unchanged and every counter at zero. -/
theorem frame_reference : Cert.quiescent_MemKvDwRefIdeal := fun m ρ _ =>
  (θ_run Cert.MemKvDwRefIdeal.defs _ _).mono (fun r h => ⟨fun c => (h c).2, sem_eq_zero_of_no_sems (by decide) r.2⟩)
    (Cert.MemKvDwRefIdeal.Value.run (F := Ideal) m ρ)

end Cert.Proof.MemKvDw
-- ==== Proof.MemDk.lean ====
/- The product that the program `MemDk` computes: entry `(i, j)` is row `i` of the left operand times row `j` of the right one, 2048 terms.
   The kernel works block by block on a grid of 1 points; its output array holds the same product as the reference's,
   entry by entry. -/
module

public import proofs.«01_k».proof.Proof.Blocked
public import proofs.«01_k».proof.Proof.Gen.MemDkIdeal.Value
public import proofs.«01_k».proof.Proof.Gen.MemDkRefIdeal.Read
public import proofs.«01_k».proof.Defs

@[expose] public section

noncomputable section

namespace Cert.MemDkIdeal.Product

open Cert.MemDkIdeal Cert.MemDkIdeal.Gen Cert.MemDkIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S256x2048.Idx → EReal := m ((c : Thread nD τ).loc main_arg2)
/-- The right operand as launched. -/
abbrev rhs (c : Dev nD) : S2048x2048.Idx → EReal := m ((c : Thread nD τ).loc main_arg1)

/-- The block that grid point `t` reads or writes of the left operand. -/
theorem idx0 : ∀ t : Fin cfg0.N, win0_0.index t 0 = 0 ∧ win0_0.index t 1 = 0 :=
  (by decide +kernel : ∀ t : Fin grid0.N, _)

/-- The block that grid point `t` reads or writes of the right operand. -/
theorem idx1 : ∀ t : Fin cfg0.N, win0_1.index t 0 = 0 ∧ win0_1.index t 1 = 0 :=
  (by decide +kernel : ∀ t : Fin grid0.N, _)

/-- The block that grid point `t` reads or writes of the output. -/
theorem idx2 : ∀ t : Fin cfg0.N, win0_2.index t 0 = 0 ∧ win0_2.index t 1 = 0 :=
  (by decide +kernel : ∀ t : Fin grid0.N, _)

/-- The block of the left operand at point `t`, read at the array's own coordinates. -/
theorem blk0 (c : Dev nD) (t : Fin cfg0.N) (y : S256x2048.Idx) :
    iblk m c 0 t y = at2 (lhs m c) (0 * 256 + (y 0).val) (0 * 2048 + (y 1).val) := by
  unfold iblk
  rw [View.read_apply]
  show (V m c main_arg2 : S256x2048.Idx → EReal) _ = _
  rw [V_main_arg2]
  obtain ⟨e0, e1⟩ := idx0 t
  have h0 : (y 0).val < 256 := (y 0).isLt
  have h1 : (y 1).val < 2048 := (y 1).isLt
  refine eq_at2 _ _ _ _ ?_ ?_ <;> blk_simp
  · omega
  · omega

/-- The block of the right operand at point `t`, read at the array's own coordinates. -/
theorem blk1 (c : Dev nD) (t : Fin cfg0.N) (y : S2048x2048.Idx) :
    iblk m c 1 t y = at2 (rhs m c) (0 * 2048 + (y 0).val) (0 * 2048 + (y 1).val) := by
  unfold iblk
  rw [View.read_apply]
  show (V m c main_arg1 : S2048x2048.Idx → EReal) _ = _
  rw [V_main_arg1]
  obtain ⟨e0, e1⟩ := idx1 t
  have h0 : (y 0).val < 2048 := (y 0).isLt
  have h1 : (y 1).val < 2048 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) i (s * 2048 + k.val) * at2 (rhs m c) j (s * 2048 + k.val)

/-- The whole product at row `i` and column `j`. -/
def total (c : Dev nD) (i j : ℕ) : EReal :=
  ∑ k : Fin 2048, at2 (lhs m c) i k.val * at2 (rhs m c) j k.val

/-- One block is the whole sum. -/
theorem term_eq (c : Dev nD) (i j : ℕ) : term m c 0 i j = total m c i j := by
  unfold term total
  refine Finset.sum_congr rfl fun k _ => ?_
  simp only [zero_mul, zero_add]

/-- The two blocks that the body multiplies at point `t`. -/
abbrev left (c : Dev nD) (t : Fin cfg0.N) : S256x2048.Idx → EReal := iblk m c 0 t
abbrev right (c : Dev nD) (t : Fin cfg0.N) : S2048x2048.Idx → EReal := iblk m c 1 t

/-- The lanes of the two blocks at point `t` multiply to the whole product. -/
theorem lanes (c : Dev nD) (t : Fin cfg0.N) (y : S256x2048.Idx) :
    ∑ k : Fin 2048, left m c t (ix2 (y 0) k) * right m c t (ix2 (y 1) k) = total m c (0 * 256 + (y 0).val) (0 * 2048 + (y 1).val) := by
  rw [← term_eq]
  refine Finset.sum_congr rfl fun k _ => ?_
  unfold left right
  rw [blk0, blk1]; rfl

/-- What the kernel leaves in its output at row `i` and column `j`. -/
def value0 (c : Dev nD) (i j : ℕ) : EReal := total m c i j

/-- The block that point `t` writes back. -/
theorem out0 (c : Dev nD) (t : Fin cfg0.N) (y : S256x2048.Idx) :
    out0_2 (iblk m c 0 t) (iblk m c 1 t) y = value0 m c (0 * 256 + (y 0).val) (0 * 2048 + (y 1).val) := by
  refine Eq.trans ?_ (lanes m c t y)
  frame_out
  pointwise [k0_pay1]

/-- The output array. -/
def result0 (c : Dev nD) : S256x2048.Idx → EReal := fun i => value0 m c (i 0).val (i 1).val

/-- The array read at an index whose coordinates are known. -/
theorem result0_at (c : Dev nD) (i : S256x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 256 := (y 0).isLt
  have h1 : (y 1).val < 2048 := (y 1).isLt
  blk_simp
  rw [after0_2]
  refine (out0 m c t y).trans (result0_at m c _ _ _ ?_ ?_) <;> blk_simp
  · omega
  · omega

end Cert.MemDkIdeal.Product

namespace Cert.MemDkRefIdeal.Product

open Cert.MemDkRefIdeal Cert.MemDkRefIdeal.Gen Cert.MemDkRefIdeal.Read Cert.Blocked
open Idealize.ShloMosaic Idealize.ShloMosaic.TcCoe Idealize.SL.Sem

/-- The reference's array, entry by entry. -/
theorem ref0 (x1 : S2048x2048.Idx → EReal) (x2 : S256x2048.Idx → EReal) (i : S256x2048.Idx) :
    val_main_v3 (F := Ideal) x1 x2 i = (∑ k : Fin 2048, at2 x2 ((i 0).val) k.val * at2 x1 ((i 1).val) k.val) := by
  have h0 : (i 0).val < 256 := (i 0).isLt
  have h1 : (i 1).val < 2048 := (i 1).isLt
  simp only [val_main_v0_apply, val_main_v1_apply, val_main_v2_apply, val_main_v3_apply]
  refine Finset.sum_congr rfl fun k _ => ?_
  first
  | exact congrArg₂ (· * ·) (eq_at2 x2 _ _ _ rfl rfl)
      (eq_at2 x1 _ _ _ rfl rfl)
  | exact (mul_comm _ _).trans (congrArg₂ (· * ·) (eq_at2 x2 _ _ _ rfl rfl)
      (eq_at2 x1 _ _ _ rfl rfl))

end Cert.MemDkRefIdeal.Product

namespace Cert.Proof.MemDk

open Idealize.ShloMosaic Idealize.ShloMosaic.TcCoe Idealize.SL.Sem

/-- From memories that agree on the arguments, both programs end with the same results, and the arguments unchanged. -/
theorem algebraic : Cert.algebraic_MemDkIdeal_MemDkRefIdeal := by
  intro m g m' g' _ hag
  refine ⟨fun c => Cert.MemDkIdeal.Product.result0 m c,
    (θ_run Cert.MemDkIdeal.defs _ _).mono (fun r h c => ⟨(h c).1.trans (Cert.MemDkIdeal.Product.final0 m c), (h c).2⟩)
      (Cert.MemDkIdeal.Value.run_blocks m g), ?_⟩
  refine (θ_run Cert.MemDkRefIdeal.defs _ _).mono (fun r h c => ⟨(h c).1.trans ?_, (h c).2⟩)
    (Cert.MemDkRefIdeal.Value.run m' g')
  rw [Cert.MemDkRefIdeal.Read.val_main_v3_eq]
  funext i
  refine (Cert.MemDkRefIdeal.Product.ref0 _ _ i).trans ?_
  rw [(hag c).2.1, (hag c).2.2]
  rfl

/-- The reference runs to its end, leaves its arguments unchanged and every counter at zero. -/
theorem frame_reference : Cert.quiescent_MemDkRefIdeal := fun m ρ _ =>
  (θ_run Cert.MemDkRefIdeal.defs _ _).mono (fun r h => ⟨fun c => (h c).2, sem_eq_zero_of_no_sems (by decide) r.2⟩)
    (Cert.MemDkRefIdeal.Value.run (F := Ideal) m ρ)

end Cert.Proof.MemDk
-- ==== Proof.MemDv.lean ====
/- The product that the program `MemDv` computes: entry `(i, j)` is row `i` of the left operand times row `j` of the right one, 2048 terms.
   The kernel works block by block on a grid of 1 points; its output array holds the same product as the reference's,
   entry by entry. -/
module

public import proofs.«01_k».proof.Proof.Blocked
public import proofs.«01_k».proof.Proof.Gen.MemDvIdeal.Value
public import proofs.«01_k».proof.Proof.Gen.MemDvRefIdeal.Read
public import proofs.«01_k».proof.Defs

@[expose] public section

noncomputable section

namespace Cert.MemDvIdeal.Product

open Cert.MemDvIdeal Cert.MemDvIdeal.Gen Cert.MemDvIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S256x2048.Idx → EReal := m ((c : Thread nD τ).loc main_arg2)
/-- The right operand as launched. -/
abbrev rhs (c : Dev nD) : S2048x2048.Idx → EReal := m ((c : Thread nD τ).loc main_arg1)
/-- The summand, as launched. -/
abbrev add (c : Dev nD) : S256x2048.Idx → EReal := m ((c : Thread nD τ).loc main_arg3)

/-- The block that grid point `t` reads or writes of the left operand. -/
theorem idx0 : ∀ t : Fin cfg0.N, win0_0.index t 0 = 0 ∧ win0_0.index t 1 = 0 :=
  (by decide +kernel : ∀ t : Fin grid0.N, _)

/-- The block that grid point `t` reads or writes of the right operand. -/
theorem idx1 : ∀ t : Fin cfg0.N, win0_1.index t 0 = 0 ∧ win0_1.index t 1 = 0 :=
  (by decide +kernel : ∀ t : Fin grid0.N, _)

/-- The block that grid point `t` reads or writes of the third operand. -/
theorem idx2 : ∀ t : Fin cfg0.N, win0_2.index t 0 = 0 ∧ win0_2.index t 1 = 0 :=
  (by decide +kernel : ∀ t : Fin grid0.N, _)

/-- The block that grid point `t` reads or writes of the output. -/
theorem idx3 : ∀ t : Fin cfg0.N, win0_3.index t 0 = 0 ∧ win0_3.index t 1 = 0 :=
  (by decide +kernel : ∀ t : Fin grid0.N, _)

/-- The block of the left operand at point `t`, read at the array's own coordinates. -/
theorem blk0 (c : Dev nD) (t : Fin cfg0.N) (y : S256x2048.Idx) :
    iblk m c 0 t y = at2 (lhs m c) (0 * 256 + (y 0).val) (0 * 2048 + (y 1).val) := by
  unfold iblk
  rw [View.read_apply]
  show (V m c main_arg2 : S256x2048.Idx → EReal) _ = _
  rw [V_main_arg2]
  obtain ⟨e0, e1⟩ := idx0 t
  have h0 : (y 0).val < 256 := (y 0).isLt
  have h1 : (y 1).val < 2048 := (y 1).isLt
  refine eq_at2 _ _ _ _ ?_ ?_ <;> blk_simp
  · omega
  · omega

/-- The block of the right operand at point `t`, read at the array's own coordinates. -/
theorem blk1 (c : Dev nD) (t : Fin cfg0.N) (y : S2048x2048.Idx) :
    iblk m c 1 t y = at2 (rhs m c) (0 * 2048 + (y 0).val) (0 * 2048 + (y 1).val) := by
  unfold iblk
  rw [View.read_apply]
  show (V m c main_arg1 : S2048x2048.Idx → EReal) _ = _
  rw [V_main_arg1]
  obtain ⟨e0, e1⟩ := idx1 t
  have h0 : (y 0).val < 2048 := (y 0).isLt
  have h1 : (y 1).val < 2048 := (y 1).isLt
  refine eq_at2 _ _ _ _ ?_ ?_ <;> blk_simp
  · omega
  · omega

/-- The block of the summand at point `t`, read at the array's own coordinates. -/
theorem blk2 (c : Dev nD) (t : Fin cfg0.N) (y : S256x2048.Idx) :
    iblk m c 2 t y = at2 (add m c) (0 * 256 + (y 0).val) (0 * 2048 + (y 1).val) := by
  unfold iblk
  rw [View.read_apply]
  show (V m c main_arg3 : S256x2048.Idx → EReal) _ = _
  rw [V_main_arg3]
  obtain ⟨e0, e1⟩ := idx2 t
  have h0 : (y 0).val < 256 := (y 0).isLt
  have h1 : (y 1).val < 2048 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) i (s * 2048 + k.val) * at2 (rhs m c) j (s * 2048 + k.val)

/-- The whole product at row `i` and column `j`. -/
def total (c : Dev nD) (i j : ℕ) : EReal :=
  ∑ k : Fin 2048, at2 (lhs m c) i k.val * at2 (rhs m c) j k.val

/-- One block is the whole sum. -/
theorem term_eq (c : Dev nD) (i j : ℕ) : term m c 0 i j = total m c i j := by
  unfold term total
  refine Finset.sum_congr rfl fun k _ => ?_
  simp only [zero_mul, zero_add]

/-- The two blocks that the body multiplies at point `t`. -/
abbrev left (c : Dev nD) (t : Fin cfg0.N) : S256x2048.Idx → EReal := iblk m c 0 t
abbrev right (c : Dev nD) (t : Fin cfg0.N) : S2048x2048.Idx → EReal := iblk m c 1 t

/-- The lanes of the two blocks at point `t` multiply to the whole product. -/
theorem lanes (c : Dev nD) (t : Fin cfg0.N) (y : S256x2048.Idx) :
    ∑ k : Fin 2048, left m c t (ix2 (y 0) k) * right m c t (ix2 (y 1) k) = total m c (0 * 256 + (y 0).val) (0 * 2048 + (y 1).val) := by
  rw [← term_eq]
  refine Finset.sum_congr rfl fun k _ => ?_
  unfold left right
  rw [blk0, blk1]; rfl

/-- What the kernel leaves in its output at row `i` and column `j`. -/
def value0 (c : Dev nD) (i j : ℕ) : EReal := total m c i j + at2 (add m c) i j

/-- The block that point `t` writes back. -/
theorem out0 (c : Dev nD) (t : Fin cfg0.N) (y : S256x2048.Idx) :
    out0_3 (iblk m c 0 t) (iblk m c 1 t) (iblk m c 2 t) y = value0 m c (0 * 256 + (y 0).val) (0 * 2048 + (y 1).val) := by
  refine Eq.trans ?_ (congrArg₂ (· + ·) (lanes m c t y) (blk2 m c t y))
  frame_out
  pointwise [k0_pay1]

/-- The output array. -/
def result0 (c : Dev nD) : S256x2048.Idx → EReal := fun i => value0 m c (i 0).val (i 1).val

/-- The array read at an index whose coordinates are known. -/
theorem result0_at (c : Dev nD) (i : S256x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 3 cfg0.N = result0 m c := by
  refine (dats m 0 c).arrAt_eq_of_covers 3 (result0 m c) (by decide +kernel) fun t hf y => ?_
  obtain ⟨e0, e1⟩ := idx3 t
  have h0 : (y 0).val < 256 := (y 0).isLt
  have h1 : (y 1).val < 2048 := (y 1).isLt
  blk_simp
  rw [after0_3]
  refine (out0 m c t y).trans (result0_at m c _ _ _ ?_ ?_) <;> blk_simp
  · omega
  · omega

end Cert.MemDvIdeal.Product

namespace Cert.MemDvRefIdeal.Product

open Cert.MemDvRefIdeal Cert.MemDvRefIdeal.Gen Cert.MemDvRefIdeal.Read Cert.Blocked
open Idealize.ShloMosaic Idealize.ShloMosaic.TcCoe Idealize.SL.Sem

/-- The reference's array, entry by entry. -/
theorem ref0 (x1 : S2048x2048.Idx → EReal) (x2 : S256x2048.Idx → EReal) (x3 : S256x2048.Idx → EReal) (i : S256x2048.Idx) :
    val_main_v4 (F := Ideal) x1 x2 x3 i = (∑ k : Fin 2048, at2 x2 ((i 0).val) k.val * at2 x1 ((i 1).val) k.val) + at2 x3 (i 0).val (i 1).val := by
  have h0 : (i 0).val < 256 := (i 0).isLt
  have h1 : (i 1).val < 2048 := (i 1).isLt
  simp only [val_main_v0_apply, val_main_v1_apply, val_main_v2_apply, val_main_v3_apply, val_main_v4_apply]
  rw [add_comm]
  refine congrArg₂ (· + ·) (eq_at2 _ _ _ _ rfl rfl) ?_
  refine Finset.sum_congr rfl fun k _ => ?_
  first
  | exact congrArg₂ (· * ·) (eq_at2 x2 _ _ _ rfl rfl)
      (eq_at2 x1 _ _ _ rfl rfl)
  | exact (mul_comm _ _).trans (congrArg₂ (· * ·) (eq_at2 x2 _ _ _ rfl rfl)
      (eq_at2 x1 _ _ _ rfl rfl))

end Cert.MemDvRefIdeal.Product

namespace Cert.Proof.MemDv

open Idealize.ShloMosaic Idealize.ShloMosaic.TcCoe Idealize.SL.Sem

/-- From memories that agree on the arguments, both programs end with the same results, and the arguments unchanged. -/
theorem algebraic : Cert.algebraic_MemDvIdeal_MemDvRefIdeal := by
  intro m g m' g' _ hag
  refine ⟨fun c => Cert.MemDvIdeal.Product.result0 m c,
    (θ_run Cert.MemDvIdeal.defs _ _).mono (fun r h c => ⟨(h c).1.trans (Cert.MemDvIdeal.Product.final0 m c), (h c).2⟩)
      (Cert.MemDvIdeal.Value.run_blocks m g), ?_⟩
  refine (θ_run Cert.MemDvRefIdeal.defs _ _).mono (fun r h c => ⟨(h c).1.trans ?_, (h c).2⟩)
    (Cert.MemDvRefIdeal.Value.run m' g')
  rw [Cert.MemDvRefIdeal.Read.val_main_v4_eq]
  funext i
  refine (Cert.MemDvRefIdeal.Product.ref0 _ _ _ i).trans ?_
  rw [(hag c).2.1, (hag c).2.2.1, (hag c).2.2.2]
  rfl

/-- The reference runs to its end, leaves its arguments unchanged and every counter at zero. -/
theorem frame_reference : Cert.quiescent_MemDvRefIdeal := fun m ρ _ =>
  (θ_run Cert.MemDvRefIdeal.defs _ _).mono (fun r h => ⟨fun c => (h c).2, sem_eq_zero_of_no_sems (by decide) r.2⟩)
    (Cert.MemDvRefIdeal.Value.run (F := Ideal) m ρ)

end Cert.Proof.MemDv
-- ==== Proof.InZ.lean ====
/- The product that the program `InZ` computes: entry `(i, j)` is row `i` of the left operand times row `j` of the right one, 2048 terms.
   The kernel works block by block on a grid of 4 points; its output array holds the same product as the reference's,
   entry by entry. -/
module

public import proofs.«01_k».proof.Proof.Blocked
public import proofs.«01_k».proof.Proof.Gen.InZIdeal.Value
public import proofs.«01_k».proof.Proof.Gen.InZRefIdeal.Read
public import proofs.«01_k».proof.Defs

@[expose] public section

noncomputable section

namespace Cert.InZIdeal.Product

open Cert.InZIdeal Cert.InZIdeal.Gen Cert.InZIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x2048.Idx → EReal := m ((c : Thread nD τ).loc main_arg0)
/-- The right operand as launched. -/
abbrev rhs (c : Dev nD) : S1024x2048.Idx → EReal := m ((c : Thread nD τ).loc main_arg1)

/-- The block that grid point `t` reads or writes of the left operand. -/
theorem idx0 : ∀ t : Fin cfg0.N, win0_0.index t 0 = t.val ∧ win0_0.index t 1 = 0 :=
  (by decide +kernel : ∀ t : Fin grid0.N, _)

/-- The block that grid point `t` reads or writes of the right operand. -/
theorem idx1 : ∀ t : Fin cfg0.N, win0_1.index t 0 = 0 ∧ win0_1.index t 1 = 0 :=
  (by decide +kernel : ∀ t : Fin grid0.N, _)

/-- The block that grid point `t` reads or writes of the output. -/
theorem idx2 : ∀ t : Fin cfg0.N, win0_2.index t 0 = t.val ∧ win0_2.index t 1 = 0 :=
  (by decide +kernel : ∀ t : Fin grid0.N, _)

/-- The block of the left operand at point `t`, read at the array's own coordinates. -/
theorem blk0 (c : Dev nD) (t : Fin cfg0.N) (y : S1024x2048.Idx) :
    iblk m c 0 t y = at2 (lhs m c) (t.val * 1024 + (y 0).val) (0 * 2048 + (y 1).val) := by
  unfold iblk
  rw [View.read_apply]
  show (V m c main_arg0 : S4096x2048.Idx → EReal) _ = _
  rw [V_main_arg0]
  obtain ⟨e0, e1⟩ := idx0 t
  have h0 : (y 0).val < 1024 := (y 0).isLt
  have h1 : (y 1).val < 2048 := (y 1).isLt
  refine eq_at2 _ _ _ _ ?_ ?_ <;> blk_simp
  · omega
  · omega

/-- The block of the right operand at point `t`, read at the array's own coordinates. -/
theorem blk1 (c : Dev nD) (t : Fin cfg0.N) (y : S1024x2048.Idx) :
    iblk m c 1 t y = at2 (rhs m c) (0 * 1024 + (y 0).val) (0 * 2048 + (y 1).val) := by
  unfold iblk
  rw [View.read_apply]
  show (V m c main_arg1 : S1024x2048.Idx → EReal) _ = _
  rw [V_main_arg1]
  obtain ⟨e0, e1⟩ := idx1 t
  have h0 : (y 0).val < 1024 := (y 0).isLt
  have h1 : (y 1).val < 2048 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) i (s * 2048 + k.val) * at2 (rhs m c) j (s * 2048 + k.val)

/-- The whole product at row `i` and column `j`. -/
def total (c : Dev nD) (i j : ℕ) : EReal :=
  ∑ k : Fin 2048, at2 (lhs m c) i k.val * at2 (rhs m c) j k.val

/-- One block is the whole sum. -/
theorem term_eq (c : Dev nD) (i j : ℕ) : term m c 0 i j = total m c i j := by
  unfold term total
  refine Finset.sum_congr rfl fun k _ => ?_
  simp only [zero_mul, zero_add]

/-- The two blocks that the body multiplies at point `t`. -/
abbrev left (c : Dev nD) (t : Fin cfg0.N) : S1024x2048.Idx → EReal := iblk m c 0 t
abbrev right (c : Dev nD) (t : Fin cfg0.N) : S1024x2048.Idx → EReal := iblk m c 1 t

/-- The lanes of the two blocks at point `t` multiply to the whole product. -/
theorem lanes (c : Dev nD) (t : Fin cfg0.N) (y : S1024x1024.Idx) :
    ∑ k : Fin 2048, left m c t (ix2 (y 0) k) * right m c t (ix2 (y 1) k) = total m c (t.val * 1024 + (y 0).val) (0 * 1024 + (y 1).val) := by
  rw [← term_eq]
  refine Finset.sum_congr rfl fun k _ => ?_
  unfold left right
  rw [blk0, blk1]; rfl

/-- What the kernel leaves in its output at row `i` and column `j`. -/
def value0 (c : Dev nD) (i j : ℕ) : EReal := total m c i j

/-- The block that point `t` writes back. -/
theorem out0 (c : Dev nD) (t : Fin cfg0.N) (y : S1024x1024.Idx) :
    out0_2 (iblk m c 0 t) (iblk m c 1 t) y = value0 m c (t.val * 1024 + (y 0).val) (0 * 1024 + (y 1).val) := by
  refine Eq.trans ?_ (lanes m c t y)
  frame_out
  pointwise [k0_pay1]

/-- The output array. -/
def result0 (c : Dev nD) : S4096x1024.Idx → EReal := fun i => value0 m c (i 0).val (i 1).val

/-- The array read at an index whose coordinates are known. -/
theorem result0_at (c : Dev nD) (i : S4096x1024.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 1024 := (y 0).isLt
  have h1 : (y 1).val < 1024 := (y 1).isLt
  blk_simp
  rw [after0_2]
  refine (out0 m c t y).trans (result0_at m c _ _ _ ?_ ?_) <;> blk_simp
  · omega
  · omega

end Cert.InZIdeal.Product

namespace Cert.InZRefIdeal.Product

open Cert.InZRefIdeal Cert.InZRefIdeal.Gen Cert.InZRefIdeal.Read Cert.Blocked
open Idealize.ShloMosaic Idealize.ShloMosaic.TcCoe Idealize.SL.Sem

/-- The reference's array, entry by entry. -/
theorem ref0 (x0 : S4096x2048.Idx → EReal) (x1 : S1024x2048.Idx → EReal) (i : S4096x1024.Idx) :
    val_main_v3 (F := Ideal) x0 x1 i = (∑ k : Fin 2048, at2 x0 ((i 0).val) k.val * at2 x1 ((i 1).val) k.val) := by
  have h0 : (i 0).val < 4096 := (i 0).isLt
  have h1 : (i 1).val < 1024 := (i 1).isLt
  simp only [val_main_v0_apply, val_main_v1_apply, val_main_v2_apply, val_main_v3_apply]
  refine Finset.sum_congr rfl fun k _ => ?_
  first
  | exact congrArg₂ (· * ·) (eq_at2 x0 _ _ _ rfl rfl)
      (eq_at2 x1 _ _ _ rfl rfl)
  | exact (mul_comm _ _).trans (congrArg₂ (· * ·) (eq_at2 x0 _ _ _ rfl rfl)
      (eq_at2 x1 _ _ _ rfl rfl))

end Cert.InZRefIdeal.Product

namespace Cert.Proof.InZ

open Idealize.ShloMosaic Idealize.ShloMosaic.TcCoe Idealize.SL.Sem

/-- From memories that agree on the arguments, both programs end with the same results, and the arguments unchanged. -/
theorem algebraic : Cert.algebraic_InZIdeal_InZRefIdeal := by
  intro m g m' g' _ hag
  refine ⟨fun c => Cert.InZIdeal.Product.result0 m c,
    (θ_run Cert.InZIdeal.defs _ _).mono (fun r h c => ⟨(h c).1.trans (Cert.InZIdeal.Product.final0 m c), (h c).2⟩)
      (Cert.InZIdeal.Value.run_blocks m g), ?_⟩
  refine (θ_run Cert.InZRefIdeal.defs _ _).mono (fun r h c => ⟨(h c).1.trans ?_, (h c).2⟩)
    (Cert.InZRefIdeal.Value.run m' g')
  rw [Cert.InZRefIdeal.Read.val_main_v3_eq]
  funext i
  refine (Cert.InZRefIdeal.Product.ref0 _ _ i).trans ?_
  rw [(hag c).1, (hag c).2]
  rfl

/-- The reference runs to its end, leaves its arguments unchanged and every counter at zero. -/
theorem frame_reference : Cert.quiescent_InZRefIdeal := fun m ρ _ =>
  (θ_run Cert.InZRefIdeal.defs _ _).mono (fun r h => ⟨fun c => (h c).2, sem_eq_zero_of_no_sems (by decide) r.2⟩)
    (Cert.InZRefIdeal.Value.run (F := Ideal) m ρ)

end Cert.Proof.InZ
-- ==== Proof.InZDw.lean ====
/- The product that the program `InZDw` computes: entry `(i, j)` is column `i` of the left operand times column `j` of the right one, 4096 terms.
   The kernel works block by block on a grid of 4 points; its output array holds the same product as the reference's,
   entry by entry. -/
module

public import proofs.«01_k».proof.Proof.Blocked
public import proofs.«01_k».proof.Proof.Gen.InZDwIdeal.Value
public import proofs.«01_k».proof.Proof.Gen.InZDwRefIdeal.Read
public import proofs.«01_k».proof.Defs

@[expose] public section

noncomputable section

namespace Cert.InZDwIdeal.Product

open Cert.InZDwIdeal Cert.InZDwIdeal.Gen Cert.InZDwIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x1024.Idx → EReal := m ((c : Thread nD τ).loc main_arg2)
/-- The right operand as launched. -/
abbrev rhs (c : Dev nD) : S4096x2048.Idx → EReal := m ((c : Thread nD τ).loc main_arg0)

/-- The block that grid point `t` reads or writes of the left operand. -/
theorem idx0 : ∀ t : Fin cfg0.N, win0_0.index t 0 = t.val % 2 ∧ win0_0.index t 1 = 0 :=
  (by decide +kernel : ∀ t : Fin grid0.N, _)

/-- The block that grid point `t` reads or writes of the right operand. -/
theorem idx1 : ∀ t : Fin cfg0.N, win0_1.index t 0 = t.val % 2 ∧ win0_1.index t 1 = t.val / 2 % 2 :=
  (by decide +kernel : ∀ t : Fin grid0.N, _)

/-- The block that grid point `t` reads or writes of the output. -/
theorem idx2 : ∀ t : Fin cfg0.N, win0_2.index t 0 = 0 ∧ win0_2.index t 1 = t.val / 2 % 2 :=
  (by decide +kernel : ∀ t : Fin grid0.N, _)

/-- The block of the left operand at point `t`, read at the array's own coordinates. -/
theorem blk0 (c : Dev nD) (t : Fin cfg0.N) (y : S2048x1024.Idx) :
    iblk m c 0 t y = at2 (lhs m c) ((t.val % 2) * 2048 + (y 0).val) (0 * 1024 + (y 1).val) := by
  unfold iblk
  rw [View.read_apply]
  show (V m c main_arg2 : S4096x1024.Idx → EReal) _ = _
  rw [V_main_arg2]
  obtain ⟨e0, e1⟩ := idx0 t
  have h0 : (y 0).val < 2048 := (y 0).isLt
  have h1 : (y 1).val < 1024 := (y 1).isLt
  refine eq_at2 _ _ _ _ ?_ ?_ <;> blk_simp
  · omega
  · omega

/-- The block of the right operand at point `t`, read at the array's own coordinates. -/
theorem blk1 (c : Dev nD) (t : Fin cfg0.N) (y : S2048x1024.Idx) :
    iblk m c 1 t y = at2 (rhs m c) ((t.val % 2) * 2048 + (y 0).val) ((t.val / 2 % 2) * 1024 + (y 1).val) := by
  unfold iblk
  rw [View.read_apply]
  show (V m c main_arg0 : S4096x2048.Idx → EReal) _ = _
  rw [V_main_arg0]
  obtain ⟨e0, e1⟩ := idx1 t
  have h0 : (y 0).val < 2048 := (y 0).isLt
  have h1 : (y 1).val < 1024 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) (s * 2048 + k.val) i * at2 (rhs m c) (s * 2048 + k.val) j

/-- The whole product at row `i` and column `j`. -/
def total (c : Dev nD) (i j : ℕ) : EReal :=
  ∑ k : Fin 4096, at2 (lhs m c) k.val i * at2 (rhs m c) k.val j

/-- One block product of the body is the sum over its lanes. -/
theorem pay (x0 : Vec Ideal S2048x1024 .bf16) (x1 : Vec Ideal S2048x1024 .bf16) (y : S1024x1024.Idx) :
    k0_pay1 x0 x1 y = ∑ k : Fin 2048, (x0 (ix2 k (y 0)) : EReal) * x1 (ix2 k (y 1)) := by
  pointwise [k0_pay1]

/-- The block product at point `t` is one block of the sum. -/
theorem pay_term (c : Dev nD) (t : Fin cfg0.N) (y : S1024x1024.Idx) :
    k0_pay1 (iblk m c 0 t) (iblk m c 1 t) y = term m c (t.val % 2) (0 * 1024 + (y 0).val) ((t.val / 2 % 2) * 1024 + (y 1).val) := by
  rw [pay]
  refine Finset.sum_congr rfl fun k _ => ?_
  rw [blk0, blk1]; rfl

/-- What block `s` of run `r` adds at an entry of the block. -/
def step (c : Dev nD) (r s : ℕ) (y : S1024x1024.Idx) : EReal := term m c s (0 * 1024 + (y 0).val) ((r % 2) * 1024 + (y 1).val)

/-- The first point of a run starts the accumulator at its block's product. -/
theorem scr_first (c : Dev nD) (t : Fin cfg0.N) (h : t.val % 2 = 0) (y : S1024x1024.Idx) :
    (outsAt0 m c t.val t.isLt).2 y = 0 + step m c (t.val / 2) (t.val % 2) y := by
  rw [outsAt0_A m c t h (by omega) (by omega), zero_add]
  refine Eq.trans ?_ (pay_term m c t y)
  frame_out
  pointwise [k0_pay2]

/-- Every later point adds its block's product. -/
theorem scr_next (c : Dev nD) (t : Fin cfg0.N) (h : ¬t.val % 2 = 0) (y : S1024x1024.Idx) :
    (outsAt0 m c t.val t.isLt).2 y
      = (outsAt0 m c (t.val - 1) (Nat.lt_of_le_of_lt (Nat.sub_le _ _) t.isLt)).2 y + step m c (t.val / 2) (t.val % 2) y := by
  refine Eq.trans ?_ (congrArg (_ + ·) (pay_term m c t y))
  rw [outsAt0_B m c t h (by omega) (by omega)]
  frame_out
  simp only [read_unread_whole]
  pointwise [k0_pay3]

/-- So at each point the accumulator holds the sum of its run's blocks so far. -/
theorem scr (c : Dev nD) (t : Fin cfg0.N) (y : S1024x1024.Idx) :
    (outsAt0 m c t.val t.isLt).2 y = 0 + ∑ s ∈ range (t.val % 2 + 1), step m c (t.val / 2) s y :=
  Pipeline.eq_sum_of_reset_step_apply_divmod (fun n h => (outsAt0 m c n h).2) 2 (fun _ => 0) (step m c)
    (scr_first m c) (scr_next m c) t y

/-- At a run's last point the accumulator holds the whole product. -/
theorem scr_last (c : Dev nD) (t : Fin cfg0.N) (h : t.val % 2 = 1) (y : S1024x1024.Idx) :
    (outsAt0 m c t.val t.isLt).2 y = total m c (0 * 1024 + (y 0).val) ((t.val / 2 % 2) * 1024 + (y 1).val) := by
  rw [scr, zero_add, h]
  unfold step term
  exact sum_blocks 2 2048 fun l => at2 (lhs m c) l (0 * 1024 + (y 0).val) * at2 (rhs m c) l ((t.val / 2 % 2) * 1024 + (y 1).val)

/-- What the kernel leaves in its output at row `i` and column `j`. -/
def value0 (c : Dev nD) (i j : ℕ) : EReal := total m c i j

/-- The block that point `t` writes back. Points that write back are the last of their run. -/
theorem out0 (c : Dev nD) (t : Fin cfg0.N) (h : t.val % 2 = 1) (y : S1024x1024.Idx) :
    (outsAt0 m c t.val t.isLt).1 y = value0 m c (0 * 1024 + (y 0).val) ((t.val / 2 % 2) * 1024 + (y 1).val) := by
  have e : (outsAt0 m c t.val t.isLt).1 y = (outsAt0 m c t.val t.isLt).2 y := by
    rw [outsAt0_B m c t (by omega) (by omega) h]
    frame_out
    pointwise [k0_pay4]
  rw [e, scr_last m c t h]; rfl

/-- The output array. -/
def result0 (c : Dev nD) : S1024x2048.Idx → EReal := fun i => value0 m c (i 0).val (i 1).val

/-- The array read at an index whose coordinates are known. -/
theorem result0_at (c : Dev nD) (i : S1024x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 1024 := (y 0).isLt
  have h1 : (y 1).val < 1024 := (y 1).isLt
  have hm : t.val % 2 = 1 := (flush0_2 t).mp hf
  blk_simp
  rw [after0_2]
  refine (out0 m c t hm y).trans (result0_at m c _ _ _ ?_ ?_) <;> blk_simp
  · omega
  · omega

end Cert.InZDwIdeal.Product

namespace Cert.InZDwRefIdeal.Product

open Cert.InZDwRefIdeal Cert.InZDwRefIdeal.Gen Cert.InZDwRefIdeal.Read Cert.Blocked
open Idealize.ShloMosaic Idealize.ShloMosaic.TcCoe Idealize.SL.Sem

/-- The reference's array, entry by entry. -/
theorem ref0 (x0 : S4096x2048.Idx → EReal) (x2 : S4096x1024.Idx → EReal) (i : S1024x2048.Idx) :
    val_main_v8 (F := Ideal) x0 x2 i = (∑ k : Fin 4096, at2 x2 k.val ((i 0).val) * at2 x0 k.val ((i 1).val)) := by
  have h0 : (i 0).val < 1024 := (i 0).isLt
  have h1 : (i 1).val < 2048 := (i 1).isLt
  simp only [val_main_v0_apply, val_main_v1_apply, val_main_v2_apply, val_main_v3_apply, val_main_v4_apply, val_main_v5_apply, val_main_v6_apply, val_main_v7_apply, val_main_v8_apply]
  refine Finset.sum_congr rfl fun k _ => ?_
  first
  | exact congrArg₂ (· * ·) (eq_at2 x2 _ _ _ rfl rfl)
      (eq_at2 x0 _ _ _ rfl rfl)
  | exact (mul_comm _ _).trans (congrArg₂ (· * ·) (eq_at2 x2 _ _ _ rfl rfl)
      (eq_at2 x0 _ _ _ rfl rfl))

end Cert.InZDwRefIdeal.Product

namespace Cert.Proof.InZDw

open Idealize.ShloMosaic Idealize.ShloMosaic.TcCoe Idealize.SL.Sem

/-- From memories that agree on the arguments, both programs end with the same results, and the arguments unchanged. -/
theorem algebraic : Cert.algebraic_InZDwIdeal_InZDwRefIdeal := by
  intro m g m' g' _ hag
  refine ⟨fun c => Cert.InZDwIdeal.Product.result0 m c,
    (θ_run Cert.InZDwIdeal.defs _ _).mono (fun r h c => ⟨(h c).1.trans (Cert.InZDwIdeal.Product.final0 m c), (h c).2⟩)
      (Cert.InZDwIdeal.Value.run_blocks m g), ?_⟩
  refine (θ_run Cert.InZDwRefIdeal.defs _ _).mono (fun r h c => ⟨(h c).1.trans ?_, (h c).2⟩)
    (Cert.InZDwRefIdeal.Value.run m' g')
  rw [Cert.InZDwRefIdeal.Read.val_main_v8_eq]
  funext i
  refine (Cert.InZDwRefIdeal.Product.ref0 _ _ i).trans ?_
  rw [(hag c).1, (hag c).2.2]
  rfl

/-- The reference runs to its end, leaves its arguments unchanged and every counter at zero. -/
theorem frame_reference : Cert.quiescent_InZDwRefIdeal := fun m ρ _ =>
  (θ_run Cert.InZDwRefIdeal.defs _ _).mono (fun r h => ⟨fun c => (h c).2, sem_eq_zero_of_no_sems (by decide) r.2⟩)
    (Cert.InZDwRefIdeal.Value.run (F := Ideal) m ρ)

end Cert.Proof.InZDw
-- ==== Proof.InZDh.lean ====
/- The product that the program `InZDh` computes: entry `(i, j)` is row `i` of the left operand times column `j` of the right one, 1024 terms.
   The kernel works block by block on a grid of 4 points; its output array holds the same product as the reference's,
   entry by entry. -/
module

public import proofs.«01_k».proof.Proof.Blocked
public import proofs.«01_k».proof.Proof.Gen.InZDhIdeal.Value
public import proofs.«01_k».proof.Proof.Gen.InZDhRefIdeal.Read
public import proofs.«01_k».proof.Defs

@[expose] public section

noncomputable section

namespace Cert.InZDhIdeal.Product

open Cert.InZDhIdeal Cert.InZDhIdeal.Gen Cert.InZDhIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x1024.Idx → EReal := m ((c : Thread nD τ).loc main_arg2)
/-- The right operand as launched. -/
abbrev rhs (c : Dev nD) : S1024x2048.Idx → EReal := m ((c : Thread nD τ).loc main_arg1)

/-- The block that grid point `t` reads or writes of the left operand. -/
theorem idx0 : ∀ t : Fin cfg0.N, win0_0.index t 0 = t.val ∧ win0_0.index t 1 = 0 :=
  (by decide +kernel : ∀ t : Fin grid0.N, _)

/-- The block that grid point `t` reads or writes of the right operand. -/
theorem idx1 : ∀ t : Fin cfg0.N, win0_1.index t 0 = 0 ∧ win0_1.index t 1 = 0 :=
  (by decide +kernel : ∀ t : Fin grid0.N, _)

/-- The block that grid point `t` reads or writes of the output. -/
theorem idx2 : ∀ t : Fin cfg0.N, win0_2.index t 0 = t.val ∧ win0_2.index t 1 = 0 :=
  (by decide +kernel : ∀ t : Fin grid0.N, _)

/-- The block of the left operand at point `t`, read at the array's own coordinates. -/
theorem blk0 (c : Dev nD) (t : Fin cfg0.N) (y : S1024x1024.Idx) :
    iblk m c 0 t y = at2 (lhs m c) (t.val * 1024 + (y 0).val) (0 * 1024 + (y 1).val) := by
  unfold iblk
  rw [View.read_apply]
  show (V m c main_arg2 : S4096x1024.Idx → EReal) _ = _
  rw [V_main_arg2]
  obtain ⟨e0, e1⟩ := idx0 t
  have h0 : (y 0).val < 1024 := (y 0).isLt
  have h1 : (y 1).val < 1024 := (y 1).isLt
  refine eq_at2 _ _ _ _ ?_ ?_ <;> blk_simp
  · omega
  · omega

/-- The block of the right operand at point `t`, read at the array's own coordinates. -/
theorem blk1 (c : Dev nD) (t : Fin cfg0.N) (y : S1024x2048.Idx) :
    iblk m c 1 t y = at2 (rhs m c) (0 * 1024 + (y 0).val) (0 * 2048 + (y 1).val) := by
  unfold iblk
  rw [View.read_apply]
  show (V m c main_arg1 : S1024x2048.Idx → EReal) _ = _
  rw [V_main_arg1]
  obtain ⟨e0, e1⟩ := idx1 t
  have h0 : (y 0).val < 1024 := (y 0).isLt
  have h1 : (y 1).val < 2048 := (y 1).isLt
  refine eq_at2 _ _ _ _ ?_ ?_ <;> blk_simp
  · omega
  · omega

/-- The sum of the products over the lanes `1024 s ≤ l < 1024 s + 1024` of the contracted axis, at row `i` and column `j`. -/
def term (c : Dev nD) (s i j : ℕ) : EReal :=
  ∑ k : Fin 1024, at2 (lhs m c) i (s * 1024 + k.val) * at2 (rhs m c) (s * 1024 + k.val) j

/-- The whole product at row `i` and column `j`. -/
def total (c : Dev nD) (i j : ℕ) : EReal :=
  ∑ k : Fin 1024, at2 (lhs m c) i k.val * at2 (rhs m c) k.val j

/-- One block is the whole sum. -/
theorem term_eq (c : Dev nD) (i j : ℕ) : term m c 0 i j = total m c i j := by
  unfold term total
  refine Finset.sum_congr rfl fun k _ => ?_
  simp only [zero_mul, zero_add]

/-- The two blocks that the body multiplies at point `t`. -/
abbrev left (c : Dev nD) (t : Fin cfg0.N) : S1024x1024.Idx → EReal := iblk m c 0 t
abbrev right (c : Dev nD) (t : Fin cfg0.N) : S1024x2048.Idx → EReal := iblk m c 1 t

/-- The lanes of the two blocks at point `t` multiply to the whole product. -/
theorem lanes (c : Dev nD) (t : Fin cfg0.N) (y : S1024x2048.Idx) :
    ∑ k : Fin 1024, left m c t (ix2 (y 0) k) * right m c t (ix2 k (y 1)) = total m c (t.val * 1024 + (y 0).val) (0 * 2048 + (y 1).val) := by
  rw [← term_eq]
  refine Finset.sum_congr rfl fun k _ => ?_
  unfold left right
  rw [blk0, blk1]; rfl

/-- What the kernel leaves in its output at row `i` and column `j`. -/
def value0 (c : Dev nD) (i j : ℕ) : EReal := total m c i j

/-- The block that point `t` writes back. -/
theorem out0 (c : Dev nD) (t : Fin cfg0.N) (y : S1024x2048.Idx) :
    out0_2 (iblk m c 0 t) (iblk m c 1 t) y = value0 m c (t.val * 1024 + (y 0).val) (0 * 2048 + (y 1).val) := by
  refine Eq.trans ?_ (lanes m c t y)
  frame_out
  pointwise [k0_pay1]

/-- The output array. -/
def result0 (c : Dev nD) : S4096x2048.Idx → EReal := fun i => value0 m c (i 0).val (i 1).val

/-- The array read at an index whose coordinates are known. -/
theorem result0_at (c : Dev nD) (i : S4096x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 1024 := (y 0).isLt
  have h1 : (y 1).val < 2048 := (y 1).isLt
  blk_simp
  rw [after0_2]
  refine (out0 m c t y).trans (result0_at m c _ _ _ ?_ ?_) <;> blk_simp
  · omega
  · omega

end Cert.InZDhIdeal.Product

namespace Cert.InZDhRefIdeal.Product

open Cert.InZDhRefIdeal Cert.InZDhRefIdeal.Gen Cert.InZDhRefIdeal.Read Cert.Blocked
open Idealize.ShloMosaic Idealize.ShloMosaic.TcCoe Idealize.SL.Sem

/-- The reference's array, entry by entry. -/
theorem ref0 (x1 : S1024x2048.Idx → EReal) (x2 : S4096x1024.Idx → EReal) (i : S4096x2048.Idx) :
    val_main_v5 (F := Ideal) x1 x2 i = (∑ k : Fin 1024, at2 x2 ((i 0).val) k.val * at2 x1 k.val ((i 1).val)) := by
  have h0 : (i 0).val < 4096 := (i 0).isLt
  have h1 : (i 1).val < 2048 := (i 1).isLt
  simp only [val_main_v0_apply, val_main_v1_apply, val_main_v2_apply, val_main_v3_apply, val_main_v4_apply, val_main_v5_apply]
  refine Finset.sum_congr rfl fun k _ => ?_
  first
  | exact congrArg₂ (· * ·) (eq_at2 x2 _ _ _ rfl rfl)
      (eq_at2 x1 _ _ _ rfl rfl)
  | exact (mul_comm _ _).trans (congrArg₂ (· * ·) (eq_at2 x2 _ _ _ rfl rfl)
      (eq_at2 x1 _ _ _ rfl rfl))

end Cert.InZDhRefIdeal.Product

namespace Cert.Proof.InZDh

open Idealize.ShloMosaic Idealize.ShloMosaic.TcCoe Idealize.SL.Sem

/-- From memories that agree on the arguments, both programs end with the same results, and the arguments unchanged. -/
theorem algebraic : Cert.algebraic_InZDhIdeal_InZDhRefIdeal := by
  intro m g m' g' _ hag
  refine ⟨fun c => Cert.InZDhIdeal.Product.result0 m c,
    (θ_run Cert.InZDhIdeal.defs _ _).mono (fun r h c => ⟨(h c).1.trans (Cert.InZDhIdeal.Product.final0 m c), (h c).2⟩)
      (Cert.InZDhIdeal.Value.run_blocks m g), ?_⟩
  refine (θ_run Cert.InZDhRefIdeal.defs _ _).mono (fun r h c => ⟨(h c).1.trans ?_, (h c).2⟩)
    (Cert.InZDhRefIdeal.Value.run m' g')
  rw [Cert.InZDhRefIdeal.Read.val_main_v5_eq]
  funext i
  refine (Cert.InZDhRefIdeal.Product.ref0 _ _ i).trans ?_
  rw [(hag c).2.1, (hag c).2.2]
  rfl

/-- The reference runs to its end, leaves its arguments unchanged and every counter at zero. -/
theorem frame_reference : Cert.quiescent_InZDhRefIdeal := fun m ρ _ =>
  (θ_run Cert.InZDhRefIdeal.defs _ _).mono (fun r h => ⟨fun c => (h c).2, sem_eq_zero_of_no_sems (by decide) r.2⟩)
    (Cert.InZDhRefIdeal.Value.run (F := Ideal) m ρ)

end Cert.Proof.InZDh
-- ==== Proof.InXbc.lean ====
/- The product that the program `InXbc` computes: entry `(i, j)` is row `i` of the left operand times row `j` of the right one, 2048 terms.
   The kernel works block by block on a grid of 4 points; its output array holds the same product as the reference's,
   entry by entry. -/
module

public import proofs.«01_k».proof.Proof.Blocked
public import proofs.«01_k».proof.Proof.Gen.InXbcIdeal.Value
public import proofs.«01_k».proof.Proof.Gen.InXbcRefIdeal.Read
public import proofs.«01_k».proof.Defs

@[expose] public section

noncomputable section

namespace Cert.InXbcIdeal.Product

open Cert.InXbcIdeal Cert.InXbcIdeal.Gen Cert.InXbcIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x2048.Idx → EReal := m ((c : Thread nD τ).loc main_arg0)
/-- The right operand as launched. -/
abbrev rhs (c : Dev nD) : S1536x2048.Idx → EReal := m ((c : Thread nD τ).loc main_arg1)

/-- The block that grid point `t` reads or writes of the left operand. -/
theorem idx0 : ∀ t : Fin cfg0.N, win0_0.index t 0 = t.val ∧ win0_0.index t 1 = 0 :=
  (by decide +kernel : ∀ t : Fin grid0.N, _)

/-- The block that grid point `t` reads or writes of the right operand. -/
theorem idx1 : ∀ t : Fin cfg0.N, win0_1.index t 0 = 0 ∧ win0_1.index t 1 = 0 :=
  (by decide +kernel : ∀ t : Fin grid0.N, _)

/-- The block that grid point `t` reads or writes of the output. -/
theorem idx2 : ∀ t : Fin cfg0.N, win0_2.index t 0 = t.val ∧ win0_2.index t 1 = 0 :=
  (by decide +kernel : ∀ t : Fin grid0.N, _)

/-- The block of the left operand at point `t`, read at the array's own coordinates. -/
theorem blk0 (c : Dev nD) (t : Fin cfg0.N) (y : S1024x2048.Idx) :
    iblk m c 0 t y = at2 (lhs m c) (t.val * 1024 + (y 0).val) (0 * 2048 + (y 1).val) := by
  unfold iblk
  rw [View.read_apply]
  show (V m c main_arg0 : S4096x2048.Idx → EReal) _ = _
  rw [V_main_arg0]
  obtain ⟨e0, e1⟩ := idx0 t
  have h0 : (y 0).val < 1024 := (y 0).isLt
  have h1 : (y 1).val < 2048 := (y 1).isLt
  refine eq_at2 _ _ _ _ ?_ ?_ <;> blk_simp
  · omega
  · omega

/-- The block of the right operand at point `t`, read at the array's own coordinates. -/
theorem blk1 (c : Dev nD) (t : Fin cfg0.N) (y : S1536x2048.Idx) :
    iblk m c 1 t y = at2 (rhs m c) (0 * 1536 + (y 0).val) (0 * 2048 + (y 1).val) := by
  unfold iblk
  rw [View.read_apply]
  show (V m c main_arg1 : S1536x2048.Idx → EReal) _ = _
  rw [V_main_arg1]
  obtain ⟨e0, e1⟩ := idx1 t
  have h0 : (y 0).val < 1536 := (y 0).isLt
  have h1 : (y 1).val < 2048 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) i (s * 2048 + k.val) * at2 (rhs m c) j (s * 2048 + k.val)

/-- The whole product at row `i` and column `j`. -/
def total (c : Dev nD) (i j : ℕ) : EReal :=
  ∑ k : Fin 2048, at2 (lhs m c) i k.val * at2 (rhs m c) j k.val

/-- One block is the whole sum. -/
theorem term_eq (c : Dev nD) (i j : ℕ) : term m c 0 i j = total m c i j := by
  unfold term total
  refine Finset.sum_congr rfl fun k _ => ?_
  simp only [zero_mul, zero_add]

/-- The two blocks that the body multiplies at point `t`. -/
abbrev left (c : Dev nD) (t : Fin cfg0.N) : S1024x2048.Idx → EReal := iblk m c 0 t
abbrev right (c : Dev nD) (t : Fin cfg0.N) : S1536x2048.Idx → EReal := iblk m c 1 t

/-- The lanes of the two blocks at point `t` multiply to the whole product. -/
theorem lanes (c : Dev nD) (t : Fin cfg0.N) (y : S1024x1536.Idx) :
    ∑ k : Fin 2048, left m c t (ix2 (y 0) k) * right m c t (ix2 (y 1) k) = total m c (t.val * 1024 + (y 0).val) (0 * 1536 + (y 1).val) := by
  rw [← term_eq]
  refine Finset.sum_congr rfl fun k _ => ?_
  unfold left right
  rw [blk0, blk1]; rfl

/-- What the kernel leaves in its output at row `i` and column `j`. -/
def value0 (c : Dev nD) (i j : ℕ) : EReal := total m c i j

/-- The block that point `t` writes back. -/
theorem out0 (c : Dev nD) (t : Fin cfg0.N) (y : S1024x1536.Idx) :
    out0_2 (iblk m c 0 t) (iblk m c 1 t) y = value0 m c (t.val * 1024 + (y 0).val) (0 * 1536 + (y 1).val) := by
  refine Eq.trans ?_ (lanes m c t y)
  frame_out
  pointwise [k0_pay1]

/-- The output array. -/
def result0 (c : Dev nD) : S4096x1536.Idx → EReal := fun i => value0 m c (i 0).val (i 1).val

/-- The array read at an index whose coordinates are known. -/
theorem result0_at (c : Dev nD) (i : S4096x1536.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 1024 := (y 0).isLt
  have h1 : (y 1).val < 1536 := (y 1).isLt
  blk_simp
  rw [after0_2]
  refine (out0 m c t y).trans (result0_at m c _ _ _ ?_ ?_) <;> blk_simp
  · omega
  · omega

end Cert.InXbcIdeal.Product

namespace Cert.InXbcRefIdeal.Product

open Cert.InXbcRefIdeal Cert.InXbcRefIdeal.Gen Cert.InXbcRefIdeal.Read Cert.Blocked
open Idealize.ShloMosaic Idealize.ShloMosaic.TcCoe Idealize.SL.Sem

/-- The reference's array, entry by entry. -/
theorem ref0 (x0 : S4096x2048.Idx → EReal) (x1 : S1536x2048.Idx → EReal) (i : S4096x1536.Idx) :
    val_main_v3 (F := Ideal) x0 x1 i = (∑ k : Fin 2048, at2 x0 ((i 0).val) k.val * at2 x1 ((i 1).val) k.val) := by
  have h0 : (i 0).val < 4096 := (i 0).isLt
  have h1 : (i 1).val < 1536 := (i 1).isLt
  simp only [val_main_v0_apply, val_main_v1_apply, val_main_v2_apply, val_main_v3_apply]
  refine Finset.sum_congr rfl fun k _ => ?_
  first
  | exact congrArg₂ (· * ·) (eq_at2 x0 _ _ _ rfl rfl)
      (eq_at2 x1 _ _ _ rfl rfl)
  | exact (mul_comm _ _).trans (congrArg₂ (· * ·) (eq_at2 x0 _ _ _ rfl rfl)
      (eq_at2 x1 _ _ _ rfl rfl))

end Cert.InXbcRefIdeal.Product

namespace Cert.Proof.InXbc

open Idealize.ShloMosaic Idealize.ShloMosaic.TcCoe Idealize.SL.Sem

/-- From memories that agree on the arguments, both programs end with the same results, and the arguments unchanged. -/
theorem algebraic : Cert.algebraic_InXbcIdeal_InXbcRefIdeal := by
  intro m g m' g' _ hag
  refine ⟨fun c => Cert.InXbcIdeal.Product.result0 m c,
    (θ_run Cert.InXbcIdeal.defs _ _).mono (fun r h c => ⟨(h c).1.trans (Cert.InXbcIdeal.Product.final0 m c), (h c).2⟩)
      (Cert.InXbcIdeal.Value.run_blocks m g), ?_⟩
  refine (θ_run Cert.InXbcRefIdeal.defs _ _).mono (fun r h c => ⟨(h c).1.trans ?_, (h c).2⟩)
    (Cert.InXbcRefIdeal.Value.run m' g')
  rw [Cert.InXbcRefIdeal.Read.val_main_v3_eq]
  funext i
  refine (Cert.InXbcRefIdeal.Product.ref0 _ _ i).trans ?_
  rw [(hag c).1, (hag c).2]
  rfl

/-- The reference runs to its end, leaves its arguments unchanged and every counter at zero. -/
theorem frame_reference : Cert.quiescent_InXbcRefIdeal := fun m ρ _ =>
  (θ_run Cert.InXbcRefIdeal.defs _ _).mono (fun r h => ⟨fun c => (h c).2, sem_eq_zero_of_no_sems (by decide) r.2⟩)
    (Cert.InXbcRefIdeal.Value.run (F := Ideal) m ρ)

end Cert.Proof.InXbc
-- ==== Proof.InXbcDw.lean ====
/- The product that the program `InXbcDw` computes: entry `(i, j)` is column `i` of the left operand times column `j` of the right one, 4096 terms.
   The kernel works block by block on a grid of 6 points; its output array holds the same product as the reference's,
   entry by entry. -/
module

public import proofs.«01_k».proof.Proof.Blocked
public import proofs.«01_k».proof.Proof.Gen.InXbcDwIdeal.Value
public import proofs.«01_k».proof.Proof.Gen.InXbcDwRefIdeal.Read
public import proofs.«01_k».proof.Defs

@[expose] public section

noncomputable section

namespace Cert.InXbcDwIdeal.Product

open Cert.InXbcDwIdeal Cert.InXbcDwIdeal.Gen Cert.InXbcDwIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x1536.Idx → EReal := m ((c : Thread nD τ).loc main_arg2)
/-- The right operand as launched. -/
abbrev rhs (c : Dev nD) : S4096x2048.Idx → EReal := m ((c : Thread nD τ).loc main_arg0)

/-- The block that grid point `t` reads or writes of the left operand. -/
theorem idx0 : ∀ t : Fin cfg0.N, win0_0.index t 0 = t.val % 2 ∧ win0_0.index t 1 = t.val / 2 :=
  (by decide +kernel : ∀ t : Fin grid0.N, _)

/-- The block that grid point `t` reads or writes of the right operand. -/
theorem idx1 : ∀ t : Fin cfg0.N, win0_1.index t 0 = t.val % 2 ∧ win0_1.index t 1 = 0 :=
  (by decide +kernel : ∀ t : Fin grid0.N, _)

/-- The block that grid point `t` reads or writes of the output. -/
theorem idx2 : ∀ t : Fin cfg0.N, win0_2.index t 0 = t.val / 2 ∧ win0_2.index t 1 = 0 :=
  (by decide +kernel : ∀ t : Fin grid0.N, _)

/-- The block of the left operand at point `t`, read at the array's own coordinates. -/
theorem blk0 (c : Dev nD) (t : Fin cfg0.N) (y : S2048x512.Idx) :
    iblk m c 0 t y = at2 (lhs m c) ((t.val % 2) * 2048 + (y 0).val) ((t.val / 2) * 512 + (y 1).val) := by
  unfold iblk
  rw [View.read_apply]
  show (V m c main_arg2 : S4096x1536.Idx → EReal) _ = _
  rw [V_main_arg2]
  obtain ⟨e0, e1⟩ := idx0 t
  have h0 : (y 0).val < 2048 := (y 0).isLt
  have h1 : (y 1).val < 512 := (y 1).isLt
  refine eq_at2 _ _ _ _ ?_ ?_ <;> blk_simp
  · omega
  · omega

/-- The block of the right operand at point `t`, read at the array's own coordinates. -/
theorem blk1 (c : Dev nD) (t : Fin cfg0.N) (y : S2048x2048.Idx) :
    iblk m c 1 t y = at2 (rhs m c) ((t.val % 2) * 2048 + (y 0).val) (0 * 2048 + (y 1).val) := by
  unfold iblk
  rw [View.read_apply]
  show (V m c main_arg0 : S4096x2048.Idx → EReal) _ = _
  rw [V_main_arg0]
  obtain ⟨e0, e1⟩ := idx1 t
  have h0 : (y 0).val < 2048 := (y 0).isLt
  have h1 : (y 1).val < 2048 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) (s * 2048 + k.val) i * at2 (rhs m c) (s * 2048 + k.val) j

/-- The whole product at row `i` and column `j`. -/
def total (c : Dev nD) (i j : ℕ) : EReal :=
  ∑ k : Fin 4096, at2 (lhs m c) k.val i * at2 (rhs m c) k.val j

/-- One block product of the body is the sum over its lanes. -/
theorem pay (x0 : Vec Ideal S2048x512 .bf16) (x1 : Vec Ideal S2048x2048 .bf16) (y : S512x2048.Idx) :
    k0_pay1 x0 x1 y = ∑ k : Fin 2048, (x0 (ix2 k (y 0)) : EReal) * x1 (ix2 k (y 1)) := by
  pointwise [k0_pay1]

/-- The block product at point `t` is one block of the sum. -/
theorem pay_term (c : Dev nD) (t : Fin cfg0.N) (y : S512x2048.Idx) :
    k0_pay1 (iblk m c 0 t) (iblk m c 1 t) y = term m c (t.val % 2) ((t.val / 2) * 512 + (y 0).val) (0 * 2048 + (y 1).val) := by
  rw [pay]
  refine Finset.sum_congr rfl fun k _ => ?_
  rw [blk0, blk1]; rfl

/-- What block `s` of run `r` adds at an entry of the block. -/
def step (c : Dev nD) (r s : ℕ) (y : S512x2048.Idx) : EReal := term m c s (r * 512 + (y 0).val) (0 * 2048 + (y 1).val)

/-- The first point of a run starts the accumulator at its block's product. -/
theorem scr_first (c : Dev nD) (t : Fin cfg0.N) (h : t.val % 2 = 0) (y : S512x2048.Idx) :
    (outsAt0 m c t.val t.isLt).2 y = 0 + step m c (t.val / 2) (t.val % 2) y := by
  rw [outsAt0_A m c t h (by omega) (by omega), zero_add]
  refine Eq.trans ?_ (pay_term m c t y)
  frame_out
  pointwise [k0_pay2]

/-- Every later point adds its block's product. -/
theorem scr_next (c : Dev nD) (t : Fin cfg0.N) (h : ¬t.val % 2 = 0) (y : S512x2048.Idx) :
    (outsAt0 m c t.val t.isLt).2 y
      = (outsAt0 m c (t.val - 1) (Nat.lt_of_le_of_lt (Nat.sub_le _ _) t.isLt)).2 y + step m c (t.val / 2) (t.val % 2) y := by
  refine Eq.trans ?_ (congrArg (_ + ·) (pay_term m c t y))
  rw [outsAt0_B m c t h (by omega) (by omega)]
  frame_out
  simp only [read_unread_whole]
  pointwise [k0_pay3]

/-- So at each point the accumulator holds the sum of its run's blocks so far. -/
theorem scr (c : Dev nD) (t : Fin cfg0.N) (y : S512x2048.Idx) :
    (outsAt0 m c t.val t.isLt).2 y = 0 + ∑ s ∈ range (t.val % 2 + 1), step m c (t.val / 2) s y :=
  Pipeline.eq_sum_of_reset_step_apply_divmod (fun n h => (outsAt0 m c n h).2) 2 (fun _ => 0) (step m c)
    (scr_first m c) (scr_next m c) t y

/-- At a run's last point the accumulator holds the whole product. -/
theorem scr_last (c : Dev nD) (t : Fin cfg0.N) (h : t.val % 2 = 1) (y : S512x2048.Idx) :
    (outsAt0 m c t.val t.isLt).2 y = total m c ((t.val / 2) * 512 + (y 0).val) (0 * 2048 + (y 1).val) := by
  rw [scr, zero_add, h]
  unfold step term
  exact sum_blocks 2 2048 fun l => at2 (lhs m c) l ((t.val / 2) * 512 + (y 0).val) * at2 (rhs m c) l (0 * 2048 + (y 1).val)

/-- What the kernel leaves in its output at row `i` and column `j`. -/
def value0 (c : Dev nD) (i j : ℕ) : EReal := total m c i j

/-- The block that point `t` writes back. Points that write back are the last of their run. -/
theorem out0 (c : Dev nD) (t : Fin cfg0.N) (h : t.val % 2 = 1) (y : S512x2048.Idx) :
    (outsAt0 m c t.val t.isLt).1 y = value0 m c ((t.val / 2) * 512 + (y 0).val) (0 * 2048 + (y 1).val) := by
  have e : (outsAt0 m c t.val t.isLt).1 y = (outsAt0 m c t.val t.isLt).2 y := by
    rw [outsAt0_B m c t (by omega) (by omega) h]
    frame_out
    pointwise [k0_pay4]
  rw [e, scr_last m c t h]; rfl

/-- The output array. -/
def result0 (c : Dev nD) : S1536x2048.Idx → EReal := fun i => value0 m c (i 0).val (i 1).val

/-- The array read at an index whose coordinates are known. -/
theorem result0_at (c : Dev nD) (i : S1536x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 512 := (y 0).isLt
  have h1 : (y 1).val < 2048 := (y 1).isLt
  have hm : t.val % 2 = 1 := (flush0_2 t).mp hf
  blk_simp
  rw [after0_2]
  refine (out0 m c t hm y).trans (result0_at m c _ _ _ ?_ ?_) <;> blk_simp
  · omega
  · omega

end Cert.InXbcDwIdeal.Product

namespace Cert.InXbcDwRefIdeal.Product

open Cert.InXbcDwRefIdeal Cert.InXbcDwRefIdeal.Gen Cert.InXbcDwRefIdeal.Read Cert.Blocked
open Idealize.ShloMosaic Idealize.ShloMosaic.TcCoe Idealize.SL.Sem

/-- The reference's array, entry by entry. -/
theorem ref0 (x0 : S4096x2048.Idx → EReal) (x2 : S4096x1536.Idx → EReal) (i : S1536x2048.Idx) :
    val_main_v8 (F := Ideal) x0 x2 i = (∑ k : Fin 4096, at2 x2 k.val ((i 0).val) * at2 x0 k.val ((i 1).val)) := by
  have h0 : (i 0).val < 1536 := (i 0).isLt
  have h1 : (i 1).val < 2048 := (i 1).isLt
  simp only [val_main_v0_apply, val_main_v1_apply, val_main_v2_apply, val_main_v3_apply, val_main_v4_apply, val_main_v5_apply, val_main_v6_apply, val_main_v7_apply, val_main_v8_apply]
  refine Finset.sum_congr rfl fun k _ => ?_
  first
  | exact congrArg₂ (· * ·) (eq_at2 x2 _ _ _ rfl rfl)
      (eq_at2 x0 _ _ _ rfl rfl)
  | exact (mul_comm _ _).trans (congrArg₂ (· * ·) (eq_at2 x2 _ _ _ rfl rfl)
      (eq_at2 x0 _ _ _ rfl rfl))

end Cert.InXbcDwRefIdeal.Product

namespace Cert.Proof.InXbcDw

open Idealize.ShloMosaic Idealize.ShloMosaic.TcCoe Idealize.SL.Sem

/-- From memories that agree on the arguments, both programs end with the same results, and the arguments unchanged. -/
theorem algebraic : Cert.algebraic_InXbcDwIdeal_InXbcDwRefIdeal := by
  intro m g m' g' _ hag
  refine ⟨fun c => Cert.InXbcDwIdeal.Product.result0 m c,
    (θ_run Cert.InXbcDwIdeal.defs _ _).mono (fun r h c => ⟨(h c).1.trans (Cert.InXbcDwIdeal.Product.final0 m c), (h c).2⟩)
      (Cert.InXbcDwIdeal.Value.run_blocks m g), ?_⟩
  refine (θ_run Cert.InXbcDwRefIdeal.defs _ _).mono (fun r h c => ⟨(h c).1.trans ?_, (h c).2⟩)
    (Cert.InXbcDwRefIdeal.Value.run m' g')
  rw [Cert.InXbcDwRefIdeal.Read.val_main_v8_eq]
  funext i
  refine (Cert.InXbcDwRefIdeal.Product.ref0 _ _ i).trans ?_
  rw [(hag c).1, (hag c).2.2]
  rfl

/-- The reference runs to its end, leaves its arguments unchanged and every counter at zero. -/
theorem frame_reference : Cert.quiescent_InXbcDwRefIdeal := fun m ρ _ =>
  (θ_run Cert.InXbcDwRefIdeal.defs _ _).mono (fun r h => ⟨fun c => (h c).2, sem_eq_zero_of_no_sems (by decide) r.2⟩)
    (Cert.InXbcDwRefIdeal.Value.run (F := Ideal) m ρ)

end Cert.Proof.InXbcDw
-- ==== Proof.InXbcDh.lean ====
/- The product that the program `InXbcDh` computes: entry `(i, j)` is row `i` of the left operand times column `j` of the right one, 1536 terms.
   The kernel works block by block on a grid of 8 points; its output array holds the same product as the reference's,
   entry by entry. -/
module

public import proofs.«01_k».proof.Proof.Blocked
public import proofs.«01_k».proof.Proof.Gen.InXbcDhIdeal.Value
public import proofs.«01_k».proof.Proof.Gen.InXbcDhRefIdeal.Read
public import proofs.«01_k».proof.Defs

@[expose] public section

noncomputable section

namespace Cert.InXbcDhIdeal.Product

open Cert.InXbcDhIdeal Cert.InXbcDhIdeal.Gen Cert.InXbcDhIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x1536.Idx → EReal := m ((c : Thread nD τ).loc main_arg2)
/-- The right operand as launched. -/
abbrev rhs (c : Dev nD) : S1536x2048.Idx → EReal := m ((c : Thread nD τ).loc main_arg1)
/-- The summand, as launched. -/
abbrev add (c : Dev nD) : S4096x2048.Idx → EReal := m ((c : Thread nD τ).loc main_arg3)

/-- The block that grid point `t` reads or writes of the left operand. -/
theorem idx0 : ∀ t : Fin cfg0.N, win0_0.index t 0 = t.val / 2 ∧ win0_0.index t 1 = 0 :=
  (by decide +kernel : ∀ t : Fin grid0.N, _)

/-- The block that grid point `t` reads or writes of the right operand. -/
theorem idx1 : ∀ t : Fin cfg0.N, win0_1.index t 0 = 0 ∧ win0_1.index t 1 = t.val % 2 :=
  (by decide +kernel : ∀ t : Fin grid0.N, _)

/-- The block that grid point `t` reads or writes of the third operand. -/
theorem idx2 : ∀ t : Fin cfg0.N, win0_2.index t 0 = t.val / 2 ∧ win0_2.index t 1 = t.val % 2 :=
  (by decide +kernel : ∀ t : Fin grid0.N, _)

/-- The block that grid point `t` reads or writes of the output. -/
theorem idx3 : ∀ t : Fin cfg0.N, win0_3.index t 0 = t.val / 2 ∧ win0_3.index t 1 = t.val % 2 :=
  (by decide +kernel : ∀ t : Fin grid0.N, _)

/-- The block of the left operand at point `t`, read at the array's own coordinates. -/
theorem blk0 (c : Dev nD) (t : Fin cfg0.N) (y : S1024x1536.Idx) :
    iblk m c 0 t y = at2 (lhs m c) ((t.val / 2) * 1024 + (y 0).val) (0 * 1536 + (y 1).val) := by
  unfold iblk
  rw [View.read_apply]
  show (V m c main_arg2 : S4096x1536.Idx → EReal) _ = _
  rw [V_main_arg2]
  obtain ⟨e0, e1⟩ := idx0 t
  have h0 : (y 0).val < 1024 := (y 0).isLt
  have h1 : (y 1).val < 1536 := (y 1).isLt
  refine eq_at2 _ _ _ _ ?_ ?_ <;> blk_simp
  · omega
  · omega

/-- The block of the right operand at point `t`, read at the array's own coordinates. -/
theorem blk1 (c : Dev nD) (t : Fin cfg0.N) (y : S1536x1024.Idx) :
    iblk m c 1 t y = at2 (rhs m c) (0 * 1536 + (y 0).val) ((t.val % 2) * 1024 + (y 1).val) := by
  unfold iblk
  rw [View.read_apply]
  show (V m c main_arg1 : S1536x2048.Idx → EReal) _ = _
  rw [V_main_arg1]
  obtain ⟨e0, e1⟩ := idx1 t
  have h0 : (y 0).val < 1536 := (y 0).isLt
  have h1 : (y 1).val < 1024 := (y 1).isLt
  refine eq_at2 _ _ _ _ ?_ ?_ <;> blk_simp
  · omega
  · omega

/-- The block of the summand at point `t`, read at the array's own coordinates. -/
theorem blk2 (c : Dev nD) (t : Fin cfg0.N) (y : S1024x1024.Idx) :
    iblk m c 2 t y = at2 (add m c) ((t.val / 2) * 1024 + (y 0).val) ((t.val % 2) * 1024 + (y 1).val) := by
  unfold iblk
  rw [View.read_apply]
  show (V m c main_arg3 : S4096x2048.Idx → EReal) _ = _
  rw [V_main_arg3]
  obtain ⟨e0, e1⟩ := idx2 t
  have h0 : (y 0).val < 1024 := (y 0).isLt
  have h1 : (y 1).val < 1024 := (y 1).isLt
  refine eq_at2 _ _ _ _ ?_ ?_ <;> blk_simp
  · omega
  · omega

/-- The sum of the products over the lanes `1536 s ≤ l < 1536 s + 1536` of the contracted axis, at row `i` and column `j`. -/
def term (c : Dev nD) (s i j : ℕ) : EReal :=
  ∑ k : Fin 1536, at2 (lhs m c) i (s * 1536 + k.val) * at2 (rhs m c) (s * 1536 + k.val) j

/-- The whole product at row `i` and column `j`. -/
def total (c : Dev nD) (i j : ℕ) : EReal :=
  ∑ k : Fin 1536, at2 (lhs m c) i k.val * at2 (rhs m c) k.val j

/-- One block is the whole sum. -/
theorem term_eq (c : Dev nD) (i j : ℕ) : term m c 0 i j = total m c i j := by
  unfold term total
  refine Finset.sum_congr rfl fun k _ => ?_
  simp only [zero_mul, zero_add]

/-- The two blocks that the body multiplies at point `t`. -/
abbrev left (c : Dev nD) (t : Fin cfg0.N) : S1024x1536.Idx → EReal := iblk m c 0 t
abbrev right (c : Dev nD) (t : Fin cfg0.N) : S1536x1024.Idx → EReal := iblk m c 1 t

/-- The lanes of the two blocks at point `t` multiply to the whole product. -/
theorem lanes (c : Dev nD) (t : Fin cfg0.N) (y : S1024x1024.Idx) :
    ∑ k : Fin 1536, left m c t (ix2 (y 0) k) * right m c t (ix2 k (y 1)) = total m c ((t.val / 2) * 1024 + (y 0).val) ((t.val % 2) * 1024 + (y 1).val) := by
  rw [← term_eq]
  refine Finset.sum_congr rfl fun k _ => ?_
  unfold left right
  rw [blk0, blk1]; rfl

/-- What the kernel leaves in its output at row `i` and column `j`. -/
def value0 (c : Dev nD) (i j : ℕ) : EReal := total m c i j + at2 (add m c) i j

/-- The block that point `t` writes back. -/
theorem out0 (c : Dev nD) (t : Fin cfg0.N) (y : S1024x1024.Idx) :
    out0_3 (iblk m c 0 t) (iblk m c 1 t) (iblk m c 2 t) y = value0 m c ((t.val / 2) * 1024 + (y 0).val) ((t.val % 2) * 1024 + (y 1).val) := by
  refine Eq.trans ?_ (congrArg₂ (· + ·) (lanes m c t y) (blk2 m c t y))
  frame_out
  pointwise [k0_pay1]

/-- The output array. -/
def result0 (c : Dev nD) : S4096x2048.Idx → EReal := fun i => value0 m c (i 0).val (i 1).val

/-- The array read at an index whose coordinates are known. -/
theorem result0_at (c : Dev nD) (i : S4096x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 3 cfg0.N = result0 m c := by
  refine (dats m 0 c).arrAt_eq_of_covers 3 (result0 m c) (by decide +kernel) fun t hf y => ?_
  obtain ⟨e0, e1⟩ := idx3 t
  have h0 : (y 0).val < 1024 := (y 0).isLt
  have h1 : (y 1).val < 1024 := (y 1).isLt
  blk_simp
  rw [after0_3]
  refine (out0 m c t y).trans (result0_at m c _ _ _ ?_ ?_) <;> blk_simp
  · omega
  · omega

end Cert.InXbcDhIdeal.Product

namespace Cert.InXbcDhRefIdeal.Product

open Cert.InXbcDhRefIdeal Cert.InXbcDhRefIdeal.Gen Cert.InXbcDhRefIdeal.Read Cert.Blocked
open Idealize.ShloMosaic Idealize.ShloMosaic.TcCoe Idealize.SL.Sem

/-- The reference's array, entry by entry. -/
theorem ref0 (x1 : S1536x2048.Idx → EReal) (x2 : S4096x1536.Idx → EReal) (x3 : S4096x2048.Idx → EReal) (i : S4096x2048.Idx) :
    val_main_v6 (F := Ideal) x1 x2 x3 i = (∑ k : Fin 1536, at2 x2 ((i 0).val) k.val * at2 x1 k.val ((i 1).val)) + at2 x3 (i 0).val (i 1).val := by
  have h0 : (i 0).val < 4096 := (i 0).isLt
  have h1 : (i 1).val < 2048 := (i 1).isLt
  simp only [val_main_v0_apply, val_main_v1_apply, val_main_v2_apply, val_main_v3_apply, val_main_v4_apply, val_main_v5_apply, val_main_v6_apply]
  rw [add_comm]
  refine congrArg₂ (· + ·) (eq_at2 _ _ _ _ rfl rfl) ?_
  refine Finset.sum_congr rfl fun k _ => ?_
  first
  | exact congrArg₂ (· * ·) (eq_at2 x2 _ _ _ rfl rfl)
      (eq_at2 x1 _ _ _ rfl rfl)
  | exact (mul_comm _ _).trans (congrArg₂ (· * ·) (eq_at2 x2 _ _ _ rfl rfl)
      (eq_at2 x1 _ _ _ rfl rfl))

end Cert.InXbcDhRefIdeal.Product

namespace Cert.Proof.InXbcDh

open Idealize.ShloMosaic Idealize.ShloMosaic.TcCoe Idealize.SL.Sem

/-- From memories that agree on the arguments, both programs end with the same results, and the arguments unchanged. -/
theorem algebraic : Cert.algebraic_InXbcDhIdeal_InXbcDhRefIdeal := by
  intro m g m' g' _ hag
  refine ⟨fun c => Cert.InXbcDhIdeal.Product.result0 m c,
    (θ_run Cert.InXbcDhIdeal.defs _ _).mono (fun r h c => ⟨(h c).1.trans (Cert.InXbcDhIdeal.Product.final0 m c), (h c).2⟩)
      (Cert.InXbcDhIdeal.Value.run_blocks m g), ?_⟩
  refine (θ_run Cert.InXbcDhRefIdeal.defs _ _).mono (fun r h c => ⟨(h c).1.trans ?_, (h c).2⟩)
    (Cert.InXbcDhRefIdeal.Value.run m' g')
  rw [Cert.InXbcDhRefIdeal.Read.val_main_v6_eq]
  funext i
  refine (Cert.InXbcDhRefIdeal.Product.ref0 _ _ _ i).trans ?_
  rw [(hag c).2.1, (hag c).2.2.1, (hag c).2.2.2]
  rfl

/-- The reference runs to its end, leaves its arguments unchanged and every counter at zero. -/
theorem frame_reference : Cert.quiescent_InXbcDhRefIdeal := fun m ρ _ =>
  (θ_run Cert.InXbcDhRefIdeal.defs _ _).mono (fun r h => ⟨fun c => (h c).2, sem_eq_zero_of_no_sems (by decide) r.2⟩)
    (Cert.InXbcDhRefIdeal.Value.run (F := Ideal) m ρ)

end Cert.Proof.InXbcDh
-- ==== Proof.InRkv.lean ====
/- The product that the program `InRkv` computes: entry `(i, j)` is row `i` of the left operand times row `j` of the right one, 2048 terms.
   The kernel works block by block on a grid of 8 points; its output array holds the same product as the reference's,
   entry by entry. -/
module

public import proofs.«01_k».proof.Proof.Blocked
public import proofs.«01_k».proof.Proof.Gen.InRkvIdeal.Value
public import proofs.«01_k».proof.Proof.Gen.InRkvRefIdeal.Read
public import proofs.«01_k».proof.Defs

@[expose] public section

noncomputable section

namespace Cert.InRkvIdeal.Product

open Cert.InRkvIdeal Cert.InRkvIdeal.Gen Cert.InRkvIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x2048.Idx → EReal := m ((c : Thread nD τ).loc main_arg0)
/-- The right operand as launched. -/
abbrev rhs (c : Dev nD) : S3072x2048.Idx → EReal := m ((c : Thread nD τ).loc main_arg1)

/-- The block that grid point `t` reads or writes of the left operand. -/
theorem idx0 : ∀ t : Fin cfg0.N, win0_0.index t 0 = t.val / 2 ∧ win0_0.index t 1 = 0 :=
  (by decide +kernel : ∀ t : Fin grid0.N, _)

/-- The block that grid point `t` reads or writes of the right operand. -/
theorem idx1 : ∀ t : Fin cfg0.N, win0_1.index t 0 = t.val % 2 ∧ win0_1.index t 1 = 0 :=
  (by decide +kernel : ∀ t : Fin grid0.N, _)

/-- The block that grid point `t` reads or writes of the output. -/
theorem idx2 : ∀ t : Fin cfg0.N, win0_2.index t 0 = t.val / 2 ∧ win0_2.index t 1 = t.val % 2 :=
  (by decide +kernel : ∀ t : Fin grid0.N, _)

/-- The block of the left operand at point `t`, read at the array's own coordinates. -/
theorem blk0 (c : Dev nD) (t : Fin cfg0.N) (y : S1024x2048.Idx) :
    iblk m c 0 t y = at2 (lhs m c) ((t.val / 2) * 1024 + (y 0).val) (0 * 2048 + (y 1).val) := by
  unfold iblk
  rw [View.read_apply]
  show (V m c main_arg0 : S4096x2048.Idx → EReal) _ = _
  rw [V_main_arg0]
  obtain ⟨e0, e1⟩ := idx0 t
  have h0 : (y 0).val < 1024 := (y 0).isLt
  have h1 : (y 1).val < 2048 := (y 1).isLt
  refine eq_at2 _ _ _ _ ?_ ?_ <;> blk_simp
  · omega
  · omega

/-- The block of the right operand at point `t`, read at the array's own coordinates. -/
theorem blk1 (c : Dev nD) (t : Fin cfg0.N) (y : S1536x2048.Idx) :
    iblk m c 1 t y = at2 (rhs m c) ((t.val % 2) * 1536 + (y 0).val) (0 * 2048 + (y 1).val) := by
  unfold iblk
  rw [View.read_apply]
  show (V m c main_arg1 : S3072x2048.Idx → EReal) _ = _
  rw [V_main_arg1]
  obtain ⟨e0, e1⟩ := idx1 t
  have h0 : (y 0).val < 1536 := (y 0).isLt
  have h1 : (y 1).val < 2048 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) i (s * 2048 + k.val) * at2 (rhs m c) j (s * 2048 + k.val)

/-- The whole product at row `i` and column `j`. -/
def total (c : Dev nD) (i j : ℕ) : EReal :=
  ∑ k : Fin 2048, at2 (lhs m c) i k.val * at2 (rhs m c) j k.val

/-- One block is the whole sum. -/
theorem term_eq (c : Dev nD) (i j : ℕ) : term m c 0 i j = total m c i j := by
  unfold term total
  refine Finset.sum_congr rfl fun k _ => ?_
  simp only [zero_mul, zero_add]

/-- The two blocks that the body multiplies at point `t`. -/
abbrev left (c : Dev nD) (t : Fin cfg0.N) : S1024x2048.Idx → EReal := iblk m c 0 t
abbrev right (c : Dev nD) (t : Fin cfg0.N) : S1536x2048.Idx → EReal := iblk m c 1 t

/-- The lanes of the two blocks at point `t` multiply to the whole product. -/
theorem lanes (c : Dev nD) (t : Fin cfg0.N) (y : S1024x1536.Idx) :
    ∑ k : Fin 2048, left m c t (ix2 (y 0) k) * right m c t (ix2 (y 1) k) = total m c ((t.val / 2) * 1024 + (y 0).val) ((t.val % 2) * 1536 + (y 1).val) := by
  rw [← term_eq]
  refine Finset.sum_congr rfl fun k _ => ?_
  unfold left right
  rw [blk0, blk1]; rfl

/-- What the kernel leaves in its output at row `i` and column `j`. -/
def value0 (c : Dev nD) (i j : ℕ) : EReal := total m c i j

/-- The block that point `t` writes back. -/
theorem out0 (c : Dev nD) (t : Fin cfg0.N) (y : S1024x1536.Idx) :
    out0_2 (iblk m c 0 t) (iblk m c 1 t) y = value0 m c ((t.val / 2) * 1024 + (y 0).val) ((t.val % 2) * 1536 + (y 1).val) := by
  refine Eq.trans ?_ (lanes m c t y)
  frame_out
  pointwise [k0_pay1]

/-- The output array. -/
def result0 (c : Dev nD) : S4096x3072.Idx → EReal := fun i => value0 m c (i 0).val (i 1).val

/-- The array read at an index whose coordinates are known. -/
theorem result0_at (c : Dev nD) (i : S4096x3072.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 1024 := (y 0).isLt
  have h1 : (y 1).val < 1536 := (y 1).isLt
  blk_simp
  rw [after0_2]
  refine (out0 m c t y).trans (result0_at m c _ _ _ ?_ ?_) <;> blk_simp
  · omega
  · omega

end Cert.InRkvIdeal.Product

namespace Cert.InRkvRefIdeal.Product

open Cert.InRkvRefIdeal Cert.InRkvRefIdeal.Gen Cert.InRkvRefIdeal.Read Cert.Blocked
open Idealize.ShloMosaic Idealize.ShloMosaic.TcCoe Idealize.SL.Sem

/-- The reference's array, entry by entry. -/
theorem ref0 (x0 : S4096x2048.Idx → EReal) (x1 : S3072x2048.Idx → EReal) (i : S4096x3072.Idx) :
    val_main_v3 (F := Ideal) x0 x1 i = (∑ k : Fin 2048, at2 x0 ((i 0).val) k.val * at2 x1 ((i 1).val) k.val) := by
  have h0 : (i 0).val < 4096 := (i 0).isLt
  have h1 : (i 1).val < 3072 := (i 1).isLt
  simp only [val_main_v0_apply, val_main_v1_apply, val_main_v2_apply, val_main_v3_apply]
  refine Finset.sum_congr rfl fun k _ => ?_
  first
  | exact congrArg₂ (· * ·) (eq_at2 x0 _ _ _ rfl rfl)
      (eq_at2 x1 _ _ _ rfl rfl)
  | exact (mul_comm _ _).trans (congrArg₂ (· * ·) (eq_at2 x0 _ _ _ rfl rfl)
      (eq_at2 x1 _ _ _ rfl rfl))

end Cert.InRkvRefIdeal.Product

namespace Cert.Proof.InRkv

open Idealize.ShloMosaic Idealize.ShloMosaic.TcCoe Idealize.SL.Sem

/-- From memories that agree on the arguments, both programs end with the same results, and the arguments unchanged. -/
theorem algebraic : Cert.algebraic_InRkvIdeal_InRkvRefIdeal := by
  intro m g m' g' _ hag
  refine ⟨fun c => Cert.InRkvIdeal.Product.result0 m c,
    (θ_run Cert.InRkvIdeal.defs _ _).mono (fun r h c => ⟨(h c).1.trans (Cert.InRkvIdeal.Product.final0 m c), (h c).2⟩)
      (Cert.InRkvIdeal.Value.run_blocks m g), ?_⟩
  refine (θ_run Cert.InRkvRefIdeal.defs _ _).mono (fun r h c => ⟨(h c).1.trans ?_, (h c).2⟩)
    (Cert.InRkvRefIdeal.Value.run m' g')
  rw [Cert.InRkvRefIdeal.Read.val_main_v3_eq]
  funext i
  refine (Cert.InRkvRefIdeal.Product.ref0 _ _ i).trans ?_
  rw [(hag c).1, (hag c).2]
  rfl

/-- The reference runs to its end, leaves its arguments unchanged and every counter at zero. -/
theorem frame_reference : Cert.quiescent_InRkvRefIdeal := fun m ρ _ =>
  (θ_run Cert.InRkvRefIdeal.defs _ _).mono (fun r h => ⟨fun c => (h c).2, sem_eq_zero_of_no_sems (by decide) r.2⟩)
    (Cert.InRkvRefIdeal.Value.run (F := Ideal) m ρ)

end Cert.Proof.InRkv
-- ==== Proof.InRkvDw.lean ====
/- The product that the program `InRkvDw` computes: entry `(i, j)` is column `i` of the left operand times column `j` of the right one, 4096 terms.
   The kernel works block by block on a grid of 12 points; its output array holds the same product as the reference's,
   entry by entry. -/
module

public import proofs.«01_k».proof.Proof.Blocked
public import proofs.«01_k».proof.Proof.Gen.InRkvDwIdeal.Value
public import proofs.«01_k».proof.Proof.Gen.InRkvDwRefIdeal.Read
public import proofs.«01_k».proof.Defs

@[expose] public section

noncomputable section

namespace Cert.InRkvDwIdeal.Product

open Cert.InRkvDwIdeal Cert.InRkvDwIdeal.Gen Cert.InRkvDwIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x3072.Idx → EReal := m ((c : Thread nD τ).loc main_arg2)
/-- The right operand as launched. -/
abbrev rhs (c : Dev nD) : S4096x2048.Idx → EReal := m ((c : Thread nD τ).loc main_arg0)

/-- The block that grid point `t` reads or writes of the left operand. -/
theorem idx0 : ∀ t : Fin cfg0.N, win0_0.index t 0 = t.val % 2 ∧ win0_0.index t 1 = t.val / 2 / 2 :=
  (by decide +kernel : ∀ t : Fin grid0.N, _)

/-- The block that grid point `t` reads or writes of the right operand. -/
theorem idx1 : ∀ t : Fin cfg0.N, win0_1.index t 0 = t.val % 2 ∧ win0_1.index t 1 = t.val / 2 % 2 :=
  (by decide +kernel : ∀ t : Fin grid0.N, _)

/-- The block that grid point `t` reads or writes of the output. -/
theorem idx2 : ∀ t : Fin cfg0.N, win0_2.index t 0 = t.val / 2 / 2 ∧ win0_2.index t 1 = t.val / 2 % 2 :=
  (by decide +kernel : ∀ t : Fin grid0.N, _)

/-- The block of the left operand at point `t`, read at the array's own coordinates. -/
theorem blk0 (c : Dev nD) (t : Fin cfg0.N) (y : S2048x1024.Idx) :
    iblk m c 0 t y = at2 (lhs m c) ((t.val % 2) * 2048 + (y 0).val) ((t.val / 2 / 2) * 1024 + (y 1).val) := by
  unfold iblk
  rw [View.read_apply]
  show (V m c main_arg2 : S4096x3072.Idx → EReal) _ = _
  rw [V_main_arg2]
  obtain ⟨e0, e1⟩ := idx0 t
  have h0 : (y 0).val < 2048 := (y 0).isLt
  have h1 : (y 1).val < 1024 := (y 1).isLt
  refine eq_at2 _ _ _ _ ?_ ?_ <;> blk_simp
  · omega
  · omega

/-- The block of the right operand at point `t`, read at the array's own coordinates. -/
theorem blk1 (c : Dev nD) (t : Fin cfg0.N) (y : S2048x1024.Idx) :
    iblk m c 1 t y = at2 (rhs m c) ((t.val % 2) * 2048 + (y 0).val) ((t.val / 2 % 2) * 1024 + (y 1).val) := by
  unfold iblk
  rw [View.read_apply]
  show (V m c main_arg0 : S4096x2048.Idx → EReal) _ = _
  rw [V_main_arg0]
  obtain ⟨e0, e1⟩ := idx1 t
  have h0 : (y 0).val < 2048 := (y 0).isLt
  have h1 : (y 1).val < 1024 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) (s * 2048 + k.val) i * at2 (rhs m c) (s * 2048 + k.val) j

/-- The whole product at row `i` and column `j`. -/
def total (c : Dev nD) (i j : ℕ) : EReal :=
  ∑ k : Fin 4096, at2 (lhs m c) k.val i * at2 (rhs m c) k.val j

/-- One block product of the body is the sum over its lanes. -/
theorem pay (x0 : Vec Ideal S2048x1024 .bf16) (x1 : Vec Ideal S2048x1024 .bf16) (y : S1024x1024.Idx) :
    k0_pay1 x0 x1 y = ∑ k : Fin 2048, (x0 (ix2 k (y 0)) : EReal) * x1 (ix2 k (y 1)) := by
  pointwise [k0_pay1]

/-- The block product at point `t` is one block of the sum. -/
theorem pay_term (c : Dev nD) (t : Fin cfg0.N) (y : S1024x1024.Idx) :
    k0_pay1 (iblk m c 0 t) (iblk m c 1 t) y = term m c (t.val % 2) ((t.val / 2 / 2) * 1024 + (y 0).val) ((t.val / 2 % 2) * 1024 + (y 1).val) := by
  rw [pay]
  refine Finset.sum_congr rfl fun k _ => ?_
  rw [blk0, blk1]; rfl

/-- What block `s` of run `r` adds at an entry of the block. -/
def step (c : Dev nD) (r s : ℕ) (y : S1024x1024.Idx) : EReal := term m c s ((r / 2) * 1024 + (y 0).val) ((r % 2) * 1024 + (y 1).val)

/-- The first point of a run starts the accumulator at its block's product. -/
theorem scr_first (c : Dev nD) (t : Fin cfg0.N) (h : t.val % 2 = 0) (y : S1024x1024.Idx) :
    (outsAt0 m c t.val t.isLt).2 y = 0 + step m c (t.val / 2) (t.val % 2) y := by
  rw [outsAt0_A m c t h (by omega) (by omega), zero_add]
  refine Eq.trans ?_ (pay_term m c t y)
  frame_out
  pointwise [k0_pay2]

/-- Every later point adds its block's product. -/
theorem scr_next (c : Dev nD) (t : Fin cfg0.N) (h : ¬t.val % 2 = 0) (y : S1024x1024.Idx) :
    (outsAt0 m c t.val t.isLt).2 y
      = (outsAt0 m c (t.val - 1) (Nat.lt_of_le_of_lt (Nat.sub_le _ _) t.isLt)).2 y + step m c (t.val / 2) (t.val % 2) y := by
  refine Eq.trans ?_ (congrArg (_ + ·) (pay_term m c t y))
  rw [outsAt0_B m c t h (by omega) (by omega)]
  frame_out
  simp only [read_unread_whole]
  pointwise [k0_pay3]

/-- So at each point the accumulator holds the sum of its run's blocks so far. -/
theorem scr (c : Dev nD) (t : Fin cfg0.N) (y : S1024x1024.Idx) :
    (outsAt0 m c t.val t.isLt).2 y = 0 + ∑ s ∈ range (t.val % 2 + 1), step m c (t.val / 2) s y :=
  Pipeline.eq_sum_of_reset_step_apply_divmod (fun n h => (outsAt0 m c n h).2) 2 (fun _ => 0) (step m c)
    (scr_first m c) (scr_next m c) t y

/-- At a run's last point the accumulator holds the whole product. -/
theorem scr_last (c : Dev nD) (t : Fin cfg0.N) (h : t.val % 2 = 1) (y : S1024x1024.Idx) :
    (outsAt0 m c t.val t.isLt).2 y = total m c ((t.val / 2 / 2) * 1024 + (y 0).val) ((t.val / 2 % 2) * 1024 + (y 1).val) := by
  rw [scr, zero_add, h]
  unfold step term
  exact sum_blocks 2 2048 fun l => at2 (lhs m c) l ((t.val / 2 / 2) * 1024 + (y 0).val) * at2 (rhs m c) l ((t.val / 2 % 2) * 1024 + (y 1).val)

/-- What the kernel leaves in its output at row `i` and column `j`. -/
def value0 (c : Dev nD) (i j : ℕ) : EReal := total m c i j

/-- The block that point `t` writes back. Points that write back are the last of their run. -/
theorem out0 (c : Dev nD) (t : Fin cfg0.N) (h : t.val % 2 = 1) (y : S1024x1024.Idx) :
    (outsAt0 m c t.val t.isLt).1 y = value0 m c ((t.val / 2 / 2) * 1024 + (y 0).val) ((t.val / 2 % 2) * 1024 + (y 1).val) := by
  have e : (outsAt0 m c t.val t.isLt).1 y = (outsAt0 m c t.val t.isLt).2 y := by
    rw [outsAt0_B m c t (by omega) (by omega) h]
    frame_out
    pointwise [k0_pay4]
  rw [e, scr_last m c t h]; rfl

/-- The output array. -/
def result0 (c : Dev nD) : S3072x2048.Idx → EReal := fun i => value0 m c (i 0).val (i 1).val

/-- The array read at an index whose coordinates are known. -/
theorem result0_at (c : Dev nD) (i : S3072x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 1024 := (y 0).isLt
  have h1 : (y 1).val < 1024 := (y 1).isLt
  have hm : t.val % 2 = 1 := (flush0_2 t).mp hf
  blk_simp
  rw [after0_2]
  refine (out0 m c t hm y).trans (result0_at m c _ _ _ ?_ ?_) <;> blk_simp
  · omega
  · omega

end Cert.InRkvDwIdeal.Product

namespace Cert.InRkvDwRefIdeal.Product

open Cert.InRkvDwRefIdeal Cert.InRkvDwRefIdeal.Gen Cert.InRkvDwRefIdeal.Read Cert.Blocked
open Idealize.ShloMosaic Idealize.ShloMosaic.TcCoe Idealize.SL.Sem

/-- The reference's array, entry by entry. -/
theorem ref0 (x0 : S4096x2048.Idx → EReal) (x2 : S4096x3072.Idx → EReal) (i : S3072x2048.Idx) :
    val_main_v8 (F := Ideal) x0 x2 i = (∑ k : Fin 4096, at2 x2 k.val ((i 0).val) * at2 x0 k.val ((i 1).val)) := by
  have h0 : (i 0).val < 3072 := (i 0).isLt
  have h1 : (i 1).val < 2048 := (i 1).isLt
  simp only [val_main_v0_apply, val_main_v1_apply, val_main_v2_apply, val_main_v3_apply, val_main_v4_apply, val_main_v5_apply, val_main_v6_apply, val_main_v7_apply, val_main_v8_apply]
  refine Finset.sum_congr rfl fun k _ => ?_
  first
  | exact congrArg₂ (· * ·) (eq_at2 x2 _ _ _ rfl rfl)
      (eq_at2 x0 _ _ _ rfl rfl)
  | exact (mul_comm _ _).trans (congrArg₂ (· * ·) (eq_at2 x2 _ _ _ rfl rfl)
      (eq_at2 x0 _ _ _ rfl rfl))

end Cert.InRkvDwRefIdeal.Product

namespace Cert.Proof.InRkvDw

open Idealize.ShloMosaic Idealize.ShloMosaic.TcCoe Idealize.SL.Sem

/-- From memories that agree on the arguments, both programs end with the same results, and the arguments unchanged. -/
theorem algebraic : Cert.algebraic_InRkvDwIdeal_InRkvDwRefIdeal := by
  intro m g m' g' _ hag
  refine ⟨fun c => Cert.InRkvDwIdeal.Product.result0 m c,
    (θ_run Cert.InRkvDwIdeal.defs _ _).mono (fun r h c => ⟨(h c).1.trans (Cert.InRkvDwIdeal.Product.final0 m c), (h c).2⟩)
      (Cert.InRkvDwIdeal.Value.run_blocks m g), ?_⟩
  refine (θ_run Cert.InRkvDwRefIdeal.defs _ _).mono (fun r h c => ⟨(h c).1.trans ?_, (h c).2⟩)
    (Cert.InRkvDwRefIdeal.Value.run m' g')
  rw [Cert.InRkvDwRefIdeal.Read.val_main_v8_eq]
  funext i
  refine (Cert.InRkvDwRefIdeal.Product.ref0 _ _ i).trans ?_
  rw [(hag c).1, (hag c).2.2]
  rfl

/-- The reference runs to its end, leaves its arguments unchanged and every counter at zero. -/
theorem frame_reference : Cert.quiescent_InRkvDwRefIdeal := fun m ρ _ =>
  (θ_run Cert.InRkvDwRefIdeal.defs _ _).mono (fun r h => ⟨fun c => (h c).2, sem_eq_zero_of_no_sems (by decide) r.2⟩)
    (Cert.InRkvDwRefIdeal.Value.run (F := Ideal) m ρ)

end Cert.Proof.InRkvDw
-- ==== Proof.InRkvDh.lean ====
/- The product that the program `InRkvDh` computes: entry `(i, j)` is row `i` of the left operand times column `j` of the right one, 3072 terms.
   The kernel works block by block on a grid of 24 points; its output array holds the same product as the reference's,
   entry by entry. -/
module

public import proofs.«01_k».proof.Proof.Blocked
public import proofs.«01_k».proof.Proof.Gen.InRkvDhIdeal.Value
public import proofs.«01_k».proof.Proof.Gen.InRkvDhRefIdeal.Read
public import proofs.«01_k».proof.Defs

@[expose] public section

noncomputable section

namespace Cert.InRkvDhIdeal.Product

open Cert.InRkvDhIdeal Cert.InRkvDhIdeal.Gen Cert.InRkvDhIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x3072.Idx → EReal := m ((c : Thread nD τ).loc main_arg2)
/-- The right operand as launched. -/
abbrev rhs (c : Dev nD) : S3072x2048.Idx → EReal := m ((c : Thread nD τ).loc main_arg1)
/-- The summand, as launched. -/
abbrev add (c : Dev nD) : S4096x2048.Idx → EReal := m ((c : Thread nD τ).loc main_arg3)

/-- The block that grid point `t` reads or writes of the left operand. -/
theorem idx0 : ∀ t : Fin cfg0.N, win0_0.index t 0 = t.val / 3 / 2 ∧ win0_0.index t 1 = t.val % 3 :=
  (by decide +kernel : ∀ t : Fin grid0.N, _)

/-- The block that grid point `t` reads or writes of the right operand. -/
theorem idx1 : ∀ t : Fin cfg0.N, win0_1.index t 0 = t.val % 3 ∧ win0_1.index t 1 = t.val / 3 % 2 :=
  (by decide +kernel : ∀ t : Fin grid0.N, _)

/-- The block that grid point `t` reads or writes of the third operand. -/
theorem idx2 : ∀ t : Fin cfg0.N, win0_2.index t 0 = t.val / 3 / 2 ∧ win0_2.index t 1 = t.val / 3 % 2 :=
  (by decide +kernel : ∀ t : Fin grid0.N, _)

/-- The block that grid point `t` reads or writes of the output. -/
theorem idx3 : ∀ t : Fin cfg0.N, win0_3.index t 0 = t.val / 3 / 2 ∧ win0_3.index t 1 = t.val / 3 % 2 :=
  (by decide +kernel : ∀ t : Fin grid0.N, _)

/-- The block of the left operand at point `t`, read at the array's own coordinates. -/
theorem blk0 (c : Dev nD) (t : Fin cfg0.N) (y : S1024x1024.Idx) :
    iblk m c 0 t y = at2 (lhs m c) ((t.val / 3 / 2) * 1024 + (y 0).val) ((t.val % 3) * 1024 + (y 1).val) := by
  unfold iblk
  rw [View.read_apply]
  show (V m c main_arg2 : S4096x3072.Idx → EReal) _ = _
  rw [V_main_arg2]
  obtain ⟨e0, e1⟩ := idx0 t
  have h0 : (y 0).val < 1024 := (y 0).isLt
  have h1 : (y 1).val < 1024 := (y 1).isLt
  refine eq_at2 _ _ _ _ ?_ ?_ <;> blk_simp
  · omega
  · omega

/-- The block of the right operand at point `t`, read at the array's own coordinates. -/
theorem blk1 (c : Dev nD) (t : Fin cfg0.N) (y : S1024x1024.Idx) :
    iblk m c 1 t y = at2 (rhs m c) ((t.val % 3) * 1024 + (y 0).val) ((t.val / 3 % 2) * 1024 + (y 1).val) := by
  unfold iblk
  rw [View.read_apply]
  show (V m c main_arg1 : S3072x2048.Idx → EReal) _ = _
  rw [V_main_arg1]
  obtain ⟨e0, e1⟩ := idx1 t
  have h0 : (y 0).val < 1024 := (y 0).isLt
  have h1 : (y 1).val < 1024 := (y 1).isLt
  refine eq_at2 _ _ _ _ ?_ ?_ <;> blk_simp
  · omega
  · omega

/-- The block of the summand at point `t`, read at the array's own coordinates. -/
theorem blk2 (c : Dev nD) (t : Fin cfg0.N) (y : S1024x1024.Idx) :
    iblk m c 2 t y = at2 (add m c) ((t.val / 3 / 2) * 1024 + (y 0).val) ((t.val / 3 % 2) * 1024 + (y 1).val) := by
  unfold iblk
  rw [View.read_apply]
  show (V m c main_arg3 : S4096x2048.Idx → EReal) _ = _
  rw [V_main_arg3]
  obtain ⟨e0, e1⟩ := idx2 t
  have h0 : (y 0).val < 1024 := (y 0).isLt
  have h1 : (y 1).val < 1024 := (y 1).isLt
  refine eq_at2 _ _ _ _ ?_ ?_ <;> blk_simp
  · omega
  · omega

/-- The sum of the products over the lanes `1024 s ≤ l < 1024 s + 1024` of the contracted axis, at row `i` and column `j`. -/
def term (c : Dev nD) (s i j : ℕ) : EReal :=
  ∑ k : Fin 1024, at2 (lhs m c) i (s * 1024 + k.val) * at2 (rhs m c) (s * 1024 + k.val) j

/-- The whole product at row `i` and column `j`. -/
def total (c : Dev nD) (i j : ℕ) : EReal :=
  ∑ k : Fin 3072, at2 (lhs m c) i k.val * at2 (rhs m c) k.val j

/-- One block product of the body is the sum over its lanes. -/
theorem pay (x0 : Vec Ideal S1024x1024 .bf16) (x1 : Vec Ideal S1024x1024 .bf16) (y : S1024x1024.Idx) :
    k0_pay1 x0 x1 y = ∑ k : Fin 1024, (x0 (ix2 (y 0) k) : EReal) * x1 (ix2 k (y 1)) := by
  pointwise [k0_pay1]

/-- The block product at point `t` is one block of the sum. -/
theorem pay_term (c : Dev nD) (t : Fin cfg0.N) (y : S1024x1024.Idx) :
    k0_pay1 (iblk m c 0 t) (iblk m c 1 t) y = term m c (t.val % 3) ((t.val / 3 / 2) * 1024 + (y 0).val) ((t.val / 3 % 2) * 1024 + (y 1).val) := by
  rw [pay]
  refine Finset.sum_congr rfl fun k _ => ?_
  rw [blk0, blk1]; rfl

/-- What block `s` of run `r` adds at an entry of the block. -/
def step (c : Dev nD) (r s : ℕ) (y : S1024x1024.Idx) : EReal := term m c s ((r / 2) * 1024 + (y 0).val) ((r % 2) * 1024 + (y 1).val)

/-- The first point of a run starts the accumulator at its block's product. -/
theorem scr_first (c : Dev nD) (t : Fin cfg0.N) (h : t.val % 3 = 0) (y : S1024x1024.Idx) :
    (outsAt0 m c t.val t.isLt).2 y = 0 + step m c (t.val / 3) (t.val % 3) y := by
  rw [outsAt0_A m c t h (by omega) (by omega), zero_add]
  refine Eq.trans ?_ (pay_term m c t y)
  frame_out
  pointwise [k0_pay2]

/-- Every later point adds its block's product. -/
theorem scr_next (c : Dev nD) (t : Fin cfg0.N) (h : ¬t.val % 3 = 0) (y : S1024x1024.Idx) :
    (outsAt0 m c t.val t.isLt).2 y
      = (outsAt0 m c (t.val - 1) (Nat.lt_of_le_of_lt (Nat.sub_le _ _) t.isLt)).2 y + step m c (t.val / 3) (t.val % 3) y := by
  refine Eq.trans ?_ (congrArg (_ + ·) (pay_term m c t y))
  by_cases hl : t.val % 3 = 2
  · rw [outsAt0_C m c t h (by omega) hl]
    frame_out
    simp only [read_unread_whole]
    pointwise [k0_pay3]
  · rw [outsAt0_B m c t h (by omega) hl]
    frame_out
    simp only [read_unread_whole]
    pointwise [k0_pay3]

/-- So at each point the accumulator holds the sum of its run's blocks so far. -/
theorem scr (c : Dev nD) (t : Fin cfg0.N) (y : S1024x1024.Idx) :
    (outsAt0 m c t.val t.isLt).2 y = 0 + ∑ s ∈ range (t.val % 3 + 1), step m c (t.val / 3) s y :=
  Pipeline.eq_sum_of_reset_step_apply_divmod (fun n h => (outsAt0 m c n h).2) 3 (fun _ => 0) (step m c)
    (scr_first m c) (scr_next m c) t y

/-- At a run's last point the accumulator holds the whole product. -/
theorem scr_last (c : Dev nD) (t : Fin cfg0.N) (h : t.val % 3 = 2) (y : S1024x1024.Idx) :
    (outsAt0 m c t.val t.isLt).2 y = total m c ((t.val / 3 / 2) * 1024 + (y 0).val) ((t.val / 3 % 2) * 1024 + (y 1).val) := by
  rw [scr, zero_add, h]
  unfold step term
  exact sum_blocks 3 1024 fun l => at2 (lhs m c) ((t.val / 3 / 2) * 1024 + (y 0).val) l * at2 (rhs m c) l ((t.val / 3 % 2) * 1024 + (y 1).val)

/-- What the kernel leaves in its output at row `i` and column `j`. -/
def value0 (c : Dev nD) (i j : ℕ) : EReal := total m c i j + at2 (add m c) i j

/-- The block that point `t` writes back. Points that write back are the last of their run. -/
theorem out0 (c : Dev nD) (t : Fin cfg0.N) (h : t.val % 3 = 2) (y : S1024x1024.Idx) :
    (outsAt0 m c t.val t.isLt).1 y = value0 m c ((t.val / 3 / 2) * 1024 + (y 0).val) ((t.val / 3 % 2) * 1024 + (y 1).val) := by
  have e : (outsAt0 m c t.val t.isLt).1 y = (outsAt0 m c t.val t.isLt).2 y + iblk m c 2 t y := by
    rw [outsAt0_C m c t (by omega) (by omega) h]
    frame_out
    pointwise [k0_pay4]
  rw [e, scr_last m c t h, blk2]; rfl

/-- The output array. -/
def result0 (c : Dev nD) : S4096x2048.Idx → EReal := fun i => value0 m c (i 0).val (i 1).val

/-- The array read at an index whose coordinates are known. -/
theorem result0_at (c : Dev nD) (i : S4096x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 3 cfg0.N = result0 m c := by
  refine (dats m 0 c).arrAt_eq_of_covers 3 (result0 m c) (by decide +kernel) fun t hf y => ?_
  obtain ⟨e0, e1⟩ := idx3 t
  have h0 : (y 0).val < 1024 := (y 0).isLt
  have h1 : (y 1).val < 1024 := (y 1).isLt
  have hm : t.val % 3 = 2 := (flush0_3 t).mp hf
  blk_simp
  rw [after0_3]
  refine (out0 m c t hm y).trans (result0_at m c _ _ _ ?_ ?_) <;> blk_simp
  · omega
  · omega

end Cert.InRkvDhIdeal.Product

namespace Cert.InRkvDhRefIdeal.Product

open Cert.InRkvDhRefIdeal Cert.InRkvDhRefIdeal.Gen Cert.InRkvDhRefIdeal.Read Cert.Blocked
open Idealize.ShloMosaic Idealize.ShloMosaic.TcCoe Idealize.SL.Sem

/-- The reference's array, entry by entry. -/
theorem ref0 (x1 : S3072x2048.Idx → EReal) (x2 : S4096x3072.Idx → EReal) (x3 : S4096x2048.Idx → EReal) (i : S4096x2048.Idx) :
    val_main_v6 (F := Ideal) x1 x2 x3 i = (∑ k : Fin 3072, at2 x2 ((i 0).val) k.val * at2 x1 k.val ((i 1).val)) + at2 x3 (i 0).val (i 1).val := by
  have h0 : (i 0).val < 4096 := (i 0).isLt
  have h1 : (i 1).val < 2048 := (i 1).isLt
  simp only [val_main_v0_apply, val_main_v1_apply, val_main_v2_apply, val_main_v3_apply, val_main_v4_apply, val_main_v5_apply, val_main_v6_apply]
  rw [add_comm]
  refine congrArg₂ (· + ·) (eq_at2 _ _ _ _ rfl rfl) ?_
  refine Finset.sum_congr rfl fun k _ => ?_
  first
  | exact congrArg₂ (· * ·) (eq_at2 x2 _ _ _ rfl rfl)
      (eq_at2 x1 _ _ _ rfl rfl)
  | exact (mul_comm _ _).trans (congrArg₂ (· * ·) (eq_at2 x2 _ _ _ rfl rfl)
      (eq_at2 x1 _ _ _ rfl rfl))

end Cert.InRkvDhRefIdeal.Product

namespace Cert.Proof.InRkvDh

open Idealize.ShloMosaic Idealize.ShloMosaic.TcCoe Idealize.SL.Sem

/-- From memories that agree on the arguments, both programs end with the same results, and the arguments unchanged. -/
theorem algebraic : Cert.algebraic_InRkvDhIdeal_InRkvDhRefIdeal := by
  intro m g m' g' _ hag
  refine ⟨fun c => Cert.InRkvDhIdeal.Product.result0 m c,
    (θ_run Cert.InRkvDhIdeal.defs _ _).mono (fun r h c => ⟨(h c).1.trans (Cert.InRkvDhIdeal.Product.final0 m c), (h c).2⟩)
      (Cert.InRkvDhIdeal.Value.run_blocks m g), ?_⟩
  refine (θ_run Cert.InRkvDhRefIdeal.defs _ _).mono (fun r h c => ⟨(h c).1.trans ?_, (h c).2⟩)
    (Cert.InRkvDhRefIdeal.Value.run m' g')
  rw [Cert.InRkvDhRefIdeal.Read.val_main_v6_eq]
  funext i
  refine (Cert.InRkvDhRefIdeal.Product.ref0 _ _ _ i).trans ?_
  rw [(hag c).2.1, (hag c).2.2.1, (hag c).2.2.2]
  rfl

/-- The reference runs to its end, leaves its arguments unchanged and every counter at zero. -/
theorem frame_reference : Cert.quiescent_InRkvDhRefIdeal := fun m ρ _ =>
  (θ_run Cert.InRkvDhRefIdeal.defs _ _).mono (fun r h => ⟨fun c => (h c).2, sem_eq_zero_of_no_sems (by decide) r.2⟩)
    (Cert.InRkvDhRefIdeal.Value.run (F := Ideal) m ρ)

end Cert.Proof.InRkvDh
-- ==== Proof.InPs.lean ====
/- The product that the program `InPs` computes: entry `(i, j)` is row `i` of the left operand times row `j` of the right one, 2048 terms.
   The kernel works block by block on a grid of 4 points; its output array holds the same product as the reference's,
   entry by entry. -/
module

public import proofs.«01_k».proof.Proof.Blocked
public import proofs.«01_k».proof.Proof.Gen.InPsIdeal.Value
public import proofs.«01_k».proof.Proof.Gen.InPsRefIdeal.Read
public import proofs.«01_k».proof.Defs

@[expose] public section

noncomputable section

namespace Cert.InPsIdeal.Product

open Cert.InPsIdeal Cert.InPsIdeal.Gen Cert.InPsIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x2048.Idx → EReal := m ((c : Thread nD τ).loc main_arg0)
/-- The right operand as launched. -/
abbrev rhs (c : Dev nD) : S640x2048.Idx → EReal := m ((c : Thread nD τ).loc main_arg1)

/-- The block that grid point `t` reads or writes of the left operand. -/
theorem idx0 : ∀ t : Fin cfg0.N, win0_0.index t 0 = t.val ∧ win0_0.index t 1 = 0 :=
  (by decide +kernel : ∀ t : Fin grid0.N, _)

/-- The block that grid point `t` reads or writes of the right operand. -/
theorem idx1 : ∀ t : Fin cfg0.N, win0_1.index t 0 = 0 ∧ win0_1.index t 1 = 0 :=
  (by decide +kernel : ∀ t : Fin grid0.N, _)

/-- The block that grid point `t` reads or writes of the output. -/
theorem idx2 : ∀ t : Fin cfg0.N, win0_2.index t 0 = t.val ∧ win0_2.index t 1 = 0 :=
  (by decide +kernel : ∀ t : Fin grid0.N, _)

/-- The block of the left operand at point `t`, read at the array's own coordinates. -/
theorem blk0 (c : Dev nD) (t : Fin cfg0.N) (y : S1024x2048.Idx) :
    iblk m c 0 t y = at2 (lhs m c) (t.val * 1024 + (y 0).val) (0 * 2048 + (y 1).val) := by
  unfold iblk
  rw [View.read_apply]
  show (V m c main_arg0 : S4096x2048.Idx → EReal) _ = _
  rw [V_main_arg0]
  obtain ⟨e0, e1⟩ := idx0 t
  have h0 : (y 0).val < 1024 := (y 0).isLt
  have h1 : (y 1).val < 2048 := (y 1).isLt
  refine eq_at2 _ _ _ _ ?_ ?_ <;> blk_simp
  · omega
  · omega

/-- The block of the right operand at point `t`, read at the array's own coordinates. -/
theorem blk1 (c : Dev nD) (t : Fin cfg0.N) (y : S640x2048.Idx) :
    iblk m c 1 t y = at2 (rhs m c) (0 * 640 + (y 0).val) (0 * 2048 + (y 1).val) := by
  unfold iblk
  rw [View.read_apply]
  show (V m c main_arg1 : S640x2048.Idx → EReal) _ = _
  rw [V_main_arg1]
  obtain ⟨e0, e1⟩ := idx1 t
  have h0 : (y 0).val < 640 := (y 0).isLt
  have h1 : (y 1).val < 2048 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) i (s * 2048 + k.val) * at2 (rhs m c) j (s * 2048 + k.val)

/-- The whole product at row `i` and column `j`. -/
def total (c : Dev nD) (i j : ℕ) : EReal :=
  ∑ k : Fin 2048, at2 (lhs m c) i k.val * at2 (rhs m c) j k.val

/-- One block is the whole sum. -/
theorem term_eq (c : Dev nD) (i j : ℕ) : term m c 0 i j = total m c i j := by
  unfold term total
  refine Finset.sum_congr rfl fun k _ => ?_
  simp only [zero_mul, zero_add]

/-- The two blocks that the body multiplies at point `t`. -/
abbrev left (c : Dev nD) (t : Fin cfg0.N) : S1024x2048.Idx → EReal := iblk m c 0 t
abbrev right (c : Dev nD) (t : Fin cfg0.N) : S640x2048.Idx → EReal := iblk m c 1 t

/-- The lanes of the two blocks at point `t` multiply to the whole product. -/
theorem lanes (c : Dev nD) (t : Fin cfg0.N) (y : S1024x640.Idx) :
    ∑ k : Fin 2048, left m c t (ix2 (y 0) k) * right m c t (ix2 (y 1) k) = total m c (t.val * 1024 + (y 0).val) (0 * 640 + (y 1).val) := by
  rw [← term_eq]
  refine Finset.sum_congr rfl fun k _ => ?_
  unfold left right
  rw [blk0, blk1]; rfl

/-- What the kernel leaves in its output at row `i` and column `j`. -/
def value0 (c : Dev nD) (i j : ℕ) : EReal := total m c i j

/-- The block that point `t` writes back. -/
theorem out0 (c : Dev nD) (t : Fin cfg0.N) (y : S1024x640.Idx) :
    out0_2 (iblk m c 0 t) (iblk m c 1 t) y = value0 m c (t.val * 1024 + (y 0).val) (0 * 640 + (y 1).val) := by
  refine Eq.trans ?_ (lanes m c t y)
  frame_out
  pointwise [k0_pay1]

/-- The output array. -/
def result0 (c : Dev nD) : S4096x640.Idx → EReal := fun i => value0 m c (i 0).val (i 1).val

/-- The array read at an index whose coordinates are known. -/
theorem result0_at (c : Dev nD) (i : S4096x640.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 1024 := (y 0).isLt
  have h1 : (y 1).val < 640 := (y 1).isLt
  blk_simp
  rw [after0_2]
  refine (out0 m c t y).trans (result0_at m c _ _ _ ?_ ?_) <;> blk_simp
  · omega
  · omega

end Cert.InPsIdeal.Product

namespace Cert.InPsRefIdeal.Product

open Cert.InPsRefIdeal Cert.InPsRefIdeal.Gen Cert.InPsRefIdeal.Read Cert.Blocked
open Idealize.ShloMosaic Idealize.ShloMosaic.TcCoe Idealize.SL.Sem

/-- The reference's array, entry by entry. -/
theorem ref0 (x0 : S4096x2048.Idx → EReal) (x1 : S640x2048.Idx → EReal) (i : S4096x640.Idx) :
    val_main_v3 (F := Ideal) x0 x1 i = (∑ k : Fin 2048, at2 x0 ((i 0).val) k.val * at2 x1 ((i 1).val) k.val) := by
  have h0 : (i 0).val < 4096 := (i 0).isLt
  have h1 : (i 1).val < 640 := (i 1).isLt
  simp only [val_main_v0_apply, val_main_v1_apply, val_main_v2_apply, val_main_v3_apply]
  refine Finset.sum_congr rfl fun k _ => ?_
  first
  | exact congrArg₂ (· * ·) (eq_at2 x0 _ _ _ rfl rfl)
      (eq_at2 x1 _ _ _ rfl rfl)
  | exact (mul_comm _ _).trans (congrArg₂ (· * ·) (eq_at2 x0 _ _ _ rfl rfl)
      (eq_at2 x1 _ _ _ rfl rfl))

end Cert.InPsRefIdeal.Product

namespace Cert.Proof.InPs

open Idealize.ShloMosaic Idealize.ShloMosaic.TcCoe Idealize.SL.Sem

/-- From memories that agree on the arguments, both programs end with the same results, and the arguments unchanged. -/
theorem algebraic : Cert.algebraic_InPsIdeal_InPsRefIdeal := by
  intro m g m' g' _ hag
  refine ⟨fun c => Cert.InPsIdeal.Product.result0 m c,
    (θ_run Cert.InPsIdeal.defs _ _).mono (fun r h c => ⟨(h c).1.trans (Cert.InPsIdeal.Product.final0 m c), (h c).2⟩)
      (Cert.InPsIdeal.Value.run_blocks m g), ?_⟩
  refine (θ_run Cert.InPsRefIdeal.defs _ _).mono (fun r h c => ⟨(h c).1.trans ?_, (h c).2⟩)
    (Cert.InPsRefIdeal.Value.run m' g')
  rw [Cert.InPsRefIdeal.Read.val_main_v3_eq]
  funext i
  refine (Cert.InPsRefIdeal.Product.ref0 _ _ i).trans ?_
  rw [(hag c).1, (hag c).2]
  rfl

/-- The reference runs to its end, leaves its arguments unchanged and every counter at zero. -/
theorem frame_reference : Cert.quiescent_InPsRefIdeal := fun m ρ _ =>
  (θ_run Cert.InPsRefIdeal.defs _ _).mono (fun r h => ⟨fun c => (h c).2, sem_eq_zero_of_no_sems (by decide) r.2⟩)
    (Cert.InPsRefIdeal.Value.run (F := Ideal) m ρ)

end Cert.Proof.InPs
-- ==== Proof.InPsDw.lean ====
/- The product that the program `InPsDw` computes: entry `(i, j)` is column `i` of the left operand times column `j` of the right one, 4096 terms.
   The kernel works block by block on a grid of 2 points; its output array holds the same product as the reference's,
   entry by entry. -/
module

public import proofs.«01_k».proof.Proof.Blocked
public import proofs.«01_k».proof.Proof.Gen.InPsDwIdeal.Value
public import proofs.«01_k».proof.Proof.Gen.InPsDwRefIdeal.Read
public import proofs.«01_k».proof.Defs

@[expose] public section

noncomputable section

namespace Cert.InPsDwIdeal.Product

open Cert.InPsDwIdeal Cert.InPsDwIdeal.Gen Cert.InPsDwIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x640.Idx → EReal := m ((c : Thread nD τ).loc main_arg2)
/-- The right operand as launched. -/
abbrev rhs (c : Dev nD) : S4096x2048.Idx → EReal := m ((c : Thread nD τ).loc main_arg0)

/-- The block that grid point `t` reads or writes of the left operand. -/
theorem idx0 : ∀ t : Fin cfg0.N, win0_0.index t 0 = t.val % 2 ∧ win0_0.index t 1 = 0 :=
  (by decide +kernel : ∀ t : Fin grid0.N, _)

/-- The block that grid point `t` reads or writes of the right operand. -/
theorem idx1 : ∀ t : Fin cfg0.N, win0_1.index t 0 = t.val % 2 ∧ win0_1.index t 1 = 0 :=
  (by decide +kernel : ∀ t : Fin grid0.N, _)

/-- The block that grid point `t` reads or writes of the output. -/
theorem idx2 : ∀ t : Fin cfg0.N, win0_2.index t 0 = 0 ∧ win0_2.index t 1 = 0 :=
  (by decide +kernel : ∀ t : Fin grid0.N, _)

/-- The block of the left operand at point `t`, read at the array's own coordinates. -/
theorem blk0 (c : Dev nD) (t : Fin cfg0.N) (y : S2048x640.Idx) :
    iblk m c 0 t y = at2 (lhs m c) ((t.val % 2) * 2048 + (y 0).val) (0 * 640 + (y 1).val) := by
  unfold iblk
  rw [View.read_apply]
  show (V m c main_arg2 : S4096x640.Idx → EReal) _ = _
  rw [V_main_arg2]
  obtain ⟨e0, e1⟩ := idx0 t
  have h0 : (y 0).val < 2048 := (y 0).isLt
  have h1 : (y 1).val < 640 := (y 1).isLt
  refine eq_at2 _ _ _ _ ?_ ?_ <;> blk_simp
  · omega
  · omega

/-- The block of the right operand at point `t`, read at the array's own coordinates. -/
theorem blk1 (c : Dev nD) (t : Fin cfg0.N) (y : S2048x2048.Idx) :
    iblk m c 1 t y = at2 (rhs m c) ((t.val % 2) * 2048 + (y 0).val) (0 * 2048 + (y 1).val) := by
  unfold iblk
  rw [View.read_apply]
  show (V m c main_arg0 : S4096x2048.Idx → EReal) _ = _
  rw [V_main_arg0]
  obtain ⟨e0, e1⟩ := idx1 t
  have h0 : (y 0).val < 2048 := (y 0).isLt
  have h1 : (y 1).val < 2048 := (y 1).isLt
  refine eq_at2 _ _ _ _ ?_ ?_ <;> blk_simp
  · omega
  · omega

/-- The sum of the products over the lanes `2048 s ≤ l < 2048 s + 2048` of the contracted axis, at row `i` and column `j`. -/
def term (c : Dev nD) (s i j : ℕ) : EReal :=
  ∑ k : Fin 2048, at2 (lhs m c) (s * 2048 + k.val) i * at2 (rhs m c) (s * 2048 + k.val) j

/-- The whole product at row `i` and column `j`. -/
def total (c : Dev nD) (i j : ℕ) : EReal :=
  ∑ k : Fin 4096, at2 (lhs m c) k.val i * at2 (rhs m c) k.val j

/-- One block product of the body is the sum over its lanes. -/
theorem pay (x0 : Vec Ideal S2048x640 .bf16) (x1 : Vec Ideal S2048x2048 .bf16) (y : S640x2048.Idx) :
    k0_pay1 x0 x1 y = ∑ k : Fin 2048, (x0 (ix2 k (y 0)) : EReal) * x1 (ix2 k (y 1)) := by
  pointwise [k0_pay1]

/-- The block product at point `t` is one block of the sum. -/
theorem pay_term (c : Dev nD) (t : Fin cfg0.N) (y : S640x2048.Idx) :
    k0_pay1 (iblk m c 0 t) (iblk m c 1 t) y = term m c (t.val % 2) (0 * 640 + (y 0).val) (0 * 2048 + (y 1).val) := by
  rw [pay]
  refine Finset.sum_congr rfl fun k _ => ?_
  rw [blk0, blk1]; rfl

/-- What block `s` of run `r` adds at an entry of the block. -/
def step (c : Dev nD) (r s : ℕ) (y : S640x2048.Idx) : EReal := term m c s (0 * 640 + (y 0).val) (0 * 2048 + (y 1).val)

/-- The first point of a run starts the accumulator at its block's product. -/
theorem scr_first (c : Dev nD) (t : Fin cfg0.N) (h : t.val % 2 = 0) (y : S640x2048.Idx) :
    (outsAt0 m c t.val t.isLt).2 y = 0 + step m c (t.val / 2) (t.val % 2) y := by
  rw [outsAt0_A m c t h (by omega) (by omega), zero_add]
  refine Eq.trans ?_ (pay_term m c t y)
  frame_out
  pointwise [k0_pay2]

/-- Every later point adds its block's product. -/
theorem scr_next (c : Dev nD) (t : Fin cfg0.N) (h : ¬t.val % 2 = 0) (y : S640x2048.Idx) :
    (outsAt0 m c t.val t.isLt).2 y
      = (outsAt0 m c (t.val - 1) (Nat.lt_of_le_of_lt (Nat.sub_le _ _) t.isLt)).2 y + step m c (t.val / 2) (t.val % 2) y := by
  refine Eq.trans ?_ (congrArg (_ + ·) (pay_term m c t y))
  rw [outsAt0_B m c t h (by omega) (by omega)]
  frame_out
  simp only [read_unread_whole]
  pointwise [k0_pay3]

/-- So at each point the accumulator holds the sum of its run's blocks so far. -/
theorem scr (c : Dev nD) (t : Fin cfg0.N) (y : S640x2048.Idx) :
    (outsAt0 m c t.val t.isLt).2 y = 0 + ∑ s ∈ range (t.val % 2 + 1), step m c (t.val / 2) s y :=
  Pipeline.eq_sum_of_reset_step_apply_divmod (fun n h => (outsAt0 m c n h).2) 2 (fun _ => 0) (step m c)
    (scr_first m c) (scr_next m c) t y

/-- At a run's last point the accumulator holds the whole product. -/
theorem scr_last (c : Dev nD) (t : Fin cfg0.N) (h : t.val % 2 = 1) (y : S640x2048.Idx) :
    (outsAt0 m c t.val t.isLt).2 y = total m c (0 * 640 + (y 0).val) (0 * 2048 + (y 1).val) := by
  rw [scr, zero_add, h]
  unfold step term
  exact sum_blocks 2 2048 fun l => at2 (lhs m c) l (0 * 640 + (y 0).val) * at2 (rhs m c) l (0 * 2048 + (y 1).val)

/-- What the kernel leaves in its output at row `i` and column `j`. -/
def value0 (c : Dev nD) (i j : ℕ) : EReal := total m c i j

/-- The block that point `t` writes back. Points that write back are the last of their run. -/
theorem out0 (c : Dev nD) (t : Fin cfg0.N) (h : t.val % 2 = 1) (y : S640x2048.Idx) :
    (outsAt0 m c t.val t.isLt).1 y = value0 m c (0 * 640 + (y 0).val) (0 * 2048 + (y 1).val) := by
  have e : (outsAt0 m c t.val t.isLt).1 y = (outsAt0 m c t.val t.isLt).2 y := by
    rw [outsAt0_B m c t (by omega) (by omega) h]
    frame_out
    pointwise [k0_pay4]
  rw [e, scr_last m c t h]; rfl

/-- The output array. -/
def result0 (c : Dev nD) : S640x2048.Idx → EReal := fun i => value0 m c (i 0).val (i 1).val

/-- The array read at an index whose coordinates are known. -/
theorem result0_at (c : Dev nD) (i : S640x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 2 cfg0.N = result0 m c := by
  refine (dats m 0 c).arrAt_eq_of_covers 2 (result0 m c) (by decide +kernel) fun t hf y => ?_
  obtain ⟨e0, e1⟩ := idx2 t
  have h0 : (y 0).val < 640 := (y 0).isLt
  have h1 : (y 1).val < 2048 := (y 1).isLt
  have hm : t.val % 2 = 1 := (flush0_2 t).mp hf
  blk_simp
  rw [after0_2]
  refine (out0 m c t hm y).trans (result0_at m c _ _ _ ?_ ?_) <;> blk_simp
  · omega
  · omega

end Cert.InPsDwIdeal.Product

namespace Cert.InPsDwRefIdeal.Product

open Cert.InPsDwRefIdeal Cert.InPsDwRefIdeal.Gen Cert.InPsDwRefIdeal.Read Cert.Blocked
open Idealize.ShloMosaic Idealize.ShloMosaic.TcCoe Idealize.SL.Sem

/-- The reference's array, entry by entry. -/
theorem ref0 (x0 : S4096x2048.Idx → EReal) (x2 : S4096x640.Idx → EReal) (i : S640x2048.Idx) :
    val_main_v8 (F := Ideal) x0 x2 i = (∑ k : Fin 4096, at2 x2 k.val ((i 0).val) * at2 x0 k.val ((i 1).val)) := by
  have h0 : (i 0).val < 640 := (i 0).isLt
  have h1 : (i 1).val < 2048 := (i 1).isLt
  simp only [val_main_v0_apply, val_main_v1_apply, val_main_v2_apply, val_main_v3_apply, val_main_v4_apply, val_main_v5_apply, val_main_v6_apply, val_main_v7_apply, val_main_v8_apply]
  refine Finset.sum_congr rfl fun k _ => ?_
  first
  | exact congrArg₂ (· * ·) (eq_at2 x2 _ _ _ rfl rfl)
      (eq_at2 x0 _ _ _ rfl rfl)
  | exact (mul_comm _ _).trans (congrArg₂ (· * ·) (eq_at2 x2 _ _ _ rfl rfl)
      (eq_at2 x0 _ _ _ rfl rfl))

end Cert.InPsDwRefIdeal.Product

namespace Cert.Proof.InPsDw

open Idealize.ShloMosaic Idealize.ShloMosaic.TcCoe Idealize.SL.Sem

/-- From memories that agree on the arguments, both programs end with the same results, and the arguments unchanged. -/
theorem algebraic : Cert.algebraic_InPsDwIdeal_InPsDwRefIdeal := by
  intro m g m' g' _ hag
  refine ⟨fun c => Cert.InPsDwIdeal.Product.result0 m c,
    (θ_run Cert.InPsDwIdeal.defs _ _).mono (fun r h c => ⟨(h c).1.trans (Cert.InPsDwIdeal.Product.final0 m c), (h c).2⟩)
      (Cert.InPsDwIdeal.Value.run_blocks m g), ?_⟩
  refine (θ_run Cert.InPsDwRefIdeal.defs _ _).mono (fun r h c => ⟨(h c).1.trans ?_, (h c).2⟩)
    (Cert.InPsDwRefIdeal.Value.run m' g')
  rw [Cert.InPsDwRefIdeal.Read.val_main_v8_eq]
  funext i
  refine (Cert.InPsDwRefIdeal.Product.ref0 _ _ i).trans ?_
  rw [(hag c).1, (hag c).2.2]
  rfl

/-- The reference runs to its end, leaves its arguments unchanged and every counter at zero. -/
theorem frame_reference : Cert.quiescent_InPsDwRefIdeal := fun m ρ _ =>
  (θ_run Cert.InPsDwRefIdeal.defs _ _).mono (fun r h => ⟨fun c => (h c).2, sem_eq_zero_of_no_sems (by decide) r.2⟩)
    (Cert.InPsDwRefIdeal.Value.run (F := Ideal) m ρ)

end Cert.Proof.InPsDw
-- ==== Proof.InPsDh.lean ====
/- The product that the program `InPsDh` computes: entry `(i, j)` is row `i` of the left operand times column `j` of the right one, 640 terms.
   The kernel works block by block on a grid of 8 points; its output array holds the same product as the reference's,
   entry by entry. -/
module

public import proofs.«01_k».proof.Proof.Blocked
public import proofs.«01_k».proof.Proof.Gen.InPsDhIdeal.Value
public import proofs.«01_k».proof.Proof.Gen.InPsDhRefIdeal.Read
public import proofs.«01_k».proof.Defs

@[expose] public section

noncomputable section

namespace Cert.InPsDhIdeal.Product

open Cert.InPsDhIdeal Cert.InPsDhIdeal.Gen Cert.InPsDhIdeal.Value Cert.Blocked
open Idealize.ShloMosaic Idealize.ShloMosaic.TcCoe Idealize.SL.Sem
open Finset

variable (m : (ℓ : Loc nD τ sig) → Buf (Elt Ideal) ℓ)

/-- The left operand as launched. -/
abbrev lhs (c : Dev nD) : S4096x640.Idx → EReal := m ((c : Thread nD τ).loc main_arg2)
/-- The right operand as launched. -/
abbrev rhs (c : Dev nD) : S640x2048.Idx → EReal := m ((c : Thread nD τ).loc main_arg1)
/-- The summand, as launched. -/
abbrev add (c : Dev nD) : S4096x2048.Idx → EReal := m ((c : Thread nD τ).loc main_arg3)

/-- The block that grid point `t` reads or writes of the left operand. -/
theorem idx0 : ∀ t : Fin cfg0.N, win0_0.index t 0 = t.val / 2 ∧ win0_0.index t 1 = 0 :=
  (by decide +kernel : ∀ t : Fin grid0.N, _)

/-- The block that grid point `t` reads or writes of the right operand. -/
theorem idx1 : ∀ t : Fin cfg0.N, win0_1.index t 0 = 0 ∧ win0_1.index t 1 = t.val % 2 :=
  (by decide +kernel : ∀ t : Fin grid0.N, _)

/-- The block that grid point `t` reads or writes of the third operand. -/
theorem idx2 : ∀ t : Fin cfg0.N, win0_2.index t 0 = t.val / 2 ∧ win0_2.index t 1 = t.val % 2 :=
  (by decide +kernel : ∀ t : Fin grid0.N, _)

/-- The block that grid point `t` reads or writes of the output. -/
theorem idx3 : ∀ t : Fin cfg0.N, win0_3.index t 0 = t.val / 2 ∧ win0_3.index t 1 = t.val % 2 :=
  (by decide +kernel : ∀ t : Fin grid0.N, _)

/-- The block of the left operand at point `t`, read at the array's own coordinates. -/
theorem blk0 (c : Dev nD) (t : Fin cfg0.N) (y : S1024x640.Idx) :
    iblk m c 0 t y = at2 (lhs m c) ((t.val / 2) * 1024 + (y 0).val) (0 * 640 + (y 1).val) := by
  unfold iblk
  rw [View.read_apply]
  show (V m c main_arg2 : S4096x640.Idx → EReal) _ = _
  rw [V_main_arg2]
  obtain ⟨e0, e1⟩ := idx0 t
  have h0 : (y 0).val < 1024 := (y 0).isLt
  have h1 : (y 1).val < 640 := (y 1).isLt
  refine eq_at2 _ _ _ _ ?_ ?_ <;> blk_simp
  · omega
  · omega

/-- The block of the right operand at point `t`, read at the array's own coordinates. -/
theorem blk1 (c : Dev nD) (t : Fin cfg0.N) (y : S640x1024.Idx) :
    iblk m c 1 t y = at2 (rhs m c) (0 * 640 + (y 0).val) ((t.val % 2) * 1024 + (y 1).val) := by
  unfold iblk
  rw [View.read_apply]
  show (V m c main_arg1 : S640x2048.Idx → EReal) _ = _
  rw [V_main_arg1]
  obtain ⟨e0, e1⟩ := idx1 t
  have h0 : (y 0).val < 640 := (y 0).isLt
  have h1 : (y 1).val < 1024 := (y 1).isLt
  refine eq_at2 _ _ _ _ ?_ ?_ <;> blk_simp
  · omega
  · omega

/-- The block of the summand at point `t`, read at the array's own coordinates. -/
theorem blk2 (c : Dev nD) (t : Fin cfg0.N) (y : S1024x1024.Idx) :
    iblk m c 2 t y = at2 (add m c) ((t.val / 2) * 1024 + (y 0).val) ((t.val % 2) * 1024 + (y 1).val) := by
  unfold iblk
  rw [View.read_apply]
  show (V m c main_arg3 : S4096x2048.Idx → EReal) _ = _
  rw [V_main_arg3]
  obtain ⟨e0, e1⟩ := idx2 t
  have h0 : (y 0).val < 1024 := (y 0).isLt
  have h1 : (y 1).val < 1024 := (y 1).isLt
  refine eq_at2 _ _ _ _ ?_ ?_ <;> blk_simp
  · omega
  · omega

/-- The sum of the products over the lanes `640 s ≤ l < 640 s + 640` of the contracted axis, at row `i` and column `j`. -/
def term (c : Dev nD) (s i j : ℕ) : EReal :=
  ∑ k : Fin 640, at2 (lhs m c) i (s * 640 + k.val) * at2 (rhs m c) (s * 640 + k.val) j

/-- The whole product at row `i` and column `j`. -/
def total (c : Dev nD) (i j : ℕ) : EReal :=
  ∑ k : Fin 640, at2 (lhs m c) i k.val * at2 (rhs m c) k.val j

/-- One block is the whole sum. -/
theorem term_eq (c : Dev nD) (i j : ℕ) : term m c 0 i j = total m c i j := by
  unfold term total
  refine Finset.sum_congr rfl fun k _ => ?_
  simp only [zero_mul, zero_add]

/-- The two blocks that the body multiplies at point `t`. -/
abbrev left (c : Dev nD) (t : Fin cfg0.N) : S1024x640.Idx → EReal := iblk m c 0 t
abbrev right (c : Dev nD) (t : Fin cfg0.N) : S640x1024.Idx → EReal := iblk m c 1 t

/-- The lanes of the two blocks at point `t` multiply to the whole product. -/
theorem lanes (c : Dev nD) (t : Fin cfg0.N) (y : S1024x1024.Idx) :
    ∑ k : Fin 640, left m c t (ix2 (y 0) k) * right m c t (ix2 k (y 1)) = total m c ((t.val / 2) * 1024 + (y 0).val) ((t.val % 2) * 1024 + (y 1).val) := by
  rw [← term_eq]
  refine Finset.sum_congr rfl fun k _ => ?_
  unfold left right
  rw [blk0, blk1]; rfl

/-- What the kernel leaves in its output at row `i` and column `j`. -/
def value0 (c : Dev nD) (i j : ℕ) : EReal := total m c i j + at2 (add m c) i j

/-- The block that point `t` writes back. -/
theorem out0 (c : Dev nD) (t : Fin cfg0.N) (y : S1024x1024.Idx) :
    out0_3 (iblk m c 0 t) (iblk m c 1 t) (iblk m c 2 t) y = value0 m c ((t.val / 2) * 1024 + (y 0).val) ((t.val % 2) * 1024 + (y 1).val) := by
  refine Eq.trans ?_ (congrArg₂ (· + ·) (lanes m c t y) (blk2 m c t y))
  frame_out
  pointwise [k0_pay1]

/-- The output array. -/
def result0 (c : Dev nD) : S4096x2048.Idx → EReal := fun i => value0 m c (i 0).val (i 1).val

/-- The array read at an index whose coordinates are known. -/
theorem result0_at (c : Dev nD) (i : S4096x2048.Idx) (a b : ℕ) (ha : (i 0).val = a) (hb : (i 1).val = b) :
    value0 m c a b = result0 m c i := by
  subst ha hb; rfl

/-- After the run the array holds, at every index, the value of the block that covers it. -/
theorem final0 (c : Dev nD) : (dats m 0 c).arrAt 3 cfg0.N = result0 m c := by
  refine (dats m 0 c).arrAt_eq_of_covers 3 (result0 m c) (by decide +kernel) fun t hf y => ?_
  obtain ⟨e0, e1⟩ := idx3 t
  have h0 : (y 0).val < 1024 := (y 0).isLt
  have h1 : (y 1).val < 1024 := (y 1).isLt
  blk_simp
  rw [after0_3]
  refine (out0 m c t y).trans (result0_at m c _ _ _ ?_ ?_) <;> blk_simp
  · omega
  · omega

end Cert.InPsDhIdeal.Product

namespace Cert.InPsDhRefIdeal.Product

open Cert.InPsDhRefIdeal Cert.InPsDhRefIdeal.Gen Cert.InPsDhRefIdeal.Read Cert.Blocked
open Idealize.ShloMosaic Idealize.ShloMosaic.TcCoe Idealize.SL.Sem

/-- The reference's array, entry by entry. -/
theorem ref0 (x1 : S640x2048.Idx → EReal) (x2 : S4096x640.Idx → EReal) (x3 : S4096x2048.Idx → EReal) (i : S4096x2048.Idx) :
    val_main_v6 (F := Ideal) x1 x2 x3 i = (∑ k : Fin 640, at2 x2 ((i 0).val) k.val * at2 x1 k.val ((i 1).val)) + at2 x3 (i 0).val (i 1).val := by
  have h0 : (i 0).val < 4096 := (i 0).isLt
  have h1 : (i 1).val < 2048 := (i 1).isLt
  simp only [val_main_v0_apply, val_main_v1_apply, val_main_v2_apply, val_main_v3_apply, val_main_v4_apply, val_main_v5_apply, val_main_v6_apply]
  rw [add_comm]
  refine congrArg₂ (· + ·) (eq_at2 _ _ _ _ rfl rfl) ?_
  refine Finset.sum_congr rfl fun k _ => ?_
  first
  | exact congrArg₂ (· * ·) (eq_at2 x2 _ _ _ rfl rfl)
      (eq_at2 x1 _ _ _ rfl rfl)
  | exact (mul_comm _ _).trans (congrArg₂ (· * ·) (eq_at2 x2 _ _ _ rfl rfl)
      (eq_at2 x1 _ _ _ rfl rfl))

end Cert.InPsDhRefIdeal.Product

namespace Cert.Proof.InPsDh

open Idealize.ShloMosaic Idealize.ShloMosaic.TcCoe Idealize.SL.Sem

/-- From memories that agree on the arguments, both programs end with the same results, and the arguments unchanged. -/
theorem algebraic : Cert.algebraic_InPsDhIdeal_InPsDhRefIdeal := by
  intro m g m' g' _ hag
  refine ⟨fun c => Cert.InPsDhIdeal.Product.result0 m c,
    (θ_run Cert.InPsDhIdeal.defs _ _).mono (fun r h c => ⟨(h c).1.trans (Cert.InPsDhIdeal.Product.final0 m c), (h c).2⟩)
      (Cert.InPsDhIdeal.Value.run_blocks m g), ?_⟩
  refine (θ_run Cert.InPsDhRefIdeal.defs _ _).mono (fun r h c => ⟨(h c).1.trans ?_, (h c).2⟩)
    (Cert.InPsDhRefIdeal.Value.run m' g')
  rw [Cert.InPsDhRefIdeal.Read.val_main_v6_eq]
  funext i
  refine (Cert.InPsDhRefIdeal.Product.ref0 _ _ _ i).trans ?_
  rw [(hag c).2.1, (hag c).2.2.1, (hag c).2.2.2]
  rfl

/-- The reference runs to its end, leaves its arguments unchanged and every counter at zero. -/
theorem frame_reference : Cert.quiescent_InPsDhRefIdeal := fun m ρ _ =>
  (θ_run Cert.InPsDhRefIdeal.defs _ _).mono (fun r h => ⟨fun c => (h c).2, sem_eq_zero_of_no_sems (by decide) r.2⟩)
    (Cert.InPsDhRefIdeal.Value.run (F := Ideal) m ρ)

end Cert.Proof.InPsDh
-- ==== Proof.Norm.lean ====
/- The root-mean-square norm and its backward pass, row by row, over the extended reals. -/
module

public import proofs.«01_k».proof.Proof.Blocked

@[expose] public section

noncomputable section

namespace Cert.Norm

open Idealize.ShloMosaic Cert.Blocked Finset

/-- The length of a row, as the programs write it. -/
def width : EReal := Ideal.ofBits .f32 0x45000000#32

/-- A row's mean square with the small constant added. -/
def ms (x : Fin 2048 → EReal) : EReal := Ideal.div (∑ k, x k * x k) width + Ideal.ofBits .f32 0x358637BD#32

/-- One over the root of the mean square. -/
def invRoot (x : Fin 2048 → EReal) : EReal := Ideal.rsqrt (ms x)

/-- An entry of the norm: `x` the row, `g` the gain. -/
def fwd (x g : Fin 2048 → EReal) (j : Fin 2048) : EReal := x j * invRoot x * g j

/-- What each element of a row receives through the mean square, before the row's own factor. -/
def share (x g d : Fin 2048 → EReal) : EReal :=
  Ideal.div ((∑ k, x k * (d k * g k)) * (Ideal.ofBits .f32 0xBF000000#32 * Ideal.div (invRoot x) (ms x))) width

/-- The gradient of the row: `x` the row, `g` the gain, `d` the arriving gradient. -/
def back (x g d : Fin 2048 → EReal) (j : Fin 2048) : EReal := d j * g j * invRoot x + x j * share x g d + share x g d * x j

/-- What the row adds to the gradient of the gain. -/
def gain (x d : Fin 2048 → EReal) (j : Fin 2048) : EReal := x j * invRoot x * d j

/-- A row of a matrix at a natural row number. -/
def rowOf {A : ℕ} (x : (⟨2, ![A, 2048]⟩ : Shape).Idx → EReal) (r : ℕ) : Fin 2048 → EReal := fun k => at2 x r k

/-- A row read at an index. -/
theorem rowOf_eq {A : ℕ} (x : (⟨2, ![A, 2048]⟩ : Shape).Idx → EReal) (a : Fin A) : (fun k => x (ix2 a k)) = rowOf x a :=
  funext fun k => eq_at2 x (ix2 a k) a k rfl rfl

/-- A row of a block is a row of the array. -/
theorem rowOf_block {A B : ℕ} (x : (⟨2, ![A, 2048]⟩ : Shape).Idx → EReal) (y : (⟨2, ![B, 2048]⟩ : Shape).Idx → EReal) (R : ℕ)
    (e : ∀ i : (⟨2, ![A, 2048]⟩ : Shape).Idx, x i = at2 y (R + (i 0).val) (i 1).val) (a : Fin A) : rowOf x a = rowOf y (R + a) :=
  (rowOf_eq x a).symm.trans (funext fun k => e (ix2 a k))

/-- Eight shares of 512 rows each, from the last block to the first, are the sum over all the rows. -/
theorem shares (f : ℕ → EReal) : ∑ s ∈ range 8, ∑ x : Fin 512, f ((7 - s) * 512 + x) = ∑ r : Fin 4096, f r := by
  rw [← sum_range_reflect]
  refine Eq.trans (sum_congr rfl fun s hs => ?_) (sum_blocks 8 512 f)
  have h8 : s < 8 := mem_range.1 hs
  rw [show 7 - (8 - 1 - s) = s by omega]

end Cert.Norm
-- ==== Proof.NormBwd.lean ====
/- The backward pass of a norm on the residual stream, with the gradient of the branches added. The kernel walks the 8 blocks of 512 rows from
   the last to the first, writes each row's gradient and gathers the gradient of the gain; the two results are the
   reference's, entry by entry. -/
module

public import proofs.«01_k».proof.Defs
public import proofs.«01_k».proof.Proof.Norm
public import proofs.«01_k».proof.Proof.Gen.NormBwdIdeal.Value
public import proofs.«01_k».proof.Proof.Gen.NormBwdRefIdeal.Read

@[expose] public section

noncomputable section

namespace Cert.NormBwdIdeal.Rows

open Cert.NormBwdIdeal Cert.NormBwdIdeal.Gen Cert.NormBwdIdeal.Value Cert.Blocked Cert.Norm
open Idealize.ShloMosaic Idealize.ShloMosaic.TcCoe Idealize.SL.Sem
open Finset

/-- The mean squares of a block's rows. -/
theorem ms_at (x : FVec Ideal S512x2048 .f32) (a : Fin 512) (b : Fin 1) : k0_pay4 (F := Ideal) x (ix2 a b) = ms (rowOf x a) := by
  pointwise [k0_pay4]
  rw [← rowOf_eq]
  rfl

/-- One over their roots. -/
theorem inv_at (x : FVec Ideal S512x2048 .f32) (a : Fin 512) (b : Fin 1) : k0_pay5 (F := Ideal) x (ix2 a b) = invRoot (rowOf x a) := by
  show Ideal.rsqrt (k0_pay4 (F := Ideal) x (ix2 a b)) = _
  rw [ms_at]
  rfl

/-- The gradient of a block's rows. -/
theorem back_at (x : FVec Ideal S512x2048 .f32) (g : FVec Ideal S1x2048 .f32) (d : FVec Ideal S512x2048 .bf16) (u : FVec Ideal S512x2048 .f32) (a : Fin 512) (b : Fin 2048) :
    k0_pay2 (F := Ideal) u (k0_pay8 (F := Ideal) x g d) (ix2 a b) = back (rowOf x a) (rowOf g 0) (rowOf d a) b + rowOf u a b := by
  pointwise [k0_pay2, k0_pay8, k0_pay6]
  simp only [Fin.sum_univ_one, ms_at, inv_at]
  rw [← rowOf_eq x a, ← rowOf_eq d a, ← rowOf_eq u a, show rowOf g 0 = fun k => g (ix2 0 k) from (rowOf_eq (A := 1) g 0).symm]
  rfl

/-- A block's share of the gain's gradient. -/
theorem gain_at (x : FVec Ideal S512x2048 .f32) (d : FVec Ideal S512x2048 .bf16) (o : FVec Ideal S1x2048 .f32) (a : Fin 1) (b : Fin 2048) :
    k0_pay3 (F := Ideal) (k0_pay7 (F := Ideal) x d) o (ix2 a b) = o (ix2 a b) + ∑ r : Fin 512, gain (rowOf x r) (rowOf d r) b := by
  have ha : a = 0 := Subsingleton.elim _ _
  subst ha
  pointwise [k0_pay3, k0_pay7, k0_pay6]
  simp only [inv_at, ← rowOf_eq]
  rfl

/-- The accumulator starts at zero. -/
theorem zero_at (a : Fin 1) (b : Fin 2048) : (k0_pay1 (F := Ideal)) (ix2 a b) = 0 := by
  pointwise [k0_pay1]

section Frame

variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S512x2048 .bf16) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .f32) (harg6 : arg6.IsWhole)
  (x0 : Vec Ideal S512x2048 .f32) (x1 : Vec Ideal S1x2048 .f32) (x2 : Vec Ideal S512x2048 .bf16) (x3 : Vec Ideal S512x2048 .f32) (xo5 : Vec Ideal S1x2048 .f32)

/-- The rows' gradient after the first point. -/
theorem outA4 (hc0 : cond0_0 i) : out0_A_4 c i arg1 harg1 arg2 harg2 arg3 harg3 arg4 harg4 arg5 harg5 arg6 harg6 hc0 x0 x1 x2 x3 = k0_pay2 (F := Ideal) x3 (k0_pay8 (F := Ideal) x0 x1 x2) := by
  frame_out

/-- The gain's accumulator after the first point. -/
theorem outA5 (hc0 : cond0_0 i) : out0_A_5 c i arg1 harg1 arg2 harg2 arg3 harg3 arg4 harg4 arg5 harg5 arg6 harg6 hc0 x0 x1 x2 x3 = k0_pay3 (F := Ideal) (k0_pay7 (F := Ideal) x0 x2) (k0_pay1 (F := Ideal)) := by
  frame_out

/-- The rows' gradient after a later point. -/
theorem outB4 (hc0 : ¬cond0_0 i) : out0_B_4 c i arg1 harg1 arg2 harg2 arg3 harg3 arg4 harg4 arg5 harg5 arg6 harg6 hc0 x0 x1 x2 x3 xo5 = k0_pay2 (F := Ideal) x3 (k0_pay8 (F := Ideal) x0 x1 x2) := by
  frame_out

/-- The gain's accumulator after a later point. -/
theorem outB5 (hc0 : ¬cond0_0 i) : out0_B_5 c i arg1 harg1 arg2 harg2 arg3 harg3 arg4 harg4 arg5 harg5 arg6 harg6 hc0 x0 x1 x2 x3 xo5 = k0_pay3 (F := Ideal) (k0_pay7 (F := Ideal) x0 x2) xo5 := by
  frame_out

end Frame

variable (m : (ℓ : Loc nD τ sig) → Buf (Elt Ideal) ℓ)

/-- The rows as launched. -/
abbrev argX (c : Dev nD) : S4096x2048.Idx → EReal := m ((c : Thread nD τ).loc main_arg0)
/-- The gain as launched. -/
abbrev argG (c : Dev nD) : S1x2048.Idx → EReal := m ((c : Thread nD τ).loc main_arg1)
/-- The arriving gradient as launched. -/
abbrev argD (c : Dev nD) : S4096x2048.Idx → EReal := m ((c : Thread nD τ).loc main_arg2)
/-- The gradient of the residual stream as launched. -/
abbrev argU (c : Dev nD) : S4096x2048.Idx → EReal := m ((c : Thread nD τ).loc main_arg3)

/-- The blocks that grid point `t` reads or writes, from the last to the first. -/
theorem idx_rev : ∀ t : Fin cfg0.N, (win0_0.index t 0 = 7 - t.val ∧ win0_0.index t 1 = 0) ∧ (win0_2.index t 0 = 7 - t.val ∧ win0_2.index t 1 = 0)
      ∧ (win0_3.index t 0 = 7 - t.val ∧ win0_3.index t 1 = 0) ∧ (win0_4.index t 0 = 7 - t.val ∧ win0_4.index t 1 = 0) :=
  (by decide +kernel : ∀ t : Fin grid0.N, _)

/-- The gain and its gradient are read and written whole. -/
theorem idx_whole : ∀ t : Fin cfg0.N, (win0_1.index t 0 = 0 ∧ win0_1.index t 1 = 0) ∧ (win0_5.index t 0 = 0 ∧ win0_5.index t 1 = 0) :=
  (by decide +kernel : ∀ t : Fin grid0.N, _)

/-- The block of rows that a point reads. -/
theorem blk0 (c : Dev nD) (t : Fin cfg0.N) (a : Fin 512) : rowOf (A := 512) (iblk m c 0 t) a = rowOf (argX m c) ((7 - t.val) * 512 + a) := by
  refine rowOf_block (A := 512) _ (argX m c) ((7 - t.val) * 512) (fun y => ?_) a
  unfold iblk
  rw [View.read_apply]
  show (V m c main_arg0 : S4096x2048.Idx → EReal) _ = _
  rw [V_main_arg0]
  obtain ⟨e0, e1⟩ := (idx_rev t).1
  refine eq_at2 _ _ _ _ ?_ ?_ <;> blk_simp
  · omega
  · omega

/-- The gain that a point reads. -/
theorem blk1 (c : Dev nD) (t : Fin cfg0.N) (a : Fin 1) : rowOf (A := 1) (iblk m c 1 t) a = rowOf (argG m c) 0 := by
  refine (rowOf_block (A := 1) _ (argG m c) 0 (fun y => ?_) a).trans (by rw [zero_add, show (a : ℕ) = 0 by omega])
  unfold iblk
  rw [View.read_apply]
  show (V m c main_arg1 : S1x2048.Idx → EReal) _ = _
  rw [V_main_arg1]
  obtain ⟨e0, e1⟩ := (idx_whole t).1
  refine eq_at2 _ _ _ _ ?_ ?_ <;> blk_simp
  · omega
  · omega

/-- The block of the arriving gradient that a point reads. -/
theorem blk2 (c : Dev nD) (t : Fin cfg0.N) (a : Fin 512) : rowOf (A := 512) (iblk m c 2 t) a = rowOf (argD m c) ((7 - t.val) * 512 + a) := by
  refine rowOf_block (A := 512) _ (argD m c) ((7 - t.val) * 512) (fun y => ?_) a
  unfold iblk
  rw [View.read_apply]
  show (V m c main_arg2 : S4096x2048.Idx → EReal) _ = _
  rw [V_main_arg2]
  obtain ⟨e0, e1⟩ := (idx_rev t).2.1
  refine eq_at2 _ _ _ _ ?_ ?_ <;> blk_simp
  · omega
  · omega

/-- The block of the residual stream's gradient that a point reads. -/
theorem blk3 (c : Dev nD) (t : Fin cfg0.N) (a : Fin 512) : rowOf (A := 512) (iblk m c 3 t) a = rowOf (argU m c) ((7 - t.val) * 512 + a) := by
  refine rowOf_block (A := 512) _ (argU m c) ((7 - t.val) * 512) (fun y => ?_) a
  unfold iblk
  rw [View.read_apply]
  show (V m c main_arg3 : S4096x2048.Idx → EReal) _ = _
  rw [V_main_arg3]
  obtain ⟨e0, e1⟩ := (idx_rev t).2.2.1
  refine eq_at2 _ _ _ _ ?_ ?_ <;> blk_simp
  · omega
  · omega

/-- The block of the rows' gradient after point `t`. -/
theorem after4 (c : Dev nD) (t : Fin cfg0.N) :
    (outsAt0 m c t.val t.isLt).1 = k0_pay2 (F := Ideal) (iblk m c 3 t) (k0_pay8 (F := Ideal) (iblk m c 0 t) (iblk m c 1 t) (iblk m c 2 t)) := by
  by_cases h : t.val % 8 = 0
  · rw [outsAt0_A m c t h]
    dsimp only
    rw [outA4 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) ((hcond0_0 t).mpr h)]
  · rw [outsAt0_B m c t h]
    dsimp only
    rw [outB4 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (outsAt0 m c (t.val - 1) (Nat.lt_of_le_of_lt (Nat.sub_le _ _) t.isLt)).2 (fun hc => h ((hcond0_0 t).mp hc))]

/-- That block, entry by entry. -/
theorem point_at (c : Dev nD) (t : Fin cfg0.N) (a : Fin 512) (b : Fin 2048) :
    k0_pay2 (F := Ideal) (iblk m c 3 t) (k0_pay8 (F := Ideal) (iblk m c 0 t) (iblk m c 1 t) (iblk m c 2 t)) (ix2 a b)
      = back (rowOf (argX m c) ((7 - t.val) * 512 + a)) (rowOf (argG m c) 0) (rowOf (argD m c) ((7 - t.val) * 512 + a)) b + rowOf (argU m c) ((7 - t.val) * 512 + a) b := by
  refine (back_at _ _ _ _ a b).trans ?_
  rw [blk0, blk2, blk3, show rowOf (A := 1) (iblk m c 1 t) 0 = rowOf (argG m c) 0 from blk1 m c t 0]

/-- The gain's accumulator after the first point. -/
theorem after5_first (c : Dev nD) (t : Fin cfg0.N) (h : t.val % 8 = 0) :
    (outsAt0 m c t.val t.isLt).2 = k0_pay3 (F := Ideal) (k0_pay7 (F := Ideal) (iblk m c 0 t) (iblk m c 2 t)) (k0_pay1 (F := Ideal)) := by
  rw [outsAt0_A m c t h]
  dsimp only
  rw [outA5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) ((hcond0_0 t).mpr h)]

/-- The gain's accumulator after a later point. -/
theorem after5_next (c : Dev nD) (t : Fin cfg0.N) (h : ¬t.val % 8 = 0) :
    (outsAt0 m c t.val t.isLt).2 = k0_pay3 (F := Ideal) (k0_pay7 (F := Ideal) (iblk m c 0 t) (iblk m c 2 t)) (outsAt0 m c (t.val - 1) (Nat.lt_of_le_of_lt (Nat.sub_le _ _) t.isLt)).2 := by
  rw [outsAt0_B m c t h]
  dsimp only
  rw [outB5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (outsAt0 m c (t.val - 1) (Nat.lt_of_le_of_lt (Nat.sub_le _ _) t.isLt)).2 (fun hc => h ((hcond0_0 t).mp hc))]

/-- What row `r` adds to the gain's gradient. -/
def gainRow (c : Dev nD) (b : Fin 2048) (r : ℕ) : EReal := gain (rowOf (argX m c) r) (rowOf (argD m c) r) b

/-- The share of block `s`. -/
def gainBlock (c : Dev nD) (b : Fin 2048) (s : ℕ) : EReal := ∑ x : Fin 512, gainRow m c b ((7 - s) * 512 + x)

/-- The share of a point's block, from the blocks it reads. -/
theorem gainBlock_eq (c : Dev nD) (t : Fin cfg0.N) (b : Fin 2048) :
    ∑ r : Fin 512, gain (rowOf (A := 512) (iblk m c 0 t) r) (rowOf (A := 512) (iblk m c 2 t) r) b = gainBlock m c b t.val :=
  sum_congr rfl fun r _ => by rw [blk0, blk2]; rfl

/-- The accumulator after point `t` holds the shares of the blocks so far. -/
theorem after5 (c : Dev nD) (a : Fin 1) (b : Fin 2048) :
    ∀ (t : ℕ) (ht : t < cfg0.N), (outsAt0 m c t ht).2 (ix2 a b) = ∑ s ∈ range (t + 1), gainBlock m c b s := by
  intro t
  induction t with
  | zero =>
    intro ht
    refine (congrFun (after5_first m c ⟨0, ht⟩ rfl) (ix2 a b)).trans ((gain_at _ _ _ a b).trans ?_)
    rw [zero_at, zero_add, zero_add, range_one, sum_singleton]
    exact gainBlock_eq m c ⟨0, ht⟩ b
  | succ t ih =>
    intro ht
    have hN : cfg0.N = 8 := rfl
    have hne : ¬ (t + 1) % 8 = 0 := by omega
    rw [sum_range_succ _ (t + 1)]
    refine (congrFun (after5_next m c ⟨t + 1, ht⟩ hne) (ix2 a b)).trans ((gain_at _ _ _ a b).trans ?_)
    exact congrArg₂ (· + ·) (ih (by omega)) (gainBlock_eq m c ⟨t + 1, ht⟩ b)

/-- The gradient of the rows. -/
def resultX (c : Dev nD) : S4096x2048.Idx → EReal := fun i =>
  back (rowOf (argX m c) (i 0).val) (rowOf (argG m c) 0) (rowOf (argD m c) (i 0).val) (i 1) + rowOf (argU m c) (i 0).val (i 1)

/-- The gradient of the gain. -/
def resultG (c : Dev nD) : S1x2048.Idx → EReal := fun i => ∑ r : Fin 4096, gainRow m c (i 1) r

/-- The rows' gradient at given coordinates. -/
theorem resultX_at (c : Dev nD) (i : S4096x2048.Idx) (r : ℕ) (b : Fin 2048) (hr : (i 0).val = r) (hb : (i 1).val = b.val) :
    back (rowOf (argX m c) r) (rowOf (argG m c) 0) (rowOf (argD m c) r) b + rowOf (argU m c) r b = resultX m c i := by
  subst hr
  have : b = i 1 := Fin.ext hb.symm
  subst this
  rfl

/-- The gain's gradient at given coordinates. -/
theorem resultG_at (c : Dev nD) (i : S1x2048.Idx) (b : Fin 2048) (hb : (i 1).val = b.val) : ∑ r : Fin 4096, gainRow m c b r = resultG m c i := by
  have : b = i 1 := Fin.ext hb.symm
  subst this
  rfl

/-- What the call leaves in the rows' gradient. -/
theorem finalX (c : Dev nD) : (dats m 0 c).arrAt 4 cfg0.N = resultX m c := by
  refine (dats m 0 c).arrAt_eq_of_covers 4 (resultX m c) (by decide +kernel) fun t hf y => ?_
  obtain ⟨e0, e1⟩ := (idx_rev t).2.2.2
  have h0 : (y 0).val < 512 := (y 0).isLt
  have h1 : (y 1).val < 2048 := (y 1).isLt
  blk_simp
  rw [after0_4, after4]
  refine (congrArg (k0_pay2 (F := Ideal) _ _) (eq_ix2 y)).trans ((point_at m c t (y 0) (y 1)).trans ?_)
  refine resultX_at m c _ _ _ ?_ ?_ <;> blk_simp <;> omega

/-- What the call leaves in the gain's gradient. -/
theorem finalG (c : Dev nD) : (dats m 0 c).arrAt 5 cfg0.N = resultG m c := by
  refine (dats m 0 c).arrAt_eq_of_covers 5 (resultG m c) (by decide +kernel) fun t hf y => ?_
  obtain ⟨e0, e1⟩ := (idx_whole t).2
  have h0 : (y 0).val < 1 := (y 0).isLt
  have h1 : (y 1).val < 2048 := (y 1).isLt
  have ht : t.val = 7 := by have := (flush0_5 t).mp hf; have := t.isLt; have hN : cfg0.N = 8 := rfl; omega
  blk_simp
  rw [after0_5]
  refine (congrArg ((outsAt0 m c t.val t.isLt).2) (eq_ix2 y)).trans ((after5 m c _ _ t.val t.isLt).trans ?_)
  rw [ht]
  refine (shares (gainRow m c (y 1))).trans ?_
  refine resultG_at m c _ _ ?_ <;> blk_simp <;> omega

end Cert.NormBwdIdeal.Rows

namespace Cert.NormBwdRefIdeal.Rows

open Cert.NormBwdRefIdeal Cert.NormBwdRefIdeal.Read Cert.Blocked Cert.Norm
open Idealize.ShloMosaic Idealize.ShloMosaic.TcCoe Idealize.SL.Sem
open Finset

variable (x0 : S4096x2048.Idx → EReal) (x1 : S1x2048.Idx → EReal) (x2 x3 : S4096x2048.Idx → EReal)

/-- A zero in front of a sum. -/
theorem zero_front (x : EReal) : Ideal.ofBits .f32 0x00000000#32 + x = x := (congrArg (· + x) Ideal.ofBits_zero_f32).trans (zero_add x)

/-- The mean squares of the rows. -/
theorem ms_at (i : S4096x1.Idx) : val_main_v7 (F := Ideal) x0 i = ms (rowOf x0 (i 0).val) := by
  rw [val_main_v7_apply, val_main_v5_apply, val_main_v3_apply, val_main_v2_apply, val_main_v4_apply, val_main_cst_0_apply, val_main_v6_apply,
    val_main_cst_1_apply, val_main_cst_apply]
  refine congrArg (fun s => Ideal.div s width + _) ((zero_front _).trans (sum_congr rfl fun k _ => ?_))
  rw [val_main_v1_apply]
  exact congrArg₂ (· * ·) (eq_at2 x0 _ _ _ rfl rfl) (eq_at2 x0 _ _ _ rfl rfl)

/-- One over their roots. -/
theorem inv_at (i : S4096x1.Idx) : val_main_v8 (F := Ideal) x0 i = invRoot (rowOf x0 (i 0).val) := by
  rw [val_main_v8_apply, ms_at]
  rfl

/-- The gain, spread over the rows. -/
theorem spread_at (i : S4096x2048.Idx) : val_main_v21 (F := Ideal) x1 i = rowOf x1 0 (i 1) := by
  have h1 : (i 1).val < 2048 := (i 1).isLt
  rw [val_main_v21_apply, val_main_v14_apply, val_main_v0_apply]
  exact eq_at2 x1 _ _ _ rfl (show (i 1).val % 2048 = (i 1).val by omega)

/-- The arriving gradient times the gain. -/
theorem scaled_at (i : S4096x2048.Idx) : val_main_v22 (F := Ideal) x1 x2 i = rowOf x2 (i 0).val (i 1) * rowOf x1 0 (i 1) := by
  rw [val_main_v22_apply, val_main_v17_apply, spread_at]
  exact congrArg (· * _) (eq_at2 x2 _ _ _ rfl rfl)

/-- A row's element times the scaled gradient's. -/
theorem prod_at (i : S4096x2048.Idx) (r : ℕ) (k : Fin 2048) (hr : (i 0).val = r) (hk : (i 1).val = k.val) :
    val_main_v24 (F := Ideal) x0 x1 x2 i = rowOf x0 r k * (rowOf x2 r k * rowOf x1 0 k) := by
  subst hr
  obtain rfl : k = i 1 := Fin.ext hk.symm
  rw [val_main_v24_apply, scaled_at]
  exact congrArg (· * _) (eq_at2 x0 _ _ _ rfl rfl)

/-- What each element receives through the mean square. -/
theorem share_at (i : S4096x2048.Idx) : val_main_v33 (F := Ideal) x0 x1 x2 i = share (rowOf x0 (i 0).val) (rowOf x1 0) (rowOf x2 (i 0).val) := by
  rw [val_main_v33_apply, val_main_v32_apply, val_main_cst_7_apply]
  refine (zero_front _).trans ((Fin.sum_univ_one _).trans ?_)
  rw [val_main_v31_apply, val_main_v29_apply, val_main_v30_apply, val_main_cst_6_apply, val_main_v26_apply, val_main_v25_apply, val_main_cst_5_apply,
    val_main_v11_apply, val_main_v10_apply, val_main_cst_2_apply, val_main_v9_apply, inv_at, ms_at]
  refine congrArg (fun s => Ideal.div (s * _) width) ((zero_front _).trans (sum_congr rfl fun k _ => ?_))
  exact prod_at x0 x1 x2 _ _ k (show (i 0).val * 1 + 0 = (i 0).val by omega) rfl

/-- The rows' gradient. -/
theorem back_at (i : S4096x2048.Idx) : val_main_v39 (F := Ideal) x0 x1 x2 x3 i = back (rowOf x0 (i 0).val) (rowOf x1 0) (rowOf x2 (i 0).val) (i 1) + rowOf x3 (i 0).val (i 1) := by
  rw [val_main_v39_apply, val_main_v37_apply, val_main_v35_apply, val_main_v28_apply, val_main_v34_apply, val_main_v36_apply, share_at, scaled_at, val_main_v27_apply, inv_at]
  refine (add_comm _ _).trans ?_
  have e0 : x0 i = rowOf x0 (i 0).val (i 1) := eq_at2 x0 _ _ _ rfl rfl
  have e3 : x3 i = rowOf x3 (i 0).val (i 1) := eq_at2 x3 _ _ _ rfl rfl
  rw [e0, e3]
  rfl

/-- The gain's gradient. -/
theorem gain_at (i : S1x2048.Idx) : val_main_v38 (F := Ideal) x0 x2 i = ∑ r : Fin 4096, gain (rowOf x0 r) (rowOf x2 r) (i 1) := by
  have h1 : (i 1).val < 2048 := (i 1).isLt
  rw [val_main_v38_apply, val_main_v23_apply, val_main_cst_4_apply]
  refine (zero_front _).trans ((Fin.sum_univ_one _).trans ?_)
  rw [val_main_v20_apply, val_main_v19_apply, val_main_cst_3_apply]
  refine (zero_front _).trans (sum_congr rfl fun r _ => ?_)
  rw [val_main_v18_apply, val_main_v13_apply, val_main_v12_apply, inv_at, val_main_v17_apply]
  refine congrArg₂ (· * ·) (congrArg (· * _) (eq_at2 x0 _ _ _ rfl ?_)) (eq_at2 x2 _ _ _ rfl ?_)
  · show 0 * 2048 + (i 1).val = (i 1).val; omega
  · show 0 * 2048 + (i 1).val = (i 1).val; omega

end Cert.NormBwdRefIdeal.Rows

namespace Cert.Proof.NormBwd

open Cert.NormBwdIdeal.Rows Cert.Norm
open Idealize.ShloMosaic Idealize.ShloMosaic.TcCoe Idealize.SL.Sem

/-- From memories that agree on the arguments both programs end with the same two results, and the arguments unchanged. -/
theorem algebraic : Cert.algebraic_NormBwdIdeal_NormBwdRefIdeal := by
  intro m ρ m' ρ' hp hag
  refine ⟨fun c => resultX m c, fun c => resultG m c,
    (θ_run Cert.NormBwdIdeal.defs _ _).mono (fun r h c => ⟨(h c).1.trans (finalX m c), (h c).2.1.trans (finalG m c), (h c).2.2⟩)
      (Cert.NormBwdIdeal.Value.run_blocks m ρ), ?_⟩
  refine (θ_run Cert.NormBwdRefIdeal.defs _ _).mono (fun r h c => ⟨(h c).1.trans ?_, (h c).2.1.trans ?_, (h c).2.2⟩)
    (Cert.NormBwdRefIdeal.Value.run m' ρ')
  · rw [Cert.NormBwdRefIdeal.Read.val_main_v39_eq]
    funext i
    refine (Cert.NormBwdRefIdeal.Rows.back_at _ _ _ _ i).trans ?_
    rw [(hag c).1, (hag c).2.1, (hag c).2.2.1, (hag c).2.2.2]
    rfl
  · rw [Cert.NormBwdRefIdeal.Read.val_main_v38_eq]
    funext i
    refine (Cert.NormBwdRefIdeal.Rows.gain_at _ _ i).trans ?_
    rw [(hag c).1, (hag c).2.2.1]
    rfl

/-- The reference runs to its end, leaves its arguments unchanged and every counter at zero. -/
theorem frame_reference : Cert.quiescent_NormBwdRefIdeal := fun m ρ _ =>
  (θ_run Cert.NormBwdRefIdeal.defs _ _).mono (fun r h => ⟨fun c => (h c).2.2, sem_eq_zero_of_no_sems (by decide) r.2⟩)
    (Cert.NormBwdRefIdeal.Value.run (F := Ideal) m ρ)

end Cert.Proof.NormBwd
-- ==== Proof.NormMixBwd.lean ====
/- The backward pass of the first norm, whose arriving gradient is the mixers' sum in f32. The kernel walks the 8 blocks of 512 rows from
   the last to the first, writes each row's gradient and gathers the gradient of the gain; the two results are the
   reference's, entry by entry. -/
module

public import proofs.«01_k».proof.Defs
public import proofs.«01_k».proof.Proof.Norm
public import proofs.«01_k».proof.Proof.Gen.NormMixBwdIdeal.Value
public import proofs.«01_k».proof.Proof.Gen.NormMixBwdRefIdeal.Read

@[expose] public section

noncomputable section

namespace Cert.NormMixBwdIdeal.Rows

open Cert.NormMixBwdIdeal Cert.NormMixBwdIdeal.Gen Cert.NormMixBwdIdeal.Value Cert.Blocked Cert.Norm
open Idealize.ShloMosaic Idealize.ShloMosaic.TcCoe Idealize.SL.Sem
open Finset

/-- The mean squares of a block's rows. -/
theorem ms_at (x : FVec Ideal S512x2048 .f32) (a : Fin 512) (b : Fin 1) : k0_pay4 (F := Ideal) x (ix2 a b) = ms (rowOf x a) := by
  pointwise [k0_pay4]
  rw [← rowOf_eq]
  rfl

/-- One over their roots. -/
theorem inv_at (x : FVec Ideal S512x2048 .f32) (a : Fin 512) (b : Fin 1) : k0_pay5 (F := Ideal) x (ix2 a b) = invRoot (rowOf x a) := by
  show Ideal.rsqrt (k0_pay4 (F := Ideal) x (ix2 a b)) = _
  rw [ms_at]
  rfl

/-- The gradient of a block's rows. -/
theorem back_at (x : FVec Ideal S512x2048 .f32) (g : FVec Ideal S1x2048 .f32) (d : FVec Ideal S512x2048 .f32) (u : FVec Ideal S512x2048 .f32) (a : Fin 512) (b : Fin 2048) :
    k0_pay2 (F := Ideal) u (k0_pay8 (F := Ideal) x g d) (ix2 a b) = back (rowOf x a) (rowOf g 0) (rowOf d a) b + rowOf u a b := by
  pointwise [k0_pay2, k0_pay8, k0_pay6]
  simp only [Fin.sum_univ_one, ms_at, inv_at]
  rw [← rowOf_eq x a, ← rowOf_eq d a, ← rowOf_eq u a, show rowOf g 0 = fun k => g (ix2 0 k) from (rowOf_eq (A := 1) g 0).symm]
  rfl

/-- A block's share of the gain's gradient. -/
theorem gain_at (x : FVec Ideal S512x2048 .f32) (d : FVec Ideal S512x2048 .f32) (o : FVec Ideal S1x2048 .f32) (a : Fin 1) (b : Fin 2048) :
    k0_pay3 (F := Ideal) (k0_pay7 (F := Ideal) x d) o (ix2 a b) = o (ix2 a b) + ∑ r : Fin 512, gain (rowOf x r) (rowOf d r) b := by
  have ha : a = 0 := Subsingleton.elim _ _
  subst ha
  pointwise [k0_pay3, k0_pay7, k0_pay6]
  simp only [inv_at, ← rowOf_eq]
  rfl

/-- The accumulator starts at zero. -/
theorem zero_at (a : Fin 1) (b : Fin 2048) : (k0_pay1 (F := Ideal)) (ix2 a b) = 0 := by
  pointwise [k0_pay1]

section Frame

variable (c : Dev nD) (i : grid0.Coords) (arg1 : Memref sig .tc .vmem S512x2048 .f32) (harg1 : arg1.IsWhole) (arg2 : Memref sig .tc .vmem S1x2048 .f32) (harg2 : arg2.IsWhole) (arg3 : Memref sig .tc .vmem S512x2048 .f32) (harg3 : arg3.IsWhole) (arg4 : Memref sig .tc .vmem S512x2048 .f32) (harg4 : arg4.IsWhole) (arg5 : Memref sig .tc .vmem S512x2048 .f32) (harg5 : arg5.IsWhole) (arg6 : Memref sig .tc .vmem S1x2048 .f32) (harg6 : arg6.IsWhole)
  (x0 : Vec Ideal S512x2048 .f32) (x1 : Vec Ideal S1x2048 .f32) (x2 : Vec Ideal S512x2048 .f32) (x3 : Vec Ideal S512x2048 .f32) (xo5 : Vec Ideal S1x2048 .f32)

/-- The rows' gradient after the first point. -/
theorem outA4 (hc0 : cond0_0 i) : out0_A_4 c i arg1 harg1 arg2 harg2 arg3 harg3 arg4 harg4 arg5 harg5 arg6 harg6 hc0 x0 x1 x2 x3 = k0_pay2 (F := Ideal) x3 (k0_pay8 (F := Ideal) x0 x1 x2) := by
  frame_out

/-- The gain's accumulator after the first point. -/
theorem outA5 (hc0 : cond0_0 i) : out0_A_5 c i arg1 harg1 arg2 harg2 arg3 harg3 arg4 harg4 arg5 harg5 arg6 harg6 hc0 x0 x1 x2 x3 = k0_pay3 (F := Ideal) (k0_pay7 (F := Ideal) x0 x2) (k0_pay1 (F := Ideal)) := by
  frame_out

/-- The rows' gradient after a later point. -/
theorem outB4 (hc0 : ¬cond0_0 i) : out0_B_4 c i arg1 harg1 arg2 harg2 arg3 harg3 arg4 harg4 arg5 harg5 arg6 harg6 hc0 x0 x1 x2 x3 xo5 = k0_pay2 (F := Ideal) x3 (k0_pay8 (F := Ideal) x0 x1 x2) := by
  frame_out

/-- The gain's accumulator after a later point. -/
theorem outB5 (hc0 : ¬cond0_0 i) : out0_B_5 c i arg1 harg1 arg2 harg2 arg3 harg3 arg4 harg4 arg5 harg5 arg6 harg6 hc0 x0 x1 x2 x3 xo5 = k0_pay3 (F := Ideal) (k0_pay7 (F := Ideal) x0 x2) xo5 := by
  frame_out

end Frame

variable (m : (ℓ : Loc nD τ sig) → Buf (Elt Ideal) ℓ)

/-- The rows as launched. -/
abbrev argX (c : Dev nD) : S4096x2048.Idx → EReal := m ((c : Thread nD τ).loc main_arg0)
/-- The gain as launched. -/
abbrev argG (c : Dev nD) : S1x2048.Idx → EReal := m ((c : Thread nD τ).loc main_arg1)
/-- The arriving gradient as launched. -/
abbrev argD (c : Dev nD) : S4096x2048.Idx → EReal := m ((c : Thread nD τ).loc main_arg2)
/-- The gradient of the residual stream as launched. -/
abbrev argU (c : Dev nD) : S4096x2048.Idx → EReal := m ((c : Thread nD τ).loc main_arg3)

/-- The blocks that grid point `t` reads or writes, from the last to the first. -/
theorem idx_rev : ∀ t : Fin cfg0.N, (win0_0.index t 0 = 7 - t.val ∧ win0_0.index t 1 = 0) ∧ (win0_2.index t 0 = 7 - t.val ∧ win0_2.index t 1 = 0)
      ∧ (win0_3.index t 0 = 7 - t.val ∧ win0_3.index t 1 = 0) ∧ (win0_4.index t 0 = 7 - t.val ∧ win0_4.index t 1 = 0) :=
  (by decide +kernel : ∀ t : Fin grid0.N, _)

/-- The gain and its gradient are read and written whole. -/
theorem idx_whole : ∀ t : Fin cfg0.N, (win0_1.index t 0 = 0 ∧ win0_1.index t 1 = 0) ∧ (win0_5.index t 0 = 0 ∧ win0_5.index t 1 = 0) :=
  (by decide +kernel : ∀ t : Fin grid0.N, _)

/-- The block of rows that a point reads. -/
theorem blk0 (c : Dev nD) (t : Fin cfg0.N) (a : Fin 512) : rowOf (A := 512) (iblk m c 0 t) a = rowOf (argX m c) ((7 - t.val) * 512 + a) := by
  refine rowOf_block (A := 512) _ (argX m c) ((7 - t.val) * 512) (fun y => ?_) a
  unfold iblk
  rw [View.read_apply]
  show (V m c main_arg0 : S4096x2048.Idx → EReal) _ = _
  rw [V_main_arg0]
  obtain ⟨e0, e1⟩ := (idx_rev t).1
  refine eq_at2 _ _ _ _ ?_ ?_ <;> blk_simp
  · omega
  · omega

/-- The gain that a point reads. -/
theorem blk1 (c : Dev nD) (t : Fin cfg0.N) (a : Fin 1) : rowOf (A := 1) (iblk m c 1 t) a = rowOf (argG m c) 0 := by
  refine (rowOf_block (A := 1) _ (argG m c) 0 (fun y => ?_) a).trans (by rw [zero_add, show (a : ℕ) = 0 by omega])
  unfold iblk
  rw [View.read_apply]
  show (V m c main_arg1 : S1x2048.Idx → EReal) _ = _
  rw [V_main_arg1]
  obtain ⟨e0, e1⟩ := (idx_whole t).1
  refine eq_at2 _ _ _ _ ?_ ?_ <;> blk_simp
  · omega
  · omega

/-- The block of the arriving gradient that a point reads. -/
theorem blk2 (c : Dev nD) (t : Fin cfg0.N) (a : Fin 512) : rowOf (A := 512) (iblk m c 2 t) a = rowOf (argD m c) ((7 - t.val) * 512 + a) := by
  refine rowOf_block (A := 512) _ (argD m c) ((7 - t.val) * 512) (fun y => ?_) a
  unfold iblk
  rw [View.read_apply]
  show (V m c main_arg2 : S4096x2048.Idx → EReal) _ = _
  rw [V_main_arg2]
  obtain ⟨e0, e1⟩ := (idx_rev t).2.1
  refine eq_at2 _ _ _ _ ?_ ?_ <;> blk_simp
  · omega
  · omega

/-- The block of the residual stream's gradient that a point reads. -/
theorem blk3 (c : Dev nD) (t : Fin cfg0.N) (a : Fin 512) : rowOf (A := 512) (iblk m c 3 t) a = rowOf (argU m c) ((7 - t.val) * 512 + a) := by
  refine rowOf_block (A := 512) _ (argU m c) ((7 - t.val) * 512) (fun y => ?_) a
  unfold iblk
  rw [View.read_apply]
  show (V m c main_arg3 : S4096x2048.Idx → EReal) _ = _
  rw [V_main_arg3]
  obtain ⟨e0, e1⟩ := (idx_rev t).2.2.1
  refine eq_at2 _ _ _ _ ?_ ?_ <;> blk_simp
  · omega
  · omega

/-- The block of the rows' gradient after point `t`. -/
theorem after4 (c : Dev nD) (t : Fin cfg0.N) :
    (outsAt0 m c t.val t.isLt).1 = k0_pay2 (F := Ideal) (iblk m c 3 t) (k0_pay8 (F := Ideal) (iblk m c 0 t) (iblk m c 1 t) (iblk m c 2 t)) := by
  by_cases h : t.val % 8 = 0
  · rw [outsAt0_A m c t h]
    dsimp only
    rw [outA4 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) ((hcond0_0 t).mpr h)]
  · rw [outsAt0_B m c t h]
    dsimp only
    rw [outB4 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (outsAt0 m c (t.val - 1) (Nat.lt_of_le_of_lt (Nat.sub_le _ _) t.isLt)).2 (fun hc => h ((hcond0_0 t).mp hc))]

/-- That block, entry by entry. -/
theorem point_at (c : Dev nD) (t : Fin cfg0.N) (a : Fin 512) (b : Fin 2048) :
    k0_pay2 (F := Ideal) (iblk m c 3 t) (k0_pay8 (F := Ideal) (iblk m c 0 t) (iblk m c 1 t) (iblk m c 2 t)) (ix2 a b)
      = back (rowOf (argX m c) ((7 - t.val) * 512 + a)) (rowOf (argG m c) 0) (rowOf (argD m c) ((7 - t.val) * 512 + a)) b + rowOf (argU m c) ((7 - t.val) * 512 + a) b := by
  refine (back_at _ _ _ _ a b).trans ?_
  rw [blk0, blk2, blk3, show rowOf (A := 1) (iblk m c 1 t) 0 = rowOf (argG m c) 0 from blk1 m c t 0]

/-- The gain's accumulator after the first point. -/
theorem after5_first (c : Dev nD) (t : Fin cfg0.N) (h : t.val % 8 = 0) :
    (outsAt0 m c t.val t.isLt).2 = k0_pay3 (F := Ideal) (k0_pay7 (F := Ideal) (iblk m c 0 t) (iblk m c 2 t)) (k0_pay1 (F := Ideal)) := by
  rw [outsAt0_A m c t h]
  dsimp only
  rw [outA5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) ((hcond0_0 t).mpr h)]

/-- The gain's accumulator after a later point. -/
theorem after5_next (c : Dev nD) (t : Fin cfg0.N) (h : ¬t.val % 8 = 0) :
    (outsAt0 m c t.val t.isLt).2 = k0_pay3 (F := Ideal) (k0_pay7 (F := Ideal) (iblk m c 0 t) (iblk m c 2 t)) (outsAt0 m c (t.val - 1) (Nat.lt_of_le_of_lt (Nat.sub_le _ _) t.isLt)).2 := by
  rw [outsAt0_B m c t h]
  dsimp only
  rw [outB5 c (grid0.coords t) (ms0_0 t) (hs0_0 t) (ms0_1 t) (hs0_1 t) (ms0_2 t) (hs0_2 t) (ms0_3 t) (hs0_3 t) (ms0_4 t) (hs0_4 t) (ms0_5 t) (hs0_5 t) (iblk m c 0 t) (iblk m c 1 t) (iblk m c 2 t) (iblk m c 3 t) (outsAt0 m c (t.val - 1) (Nat.lt_of_le_of_lt (Nat.sub_le _ _) t.isLt)).2 (fun hc => h ((hcond0_0 t).mp hc))]

/-- What row `r` adds to the gain's gradient. -/
def gainRow (c : Dev nD) (b : Fin 2048) (r : ℕ) : EReal := gain (rowOf (argX m c) r) (rowOf (argD m c) r) b

/-- The share of block `s`. -/
def gainBlock (c : Dev nD) (b : Fin 2048) (s : ℕ) : EReal := ∑ x : Fin 512, gainRow m c b ((7 - s) * 512 + x)

/-- The share of a point's block, from the blocks it reads. -/
theorem gainBlock_eq (c : Dev nD) (t : Fin cfg0.N) (b : Fin 2048) :
    ∑ r : Fin 512, gain (rowOf (A := 512) (iblk m c 0 t) r) (rowOf (A := 512) (iblk m c 2 t) r) b = gainBlock m c b t.val :=
  sum_congr rfl fun r _ => by rw [blk0, blk2]; rfl

/-- The accumulator after point `t` holds the shares of the blocks so far. -/
theorem after5 (c : Dev nD) (a : Fin 1) (b : Fin 2048) :
    ∀ (t : ℕ) (ht : t < cfg0.N), (outsAt0 m c t ht).2 (ix2 a b) = ∑ s ∈ range (t + 1), gainBlock m c b s := by
  intro t
  induction t with
  | zero =>
    intro ht
    refine (congrFun (after5_first m c ⟨0, ht⟩ rfl) (ix2 a b)).trans ((gain_at _ _ _ a b).trans ?_)
    rw [zero_at, zero_add, zero_add, range_one, sum_singleton]
    exact gainBlock_eq m c ⟨0, ht⟩ b
  | succ t ih =>
    intro ht
    have hN : cfg0.N = 8 := rfl
    have hne : ¬ (t + 1) % 8 = 0 := by omega
    rw [sum_range_succ _ (t + 1)]
    refine (congrFun (after5_next m c ⟨t + 1, ht⟩ hne) (ix2 a b)).trans ((gain_at _ _ _ a b).trans ?_)
    exact congrArg₂ (· + ·) (ih (by omega)) (gainBlock_eq m c ⟨t + 1, ht⟩ b)

/-- The gradient of the rows. -/
def resultX (c : Dev nD) : S4096x2048.Idx → EReal := fun i =>
  back (rowOf (argX m c) (i 0).val) (rowOf (argG m c) 0) (rowOf (argD m c) (i 0).val) (i 1) + rowOf (argU m c) (i 0).val (i 1)

/-- The gradient of the gain. -/
def resultG (c : Dev nD) : S1x2048.Idx → EReal := fun i => ∑ r : Fin 4096, gainRow m c (i 1) r

/-- The rows' gradient at given coordinates. -/
theorem resultX_at (c : Dev nD) (i : S4096x2048.Idx) (r : ℕ) (b : Fin 2048) (hr : (i 0).val = r) (hb : (i 1).val = b.val) :
    back (rowOf (argX m c) r) (rowOf (argG m c) 0) (rowOf (argD m c) r) b + rowOf (argU m c) r b = resultX m c i := by
  subst hr
  have : b = i 1 := Fin.ext hb.symm
  subst this
  rfl

/-- The gain's gradient at given coordinates. -/
theorem resultG_at (c : Dev nD) (i : S1x2048.Idx) (b : Fin 2048) (hb : (i 1).val = b.val) : ∑ r : Fin 4096, gainRow m c b r = resultG m c i := by
  have : b = i 1 := Fin.ext hb.symm
  subst this
  rfl

/-- What the call leaves in the rows' gradient. -/
theorem finalX (c : Dev nD) : (dats m 0 c).arrAt 4 cfg0.N = resultX m c := by
  refine (dats m 0 c).arrAt_eq_of_covers 4 (resultX m c) (by decide +kernel) fun t hf y => ?_
  obtain ⟨e0, e1⟩ := (idx_rev t).2.2.2
  have h0 : (y 0).val < 512 := (y 0).isLt
  have h1 : (y 1).val < 2048 := (y 1).isLt
  blk_simp
  rw [after0_4, after4]
  refine (congrArg (k0_pay2 (F := Ideal) _ _) (eq_ix2 y)).trans ((point_at m c t (y 0) (y 1)).trans ?_)
  refine resultX_at m c _ _ _ ?_ ?_ <;> blk_simp <;> omega

/-- What the call leaves in the gain's gradient. -/
theorem finalG (c : Dev nD) : (dats m 0 c).arrAt 5 cfg0.N = resultG m c := by
  refine (dats m 0 c).arrAt_eq_of_covers 5 (resultG m c) (by decide +kernel) fun t hf y => ?_
  obtain ⟨e0, e1⟩ := (idx_whole t).2
  have h0 : (y 0).val < 1 := (y 0).isLt
  have h1 : (y 1).val < 2048 := (y 1).isLt
  have ht : t.val = 7 := by have := (flush0_5 t).mp hf; have := t.isLt; have hN : cfg0.N = 8 := rfl; omega
  blk_simp
  rw [after0_5]
  refine (congrArg ((outsAt0 m c t.val t.isLt).2) (eq_ix2 y)).trans ((after5 m c _ _ t.val t.isLt).trans ?_)
  rw [ht]
  refine (shares (gainRow m c (y 1))).trans ?_
  refine resultG_at m c _ _ ?_ <;> blk_simp <;> omega

end Cert.NormMixBwdIdeal.Rows

namespace Cert.NormMixBwdRefIdeal.Rows

open Cert.NormMixBwdRefIdeal Cert.NormMixBwdRefIdeal.Read Cert.Blocked Cert.Norm
open Idealize.ShloMosaic Idealize.ShloMosaic.TcCoe Idealize.SL.Sem
open Finset

variable (x0 : S4096x2048.Idx → EReal) (x1 : S1x2048.Idx → EReal) (x2 x3 : S4096x2048.Idx → EReal)

/-- A zero in front of a sum. -/
theorem zero_front (x : EReal) : Ideal.ofBits .f32 0x00000000#32 + x = x := (congrArg (· + x) Ideal.ofBits_zero_f32).trans (zero_add x)

/-- The mean squares of the rows. -/
theorem ms_at (i : S4096x1.Idx) : val_main_v7 (F := Ideal) x0 i = ms (rowOf x0 (i 0).val) := by
  rw [val_main_v7_apply, val_main_v5_apply, val_main_v3_apply, val_main_v2_apply, val_main_v4_apply, val_main_cst_0_apply, val_main_v6_apply,
    val_main_cst_1_apply, val_main_cst_apply]
  refine congrArg (fun s => Ideal.div s width + _) ((zero_front _).trans (sum_congr rfl fun k _ => ?_))
  rw [val_main_v1_apply]
  exact congrArg₂ (· * ·) (eq_at2 x0 _ _ _ rfl rfl) (eq_at2 x0 _ _ _ rfl rfl)

/-- One over their roots. -/
theorem inv_at (i : S4096x1.Idx) : val_main_v8 (F := Ideal) x0 i = invRoot (rowOf x0 (i 0).val) := by
  rw [val_main_v8_apply, ms_at]
  rfl

/-- The gain, spread over the rows. -/
theorem spread_at (i : S4096x2048.Idx) : val_main_v20 (F := Ideal) x1 i = rowOf x1 0 (i 1) := by
  have h1 : (i 1).val < 2048 := (i 1).isLt
  rw [val_main_v20_apply, val_main_v14_apply, val_main_v0_apply]
  exact eq_at2 x1 _ _ _ rfl (show (i 1).val % 2048 = (i 1).val by omega)

/-- The arriving gradient times the gain. -/
theorem scaled_at (i : S4096x2048.Idx) : val_main_v21 (F := Ideal) x1 x2 i = rowOf x2 (i 0).val (i 1) * rowOf x1 0 (i 1) := by
  rw [val_main_v21_apply, spread_at]
  exact congrArg (· * _) (eq_at2 x2 _ _ _ rfl rfl)

/-- A row's element times the scaled gradient's. -/
theorem prod_at (i : S4096x2048.Idx) (r : ℕ) (k : Fin 2048) (hr : (i 0).val = r) (hk : (i 1).val = k.val) :
    val_main_v23 (F := Ideal) x0 x1 x2 i = rowOf x0 r k * (rowOf x2 r k * rowOf x1 0 k) := by
  subst hr
  obtain rfl : k = i 1 := Fin.ext hk.symm
  rw [val_main_v23_apply, scaled_at]
  exact congrArg (· * _) (eq_at2 x0 _ _ _ rfl rfl)

/-- What each element receives through the mean square. -/
theorem share_at (i : S4096x2048.Idx) : val_main_v32 (F := Ideal) x0 x1 x2 i = share (rowOf x0 (i 0).val) (rowOf x1 0) (rowOf x2 (i 0).val) := by
  rw [val_main_v32_apply, val_main_v31_apply, val_main_cst_7_apply]
  refine (zero_front _).trans ((Fin.sum_univ_one _).trans ?_)
  rw [val_main_v30_apply, val_main_v28_apply, val_main_v29_apply, val_main_cst_6_apply, val_main_v25_apply, val_main_v24_apply, val_main_cst_5_apply,
    val_main_v11_apply, val_main_v10_apply, val_main_cst_2_apply, val_main_v9_apply, inv_at, ms_at]
  refine congrArg (fun s => Ideal.div (s * _) width) ((zero_front _).trans (sum_congr rfl fun k _ => ?_))
  exact prod_at x0 x1 x2 _ _ k (show (i 0).val * 1 + 0 = (i 0).val by omega) rfl

/-- The rows' gradient. -/
theorem back_at (i : S4096x2048.Idx) : val_main_v38 (F := Ideal) x0 x1 x2 x3 i = back (rowOf x0 (i 0).val) (rowOf x1 0) (rowOf x2 (i 0).val) (i 1) + rowOf x3 (i 0).val (i 1) := by
  rw [val_main_v38_apply, val_main_v36_apply, val_main_v34_apply, val_main_v27_apply, val_main_v33_apply, val_main_v35_apply, share_at, scaled_at, val_main_v26_apply, inv_at]
  refine (add_comm _ _).trans ?_
  have e0 : x0 i = rowOf x0 (i 0).val (i 1) := eq_at2 x0 _ _ _ rfl rfl
  have e3 : x3 i = rowOf x3 (i 0).val (i 1) := eq_at2 x3 _ _ _ rfl rfl
  rw [e0, e3]
  rfl

/-- The gain's gradient. -/
theorem gain_at (i : S1x2048.Idx) : val_main_v37 (F := Ideal) x0 x2 i = ∑ r : Fin 4096, gain (rowOf x0 r) (rowOf x2 r) (i 1) := by
  have h1 : (i 1).val < 2048 := (i 1).isLt
  rw [val_main_v37_apply, val_main_v22_apply, val_main_cst_4_apply]
  refine (zero_front _).trans ((Fin.sum_univ_one _).trans ?_)
  rw [val_main_v19_apply, val_main_v18_apply, val_main_cst_3_apply]
  refine (zero_front _).trans (sum_congr rfl fun r _ => ?_)
  rw [val_main_v17_apply, val_main_v13_apply, val_main_v12_apply, inv_at]
  refine congrArg₂ (· * ·) (congrArg (· * _) (eq_at2 x0 _ _ _ rfl ?_)) (eq_at2 x2 _ _ _ rfl ?_)
  · show 0 * 2048 + (i 1).val = (i 1).val; omega
  · show 0 * 2048 + (i 1).val = (i 1).val; omega

end Cert.NormMixBwdRefIdeal.Rows

namespace Cert.Proof.NormMixBwd

open Cert.NormMixBwdIdeal.Rows Cert.Norm
open Idealize.ShloMosaic Idealize.ShloMosaic.TcCoe Idealize.SL.Sem

/-- From memories that agree on the arguments both programs end with the same two results, and the arguments unchanged. -/
theorem algebraic : Cert.algebraic_NormMixBwdIdeal_NormMixBwdRefIdeal := by
  intro m ρ m' ρ' hp hag
  refine ⟨fun c => resultX m c, fun c => resultG m c,
    (θ_run Cert.NormMixBwdIdeal.defs _ _).mono (fun r h c => ⟨(h c).1.trans (finalX m c), (h c).2.1.trans (finalG m c), (h c).2.2⟩)
      (Cert.NormMixBwdIdeal.Value.run_blocks m ρ), ?_⟩
  refine (θ_run Cert.NormMixBwdRefIdeal.defs _ _).mono (fun r h c => ⟨(h c).1.trans ?_, (h c).2.1.trans ?_, (h c).2.2⟩)
    (Cert.NormMixBwdRefIdeal.Value.run m' ρ')
  · rw [Cert.NormMixBwdRefIdeal.Read.val_main_v38_eq]
    funext i
    refine (Cert.NormMixBwdRefIdeal.Rows.back_at _ _ _ _ i).trans ?_
    rw [(hag c).1, (hag c).2.1, (hag c).2.2.1, (hag c).2.2.2]
    rfl
  · rw [Cert.NormMixBwdRefIdeal.Read.val_main_v37_eq]
    funext i
    refine (Cert.NormMixBwdRefIdeal.Rows.gain_at _ _ i).trans ?_
    rw [(hag c).1, (hag c).2.2.1]
    rfl

/-- The reference runs to its end, leaves its arguments unchanged and every counter at zero. -/
theorem frame_reference : Cert.quiescent_NormMixBwdRefIdeal := fun m ρ _ =>
  (θ_run Cert.NormMixBwdRefIdeal.defs _ _).mono (fun r h => ⟨fun c => (h c).2.2, sem_eq_zero_of_no_sems (by decide) r.2⟩)
    (Cert.NormMixBwdRefIdeal.Value.run (F := Ideal) m ρ)

end Cert.Proof.NormMixBwd
-- ==== Proof.NormMemBwd.lean ====
/- The gradient of the memory norm's gain: the kernel runs at one grid point, and its result is the reference's, entry by
   entry. -/
module

public import proofs.«01_k».proof.Defs
public import proofs.«01_k».proof.Proof.Norm
public import proofs.«01_k».proof.Proof.Gen.NormMemBwdIdeal.Value
public import proofs.«01_k».proof.Proof.Gen.NormMemBwdRefIdeal.Read

@[expose] public section

noncomputable section

namespace Cert.NormMemBwdIdeal.Rows

open Cert.NormMemBwdIdeal Cert.NormMemBwdIdeal.Gen Cert.NormMemBwdIdeal.Value Cert.Blocked Cert.Norm
open Idealize.ShloMosaic Idealize.ShloMosaic.TcCoe Idealize.SL.Sem
open Finset

/-- The gain's gradient from the rows and the arriving gradient. -/
theorem gain_at (x d : FVec Ideal S256x2048 .f32) (a : Fin 1) (b : Fin 2048) :
    k0_pay2 (F := Ideal) x d (k0_pay1 (F := Ideal)) (ix2 a b) = ∑ r : Fin 256, gain (rowOf x r) (rowOf d r) b := by
  have ha : a = 0 := Subsingleton.elim _ _
  subst ha
  pointwise [k0_pay2, k0_pay1]
  simp only [← rowOf_eq, zero_add]
  rfl

/-- What the one point leaves. -/
theorem outA3 (c : Dev nD) (i : grid0.Coords) (arg1 : Memref sig .tc .vmem S256x2048 .f32) (harg1 : arg1.IsWhole) (arg2 : Memref sig .tc .vmem S1x2048 .f32) (harg2 : arg2.IsWhole) (arg3 : Memref sig .tc .vmem S256x2048 .f32) (harg3 : arg3.IsWhole) (arg4 : Memref sig .tc .vmem S1x2048 .f32) (harg4 : arg4.IsWhole)
    (x0 : Vec Ideal S256x2048 .f32) (x1 : Vec Ideal S1x2048 .f32) (x2 : Vec Ideal S256x2048 .f32) (hc0 : cond0_0 i) :
    out0_A_3 c i arg1 harg1 arg2 harg2 arg3 harg3 arg4 harg4 hc0 x0 x1 x2 = k0_pay2 (F := Ideal) x0 x2 (k0_pay1 (F := Ideal)) := by
  frame_out

variable (m : (ℓ : Loc nD τ sig) → Buf (Elt Ideal) ℓ)

/-- The rows as launched. -/
abbrev argX (c : Dev nD) : S256x2048.Idx → EReal := m ((c : Thread nD τ).loc main_arg0)
/-- The arriving gradient as launched. -/
abbrev argD (c : Dev nD) : S256x2048.Idx → EReal := m ((c : Thread nD τ).loc main_arg2)

/-- Everything is read and written whole. -/
theorem idx_whole : ∀ t : Fin cfg0.N, (win0_0.index t 0 = 0 ∧ win0_0.index t 1 = 0) ∧ (win0_2.index t 0 = 0 ∧ win0_2.index t 1 = 0)
      ∧ (win0_3.index t 0 = 0 ∧ win0_3.index t 1 = 0) :=
  (by decide +kernel : ∀ t : Fin grid0.N, _)

/-- What the one point reads of argument 0. -/
theorem blk0 (c : Dev nD) (t : Fin cfg0.N) (a : Fin 256) : rowOf (A := 256) (iblk m c 0 t) a = rowOf (argX m c) a := by
  refine (rowOf_block (A := 256) _ (argX m c) 0 (fun y => ?_) a).trans (by rw [zero_add])
  unfold iblk
  rw [View.read_apply]
  show (V m c main_arg0 : S256x2048.Idx → EReal) _ = _
  rw [V_main_arg0]
  obtain ⟨e0, e1⟩ := (idx_whole t).1
  refine eq_at2 _ _ _ _ ?_ ?_ <;> blk_simp
  · omega
  · omega

/-- What the one point reads of argument 2. -/
theorem blk2 (c : Dev nD) (t : Fin cfg0.N) (a : Fin 256) : rowOf (A := 256) (iblk m c 2 t) a = rowOf (argD m c) a := by
  refine (rowOf_block (A := 256) _ (argD m c) 0 (fun y => ?_) a).trans (by rw [zero_add])
  unfold iblk
  rw [View.read_apply]
  show (V m c main_arg2 : S256x2048.Idx → EReal) _ = _
  rw [V_main_arg2]
  obtain ⟨e0, e1⟩ := (idx_whole t).2.1
  refine eq_at2 _ _ _ _ ?_ ?_ <;> blk_simp
  · omega
  · omega

/-- The gain's gradient after the one point. -/
theorem after3 (c : Dev nD) (t : Fin cfg0.N) : outsAt0 m c t = k0_pay2 (F := Ideal) (iblk m c 0 t) (iblk m c 2 t) (k0_pay1 (F := Ideal)) := by
  unfold outsAt0
  rw [outA3 c (grid0.coords t) (ms0_0 t) (hs0_0 t) (ms0_1 t) (hs0_1 t) (ms0_2 t) (hs0_2 t) (ms0_3 t) (hs0_3 t) (iblk m c 0 t) (iblk m c 1 t) (iblk m c 2 t) (hcond0_0 t)]

/-- That block, entry by entry. -/
theorem point_at (c : Dev nD) (t : Fin cfg0.N) (a : Fin 1) (b : Fin 2048) :
    k0_pay2 (F := Ideal) (iblk m c 0 t) (iblk m c 2 t) (k0_pay1 (F := Ideal)) (ix2 a b) = ∑ r : Fin 256, gain (rowOf (argX m c) r) (rowOf (argD m c) r) b := by
  refine (gain_at _ _ a b).trans (sum_congr rfl fun r _ => ?_)
  rw [blk0, blk2]

/-- The gradient of the gain. -/
def resultG (c : Dev nD) : S1x2048.Idx → EReal := fun i => ∑ r : Fin 256, gain (rowOf (argX m c) r) (rowOf (argD m c) r) (i 1)

/-- The gain's gradient at given coordinates. -/
theorem resultG_at (c : Dev nD) (i : S1x2048.Idx) (b : Fin 2048) (hb : (i 1).val = b.val) :
    ∑ r : Fin 256, gain (rowOf (argX m c) r) (rowOf (argD m c) r) b = resultG m c i := by
  obtain rfl : b = i 1 := Fin.ext hb.symm
  rfl

/-- What the call leaves in the gain's gradient. -/
theorem finalG (c : Dev nD) : (dats m 0 c).arrAt 3 cfg0.N = resultG m c := by
  refine (dats m 0 c).arrAt_eq_of_covers 3 (resultG m c) (by decide +kernel) fun t hf y => ?_
  obtain ⟨e0, e1⟩ := (idx_whole t).2.2
  have h0 : (y 0).val < 1 := (y 0).isLt
  have h1 : (y 1).val < 2048 := (y 1).isLt
  blk_simp
  rw [after0_3, after3]
  refine (congrArg (k0_pay2 (F := Ideal) _ _ _) (eq_ix2 y)).trans ((point_at m c t (y 0) (y 1)).trans ?_)
  refine resultG_at m c _ _ ?_ <;> blk_simp <;> omega

end Cert.NormMemBwdIdeal.Rows

namespace Cert.NormMemBwdRefIdeal.Rows

open Cert.NormMemBwdRefIdeal Cert.NormMemBwdRefIdeal.Read Cert.Blocked Cert.Norm
open Idealize.ShloMosaic Idealize.ShloMosaic.TcCoe Idealize.SL.Sem
open Finset

variable (x0 x2 : S256x2048.Idx → EReal)

/-- A zero in front of a sum. -/
theorem zero_front (x : EReal) : Ideal.ofBits .f32 0x00000000#32 + x = x := (congrArg (· + x) Ideal.ofBits_zero_f32).trans (zero_add x)

/-- The mean squares of the rows. -/
theorem ms_at (i : S256x1.Idx) : val_main_v7 (F := Ideal) x0 i = ms (rowOf x0 (i 0).val) := by
  rw [val_main_v7_apply, val_main_v5_apply, val_main_v3_apply, val_main_v2_apply, val_main_v4_apply, val_main_cst_0_apply, val_main_v6_apply,
    val_main_cst_1_apply, val_main_cst_apply]
  refine congrArg (fun s => Ideal.div s width + _) ((zero_front _).trans (sum_congr rfl fun k _ => ?_))
  rw [val_main_v1_apply]
  exact congrArg₂ (· * ·) (eq_at2 x0 _ _ _ rfl rfl) (eq_at2 x0 _ _ _ rfl rfl)

/-- One over their roots. -/
theorem inv_at (i : S256x1.Idx) : val_main_v8 (F := Ideal) x0 i = invRoot (rowOf x0 (i 0).val) := by
  rw [val_main_v8_apply, ms_at]
  rfl

/-- The gain's gradient. -/
theorem gain_at (i : S1x2048.Idx) : val_main_v18 (F := Ideal) x0 x2 i = ∑ r : Fin 256, gain (rowOf x0 r) (rowOf x2 r) (i 1) := by
  have h1 : (i 1).val < 2048 := (i 1).isLt
  rw [val_main_v18_apply, val_main_v17_apply, val_main_cst_3_apply]
  refine (zero_front _).trans ((Fin.sum_univ_one _).trans ?_)
  rw [val_main_v16_apply, val_main_v15_apply, val_main_cst_2_apply]
  refine (zero_front _).trans (sum_congr rfl fun r _ => ?_)
  rw [val_main_v14_apply, val_main_v10_apply, val_main_v9_apply, inv_at]
  refine congrArg₂ (· * ·) (congrArg (· * _) (eq_at2 x0 _ _ _ rfl ?_)) (eq_at2 x2 _ _ _ rfl ?_)
  · show 0 * 2048 + (i 1).val = (i 1).val; omega
  · show 0 * 2048 + (i 1).val = (i 1).val; omega

end Cert.NormMemBwdRefIdeal.Rows

namespace Cert.Proof.NormMemBwd

open Cert.NormMemBwdIdeal.Rows Cert.Norm
open Idealize.ShloMosaic Idealize.ShloMosaic.TcCoe Idealize.SL.Sem

/-- From memories that agree on the arguments both programs end with the same result, and the arguments unchanged. -/
theorem algebraic : Cert.algebraic_NormMemBwdIdeal_NormMemBwdRefIdeal := by
  intro m ρ m' ρ' hp hag
  refine ⟨fun c => resultG m c,
    (θ_run Cert.NormMemBwdIdeal.defs _ _).mono (fun r h c => ⟨(h c).1.trans (finalG m c), (h c).2⟩)
      (Cert.NormMemBwdIdeal.Value.run_blocks m ρ), ?_⟩
  refine (θ_run Cert.NormMemBwdRefIdeal.defs _ _).mono (fun r h c => ⟨(h c).1.trans ?_, (h c).2⟩)
    (Cert.NormMemBwdRefIdeal.Value.run m' ρ')
  rw [Cert.NormMemBwdRefIdeal.Read.val_main_v18_eq]
  funext i
  refine (Cert.NormMemBwdRefIdeal.Rows.gain_at _ _ i).trans ?_
  rw [(hag c).1, (hag c).2.2]
  rfl

/-- The reference runs to its end, leaves its arguments unchanged and every counter at zero. -/
theorem frame_reference : Cert.quiescent_NormMemBwdRefIdeal := fun m ρ _ =>
  (θ_run Cert.NormMemBwdRefIdeal.defs _ _).mono (fun r h => ⟨fun c => (h c).2, sem_eq_zero_of_no_sems (by decide) r.2⟩)
    (Cert.NormMemBwdRefIdeal.Value.run (F := Ideal) m ρ)

end Cert.Proof.NormMemBwd
-- ==== Proof.LossHead.lean ====
/- The loss head: the final norm, the mean squared error's share of the device, and its gradients. The kernel walks the 8
   blocks of 512 rows from the first to the last, writes each row's gradient twice (in f32 and rounded) and gathers the
   loss and the gradient of the gain; the four results are the reference's, entry by entry. -/
module

public import proofs.«01_k».proof.Defs
public import proofs.«01_k».proof.Proof.Norm
public import proofs.«01_k».proof.Proof.Words
public import proofs.«01_k».proof.Proof.Gen.LossHeadIdeal.Value
public import proofs.«01_k».proof.Proof.Gen.LossHeadRefIdeal.Read

@[expose] public section

noncomputable section

namespace Cert.Norm

open Idealize.ShloMosaic Cert.Blocked Finset

/-- One half, as the programs write it. -/
def half : EReal := Ideal.ofBits .f32 0x3F000000#32

/-- How far a normed row is from its target. -/
def miss (x g t : Fin 2048 → EReal) (j : Fin 2048) : EReal := x j * invRoot x * g j - t j

/-- A row's mean squared miss. -/
def missMean (x g t : Fin 2048 → EReal) : EReal := Ideal.div (∑ k, miss x g t k * miss x g t k) width

/-- The gradient of the loss at the normed row. -/
def slope (x g t : Fin 2048 → EReal) (j : Fin 2048) : EReal := Ideal.div half width * (Ideal.ofBits .f32 0x40000000#32 * miss x g t j)

/-- A nonnegative finite factor comes out of a sum. -/
theorem mul_sum (c : EReal) (h0 : 0 ≤ c) (h1 : c ≠ ⊤) (n : ℕ) (f : ℕ → EReal) : ∑ s ∈ range n, c * f s = c * ∑ s ∈ range n, f s := by
  induction n with
  | zero => simp
  | succ n ih => rw [sum_range_succ, sum_range_succ, ih, EReal.left_distrib_of_nonneg_of_ne_top h0 h1]

/-- Half of a sum of block sums, block by block. -/
theorem half_blocks (f : ℕ → EReal) : ∑ s ∈ range 8, half * ∑ r : Fin 512, f (s * 512 + r) = half * ∑ r : Fin 4096, f r := by
  have e : half = ((1 / 2 : ℝ) : EReal) := Words.ofBits_half
  rw [mul_sum half (by rw [e]; exact EReal.coe_nonneg.2 (by norm_num)) (by rw [e]; exact EReal.coe_ne_top _)]
  exact congrArg (half * ·) (sum_blocks 8 512 f)

end Cert.Norm

namespace Cert.LossHeadIdeal.Rows

open Cert.LossHeadIdeal Cert.LossHeadIdeal.Gen Cert.LossHeadIdeal.Value Cert.Blocked Cert.Norm
open Idealize.ShloMosaic Idealize.ShloMosaic.TcCoe Idealize.SL.Sem
open Finset

section Step

variable (x y : FVec Ideal S512x2048 .f32) (g : FVec Ideal S1x2048 .f32)

/-- The gradient of a block's rows. -/
def stepX : FVec Ideal S512x2048 .f32 := k0_pay14 (F := Ideal) x g (k0_pay5 (F := Ideal) x) (k0_pay6 (F := Ideal) x) (k0_pay9 (F := Ideal) x y g) (k0_pay11 (F := Ideal))
/-- The same, rounded. -/
def stepW : FVec Ideal S512x2048 .bf16 := k0_pay16 (F := Ideal) x g (k0_pay5 (F := Ideal) x) (k0_pay6 (F := Ideal) x) (k0_pay9 (F := Ideal) x y g) (k0_pay11 (F := Ideal))
/-- The loss with a block's share added. -/
def stepL (o : FVec Ideal S8x128 .f32) : FVec Ideal S8x128 .f32 := k0_pay15 (F := Ideal) (k0_pay10 (F := Ideal) x y g) o
/-- The gain's gradient with a block's share added. -/
def stepG (o : FVec Ideal S1x2048 .f32) : FVec Ideal S1x2048 .f32 :=
  k0_pay1 (F := Ideal) (k0_pay13 (F := Ideal) (k0_pay7 (F := Ideal) x) (k0_pay9 (F := Ideal) x y g) (k0_pay11 (F := Ideal))) o

/-- The mean squares of a block's rows. -/
theorem ms_at (a : Fin 512) (b : Fin 1) : k0_pay4 (F := Ideal) x (ix2 a b) = ms (rowOf x a) := by
  pointwise [k0_pay4]
  rw [← rowOf_eq]
  rfl

/-- One over their roots. -/
theorem inv_at (a : Fin 512) (b : Fin 1) : k0_pay5 (F := Ideal) x (ix2 a b) = invRoot (rowOf x a) := by
  show Ideal.rsqrt (k0_pay4 (F := Ideal) x (ix2 a b)) = _
  rw [ms_at]
  rfl

/-- The gain's one row. -/
theorem gainRow_eq : rowOf g 0 = fun k => g (ix2 0 k) := (rowOf_eq (A := 1) g 0).symm

/-- The seed of the loss's gradient. -/
theorem seed_at (i : S1.Idx) : k0_pay11 (F := Ideal) i = half := by
  pointwise [k0_pay11]
  rw [Fin.sum_univ_one, Fin.sum_univ_one]
  rfl

/-- The gradient at the normed rows. -/
theorem slope_at (a : Fin 512) (b : Fin 2048) :
    k0_pay12 (F := Ideal) (k0_pay9 (F := Ideal) x y g) (k0_pay11 (F := Ideal)) (ix2 a b) = slope (rowOf x a) (rowOf g 0) (rowOf y a) b := by
  pointwise [k0_pay12, k0_pay9, k0_pay8, k0_pay7]
  rw [Fin.sum_univ_one, seed_at, inv_at, gainRow_eq]
  simp only [← rowOf_eq]
  rfl

/-- The gradient of a block's rows, entry by entry. -/
theorem stepX_at (a : Fin 512) (b : Fin 2048) :
    stepX x y g (ix2 a b) = back (rowOf x a) (rowOf g 0) (slope (rowOf x a) (rowOf g 0) (rowOf y a)) b := by
  unfold stepX
  pointwise [k0_pay14, k0_pay6]
  simp only [Fin.sum_univ_one, ms_at, inv_at, slope_at]
  have ex : ∀ k, x (ix2 a k) = rowOf x a k := fun k => congrFun (rowOf_eq x a) k
  have eg : ∀ k, g (ix2 0 k) = rowOf g 0 k := fun k => congrFun (gainRow_eq g).symm k
  simp only [ex, eg]
  rfl

/-- The rounded gradient is the same number. -/
theorem stepW_at (a : Fin 512) (b : Fin 2048) : stepW x y g (ix2 a b) = stepX x y g (ix2 a b) := rfl

/-- The loss with a block's share added, entry by entry. -/
theorem stepL_at (o : FVec Ideal S8x128 .f32) (a : Fin 8) (b : Fin 128) :
    stepL x y g o (ix2 a b) = o (ix2 a b) + half * ∑ r : Fin 512, missMean (rowOf x r) (rowOf g 0) (rowOf y r) := by
  unfold stepL
  pointwise [k0_pay15, k0_pay10, k0_pay8, k0_pay7]
  simp only [inv_at]
  rw [gainRow_eq]
  simp only [← rowOf_eq]
  rfl

/-- The gain's gradient with a block's share added, entry by entry. -/
theorem stepG_at (o : FVec Ideal S1x2048 .f32) (a : Fin 1) (b : Fin 2048) :
    stepG x y g o (ix2 a b) = o (ix2 a b) + ∑ r : Fin 512, gain (rowOf x r) (slope (rowOf x r) (rowOf g 0) (rowOf y r)) b := by
  have ha : a = 0 := Subsingleton.elim _ _
  subst ha
  unfold stepG
  pointwise [k0_pay1, k0_pay13, k0_pay7]
  simp only [inv_at, slope_at]
  have ex : ∀ r k, x (ix2 r k) = rowOf x r k := fun r k => congrFun (rowOf_eq x r) k
  simp only [ex]
  rfl

/-- The loss starts at zero. -/
theorem zeroL_at (a : Fin 8) (b : Fin 128) : (k0_pay2 (F := Ideal)) (ix2 a b) = 0 := by
  pointwise [k0_pay2]

/-- The gain's gradient starts at zero. -/
theorem zeroG_at (a : Fin 1) (b : Fin 2048) : (k0_pay3 (F := Ideal)) (ix2 a b) = 0 := by
  pointwise [k0_pay3]

end Step

section Frame

variable (c : Dev nD) (i : grid0.Coords) (arg1 : Memref sig .tc .vmem S512x2048 .f32) (harg1 : arg1.IsWhole) (arg2 : Memref sig .tc .vmem S512x2048 .f32) (harg2 : arg2.IsWhole) (arg3 : Memref sig .tc .vmem S1x2048 .f32) (harg3 : arg3.IsWhole) (arg4 : Memref sig .tc .vmem S8x128 .f32) (harg4 : arg4.IsWhole) (arg5 : Memref sig .tc .vmem S512x2048 .f32) (harg5 : arg5.IsWhole) (arg6 : Memref sig .tc .vmem S512x2048 .bf16) (harg6 : arg6.IsWhole) (arg7 : Memref sig .tc .vmem S1x2048 .f32) (harg7 : arg7.IsWhole)
  (x0 x1 : Vec Ideal S512x2048 .f32) (x2 : Vec Ideal S1x2048 .f32) (xo3 : Vec Ideal S8x128 .f32) (xo6 : Vec Ideal S1x2048 .f32)

/-- The loss after the first point. -/
theorem outA3 (hc0 : cond0_0 i) : out0_A_3 c i arg1 harg1 arg2 harg2 arg3 harg3 arg4 harg4 arg5 harg5 arg6 harg6 arg7 harg7 hc0 x0 x1 x2 = stepL x0 x1 x2 (k0_pay2 (F := Ideal)) := by
  frame_out
  rfl

/-- The rows' gradient after the first point. -/
theorem outA4 (hc0 : cond0_0 i) : out0_A_4 c i arg1 harg1 arg2 harg2 arg3 harg3 arg4 harg4 arg5 harg5 arg6 harg6 arg7 harg7 hc0 x0 x1 x2 = stepX x0 x1 x2 := by
  frame_out
  rfl

/-- The rounded gradient after the first point. -/
theorem outA5 (hc0 : cond0_0 i) : out0_A_5 c i arg1 harg1 arg2 harg2 arg3 harg3 arg4 harg4 arg5 harg5 arg6 harg6 arg7 harg7 hc0 x0 x1 x2 = stepW x0 x1 x2 := by
  frame_out
  rfl

/-- The gain's gradient after the first point. -/
theorem outA6 (hc0 : cond0_0 i) : out0_A_6 c i arg1 harg1 arg2 harg2 arg3 harg3 arg4 harg4 arg5 harg5 arg6 harg6 arg7 harg7 hc0 x0 x1 x2 = stepG x0 x1 x2 (k0_pay3 (F := Ideal)) := by
  frame_out
  rfl

/-- The loss after a later point. -/
theorem outB3 (hc0 : ¬cond0_0 i) : out0_B_3 c i arg1 harg1 arg2 harg2 arg3 harg3 arg4 harg4 arg5 harg5 arg6 harg6 arg7 harg7 hc0 x0 x1 x2 xo3 xo6 = stepL x0 x1 x2 xo3 := by
  frame_out
  rfl

/-- The rows' gradient after a later point. -/
theorem outB4 (hc0 : ¬cond0_0 i) : out0_B_4 c i arg1 harg1 arg2 harg2 arg3 harg3 arg4 harg4 arg5 harg5 arg6 harg6 arg7 harg7 hc0 x0 x1 x2 xo3 xo6 = stepX x0 x1 x2 := by
  frame_out
  rfl

/-- The rounded gradient after a later point. -/
theorem outB5 (hc0 : ¬cond0_0 i) : out0_B_5 c i arg1 harg1 arg2 harg2 arg3 harg3 arg4 harg4 arg5 harg5 arg6 harg6 arg7 harg7 hc0 x0 x1 x2 xo3 xo6 = stepW x0 x1 x2 := by
  frame_out
  rfl

/-- The gain's gradient after a later point. -/
theorem outB6 (hc0 : ¬cond0_0 i) : out0_B_6 c i arg1 harg1 arg2 harg2 arg3 harg3 arg4 harg4 arg5 harg5 arg6 harg6 arg7 harg7 hc0 x0 x1 x2 xo3 xo6 = stepG x0 x1 x2 xo6 := by
  frame_out
  rfl

end Frame

variable (m : (ℓ : Loc nD τ sig) → Buf (Elt Ideal) ℓ)

/-- The rows as launched. -/
abbrev argX (c : Dev nD) : S4096x2048.Idx → EReal := m ((c : Thread nD τ).loc main_arg0)
/-- The targets as launched. -/
abbrev argT (c : Dev nD) : S4096x2048.Idx → EReal := m ((c : Thread nD τ).loc main_arg1)
/-- The gain as launched. -/
abbrev argG (c : Dev nD) : S1x2048.Idx → EReal := m ((c : Thread nD τ).loc main_arg2)

/-- The blocks of rows that grid point `t` reads or writes, from the first to the last. -/
theorem idx_row : ∀ t : Fin cfg0.N, (win0_0.index t 0 = t.val ∧ win0_0.index t 1 = 0) ∧ (win0_1.index t 0 = t.val ∧ win0_1.index t 1 = 0)
      ∧ (win0_4.index t 0 = t.val ∧ win0_4.index t 1 = 0) ∧ (win0_5.index t 0 = t.val ∧ win0_5.index t 1 = 0) :=
  (by decide +kernel : ∀ t : Fin grid0.N, _)

/-- The gain, its gradient and the loss are read and written whole. -/
theorem idx_whole : ∀ t : Fin cfg0.N, (win0_2.index t 0 = 0 ∧ win0_2.index t 1 = 0) ∧ (win0_3.index t 0 = 0 ∧ win0_3.index t 1 = 0)
      ∧ (win0_6.index t 0 = 0 ∧ win0_6.index t 1 = 0) :=
  (by decide +kernel : ∀ t : Fin grid0.N, _)

/-- The block of rows that a point reads. -/
theorem blk0 (c : Dev nD) (t : Fin cfg0.N) (a : Fin 512) : rowOf (A := 512) (iblk m c 0 t) a = rowOf (argX m c) (t.val * 512 + a) := by
  refine rowOf_block (A := 512) _ (argX m c) (t.val * 512) (fun y => ?_) a
  unfold iblk
  rw [View.read_apply]
  show (V m c main_arg0 : S4096x2048.Idx → EReal) _ = _
  rw [V_main_arg0]
  obtain ⟨e0, e1⟩ := (idx_row t).1
  refine eq_at2 _ _ _ _ ?_ ?_ <;> blk_simp
  · omega
  · omega

/-- The block of targets that a point reads. -/
theorem blk1 (c : Dev nD) (t : Fin cfg0.N) (a : Fin 512) : rowOf (A := 512) (iblk m c 1 t) a = rowOf (argT m c) (t.val * 512 + a) := by
  refine rowOf_block (A := 512) _ (argT m c) (t.val * 512) (fun y => ?_) a
  unfold iblk
  rw [View.read_apply]
  show (V m c main_arg1 : S4096x2048.Idx → EReal) _ = _
  rw [V_main_arg1]
  obtain ⟨e0, e1⟩ := (idx_row t).2.1
  refine eq_at2 _ _ _ _ ?_ ?_ <;> blk_simp
  · omega
  · omega

/-- The gain that a point reads. -/
theorem blk2 (c : Dev nD) (t : Fin cfg0.N) : rowOf (A := 1) (iblk m c 2 t) 0 = rowOf (argG m c) 0 := by
  refine (rowOf_block (A := 1) _ (argG m c) 0 (fun y => ?_) (0 : Fin 1)).trans rfl
  unfold iblk
  rw [View.read_apply]
  show (V m c main_arg2 : S1x2048.Idx → EReal) _ = _
  rw [V_main_arg2]
  obtain ⟨e0, e1⟩ := (idx_whole t).1
  refine eq_at2 _ _ _ _ ?_ ?_ <;> blk_simp
  · omega
  · omega

/-- The block of the rows' gradient after point `t`. -/
theorem after4 (c : Dev nD) (t : Fin cfg0.N) : (outsAt0 m c t.val t.isLt).2.1 = stepX (iblk m c 0 t) (iblk m c 1 t) (iblk m c 2 t) := by
  by_cases h : t.val % 8 = 0
  · rw [outsAt0_A m c t h]
    dsimp only
    rw [outA4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) ((hcond0_0 t).mpr h)]
  · rw [outsAt0_B m c t h]
    dsimp only
    rw [outB4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.2.2 (fun hc => h ((hcond0_0 t).mp hc))]

/-- The block of the rounded gradient after point `t`. -/
theorem after5 (c : Dev nD) (t : Fin cfg0.N) : (outsAt0 m c t.val t.isLt).2.2.1 = stepW (iblk m c 0 t) (iblk m c 1 t) (iblk m c 2 t) := by
  by_cases h : t.val % 8 = 0
  · rw [outsAt0_A m c t h]
    dsimp only
    rw [outA5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) ((hcond0_0 t).mpr h)]
  · rw [outsAt0_B m c t h]
    dsimp only
    rw [outB5 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.2.2 (fun hc => h ((hcond0_0 t).mp hc))]

/-- The loss after the first point. -/
theorem after3_first (c : Dev nD) (t : Fin cfg0.N) (h : t.val % 8 = 0) : (outsAt0 m c t.val t.isLt).1 = stepL (iblk m c 0 t) (iblk m c 1 t) (iblk m c 2 t) (k0_pay2 (F := Ideal)) := by
  rw [outsAt0_A m c t h]
  dsimp only
  rw [outA3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) ((hcond0_0 t).mpr h)]

/-- The loss after a later point. -/
theorem after3_next (c : Dev nD) (t : Fin cfg0.N) (h : ¬t.val % 8 = 0) : (outsAt0 m c t.val t.isLt).1 = stepL (iblk m c 0 t) (iblk m c 1 t) (iblk m c 2 t) (outsAt0 m c (t.val - 1) (Nat.lt_of_le_of_lt (Nat.sub_le _ _) t.isLt)).1 := by
  rw [outsAt0_B m c t h]
  dsimp only
  rw [outB3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.2.2 (fun hc => h ((hcond0_0 t).mp hc))]

/-- The gain's gradient after the first point. -/
theorem after6_first (c : Dev nD) (t : Fin cfg0.N) (h : t.val % 8 = 0) : (outsAt0 m c t.val t.isLt).2.2.2 = stepG (iblk m c 0 t) (iblk m c 1 t) (iblk m c 2 t) (k0_pay3 (F := Ideal)) := by
  rw [outsAt0_A m c t h]
  dsimp only
  rw [outA6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) ((hcond0_0 t).mpr h)]

/-- The gain's gradient after a later point. -/
theorem after6_next (c : Dev nD) (t : Fin cfg0.N) (h : ¬t.val % 8 = 0) : (outsAt0 m c t.val t.isLt).2.2.2 = stepG (iblk m c 0 t) (iblk m c 1 t) (iblk m c 2 t) (outsAt0 m c (t.val - 1) (Nat.lt_of_le_of_lt (Nat.sub_le _ _) t.isLt)).2.2.2 := by
  rw [outsAt0_B m c t h]
  dsimp only
  rw [outB6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (iblk m c 0 t) (iblk m c 1 t) (iblk m c 2 t) (outsAt0 m c (t.val - 1) (Nat.lt_of_le_of_lt (Nat.sub_le _ _) t.isLt)).1 (outsAt0 m c (t.val - 1) (Nat.lt_of_le_of_lt (Nat.sub_le _ _) t.isLt)).2.2.2 (fun hc => h ((hcond0_0 t).mp hc))]

/-- The gradient of row `r`. -/
def backRow (c : Dev nD) (r : ℕ) (b : Fin 2048) : EReal :=
  back (rowOf (argX m c) r) (rowOf (argG m c) 0) (slope (rowOf (argX m c) r) (rowOf (argG m c) 0) (rowOf (argT m c) r)) b

/-- What row `r` adds to the loss, before the half. -/
def lossRow (c : Dev nD) (r : ℕ) : EReal := missMean (rowOf (argX m c) r) (rowOf (argG m c) 0) (rowOf (argT m c) r)

/-- What row `r` adds to the gain's gradient. -/
def gainRow (c : Dev nD) (b : Fin 2048) (r : ℕ) : EReal :=
  gain (rowOf (argX m c) r) (slope (rowOf (argX m c) r) (rowOf (argG m c) 0) (rowOf (argT m c) r)) b

/-- The block of the rows' gradient, entry by entry. -/
theorem point_at (c : Dev nD) (t : Fin cfg0.N) (a : Fin 512) (b : Fin 2048) :
    stepX (iblk m c 0 t) (iblk m c 1 t) (iblk m c 2 t) (ix2 a b) = backRow m c (t.val * 512 + a) b := by
  refine (stepX_at _ _ _ a b).trans ?_
  rw [blk0, blk1, blk2]
  rfl

/-- The share of block `s` in the loss. -/
def lossBlock (c : Dev nD) (s : ℕ) : EReal := half * ∑ r : Fin 512, lossRow m c (s * 512 + r)

/-- The share of block `s` in the gain's gradient. -/
def gainBlock (c : Dev nD) (b : Fin 2048) (s : ℕ) : EReal := ∑ r : Fin 512, gainRow m c b (s * 512 + r)

/-- The loss share of a point's block, from the blocks it reads. -/
theorem lossBlock_eq (c : Dev nD) (t : Fin cfg0.N) :
    half * ∑ r : Fin 512, missMean (rowOf (A := 512) (iblk m c 0 t) r) (rowOf (A := 1) (iblk m c 2 t) 0) (rowOf (A := 512) (iblk m c 1 t) r) = lossBlock m c t.val :=
  congrArg (half * ·) (sum_congr rfl fun r _ => by rw [blk0, blk1, blk2]; rfl)

/-- The gain's share of a point's block, from the blocks it reads. -/
theorem gainBlock_eq (c : Dev nD) (t : Fin cfg0.N) (b : Fin 2048) :
    ∑ r : Fin 512, gain (rowOf (A := 512) (iblk m c 0 t) r) (slope (rowOf (A := 512) (iblk m c 0 t) r) (rowOf (A := 1) (iblk m c 2 t) 0) (rowOf (A := 512) (iblk m c 1 t) r)) b = gainBlock m c b t.val :=
  sum_congr rfl fun r _ => by rw [blk0, blk1, blk2]; rfl

/-- The loss after point `t` holds the shares of the blocks so far. -/
theorem after3 (c : Dev nD) (a : Fin 8) (b : Fin 128) :
    ∀ (t : ℕ) (ht : t < cfg0.N), (outsAt0 m c t ht).1 (ix2 a b) = ∑ s ∈ range (t + 1), lossBlock m c s := by
  intro t
  induction t with
  | zero =>
    intro ht
    refine (congrFun (after3_first m c ⟨0, ht⟩ rfl) (ix2 a b)).trans ((stepL_at _ _ _ _ a b).trans ?_)
    rw [zeroL_at, zero_add, zero_add, range_one, sum_singleton]
    exact lossBlock_eq m c ⟨0, ht⟩
  | succ t ih =>
    intro ht
    have hN : cfg0.N = 8 := rfl
    have hne : ¬ (t + 1) % 8 = 0 := by omega
    rw [sum_range_succ _ (t + 1)]
    refine (congrFun (after3_next m c ⟨t + 1, ht⟩ hne) (ix2 a b)).trans ((stepL_at _ _ _ _ a b).trans ?_)
    exact congrArg₂ (· + ·) (ih (by omega)) (lossBlock_eq m c ⟨t + 1, ht⟩)

/-- The gain's gradient after point `t` holds the shares of the blocks so far. -/
theorem after6 (c : Dev nD) (a : Fin 1) (b : Fin 2048) :
    ∀ (t : ℕ) (ht : t < cfg0.N), (outsAt0 m c t ht).2.2.2 (ix2 a b) = ∑ s ∈ range (t + 1), gainBlock m c b s := by
  intro t
  induction t with
  | zero =>
    intro ht
    refine (congrFun (after6_first m c ⟨0, ht⟩ rfl) (ix2 a b)).trans ((stepG_at _ _ _ _ a b).trans ?_)
    rw [zeroG_at, zero_add, zero_add, range_one, sum_singleton]
    exact gainBlock_eq m c ⟨0, ht⟩ b
  | succ t ih =>
    intro ht
    have hN : cfg0.N = 8 := rfl
    have hne : ¬ (t + 1) % 8 = 0 := by omega
    rw [sum_range_succ _ (t + 1)]
    refine (congrFun (after6_next m c ⟨t + 1, ht⟩ hne) (ix2 a b)).trans ((stepG_at _ _ _ _ a b).trans ?_)
    exact congrArg₂ (· + ·) (ih (by omega)) (gainBlock_eq m c ⟨t + 1, ht⟩ b)

/-- The loss, in every entry of its block. -/
def resultL (c : Dev nD) : S8x128.Idx → EReal := fun i => half * ∑ r : Fin 4096, lossRow m c r
/-- The gradient of the rows. -/
def resultX (c : Dev nD) : S4096x2048.Idx → EReal := fun i => backRow m c (i 0).val (i 1)
/-- The gradient of the gain. -/
def resultG (c : Dev nD) : S1x2048.Idx → EReal := fun i => ∑ r : Fin 4096, gainRow m c (i 1) r

/-- The rows' gradient at given coordinates. -/
theorem resultX_at (c : Dev nD) (i : S4096x2048.Idx) (r : ℕ) (b : Fin 2048) (hr : (i 0).val = r) (hb : (i 1).val = b.val) :
    backRow m c r b = resultX m c i := by
  subst hr
  obtain rfl : b = i 1 := Fin.ext hb.symm
  rfl

/-- The gain's gradient at given coordinates. -/
theorem resultG_at (c : Dev nD) (i : S1x2048.Idx) (b : Fin 2048) (hb : (i 1).val = b.val) : ∑ r : Fin 4096, gainRow m c b r = resultG m c i := by
  obtain rfl : b = i 1 := Fin.ext hb.symm
  rfl

/-- What the call leaves in the loss. -/
theorem finalL (c : Dev nD) : (dats m 0 c).arrAt 3 cfg0.N = resultL m c := by
  refine (dats m 0 c).arrAt_eq_of_covers 3 (resultL m c) (by decide +kernel) fun t hf y => ?_
  have ht : t.val = 7 := by have := (flush0_3 t).mp hf; have := t.isLt; have hN : cfg0.N = 8 := rfl; omega
  rw [after0_3]
  refine (congrArg ((outsAt0 m c t.val t.isLt).1) (eq_ix2 y)).trans ((after3 m c _ _ t.val t.isLt).trans ?_)
  rw [ht]
  exact half_blocks (lossRow m c)

/-- What the call leaves in the rows' gradient. -/
theorem finalX (c : Dev nD) : (dats m 0 c).arrAt 4 cfg0.N = resultX m c := by
  refine (dats m 0 c).arrAt_eq_of_covers 4 (resultX m c) (by decide +kernel) fun t hf y => ?_
  obtain ⟨e0, e1⟩ := (idx_row t).2.2.1
  have h0 : (y 0).val < 512 := (y 0).isLt
  have h1 : (y 1).val < 2048 := (y 1).isLt
  blk_simp
  rw [after0_4, after4]
  refine (congrArg (stepX _ _ _) (eq_ix2 y)).trans ((point_at m c t (y 0) (y 1)).trans ?_)
  refine resultX_at m c _ _ _ ?_ ?_ <;> blk_simp <;> omega

/-- What the call leaves in the rounded gradient. -/
theorem finalW (c : Dev nD) : (dats m 0 c).arrAt 5 cfg0.N = resultX m c := by
  refine (dats m 0 c).arrAt_eq_of_covers 5 (resultX m c) (by decide +kernel) fun t hf y => ?_
  obtain ⟨e0, e1⟩ := (idx_row t).2.2.2
  have h0 : (y 0).val < 512 := (y 0).isLt
  have h1 : (y 1).val < 2048 := (y 1).isLt
  blk_simp
  rw [after0_5, after5]
  refine (congrArg (stepW _ _ _) (eq_ix2 y)).trans ((stepW_at _ _ _ (y 0) (y 1)).trans ((point_at m c t (y 0) (y 1)).trans ?_))
  refine resultX_at m c _ _ _ ?_ ?_ <;> blk_simp <;> omega

/-- What the call leaves in the gain's gradient. -/
theorem finalG (c : Dev nD) : (dats m 0 c).arrAt 6 cfg0.N = resultG m c := by
  refine (dats m 0 c).arrAt_eq_of_covers 6 (resultG m c) (by decide +kernel) fun t hf y => ?_
  obtain ⟨e0, e1⟩ := (idx_whole t).2.2
  have h0 : (y 0).val < 1 := (y 0).isLt
  have h1 : (y 1).val < 2048 := (y 1).isLt
  have ht : t.val = 7 := by have := (flush0_6 t).mp hf; have := t.isLt; have hN : cfg0.N = 8 := rfl; omega
  blk_simp
  rw [after0_6]
  refine (congrArg ((outsAt0 m c t.val t.isLt).2.2.2) (eq_ix2 y)).trans ((after6 m c _ _ t.val t.isLt).trans ?_)
  rw [ht]
  refine (sum_blocks 8 512 (gainRow m c (y 1))).trans ?_
  refine resultG_at m c _ _ ?_ <;> blk_simp <;> omega

end Cert.LossHeadIdeal.Rows

namespace Cert.LossHeadRefIdeal.Rows

open Cert.LossHeadRefIdeal Cert.LossHeadRefIdeal.Read Cert.Blocked Cert.Norm
open Idealize.ShloMosaic Idealize.ShloMosaic.TcCoe Idealize.SL.Sem
open Finset

variable (x0 x1 : S4096x2048.Idx → EReal) (x2 : S1x2048.Idx → EReal)

/-- A zero in front of a sum. -/
theorem zero_front (x : EReal) : Ideal.ofBits .f32 0x00000000#32 + x = x := (congrArg (· + x) Ideal.ofBits_zero_f32).trans (zero_add x)

/-- The mean squares of the rows. -/
theorem ms_at (i : S4096x1.Idx) : val_main_v7 (F := Ideal) x0 i = ms (rowOf x0 (i 0).val) := by
  rw [val_main_v7_apply, val_main_v5_apply, val_main_v3_apply, val_main_v2_apply, val_main_v4_apply, val_main_cst_0_apply, val_main_v6_apply,
    val_main_cst_1_apply, val_main_cst_apply]
  refine congrArg (fun s => Ideal.div s width + _) ((zero_front _).trans (sum_congr rfl fun k _ => ?_))
  rw [val_main_v1_apply]
  exact congrArg₂ (· * ·) (eq_at2 x0 _ _ _ rfl rfl) (eq_at2 x0 _ _ _ rfl rfl)

/-- One over their roots. -/
theorem inv_at (i : S4096x1.Idx) : val_main_v8 (F := Ideal) x0 i = invRoot (rowOf x0 (i 0).val) := by
  rw [val_main_v8_apply, ms_at]
  rfl

/-- The miss. -/
theorem miss_at (i : S4096x2048.Idx) (r : ℕ) (k : Fin 2048) (hr : (i 0).val = r) (hk : (i 1).val = k.val) :
    val_main_v17 (F := Ideal) x0 x1 x2 i = miss (rowOf x0 r) (rowOf x2 0) (rowOf x1 r) k := by
  subst hr
  obtain rfl : k = i 1 := Fin.ext hk.symm
  have h1 : (i 1).val < 2048 := (i 1).isLt
  rw [val_main_v17_apply, val_main_v16_apply, val_main_v13_apply, val_main_v12_apply, inv_at, val_main_v15_apply, val_main_v14_apply, val_main_v0_apply]
  refine congrArg₂ (· - ·) (congrArg₂ (· * ·) (congrArg (· * _) (eq_at2 x0 _ _ _ rfl rfl)) (eq_at2 x2 _ _ _ rfl ?_)) (eq_at2 x1 _ _ _ rfl rfl)
  show (i 1).val % 2048 = (i 1).val
  omega

/-- A row's mean squared miss. -/
theorem missMean_at (i : S4096.Idx) : val_main_v23 (F := Ideal) x0 x1 x2 i = missMean (rowOf x0 (i 0).val) (rowOf x2 0) (rowOf x1 (i 0).val) := by
  rw [val_main_v23_apply, val_main_v22_apply, val_main_cst_5_apply, val_main_v21_apply, val_main_cst_4_apply]
  refine congrArg (fun s => Ideal.div s width) ((zero_front _).trans (sum_congr rfl fun k _ => ?_))
  rw [val_main_v18_apply, miss_at x0 x1 x2 _ _ k rfl rfl]
  rfl

/-- The loss. -/
theorem loss_at (i : S8x128.Idx) : val_main_v53 (F := Ideal) x0 x1 x2 i = half * ∑ r : Fin 4096, missMean (rowOf x0 r) (rowOf x2 0) (rowOf x1 r) := by
  rw [val_main_v53_apply, val_main_v25_apply, val_main_cst_7_apply, val_main_v24_apply, val_main_cst_6_apply]
  refine congrArg (half * ·) ((zero_front _).trans ?_)
  refine (Fintype.sum_equiv ⟨fun j : S4096.Idx => (j 0 : Fin 4096), fun r => ix1 r, fun j => (eq_ix1 j).symm, fun r => rfl⟩ _ _ fun j => ?_)
  exact missMean_at x0 x1 x2 j

/-- The gradient at the normed rows. -/
theorem slope_at (i : S4096x2048.Idx) (r : ℕ) (k : Fin 2048) (hr : (i 0).val = r) (hk : (i 1).val = k.val) :
    val_main_v31 (F := Ideal) x0 x1 x2 i = slope (rowOf x0 r) (rowOf x2 0) (rowOf x1 r) k := by
  rw [val_main_v31_apply, val_main_v30_apply, val_main_v29_apply, val_main_v27_apply, val_main_v26_apply, val_main_v28_apply, val_main_cst_8_apply,
    val_main_cst_9_apply, val_main_cst_10_apply, val_main_v20_apply, val_main_v19_apply, val_main_cst_3_apply, miss_at x0 x1 x2 i r k hr hk]
  refine congrArg (fun s => Ideal.div s width * _) ?_
  exact (congrArg (half * ·) Ideal.ofBits_one_f32).trans (mul_one half)

/-- That gradient times the gain. -/
theorem scaled_at (i : S4096x2048.Idx) (r : ℕ) (k : Fin 2048) (hr : (i 0).val = r) (hk : (i 1).val = k.val) :
    val_main_v36 (F := Ideal) x0 x1 x2 i = slope (rowOf x0 r) (rowOf x2 0) (rowOf x1 r) k * rowOf x2 0 k := by
  have h1 : (i 1).val < 2048 := (i 1).isLt
  rw [val_main_v36_apply, slope_at x0 x1 x2 i r k hr hk, val_main_v35_apply, val_main_v14_apply, val_main_v0_apply]
  exact congrArg (_ * ·) (eq_at2 x2 _ _ _ rfl (show (i 1).val % 2048 = k.val by omega))

/-- A row's element times the scaled gradient's. -/
theorem prod_at (i : S4096x2048.Idx) (r : ℕ) (k : Fin 2048) (hr : (i 0).val = r) (hk : (i 1).val = k.val) :
    val_main_v38 (F := Ideal) x0 x1 x2 i = rowOf x0 r k * (slope (rowOf x0 r) (rowOf x2 0) (rowOf x1 r) k * rowOf x2 0 k) := by
  rw [val_main_v38_apply, scaled_at x0 x1 x2 i r k hr hk]
  exact congrArg (· * _) (eq_at2 x0 _ _ _ hr hk)

/-- What each element receives through the mean square. -/
theorem share_at (i : S4096x2048.Idx) :
    val_main_v47 (F := Ideal) x0 x1 x2 i = share (rowOf x0 (i 0).val) (rowOf x2 0) (slope (rowOf x0 (i 0).val) (rowOf x2 0) (rowOf x1 (i 0).val)) := by
  rw [val_main_v47_apply, val_main_v46_apply, val_main_cst_15_apply]
  refine (zero_front _).trans ((Fin.sum_univ_one _).trans ?_)
  rw [val_main_v45_apply, val_main_v43_apply, val_main_v44_apply, val_main_cst_14_apply, val_main_v40_apply, val_main_v39_apply, val_main_cst_13_apply,
    val_main_v11_apply, val_main_v10_apply, val_main_cst_2_apply, val_main_v9_apply, inv_at, ms_at]
  refine congrArg (fun s => Ideal.div (s * _) width) ((zero_front _).trans (sum_congr rfl fun k _ => ?_))
  exact prod_at x0 x1 x2 _ _ k (show (i 0).val * 1 + 0 = (i 0).val by omega) rfl

/-- The rows' gradient. -/
theorem back_at (i : S4096x2048.Idx) :
    val_main_v51 (F := Ideal) x0 x1 x2 i = back (rowOf x0 (i 0).val) (rowOf x2 0) (slope (rowOf x0 (i 0).val) (rowOf x2 0) (rowOf x1 (i 0).val)) (i 1) := by
  rw [val_main_v51_apply, val_main_v49_apply, val_main_v42_apply, val_main_v48_apply, val_main_v50_apply, share_at, scaled_at x0 x1 x2 i (i 0).val (i 1) rfl rfl,
    val_main_v41_apply, inv_at]
  have e0 : x0 i = rowOf x0 (i 0).val (i 1) := eq_at2 x0 _ _ _ rfl rfl
  rw [e0]
  rfl

/-- The gain's gradient. -/
theorem gain_at (i : S1x2048.Idx) :
    val_main_v52 (F := Ideal) x0 x1 x2 i = ∑ r : Fin 4096, gain (rowOf x0 r) (slope (rowOf x0 r) (rowOf x2 0) (rowOf x1 r)) (i 1) := by
  have h1 : (i 1).val < 2048 := (i 1).isLt
  rw [val_main_v52_apply, val_main_v37_apply, val_main_cst_12_apply]
  refine (zero_front _).trans ((Fin.sum_univ_one _).trans ?_)
  rw [val_main_v34_apply, val_main_v33_apply, val_main_cst_11_apply]
  refine (zero_front _).trans (sum_congr rfl fun r _ => ?_)
  have e : 0 * 2048 + (i 1).val = (i 1).val := by omega
  rw [val_main_v32_apply, val_main_v13_apply, val_main_v12_apply, inv_at, slope_at x0 x1 x2 _ r (i 1) rfl e]
  exact congrArg (· * _) (congrArg (· * _) (eq_at2 x0 _ _ _ rfl e))

end Cert.LossHeadRefIdeal.Rows

namespace Cert.Proof.LossHead

open Cert.LossHeadIdeal.Rows Cert.Norm
open Idealize.ShloMosaic Idealize.ShloMosaic.TcCoe Idealize.SL.Sem

/-- From memories that agree on the arguments both programs end with the same four results, and the arguments unchanged. -/
theorem algebraic : Cert.algebraic_LossHeadIdeal_LossHeadRefIdeal := by
  intro m ρ m' ρ' hp hag
  refine ⟨fun c => resultL m c, fun c => resultX m c, fun c => resultX m c, fun c => resultG m c,
    (θ_run Cert.LossHeadIdeal.defs _ _).mono (fun r h c => ⟨(h c).1.trans (finalL m c), (h c).2.1.trans (finalX m c), (h c).2.2.1.trans (finalW m c),
      (h c).2.2.2.1.trans (finalG m c), (h c).2.2.2.2⟩)
      (Cert.LossHeadIdeal.Value.run_blocks m ρ), ?_⟩
  refine (θ_run Cert.LossHeadRefIdeal.defs _ _).mono (fun r h c => ⟨(h c).1.trans ?_, (h c).2.1.trans ?_, (h c).2.2.1.trans ?_, (h c).2.2.2.1.trans ?_, (h c).2.2.2.2⟩)
    (Cert.LossHeadRefIdeal.Value.run m' ρ')
  · rw [Cert.LossHeadRefIdeal.Read.val_main_v53_eq]
    funext i
    refine (Cert.LossHeadRefIdeal.Rows.loss_at _ _ _ i).trans ?_
    rw [(hag c).1, (hag c).2.1, (hag c).2.2]
    rfl
  · rw [Cert.LossHeadRefIdeal.Read.val_main_v51_eq]
    funext i
    refine (Cert.LossHeadRefIdeal.Rows.back_at _ _ _ i).trans ?_
    rw [(hag c).1, (hag c).2.1, (hag c).2.2]
    rfl
  · rw [Cert.LossHeadRefIdeal.Read.val_main_v54_eq]
    funext i
    refine (Cert.LossHeadRefIdeal.Rows.back_at _ _ _ i).trans ?_
    rw [(hag c).1, (hag c).2.1, (hag c).2.2]
    rfl
  · rw [Cert.LossHeadRefIdeal.Read.val_main_v52_eq]
    funext i
    refine (Cert.LossHeadRefIdeal.Rows.gain_at _ _ _ i).trans ?_
    rw [(hag c).1, (hag c).2.1, (hag c).2.2]
    rfl

/-- The reference runs to its end, leaves its arguments unchanged and every counter at zero. -/
theorem frame_reference : Cert.quiescent_LossHeadRefIdeal := fun m ρ _ =>
  (θ_run Cert.LossHeadRefIdeal.defs _ _).mono (fun r h => ⟨fun c => (h c).2.2.2.2, sem_eq_zero_of_no_sems (by decide) r.2⟩)
    (Cert.LossHeadRefIdeal.Value.run (F := Ideal) m ρ)

end Cert.Proof.LossHead
-- ==== Proof.Adam.lean ====
/- One element's AdamW step on extended reals, as the reference writes it, and the same step with the two bias
   corrections as factors in place of divisors. -/
module

public import proofs.«01_k».proof.Proof.Words
public import proofs.«01_k».proof.Proof.Blocked

@[expose] public section

noncomputable section

namespace Cert.Adam

open Idealize.ShloMosaic Cert.Words Finset

/-- The new first moment. -/
def mom1 (g m : EReal) : EReal := Ideal.ofBits .f32 0x3F666666#32 * m + Ideal.ofBits .f32 0x3DCCCCCD#32 * g

/-- The new second moment. -/
def mom2 (g v : EReal) : EReal := Ideal.ofBits .f32 0x3F7FBE77#32 * v + Ideal.ofBits .f32 0x3A83126F#32 * (g * g)

/-- The change of the weight. -/
def delta (g w m v : EReal) : EReal :=
  Ideal.ofBits .f32 0xBA83126F#32 *
    (Ideal.div (Ideal.div (mom1 g m) (Ideal.ofBits .f32 0x3F26BD02#32))
        (Ideal.sqrt (Ideal.div (mom2 g v) (Ideal.ofBits .f32 0x3C231ACC#32)) + Ideal.ofBits .f32 0x322BCC77#32) +
      Ideal.ofBits .f32 0x3C23D70A#32 * w)

/-- Dividing by the first correction is multiplying by its inverse. -/
theorem div_c1 (x : EReal) : Ideal.div x (Ideal.ofBits .f32 0x3F26BD02#32) = x * ((8388608 / 5463681 : ℝ) : EReal) := by
  rw [ofBits_c1, Ideal.div_coe (by norm_num)]
  norm_num

/-- Dividing by the second correction is multiplying by its inverse. -/
theorem div_c2 (x : EReal) : Ideal.div x (Ideal.ofBits .f32 0x3C231ACC#32) = x * ((268435456 / 2672307 : ℝ) : EReal) := by
  rw [ofBits_c2, Ideal.div_coe (by norm_num)]
  norm_num

/-- The change of the weight with the corrections as factors. -/
theorem delta_eq (g w m v : EReal) :
    Ideal.ofBits .f32 0xBA83126F#32 *
      (Ideal.div (mom1 g m * ((8388608 / 5463681 : ℝ) : EReal))
          (Ideal.sqrt (mom2 g v * ((268435456 / 2672307 : ℝ) : EReal)) + Ideal.ofBits .f32 0x322BCC77#32) +
        Ideal.ofBits .f32 0x3C23D70A#32 * w) = delta g w m v := by
  unfold delta
  rw [div_c1, div_c2]

/-- Eight slabs added one after the other. -/
theorem sum_eight (f : Fin 8 → EReal) : f 0 + f 1 + f 2 + f 3 + f 4 + f 5 + f 6 + f 7 = ∑ k : Fin 8, f k := by
  rw [Fin.sum_univ_eight]

end Cert.Adam
-- ==== Proof.AdamWFfn1.lean ====
/- The AdamW step that the program `AdamWFfn1` takes: the received shards of `ffn_w1`'s gradient are added, and the moments and the weight move.
   The kernel works on 8 blocks of 256 rows; each of its four output arrays holds the same values as the reference's, entry
   by entry. The kernel multiplies by the inverses of the bias corrections, the reference divides by them. -/
module

public import proofs.«01_k».proof.Proof.Adam
public import proofs.«01_k».proof.Proof.Gen.AdamWFfn1Ideal.Value
public import proofs.«01_k».proof.Proof.Gen.AdamWFfn1RefIdeal.Read
public import proofs.«01_k».proof.Defs

@[expose] public section

noncomputable section

namespace Cert.AdamWFfn1Ideal.Step

open Cert.AdamWFfn1Ideal Cert.AdamWFfn1Ideal.Gen Cert.AdamWFfn1Ideal.Value Cert.Blocked
open Idealize.ShloMosaic Idealize.ShloMosaic.TcCoe Idealize.SL.Sem
open Finset

variable (m : (ℓ : Loc nD τ sig) → Buf (Elt Ideal) ℓ)

/-- The gradients received, as launched. -/
abbrev recv (c : Dev nD) : S8x2048x1024.Idx → EReal := m ((c : Thread nD τ).loc main_arg0)
/-- The weight as launched. -/
abbrev weight (c : Dev nD) : S2048x1024.Idx → EReal := m ((c : Thread nD τ).loc main_arg1)
/-- The first moment as launched. -/
abbrev first (c : Dev nD) : S2048x1024.Idx → EReal := m ((c : Thread nD τ).loc main_arg2)
/-- The second moment as launched. -/
abbrev second (c : Dev nD) : S2048x1024.Idx → EReal := m ((c : Thread nD τ).loc main_arg3)

/-- The block that grid point `t` reads or writes of the gradients received. -/
theorem idx0 : ∀ t : Fin cfg0.N, win0_0.index t 0 = 0 ∧ win0_0.index t 1 = t.val ∧ win0_0.index t 2 = 0 :=
  (by decide +kernel : ∀ t : Fin grid0.N, _)

/-- The block that grid point `t` reads or writes of the weight. -/
theorem idx1 : ∀ t : Fin cfg0.N, win0_1.index t 0 = t.val ∧ win0_1.index t 1 = 0 :=
  (by decide +kernel : ∀ t : Fin grid0.N, _)

/-- The block that grid point `t` reads or writes of the first moment. -/
theorem idx2 : ∀ t : Fin cfg0.N, win0_2.index t 0 = t.val ∧ win0_2.index t 1 = 0 :=
  (by decide +kernel : ∀ t : Fin grid0.N, _)

/-- The block that grid point `t` reads or writes of the second moment. -/
theorem idx3 : ∀ t : Fin cfg0.N, win0_3.index t 0 = t.val ∧ win0_3.index t 1 = 0 :=
  (by decide +kernel : ∀ t : Fin grid0.N, _)

/-- The block that grid point `t` reads or writes of the summed gradient. -/
theorem idx4 : ∀ t : Fin cfg0.N, win0_4.index t 0 = t.val ∧ win0_4.index t 1 = 0 :=
  (by decide +kernel : ∀ t : Fin grid0.N, _)

/-- The block that grid point `t` reads or writes of the change of the weight. -/
theorem idx5 : ∀ t : Fin cfg0.N, win0_5.index t 0 = t.val ∧ win0_5.index t 1 = 0 :=
  (by decide +kernel : ∀ t : Fin grid0.N, _)

/-- The block that grid point `t` reads or writes of the new first moment. -/
theorem idx6 : ∀ t : Fin cfg0.N, win0_6.index t 0 = t.val ∧ win0_6.index t 1 = 0 :=
  (by decide +kernel : ∀ t : Fin grid0.N, _)

/-- The block that grid point `t` reads or writes of the new second moment. -/
theorem idx7 : ∀ t : Fin cfg0.N, win0_7.index t 0 = t.val ∧ win0_7.index t 1 = 0 :=
  (by decide +kernel : ∀ t : Fin grid0.N, _)

/-- The block of the gradients received at point `t`, read at the array's own coordinates. -/
theorem blk0 (c : Dev nD) (t : Fin cfg0.N) (y : S8x256x1024.Idx) :
    iblk m c 0 t y = at3 (recv m c) (y 0).val (t.val * 256 + (y 1).val) (y 2).val := by
  unfold iblk
  rw [View.read_apply]
  show (V m c main_arg0 : S8x2048x1024.Idx → EReal) _ = _
  rw [V_main_arg0]
  obtain ⟨e0, e1, e2⟩ := idx0 t
  refine eq_at3 _ _ _ _ _ ?_ ?_ ?_ <;> blk_simp <;> omega

/-- The block of the weight at point `t`, read at the array's own coordinates. -/
theorem blk1 (c : Dev nD) (t : Fin cfg0.N) (y : S256x1024.Idx) :
    iblk m c 1 t y = at2 (weight m c) (t.val * 256 + (y 0).val) (y 1).val := by
  unfold iblk
  rw [View.read_apply]
  show (V m c main_arg1 : S2048x1024.Idx → EReal) _ = _
  rw [V_main_arg1]
  obtain ⟨e0, e1⟩ := idx1 t
  refine eq_at2 _ _ _ _ ?_ ?_ <;> blk_simp <;> omega

/-- The block of the first moment at point `t`, read at the array's own coordinates. -/
theorem blk2 (c : Dev nD) (t : Fin cfg0.N) (y : S256x1024.Idx) :
    iblk m c 2 t y = at2 (first m c) (t.val * 256 + (y 0).val) (y 1).val := by
  unfold iblk
  rw [View.read_apply]
  show (V m c main_arg2 : S2048x1024.Idx → EReal) _ = _
  rw [V_main_arg2]
  obtain ⟨e0, e1⟩ := idx2 t
  refine eq_at2 _ _ _ _ ?_ ?_ <;> blk_simp <;> omega

/-- The block of the second moment at point `t`, read at the array's own coordinates. -/
theorem blk3 (c : Dev nD) (t : Fin cfg0.N) (y : S256x1024.Idx) :
    iblk m c 3 t y = at2 (second m c) (t.val * 256 + (y 0).val) (y 1).val := by
  unfold iblk
  rw [View.read_apply]
  show (V m c main_arg3 : S2048x1024.Idx → EReal) _ = _
  rw [V_main_arg3]
  obtain ⟨e0, e1⟩ := idx3 t
  refine eq_at2 _ _ _ _ ?_ ?_ <;> blk_simp <;> omega

/-- An entry of the summed gradient's block. -/
theorem grad_at (x0 : Vec Ideal S8x256x1024 .bf16) (x1 x2 x3 : Vec Ideal S256x1024 .f32) (y : S256x1024.Idx) :
    out0_4 x0 x1 x2 x3 y = ∑ k : Fin 8, x0 (ix3 k (y 0) (y 1)) := by
  rw [← Adam.sum_eight]
  frame_out
  pointwise [k0_pay1, k0_pay2, k0_pay3, k0_pay4, k0_pay5]

/-- An entry of the new first moment's block. -/
theorem first_at (x0 : Vec Ideal S8x256x1024 .bf16) (x1 x2 x3 : Vec Ideal S256x1024 .f32) (y : S256x1024.Idx) :
    out0_6 x0 x1 x2 x3 y = Adam.mom1 (∑ k : Fin 8, x0 (ix3 k (y 0) (y 1))) (x2 y) := by
  rw [← Adam.sum_eight]
  frame_out
  pointwise [k0_pay1, k0_pay2, k0_pay3, k0_pay4, k0_pay5]
  rfl

/-- An entry of the new second moment's block. -/
theorem second_at (x0 : Vec Ideal S8x256x1024 .bf16) (x1 x2 x3 : Vec Ideal S256x1024 .f32) (y : S256x1024.Idx) :
    out0_7 x0 x1 x2 x3 y = Adam.mom2 (∑ k : Fin 8, x0 (ix3 k (y 0) (y 1))) (x3 y) := by
  rw [← Adam.sum_eight]
  frame_out
  pointwise [k0_pay1, k0_pay2, k0_pay3, k0_pay4, k0_pay5]
  rfl

/-- An entry of the block of the weight's change. -/
theorem delta_at (x0 : Vec Ideal S8x256x1024 .bf16) (x1 x2 x3 : Vec Ideal S256x1024 .f32) (y : S256x1024.Idx) :
    out0_5 x0 x1 x2 x3 y = Adam.delta (∑ k : Fin 8, x0 (ix3 k (y 0) (y 1))) (x1 y) (x2 y) (x3 y) := by
  rw [← Adam.delta_eq, ← Adam.sum_eight]
  frame_out
  pointwise [k0_pay1, k0_pay2, k0_pay3, k0_pay4, k0_pay5]
  rfl

/-- The summed gradient at row `i` and column `j`. -/
def grad (c : Dev nD) (i j : ℕ) : EReal := ∑ k : Fin 8, at3 (recv m c) k.val i j

/-- What the kernel leaves in its four output arrays at row `i` and column `j`. -/
def value4 (c : Dev nD) (i j : ℕ) : EReal := grad m c i j
def value5 (c : Dev nD) (i j : ℕ) : EReal :=
  Adam.delta (grad m c i j) (at2 (weight m c) i j) (at2 (first m c) i j) (at2 (second m c) i j)
def value6 (c : Dev nD) (i j : ℕ) : EReal := Adam.mom1 (grad m c i j) (at2 (first m c) i j)
def value7 (c : Dev nD) (i j : ℕ) : EReal := Adam.mom2 (grad m c i j) (at2 (second m c) i j)

/-- The gradients received at point `t`, added. -/
theorem slabs (c : Dev nD) (t : Fin cfg0.N) (x0 : Vec Ideal S8x256x1024 .bf16) (e : x0 = iblk m c 0 t) (y : S256x1024.Idx) :
    ∑ k : Fin 8, x0 (ix3 k (y 0) (y 1)) = grad m c (t.val * 256 + (y 0).val) (y 1).val := by
  subst e
  unfold grad
  refine Finset.sum_congr rfl fun k _ => ?_
  rw [blk0]; rfl

/-- The block of output 0 that point `t` writes back. -/
theorem out4 (c : Dev nD) (t : Fin cfg0.N) (y : S256x1024.Idx) :
    out0_4 (iblk m c 0 t) (iblk m c 1 t) (iblk m c 2 t) (iblk m c 3 t) y = value4 m c (t.val * 256 + (y 0).val) (y 1).val := by
  refine (grad_at _ _ _ _ y).trans ?_
  rw [slabs m c t _ rfl y]
  rfl

/-- Output array 0. -/
def result4 (c : Dev nD) : S2048x1024.Idx → EReal := fun i => value4 m c (i 0).val (i 1).val

/-- The array read at an index whose coordinates are known. -/
theorem result4_at (c : Dev nD) (i : S2048x1024.Idx) (a b : ℕ) (ha : (i 0).val = a) (hb : (i 1).val = b) :
    value4 m c a b = result4 m c i := by
  subst ha hb; rfl

/-- After the run the array holds, at every index, the value of the block that covers it. -/
theorem final4 (c : Dev nD) : (dats m 0 c).arrAt 4 cfg0.N = result4 m c := by
  refine (dats m 0 c).arrAt_eq_of_covers 4 (result4 m c) (by decide +kernel) fun t hf y => ?_
  obtain ⟨e0, e1⟩ := idx4 t
  have h0 : (y 0).val < 256 := (y 0).isLt
  have h1 : (y 1).val < 1024 := (y 1).isLt
  blk_simp
  rw [after0_4]
  refine (out4 m c t y).trans (result4_at m c _ _ _ ?_ ?_) <;> blk_simp <;> omega

/-- The block of output 1 that point `t` writes back. -/
theorem out5 (c : Dev nD) (t : Fin cfg0.N) (y : S256x1024.Idx) :
    out0_5 (iblk m c 0 t) (iblk m c 1 t) (iblk m c 2 t) (iblk m c 3 t) y = value5 m c (t.val * 256 + (y 0).val) (y 1).val := by
  refine (delta_at _ _ _ _ y).trans ?_
  rw [slabs m c t _ rfl y, blk1, blk2, blk3]
  rfl

/-- Output array 1. -/
def result5 (c : Dev nD) : S2048x1024.Idx → EReal := fun i => value5 m c (i 0).val (i 1).val

/-- The array read at an index whose coordinates are known. -/
theorem result5_at (c : Dev nD) (i : S2048x1024.Idx) (a b : ℕ) (ha : (i 0).val = a) (hb : (i 1).val = b) :
    value5 m c a b = result5 m c i := by
  subst ha hb; rfl

/-- After the run the array holds, at every index, the value of the block that covers it. -/
theorem final5 (c : Dev nD) : (dats m 0 c).arrAt 5 cfg0.N = result5 m c := by
  refine (dats m 0 c).arrAt_eq_of_covers 5 (result5 m c) (by decide +kernel) fun t hf y => ?_
  obtain ⟨e0, e1⟩ := idx5 t
  have h0 : (y 0).val < 256 := (y 0).isLt
  have h1 : (y 1).val < 1024 := (y 1).isLt
  blk_simp
  rw [after0_5]
  refine (out5 m c t y).trans (result5_at m c _ _ _ ?_ ?_) <;> blk_simp <;> omega

/-- The block of output 2 that point `t` writes back. -/
theorem out6 (c : Dev nD) (t : Fin cfg0.N) (y : S256x1024.Idx) :
    out0_6 (iblk m c 0 t) (iblk m c 1 t) (iblk m c 2 t) (iblk m c 3 t) y = value6 m c (t.val * 256 + (y 0).val) (y 1).val := by
  refine (first_at _ _ _ _ y).trans ?_
  rw [slabs m c t _ rfl y, blk2]
  rfl

/-- Output array 2. -/
def result6 (c : Dev nD) : S2048x1024.Idx → EReal := fun i => value6 m c (i 0).val (i 1).val

/-- The array read at an index whose coordinates are known. -/
theorem result6_at (c : Dev nD) (i : S2048x1024.Idx) (a b : ℕ) (ha : (i 0).val = a) (hb : (i 1).val = b) :
    value6 m c a b = result6 m c i := by
  subst ha hb; rfl

/-- After the run the array holds, at every index, the value of the block that covers it. -/
theorem final6 (c : Dev nD) : (dats m 0 c).arrAt 6 cfg0.N = result6 m c := by
  refine (dats m 0 c).arrAt_eq_of_covers 6 (result6 m c) (by decide +kernel) fun t hf y => ?_
  obtain ⟨e0, e1⟩ := idx6 t
  have h0 : (y 0).val < 256 := (y 0).isLt
  have h1 : (y 1).val < 1024 := (y 1).isLt
  blk_simp
  rw [after0_6]
  refine (out6 m c t y).trans (result6_at m c _ _ _ ?_ ?_) <;> blk_simp <;> omega

/-- The block of output 3 that point `t` writes back. -/
theorem out7 (c : Dev nD) (t : Fin cfg0.N) (y : S256x1024.Idx) :
    out0_7 (iblk m c 0 t) (iblk m c 1 t) (iblk m c 2 t) (iblk m c 3 t) y = value7 m c (t.val * 256 + (y 0).val) (y 1).val := by
  refine (second_at _ _ _ _ y).trans ?_
  rw [slabs m c t _ rfl y, blk3]
  rfl

/-- Output array 3. -/
def result7 (c : Dev nD) : S2048x1024.Idx → EReal := fun i => value7 m c (i 0).val (i 1).val

/-- The array read at an index whose coordinates are known. -/
theorem result7_at (c : Dev nD) (i : S2048x1024.Idx) (a b : ℕ) (ha : (i 0).val = a) (hb : (i 1).val = b) :
    value7 m c a b = result7 m c i := by
  subst ha hb; rfl

/-- After the run the array holds, at every index, the value of the block that covers it. -/
theorem final7 (c : Dev nD) : (dats m 0 c).arrAt 7 cfg0.N = result7 m c := by
  refine (dats m 0 c).arrAt_eq_of_covers 7 (result7 m c) (by decide +kernel) fun t hf y => ?_
  obtain ⟨e0, e1⟩ := idx7 t
  have h0 : (y 0).val < 256 := (y 0).isLt
  have h1 : (y 1).val < 1024 := (y 1).isLt
  blk_simp
  rw [after0_7]
  refine (out7 m c t y).trans (result7_at m c _ _ _ ?_ ?_) <;> blk_simp <;> omega

end Cert.AdamWFfn1Ideal.Step

namespace Cert.AdamWFfn1RefIdeal.Step

open Cert.AdamWFfn1RefIdeal Cert.AdamWFfn1RefIdeal.Gen Cert.AdamWFfn1RefIdeal.Read Cert.Blocked
open Idealize.ShloMosaic Idealize.ShloMosaic.TcCoe Idealize.SL.Sem

variable (x0 : S8x2048x1024.Idx → EReal) (x1 x2 x3 : S2048x1024.Idx → EReal) (i : S2048x1024.Idx)

/-- The reference's summed gradient, entry by entry. -/
theorem ref4 : val_main_v1 (F := Ideal) x0 i = ∑ k : Fin 8, at3 x0 k.val (i 0).val (i 1).val := by
  rw [val_main_v1_apply, val_main_cst_apply]
  refine (congrArg (· + _) Ideal.ofBits_zero_f32).trans ((zero_add _).trans ?_)
  refine Finset.sum_congr rfl fun k _ => ?_
  exact eq_at3 x0 _ _ _ _ rfl rfl rfl

/-- The reference's new first moment, entry by entry. -/
theorem ref6 : val_main_v6 (F := Ideal) x0 x2 i =
    Adam.mom1 (∑ k : Fin 8, at3 x0 k.val (i 0).val (i 1).val) (at2 x2 (i 0).val (i 1).val) := by
  rw [← ref4, ← eq_at2 x2 i _ _ rfl rfl]
  rfl

/-- The reference's new second moment, entry by entry. -/
theorem ref7 : val_main_v12 (F := Ideal) x0 x3 i =
    Adam.mom2 (∑ k : Fin 8, at3 x0 k.val (i 0).val (i 1).val) (at2 x3 (i 0).val (i 1).val) := by
  rw [← ref4, ← eq_at2 x3 i _ _ rfl rfl]
  rfl

/-- The reference's change of the weight, entry by entry. -/
theorem ref5 : val_main_v25 (F := Ideal) x0 x1 x2 x3 i =
    Adam.delta (∑ k : Fin 8, at3 x0 k.val (i 0).val (i 1).val) (at2 x1 (i 0).val (i 1).val) (at2 x2 (i 0).val (i 1).val)
      (at2 x3 (i 0).val (i 1).val) := by
  rw [← ref4, ← eq_at2 x1 i _ _ rfl rfl, ← eq_at2 x2 i _ _ rfl rfl, ← eq_at2 x3 i _ _ rfl rfl]
  rfl

end Cert.AdamWFfn1RefIdeal.Step

namespace Cert.Proof.AdamWFfn1

open Idealize.ShloMosaic Idealize.ShloMosaic.TcCoe Idealize.SL.Sem

/-- The two factors the kernel multiplies by stand for the exact inverses of the reference's divisors. -/
theorem preserves : Cert.preserves_AdamWFfn1_AdamWFfn1Ideal :=
  ⟨IdealRules.named_const.statement Cert.AdamWFfn1Ideal.κ "c1" .f32 0x3FC48605#32 ((8388608 / 5463681 : ℝ) : EReal) rfl,
   IdealRules.named_const.statement Cert.AdamWFfn1Ideal.κ "c2" .f32 0x42C8E6D3#32 ((268435456 / 2672307 : ℝ) : EReal) rfl⟩

/-- From memories that agree on the arguments, both programs end with the same results, and the arguments unchanged. -/
theorem algebraic : Cert.algebraic_AdamWFfn1Ideal_AdamWFfn1RefIdeal := by
  intro m g m' g' _ hag
  refine ⟨fun c => Cert.AdamWFfn1Ideal.Step.result4 m c, fun c => Cert.AdamWFfn1Ideal.Step.result5 m c,
    fun c => Cert.AdamWFfn1Ideal.Step.result6 m c, fun c => Cert.AdamWFfn1Ideal.Step.result7 m c,
    (θ_run Cert.AdamWFfn1Ideal.defs _ _).mono (fun r h c => ⟨(h c).1.trans (Cert.AdamWFfn1Ideal.Step.final4 m c),
        (h c).2.1.trans (Cert.AdamWFfn1Ideal.Step.final5 m c), (h c).2.2.1.trans (Cert.AdamWFfn1Ideal.Step.final6 m c),
        (h c).2.2.2.1.trans (Cert.AdamWFfn1Ideal.Step.final7 m c), (h c).2.2.2.2⟩)
      (Cert.AdamWFfn1Ideal.Value.run_blocks m g), ?_⟩
  refine (θ_run Cert.AdamWFfn1RefIdeal.defs _ _).mono (fun r h c => ⟨(h c).1.trans ?_, (h c).2.1.trans ?_, (h c).2.2.1.trans ?_,
      (h c).2.2.2.1.trans ?_, (h c).2.2.2.2⟩)
    (Cert.AdamWFfn1RefIdeal.Value.run m' g')
  · rw [Cert.AdamWFfn1RefIdeal.Read.val_main_v1_eq]
    funext i
    refine (Cert.AdamWFfn1RefIdeal.Step.ref4 _ i).trans ?_
    rw [(hag c).1]
    rfl
  · rw [Cert.AdamWFfn1RefIdeal.Read.val_main_v25_eq]
    funext i
    refine (Cert.AdamWFfn1RefIdeal.Step.ref5 _ _ _ _ i).trans ?_
    rw [(hag c).1, (hag c).2.1, (hag c).2.2.1, (hag c).2.2.2]
    rfl
  · rw [Cert.AdamWFfn1RefIdeal.Read.val_main_v6_eq]
    funext i
    refine (Cert.AdamWFfn1RefIdeal.Step.ref6 _ _ i).trans ?_
    rw [(hag c).1, (hag c).2.2.1]
    rfl
  · rw [Cert.AdamWFfn1RefIdeal.Read.val_main_v12_eq]
    funext i
    refine (Cert.AdamWFfn1RefIdeal.Step.ref7 _ _ i).trans ?_
    rw [(hag c).1, (hag c).2.2.2]
    rfl

/-- The reference runs to its end, leaves its arguments unchanged and every counter at zero. -/
theorem frame_reference : Cert.quiescent_AdamWFfn1RefIdeal := fun m ρ _ =>
  (θ_run Cert.AdamWFfn1RefIdeal.defs _ _).mono (fun r h => ⟨fun c => (h c).2.2.2.2, sem_eq_zero_of_no_sems (by decide) r.2⟩)
    (Cert.AdamWFfn1RefIdeal.Value.run (F := Ideal) m ρ)

end Cert.Proof.AdamWFfn1
-- ==== Proof.AdamWFfn2.lean ====
/- The AdamW step that the program `AdamWFfn2` takes: the received shards of `ffn_w2`'s gradient are added, and the moments and the weight move.
   The kernel works on 4 blocks of 256 rows; each of its four output arrays holds the same values as the reference's, entry
   by entry. The kernel multiplies by the inverses of the bias corrections, the reference divides by them. -/
module

public import proofs.«01_k».proof.Proof.Adam
public import proofs.«01_k».proof.Proof.Gen.AdamWFfn2Ideal.Value
public import proofs.«01_k».proof.Proof.Gen.AdamWFfn2RefIdeal.Read
public import proofs.«01_k».proof.Defs

@[expose] public section

noncomputable section

namespace Cert.AdamWFfn2Ideal.Step

open Cert.AdamWFfn2Ideal Cert.AdamWFfn2Ideal.Gen Cert.AdamWFfn2Ideal.Value Cert.Blocked
open Idealize.ShloMosaic Idealize.ShloMosaic.TcCoe Idealize.SL.Sem
open Finset

variable (m : (ℓ : Loc nD τ sig) → Buf (Elt Ideal) ℓ)

/-- The gradients received, as launched. -/
abbrev recv (c : Dev nD) : S8x1024x2048.Idx → EReal := m ((c : Thread nD τ).loc main_arg0)
/-- The weight as launched. -/
abbrev weight (c : Dev nD) : S1024x2048.Idx → EReal := m ((c : Thread nD τ).loc main_arg1)
/-- The first moment as launched. -/
abbrev first (c : Dev nD) : S1024x2048.Idx → EReal := m ((c : Thread nD τ).loc main_arg2)
/-- The second moment as launched. -/
abbrev second (c : Dev nD) : S1024x2048.Idx → EReal := m ((c : Thread nD τ).loc main_arg3)

/-- The block that grid point `t` reads or writes of the gradients received. -/
theorem idx0 : ∀ t : Fin cfg0.N, win0_0.index t 0 = 0 ∧ win0_0.index t 1 = t.val ∧ win0_0.index t 2 = 0 :=
  (by decide +kernel : ∀ t : Fin grid0.N, _)

/-- The block that grid point `t` reads or writes of the weight. -/
theorem idx1 : ∀ t : Fin cfg0.N, win0_1.index t 0 = t.val ∧ win0_1.index t 1 = 0 :=
  (by decide +kernel : ∀ t : Fin grid0.N, _)

/-- The block that grid point `t` reads or writes of the first moment. -/
theorem idx2 : ∀ t : Fin cfg0.N, win0_2.index t 0 = t.val ∧ win0_2.index t 1 = 0 :=
  (by decide +kernel : ∀ t : Fin grid0.N, _)

/-- The block that grid point `t` reads or writes of the second moment. -/
theorem idx3 : ∀ t : Fin cfg0.N, win0_3.index t 0 = t.val ∧ win0_3.index t 1 = 0 :=
  (by decide +kernel : ∀ t : Fin grid0.N, _)

/-- The block that grid point `t` reads or writes of the summed gradient. -/
theorem idx4 : ∀ t : Fin cfg0.N, win0_4.index t 0 = t.val ∧ win0_4.index t 1 = 0 :=
  (by decide +kernel : ∀ t : Fin grid0.N, _)

/-- The block that grid point `t` reads or writes of the change of the weight. -/
theorem idx5 : ∀ t : Fin cfg0.N, win0_5.index t 0 = t.val ∧ win0_5.index t 1 = 0 :=
  (by decide +kernel : ∀ t : Fin grid0.N, _)

/-- The block that grid point `t` reads or writes of the new first moment. -/
theorem idx6 : ∀ t : Fin cfg0.N, win0_6.index t 0 = t.val ∧ win0_6.index t 1 = 0 :=
  (by decide +kernel : ∀ t : Fin grid0.N, _)

/-- The block that grid point `t` reads or writes of the new second moment. -/
theorem idx7 : ∀ t : Fin cfg0.N, win0_7.index t 0 = t.val ∧ win0_7.index t 1 = 0 :=
  (by decide +kernel : ∀ t : Fin grid0.N, _)

/-- The block of the gradients received at point `t`, read at the array's own coordinates. -/
theorem blk0 (c : Dev nD) (t : Fin cfg0.N) (y : S8x256x2048.Idx) :
    iblk m c 0 t y = at3 (recv m c) (y 0).val (t.val * 256 + (y 1).val) (y 2).val := by
  unfold iblk
  rw [View.read_apply]
  show (V m c main_arg0 : S8x1024x2048.Idx → EReal) _ = _
  rw [V_main_arg0]
  obtain ⟨e0, e1, e2⟩ := idx0 t
  refine eq_at3 _ _ _ _ _ ?_ ?_ ?_ <;> blk_simp <;> omega

/-- The block of the weight at point `t`, read at the array's own coordinates. -/
theorem blk1 (c : Dev nD) (t : Fin cfg0.N) (y : S256x2048.Idx) :
    iblk m c 1 t y = at2 (weight m c) (t.val * 256 + (y 0).val) (y 1).val := by
  unfold iblk
  rw [View.read_apply]
  show (V m c main_arg1 : S1024x2048.Idx → EReal) _ = _
  rw [V_main_arg1]
  obtain ⟨e0, e1⟩ := idx1 t
  refine eq_at2 _ _ _ _ ?_ ?_ <;> blk_simp <;> omega

/-- The block of the first moment at point `t`, read at the array's own coordinates. -/
theorem blk2 (c : Dev nD) (t : Fin cfg0.N) (y : S256x2048.Idx) :
    iblk m c 2 t y = at2 (first m c) (t.val * 256 + (y 0).val) (y 1).val := by
  unfold iblk
  rw [View.read_apply]
  show (V m c main_arg2 : S1024x2048.Idx → EReal) _ = _
  rw [V_main_arg2]
  obtain ⟨e0, e1⟩ := idx2 t
  refine eq_at2 _ _ _ _ ?_ ?_ <;> blk_simp <;> omega

/-- The block of the second moment at point `t`, read at the array's own coordinates. -/
theorem blk3 (c : Dev nD) (t : Fin cfg0.N) (y : S256x2048.Idx) :
    iblk m c 3 t y = at2 (second m c) (t.val * 256 + (y 0).val) (y 1).val := by
  unfold iblk
  rw [View.read_apply]
  show (V m c main_arg3 : S1024x2048.Idx → EReal) _ = _
  rw [V_main_arg3]
  obtain ⟨e0, e1⟩ := idx3 t
  refine eq_at2 _ _ _ _ ?_ ?_ <;> blk_simp <;> omega

/-- An entry of the summed gradient's block. -/
theorem grad_at (x0 : Vec Ideal S8x256x2048 .bf16) (x1 x2 x3 : Vec Ideal S256x2048 .f32) (y : S256x2048.Idx) :
    out0_4 x0 x1 x2 x3 y = ∑ k : Fin 8, x0 (ix3 k (y 0) (y 1)) := by
  rw [← Adam.sum_eight]
  frame_out
  pointwise [k0_pay1, k0_pay2, k0_pay3, k0_pay4, k0_pay5]

/-- An entry of the new first moment's block. -/
theorem first_at (x0 : Vec Ideal S8x256x2048 .bf16) (x1 x2 x3 : Vec Ideal S256x2048 .f32) (y : S256x2048.Idx) :
    out0_6 x0 x1 x2 x3 y = Adam.mom1 (∑ k : Fin 8, x0 (ix3 k (y 0) (y 1))) (x2 y) := by
  rw [← Adam.sum_eight]
  frame_out
  pointwise [k0_pay1, k0_pay2, k0_pay3, k0_pay4, k0_pay5]
  rfl

/-- An entry of the new second moment's block. -/
theorem second_at (x0 : Vec Ideal S8x256x2048 .bf16) (x1 x2 x3 : Vec Ideal S256x2048 .f32) (y : S256x2048.Idx) :
    out0_7 x0 x1 x2 x3 y = Adam.mom2 (∑ k : Fin 8, x0 (ix3 k (y 0) (y 1))) (x3 y) := by
  rw [← Adam.sum_eight]
  frame_out
  pointwise [k0_pay1, k0_pay2, k0_pay3, k0_pay4, k0_pay5]
  rfl

/-- An entry of the block of the weight's change. -/
theorem delta_at (x0 : Vec Ideal S8x256x2048 .bf16) (x1 x2 x3 : Vec Ideal S256x2048 .f32) (y : S256x2048.Idx) :
    out0_5 x0 x1 x2 x3 y = Adam.delta (∑ k : Fin 8, x0 (ix3 k (y 0) (y 1))) (x1 y) (x2 y) (x3 y) := by
  rw [← Adam.delta_eq, ← Adam.sum_eight]
  frame_out
  pointwise [k0_pay1, k0_pay2, k0_pay3, k0_pay4, k0_pay5]
  rfl

/-- The summed gradient at row `i` and column `j`. -/
def grad (c : Dev nD) (i j : ℕ) : EReal := ∑ k : Fin 8, at3 (recv m c) k.val i j

/-- What the kernel leaves in its four output arrays at row `i` and column `j`. -/
def value4 (c : Dev nD) (i j : ℕ) : EReal := grad m c i j
def value5 (c : Dev nD) (i j : ℕ) : EReal :=
  Adam.delta (grad m c i j) (at2 (weight m c) i j) (at2 (first m c) i j) (at2 (second m c) i j)
def value6 (c : Dev nD) (i j : ℕ) : EReal := Adam.mom1 (grad m c i j) (at2 (first m c) i j)
def value7 (c : Dev nD) (i j : ℕ) : EReal := Adam.mom2 (grad m c i j) (at2 (second m c) i j)

/-- The gradients received at point `t`, added. -/
theorem slabs (c : Dev nD) (t : Fin cfg0.N) (x0 : Vec Ideal S8x256x2048 .bf16) (e : x0 = iblk m c 0 t) (y : S256x2048.Idx) :
    ∑ k : Fin 8, x0 (ix3 k (y 0) (y 1)) = grad m c (t.val * 256 + (y 0).val) (y 1).val := by
  subst e
  unfold grad
  refine Finset.sum_congr rfl fun k _ => ?_
  rw [blk0]; rfl

/-- The block of output 0 that point `t` writes back. -/
theorem out4 (c : Dev nD) (t : Fin cfg0.N) (y : S256x2048.Idx) :
    out0_4 (iblk m c 0 t) (iblk m c 1 t) (iblk m c 2 t) (iblk m c 3 t) y = value4 m c (t.val * 256 + (y 0).val) (y 1).val := by
  refine (grad_at _ _ _ _ y).trans ?_
  rw [slabs m c t _ rfl y]
  rfl

/-- Output array 0. -/
def result4 (c : Dev nD) : S1024x2048.Idx → EReal := fun i => value4 m c (i 0).val (i 1).val

/-- The array read at an index whose coordinates are known. -/
theorem result4_at (c : Dev nD) (i : S1024x2048.Idx) (a b : ℕ) (ha : (i 0).val = a) (hb : (i 1).val = b) :
    value4 m c a b = result4 m c i := by
  subst ha hb; rfl

/-- After the run the array holds, at every index, the value of the block that covers it. -/
theorem final4 (c : Dev nD) : (dats m 0 c).arrAt 4 cfg0.N = result4 m c := by
  refine (dats m 0 c).arrAt_eq_of_covers 4 (result4 m c) (by decide +kernel) fun t hf y => ?_
  obtain ⟨e0, e1⟩ := idx4 t
  have h0 : (y 0).val < 256 := (y 0).isLt
  have h1 : (y 1).val < 2048 := (y 1).isLt
  blk_simp
  rw [after0_4]
  refine (out4 m c t y).trans (result4_at m c _ _ _ ?_ ?_) <;> blk_simp <;> omega

/-- The block of output 1 that point `t` writes back. -/
theorem out5 (c : Dev nD) (t : Fin cfg0.N) (y : S256x2048.Idx) :
    out0_5 (iblk m c 0 t) (iblk m c 1 t) (iblk m c 2 t) (iblk m c 3 t) y = value5 m c (t.val * 256 + (y 0).val) (y 1).val := by
  refine (delta_at _ _ _ _ y).trans ?_
  rw [slabs m c t _ rfl y, blk1, blk2, blk3]
  rfl

/-- Output array 1. -/
def result5 (c : Dev nD) : S1024x2048.Idx → EReal := fun i => value5 m c (i 0).val (i 1).val

/-- The array read at an index whose coordinates are known. -/
theorem result5_at (c : Dev nD) (i : S1024x2048.Idx) (a b : ℕ) (ha : (i 0).val = a) (hb : (i 1).val = b) :
    value5 m c a b = result5 m c i := by
  subst ha hb; rfl

/-- After the run the array holds, at every index, the value of the block that covers it. -/
theorem final5 (c : Dev nD) : (dats m 0 c).arrAt 5 cfg0.N = result5 m c := by
  refine (dats m 0 c).arrAt_eq_of_covers 5 (result5 m c) (by decide +kernel) fun t hf y => ?_
  obtain ⟨e0, e1⟩ := idx5 t
  have h0 : (y 0).val < 256 := (y 0).isLt
  have h1 : (y 1).val < 2048 := (y 1).isLt
  blk_simp
  rw [after0_5]
  refine (out5 m c t y).trans (result5_at m c _ _ _ ?_ ?_) <;> blk_simp <;> omega

/-- The block of output 2 that point `t` writes back. -/
theorem out6 (c : Dev nD) (t : Fin cfg0.N) (y : S256x2048.Idx) :
    out0_6 (iblk m c 0 t) (iblk m c 1 t) (iblk m c 2 t) (iblk m c 3 t) y = value6 m c (t.val * 256 + (y 0).val) (y 1).val := by
  refine (first_at _ _ _ _ y).trans ?_
  rw [slabs m c t _ rfl y, blk2]
  rfl

/-- Output array 2. -/
def result6 (c : Dev nD) : S1024x2048.Idx → EReal := fun i => value6 m c (i 0).val (i 1).val

/-- The array read at an index whose coordinates are known. -/
theorem result6_at (c : Dev nD) (i : S1024x2048.Idx) (a b : ℕ) (ha : (i 0).val = a) (hb : (i 1).val = b) :
    value6 m c a b = result6 m c i := by
  subst ha hb; rfl

/-- After the run the array holds, at every index, the value of the block that covers it. -/
theorem final6 (c : Dev nD) : (dats m 0 c).arrAt 6 cfg0.N = result6 m c := by
  refine (dats m 0 c).arrAt_eq_of_covers 6 (result6 m c) (by decide +kernel) fun t hf y => ?_
  obtain ⟨e0, e1⟩ := idx6 t
  have h0 : (y 0).val < 256 := (y 0).isLt
  have h1 : (y 1).val < 2048 := (y 1).isLt
  blk_simp
  rw [after0_6]
  refine (out6 m c t y).trans (result6_at m c _ _ _ ?_ ?_) <;> blk_simp <;> omega

/-- The block of output 3 that point `t` writes back. -/
theorem out7 (c : Dev nD) (t : Fin cfg0.N) (y : S256x2048.Idx) :
    out0_7 (iblk m c 0 t) (iblk m c 1 t) (iblk m c 2 t) (iblk m c 3 t) y = value7 m c (t.val * 256 + (y 0).val) (y 1).val := by
  refine (second_at _ _ _ _ y).trans ?_
  rw [slabs m c t _ rfl y, blk3]
  rfl

/-- Output array 3. -/
def result7 (c : Dev nD) : S1024x2048.Idx → EReal := fun i => value7 m c (i 0).val (i 1).val

/-- The array read at an index whose coordinates are known. -/
theorem result7_at (c : Dev nD) (i : S1024x2048.Idx) (a b : ℕ) (ha : (i 0).val = a) (hb : (i 1).val = b) :
    value7 m c a b = result7 m c i := by
  subst ha hb; rfl

/-- After the run the array holds, at every index, the value of the block that covers it. -/
theorem final7 (c : Dev nD) : (dats m 0 c).arrAt 7 cfg0.N = result7 m c := by
  refine (dats m 0 c).arrAt_eq_of_covers 7 (result7 m c) (by decide +kernel) fun t hf y => ?_
  obtain ⟨e0, e1⟩ := idx7 t
  have h0 : (y 0).val < 256 := (y 0).isLt
  have h1 : (y 1).val < 2048 := (y 1).isLt
  blk_simp
  rw [after0_7]
  refine (out7 m c t y).trans (result7_at m c _ _ _ ?_ ?_) <;> blk_simp <;> omega

end Cert.AdamWFfn2Ideal.Step

namespace Cert.AdamWFfn2RefIdeal.Step

open Cert.AdamWFfn2RefIdeal Cert.AdamWFfn2RefIdeal.Gen Cert.AdamWFfn2RefIdeal.Read Cert.Blocked
open Idealize.ShloMosaic Idealize.ShloMosaic.TcCoe Idealize.SL.Sem

variable (x0 : S8x1024x2048.Idx → EReal) (x1 x2 x3 : S1024x2048.Idx → EReal) (i : S1024x2048.Idx)

/-- The reference's summed gradient, entry by entry. -/
theorem ref4 : val_main_v1 (F := Ideal) x0 i = ∑ k : Fin 8, at3 x0 k.val (i 0).val (i 1).val := by
  rw [val_main_v1_apply, val_main_cst_apply]
  refine (congrArg (· + _) Ideal.ofBits_zero_f32).trans ((zero_add _).trans ?_)
  refine Finset.sum_congr rfl fun k _ => ?_
  exact eq_at3 x0 _ _ _ _ rfl rfl rfl

/-- The reference's new first moment, entry by entry. -/
theorem ref6 : val_main_v6 (F := Ideal) x0 x2 i =
    Adam.mom1 (∑ k : Fin 8, at3 x0 k.val (i 0).val (i 1).val) (at2 x2 (i 0).val (i 1).val) := by
  rw [← ref4, ← eq_at2 x2 i _ _ rfl rfl]
  rfl

/-- The reference's new second moment, entry by entry. -/
theorem ref7 : val_main_v12 (F := Ideal) x0 x3 i =
    Adam.mom2 (∑ k : Fin 8, at3 x0 k.val (i 0).val (i 1).val) (at2 x3 (i 0).val (i 1).val) := by
  rw [← ref4, ← eq_at2 x3 i _ _ rfl rfl]
  rfl

/-- The reference's change of the weight, entry by entry. -/
theorem ref5 : val_main_v25 (F := Ideal) x0 x1 x2 x3 i =
    Adam.delta (∑ k : Fin 8, at3 x0 k.val (i 0).val (i 1).val) (at2 x1 (i 0).val (i 1).val) (at2 x2 (i 0).val (i 1).val)
      (at2 x3 (i 0).val (i 1).val) := by
  rw [← ref4, ← eq_at2 x1 i _ _ rfl rfl, ← eq_at2 x2 i _ _ rfl rfl, ← eq_at2 x3 i _ _ rfl rfl]
  rfl

end Cert.AdamWFfn2RefIdeal.Step

namespace Cert.Proof.AdamWFfn2

open Idealize.ShloMosaic Idealize.ShloMosaic.TcCoe Idealize.SL.Sem

/-- The two factors the kernel multiplies by stand for the exact inverses of the reference's divisors. -/
theorem preserves : Cert.preserves_AdamWFfn2_AdamWFfn2Ideal :=
  ⟨IdealRules.named_const.statement Cert.AdamWFfn2Ideal.κ "c1" .f32 0x3FC48605#32 ((8388608 / 5463681 : ℝ) : EReal) rfl,
   IdealRules.named_const.statement Cert.AdamWFfn2Ideal.κ "c2" .f32 0x42C8E6D3#32 ((268435456 / 2672307 : ℝ) : EReal) rfl⟩

/-- From memories that agree on the arguments, both programs end with the same results, and the arguments unchanged. -/
theorem algebraic : Cert.algebraic_AdamWFfn2Ideal_AdamWFfn2RefIdeal := by
  intro m g m' g' _ hag
  refine ⟨fun c => Cert.AdamWFfn2Ideal.Step.result4 m c, fun c => Cert.AdamWFfn2Ideal.Step.result5 m c,
    fun c => Cert.AdamWFfn2Ideal.Step.result6 m c, fun c => Cert.AdamWFfn2Ideal.Step.result7 m c,
    (θ_run Cert.AdamWFfn2Ideal.defs _ _).mono (fun r h c => ⟨(h c).1.trans (Cert.AdamWFfn2Ideal.Step.final4 m c),
        (h c).2.1.trans (Cert.AdamWFfn2Ideal.Step.final5 m c), (h c).2.2.1.trans (Cert.AdamWFfn2Ideal.Step.final6 m c),
        (h c).2.2.2.1.trans (Cert.AdamWFfn2Ideal.Step.final7 m c), (h c).2.2.2.2⟩)
      (Cert.AdamWFfn2Ideal.Value.run_blocks m g), ?_⟩
  refine (θ_run Cert.AdamWFfn2RefIdeal.defs _ _).mono (fun r h c => ⟨(h c).1.trans ?_, (h c).2.1.trans ?_, (h c).2.2.1.trans ?_,
      (h c).2.2.2.1.trans ?_, (h c).2.2.2.2⟩)
    (Cert.AdamWFfn2RefIdeal.Value.run m' g')
  · rw [Cert.AdamWFfn2RefIdeal.Read.val_main_v1_eq]
    funext i
    refine (Cert.AdamWFfn2RefIdeal.Step.ref4 _ i).trans ?_
    rw [(hag c).1]
    rfl
  · rw [Cert.AdamWFfn2RefIdeal.Read.val_main_v25_eq]
    funext i
    refine (Cert.AdamWFfn2RefIdeal.Step.ref5 _ _ _ _ i).trans ?_
    rw [(hag c).1, (hag c).2.1, (hag c).2.2.1, (hag c).2.2.2]
    rfl
  · rw [Cert.AdamWFfn2RefIdeal.Read.val_main_v6_eq]
    funext i
    refine (Cert.AdamWFfn2RefIdeal.Step.ref6 _ _ i).trans ?_
    rw [(hag c).1, (hag c).2.2.1]
    rfl
  · rw [Cert.AdamWFfn2RefIdeal.Read.val_main_v12_eq]
    funext i
    refine (Cert.AdamWFfn2RefIdeal.Step.ref7 _ _ i).trans ?_
    rw [(hag c).1, (hag c).2.2.2]
    rfl

/-- The reference runs to its end, leaves its arguments unchanged and every counter at zero. -/
theorem frame_reference : Cert.quiescent_AdamWFfn2RefIdeal := fun m ρ _ =>
  (θ_run Cert.AdamWFfn2RefIdeal.defs _ _).mono (fun r h => ⟨fun c => (h c).2.2.2.2, sem_eq_zero_of_no_sems (by decide) r.2⟩)
    (Cert.AdamWFfn2RefIdeal.Value.run (F := Ideal) m ρ)

end Cert.Proof.AdamWFfn2
-- ==== Proof.AdamWSquare.lean ====
/- The AdamW step that the program `AdamWSquare` takes: the received shards of a square weight's gradient are added, and the moments and the weight move.
   The kernel works on 2 blocks of 128 rows; each of its four output arrays holds the same values as the reference's, entry
   by entry. The kernel multiplies by the inverses of the bias corrections, the reference divides by them. -/
module

public import proofs.«01_k».proof.Proof.Adam
public import proofs.«01_k».proof.Proof.Gen.AdamWSquareIdeal.Value
public import proofs.«01_k».proof.Proof.Gen.AdamWSquareRefIdeal.Read
public import proofs.«01_k».proof.Defs

@[expose] public section

noncomputable section

namespace Cert.AdamWSquareIdeal.Step

open Cert.AdamWSquareIdeal Cert.AdamWSquareIdeal.Gen Cert.AdamWSquareIdeal.Value Cert.Blocked
open Idealize.ShloMosaic Idealize.ShloMosaic.TcCoe Idealize.SL.Sem
open Finset

variable (m : (ℓ : Loc nD τ sig) → Buf (Elt Ideal) ℓ)

/-- The gradients received, as launched. -/
abbrev recv (c : Dev nD) : S8x256x2048.Idx → EReal := m ((c : Thread nD τ).loc main_arg0)
/-- The weight as launched. -/
abbrev weight (c : Dev nD) : S256x2048.Idx → EReal := m ((c : Thread nD τ).loc main_arg1)
/-- The first moment as launched. -/
abbrev first (c : Dev nD) : S256x2048.Idx → EReal := m ((c : Thread nD τ).loc main_arg2)
/-- The second moment as launched. -/
abbrev second (c : Dev nD) : S256x2048.Idx → EReal := m ((c : Thread nD τ).loc main_arg3)

/-- The block that grid point `t` reads or writes of the gradients received. -/
theorem idx0 : ∀ t : Fin cfg0.N, win0_0.index t 0 = 0 ∧ win0_0.index t 1 = t.val ∧ win0_0.index t 2 = 0 :=
  (by decide +kernel : ∀ t : Fin grid0.N, _)

/-- The block that grid point `t` reads or writes of the weight. -/
theorem idx1 : ∀ t : Fin cfg0.N, win0_1.index t 0 = t.val ∧ win0_1.index t 1 = 0 :=
  (by decide +kernel : ∀ t : Fin grid0.N, _)

/-- The block that grid point `t` reads or writes of the first moment. -/
theorem idx2 : ∀ t : Fin cfg0.N, win0_2.index t 0 = t.val ∧ win0_2.index t 1 = 0 :=
  (by decide +kernel : ∀ t : Fin grid0.N, _)

/-- The block that grid point `t` reads or writes of the second moment. -/
theorem idx3 : ∀ t : Fin cfg0.N, win0_3.index t 0 = t.val ∧ win0_3.index t 1 = 0 :=
  (by decide +kernel : ∀ t : Fin grid0.N, _)

/-- The block that grid point `t` reads or writes of the summed gradient. -/
theorem idx4 : ∀ t : Fin cfg0.N, win0_4.index t 0 = t.val ∧ win0_4.index t 1 = 0 :=
  (by decide +kernel : ∀ t : Fin grid0.N, _)

/-- The block that grid point `t` reads or writes of the change of the weight. -/
theorem idx5 : ∀ t : Fin cfg0.N, win0_5.index t 0 = t.val ∧ win0_5.index t 1 = 0 :=
  (by decide +kernel : ∀ t : Fin grid0.N, _)

/-- The block that grid point `t` reads or writes of the new first moment. -/
theorem idx6 : ∀ t : Fin cfg0.N, win0_6.index t 0 = t.val ∧ win0_6.index t 1 = 0 :=
  (by decide +kernel : ∀ t : Fin grid0.N, _)

/-- The block that grid point `t` reads or writes of the new second moment. -/
theorem idx7 : ∀ t : Fin cfg0.N, win0_7.index t 0 = t.val ∧ win0_7.index t 1 = 0 :=
  (by decide +kernel : ∀ t : Fin grid0.N, _)

/-- The block of the gradients received at point `t`, read at the array's own coordinates. -/
theorem blk0 (c : Dev nD) (t : Fin cfg0.N) (y : S8x128x2048.Idx) :
    iblk m c 0 t y = at3 (recv m c) (y 0).val (t.val * 128 + (y 1).val) (y 2).val := by
  unfold iblk
  rw [View.read_apply]
  show (V m c main_arg0 : S8x256x2048.Idx → EReal) _ = _
  rw [V_main_arg0]
  obtain ⟨e0, e1, e2⟩ := idx0 t
  refine eq_at3 _ _ _ _ _ ?_ ?_ ?_ <;> blk_simp <;> omega

/-- The block of the weight at point `t`, read at the array's own coordinates. -/
theorem blk1 (c : Dev nD) (t : Fin cfg0.N) (y : S128x2048.Idx) :
    iblk m c 1 t y = at2 (weight m c) (t.val * 128 + (y 0).val) (y 1).val := by
  unfold iblk
  rw [View.read_apply]
  show (V m c main_arg1 : S256x2048.Idx → EReal) _ = _
  rw [V_main_arg1]
  obtain ⟨e0, e1⟩ := idx1 t
  refine eq_at2 _ _ _ _ ?_ ?_ <;> blk_simp <;> omega

/-- The block of the first moment at point `t`, read at the array's own coordinates. -/
theorem blk2 (c : Dev nD) (t : Fin cfg0.N) (y : S128x2048.Idx) :
    iblk m c 2 t y = at2 (first m c) (t.val * 128 + (y 0).val) (y 1).val := by
  unfold iblk
  rw [View.read_apply]
  show (V m c main_arg2 : S256x2048.Idx → EReal) _ = _
  rw [V_main_arg2]
  obtain ⟨e0, e1⟩ := idx2 t
  refine eq_at2 _ _ _ _ ?_ ?_ <;> blk_simp <;> omega

/-- The block of the second moment at point `t`, read at the array's own coordinates. -/
theorem blk3 (c : Dev nD) (t : Fin cfg0.N) (y : S128x2048.Idx) :
    iblk m c 3 t y = at2 (second m c) (t.val * 128 + (y 0).val) (y 1).val := by
  unfold iblk
  rw [View.read_apply]
  show (V m c main_arg3 : S256x2048.Idx → EReal) _ = _
  rw [V_main_arg3]
  obtain ⟨e0, e1⟩ := idx3 t
  refine eq_at2 _ _ _ _ ?_ ?_ <;> blk_simp <;> omega

/-- An entry of the summed gradient's block. -/
theorem grad_at (x0 : Vec Ideal S8x128x2048 .bf16) (x1 x2 x3 : Vec Ideal S128x2048 .f32) (y : S128x2048.Idx) :
    out0_4 x0 x1 x2 x3 y = ∑ k : Fin 8, x0 (ix3 k (y 0) (y 1)) := by
  rw [← Adam.sum_eight]
  frame_out
  pointwise [k0_pay1, k0_pay2, k0_pay3, k0_pay4, k0_pay5]

/-- An entry of the new first moment's block. -/
theorem first_at (x0 : Vec Ideal S8x128x2048 .bf16) (x1 x2 x3 : Vec Ideal S128x2048 .f32) (y : S128x2048.Idx) :
    out0_6 x0 x1 x2 x3 y = Adam.mom1 (∑ k : Fin 8, x0 (ix3 k (y 0) (y 1))) (x2 y) := by
  rw [← Adam.sum_eight]
  frame_out
  pointwise [k0_pay1, k0_pay2, k0_pay3, k0_pay4, k0_pay5]
  rfl

/-- An entry of the new second moment's block. -/
theorem second_at (x0 : Vec Ideal S8x128x2048 .bf16) (x1 x2 x3 : Vec Ideal S128x2048 .f32) (y : S128x2048.Idx) :
    out0_7 x0 x1 x2 x3 y = Adam.mom2 (∑ k : Fin 8, x0 (ix3 k (y 0) (y 1))) (x3 y) := by
  rw [← Adam.sum_eight]
  frame_out
  pointwise [k0_pay1, k0_pay2, k0_pay3, k0_pay4, k0_pay5]
  rfl

/-- An entry of the block of the weight's change. -/
theorem delta_at (x0 : Vec Ideal S8x128x2048 .bf16) (x1 x2 x3 : Vec Ideal S128x2048 .f32) (y : S128x2048.Idx) :
    out0_5 x0 x1 x2 x3 y = Adam.delta (∑ k : Fin 8, x0 (ix3 k (y 0) (y 1))) (x1 y) (x2 y) (x3 y) := by
  rw [← Adam.delta_eq, ← Adam.sum_eight]
  frame_out
  pointwise [k0_pay1, k0_pay2, k0_pay3, k0_pay4, k0_pay5]
  rfl

/-- The summed gradient at row `i` and column `j`. -/
def grad (c : Dev nD) (i j : ℕ) : EReal := ∑ k : Fin 8, at3 (recv m c) k.val i j

/-- What the kernel leaves in its four output arrays at row `i` and column `j`. -/
def value4 (c : Dev nD) (i j : ℕ) : EReal := grad m c i j
def value5 (c : Dev nD) (i j : ℕ) : EReal :=
  Adam.delta (grad m c i j) (at2 (weight m c) i j) (at2 (first m c) i j) (at2 (second m c) i j)
def value6 (c : Dev nD) (i j : ℕ) : EReal := Adam.mom1 (grad m c i j) (at2 (first m c) i j)
def value7 (c : Dev nD) (i j : ℕ) : EReal := Adam.mom2 (grad m c i j) (at2 (second m c) i j)

/-- The gradients received at point `t`, added. -/
theorem slabs (c : Dev nD) (t : Fin cfg0.N) (x0 : Vec Ideal S8x128x2048 .bf16) (e : x0 = iblk m c 0 t) (y : S128x2048.Idx) :
    ∑ k : Fin 8, x0 (ix3 k (y 0) (y 1)) = grad m c (t.val * 128 + (y 0).val) (y 1).val := by
  subst e
  unfold grad
  refine Finset.sum_congr rfl fun k _ => ?_
  rw [blk0]; rfl

/-- The block of output 0 that point `t` writes back. -/
theorem out4 (c : Dev nD) (t : Fin cfg0.N) (y : S128x2048.Idx) :
    out0_4 (iblk m c 0 t) (iblk m c 1 t) (iblk m c 2 t) (iblk m c 3 t) y = value4 m c (t.val * 128 + (y 0).val) (y 1).val := by
  refine (grad_at _ _ _ _ y).trans ?_
  rw [slabs m c t _ rfl y]
  rfl

/-- Output array 0. -/
def result4 (c : Dev nD) : S256x2048.Idx → EReal := fun i => value4 m c (i 0).val (i 1).val

/-- The array read at an index whose coordinates are known. -/
theorem result4_at (c : Dev nD) (i : S256x2048.Idx) (a b : ℕ) (ha : (i 0).val = a) (hb : (i 1).val = b) :
    value4 m c a b = result4 m c i := by
  subst ha hb; rfl

/-- After the run the array holds, at every index, the value of the block that covers it. -/
theorem final4 (c : Dev nD) : (dats m 0 c).arrAt 4 cfg0.N = result4 m c := by
  refine (dats m 0 c).arrAt_eq_of_covers 4 (result4 m c) (by decide +kernel) fun t hf y => ?_
  obtain ⟨e0, e1⟩ := idx4 t
  have h0 : (y 0).val < 128 := (y 0).isLt
  have h1 : (y 1).val < 2048 := (y 1).isLt
  blk_simp
  rw [after0_4]
  refine (out4 m c t y).trans (result4_at m c _ _ _ ?_ ?_) <;> blk_simp <;> omega

/-- The block of output 1 that point `t` writes back. -/
theorem out5 (c : Dev nD) (t : Fin cfg0.N) (y : S128x2048.Idx) :
    out0_5 (iblk m c 0 t) (iblk m c 1 t) (iblk m c 2 t) (iblk m c 3 t) y = value5 m c (t.val * 128 + (y 0).val) (y 1).val := by
  refine (delta_at _ _ _ _ y).trans ?_
  rw [slabs m c t _ rfl y, blk1, blk2, blk3]
  rfl

/-- Output array 1. -/
def result5 (c : Dev nD) : S256x2048.Idx → EReal := fun i => value5 m c (i 0).val (i 1).val

/-- The array read at an index whose coordinates are known. -/
theorem result5_at (c : Dev nD) (i : S256x2048.Idx) (a b : ℕ) (ha : (i 0).val = a) (hb : (i 1).val = b) :
    value5 m c a b = result5 m c i := by
  subst ha hb; rfl

/-- After the run the array holds, at every index, the value of the block that covers it. -/
theorem final5 (c : Dev nD) : (dats m 0 c).arrAt 5 cfg0.N = result5 m c := by
  refine (dats m 0 c).arrAt_eq_of_covers 5 (result5 m c) (by decide +kernel) fun t hf y => ?_
  obtain ⟨e0, e1⟩ := idx5 t
  have h0 : (y 0).val < 128 := (y 0).isLt
  have h1 : (y 1).val < 2048 := (y 1).isLt
  blk_simp
  rw [after0_5]
  refine (out5 m c t y).trans (result5_at m c _ _ _ ?_ ?_) <;> blk_simp <;> omega

/-- The block of output 2 that point `t` writes back. -/
theorem out6 (c : Dev nD) (t : Fin cfg0.N) (y : S128x2048.Idx) :
    out0_6 (iblk m c 0 t) (iblk m c 1 t) (iblk m c 2 t) (iblk m c 3 t) y = value6 m c (t.val * 128 + (y 0).val) (y 1).val := by
  refine (first_at _ _ _ _ y).trans ?_
  rw [slabs m c t _ rfl y, blk2]
  rfl

/-- Output array 2. -/
def result6 (c : Dev nD) : S256x2048.Idx → EReal := fun i => value6 m c (i 0).val (i 1).val

/-- The array read at an index whose coordinates are known. -/
theorem result6_at (c : Dev nD) (i : S256x2048.Idx) (a b : ℕ) (ha : (i 0).val = a) (hb : (i 1).val = b) :
    value6 m c a b = result6 m c i := by
  subst ha hb; rfl

/-- After the run the array holds, at every index, the value of the block that covers it. -/
theorem final6 (c : Dev nD) : (dats m 0 c).arrAt 6 cfg0.N = result6 m c := by
  refine (dats m 0 c).arrAt_eq_of_covers 6 (result6 m c) (by decide +kernel) fun t hf y => ?_
  obtain ⟨e0, e1⟩ := idx6 t
  have h0 : (y 0).val < 128 := (y 0).isLt
  have h1 : (y 1).val < 2048 := (y 1).isLt
  blk_simp
  rw [after0_6]
  refine (out6 m c t y).trans (result6_at m c _ _ _ ?_ ?_) <;> blk_simp <;> omega

/-- The block of output 3 that point `t` writes back. -/
theorem out7 (c : Dev nD) (t : Fin cfg0.N) (y : S128x2048.Idx) :
    out0_7 (iblk m c 0 t) (iblk m c 1 t) (iblk m c 2 t) (iblk m c 3 t) y = value7 m c (t.val * 128 + (y 0).val) (y 1).val := by
  refine (second_at _ _ _ _ y).trans ?_
  rw [slabs m c t _ rfl y, blk3]
  rfl

/-- Output array 3. -/
def result7 (c : Dev nD) : S256x2048.Idx → EReal := fun i => value7 m c (i 0).val (i 1).val

/-- The array read at an index whose coordinates are known. -/
theorem result7_at (c : Dev nD) (i : S256x2048.Idx) (a b : ℕ) (ha : (i 0).val = a) (hb : (i 1).val = b) :
    value7 m c a b = result7 m c i := by
  subst ha hb; rfl

/-- After the run the array holds, at every index, the value of the block that covers it. -/
theorem final7 (c : Dev nD) : (dats m 0 c).arrAt 7 cfg0.N = result7 m c := by
  refine (dats m 0 c).arrAt_eq_of_covers 7 (result7 m c) (by decide +kernel) fun t hf y => ?_
  obtain ⟨e0, e1⟩ := idx7 t
  have h0 : (y 0).val < 128 := (y 0).isLt
  have h1 : (y 1).val < 2048 := (y 1).isLt
  blk_simp
  rw [after0_7]
  refine (out7 m c t y).trans (result7_at m c _ _ _ ?_ ?_) <;> blk_simp <;> omega

end Cert.AdamWSquareIdeal.Step

namespace Cert.AdamWSquareRefIdeal.Step

open Cert.AdamWSquareRefIdeal Cert.AdamWSquareRefIdeal.Gen Cert.AdamWSquareRefIdeal.Read Cert.Blocked
open Idealize.ShloMosaic Idealize.ShloMosaic.TcCoe Idealize.SL.Sem

variable (x0 : S8x256x2048.Idx → EReal) (x1 x2 x3 : S256x2048.Idx → EReal) (i : S256x2048.Idx)

/-- The reference's summed gradient, entry by entry. -/
theorem ref4 : val_main_v1 (F := Ideal) x0 i = ∑ k : Fin 8, at3 x0 k.val (i 0).val (i 1).val := by
  rw [val_main_v1_apply, val_main_cst_apply]
  refine (congrArg (· + _) Ideal.ofBits_zero_f32).trans ((zero_add _).trans ?_)
  refine Finset.sum_congr rfl fun k _ => ?_
  exact eq_at3 x0 _ _ _ _ rfl rfl rfl

/-- The reference's new first moment, entry by entry. -/
theorem ref6 : val_main_v6 (F := Ideal) x0 x2 i =
    Adam.mom1 (∑ k : Fin 8, at3 x0 k.val (i 0).val (i 1).val) (at2 x2 (i 0).val (i 1).val) := by
  rw [← ref4, ← eq_at2 x2 i _ _ rfl rfl]
  rfl

/-- The reference's new second moment, entry by entry. -/
theorem ref7 : val_main_v12 (F := Ideal) x0 x3 i =
    Adam.mom2 (∑ k : Fin 8, at3 x0 k.val (i 0).val (i 1).val) (at2 x3 (i 0).val (i 1).val) := by
  rw [← ref4, ← eq_at2 x3 i _ _ rfl rfl]
  rfl

/-- The reference's change of the weight, entry by entry. -/
theorem ref5 : val_main_v25 (F := Ideal) x0 x1 x2 x3 i =
    Adam.delta (∑ k : Fin 8, at3 x0 k.val (i 0).val (i 1).val) (at2 x1 (i 0).val (i 1).val) (at2 x2 (i 0).val (i 1).val)
      (at2 x3 (i 0).val (i 1).val) := by
  rw [← ref4, ← eq_at2 x1 i _ _ rfl rfl, ← eq_at2 x2 i _ _ rfl rfl, ← eq_at2 x3 i _ _ rfl rfl]
  rfl

end Cert.AdamWSquareRefIdeal.Step

namespace Cert.Proof.AdamWSquare

open Idealize.ShloMosaic Idealize.ShloMosaic.TcCoe Idealize.SL.Sem

/-- The two factors the kernel multiplies by stand for the exact inverses of the reference's divisors. -/
theorem preserves : Cert.preserves_AdamWSquare_AdamWSquareIdeal :=
  ⟨IdealRules.named_const.statement Cert.AdamWSquareIdeal.κ "c1" .f32 0x3FC48605#32 ((8388608 / 5463681 : ℝ) : EReal) rfl,
   IdealRules.named_const.statement Cert.AdamWSquareIdeal.κ "c2" .f32 0x42C8E6D3#32 ((268435456 / 2672307 : ℝ) : EReal) rfl⟩

/-- From memories that agree on the arguments, both programs end with the same results, and the arguments unchanged. -/
theorem algebraic : Cert.algebraic_AdamWSquareIdeal_AdamWSquareRefIdeal := by
  intro m g m' g' _ hag
  refine ⟨fun c => Cert.AdamWSquareIdeal.Step.result4 m c, fun c => Cert.AdamWSquareIdeal.Step.result5 m c,
    fun c => Cert.AdamWSquareIdeal.Step.result6 m c, fun c => Cert.AdamWSquareIdeal.Step.result7 m c,
    (θ_run Cert.AdamWSquareIdeal.defs _ _).mono (fun r h c => ⟨(h c).1.trans (Cert.AdamWSquareIdeal.Step.final4 m c),
        (h c).2.1.trans (Cert.AdamWSquareIdeal.Step.final5 m c), (h c).2.2.1.trans (Cert.AdamWSquareIdeal.Step.final6 m c),
        (h c).2.2.2.1.trans (Cert.AdamWSquareIdeal.Step.final7 m c), (h c).2.2.2.2⟩)
      (Cert.AdamWSquareIdeal.Value.run_blocks m g), ?_⟩
  refine (θ_run Cert.AdamWSquareRefIdeal.defs _ _).mono (fun r h c => ⟨(h c).1.trans ?_, (h c).2.1.trans ?_, (h c).2.2.1.trans ?_,
      (h c).2.2.2.1.trans ?_, (h c).2.2.2.2⟩)
    (Cert.AdamWSquareRefIdeal.Value.run m' g')
  · rw [Cert.AdamWSquareRefIdeal.Read.val_main_v1_eq]
    funext i
    refine (Cert.AdamWSquareRefIdeal.Step.ref4 _ i).trans ?_
    rw [(hag c).1]
    rfl
  · rw [Cert.AdamWSquareRefIdeal.Read.val_main_v25_eq]
    funext i
    refine (Cert.AdamWSquareRefIdeal.Step.ref5 _ _ _ _ i).trans ?_
    rw [(hag c).1, (hag c).2.1, (hag c).2.2.1, (hag c).2.2.2]
    rfl
  · rw [Cert.AdamWSquareRefIdeal.Read.val_main_v6_eq]
    funext i
    refine (Cert.AdamWSquareRefIdeal.Step.ref6 _ _ i).trans ?_
    rw [(hag c).1, (hag c).2.2.1]
    rfl
  · rw [Cert.AdamWSquareRefIdeal.Read.val_main_v12_eq]
    funext i
    refine (Cert.AdamWSquareRefIdeal.Step.ref7 _ _ i).trans ?_
    rw [(hag c).1, (hag c).2.2.2]
    rfl

/-- The reference runs to its end, leaves its arguments unchanged and every counter at zero. -/
theorem frame_reference : Cert.quiescent_AdamWSquareRefIdeal := fun m ρ _ =>
  (θ_run Cert.AdamWSquareRefIdeal.defs _ _).mono (fun r h => ⟨fun c => (h c).2.2.2.2, sem_eq_zero_of_no_sems (by decide) r.2⟩)
    (Cert.AdamWSquareRefIdeal.Value.run (F := Ideal) m ρ)

end Cert.Proof.AdamWSquare
-- ==== Proof.SumIn.lean ====
/- The sum that the program `SumIn` computes: the eight slabs of `w_in`'s gradient are added. The kernel works on 8 blocks
   of 256 columns; its output array holds the same sums as the reference's, entry by entry. -/
module

public import proofs.«01_k».proof.Proof.Adam
public import proofs.«01_k».proof.Proof.Gen.SumInIdeal.Value
public import proofs.«01_k».proof.Proof.Gen.SumInRefIdeal.Read
public import proofs.«01_k».proof.Defs

@[expose] public section

noncomputable section

namespace Cert.SumInIdeal.Step

open Cert.SumInIdeal Cert.SumInIdeal.Gen Cert.SumInIdeal.Value Cert.Blocked
open Idealize.ShloMosaic Idealize.ShloMosaic.TcCoe Idealize.SL.Sem
open Finset

variable (m : (ℓ : Loc nD τ sig) → Buf (Elt Ideal) ℓ)

/-- The slabs, as launched. -/
abbrev recv (c : Dev nD) : S8x762x2048.Idx → EReal := m ((c : Thread nD τ).loc main_arg0)

/-- The block that grid point `t` reads of the slabs. -/
theorem idx0 : ∀ t : Fin cfg0.N, win0_0.index t 0 = 0 ∧ win0_0.index t 1 = 0 ∧ win0_0.index t 2 = t.val :=
  (by decide +kernel : ∀ t : Fin grid0.N, _)

/-- The block that grid point `t` writes. -/
theorem idx1 : ∀ t : Fin cfg0.N, win0_1.index t 0 = 0 ∧ win0_1.index t 1 = t.val :=
  (by decide +kernel : ∀ t : Fin grid0.N, _)

/-- The block of the slabs at point `t`, read at the array's own coordinates. -/
theorem blk0 (c : Dev nD) (t : Fin cfg0.N) (y : S8x762x256.Idx) :
    iblk m c 0 t y = at3 (recv m c) (y 0).val (y 1).val (t.val * 256 + (y 2).val) := by
  unfold iblk
  rw [View.read_apply]
  show (V m c main_arg0 : S8x762x2048.Idx → EReal) _ = _
  rw [V_main_arg0]
  obtain ⟨e0, e1, e2⟩ := idx0 t
  refine eq_at3 _ _ _ _ _ ?_ ?_ ?_ <;> blk_simp <;> omega

/-- An entry of the sum's block. -/
theorem grad_at (x0 : Vec Ideal S8x762x256 .bf16) (y : S762x256.Idx) :
    out0_1 x0 y = ∑ k : Fin 8, x0 (ix3 k (y 0) (y 1)) := by
  rw [← Adam.sum_eight]
  frame_out
  pointwise [k0_pay1]

/-- The sum at row `i` and column `j`. -/
def value1 (c : Dev nD) (i j : ℕ) : EReal := ∑ k : Fin 8, at3 (recv m c) k.val i j

/-- The block that point `t` writes back. -/
theorem out1 (c : Dev nD) (t : Fin cfg0.N) (y : S762x256.Idx) :
    out0_1 (iblk m c 0 t) y = value1 m c (y 0).val (t.val * 256 + (y 1).val) := by
  refine (grad_at _ y).trans ?_
  unfold value1
  refine Finset.sum_congr rfl fun k _ => ?_
  rw [blk0]; rfl

/-- The output array. -/
def result1 (c : Dev nD) : S762x2048.Idx → EReal := fun i => value1 m c (i 0).val (i 1).val

/-- The array read at an index whose coordinates are known. -/
theorem result1_at (c : Dev nD) (i : S762x2048.Idx) (a b : ℕ) (ha : (i 0).val = a) (hb : (i 1).val = b) :
    value1 m c a b = result1 m c i := by
  subst ha hb; rfl

/-- After the run the array holds, at every index, the value of the block that covers it. -/
theorem final1 (c : Dev nD) : (dats m 0 c).arrAt 1 cfg0.N = result1 m c := by
  refine (dats m 0 c).arrAt_eq_of_covers 1 (result1 m c) (by decide +kernel) fun t hf y => ?_
  obtain ⟨e0, e1⟩ := idx1 t
  have h0 : (y 0).val < 762 := (y 0).isLt
  have h1 : (y 1).val < 256 := (y 1).isLt
  blk_simp
  rw [after0_1]
  refine (out1 m c t y).trans (result1_at m c _ _ _ ?_ ?_) <;> blk_simp <;> omega

end Cert.SumInIdeal.Step

namespace Cert.SumInRefIdeal.Step

open Cert.SumInRefIdeal Cert.SumInRefIdeal.Gen Cert.SumInRefIdeal.Read Cert.Blocked
open Idealize.ShloMosaic Idealize.ShloMosaic.TcCoe Idealize.SL.Sem

/-- The reference's sum, entry by entry. -/
theorem ref1 (x0 : S8x762x2048.Idx → EReal) (i : S762x2048.Idx) :
    val_main_v1 (F := Ideal) x0 i = ∑ k : Fin 8, at3 x0 k.val (i 0).val (i 1).val := by
  rw [val_main_v1_apply, val_main_cst_apply]
  refine (congrArg (· + _) Ideal.ofBits_zero_f32).trans ((zero_add _).trans ?_)
  refine Finset.sum_congr rfl fun k _ => ?_
  exact eq_at3 x0 _ _ _ _ rfl rfl rfl

end Cert.SumInRefIdeal.Step

namespace Cert.Proof.SumIn

open Idealize.ShloMosaic Idealize.ShloMosaic.TcCoe Idealize.SL.Sem

/-- From memories that agree on the arguments, both programs end with the same results, and the arguments unchanged. -/
theorem algebraic : Cert.algebraic_SumInIdeal_SumInRefIdeal := by
  intro m g m' g' _ hag
  refine ⟨fun c => Cert.SumInIdeal.Step.result1 m c,
    (θ_run Cert.SumInIdeal.defs _ _).mono (fun r h c => ⟨(h c).1.trans (Cert.SumInIdeal.Step.final1 m c), (h c).2⟩)
      (Cert.SumInIdeal.Value.run_blocks m g), ?_⟩
  refine (θ_run Cert.SumInRefIdeal.defs _ _).mono (fun r h c => ⟨(h c).1.trans ?_, (h c).2⟩)
    (Cert.SumInRefIdeal.Value.run m' g')
  rw [Cert.SumInRefIdeal.Read.val_main_v1_eq]
  funext i
  refine (Cert.SumInRefIdeal.Step.ref1 _ i).trans ?_
  rw [hag c]
  rfl

/-- The reference runs to its end, leaves its arguments unchanged and every counter at zero. -/
theorem frame_reference : Cert.quiescent_SumInRefIdeal := fun m ρ _ =>
  (θ_run Cert.SumInRefIdeal.defs _ _).mono (fun r h => ⟨fun c => (h c).2, sem_eq_zero_of_no_sems (by decide) r.2⟩)
    (Cert.SumInRefIdeal.Value.run (F := Ideal) m ρ)

end Cert.Proof.SumIn
-- ==== Proof.AdamWIn.lean ====
/- The AdamW step that the program `AdamWIn` takes: the summed gradient of `w_in` is transposed on the host, and the moments and the weight move.
   The kernel works on 8 blocks of 256 rows; each of its four output arrays holds the same values as the reference's, entry
   by entry. The kernel multiplies by the inverses of the bias corrections, the reference divides by them. -/
module

public import proofs.«01_k».proof.Proof.Adam
public import proofs.«01_k».proof.Proof.Gen.AdamWInIdeal.Value
public import proofs.«01_k».proof.Proof.Gen.AdamWInRefIdeal.Read
public import proofs.«01_k».proof.Defs

@[expose] public section

noncomputable section

namespace Cert.AdamWInIdeal.Step

open Cert.AdamWInIdeal Cert.AdamWInIdeal.Gen Cert.AdamWInIdeal.Value Cert.Blocked
open Idealize.ShloMosaic Idealize.ShloMosaic.TcCoe Idealize.SL.Sem
open Finset

variable (m : (ℓ : Loc nD τ sig) → Buf (Elt Ideal) ℓ)

/-- The summed gradient, as launched. -/
abbrev recv (c : Dev nD) : S762x2048.Idx → EReal := m ((c : Thread nD τ).loc main_arg0)
/-- The weight as launched. -/
abbrev weight (c : Dev nD) : S2048x762.Idx → EReal := m ((c : Thread nD τ).loc main_arg1)
/-- The first moment as launched. -/
abbrev first (c : Dev nD) : S2048x762.Idx → EReal := m ((c : Thread nD τ).loc main_arg2)
/-- The second moment as launched. -/
abbrev second (c : Dev nD) : S2048x762.Idx → EReal := m ((c : Thread nD τ).loc main_arg3)

/-- The block that grid point `t` reads or writes of the summed gradient. -/
theorem idx0 : ∀ t : Fin cfg0.N, win0_0.index t 0 = 0 ∧ win0_0.index t 1 = t.val ∧ win0_0.index t 2 = 0 :=
  (by decide +kernel : ∀ t : Fin grid0.N, _)

/-- The block that grid point `t` reads or writes of the weight. -/
theorem idx1 : ∀ t : Fin cfg0.N, win0_1.index t 0 = t.val ∧ win0_1.index t 1 = 0 :=
  (by decide +kernel : ∀ t : Fin grid0.N, _)

/-- The block that grid point `t` reads or writes of the first moment. -/
theorem idx2 : ∀ t : Fin cfg0.N, win0_2.index t 0 = t.val ∧ win0_2.index t 1 = 0 :=
  (by decide +kernel : ∀ t : Fin grid0.N, _)

/-- The block that grid point `t` reads or writes of the second moment. -/
theorem idx3 : ∀ t : Fin cfg0.N, win0_3.index t 0 = t.val ∧ win0_3.index t 1 = 0 :=
  (by decide +kernel : ∀ t : Fin grid0.N, _)

/-- The block that grid point `t` reads or writes of the summed gradient. -/
theorem idx4 : ∀ t : Fin cfg0.N, win0_4.index t 0 = t.val ∧ win0_4.index t 1 = 0 :=
  (by decide +kernel : ∀ t : Fin grid0.N, _)

/-- The block that grid point `t` reads or writes of the change of the weight. -/
theorem idx5 : ∀ t : Fin cfg0.N, win0_5.index t 0 = t.val ∧ win0_5.index t 1 = 0 :=
  (by decide +kernel : ∀ t : Fin grid0.N, _)

/-- The block that grid point `t` reads or writes of the new first moment. -/
theorem idx6 : ∀ t : Fin cfg0.N, win0_6.index t 0 = t.val ∧ win0_6.index t 1 = 0 :=
  (by decide +kernel : ∀ t : Fin grid0.N, _)

/-- The block that grid point `t` reads or writes of the new second moment. -/
theorem idx7 : ∀ t : Fin cfg0.N, win0_7.index t 0 = t.val ∧ win0_7.index t 1 = 0 :=
  (by decide +kernel : ∀ t : Fin grid0.N, _)

/-- The kernel's operand is the transpose of the summed gradient. -/
theorem entry (c : Dev nD) (i : S1x2048x762.Idx) :
    (V m c main_v1 : S1x2048x762.Idx → EReal) i = at2 (recv m c) (i 2).val (i 1).val := by
  entry_read
  refine (broadcastInDim_apply _ bcast_S2048x762_S1x2048x762_1_2 _ i (ix2 (i 1) (i 2)) (fun b => match b with
      | ⟨0, _⟩ => rfl
      | ⟨1, _⟩ => rfl)).trans ?_
  refine (transpose_apply [1, 0] _ transposes_S762x2048_S2048x762_1_0 (ix2 (i 1) (i 2)) (ix2 (i 2) (i 1)) (fun b => match b with
      | ⟨0, _⟩ => rfl
      | ⟨1, _⟩ => rfl)).trans ?_
  exact eq_at2 _ _ _ _ rfl rfl

/-- The block of the summed gradient at point `t`, read at the array's own coordinates. -/
theorem blk0 (c : Dev nD) (t : Fin cfg0.N) (y : S1x256x762.Idx) :
    iblk m c 0 t y = at2 (recv m c) (y 2).val (t.val * 256 + (y 1).val) := by
  unfold iblk
  rw [View.read_apply]
  show (V m c main_v1 : S1x2048x762.Idx → EReal) _ = _
  rw [entry]
  obtain ⟨e0, e1, e2⟩ := idx0 t
  refine congrArg₂ (at2 (recv m c)) ?_ ?_ <;> blk_simp <;> omega

/-- The block of the weight at point `t`, read at the array's own coordinates. -/
theorem blk1 (c : Dev nD) (t : Fin cfg0.N) (y : S256x762.Idx) :
    iblk m c 1 t y = at2 (weight m c) (t.val * 256 + (y 0).val) (y 1).val := by
  unfold iblk
  rw [View.read_apply]
  show (V m c main_arg1 : S2048x762.Idx → EReal) _ = _
  rw [V_main_arg1]
  obtain ⟨e0, e1⟩ := idx1 t
  refine eq_at2 _ _ _ _ ?_ ?_ <;> blk_simp <;> omega

/-- The block of the first moment at point `t`, read at the array's own coordinates. -/
theorem blk2 (c : Dev nD) (t : Fin cfg0.N) (y : S256x762.Idx) :
    iblk m c 2 t y = at2 (first m c) (t.val * 256 + (y 0).val) (y 1).val := by
  unfold iblk
  rw [View.read_apply]
  show (V m c main_arg2 : S2048x762.Idx → EReal) _ = _
  rw [V_main_arg2]
  obtain ⟨e0, e1⟩ := idx2 t
  refine eq_at2 _ _ _ _ ?_ ?_ <;> blk_simp <;> omega

/-- The block of the second moment at point `t`, read at the array's own coordinates. -/
theorem blk3 (c : Dev nD) (t : Fin cfg0.N) (y : S256x762.Idx) :
    iblk m c 3 t y = at2 (second m c) (t.val * 256 + (y 0).val) (y 1).val := by
  unfold iblk
  rw [View.read_apply]
  show (V m c main_arg3 : S2048x762.Idx → EReal) _ = _
  rw [V_main_arg3]
  obtain ⟨e0, e1⟩ := idx3 t
  refine eq_at2 _ _ _ _ ?_ ?_ <;> blk_simp <;> omega

/-- An entry of the summed gradient's block. -/
theorem grad_at (x0 : Vec Ideal S1x256x762 .f32) (x1 x2 x3 : Vec Ideal S256x762 .f32) (y : S256x762.Idx) :
    out0_4 x0 x1 x2 x3 y = x0 (ix3 0 (y 0) (y 1)) := by
  frame_out
  pointwise [k0_pay1, k0_pay2, k0_pay3, k0_pay4]

/-- An entry of the new first moment's block. -/
theorem first_at (x0 : Vec Ideal S1x256x762 .f32) (x1 x2 x3 : Vec Ideal S256x762 .f32) (y : S256x762.Idx) :
    out0_6 x0 x1 x2 x3 y = Adam.mom1 (x0 (ix3 0 (y 0) (y 1))) (x2 y) := by
  frame_out
  pointwise [k0_pay1, k0_pay2, k0_pay3, k0_pay4]
  rfl

/-- An entry of the new second moment's block. -/
theorem second_at (x0 : Vec Ideal S1x256x762 .f32) (x1 x2 x3 : Vec Ideal S256x762 .f32) (y : S256x762.Idx) :
    out0_7 x0 x1 x2 x3 y = Adam.mom2 (x0 (ix3 0 (y 0) (y 1))) (x3 y) := by
  frame_out
  pointwise [k0_pay1, k0_pay2, k0_pay3, k0_pay4]
  rfl

/-- An entry of the block of the weight's change. -/
theorem delta_at (x0 : Vec Ideal S1x256x762 .f32) (x1 x2 x3 : Vec Ideal S256x762 .f32) (y : S256x762.Idx) :
    out0_5 x0 x1 x2 x3 y = Adam.delta (x0 (ix3 0 (y 0) (y 1))) (x1 y) (x2 y) (x3 y) := by
  rw [← Adam.delta_eq]
  frame_out
  pointwise [k0_pay1, k0_pay2, k0_pay3, k0_pay4]
  rfl

/-- The summed gradient at row `i` and column `j`. -/
def grad (c : Dev nD) (i j : ℕ) : EReal := at2 (recv m c) j i

/-- What the kernel leaves in its four output arrays at row `i` and column `j`. -/
def value4 (c : Dev nD) (i j : ℕ) : EReal := grad m c i j
def value5 (c : Dev nD) (i j : ℕ) : EReal :=
  Adam.delta (grad m c i j) (at2 (weight m c) i j) (at2 (first m c) i j) (at2 (second m c) i j)
def value6 (c : Dev nD) (i j : ℕ) : EReal := Adam.mom1 (grad m c i j) (at2 (first m c) i j)
def value7 (c : Dev nD) (i j : ℕ) : EReal := Adam.mom2 (grad m c i j) (at2 (second m c) i j)

/-- The summed gradient at point `t`. -/
theorem slabs (c : Dev nD) (t : Fin cfg0.N) (x0 : Vec Ideal S1x256x762 .f32) (e : x0 = iblk m c 0 t) (y : S256x762.Idx) :
    x0 (ix3 0 (y 0) (y 1)) = grad m c (t.val * 256 + (y 0).val) (y 1).val := by
  subst e
  unfold grad
  rw [blk0]; rfl

/-- The block of output 0 that point `t` writes back. -/
theorem out4 (c : Dev nD) (t : Fin cfg0.N) (y : S256x762.Idx) :
    out0_4 (iblk m c 0 t) (iblk m c 1 t) (iblk m c 2 t) (iblk m c 3 t) y = value4 m c (t.val * 256 + (y 0).val) (y 1).val := by
  refine (grad_at _ _ _ _ y).trans ?_
  rw [slabs m c t _ rfl y]
  rfl

/-- Output array 0. -/
def result4 (c : Dev nD) : S2048x762.Idx → EReal := fun i => value4 m c (i 0).val (i 1).val

/-- The array read at an index whose coordinates are known. -/
theorem result4_at (c : Dev nD) (i : S2048x762.Idx) (a b : ℕ) (ha : (i 0).val = a) (hb : (i 1).val = b) :
    value4 m c a b = result4 m c i := by
  subst ha hb; rfl

/-- After the run the array holds, at every index, the value of the block that covers it. -/
theorem final4 (c : Dev nD) : (dats m 0 c).arrAt 4 cfg0.N = result4 m c := by
  refine (dats m 0 c).arrAt_eq_of_covers 4 (result4 m c) (by decide +kernel) fun t hf y => ?_
  obtain ⟨e0, e1⟩ := idx4 t
  have h0 : (y 0).val < 256 := (y 0).isLt
  have h1 : (y 1).val < 762 := (y 1).isLt
  blk_simp
  rw [after0_4]
  refine (out4 m c t y).trans (result4_at m c _ _ _ ?_ ?_) <;> blk_simp <;> omega

/-- The block of output 1 that point `t` writes back. -/
theorem out5 (c : Dev nD) (t : Fin cfg0.N) (y : S256x762.Idx) :
    out0_5 (iblk m c 0 t) (iblk m c 1 t) (iblk m c 2 t) (iblk m c 3 t) y = value5 m c (t.val * 256 + (y 0).val) (y 1).val := by
  refine (delta_at _ _ _ _ y).trans ?_
  rw [slabs m c t _ rfl y, blk1, blk2, blk3]
  rfl

/-- Output array 1. -/
def result5 (c : Dev nD) : S2048x762.Idx → EReal := fun i => value5 m c (i 0).val (i 1).val

/-- The array read at an index whose coordinates are known. -/
theorem result5_at (c : Dev nD) (i : S2048x762.Idx) (a b : ℕ) (ha : (i 0).val = a) (hb : (i 1).val = b) :
    value5 m c a b = result5 m c i := by
  subst ha hb; rfl

/-- After the run the array holds, at every index, the value of the block that covers it. -/
theorem final5 (c : Dev nD) : (dats m 0 c).arrAt 5 cfg0.N = result5 m c := by
  refine (dats m 0 c).arrAt_eq_of_covers 5 (result5 m c) (by decide +kernel) fun t hf y => ?_
  obtain ⟨e0, e1⟩ := idx5 t
  have h0 : (y 0).val < 256 := (y 0).isLt
  have h1 : (y 1).val < 762 := (y 1).isLt
  blk_simp
  rw [after0_5]
  refine (out5 m c t y).trans (result5_at m c _ _ _ ?_ ?_) <;> blk_simp <;> omega

/-- The block of output 2 that point `t` writes back. -/
theorem out6 (c : Dev nD) (t : Fin cfg0.N) (y : S256x762.Idx) :
    out0_6 (iblk m c 0 t) (iblk m c 1 t) (iblk m c 2 t) (iblk m c 3 t) y = value6 m c (t.val * 256 + (y 0).val) (y 1).val := by
  refine (first_at _ _ _ _ y).trans ?_
  rw [slabs m c t _ rfl y, blk2]
  rfl

/-- Output array 2. -/
def result6 (c : Dev nD) : S2048x762.Idx → EReal := fun i => value6 m c (i 0).val (i 1).val

/-- The array read at an index whose coordinates are known. -/
theorem result6_at (c : Dev nD) (i : S2048x762.Idx) (a b : ℕ) (ha : (i 0).val = a) (hb : (i 1).val = b) :
    value6 m c a b = result6 m c i := by
  subst ha hb; rfl

/-- After the run the array holds, at every index, the value of the block that covers it. -/
theorem final6 (c : Dev nD) : (dats m 0 c).arrAt 6 cfg0.N = result6 m c := by
  refine (dats m 0 c).arrAt_eq_of_covers 6 (result6 m c) (by decide +kernel) fun t hf y => ?_
  obtain ⟨e0, e1⟩ := idx6 t
  have h0 : (y 0).val < 256 := (y 0).isLt
  have h1 : (y 1).val < 762 := (y 1).isLt
  blk_simp
  rw [after0_6]
  refine (out6 m c t y).trans (result6_at m c _ _ _ ?_ ?_) <;> blk_simp <;> omega

/-- The block of output 3 that point `t` writes back. -/
theorem out7 (c : Dev nD) (t : Fin cfg0.N) (y : S256x762.Idx) :
    out0_7 (iblk m c 0 t) (iblk m c 1 t) (iblk m c 2 t) (iblk m c 3 t) y = value7 m c (t.val * 256 + (y 0).val) (y 1).val := by
  refine (second_at _ _ _ _ y).trans ?_
  rw [slabs m c t _ rfl y, blk3]
  rfl

/-- Output array 3. -/
def result7 (c : Dev nD) : S2048x762.Idx → EReal := fun i => value7 m c (i 0).val (i 1).val

/-- The array read at an index whose coordinates are known. -/
theorem result7_at (c : Dev nD) (i : S2048x762.Idx) (a b : ℕ) (ha : (i 0).val = a) (hb : (i 1).val = b) :
    value7 m c a b = result7 m c i := by
  subst ha hb; rfl

/-- After the run the array holds, at every index, the value of the block that covers it. -/
theorem final7 (c : Dev nD) : (dats m 0 c).arrAt 7 cfg0.N = result7 m c := by
  refine (dats m 0 c).arrAt_eq_of_covers 7 (result7 m c) (by decide +kernel) fun t hf y => ?_
  obtain ⟨e0, e1⟩ := idx7 t
  have h0 : (y 0).val < 256 := (y 0).isLt
  have h1 : (y 1).val < 762 := (y 1).isLt
  blk_simp
  rw [after0_7]
  refine (out7 m c t y).trans (result7_at m c _ _ _ ?_ ?_) <;> blk_simp <;> omega

end Cert.AdamWInIdeal.Step

namespace Cert.AdamWInRefIdeal.Step

open Cert.AdamWInRefIdeal Cert.AdamWInRefIdeal.Gen Cert.AdamWInRefIdeal.Read Cert.Blocked
open Idealize.ShloMosaic Idealize.ShloMosaic.TcCoe Idealize.SL.Sem

variable (x0 : S762x2048.Idx → EReal) (x1 x2 x3 : S2048x762.Idx → EReal) (i : S2048x762.Idx)

/-- The reference's summed gradient, entry by entry. -/
theorem ref4 : val_main_v0 (F := Ideal) x0 i = at2 x0 (i 1).val (i 0).val := by
  rw [val_main_v0_apply]
  exact eq_at2 x0 _ _ _ rfl rfl

/-- The reference's new first moment, entry by entry. -/
theorem ref6 : val_main_v5 (F := Ideal) x0 x2 i =
    Adam.mom1 (at2 x0 (i 1).val (i 0).val) (at2 x2 (i 0).val (i 1).val) := by
  rw [← ref4, ← eq_at2 x2 i _ _ rfl rfl]
  rfl

/-- The reference's new second moment, entry by entry. -/
theorem ref7 : val_main_v11 (F := Ideal) x0 x3 i =
    Adam.mom2 (at2 x0 (i 1).val (i 0).val) (at2 x3 (i 0).val (i 1).val) := by
  rw [← ref4, ← eq_at2 x3 i _ _ rfl rfl]
  rfl

/-- The reference's change of the weight, entry by entry. -/
theorem ref5 : val_main_v24 (F := Ideal) x0 x1 x2 x3 i =
    Adam.delta (at2 x0 (i 1).val (i 0).val) (at2 x1 (i 0).val (i 1).val) (at2 x2 (i 0).val (i 1).val)
      (at2 x3 (i 0).val (i 1).val) := by
  rw [← ref4, ← eq_at2 x1 i _ _ rfl rfl, ← eq_at2 x2 i _ _ rfl rfl, ← eq_at2 x3 i _ _ rfl rfl]
  rfl

end Cert.AdamWInRefIdeal.Step

namespace Cert.Proof.AdamWIn

open Idealize.ShloMosaic Idealize.ShloMosaic.TcCoe Idealize.SL.Sem

/-- The two factors the kernel multiplies by stand for the exact inverses of the reference's divisors. -/
theorem preserves : Cert.preserves_AdamWIn_AdamWInIdeal :=
  ⟨IdealRules.named_const.statement Cert.AdamWInIdeal.κ "c1" .f32 0x3FC48605#32 ((8388608 / 5463681 : ℝ) : EReal) rfl,
   IdealRules.named_const.statement Cert.AdamWInIdeal.κ "c2" .f32 0x42C8E6D3#32 ((268435456 / 2672307 : ℝ) : EReal) rfl⟩

/-- From memories that agree on the arguments, both programs end with the same results, and the arguments unchanged. -/
theorem algebraic : Cert.algebraic_AdamWInIdeal_AdamWInRefIdeal := by
  intro m g m' g' _ hag
  refine ⟨fun c => Cert.AdamWInIdeal.Step.result4 m c, fun c => Cert.AdamWInIdeal.Step.result5 m c,
    fun c => Cert.AdamWInIdeal.Step.result6 m c, fun c => Cert.AdamWInIdeal.Step.result7 m c,
    (θ_run Cert.AdamWInIdeal.defs _ _).mono (fun r h c => ⟨(h c).1.trans (Cert.AdamWInIdeal.Step.final4 m c),
        (h c).2.1.trans (Cert.AdamWInIdeal.Step.final5 m c), (h c).2.2.1.trans (Cert.AdamWInIdeal.Step.final6 m c),
        (h c).2.2.2.1.trans (Cert.AdamWInIdeal.Step.final7 m c), (h c).2.2.2.2⟩)
      (Cert.AdamWInIdeal.Value.run_blocks m g), ?_⟩
  refine (θ_run Cert.AdamWInRefIdeal.defs _ _).mono (fun r h c => ⟨(h c).1.trans ?_, (h c).2.1.trans ?_, (h c).2.2.1.trans ?_,
      (h c).2.2.2.1.trans ?_, (h c).2.2.2.2⟩)
    (Cert.AdamWInRefIdeal.Value.run m' g')
  · rw [Cert.AdamWInRefIdeal.Read.val_main_v0_eq]
    funext i
    refine (Cert.AdamWInRefIdeal.Step.ref4 _ i).trans ?_
    rw [(hag c).1]
    rfl
  · rw [Cert.AdamWInRefIdeal.Read.val_main_v24_eq]
    funext i
    refine (Cert.AdamWInRefIdeal.Step.ref5 _ _ _ _ i).trans ?_
    rw [(hag c).1, (hag c).2.1, (hag c).2.2.1, (hag c).2.2.2]
    rfl
  · rw [Cert.AdamWInRefIdeal.Read.val_main_v5_eq]
    funext i
    refine (Cert.AdamWInRefIdeal.Step.ref6 _ _ i).trans ?_
    rw [(hag c).1, (hag c).2.2.1]
    rfl
  · rw [Cert.AdamWInRefIdeal.Read.val_main_v11_eq]
    funext i
    refine (Cert.AdamWInRefIdeal.Step.ref7 _ _ i).trans ?_
    rw [(hag c).1, (hag c).2.2.2]
    rfl

/-- The reference runs to its end, leaves its arguments unchanged and every counter at zero. -/
theorem frame_reference : Cert.quiescent_AdamWInRefIdeal := fun m ρ _ =>
  (θ_run Cert.AdamWInRefIdeal.defs _ _).mono (fun r h => ⟨fun c => (h c).2.2.2.2, sem_eq_zero_of_no_sems (by decide) r.2⟩)
    (Cert.AdamWInRefIdeal.Value.run (F := Ideal) m ρ)

end Cert.Proof.AdamWIn
-- ==== Proof.AdamWConv.lean ====
/- The AdamW step that the program `AdamWConv` takes: the received gradients of the convolution's kernel are added, and the moments and the weight move.
   The kernel works on 1 block of 4 rows; each of its four output arrays holds the same values as the reference's, entry
   by entry. The kernel multiplies by the inverses of the bias corrections, the reference divides by them. -/
module

public import proofs.«01_k».proof.Proof.Adam
public import proofs.«01_k».proof.Proof.Gen.AdamWConvIdeal.Value
public import proofs.«01_k».proof.Proof.Gen.AdamWConvRefIdeal.Read
public import proofs.«01_k».proof.Defs

@[expose] public section

noncomputable section

namespace Cert.AdamWConvIdeal.Step

open Cert.AdamWConvIdeal Cert.AdamWConvIdeal.Gen Cert.AdamWConvIdeal.Value Cert.Blocked
open Idealize.ShloMosaic Idealize.ShloMosaic.TcCoe Idealize.SL.Sem
open Finset

variable (m : (ℓ : Loc nD τ sig) → Buf (Elt Ideal) ℓ)

/-- The gradients received, as launched. -/
abbrev recv (c : Dev nD) : S8x4x192.Idx → EReal := m ((c : Thread nD τ).loc main_arg0)
/-- The weight as launched. -/
abbrev weight (c : Dev nD) : S4x192.Idx → EReal := m ((c : Thread nD τ).loc main_arg1)
/-- The first moment as launched. -/
abbrev first (c : Dev nD) : S4x192.Idx → EReal := m ((c : Thread nD τ).loc main_arg2)
/-- The second moment as launched. -/
abbrev second (c : Dev nD) : S4x192.Idx → EReal := m ((c : Thread nD τ).loc main_arg3)

/-- The block that grid point `t` reads or writes of the gradients received. -/
theorem idx0 : ∀ t : Fin cfg0.N, win0_0.index t 0 = 0 ∧ win0_0.index t 1 = 0 ∧ win0_0.index t 2 = 0 :=
  (by decide +kernel : ∀ t : Fin grid0.N, _)

/-- The block that grid point `t` reads or writes of the weight. -/
theorem idx1 : ∀ t : Fin cfg0.N, win0_1.index t 0 = 0 ∧ win0_1.index t 1 = 0 :=
  (by decide +kernel : ∀ t : Fin grid0.N, _)

/-- The block that grid point `t` reads or writes of the first moment. -/
theorem idx2 : ∀ t : Fin cfg0.N, win0_2.index t 0 = 0 ∧ win0_2.index t 1 = 0 :=
  (by decide +kernel : ∀ t : Fin grid0.N, _)

/-- The block that grid point `t` reads or writes of the second moment. -/
theorem idx3 : ∀ t : Fin cfg0.N, win0_3.index t 0 = 0 ∧ win0_3.index t 1 = 0 :=
  (by decide +kernel : ∀ t : Fin grid0.N, _)

/-- The block that grid point `t` reads or writes of the summed gradient. -/
theorem idx4 : ∀ t : Fin cfg0.N, win0_4.index t 0 = 0 ∧ win0_4.index t 1 = 0 :=
  (by decide +kernel : ∀ t : Fin grid0.N, _)

/-- The block that grid point `t` reads or writes of the change of the weight. -/
theorem idx5 : ∀ t : Fin cfg0.N, win0_5.index t 0 = 0 ∧ win0_5.index t 1 = 0 :=
  (by decide +kernel : ∀ t : Fin grid0.N, _)

/-- The block that grid point `t` reads or writes of the new first moment. -/
theorem idx6 : ∀ t : Fin cfg0.N, win0_6.index t 0 = 0 ∧ win0_6.index t 1 = 0 :=
  (by decide +kernel : ∀ t : Fin grid0.N, _)

/-- The block that grid point `t` reads or writes of the new second moment. -/
theorem idx7 : ∀ t : Fin cfg0.N, win0_7.index t 0 = 0 ∧ win0_7.index t 1 = 0 :=
  (by decide +kernel : ∀ t : Fin grid0.N, _)

/-- The block of the gradients received at point `t`, read at the array's own coordinates. -/
theorem blk0 (c : Dev nD) (t : Fin cfg0.N) (y : S8x4x192.Idx) :
    iblk m c 0 t y = at3 (recv m c) (y 0).val (0 * 4 + (y 1).val) (y 2).val := by
  unfold iblk
  rw [View.read_apply]
  show (V m c main_arg0 : S8x4x192.Idx → EReal) _ = _
  rw [V_main_arg0]
  obtain ⟨e0, e1, e2⟩ := idx0 t
  refine eq_at3 _ _ _ _ _ ?_ ?_ ?_ <;> blk_simp <;> omega

/-- The block of the weight at point `t`, read at the array's own coordinates. -/
theorem blk1 (c : Dev nD) (t : Fin cfg0.N) (y : S4x192.Idx) :
    iblk m c 1 t y = at2 (weight m c) (0 * 4 + (y 0).val) (y 1).val := by
  unfold iblk
  rw [View.read_apply]
  show (V m c main_arg1 : S4x192.Idx → EReal) _ = _
  rw [V_main_arg1]
  obtain ⟨e0, e1⟩ := idx1 t
  refine eq_at2 _ _ _ _ ?_ ?_ <;> blk_simp <;> omega

/-- The block of the first moment at point `t`, read at the array's own coordinates. -/
theorem blk2 (c : Dev nD) (t : Fin cfg0.N) (y : S4x192.Idx) :
    iblk m c 2 t y = at2 (first m c) (0 * 4 + (y 0).val) (y 1).val := by
  unfold iblk
  rw [View.read_apply]
  show (V m c main_arg2 : S4x192.Idx → EReal) _ = _
  rw [V_main_arg2]
  obtain ⟨e0, e1⟩ := idx2 t
  refine eq_at2 _ _ _ _ ?_ ?_ <;> blk_simp <;> omega

/-- The block of the second moment at point `t`, read at the array's own coordinates. -/
theorem blk3 (c : Dev nD) (t : Fin cfg0.N) (y : S4x192.Idx) :
    iblk m c 3 t y = at2 (second m c) (0 * 4 + (y 0).val) (y 1).val := by
  unfold iblk
  rw [View.read_apply]
  show (V m c main_arg3 : S4x192.Idx → EReal) _ = _
  rw [V_main_arg3]
  obtain ⟨e0, e1⟩ := idx3 t
  refine eq_at2 _ _ _ _ ?_ ?_ <;> blk_simp <;> omega

/-- An entry of the summed gradient's block. -/
theorem grad_at (x0 : Vec Ideal S8x4x192 .f32) (x1 x2 x3 : Vec Ideal S4x192 .f32) (y : S4x192.Idx) :
    out0_4 x0 x1 x2 x3 y = ∑ k : Fin 8, x0 (ix3 k (y 0) (y 1)) := by
  rw [← Adam.sum_eight]
  frame_out
  pointwise [k0_pay1, k0_pay2, k0_pay3, k0_pay4, k0_pay5, k0_pay6]

/-- An entry of the new first moment's block. -/
theorem first_at (x0 : Vec Ideal S8x4x192 .f32) (x1 x2 x3 : Vec Ideal S4x192 .f32) (y : S4x192.Idx) :
    out0_6 x0 x1 x2 x3 y = Adam.mom1 (∑ k : Fin 8, x0 (ix3 k (y 0) (y 1))) (x2 y) := by
  rw [← Adam.sum_eight]
  frame_out
  pointwise [k0_pay1, k0_pay2, k0_pay3, k0_pay4, k0_pay5, k0_pay6]
  rfl

/-- An entry of the new second moment's block. -/
theorem second_at (x0 : Vec Ideal S8x4x192 .f32) (x1 x2 x3 : Vec Ideal S4x192 .f32) (y : S4x192.Idx) :
    out0_7 x0 x1 x2 x3 y = Adam.mom2 (∑ k : Fin 8, x0 (ix3 k (y 0) (y 1))) (x3 y) := by
  rw [← Adam.sum_eight]
  frame_out
  pointwise [k0_pay1, k0_pay2, k0_pay3, k0_pay4, k0_pay5, k0_pay6]
  rfl

/-- An entry of the block of the weight's change. -/
theorem delta_at (x0 : Vec Ideal S8x4x192 .f32) (x1 x2 x3 : Vec Ideal S4x192 .f32) (y : S4x192.Idx) :
    out0_5 x0 x1 x2 x3 y = Adam.delta (∑ k : Fin 8, x0 (ix3 k (y 0) (y 1))) (x1 y) (x2 y) (x3 y) := by
  rw [← Adam.delta_eq, ← Adam.sum_eight]
  frame_out
  pointwise [k0_pay1, k0_pay2, k0_pay3, k0_pay4, k0_pay5, k0_pay6]
  rfl

/-- The summed gradient at row `i` and column `j`. -/
def grad (c : Dev nD) (i j : ℕ) : EReal := ∑ k : Fin 8, at3 (recv m c) k.val i j

/-- What the kernel leaves in its four output arrays at row `i` and column `j`. -/
def value4 (c : Dev nD) (i j : ℕ) : EReal := grad m c i j
def value5 (c : Dev nD) (i j : ℕ) : EReal :=
  Adam.delta (grad m c i j) (at2 (weight m c) i j) (at2 (first m c) i j) (at2 (second m c) i j)
def value6 (c : Dev nD) (i j : ℕ) : EReal := Adam.mom1 (grad m c i j) (at2 (first m c) i j)
def value7 (c : Dev nD) (i j : ℕ) : EReal := Adam.mom2 (grad m c i j) (at2 (second m c) i j)

/-- The gradients received at point `t`, added. -/
theorem slabs (c : Dev nD) (t : Fin cfg0.N) (x0 : Vec Ideal S8x4x192 .f32) (e : x0 = iblk m c 0 t) (y : S4x192.Idx) :
    ∑ k : Fin 8, x0 (ix3 k (y 0) (y 1)) = grad m c (0 * 4 + (y 0).val) (y 1).val := by
  subst e
  unfold grad
  refine Finset.sum_congr rfl fun k _ => ?_
  rw [blk0]; rfl

/-- The block of output 0 that point `t` writes back. -/
theorem out4 (c : Dev nD) (t : Fin cfg0.N) (y : S4x192.Idx) :
    out0_4 (iblk m c 0 t) (iblk m c 1 t) (iblk m c 2 t) (iblk m c 3 t) y = value4 m c (0 * 4 + (y 0).val) (y 1).val := by
  refine (grad_at _ _ _ _ y).trans ?_
  rw [slabs m c t _ rfl y]
  rfl

/-- Output array 0. -/
def result4 (c : Dev nD) : S4x192.Idx → EReal := fun i => value4 m c (i 0).val (i 1).val

/-- The array read at an index whose coordinates are known. -/
theorem result4_at (c : Dev nD) (i : S4x192.Idx) (a b : ℕ) (ha : (i 0).val = a) (hb : (i 1).val = b) :
    value4 m c a b = result4 m c i := by
  subst ha hb; rfl

/-- After the run the array holds, at every index, the value of the block that covers it. -/
theorem final4 (c : Dev nD) : (dats m 0 c).arrAt 4 cfg0.N = result4 m c := by
  refine (dats m 0 c).arrAt_eq_of_covers 4 (result4 m c) (by decide +kernel) fun t hf y => ?_
  obtain ⟨e0, e1⟩ := idx4 t
  have h0 : (y 0).val < 4 := (y 0).isLt
  have h1 : (y 1).val < 192 := (y 1).isLt
  blk_simp
  rw [after0_4]
  refine (out4 m c t y).trans (result4_at m c _ _ _ ?_ ?_) <;> blk_simp <;> omega

/-- The block of output 1 that point `t` writes back. -/
theorem out5 (c : Dev nD) (t : Fin cfg0.N) (y : S4x192.Idx) :
    out0_5 (iblk m c 0 t) (iblk m c 1 t) (iblk m c 2 t) (iblk m c 3 t) y = value5 m c (0 * 4 + (y 0).val) (y 1).val := by
  refine (delta_at _ _ _ _ y).trans ?_
  rw [slabs m c t _ rfl y, blk1, blk2, blk3]
  rfl

/-- Output array 1. -/
def result5 (c : Dev nD) : S4x192.Idx → EReal := fun i => value5 m c (i 0).val (i 1).val

/-- The array read at an index whose coordinates are known. -/
theorem result5_at (c : Dev nD) (i : S4x192.Idx) (a b : ℕ) (ha : (i 0).val = a) (hb : (i 1).val = b) :
    value5 m c a b = result5 m c i := by
  subst ha hb; rfl

/-- After the run the array holds, at every index, the value of the block that covers it. -/
theorem final5 (c : Dev nD) : (dats m 0 c).arrAt 5 cfg0.N = result5 m c := by
  refine (dats m 0 c).arrAt_eq_of_covers 5 (result5 m c) (by decide +kernel) fun t hf y => ?_
  obtain ⟨e0, e1⟩ := idx5 t
  have h0 : (y 0).val < 4 := (y 0).isLt
  have h1 : (y 1).val < 192 := (y 1).isLt
  blk_simp
  rw [after0_5]
  refine (out5 m c t y).trans (result5_at m c _ _ _ ?_ ?_) <;> blk_simp <;> omega

/-- The block of output 2 that point `t` writes back. -/
theorem out6 (c : Dev nD) (t : Fin cfg0.N) (y : S4x192.Idx) :
    out0_6 (iblk m c 0 t) (iblk m c 1 t) (iblk m c 2 t) (iblk m c 3 t) y = value6 m c (0 * 4 + (y 0).val) (y 1).val := by
  refine (first_at _ _ _ _ y).trans ?_
  rw [slabs m c t _ rfl y, blk2]
  rfl

/-- Output array 2. -/
def result6 (c : Dev nD) : S4x192.Idx → EReal := fun i => value6 m c (i 0).val (i 1).val

/-- The array read at an index whose coordinates are known. -/
theorem result6_at (c : Dev nD) (i : S4x192.Idx) (a b : ℕ) (ha : (i 0).val = a) (hb : (i 1).val = b) :
    value6 m c a b = result6 m c i := by
  subst ha hb; rfl

/-- After the run the array holds, at every index, the value of the block that covers it. -/
theorem final6 (c : Dev nD) : (dats m 0 c).arrAt 6 cfg0.N = result6 m c := by
  refine (dats m 0 c).arrAt_eq_of_covers 6 (result6 m c) (by decide +kernel) fun t hf y => ?_
  obtain ⟨e0, e1⟩ := idx6 t
  have h0 : (y 0).val < 4 := (y 0).isLt
  have h1 : (y 1).val < 192 := (y 1).isLt
  blk_simp
  rw [after0_6]
  refine (out6 m c t y).trans (result6_at m c _ _ _ ?_ ?_) <;> blk_simp <;> omega

/-- The block of output 3 that point `t` writes back. -/
theorem out7 (c : Dev nD) (t : Fin cfg0.N) (y : S4x192.Idx) :
    out0_7 (iblk m c 0 t) (iblk m c 1 t) (iblk m c 2 t) (iblk m c 3 t) y = value7 m c (0 * 4 + (y 0).val) (y 1).val := by
  refine (second_at _ _ _ _ y).trans ?_
  rw [slabs m c t _ rfl y, blk3]
  rfl

/-- Output array 3. -/
def result7 (c : Dev nD) : S4x192.Idx → EReal := fun i => value7 m c (i 0).val (i 1).val

/-- The array read at an index whose coordinates are known. -/
theorem result7_at (c : Dev nD) (i : S4x192.Idx) (a b : ℕ) (ha : (i 0).val = a) (hb : (i 1).val = b) :
    value7 m c a b = result7 m c i := by
  subst ha hb; rfl

/-- After the run the array holds, at every index, the value of the block that covers it. -/
theorem final7 (c : Dev nD) : (dats m 0 c).arrAt 7 cfg0.N = result7 m c := by
  refine (dats m 0 c).arrAt_eq_of_covers 7 (result7 m c) (by decide +kernel) fun t hf y => ?_
  obtain ⟨e0, e1⟩ := idx7 t
  have h0 : (y 0).val < 4 := (y 0).isLt
  have h1 : (y 1).val < 192 := (y 1).isLt
  blk_simp
  rw [after0_7]
  refine (out7 m c t y).trans (result7_at m c _ _ _ ?_ ?_) <;> blk_simp <;> omega

end Cert.AdamWConvIdeal.Step

namespace Cert.AdamWConvRefIdeal.Step

open Cert.AdamWConvRefIdeal Cert.AdamWConvRefIdeal.Gen Cert.AdamWConvRefIdeal.Read Cert.Blocked
open Idealize.ShloMosaic Idealize.ShloMosaic.TcCoe Idealize.SL.Sem

variable (x0 : S8x4x192.Idx → EReal) (x1 x2 x3 : S4x192.Idx → EReal) (i : S4x192.Idx)

/-- The reference's summed gradient, entry by entry. -/
theorem ref4 : val_main_v0 (F := Ideal) x0 i = ∑ k : Fin 8, at3 x0 k.val (i 0).val (i 1).val := by
  rw [val_main_v0_apply, val_main_cst_apply]
  refine (congrArg (· + _) Ideal.ofBits_zero_f32).trans ((zero_add _).trans ?_)
  refine Finset.sum_congr rfl fun k _ => ?_
  exact eq_at3 x0 _ _ _ _ rfl rfl rfl

/-- The reference's new first moment, entry by entry. -/
theorem ref6 : val_main_v5 (F := Ideal) x0 x2 i =
    Adam.mom1 (∑ k : Fin 8, at3 x0 k.val (i 0).val (i 1).val) (at2 x2 (i 0).val (i 1).val) := by
  rw [← ref4, ← eq_at2 x2 i _ _ rfl rfl]
  rfl

/-- The reference's new second moment, entry by entry. -/
theorem ref7 : val_main_v11 (F := Ideal) x0 x3 i =
    Adam.mom2 (∑ k : Fin 8, at3 x0 k.val (i 0).val (i 1).val) (at2 x3 (i 0).val (i 1).val) := by
  rw [← ref4, ← eq_at2 x3 i _ _ rfl rfl]
  rfl

/-- The reference's change of the weight, entry by entry. -/
theorem ref5 : val_main_v24 (F := Ideal) x0 x1 x2 x3 i =
    Adam.delta (∑ k : Fin 8, at3 x0 k.val (i 0).val (i 1).val) (at2 x1 (i 0).val (i 1).val) (at2 x2 (i 0).val (i 1).val)
      (at2 x3 (i 0).val (i 1).val) := by
  rw [← ref4, ← eq_at2 x1 i _ _ rfl rfl, ← eq_at2 x2 i _ _ rfl rfl, ← eq_at2 x3 i _ _ rfl rfl]
  rfl

end Cert.AdamWConvRefIdeal.Step

namespace Cert.Proof.AdamWConv

open Idealize.ShloMosaic Idealize.ShloMosaic.TcCoe Idealize.SL.Sem

/-- The two factors the kernel multiplies by stand for the exact inverses of the reference's divisors. -/
theorem preserves : Cert.preserves_AdamWConv_AdamWConvIdeal :=
  ⟨IdealRules.named_const.statement Cert.AdamWConvIdeal.κ "c1" .f32 0x3FC48605#32 ((8388608 / 5463681 : ℝ) : EReal) rfl,
   IdealRules.named_const.statement Cert.AdamWConvIdeal.κ "c2" .f32 0x42C8E6D3#32 ((268435456 / 2672307 : ℝ) : EReal) rfl⟩

/-- From memories that agree on the arguments, both programs end with the same results, and the arguments unchanged. -/
theorem algebraic : Cert.algebraic_AdamWConvIdeal_AdamWConvRefIdeal := by
  intro m g m' g' _ hag
  refine ⟨fun c => Cert.AdamWConvIdeal.Step.result4 m c, fun c => Cert.AdamWConvIdeal.Step.result5 m c,
    fun c => Cert.AdamWConvIdeal.Step.result6 m c, fun c => Cert.AdamWConvIdeal.Step.result7 m c,
    (θ_run Cert.AdamWConvIdeal.defs _ _).mono (fun r h c => ⟨(h c).1.trans (Cert.AdamWConvIdeal.Step.final4 m c),
        (h c).2.1.trans (Cert.AdamWConvIdeal.Step.final5 m c), (h c).2.2.1.trans (Cert.AdamWConvIdeal.Step.final6 m c),
        (h c).2.2.2.1.trans (Cert.AdamWConvIdeal.Step.final7 m c), (h c).2.2.2.2⟩)
      (Cert.AdamWConvIdeal.Value.run_blocks m g), ?_⟩
  refine (θ_run Cert.AdamWConvRefIdeal.defs _ _).mono (fun r h c => ⟨(h c).1.trans ?_, (h c).2.1.trans ?_, (h c).2.2.1.trans ?_,
      (h c).2.2.2.1.trans ?_, (h c).2.2.2.2⟩)
    (Cert.AdamWConvRefIdeal.Value.run m' g')
  · rw [Cert.AdamWConvRefIdeal.Read.val_main_v0_eq]
    funext i
    refine (Cert.AdamWConvRefIdeal.Step.ref4 _ i).trans ?_
    rw [(hag c).1]
    rfl
  · rw [Cert.AdamWConvRefIdeal.Read.val_main_v24_eq]
    funext i
    refine (Cert.AdamWConvRefIdeal.Step.ref5 _ _ _ _ i).trans ?_
    rw [(hag c).1, (hag c).2.1, (hag c).2.2.1, (hag c).2.2.2]
    rfl
  · rw [Cert.AdamWConvRefIdeal.Read.val_main_v5_eq]
    funext i
    refine (Cert.AdamWConvRefIdeal.Step.ref6 _ _ i).trans ?_
    rw [(hag c).1, (hag c).2.2.1]
    rfl
  · rw [Cert.AdamWConvRefIdeal.Read.val_main_v11_eq]
    funext i
    refine (Cert.AdamWConvRefIdeal.Step.ref7 _ _ i).trans ?_
    rw [(hag c).1, (hag c).2.2.2]
    rfl

/-- The reference runs to its end, leaves its arguments unchanged and every counter at zero. -/
theorem frame_reference : Cert.quiescent_AdamWConvRefIdeal := fun m ρ _ =>
  (θ_run Cert.AdamWConvRefIdeal.defs _ _).mono (fun r h => ⟨fun c => (h c).2.2.2.2, sem_eq_zero_of_no_sems (by decide) r.2⟩)
    (Cert.AdamWConvRefIdeal.Value.run (F := Ideal) m ρ)

end Cert.Proof.AdamWConv
-- ==== Proof.AdamWRank.lean ====
/- The AdamW step that the program `AdamWRank` takes: the received gradients of a low-rank map are added, and the moments and the weight move.
   The kernel works on 3 blocks of 32 rows; each of its four output arrays holds the same values as the reference's, entry
   by entry. The kernel multiplies by the inverses of the bias corrections, the reference divides by them. -/
module

public import proofs.«01_k».proof.Proof.Adam
public import proofs.«01_k».proof.Proof.Gen.AdamWRankIdeal.Value
public import proofs.«01_k».proof.Proof.Gen.AdamWRankRefIdeal.Read
public import proofs.«01_k».proof.Defs

@[expose] public section

noncomputable section

namespace Cert.AdamWRankIdeal.Step

open Cert.AdamWRankIdeal Cert.AdamWRankIdeal.Gen Cert.AdamWRankIdeal.Value Cert.Blocked
open Idealize.ShloMosaic Idealize.ShloMosaic.TcCoe Idealize.SL.Sem
open Finset

variable (m : (ℓ : Loc nD τ sig) → Buf (Elt Ideal) ℓ)

/-- The gradients received, as launched. -/
abbrev recv (c : Dev nD) : S8x96x128.Idx → EReal := m ((c : Thread nD τ).loc main_arg0)
/-- The weight as launched. -/
abbrev weight (c : Dev nD) : S96x128.Idx → EReal := m ((c : Thread nD τ).loc main_arg1)
/-- The first moment as launched. -/
abbrev first (c : Dev nD) : S96x128.Idx → EReal := m ((c : Thread nD τ).loc main_arg2)
/-- The second moment as launched. -/
abbrev second (c : Dev nD) : S96x128.Idx → EReal := m ((c : Thread nD τ).loc main_arg3)

/-- The block that grid point `t` reads or writes of the gradients received. -/
theorem idx0 : ∀ t : Fin cfg0.N, win0_0.index t 0 = 0 ∧ win0_0.index t 1 = t.val ∧ win0_0.index t 2 = 0 :=
  (by decide +kernel : ∀ t : Fin grid0.N, _)

/-- The block that grid point `t` reads or writes of the weight. -/
theorem idx1 : ∀ t : Fin cfg0.N, win0_1.index t 0 = t.val ∧ win0_1.index t 1 = 0 :=
  (by decide +kernel : ∀ t : Fin grid0.N, _)

/-- The block that grid point `t` reads or writes of the first moment. -/
theorem idx2 : ∀ t : Fin cfg0.N, win0_2.index t 0 = t.val ∧ win0_2.index t 1 = 0 :=
  (by decide +kernel : ∀ t : Fin grid0.N, _)

/-- The block that grid point `t` reads or writes of the second moment. -/
theorem idx3 : ∀ t : Fin cfg0.N, win0_3.index t 0 = t.val ∧ win0_3.index t 1 = 0 :=
  (by decide +kernel : ∀ t : Fin grid0.N, _)

/-- The block that grid point `t` reads or writes of the summed gradient. -/
theorem idx4 : ∀ t : Fin cfg0.N, win0_4.index t 0 = t.val ∧ win0_4.index t 1 = 0 :=
  (by decide +kernel : ∀ t : Fin grid0.N, _)

/-- The block that grid point `t` reads or writes of the change of the weight. -/
theorem idx5 : ∀ t : Fin cfg0.N, win0_5.index t 0 = t.val ∧ win0_5.index t 1 = 0 :=
  (by decide +kernel : ∀ t : Fin grid0.N, _)

/-- The block that grid point `t` reads or writes of the new first moment. -/
theorem idx6 : ∀ t : Fin cfg0.N, win0_6.index t 0 = t.val ∧ win0_6.index t 1 = 0 :=
  (by decide +kernel : ∀ t : Fin grid0.N, _)

/-- The block that grid point `t` reads or writes of the new second moment. -/
theorem idx7 : ∀ t : Fin cfg0.N, win0_7.index t 0 = t.val ∧ win0_7.index t 1 = 0 :=
  (by decide +kernel : ∀ t : Fin grid0.N, _)

/-- The block of the gradients received at point `t`, read at the array's own coordinates. -/
theorem blk0 (c : Dev nD) (t : Fin cfg0.N) (y : S8x32x128.Idx) :
    iblk m c 0 t y = at3 (recv m c) (y 0).val (t.val * 32 + (y 1).val) (y 2).val := by
  unfold iblk
  rw [View.read_apply]
  show (V m c main_arg0 : S8x96x128.Idx → EReal) _ = _
  rw [V_main_arg0]
  obtain ⟨e0, e1, e2⟩ := idx0 t
  refine eq_at3 _ _ _ _ _ ?_ ?_ ?_ <;> blk_simp <;> omega

/-- The block of the weight at point `t`, read at the array's own coordinates. -/
theorem blk1 (c : Dev nD) (t : Fin cfg0.N) (y : S32x128.Idx) :
    iblk m c 1 t y = at2 (weight m c) (t.val * 32 + (y 0).val) (y 1).val := by
  unfold iblk
  rw [View.read_apply]
  show (V m c main_arg1 : S96x128.Idx → EReal) _ = _
  rw [V_main_arg1]
  obtain ⟨e0, e1⟩ := idx1 t
  refine eq_at2 _ _ _ _ ?_ ?_ <;> blk_simp <;> omega

/-- The block of the first moment at point `t`, read at the array's own coordinates. -/
theorem blk2 (c : Dev nD) (t : Fin cfg0.N) (y : S32x128.Idx) :
    iblk m c 2 t y = at2 (first m c) (t.val * 32 + (y 0).val) (y 1).val := by
  unfold iblk
  rw [View.read_apply]
  show (V m c main_arg2 : S96x128.Idx → EReal) _ = _
  rw [V_main_arg2]
  obtain ⟨e0, e1⟩ := idx2 t
  refine eq_at2 _ _ _ _ ?_ ?_ <;> blk_simp <;> omega

/-- The block of the second moment at point `t`, read at the array's own coordinates. -/
theorem blk3 (c : Dev nD) (t : Fin cfg0.N) (y : S32x128.Idx) :
    iblk m c 3 t y = at2 (second m c) (t.val * 32 + (y 0).val) (y 1).val := by
  unfold iblk
  rw [View.read_apply]
  show (V m c main_arg3 : S96x128.Idx → EReal) _ = _
  rw [V_main_arg3]
  obtain ⟨e0, e1⟩ := idx3 t
  refine eq_at2 _ _ _ _ ?_ ?_ <;> blk_simp <;> omega

/-- An entry of the summed gradient's block. -/
theorem grad_at (x0 : Vec Ideal S8x32x128 .f32) (x1 x2 x3 : Vec Ideal S32x128 .f32) (y : S32x128.Idx) :
    out0_4 x0 x1 x2 x3 y = ∑ k : Fin 8, x0 (ix3 k (y 0) (y 1)) := by
  rw [← Adam.sum_eight]
  frame_out
  pointwise [k0_pay1, k0_pay2, k0_pay3, k0_pay4, k0_pay5, k0_pay6]

/-- An entry of the new first moment's block. -/
theorem first_at (x0 : Vec Ideal S8x32x128 .f32) (x1 x2 x3 : Vec Ideal S32x128 .f32) (y : S32x128.Idx) :
    out0_6 x0 x1 x2 x3 y = Adam.mom1 (∑ k : Fin 8, x0 (ix3 k (y 0) (y 1))) (x2 y) := by
  rw [← Adam.sum_eight]
  frame_out
  pointwise [k0_pay1, k0_pay2, k0_pay3, k0_pay4, k0_pay5, k0_pay6]
  rfl

/-- An entry of the new second moment's block. -/
theorem second_at (x0 : Vec Ideal S8x32x128 .f32) (x1 x2 x3 : Vec Ideal S32x128 .f32) (y : S32x128.Idx) :
    out0_7 x0 x1 x2 x3 y = Adam.mom2 (∑ k : Fin 8, x0 (ix3 k (y 0) (y 1))) (x3 y) := by
  rw [← Adam.sum_eight]
  frame_out
  pointwise [k0_pay1, k0_pay2, k0_pay3, k0_pay4, k0_pay5, k0_pay6]
  rfl

/-- An entry of the block of the weight's change. -/
theorem delta_at (x0 : Vec Ideal S8x32x128 .f32) (x1 x2 x3 : Vec Ideal S32x128 .f32) (y : S32x128.Idx) :
    out0_5 x0 x1 x2 x3 y = Adam.delta (∑ k : Fin 8, x0 (ix3 k (y 0) (y 1))) (x1 y) (x2 y) (x3 y) := by
  rw [← Adam.delta_eq, ← Adam.sum_eight]
  frame_out
  pointwise [k0_pay1, k0_pay2, k0_pay3, k0_pay4, k0_pay5, k0_pay6]
  rfl

/-- The summed gradient at row `i` and column `j`. -/
def grad (c : Dev nD) (i j : ℕ) : EReal := ∑ k : Fin 8, at3 (recv m c) k.val i j

/-- What the kernel leaves in its four output arrays at row `i` and column `j`. -/
def value4 (c : Dev nD) (i j : ℕ) : EReal := grad m c i j
def value5 (c : Dev nD) (i j : ℕ) : EReal :=
  Adam.delta (grad m c i j) (at2 (weight m c) i j) (at2 (first m c) i j) (at2 (second m c) i j)
def value6 (c : Dev nD) (i j : ℕ) : EReal := Adam.mom1 (grad m c i j) (at2 (first m c) i j)
def value7 (c : Dev nD) (i j : ℕ) : EReal := Adam.mom2 (grad m c i j) (at2 (second m c) i j)

/-- The gradients received at point `t`, added. -/
theorem slabs (c : Dev nD) (t : Fin cfg0.N) (x0 : Vec Ideal S8x32x128 .f32) (e : x0 = iblk m c 0 t) (y : S32x128.Idx) :
    ∑ k : Fin 8, x0 (ix3 k (y 0) (y 1)) = grad m c (t.val * 32 + (y 0).val) (y 1).val := by
  subst e
  unfold grad
  refine Finset.sum_congr rfl fun k _ => ?_
  rw [blk0]; rfl

/-- The block of output 0 that point `t` writes back. -/
theorem out4 (c : Dev nD) (t : Fin cfg0.N) (y : S32x128.Idx) :
    out0_4 (iblk m c 0 t) (iblk m c 1 t) (iblk m c 2 t) (iblk m c 3 t) y = value4 m c (t.val * 32 + (y 0).val) (y 1).val := by
  refine (grad_at _ _ _ _ y).trans ?_
  rw [slabs m c t _ rfl y]
  rfl

/-- Output array 0. -/
def result4 (c : Dev nD) : S96x128.Idx → EReal := fun i => value4 m c (i 0).val (i 1).val

/-- The array read at an index whose coordinates are known. -/
theorem result4_at (c : Dev nD) (i : S96x128.Idx) (a b : ℕ) (ha : (i 0).val = a) (hb : (i 1).val = b) :
    value4 m c a b = result4 m c i := by
  subst ha hb; rfl

/-- After the run the array holds, at every index, the value of the block that covers it. -/
theorem final4 (c : Dev nD) : (dats m 0 c).arrAt 4 cfg0.N = result4 m c := by
  refine (dats m 0 c).arrAt_eq_of_covers 4 (result4 m c) (by decide +kernel) fun t hf y => ?_
  obtain ⟨e0, e1⟩ := idx4 t
  have h0 : (y 0).val < 32 := (y 0).isLt
  have h1 : (y 1).val < 128 := (y 1).isLt
  blk_simp
  rw [after0_4]
  refine (out4 m c t y).trans (result4_at m c _ _ _ ?_ ?_) <;> blk_simp <;> omega

/-- The block of output 1 that point `t` writes back. -/
theorem out5 (c : Dev nD) (t : Fin cfg0.N) (y : S32x128.Idx) :
    out0_5 (iblk m c 0 t) (iblk m c 1 t) (iblk m c 2 t) (iblk m c 3 t) y = value5 m c (t.val * 32 + (y 0).val) (y 1).val := by
  refine (delta_at _ _ _ _ y).trans ?_
  rw [slabs m c t _ rfl y, blk1, blk2, blk3]
  rfl

/-- Output array 1. -/
def result5 (c : Dev nD) : S96x128.Idx → EReal := fun i => value5 m c (i 0).val (i 1).val

/-- The array read at an index whose coordinates are known. -/
theorem result5_at (c : Dev nD) (i : S96x128.Idx) (a b : ℕ) (ha : (i 0).val = a) (hb : (i 1).val = b) :
    value5 m c a b = result5 m c i := by
  subst ha hb; rfl

/-- After the run the array holds, at every index, the value of the block that covers it. -/
theorem final5 (c : Dev nD) : (dats m 0 c).arrAt 5 cfg0.N = result5 m c := by
  refine (dats m 0 c).arrAt_eq_of_covers 5 (result5 m c) (by decide +kernel) fun t hf y => ?_
  obtain ⟨e0, e1⟩ := idx5 t
  have h0 : (y 0).val < 32 := (y 0).isLt
  have h1 : (y 1).val < 128 := (y 1).isLt
  blk_simp
  rw [after0_5]
  refine (out5 m c t y).trans (result5_at m c _ _ _ ?_ ?_) <;> blk_simp <;> omega

/-- The block of output 2 that point `t` writes back. -/
theorem out6 (c : Dev nD) (t : Fin cfg0.N) (y : S32x128.Idx) :
    out0_6 (iblk m c 0 t) (iblk m c 1 t) (iblk m c 2 t) (iblk m c 3 t) y = value6 m c (t.val * 32 + (y 0).val) (y 1).val := by
  refine (first_at _ _ _ _ y).trans ?_
  rw [slabs m c t _ rfl y, blk2]
  rfl

/-- Output array 2. -/
def result6 (c : Dev nD) : S96x128.Idx → EReal := fun i => value6 m c (i 0).val (i 1).val

/-- The array read at an index whose coordinates are known. -/
theorem result6_at (c : Dev nD) (i : S96x128.Idx) (a b : ℕ) (ha : (i 0).val = a) (hb : (i 1).val = b) :
    value6 m c a b = result6 m c i := by
  subst ha hb; rfl

/-- After the run the array holds, at every index, the value of the block that covers it. -/
theorem final6 (c : Dev nD) : (dats m 0 c).arrAt 6 cfg0.N = result6 m c := by
  refine (dats m 0 c).arrAt_eq_of_covers 6 (result6 m c) (by decide +kernel) fun t hf y => ?_
  obtain ⟨e0, e1⟩ := idx6 t
  have h0 : (y 0).val < 32 := (y 0).isLt
  have h1 : (y 1).val < 128 := (y 1).isLt
  blk_simp
  rw [after0_6]
  refine (out6 m c t y).trans (result6_at m c _ _ _ ?_ ?_) <;> blk_simp <;> omega

/-- The block of output 3 that point `t` writes back. -/
theorem out7 (c : Dev nD) (t : Fin cfg0.N) (y : S32x128.Idx) :
    out0_7 (iblk m c 0 t) (iblk m c 1 t) (iblk m c 2 t) (iblk m c 3 t) y = value7 m c (t.val * 32 + (y 0).val) (y 1).val := by
  refine (second_at _ _ _ _ y).trans ?_
  rw [slabs m c t _ rfl y, blk3]
  rfl

/-- Output array 3. -/
def result7 (c : Dev nD) : S96x128.Idx → EReal := fun i => value7 m c (i 0).val (i 1).val

/-- The array read at an index whose coordinates are known. -/
theorem result7_at (c : Dev nD) (i : S96x128.Idx) (a b : ℕ) (ha : (i 0).val = a) (hb : (i 1).val = b) :
    value7 m c a b = result7 m c i := by
  subst ha hb; rfl

/-- After the run the array holds, at every index, the value of the block that covers it. -/
theorem final7 (c : Dev nD) : (dats m 0 c).arrAt 7 cfg0.N = result7 m c := by
  refine (dats m 0 c).arrAt_eq_of_covers 7 (result7 m c) (by decide +kernel) fun t hf y => ?_
  obtain ⟨e0, e1⟩ := idx7 t
  have h0 : (y 0).val < 32 := (y 0).isLt
  have h1 : (y 1).val < 128 := (y 1).isLt
  blk_simp
  rw [after0_7]
  refine (out7 m c t y).trans (result7_at m c _ _ _ ?_ ?_) <;> blk_simp <;> omega

end Cert.AdamWRankIdeal.Step

namespace Cert.AdamWRankRefIdeal.Step

open Cert.AdamWRankRefIdeal Cert.AdamWRankRefIdeal.Gen Cert.AdamWRankRefIdeal.Read Cert.Blocked
open Idealize.ShloMosaic Idealize.ShloMosaic.TcCoe Idealize.SL.Sem

variable (x0 : S8x96x128.Idx → EReal) (x1 x2 x3 : S96x128.Idx → EReal) (i : S96x128.Idx)

/-- The reference's summed gradient, entry by entry. -/
theorem ref4 : val_main_v0 (F := Ideal) x0 i = ∑ k : Fin 8, at3 x0 k.val (i 0).val (i 1).val := by
  rw [val_main_v0_apply, val_main_cst_apply]
  refine (congrArg (· + _) Ideal.ofBits_zero_f32).trans ((zero_add _).trans ?_)
  refine Finset.sum_congr rfl fun k _ => ?_
  exact eq_at3 x0 _ _ _ _ rfl rfl rfl

/-- The reference's new first moment, entry by entry. -/
theorem ref6 : val_main_v5 (F := Ideal) x0 x2 i =
    Adam.mom1 (∑ k : Fin 8, at3 x0 k.val (i 0).val (i 1).val) (at2 x2 (i 0).val (i 1).val) := by
  rw [← ref4, ← eq_at2 x2 i _ _ rfl rfl]
  rfl

/-- The reference's new second moment, entry by entry. -/
theorem ref7 : val_main_v11 (F := Ideal) x0 x3 i =
    Adam.mom2 (∑ k : Fin 8, at3 x0 k.val (i 0).val (i 1).val) (at2 x3 (i 0).val (i 1).val) := by
  rw [← ref4, ← eq_at2 x3 i _ _ rfl rfl]
  rfl

/-- The reference's change of the weight, entry by entry. -/
theorem ref5 : val_main_v24 (F := Ideal) x0 x1 x2 x3 i =
    Adam.delta (∑ k : Fin 8, at3 x0 k.val (i 0).val (i 1).val) (at2 x1 (i 0).val (i 1).val) (at2 x2 (i 0).val (i 1).val)
      (at2 x3 (i 0).val (i 1).val) := by
  rw [← ref4, ← eq_at2 x1 i _ _ rfl rfl, ← eq_at2 x2 i _ _ rfl rfl, ← eq_at2 x3 i _ _ rfl rfl]
  rfl

end Cert.AdamWRankRefIdeal.Step

namespace Cert.Proof.AdamWRank

open Idealize.ShloMosaic Idealize.ShloMosaic.TcCoe Idealize.SL.Sem

/-- The two factors the kernel multiplies by stand for the exact inverses of the reference's divisors. -/
theorem preserves : Cert.preserves_AdamWRank_AdamWRankIdeal :=
  ⟨IdealRules.named_const.statement Cert.AdamWRankIdeal.κ "c1" .f32 0x3FC48605#32 ((8388608 / 5463681 : ℝ) : EReal) rfl,
   IdealRules.named_const.statement Cert.AdamWRankIdeal.κ "c2" .f32 0x42C8E6D3#32 ((268435456 / 2672307 : ℝ) : EReal) rfl⟩

/-- From memories that agree on the arguments, both programs end with the same results, and the arguments unchanged. -/
theorem algebraic : Cert.algebraic_AdamWRankIdeal_AdamWRankRefIdeal := by
  intro m g m' g' _ hag
  refine ⟨fun c => Cert.AdamWRankIdeal.Step.result4 m c, fun c => Cert.AdamWRankIdeal.Step.result5 m c,
    fun c => Cert.AdamWRankIdeal.Step.result6 m c, fun c => Cert.AdamWRankIdeal.Step.result7 m c,
    (θ_run Cert.AdamWRankIdeal.defs _ _).mono (fun r h c => ⟨(h c).1.trans (Cert.AdamWRankIdeal.Step.final4 m c),
        (h c).2.1.trans (Cert.AdamWRankIdeal.Step.final5 m c), (h c).2.2.1.trans (Cert.AdamWRankIdeal.Step.final6 m c),
        (h c).2.2.2.1.trans (Cert.AdamWRankIdeal.Step.final7 m c), (h c).2.2.2.2⟩)
      (Cert.AdamWRankIdeal.Value.run_blocks m g), ?_⟩
  refine (θ_run Cert.AdamWRankRefIdeal.defs _ _).mono (fun r h c => ⟨(h c).1.trans ?_, (h c).2.1.trans ?_, (h c).2.2.1.trans ?_,
      (h c).2.2.2.1.trans ?_, (h c).2.2.2.2⟩)
    (Cert.AdamWRankRefIdeal.Value.run m' g')
  · rw [Cert.AdamWRankRefIdeal.Read.val_main_v0_eq]
    funext i
    refine (Cert.AdamWRankRefIdeal.Step.ref4 _ i).trans ?_
    rw [(hag c).1]
    rfl
  · rw [Cert.AdamWRankRefIdeal.Read.val_main_v24_eq]
    funext i
    refine (Cert.AdamWRankRefIdeal.Step.ref5 _ _ _ _ i).trans ?_
    rw [(hag c).1, (hag c).2.1, (hag c).2.2.1, (hag c).2.2.2]
    rfl
  · rw [Cert.AdamWRankRefIdeal.Read.val_main_v5_eq]
    funext i
    refine (Cert.AdamWRankRefIdeal.Step.ref6 _ _ i).trans ?_
    rw [(hag c).1, (hag c).2.2.1]
    rfl
  · rw [Cert.AdamWRankRefIdeal.Read.val_main_v11_eq]
    funext i
    refine (Cert.AdamWRankRefIdeal.Step.ref7 _ _ i).trans ?_
    rw [(hag c).1, (hag c).2.2.2]
    rfl

/-- The reference runs to its end, leaves its arguments unchanged and every counter at zero. -/
theorem frame_reference : Cert.quiescent_AdamWRankRefIdeal := fun m ρ _ =>
  (θ_run Cert.AdamWRankRefIdeal.defs _ _).mono (fun r h => ⟨fun c => (h c).2.2.2.2, sem_eq_zero_of_no_sems (by decide) r.2⟩)
    (Cert.AdamWRankRefIdeal.Value.run (F := Ideal) m ρ)

end Cert.Proof.AdamWRank
-- ==== Proof.AdamWGate.lean ====
/- The AdamW step that the program `AdamWGate` takes: the received gradients of the gate's map are added, and the moments and the weight move.
   The kernel works on 2 blocks of 128 rows; each of its four output arrays holds the same values as the reference's, entry
   by entry. The kernel multiplies by the inverses of the bias corrections, the reference divides by them. -/
module

public import proofs.«01_k».proof.Proof.Adam
public import proofs.«01_k».proof.Proof.Gen.AdamWGateIdeal.Value
public import proofs.«01_k».proof.Proof.Gen.AdamWGateRefIdeal.Read
public import proofs.«01_k».proof.Defs

@[expose] public section

noncomputable section

namespace Cert.AdamWGateIdeal.Step

open Cert.AdamWGateIdeal Cert.AdamWGateIdeal.Gen Cert.AdamWGateIdeal.Value Cert.Blocked
open Idealize.ShloMosaic Idealize.ShloMosaic.TcCoe Idealize.SL.Sem
open Finset

variable (m : (ℓ : Loc nD τ sig) → Buf (Elt Ideal) ℓ)

/-- The gradients received, as launched. -/
abbrev recv (c : Dev nD) : S8x256x128.Idx → EReal := m ((c : Thread nD τ).loc main_arg0)
/-- The weight as launched. -/
abbrev weight (c : Dev nD) : S256x128.Idx → EReal := m ((c : Thread nD τ).loc main_arg1)
/-- The first moment as launched. -/
abbrev first (c : Dev nD) : S256x128.Idx → EReal := m ((c : Thread nD τ).loc main_arg2)
/-- The second moment as launched. -/
abbrev second (c : Dev nD) : S256x128.Idx → EReal := m ((c : Thread nD τ).loc main_arg3)

/-- The block that grid point `t` reads or writes of the gradients received. -/
theorem idx0 : ∀ t : Fin cfg0.N, win0_0.index t 0 = 0 ∧ win0_0.index t 1 = t.val ∧ win0_0.index t 2 = 0 :=
  (by decide +kernel : ∀ t : Fin grid0.N, _)

/-- The block that grid point `t` reads or writes of the weight. -/
theorem idx1 : ∀ t : Fin cfg0.N, win0_1.index t 0 = t.val ∧ win0_1.index t 1 = 0 :=
  (by decide +kernel : ∀ t : Fin grid0.N, _)

/-- The block that grid point `t` reads or writes of the first moment. -/
theorem idx2 : ∀ t : Fin cfg0.N, win0_2.index t 0 = t.val ∧ win0_2.index t 1 = 0 :=
  (by decide +kernel : ∀ t : Fin grid0.N, _)

/-- The block that grid point `t` reads or writes of the second moment. -/
theorem idx3 : ∀ t : Fin cfg0.N, win0_3.index t 0 = t.val ∧ win0_3.index t 1 = 0 :=
  (by decide +kernel : ∀ t : Fin grid0.N, _)

/-- The block that grid point `t` reads or writes of the summed gradient. -/
theorem idx4 : ∀ t : Fin cfg0.N, win0_4.index t 0 = t.val ∧ win0_4.index t 1 = 0 :=
  (by decide +kernel : ∀ t : Fin grid0.N, _)

/-- The block that grid point `t` reads or writes of the change of the weight. -/
theorem idx5 : ∀ t : Fin cfg0.N, win0_5.index t 0 = t.val ∧ win0_5.index t 1 = 0 :=
  (by decide +kernel : ∀ t : Fin grid0.N, _)

/-- The block that grid point `t` reads or writes of the new first moment. -/
theorem idx6 : ∀ t : Fin cfg0.N, win0_6.index t 0 = t.val ∧ win0_6.index t 1 = 0 :=
  (by decide +kernel : ∀ t : Fin grid0.N, _)

/-- The block that grid point `t` reads or writes of the new second moment. -/
theorem idx7 : ∀ t : Fin cfg0.N, win0_7.index t 0 = t.val ∧ win0_7.index t 1 = 0 :=
  (by decide +kernel : ∀ t : Fin grid0.N, _)

/-- The block of the gradients received at point `t`, read at the array's own coordinates. -/
theorem blk0 (c : Dev nD) (t : Fin cfg0.N) (y : S8x128x128.Idx) :
    iblk m c 0 t y = at3 (recv m c) (y 0).val (t.val * 128 + (y 1).val) (y 2).val := by
  unfold iblk
  rw [View.read_apply]
  show (V m c main_arg0 : S8x256x128.Idx → EReal) _ = _
  rw [V_main_arg0]
  obtain ⟨e0, e1, e2⟩ := idx0 t
  refine eq_at3 _ _ _ _ _ ?_ ?_ ?_ <;> blk_simp <;> omega

/-- The block of the weight at point `t`, read at the array's own coordinates. -/
theorem blk1 (c : Dev nD) (t : Fin cfg0.N) (y : S128x128.Idx) :
    iblk m c 1 t y = at2 (weight m c) (t.val * 128 + (y 0).val) (y 1).val := by
  unfold iblk
  rw [View.read_apply]
  show (V m c main_arg1 : S256x128.Idx → EReal) _ = _
  rw [V_main_arg1]
  obtain ⟨e0, e1⟩ := idx1 t
  refine eq_at2 _ _ _ _ ?_ ?_ <;> blk_simp <;> omega

/-- The block of the first moment at point `t`, read at the array's own coordinates. -/
theorem blk2 (c : Dev nD) (t : Fin cfg0.N) (y : S128x128.Idx) :
    iblk m c 2 t y = at2 (first m c) (t.val * 128 + (y 0).val) (y 1).val := by
  unfold iblk
  rw [View.read_apply]
  show (V m c main_arg2 : S256x128.Idx → EReal) _ = _
  rw [V_main_arg2]
  obtain ⟨e0, e1⟩ := idx2 t
  refine eq_at2 _ _ _ _ ?_ ?_ <;> blk_simp <;> omega

/-- The block of the second moment at point `t`, read at the array's own coordinates. -/
theorem blk3 (c : Dev nD) (t : Fin cfg0.N) (y : S128x128.Idx) :
    iblk m c 3 t y = at2 (second m c) (t.val * 128 + (y 0).val) (y 1).val := by
  unfold iblk
  rw [View.read_apply]
  show (V m c main_arg3 : S256x128.Idx → EReal) _ = _
  rw [V_main_arg3]
  obtain ⟨e0, e1⟩ := idx3 t
  refine eq_at2 _ _ _ _ ?_ ?_ <;> blk_simp <;> omega

/-- An entry of the summed gradient's block. -/
theorem grad_at (x0 : Vec Ideal S8x128x128 .f32) (x1 x2 x3 : Vec Ideal S128x128 .f32) (y : S128x128.Idx) :
    out0_4 x0 x1 x2 x3 y = ∑ k : Fin 8, x0 (ix3 k (y 0) (y 1)) := by
  rw [← Adam.sum_eight]
  frame_out
  pointwise [k0_pay1, k0_pay2, k0_pay3, k0_pay4, k0_pay5, k0_pay6]

/-- An entry of the new first moment's block. -/
theorem first_at (x0 : Vec Ideal S8x128x128 .f32) (x1 x2 x3 : Vec Ideal S128x128 .f32) (y : S128x128.Idx) :
    out0_6 x0 x1 x2 x3 y = Adam.mom1 (∑ k : Fin 8, x0 (ix3 k (y 0) (y 1))) (x2 y) := by
  rw [← Adam.sum_eight]
  frame_out
  pointwise [k0_pay1, k0_pay2, k0_pay3, k0_pay4, k0_pay5, k0_pay6]
  rfl

/-- An entry of the new second moment's block. -/
theorem second_at (x0 : Vec Ideal S8x128x128 .f32) (x1 x2 x3 : Vec Ideal S128x128 .f32) (y : S128x128.Idx) :
    out0_7 x0 x1 x2 x3 y = Adam.mom2 (∑ k : Fin 8, x0 (ix3 k (y 0) (y 1))) (x3 y) := by
  rw [← Adam.sum_eight]
  frame_out
  pointwise [k0_pay1, k0_pay2, k0_pay3, k0_pay4, k0_pay5, k0_pay6]
  rfl

/-- An entry of the block of the weight's change. -/
theorem delta_at (x0 : Vec Ideal S8x128x128 .f32) (x1 x2 x3 : Vec Ideal S128x128 .f32) (y : S128x128.Idx) :
    out0_5 x0 x1 x2 x3 y = Adam.delta (∑ k : Fin 8, x0 (ix3 k (y 0) (y 1))) (x1 y) (x2 y) (x3 y) := by
  rw [← Adam.delta_eq, ← Adam.sum_eight]
  frame_out
  pointwise [k0_pay1, k0_pay2, k0_pay3, k0_pay4, k0_pay5, k0_pay6]
  rfl

/-- The summed gradient at row `i` and column `j`. -/
def grad (c : Dev nD) (i j : ℕ) : EReal := ∑ k : Fin 8, at3 (recv m c) k.val i j

/-- What the kernel leaves in its four output arrays at row `i` and column `j`. -/
def value4 (c : Dev nD) (i j : ℕ) : EReal := grad m c i j
def value5 (c : Dev nD) (i j : ℕ) : EReal :=
  Adam.delta (grad m c i j) (at2 (weight m c) i j) (at2 (first m c) i j) (at2 (second m c) i j)
def value6 (c : Dev nD) (i j : ℕ) : EReal := Adam.mom1 (grad m c i j) (at2 (first m c) i j)
def value7 (c : Dev nD) (i j : ℕ) : EReal := Adam.mom2 (grad m c i j) (at2 (second m c) i j)

/-- The gradients received at point `t`, added. -/
theorem slabs (c : Dev nD) (t : Fin cfg0.N) (x0 : Vec Ideal S8x128x128 .f32) (e : x0 = iblk m c 0 t) (y : S128x128.Idx) :
    ∑ k : Fin 8, x0 (ix3 k (y 0) (y 1)) = grad m c (t.val * 128 + (y 0).val) (y 1).val := by
  subst e
  unfold grad
  refine Finset.sum_congr rfl fun k _ => ?_
  rw [blk0]; rfl

/-- The block of output 0 that point `t` writes back. -/
theorem out4 (c : Dev nD) (t : Fin cfg0.N) (y : S128x128.Idx) :
    out0_4 (iblk m c 0 t) (iblk m c 1 t) (iblk m c 2 t) (iblk m c 3 t) y = value4 m c (t.val * 128 + (y 0).val) (y 1).val := by
  refine (grad_at _ _ _ _ y).trans ?_
  rw [slabs m c t _ rfl y]
  rfl

/-- Output array 0. -/
def result4 (c : Dev nD) : S256x128.Idx → EReal := fun i => value4 m c (i 0).val (i 1).val

/-- The array read at an index whose coordinates are known. -/
theorem result4_at (c : Dev nD) (i : S256x128.Idx) (a b : ℕ) (ha : (i 0).val = a) (hb : (i 1).val = b) :
    value4 m c a b = result4 m c i := by
  subst ha hb; rfl

/-- After the run the array holds, at every index, the value of the block that covers it. -/
theorem final4 (c : Dev nD) : (dats m 0 c).arrAt 4 cfg0.N = result4 m c := by
  refine (dats m 0 c).arrAt_eq_of_covers 4 (result4 m c) (by decide +kernel) fun t hf y => ?_
  obtain ⟨e0, e1⟩ := idx4 t
  have h0 : (y 0).val < 128 := (y 0).isLt
  have h1 : (y 1).val < 128 := (y 1).isLt
  blk_simp
  rw [after0_4]
  refine (out4 m c t y).trans (result4_at m c _ _ _ ?_ ?_) <;> blk_simp <;> omega

/-- The block of output 1 that point `t` writes back. -/
theorem out5 (c : Dev nD) (t : Fin cfg0.N) (y : S128x128.Idx) :
    out0_5 (iblk m c 0 t) (iblk m c 1 t) (iblk m c 2 t) (iblk m c 3 t) y = value5 m c (t.val * 128 + (y 0).val) (y 1).val := by
  refine (delta_at _ _ _ _ y).trans ?_
  rw [slabs m c t _ rfl y, blk1, blk2, blk3]
  rfl

/-- Output array 1. -/
def result5 (c : Dev nD) : S256x128.Idx → EReal := fun i => value5 m c (i 0).val (i 1).val

/-- The array read at an index whose coordinates are known. -/
theorem result5_at (c : Dev nD) (i : S256x128.Idx) (a b : ℕ) (ha : (i 0).val = a) (hb : (i 1).val = b) :
    value5 m c a b = result5 m c i := by
  subst ha hb; rfl

/-- After the run the array holds, at every index, the value of the block that covers it. -/
theorem final5 (c : Dev nD) : (dats m 0 c).arrAt 5 cfg0.N = result5 m c := by
  refine (dats m 0 c).arrAt_eq_of_covers 5 (result5 m c) (by decide +kernel) fun t hf y => ?_
  obtain ⟨e0, e1⟩ := idx5 t
  have h0 : (y 0).val < 128 := (y 0).isLt
  have h1 : (y 1).val < 128 := (y 1).isLt
  blk_simp
  rw [after0_5]
  refine (out5 m c t y).trans (result5_at m c _ _ _ ?_ ?_) <;> blk_simp <;> omega

/-- The block of output 2 that point `t` writes back. -/
theorem out6 (c : Dev nD) (t : Fin cfg0.N) (y : S128x128.Idx) :
    out0_6 (iblk m c 0 t) (iblk m c 1 t) (iblk m c 2 t) (iblk m c 3 t) y = value6 m c (t.val * 128 + (y 0).val) (y 1).val := by
  refine (first_at _ _ _ _ y).trans ?_
  rw [slabs m c t _ rfl y, blk2]
  rfl

/-- Output array 2. -/
def result6 (c : Dev nD) : S256x128.Idx → EReal := fun i => value6 m c (i 0).val (i 1).val

/-- The array read at an index whose coordinates are known. -/
theorem result6_at (c : Dev nD) (i : S256x128.Idx) (a b : ℕ) (ha : (i 0).val = a) (hb : (i 1).val = b) :
    value6 m c a b = result6 m c i := by
  subst ha hb; rfl

/-- After the run the array holds, at every index, the value of the block that covers it. -/
theorem final6 (c : Dev nD) : (dats m 0 c).arrAt 6 cfg0.N = result6 m c := by
  refine (dats m 0 c).arrAt_eq_of_covers 6 (result6 m c) (by decide +kernel) fun t hf y => ?_
  obtain ⟨e0, e1⟩ := idx6 t
  have h0 : (y 0).val < 128 := (y 0).isLt
  have h1 : (y 1).val < 128 := (y 1).isLt
  blk_simp
  rw [after0_6]
  refine (out6 m c t y).trans (result6_at m c _ _ _ ?_ ?_) <;> blk_simp <;> omega

/-- The block of output 3 that point `t` writes back. -/
theorem out7 (c : Dev nD) (t : Fin cfg0.N) (y : S128x128.Idx) :
    out0_7 (iblk m c 0 t) (iblk m c 1 t) (iblk m c 2 t) (iblk m c 3 t) y = value7 m c (t.val * 128 + (y 0).val) (y 1).val := by
  refine (second_at _ _ _ _ y).trans ?_
  rw [slabs m c t _ rfl y, blk3]
  rfl

/-- Output array 3. -/
def result7 (c : Dev nD) : S256x128.Idx → EReal := fun i => value7 m c (i 0).val (i 1).val

/-- The array read at an index whose coordinates are known. -/
theorem result7_at (c : Dev nD) (i : S256x128.Idx) (a b : ℕ) (ha : (i 0).val = a) (hb : (i 1).val = b) :
    value7 m c a b = result7 m c i := by
  subst ha hb; rfl

/-- After the run the array holds, at every index, the value of the block that covers it. -/
theorem final7 (c : Dev nD) : (dats m 0 c).arrAt 7 cfg0.N = result7 m c := by
  refine (dats m 0 c).arrAt_eq_of_covers 7 (result7 m c) (by decide +kernel) fun t hf y => ?_
  obtain ⟨e0, e1⟩ := idx7 t
  have h0 : (y 0).val < 128 := (y 0).isLt
  have h1 : (y 1).val < 128 := (y 1).isLt
  blk_simp
  rw [after0_7]
  refine (out7 m c t y).trans (result7_at m c _ _ _ ?_ ?_) <;> blk_simp <;> omega

end Cert.AdamWGateIdeal.Step

namespace Cert.AdamWGateRefIdeal.Step

open Cert.AdamWGateRefIdeal Cert.AdamWGateRefIdeal.Gen Cert.AdamWGateRefIdeal.Read Cert.Blocked
open Idealize.ShloMosaic Idealize.ShloMosaic.TcCoe Idealize.SL.Sem

variable (x0 : S8x256x128.Idx → EReal) (x1 x2 x3 : S256x128.Idx → EReal) (i : S256x128.Idx)

/-- The reference's summed gradient, entry by entry. -/
theorem ref4 : val_main_v0 (F := Ideal) x0 i = ∑ k : Fin 8, at3 x0 k.val (i 0).val (i 1).val := by
  rw [val_main_v0_apply, val_main_cst_apply]
  refine (congrArg (· + _) Ideal.ofBits_zero_f32).trans ((zero_add _).trans ?_)
  refine Finset.sum_congr rfl fun k _ => ?_
  exact eq_at3 x0 _ _ _ _ rfl rfl rfl

/-- The reference's new first moment, entry by entry. -/
theorem ref6 : val_main_v5 (F := Ideal) x0 x2 i =
    Adam.mom1 (∑ k : Fin 8, at3 x0 k.val (i 0).val (i 1).val) (at2 x2 (i 0).val (i 1).val) := by
  rw [← ref4, ← eq_at2 x2 i _ _ rfl rfl]
  rfl

/-- The reference's new second moment, entry by entry. -/
theorem ref7 : val_main_v11 (F := Ideal) x0 x3 i =
    Adam.mom2 (∑ k : Fin 8, at3 x0 k.val (i 0).val (i 1).val) (at2 x3 (i 0).val (i 1).val) := by
  rw [← ref4, ← eq_at2 x3 i _ _ rfl rfl]
  rfl

/-- The reference's change of the weight, entry by entry. -/
theorem ref5 : val_main_v24 (F := Ideal) x0 x1 x2 x3 i =
    Adam.delta (∑ k : Fin 8, at3 x0 k.val (i 0).val (i 1).val) (at2 x1 (i 0).val (i 1).val) (at2 x2 (i 0).val (i 1).val)
      (at2 x3 (i 0).val (i 1).val) := by
  rw [← ref4, ← eq_at2 x1 i _ _ rfl rfl, ← eq_at2 x2 i _ _ rfl rfl, ← eq_at2 x3 i _ _ rfl rfl]
  rfl

end Cert.AdamWGateRefIdeal.Step

namespace Cert.Proof.AdamWGate

open Idealize.ShloMosaic Idealize.ShloMosaic.TcCoe Idealize.SL.Sem

/-- The two factors the kernel multiplies by stand for the exact inverses of the reference's divisors. -/
theorem preserves : Cert.preserves_AdamWGate_AdamWGateIdeal :=
  ⟨IdealRules.named_const.statement Cert.AdamWGateIdeal.κ "c1" .f32 0x3FC48605#32 ((8388608 / 5463681 : ℝ) : EReal) rfl,
   IdealRules.named_const.statement Cert.AdamWGateIdeal.κ "c2" .f32 0x42C8E6D3#32 ((268435456 / 2672307 : ℝ) : EReal) rfl⟩

/-- From memories that agree on the arguments, both programs end with the same results, and the arguments unchanged. -/
theorem algebraic : Cert.algebraic_AdamWGateIdeal_AdamWGateRefIdeal := by
  intro m g m' g' _ hag
  refine ⟨fun c => Cert.AdamWGateIdeal.Step.result4 m c, fun c => Cert.AdamWGateIdeal.Step.result5 m c,
    fun c => Cert.AdamWGateIdeal.Step.result6 m c, fun c => Cert.AdamWGateIdeal.Step.result7 m c,
    (θ_run Cert.AdamWGateIdeal.defs _ _).mono (fun r h c => ⟨(h c).1.trans (Cert.AdamWGateIdeal.Step.final4 m c),
        (h c).2.1.trans (Cert.AdamWGateIdeal.Step.final5 m c), (h c).2.2.1.trans (Cert.AdamWGateIdeal.Step.final6 m c),
        (h c).2.2.2.1.trans (Cert.AdamWGateIdeal.Step.final7 m c), (h c).2.2.2.2⟩)
      (Cert.AdamWGateIdeal.Value.run_blocks m g), ?_⟩
  refine (θ_run Cert.AdamWGateRefIdeal.defs _ _).mono (fun r h c => ⟨(h c).1.trans ?_, (h c).2.1.trans ?_, (h c).2.2.1.trans ?_,
      (h c).2.2.2.1.trans ?_, (h c).2.2.2.2⟩)
    (Cert.AdamWGateRefIdeal.Value.run m' g')
  · rw [Cert.AdamWGateRefIdeal.Read.val_main_v0_eq]
    funext i
    refine (Cert.AdamWGateRefIdeal.Step.ref4 _ i).trans ?_
    rw [(hag c).1]
    rfl
  · rw [Cert.AdamWGateRefIdeal.Read.val_main_v24_eq]
    funext i
    refine (Cert.AdamWGateRefIdeal.Step.ref5 _ _ _ _ i).trans ?_
    rw [(hag c).1, (hag c).2.1, (hag c).2.2.1, (hag c).2.2.2]
    rfl
  · rw [Cert.AdamWGateRefIdeal.Read.val_main_v5_eq]
    funext i
    refine (Cert.AdamWGateRefIdeal.Step.ref6 _ _ i).trans ?_
    rw [(hag c).1, (hag c).2.2.1]
    rfl
  · rw [Cert.AdamWGateRefIdeal.Read.val_main_v11_eq]
    funext i
    refine (Cert.AdamWGateRefIdeal.Step.ref7 _ _ i).trans ?_
    rw [(hag c).1, (hag c).2.2.2]
    rfl

/-- The reference runs to its end, leaves its arguments unchanged and every counter at zero. -/
theorem frame_reference : Cert.quiescent_AdamWGateRefIdeal := fun m ρ _ =>
  (θ_run Cert.AdamWGateRefIdeal.defs _ _).mono (fun r h => ⟨fun c => (h c).2.2.2.2, sem_eq_zero_of_no_sems (by decide) r.2⟩)
    (Cert.AdamWGateRefIdeal.Value.run (F := Ideal) m ρ)

end Cert.Proof.AdamWGate
-- ==== Proof.AdamWSmall.lean ====
/- The AdamW step that the program `AdamWSmall` takes: the packed gradients of the eighteen small weights are added, and the moments and the weights move.
   The kernel works on 23 blocks of 8 rows; each of its four output arrays holds the same values as the reference's, entry
   by entry. The kernel multiplies by the inverses of the bias corrections, the reference divides by them. -/
module

public import proofs.«01_k».proof.Proof.Adam
public import proofs.«01_k».proof.Proof.Gen.AdamWSmallIdeal.Value
public import proofs.«01_k».proof.Proof.Gen.AdamWSmallRefIdeal.Read
public import proofs.«01_k».proof.Defs

@[expose] public section

noncomputable section

namespace Cert.AdamWSmallIdeal.Step

open Cert.AdamWSmallIdeal Cert.AdamWSmallIdeal.Gen Cert.AdamWSmallIdeal.Value Cert.Blocked
open Idealize.ShloMosaic Idealize.ShloMosaic.TcCoe Idealize.SL.Sem
open Finset

variable (m : (ℓ : Loc nD τ sig) → Buf (Elt Ideal) ℓ)

/-- The gradients received, as launched. -/
abbrev recv (c : Dev nD) : S8x184x128.Idx → EReal := m ((c : Thread nD τ).loc main_arg0)
/-- The weights as the kernel finds them, packed. -/
abbrev weight (c : Dev nD) : S184x128.Idx → EReal := V m c main_v21
/-- The first moments as the kernel finds them, packed. -/
abbrev first (c : Dev nD) : S184x128.Idx → EReal := V m c main_v43
/-- The second moments as the kernel finds them, packed. -/
abbrev second (c : Dev nD) : S184x128.Idx → EReal := V m c main_v65

/-- The block that grid point `t` reads or writes of the gradients received. -/
theorem idx0 : ∀ t : Fin cfg0.N, win0_0.index t 0 = 0 ∧ win0_0.index t 1 = t.val ∧ win0_0.index t 2 = 0 :=
  (by decide +kernel : ∀ t : Fin grid0.N, _)

/-- The block that grid point `t` reads or writes of the weight. -/
theorem idx1 : ∀ t : Fin cfg0.N, win0_1.index t 0 = t.val ∧ win0_1.index t 1 = 0 :=
  (by decide +kernel : ∀ t : Fin grid0.N, _)

/-- The block that grid point `t` reads or writes of the first moment. -/
theorem idx2 : ∀ t : Fin cfg0.N, win0_2.index t 0 = t.val ∧ win0_2.index t 1 = 0 :=
  (by decide +kernel : ∀ t : Fin grid0.N, _)

/-- The block that grid point `t` reads or writes of the second moment. -/
theorem idx3 : ∀ t : Fin cfg0.N, win0_3.index t 0 = t.val ∧ win0_3.index t 1 = 0 :=
  (by decide +kernel : ∀ t : Fin grid0.N, _)

/-- The block that grid point `t` reads or writes of the summed gradient. -/
theorem idx4 : ∀ t : Fin cfg0.N, win0_4.index t 0 = t.val ∧ win0_4.index t 1 = 0 :=
  (by decide +kernel : ∀ t : Fin grid0.N, _)

/-- The block that grid point `t` reads or writes of the change of the weight. -/
theorem idx5 : ∀ t : Fin cfg0.N, win0_5.index t 0 = t.val ∧ win0_5.index t 1 = 0 :=
  (by decide +kernel : ∀ t : Fin grid0.N, _)

/-- The block that grid point `t` reads or writes of the new first moment. -/
theorem idx6 : ∀ t : Fin cfg0.N, win0_6.index t 0 = t.val ∧ win0_6.index t 1 = 0 :=
  (by decide +kernel : ∀ t : Fin grid0.N, _)

/-- The block that grid point `t` reads or writes of the new second moment. -/
theorem idx7 : ∀ t : Fin cfg0.N, win0_7.index t 0 = t.val ∧ win0_7.index t 1 = 0 :=
  (by decide +kernel : ∀ t : Fin grid0.N, _)

/-- The packed weights are the ones the reference packs. -/
theorem packed1 (c : Dev nD) : weight m c =
    Cert.AdamWSmallRefIdeal.Read.val_main_v21 (F := Ideal) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  show StableHlo.after (List.flatten [hostOps0, hostOps0_1, hostOps0_2, hostOps0_3, hostOps0_4, hostOps0_5, hostOps0_6])
    (fun b => m (c, b)) main_v21 = _
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, cast_eq]
  after_results_simp <;> (try dsimp only [Matrix.cons_val]) <;> (try after_results_simp) <;> (try dsimp only [Matrix.cons_val]) <;> (try after_results_simp)
  rfl

/-- The packed first moments are the ones the reference packs. -/
theorem packed2 (c : Dev nD) : first m c =
    Cert.AdamWSmallRefIdeal.Read.val_main_v43 (F := Ideal) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) (m ((c : Thread nD τ).loc main_arg31)) (m ((c : Thread nD τ).loc main_arg32)) (m ((c : Thread nD τ).loc main_arg33)) (m ((c : Thread nD τ).loc main_arg34)) (m ((c : Thread nD τ).loc main_arg35)) (m ((c : Thread nD τ).loc main_arg36)) := by
  show StableHlo.after (List.flatten [hostOps0, hostOps0_1, hostOps0_2, hostOps0_3, hostOps0_4, hostOps0_5, hostOps0_6])
    (fun b => m (c, b)) main_v43 = _
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, cast_eq]
  after_results_simp <;> (try dsimp only [Matrix.cons_val]) <;> (try after_results_simp) <;> (try dsimp only [Matrix.cons_val]) <;> (try after_results_simp)
  rfl

/-- The packed second moments are the ones the reference packs. -/
theorem packed3 (c : Dev nD) : second m c =
    Cert.AdamWSmallRefIdeal.Read.val_main_v65 (F := Ideal) (m ((c : Thread nD τ).loc main_arg37)) (m ((c : Thread nD τ).loc main_arg38)) (m ((c : Thread nD τ).loc main_arg39)) (m ((c : Thread nD τ).loc main_arg40)) (m ((c : Thread nD τ).loc main_arg41)) (m ((c : Thread nD τ).loc main_arg42)) (m ((c : Thread nD τ).loc main_arg43)) (m ((c : Thread nD τ).loc main_arg44)) (m ((c : Thread nD τ).loc main_arg45)) (m ((c : Thread nD τ).loc main_arg46)) (m ((c : Thread nD τ).loc main_arg47)) (m ((c : Thread nD τ).loc main_arg48)) (m ((c : Thread nD τ).loc main_arg49)) (m ((c : Thread nD τ).loc main_arg50)) (m ((c : Thread nD τ).loc main_arg51)) (m ((c : Thread nD τ).loc main_arg52)) (m ((c : Thread nD τ).loc main_arg53)) (m ((c : Thread nD τ).loc main_arg54)) := by
  show StableHlo.after (List.flatten [hostOps0, hostOps0_1, hostOps0_2, hostOps0_3, hostOps0_4, hostOps0_5, hostOps0_6])
    (fun b => m (c, b)) main_v65 = _
  simp only [hostOps0, hostOps0_1, hostOps0_2, hostOps0_3, hostOps0_4, hostOps0_5, hostOps0_6, List.flatten_cons, List.flatten_nil,
    List.append_nil, List.cons_append, List.nil_append, StableHlo.TRef.binary, StableHlo.TRef.unary, StableHlo.TRef.toBuf,
    StableHlo.TRef.ofBuf, cast_eq]
  after_results_simp <;> (try dsimp only [Matrix.cons_val]) <;> (try after_results_simp) <;> (try dsimp only [Matrix.cons_val]) <;> (try after_results_simp)
  rfl

/-- The block of the gradients received at point `t`, read at the array's own coordinates. -/
theorem blk0 (c : Dev nD) (t : Fin cfg0.N) (y : S8x8x128.Idx) :
    iblk m c 0 t y = at3 (recv m c) (y 0).val (t.val * 8 + (y 1).val) (y 2).val := by
  unfold iblk
  rw [View.read_apply]
  show (V m c main_arg0 : S8x184x128.Idx → EReal) _ = _
  rw [V_main_arg0]
  obtain ⟨e0, e1, e2⟩ := idx0 t
  refine eq_at3 _ _ _ _ _ ?_ ?_ ?_ <;> blk_simp <;> omega

/-- The block of the weight at point `t`, read at the array's own coordinates. -/
theorem blk1 (c : Dev nD) (t : Fin cfg0.N) (y : S8x128.Idx) :
    iblk m c 1 t y = at2 (weight m c) (t.val * 8 + (y 0).val) (y 1).val := by
  unfold iblk
  rw [View.read_apply]
  show (weight m c : S184x128.Idx → EReal) _ = _
  obtain ⟨e0, e1⟩ := idx1 t
  refine eq_at2 _ _ _ _ ?_ ?_ <;> blk_simp <;> omega

/-- The block of the first moment at point `t`, read at the array's own coordinates. -/
theorem blk2 (c : Dev nD) (t : Fin cfg0.N) (y : S8x128.Idx) :
    iblk m c 2 t y = at2 (first m c) (t.val * 8 + (y 0).val) (y 1).val := by
  unfold iblk
  rw [View.read_apply]
  show (first m c : S184x128.Idx → EReal) _ = _
  obtain ⟨e0, e1⟩ := idx2 t
  refine eq_at2 _ _ _ _ ?_ ?_ <;> blk_simp <;> omega

/-- The block of the second moment at point `t`, read at the array's own coordinates. -/
theorem blk3 (c : Dev nD) (t : Fin cfg0.N) (y : S8x128.Idx) :
    iblk m c 3 t y = at2 (second m c) (t.val * 8 + (y 0).val) (y 1).val := by
  unfold iblk
  rw [View.read_apply]
  show (second m c : S184x128.Idx → EReal) _ = _
  obtain ⟨e0, e1⟩ := idx3 t
  refine eq_at2 _ _ _ _ ?_ ?_ <;> blk_simp <;> omega

/-- An entry of the summed gradient's block. -/
theorem grad_at (x0 : Vec Ideal S8x8x128 .f32) (x1 x2 x3 : Vec Ideal S8x128 .f32) (y : S8x128.Idx) :
    out0_4 x0 x1 x2 x3 y = ∑ k : Fin 8, x0 (ix3 k (y 0) (y 1)) := by
  rw [← Adam.sum_eight]
  frame_out
  pointwise [k0_pay1, k0_pay2, k0_pay3, k0_pay4, k0_pay5, k0_pay6]

/-- An entry of the new first moment's block. -/
theorem first_at (x0 : Vec Ideal S8x8x128 .f32) (x1 x2 x3 : Vec Ideal S8x128 .f32) (y : S8x128.Idx) :
    out0_6 x0 x1 x2 x3 y = Adam.mom1 (∑ k : Fin 8, x0 (ix3 k (y 0) (y 1))) (x2 y) := by
  rw [← Adam.sum_eight]
  frame_out
  pointwise [k0_pay1, k0_pay2, k0_pay3, k0_pay4, k0_pay5, k0_pay6]
  rfl

/-- An entry of the new second moment's block. -/
theorem second_at (x0 : Vec Ideal S8x8x128 .f32) (x1 x2 x3 : Vec Ideal S8x128 .f32) (y : S8x128.Idx) :
    out0_7 x0 x1 x2 x3 y = Adam.mom2 (∑ k : Fin 8, x0 (ix3 k (y 0) (y 1))) (x3 y) := by
  rw [← Adam.sum_eight]
  frame_out
  pointwise [k0_pay1, k0_pay2, k0_pay3, k0_pay4, k0_pay5, k0_pay6]
  rfl

/-- An entry of the block of the weight's change. -/
theorem delta_at (x0 : Vec Ideal S8x8x128 .f32) (x1 x2 x3 : Vec Ideal S8x128 .f32) (y : S8x128.Idx) :
    out0_5 x0 x1 x2 x3 y = Adam.delta (∑ k : Fin 8, x0 (ix3 k (y 0) (y 1))) (x1 y) (x2 y) (x3 y) := by
  rw [← Adam.delta_eq, ← Adam.sum_eight]
  frame_out
  pointwise [k0_pay1, k0_pay2, k0_pay3, k0_pay4, k0_pay5, k0_pay6]
  rfl

/-- The summed gradient at row `i` and column `j`. -/
def grad (c : Dev nD) (i j : ℕ) : EReal := ∑ k : Fin 8, at3 (recv m c) k.val i j

/-- What the kernel leaves in its four output arrays at row `i` and column `j`. -/
def value4 (c : Dev nD) (i j : ℕ) : EReal := grad m c i j
def value5 (c : Dev nD) (i j : ℕ) : EReal :=
  Adam.delta (grad m c i j) (at2 (weight m c) i j) (at2 (first m c) i j) (at2 (second m c) i j)
def value6 (c : Dev nD) (i j : ℕ) : EReal := Adam.mom1 (grad m c i j) (at2 (first m c) i j)
def value7 (c : Dev nD) (i j : ℕ) : EReal := Adam.mom2 (grad m c i j) (at2 (second m c) i j)

/-- The gradients received at point `t`, added. -/
theorem slabs (c : Dev nD) (t : Fin cfg0.N) (x0 : Vec Ideal S8x8x128 .f32) (e : x0 = iblk m c 0 t) (y : S8x128.Idx) :
    ∑ k : Fin 8, x0 (ix3 k (y 0) (y 1)) = grad m c (t.val * 8 + (y 0).val) (y 1).val := by
  subst e
  unfold grad
  refine Finset.sum_congr rfl fun k _ => ?_
  rw [blk0]; rfl

/-- The block of output 0 that point `t` writes back. -/
theorem out4 (c : Dev nD) (t : Fin cfg0.N) (y : S8x128.Idx) :
    out0_4 (iblk m c 0 t) (iblk m c 1 t) (iblk m c 2 t) (iblk m c 3 t) y = value4 m c (t.val * 8 + (y 0).val) (y 1).val := by
  refine (grad_at _ _ _ _ y).trans ?_
  rw [slabs m c t _ rfl y]
  rfl

/-- Output array 0. -/
def result4 (c : Dev nD) : S184x128.Idx → EReal := fun i => value4 m c (i 0).val (i 1).val

/-- The array read at an index whose coordinates are known. -/
theorem result4_at (c : Dev nD) (i : S184x128.Idx) (a b : ℕ) (ha : (i 0).val = a) (hb : (i 1).val = b) :
    value4 m c a b = result4 m c i := by
  subst ha hb; rfl

/-- After the run the array holds, at every index, the value of the block that covers it. -/
theorem final4 (c : Dev nD) : (dats m 0 c).arrAt 4 cfg0.N = result4 m c := by
  refine (dats m 0 c).arrAt_eq_of_covers 4 (result4 m c) (by decide +kernel) fun t hf y => ?_
  obtain ⟨e0, e1⟩ := idx4 t
  have h0 : (y 0).val < 8 := (y 0).isLt
  have h1 : (y 1).val < 128 := (y 1).isLt
  blk_simp
  rw [after0_4]
  refine (out4 m c t y).trans (result4_at m c _ _ _ ?_ ?_) <;> blk_simp <;> omega

/-- The block of output 1 that point `t` writes back. -/
theorem out5 (c : Dev nD) (t : Fin cfg0.N) (y : S8x128.Idx) :
    out0_5 (iblk m c 0 t) (iblk m c 1 t) (iblk m c 2 t) (iblk m c 3 t) y = value5 m c (t.val * 8 + (y 0).val) (y 1).val := by
  refine (delta_at _ _ _ _ y).trans ?_
  rw [slabs m c t _ rfl y, blk1, blk2, blk3]
  rfl

/-- Output array 1. -/
def result5 (c : Dev nD) : S184x128.Idx → EReal := fun i => value5 m c (i 0).val (i 1).val

/-- The array read at an index whose coordinates are known. -/
theorem result5_at (c : Dev nD) (i : S184x128.Idx) (a b : ℕ) (ha : (i 0).val = a) (hb : (i 1).val = b) :
    value5 m c a b = result5 m c i := by
  subst ha hb; rfl

/-- After the run the array holds, at every index, the value of the block that covers it. -/
theorem final5 (c : Dev nD) : (dats m 0 c).arrAt 5 cfg0.N = result5 m c := by
  refine (dats m 0 c).arrAt_eq_of_covers 5 (result5 m c) (by decide +kernel) fun t hf y => ?_
  obtain ⟨e0, e1⟩ := idx5 t
  have h0 : (y 0).val < 8 := (y 0).isLt
  have h1 : (y 1).val < 128 := (y 1).isLt
  blk_simp
  rw [after0_5]
  refine (out5 m c t y).trans (result5_at m c _ _ _ ?_ ?_) <;> blk_simp <;> omega

/-- The block of output 2 that point `t` writes back. -/
theorem out6 (c : Dev nD) (t : Fin cfg0.N) (y : S8x128.Idx) :
    out0_6 (iblk m c 0 t) (iblk m c 1 t) (iblk m c 2 t) (iblk m c 3 t) y = value6 m c (t.val * 8 + (y 0).val) (y 1).val := by
  refine (first_at _ _ _ _ y).trans ?_
  rw [slabs m c t _ rfl y, blk2]
  rfl

/-- Output array 2. -/
def result6 (c : Dev nD) : S184x128.Idx → EReal := fun i => value6 m c (i 0).val (i 1).val

/-- The array read at an index whose coordinates are known. -/
theorem result6_at (c : Dev nD) (i : S184x128.Idx) (a b : ℕ) (ha : (i 0).val = a) (hb : (i 1).val = b) :
    value6 m c a b = result6 m c i := by
  subst ha hb; rfl

/-- After the run the array holds, at every index, the value of the block that covers it. -/
theorem final6 (c : Dev nD) : (dats m 0 c).arrAt 6 cfg0.N = result6 m c := by
  refine (dats m 0 c).arrAt_eq_of_covers 6 (result6 m c) (by decide +kernel) fun t hf y => ?_
  obtain ⟨e0, e1⟩ := idx6 t
  have h0 : (y 0).val < 8 := (y 0).isLt
  have h1 : (y 1).val < 128 := (y 1).isLt
  blk_simp
  rw [after0_6]
  refine (out6 m c t y).trans (result6_at m c _ _ _ ?_ ?_) <;> blk_simp <;> omega

/-- The block of output 3 that point `t` writes back. -/
theorem out7 (c : Dev nD) (t : Fin cfg0.N) (y : S8x128.Idx) :
    out0_7 (iblk m c 0 t) (iblk m c 1 t) (iblk m c 2 t) (iblk m c 3 t) y = value7 m c (t.val * 8 + (y 0).val) (y 1).val := by
  refine (second_at _ _ _ _ y).trans ?_
  rw [slabs m c t _ rfl y, blk3]
  rfl

/-- Output array 3. -/
def result7 (c : Dev nD) : S184x128.Idx → EReal := fun i => value7 m c (i 0).val (i 1).val

/-- The array read at an index whose coordinates are known. -/
theorem result7_at (c : Dev nD) (i : S184x128.Idx) (a b : ℕ) (ha : (i 0).val = a) (hb : (i 1).val = b) :
    value7 m c a b = result7 m c i := by
  subst ha hb; rfl

/-- After the run the array holds, at every index, the value of the block that covers it. -/
theorem final7 (c : Dev nD) : (dats m 0 c).arrAt 7 cfg0.N = result7 m c := by
  refine (dats m 0 c).arrAt_eq_of_covers 7 (result7 m c) (by decide +kernel) fun t hf y => ?_
  obtain ⟨e0, e1⟩ := idx7 t
  have h0 : (y 0).val < 8 := (y 0).isLt
  have h1 : (y 1).val < 128 := (y 1).isLt
  blk_simp
  rw [after0_7]
  refine (out7 m c t y).trans (result7_at m c _ _ _ ?_ ?_) <;> blk_simp <;> omega

end Cert.AdamWSmallIdeal.Step

namespace Cert.AdamWSmallRefIdeal.Step

open Cert.AdamWSmallRefIdeal Cert.AdamWSmallRefIdeal.Gen Cert.AdamWSmallRefIdeal.Read Cert.Blocked
open Idealize.ShloMosaic Idealize.ShloMosaic.TcCoe Idealize.SL.Sem

variable (x0 : (⟨S8x184x128, .f32⟩ : BufTy).Contents (Elt Ideal)) (x1 : (⟨S1x2048, .f32⟩ : BufTy).Contents (Elt Ideal)) (x2 : (⟨S1x1536, .f32⟩ : BufTy).Contents (Elt Ideal)) (x3 x4 x5 : (⟨S1x16, .f32⟩ : BufTy).Contents (Elt Ideal)) (x6 : (⟨S1x1024, .f32⟩ : BufTy).Contents (Elt Ideal)) (x7 : (⟨S1x3520, .f32⟩ : BufTy).Contents (Elt Ideal)) (x8 x9 x10 x11 : (⟨S1x1024, .f32⟩ : BufTy).Contents (Elt Ideal)) (x12 : (⟨S1x16x64, .f32⟩ : BufTy).Contents (Elt Ideal)) (x13 x14 : (⟨S1x1024, .f32⟩ : BufTy).Contents (Elt Ideal)) (x15 x16 x17 : (⟨S1x2048, .f32⟩ : BufTy).Contents (Elt Ideal)) (x18 : (⟨S2048, .f32⟩ : BufTy).Contents (Elt Ideal)) (x19 : (⟨S1x2048, .f32⟩ : BufTy).Contents (Elt Ideal)) (x20 : (⟨S1x1536, .f32⟩ : BufTy).Contents (Elt Ideal)) (x21 x22 x23 : (⟨S1x16, .f32⟩ : BufTy).Contents (Elt Ideal)) (x24 : (⟨S1x1024, .f32⟩ : BufTy).Contents (Elt Ideal)) (x25 : (⟨S1x3520, .f32⟩ : BufTy).Contents (Elt Ideal)) (x26 x27 x28 x29 : (⟨S1x1024, .f32⟩ : BufTy).Contents (Elt Ideal)) (x30 : (⟨S1x16x64, .f32⟩ : BufTy).Contents (Elt Ideal)) (x31 x32 : (⟨S1x1024, .f32⟩ : BufTy).Contents (Elt Ideal)) (x33 x34 x35 : (⟨S1x2048, .f32⟩ : BufTy).Contents (Elt Ideal)) (x36 : (⟨S2048, .f32⟩ : BufTy).Contents (Elt Ideal)) (x37 : (⟨S1x2048, .f32⟩ : BufTy).Contents (Elt Ideal)) (x38 : (⟨S1x1536, .f32⟩ : BufTy).Contents (Elt Ideal)) (x39 x40 x41 : (⟨S1x16, .f32⟩ : BufTy).Contents (Elt Ideal)) (x42 : (⟨S1x1024, .f32⟩ : BufTy).Contents (Elt Ideal)) (x43 : (⟨S1x3520, .f32⟩ : BufTy).Contents (Elt Ideal)) (x44 x45 x46 x47 : (⟨S1x1024, .f32⟩ : BufTy).Contents (Elt Ideal)) (x48 : (⟨S1x16x64, .f32⟩ : BufTy).Contents (Elt Ideal)) (x49 x50 : (⟨S1x1024, .f32⟩ : BufTy).Contents (Elt Ideal)) (x51 x52 x53 : (⟨S1x2048, .f32⟩ : BufTy).Contents (Elt Ideal)) (x54 : (⟨S2048, .f32⟩ : BufTy).Contents (Elt Ideal)) (i : S184x128.Idx)

/-- The reference's summed gradient, entry by entry. -/
theorem ref4 : val_main_v66 (F := Ideal) x0 i = ∑ k : Fin 8, at3 x0 k.val (i 0).val (i 1).val := by
  rw [val_main_v66_apply, val_main_cst_apply]
  refine (congrArg (· + _) Ideal.ofBits_zero_f32).trans ((zero_add _).trans ?_)
  refine Finset.sum_congr rfl fun k _ => ?_
  exact eq_at3 x0 _ _ _ _ rfl rfl rfl

/-- The reference's new first moment, entry by entry. -/
theorem ref6 : val_main_v71 (F := Ideal) x0 x19 x20 x21 x22 x23 x24 x25 x26 x27 x28 x29 x30 x31 x32 x33 x34 x35 x36 i =
    Adam.mom1 (∑ k : Fin 8, at3 x0 k.val (i 0).val (i 1).val) (at2 (val_main_v43 (F := Ideal) x19 x20 x21 x22 x23 x24 x25 x26 x27 x28 x29 x30 x31 x32 x33 x34 x35 x36) (i 0).val (i 1).val) := by
  rw [← ref4, ← eq_at2 (val_main_v43 (F := Ideal) x19 x20 x21 x22 x23 x24 x25 x26 x27 x28 x29 x30 x31 x32 x33 x34 x35 x36) i _ _ rfl rfl]
  rfl

/-- The reference's new second moment, entry by entry. -/
theorem ref7 : val_main_v77 (F := Ideal) x0 x37 x38 x39 x40 x41 x42 x43 x44 x45 x46 x47 x48 x49 x50 x51 x52 x53 x54 i =
    Adam.mom2 (∑ k : Fin 8, at3 x0 k.val (i 0).val (i 1).val) (at2 (val_main_v65 (F := Ideal) x37 x38 x39 x40 x41 x42 x43 x44 x45 x46 x47 x48 x49 x50 x51 x52 x53 x54) (i 0).val (i 1).val) := by
  rw [← ref4, ← eq_at2 (val_main_v65 (F := Ideal) x37 x38 x39 x40 x41 x42 x43 x44 x45 x46 x47 x48 x49 x50 x51 x52 x53 x54) i _ _ rfl rfl]
  rfl

/-- The reference's change of the weight, entry by entry. -/
theorem ref5 : val_main_v90 (F := Ideal) x0 x1 x2 x3 x4 x5 x6 x7 x8 x9 x10 x11 x12 x13 x14 x15 x16 x17 x18 x19 x20 x21 x22 x23 x24 x25 x26 x27 x28 x29 x30 x31 x32 x33 x34 x35 x36 x37 x38 x39 x40 x41 x42 x43 x44 x45 x46 x47 x48 x49 x50 x51 x52 x53 x54 i =
    Adam.delta (∑ k : Fin 8, at3 x0 k.val (i 0).val (i 1).val) (at2 (val_main_v21 (F := Ideal) x1 x2 x3 x4 x5 x6 x7 x8 x9 x10 x11 x12 x13 x14 x15 x16 x17 x18) (i 0).val (i 1).val) (at2 (val_main_v43 (F := Ideal) x19 x20 x21 x22 x23 x24 x25 x26 x27 x28 x29 x30 x31 x32 x33 x34 x35 x36) (i 0).val (i 1).val)
      (at2 (val_main_v65 (F := Ideal) x37 x38 x39 x40 x41 x42 x43 x44 x45 x46 x47 x48 x49 x50 x51 x52 x53 x54) (i 0).val (i 1).val) := by
  rw [← ref4, ← eq_at2 (val_main_v21 (F := Ideal) x1 x2 x3 x4 x5 x6 x7 x8 x9 x10 x11 x12 x13 x14 x15 x16 x17 x18) i _ _ rfl rfl, ← eq_at2 (val_main_v43 (F := Ideal) x19 x20 x21 x22 x23 x24 x25 x26 x27 x28 x29 x30 x31 x32 x33 x34 x35 x36) i _ _ rfl rfl, ← eq_at2 (val_main_v65 (F := Ideal) x37 x38 x39 x40 x41 x42 x43 x44 x45 x46 x47 x48 x49 x50 x51 x52 x53 x54) i _ _ rfl rfl]
  rfl

end Cert.AdamWSmallRefIdeal.Step

namespace Cert.Proof.AdamWSmall

open Idealize.ShloMosaic Idealize.ShloMosaic.TcCoe Idealize.SL.Sem

/-- The two factors the kernel multiplies by stand for the exact inverses of the reference's divisors. -/
theorem preserves : Cert.preserves_AdamWSmall_AdamWSmallIdeal :=
  ⟨IdealRules.named_const.statement Cert.AdamWSmallIdeal.κ "c1" .f32 0x3FC48605#32 ((8388608 / 5463681 : ℝ) : EReal) rfl,
   IdealRules.named_const.statement Cert.AdamWSmallIdeal.κ "c2" .f32 0x42C8E6D3#32 ((268435456 / 2672307 : ℝ) : EReal) rfl⟩

/-- From arguments that agree, the reference packs the weights the kernel finds. -/
theorem agree1 (m : (ℓ : Loc Cert.AdamWSmallIdeal.nD Cert.AdamWSmallIdeal.τ Cert.AdamWSmallIdeal.sig) → Buf (Elt Ideal) ℓ)
    (m' : (ℓ : Loc Cert.AdamWSmallRefIdeal.nD Cert.AdamWSmallRefIdeal.τ Cert.AdamWSmallRefIdeal.sig) → Buf (Elt Ideal) ℓ)
    (c : Dev Cert.AdamWSmallIdeal.nD)
    (h1 : m' ((c.tc : Thread Cert.AdamWSmallRefIdeal.nD Cert.AdamWSmallRefIdeal.τ).loc Cert.AdamWSmallRefIdeal.main_arg1) = m ((c.tc : Thread Cert.AdamWSmallIdeal.nD Cert.AdamWSmallIdeal.τ).loc Cert.AdamWSmallIdeal.main_arg1))
    (h2 : m' ((c.tc : Thread Cert.AdamWSmallRefIdeal.nD Cert.AdamWSmallRefIdeal.τ).loc Cert.AdamWSmallRefIdeal.main_arg2) = m ((c.tc : Thread Cert.AdamWSmallIdeal.nD Cert.AdamWSmallIdeal.τ).loc Cert.AdamWSmallIdeal.main_arg2))
    (h3 : m' ((c.tc : Thread Cert.AdamWSmallRefIdeal.nD Cert.AdamWSmallRefIdeal.τ).loc Cert.AdamWSmallRefIdeal.main_arg3) = m ((c.tc : Thread Cert.AdamWSmallIdeal.nD Cert.AdamWSmallIdeal.τ).loc Cert.AdamWSmallIdeal.main_arg3))
    (h4 : m' ((c.tc : Thread Cert.AdamWSmallRefIdeal.nD Cert.AdamWSmallRefIdeal.τ).loc Cert.AdamWSmallRefIdeal.main_arg4) = m ((c.tc : Thread Cert.AdamWSmallIdeal.nD Cert.AdamWSmallIdeal.τ).loc Cert.AdamWSmallIdeal.main_arg4))
    (h5 : m' ((c.tc : Thread Cert.AdamWSmallRefIdeal.nD Cert.AdamWSmallRefIdeal.τ).loc Cert.AdamWSmallRefIdeal.main_arg5) = m ((c.tc : Thread Cert.AdamWSmallIdeal.nD Cert.AdamWSmallIdeal.τ).loc Cert.AdamWSmallIdeal.main_arg5))
    (h6 : m' ((c.tc : Thread Cert.AdamWSmallRefIdeal.nD Cert.AdamWSmallRefIdeal.τ).loc Cert.AdamWSmallRefIdeal.main_arg6) = m ((c.tc : Thread Cert.AdamWSmallIdeal.nD Cert.AdamWSmallIdeal.τ).loc Cert.AdamWSmallIdeal.main_arg6))
    (h7 : m' ((c.tc : Thread Cert.AdamWSmallRefIdeal.nD Cert.AdamWSmallRefIdeal.τ).loc Cert.AdamWSmallRefIdeal.main_arg7) = m ((c.tc : Thread Cert.AdamWSmallIdeal.nD Cert.AdamWSmallIdeal.τ).loc Cert.AdamWSmallIdeal.main_arg7))
    (h8 : m' ((c.tc : Thread Cert.AdamWSmallRefIdeal.nD Cert.AdamWSmallRefIdeal.τ).loc Cert.AdamWSmallRefIdeal.main_arg8) = m ((c.tc : Thread Cert.AdamWSmallIdeal.nD Cert.AdamWSmallIdeal.τ).loc Cert.AdamWSmallIdeal.main_arg8))
    (h9 : m' ((c.tc : Thread Cert.AdamWSmallRefIdeal.nD Cert.AdamWSmallRefIdeal.τ).loc Cert.AdamWSmallRefIdeal.main_arg9) = m ((c.tc : Thread Cert.AdamWSmallIdeal.nD Cert.AdamWSmallIdeal.τ).loc Cert.AdamWSmallIdeal.main_arg9))
    (h10 : m' ((c.tc : Thread Cert.AdamWSmallRefIdeal.nD Cert.AdamWSmallRefIdeal.τ).loc Cert.AdamWSmallRefIdeal.main_arg10) = m ((c.tc : Thread Cert.AdamWSmallIdeal.nD Cert.AdamWSmallIdeal.τ).loc Cert.AdamWSmallIdeal.main_arg10))
    (h11 : m' ((c.tc : Thread Cert.AdamWSmallRefIdeal.nD Cert.AdamWSmallRefIdeal.τ).loc Cert.AdamWSmallRefIdeal.main_arg11) = m ((c.tc : Thread Cert.AdamWSmallIdeal.nD Cert.AdamWSmallIdeal.τ).loc Cert.AdamWSmallIdeal.main_arg11))
    (h12 : m' ((c.tc : Thread Cert.AdamWSmallRefIdeal.nD Cert.AdamWSmallRefIdeal.τ).loc Cert.AdamWSmallRefIdeal.main_arg12) = m ((c.tc : Thread Cert.AdamWSmallIdeal.nD Cert.AdamWSmallIdeal.τ).loc Cert.AdamWSmallIdeal.main_arg12))
    (h13 : m' ((c.tc : Thread Cert.AdamWSmallRefIdeal.nD Cert.AdamWSmallRefIdeal.τ).loc Cert.AdamWSmallRefIdeal.main_arg13) = m ((c.tc : Thread Cert.AdamWSmallIdeal.nD Cert.AdamWSmallIdeal.τ).loc Cert.AdamWSmallIdeal.main_arg13))
    (h14 : m' ((c.tc : Thread Cert.AdamWSmallRefIdeal.nD Cert.AdamWSmallRefIdeal.τ).loc Cert.AdamWSmallRefIdeal.main_arg14) = m ((c.tc : Thread Cert.AdamWSmallIdeal.nD Cert.AdamWSmallIdeal.τ).loc Cert.AdamWSmallIdeal.main_arg14))
    (h15 : m' ((c.tc : Thread Cert.AdamWSmallRefIdeal.nD Cert.AdamWSmallRefIdeal.τ).loc Cert.AdamWSmallRefIdeal.main_arg15) = m ((c.tc : Thread Cert.AdamWSmallIdeal.nD Cert.AdamWSmallIdeal.τ).loc Cert.AdamWSmallIdeal.main_arg15))
    (h16 : m' ((c.tc : Thread Cert.AdamWSmallRefIdeal.nD Cert.AdamWSmallRefIdeal.τ).loc Cert.AdamWSmallRefIdeal.main_arg16) = m ((c.tc : Thread Cert.AdamWSmallIdeal.nD Cert.AdamWSmallIdeal.τ).loc Cert.AdamWSmallIdeal.main_arg16))
    (h17 : m' ((c.tc : Thread Cert.AdamWSmallRefIdeal.nD Cert.AdamWSmallRefIdeal.τ).loc Cert.AdamWSmallRefIdeal.main_arg17) = m ((c.tc : Thread Cert.AdamWSmallIdeal.nD Cert.AdamWSmallIdeal.τ).loc Cert.AdamWSmallIdeal.main_arg17))
    (h18 : m' ((c.tc : Thread Cert.AdamWSmallRefIdeal.nD Cert.AdamWSmallRefIdeal.τ).loc Cert.AdamWSmallRefIdeal.main_arg18) = m ((c.tc : Thread Cert.AdamWSmallIdeal.nD Cert.AdamWSmallIdeal.τ).loc Cert.AdamWSmallIdeal.main_arg18)) :
    Cert.AdamWSmallRefIdeal.Read.val_main_v21 (F := Ideal) (m' ((c.tc : Thread Cert.AdamWSmallRefIdeal.nD Cert.AdamWSmallRefIdeal.τ).loc Cert.AdamWSmallRefIdeal.main_arg1)) (m' ((c.tc : Thread Cert.AdamWSmallRefIdeal.nD Cert.AdamWSmallRefIdeal.τ).loc Cert.AdamWSmallRefIdeal.main_arg2)) (m' ((c.tc : Thread Cert.AdamWSmallRefIdeal.nD Cert.AdamWSmallRefIdeal.τ).loc Cert.AdamWSmallRefIdeal.main_arg3)) (m' ((c.tc : Thread Cert.AdamWSmallRefIdeal.nD Cert.AdamWSmallRefIdeal.τ).loc Cert.AdamWSmallRefIdeal.main_arg4)) (m' ((c.tc : Thread Cert.AdamWSmallRefIdeal.nD Cert.AdamWSmallRefIdeal.τ).loc Cert.AdamWSmallRefIdeal.main_arg5)) (m' ((c.tc : Thread Cert.AdamWSmallRefIdeal.nD Cert.AdamWSmallRefIdeal.τ).loc Cert.AdamWSmallRefIdeal.main_arg6)) (m' ((c.tc : Thread Cert.AdamWSmallRefIdeal.nD Cert.AdamWSmallRefIdeal.τ).loc Cert.AdamWSmallRefIdeal.main_arg7)) (m' ((c.tc : Thread Cert.AdamWSmallRefIdeal.nD Cert.AdamWSmallRefIdeal.τ).loc Cert.AdamWSmallRefIdeal.main_arg8)) (m' ((c.tc : Thread Cert.AdamWSmallRefIdeal.nD Cert.AdamWSmallRefIdeal.τ).loc Cert.AdamWSmallRefIdeal.main_arg9)) (m' ((c.tc : Thread Cert.AdamWSmallRefIdeal.nD Cert.AdamWSmallRefIdeal.τ).loc Cert.AdamWSmallRefIdeal.main_arg10)) (m' ((c.tc : Thread Cert.AdamWSmallRefIdeal.nD Cert.AdamWSmallRefIdeal.τ).loc Cert.AdamWSmallRefIdeal.main_arg11)) (m' ((c.tc : Thread Cert.AdamWSmallRefIdeal.nD Cert.AdamWSmallRefIdeal.τ).loc Cert.AdamWSmallRefIdeal.main_arg12)) (m' ((c.tc : Thread Cert.AdamWSmallRefIdeal.nD Cert.AdamWSmallRefIdeal.τ).loc Cert.AdamWSmallRefIdeal.main_arg13)) (m' ((c.tc : Thread Cert.AdamWSmallRefIdeal.nD Cert.AdamWSmallRefIdeal.τ).loc Cert.AdamWSmallRefIdeal.main_arg14)) (m' ((c.tc : Thread Cert.AdamWSmallRefIdeal.nD Cert.AdamWSmallRefIdeal.τ).loc Cert.AdamWSmallRefIdeal.main_arg15)) (m' ((c.tc : Thread Cert.AdamWSmallRefIdeal.nD Cert.AdamWSmallRefIdeal.τ).loc Cert.AdamWSmallRefIdeal.main_arg16)) (m' ((c.tc : Thread Cert.AdamWSmallRefIdeal.nD Cert.AdamWSmallRefIdeal.τ).loc Cert.AdamWSmallRefIdeal.main_arg17)) (m' ((c.tc : Thread Cert.AdamWSmallRefIdeal.nD Cert.AdamWSmallRefIdeal.τ).loc Cert.AdamWSmallRefIdeal.main_arg18)) = Cert.AdamWSmallIdeal.Step.weight m c := by
  rw [Cert.AdamWSmallIdeal.Step.packed1, h1, h2, h3, h4, h5, h6, h7, h8, h9, h10, h11, h12, h13, h14, h15, h16, h17, h18]

/-- From arguments that agree, the reference packs the first moments the kernel finds. -/
theorem agree2 (m : (ℓ : Loc Cert.AdamWSmallIdeal.nD Cert.AdamWSmallIdeal.τ Cert.AdamWSmallIdeal.sig) → Buf (Elt Ideal) ℓ)
    (m' : (ℓ : Loc Cert.AdamWSmallRefIdeal.nD Cert.AdamWSmallRefIdeal.τ Cert.AdamWSmallRefIdeal.sig) → Buf (Elt Ideal) ℓ)
    (c : Dev Cert.AdamWSmallIdeal.nD)
    (h19 : m' ((c.tc : Thread Cert.AdamWSmallRefIdeal.nD Cert.AdamWSmallRefIdeal.τ).loc Cert.AdamWSmallRefIdeal.main_arg19) = m ((c.tc : Thread Cert.AdamWSmallIdeal.nD Cert.AdamWSmallIdeal.τ).loc Cert.AdamWSmallIdeal.main_arg19))
    (h20 : m' ((c.tc : Thread Cert.AdamWSmallRefIdeal.nD Cert.AdamWSmallRefIdeal.τ).loc Cert.AdamWSmallRefIdeal.main_arg20) = m ((c.tc : Thread Cert.AdamWSmallIdeal.nD Cert.AdamWSmallIdeal.τ).loc Cert.AdamWSmallIdeal.main_arg20))
    (h21 : m' ((c.tc : Thread Cert.AdamWSmallRefIdeal.nD Cert.AdamWSmallRefIdeal.τ).loc Cert.AdamWSmallRefIdeal.main_arg21) = m ((c.tc : Thread Cert.AdamWSmallIdeal.nD Cert.AdamWSmallIdeal.τ).loc Cert.AdamWSmallIdeal.main_arg21))
    (h22 : m' ((c.tc : Thread Cert.AdamWSmallRefIdeal.nD Cert.AdamWSmallRefIdeal.τ).loc Cert.AdamWSmallRefIdeal.main_arg22) = m ((c.tc : Thread Cert.AdamWSmallIdeal.nD Cert.AdamWSmallIdeal.τ).loc Cert.AdamWSmallIdeal.main_arg22))
    (h23 : m' ((c.tc : Thread Cert.AdamWSmallRefIdeal.nD Cert.AdamWSmallRefIdeal.τ).loc Cert.AdamWSmallRefIdeal.main_arg23) = m ((c.tc : Thread Cert.AdamWSmallIdeal.nD Cert.AdamWSmallIdeal.τ).loc Cert.AdamWSmallIdeal.main_arg23))
    (h24 : m' ((c.tc : Thread Cert.AdamWSmallRefIdeal.nD Cert.AdamWSmallRefIdeal.τ).loc Cert.AdamWSmallRefIdeal.main_arg24) = m ((c.tc : Thread Cert.AdamWSmallIdeal.nD Cert.AdamWSmallIdeal.τ).loc Cert.AdamWSmallIdeal.main_arg24))
    (h25 : m' ((c.tc : Thread Cert.AdamWSmallRefIdeal.nD Cert.AdamWSmallRefIdeal.τ).loc Cert.AdamWSmallRefIdeal.main_arg25) = m ((c.tc : Thread Cert.AdamWSmallIdeal.nD Cert.AdamWSmallIdeal.τ).loc Cert.AdamWSmallIdeal.main_arg25))
    (h26 : m' ((c.tc : Thread Cert.AdamWSmallRefIdeal.nD Cert.AdamWSmallRefIdeal.τ).loc Cert.AdamWSmallRefIdeal.main_arg26) = m ((c.tc : Thread Cert.AdamWSmallIdeal.nD Cert.AdamWSmallIdeal.τ).loc Cert.AdamWSmallIdeal.main_arg26))
    (h27 : m' ((c.tc : Thread Cert.AdamWSmallRefIdeal.nD Cert.AdamWSmallRefIdeal.τ).loc Cert.AdamWSmallRefIdeal.main_arg27) = m ((c.tc : Thread Cert.AdamWSmallIdeal.nD Cert.AdamWSmallIdeal.τ).loc Cert.AdamWSmallIdeal.main_arg27))
    (h28 : m' ((c.tc : Thread Cert.AdamWSmallRefIdeal.nD Cert.AdamWSmallRefIdeal.τ).loc Cert.AdamWSmallRefIdeal.main_arg28) = m ((c.tc : Thread Cert.AdamWSmallIdeal.nD Cert.AdamWSmallIdeal.τ).loc Cert.AdamWSmallIdeal.main_arg28))
    (h29 : m' ((c.tc : Thread Cert.AdamWSmallRefIdeal.nD Cert.AdamWSmallRefIdeal.τ).loc Cert.AdamWSmallRefIdeal.main_arg29) = m ((c.tc : Thread Cert.AdamWSmallIdeal.nD Cert.AdamWSmallIdeal.τ).loc Cert.AdamWSmallIdeal.main_arg29))
    (h30 : m' ((c.tc : Thread Cert.AdamWSmallRefIdeal.nD Cert.AdamWSmallRefIdeal.τ).loc Cert.AdamWSmallRefIdeal.main_arg30) = m ((c.tc : Thread Cert.AdamWSmallIdeal.nD Cert.AdamWSmallIdeal.τ).loc Cert.AdamWSmallIdeal.main_arg30))
    (h31 : m' ((c.tc : Thread Cert.AdamWSmallRefIdeal.nD Cert.AdamWSmallRefIdeal.τ).loc Cert.AdamWSmallRefIdeal.main_arg31) = m ((c.tc : Thread Cert.AdamWSmallIdeal.nD Cert.AdamWSmallIdeal.τ).loc Cert.AdamWSmallIdeal.main_arg31))
    (h32 : m' ((c.tc : Thread Cert.AdamWSmallRefIdeal.nD Cert.AdamWSmallRefIdeal.τ).loc Cert.AdamWSmallRefIdeal.main_arg32) = m ((c.tc : Thread Cert.AdamWSmallIdeal.nD Cert.AdamWSmallIdeal.τ).loc Cert.AdamWSmallIdeal.main_arg32))
    (h33 : m' ((c.tc : Thread Cert.AdamWSmallRefIdeal.nD Cert.AdamWSmallRefIdeal.τ).loc Cert.AdamWSmallRefIdeal.main_arg33) = m ((c.tc : Thread Cert.AdamWSmallIdeal.nD Cert.AdamWSmallIdeal.τ).loc Cert.AdamWSmallIdeal.main_arg33))
    (h34 : m' ((c.tc : Thread Cert.AdamWSmallRefIdeal.nD Cert.AdamWSmallRefIdeal.τ).loc Cert.AdamWSmallRefIdeal.main_arg34) = m ((c.tc : Thread Cert.AdamWSmallIdeal.nD Cert.AdamWSmallIdeal.τ).loc Cert.AdamWSmallIdeal.main_arg34))
    (h35 : m' ((c.tc : Thread Cert.AdamWSmallRefIdeal.nD Cert.AdamWSmallRefIdeal.τ).loc Cert.AdamWSmallRefIdeal.main_arg35) = m ((c.tc : Thread Cert.AdamWSmallIdeal.nD Cert.AdamWSmallIdeal.τ).loc Cert.AdamWSmallIdeal.main_arg35))
    (h36 : m' ((c.tc : Thread Cert.AdamWSmallRefIdeal.nD Cert.AdamWSmallRefIdeal.τ).loc Cert.AdamWSmallRefIdeal.main_arg36) = m ((c.tc : Thread Cert.AdamWSmallIdeal.nD Cert.AdamWSmallIdeal.τ).loc Cert.AdamWSmallIdeal.main_arg36)) :
    Cert.AdamWSmallRefIdeal.Read.val_main_v43 (F := Ideal) (m' ((c.tc : Thread Cert.AdamWSmallRefIdeal.nD Cert.AdamWSmallRefIdeal.τ).loc Cert.AdamWSmallRefIdeal.main_arg19)) (m' ((c.tc : Thread Cert.AdamWSmallRefIdeal.nD Cert.AdamWSmallRefIdeal.τ).loc Cert.AdamWSmallRefIdeal.main_arg20)) (m' ((c.tc : Thread Cert.AdamWSmallRefIdeal.nD Cert.AdamWSmallRefIdeal.τ).loc Cert.AdamWSmallRefIdeal.main_arg21)) (m' ((c.tc : Thread Cert.AdamWSmallRefIdeal.nD Cert.AdamWSmallRefIdeal.τ).loc Cert.AdamWSmallRefIdeal.main_arg22)) (m' ((c.tc : Thread Cert.AdamWSmallRefIdeal.nD Cert.AdamWSmallRefIdeal.τ).loc Cert.AdamWSmallRefIdeal.main_arg23)) (m' ((c.tc : Thread Cert.AdamWSmallRefIdeal.nD Cert.AdamWSmallRefIdeal.τ).loc Cert.AdamWSmallRefIdeal.main_arg24)) (m' ((c.tc : Thread Cert.AdamWSmallRefIdeal.nD Cert.AdamWSmallRefIdeal.τ).loc Cert.AdamWSmallRefIdeal.main_arg25)) (m' ((c.tc : Thread Cert.AdamWSmallRefIdeal.nD Cert.AdamWSmallRefIdeal.τ).loc Cert.AdamWSmallRefIdeal.main_arg26)) (m' ((c.tc : Thread Cert.AdamWSmallRefIdeal.nD Cert.AdamWSmallRefIdeal.τ).loc Cert.AdamWSmallRefIdeal.main_arg27)) (m' ((c.tc : Thread Cert.AdamWSmallRefIdeal.nD Cert.AdamWSmallRefIdeal.τ).loc Cert.AdamWSmallRefIdeal.main_arg28)) (m' ((c.tc : Thread Cert.AdamWSmallRefIdeal.nD Cert.AdamWSmallRefIdeal.τ).loc Cert.AdamWSmallRefIdeal.main_arg29)) (m' ((c.tc : Thread Cert.AdamWSmallRefIdeal.nD Cert.AdamWSmallRefIdeal.τ).loc Cert.AdamWSmallRefIdeal.main_arg30)) (m' ((c.tc : Thread Cert.AdamWSmallRefIdeal.nD Cert.AdamWSmallRefIdeal.τ).loc Cert.AdamWSmallRefIdeal.main_arg31)) (m' ((c.tc : Thread Cert.AdamWSmallRefIdeal.nD Cert.AdamWSmallRefIdeal.τ).loc Cert.AdamWSmallRefIdeal.main_arg32)) (m' ((c.tc : Thread Cert.AdamWSmallRefIdeal.nD Cert.AdamWSmallRefIdeal.τ).loc Cert.AdamWSmallRefIdeal.main_arg33)) (m' ((c.tc : Thread Cert.AdamWSmallRefIdeal.nD Cert.AdamWSmallRefIdeal.τ).loc Cert.AdamWSmallRefIdeal.main_arg34)) (m' ((c.tc : Thread Cert.AdamWSmallRefIdeal.nD Cert.AdamWSmallRefIdeal.τ).loc Cert.AdamWSmallRefIdeal.main_arg35)) (m' ((c.tc : Thread Cert.AdamWSmallRefIdeal.nD Cert.AdamWSmallRefIdeal.τ).loc Cert.AdamWSmallRefIdeal.main_arg36)) = Cert.AdamWSmallIdeal.Step.first m c := by
  rw [Cert.AdamWSmallIdeal.Step.packed2, h19, h20, h21, h22, h23, h24, h25, h26, h27, h28, h29, h30, h31, h32, h33, h34, h35, h36]

/-- From arguments that agree, the reference packs the second moments the kernel finds. -/
theorem agree3 (m : (ℓ : Loc Cert.AdamWSmallIdeal.nD Cert.AdamWSmallIdeal.τ Cert.AdamWSmallIdeal.sig) → Buf (Elt Ideal) ℓ)
    (m' : (ℓ : Loc Cert.AdamWSmallRefIdeal.nD Cert.AdamWSmallRefIdeal.τ Cert.AdamWSmallRefIdeal.sig) → Buf (Elt Ideal) ℓ)
    (c : Dev Cert.AdamWSmallIdeal.nD)
    (h37 : m' ((c.tc : Thread Cert.AdamWSmallRefIdeal.nD Cert.AdamWSmallRefIdeal.τ).loc Cert.AdamWSmallRefIdeal.main_arg37) = m ((c.tc : Thread Cert.AdamWSmallIdeal.nD Cert.AdamWSmallIdeal.τ).loc Cert.AdamWSmallIdeal.main_arg37))
    (h38 : m' ((c.tc : Thread Cert.AdamWSmallRefIdeal.nD Cert.AdamWSmallRefIdeal.τ).loc Cert.AdamWSmallRefIdeal.main_arg38) = m ((c.tc : Thread Cert.AdamWSmallIdeal.nD Cert.AdamWSmallIdeal.τ).loc Cert.AdamWSmallIdeal.main_arg38))
    (h39 : m' ((c.tc : Thread Cert.AdamWSmallRefIdeal.nD Cert.AdamWSmallRefIdeal.τ).loc Cert.AdamWSmallRefIdeal.main_arg39) = m ((c.tc : Thread Cert.AdamWSmallIdeal.nD Cert.AdamWSmallIdeal.τ).loc Cert.AdamWSmallIdeal.main_arg39))
    (h40 : m' ((c.tc : Thread Cert.AdamWSmallRefIdeal.nD Cert.AdamWSmallRefIdeal.τ).loc Cert.AdamWSmallRefIdeal.main_arg40) = m ((c.tc : Thread Cert.AdamWSmallIdeal.nD Cert.AdamWSmallIdeal.τ).loc Cert.AdamWSmallIdeal.main_arg40))
    (h41 : m' ((c.tc : Thread Cert.AdamWSmallRefIdeal.nD Cert.AdamWSmallRefIdeal.τ).loc Cert.AdamWSmallRefIdeal.main_arg41) = m ((c.tc : Thread Cert.AdamWSmallIdeal.nD Cert.AdamWSmallIdeal.τ).loc Cert.AdamWSmallIdeal.main_arg41))
    (h42 : m' ((c.tc : Thread Cert.AdamWSmallRefIdeal.nD Cert.AdamWSmallRefIdeal.τ).loc Cert.AdamWSmallRefIdeal.main_arg42) = m ((c.tc : Thread Cert.AdamWSmallIdeal.nD Cert.AdamWSmallIdeal.τ).loc Cert.AdamWSmallIdeal.main_arg42))
    (h43 : m' ((c.tc : Thread Cert.AdamWSmallRefIdeal.nD Cert.AdamWSmallRefIdeal.τ).loc Cert.AdamWSmallRefIdeal.main_arg43) = m ((c.tc : Thread Cert.AdamWSmallIdeal.nD Cert.AdamWSmallIdeal.τ).loc Cert.AdamWSmallIdeal.main_arg43))
    (h44 : m' ((c.tc : Thread Cert.AdamWSmallRefIdeal.nD Cert.AdamWSmallRefIdeal.τ).loc Cert.AdamWSmallRefIdeal.main_arg44) = m ((c.tc : Thread Cert.AdamWSmallIdeal.nD Cert.AdamWSmallIdeal.τ).loc Cert.AdamWSmallIdeal.main_arg44))
    (h45 : m' ((c.tc : Thread Cert.AdamWSmallRefIdeal.nD Cert.AdamWSmallRefIdeal.τ).loc Cert.AdamWSmallRefIdeal.main_arg45) = m ((c.tc : Thread Cert.AdamWSmallIdeal.nD Cert.AdamWSmallIdeal.τ).loc Cert.AdamWSmallIdeal.main_arg45))
    (h46 : m' ((c.tc : Thread Cert.AdamWSmallRefIdeal.nD Cert.AdamWSmallRefIdeal.τ).loc Cert.AdamWSmallRefIdeal.main_arg46) = m ((c.tc : Thread Cert.AdamWSmallIdeal.nD Cert.AdamWSmallIdeal.τ).loc Cert.AdamWSmallIdeal.main_arg46))
    (h47 : m' ((c.tc : Thread Cert.AdamWSmallRefIdeal.nD Cert.AdamWSmallRefIdeal.τ).loc Cert.AdamWSmallRefIdeal.main_arg47) = m ((c.tc : Thread Cert.AdamWSmallIdeal.nD Cert.AdamWSmallIdeal.τ).loc Cert.AdamWSmallIdeal.main_arg47))
    (h48 : m' ((c.tc : Thread Cert.AdamWSmallRefIdeal.nD Cert.AdamWSmallRefIdeal.τ).loc Cert.AdamWSmallRefIdeal.main_arg48) = m ((c.tc : Thread Cert.AdamWSmallIdeal.nD Cert.AdamWSmallIdeal.τ).loc Cert.AdamWSmallIdeal.main_arg48))
    (h49 : m' ((c.tc : Thread Cert.AdamWSmallRefIdeal.nD Cert.AdamWSmallRefIdeal.τ).loc Cert.AdamWSmallRefIdeal.main_arg49) = m ((c.tc : Thread Cert.AdamWSmallIdeal.nD Cert.AdamWSmallIdeal.τ).loc Cert.AdamWSmallIdeal.main_arg49))
    (h50 : m' ((c.tc : Thread Cert.AdamWSmallRefIdeal.nD Cert.AdamWSmallRefIdeal.τ).loc Cert.AdamWSmallRefIdeal.main_arg50) = m ((c.tc : Thread Cert.AdamWSmallIdeal.nD Cert.AdamWSmallIdeal.τ).loc Cert.AdamWSmallIdeal.main_arg50))
    (h51 : m' ((c.tc : Thread Cert.AdamWSmallRefIdeal.nD Cert.AdamWSmallRefIdeal.τ).loc Cert.AdamWSmallRefIdeal.main_arg51) = m ((c.tc : Thread Cert.AdamWSmallIdeal.nD Cert.AdamWSmallIdeal.τ).loc Cert.AdamWSmallIdeal.main_arg51))
    (h52 : m' ((c.tc : Thread Cert.AdamWSmallRefIdeal.nD Cert.AdamWSmallRefIdeal.τ).loc Cert.AdamWSmallRefIdeal.main_arg52) = m ((c.tc : Thread Cert.AdamWSmallIdeal.nD Cert.AdamWSmallIdeal.τ).loc Cert.AdamWSmallIdeal.main_arg52))
    (h53 : m' ((c.tc : Thread Cert.AdamWSmallRefIdeal.nD Cert.AdamWSmallRefIdeal.τ).loc Cert.AdamWSmallRefIdeal.main_arg53) = m ((c.tc : Thread Cert.AdamWSmallIdeal.nD Cert.AdamWSmallIdeal.τ).loc Cert.AdamWSmallIdeal.main_arg53))
    (h54 : m' ((c.tc : Thread Cert.AdamWSmallRefIdeal.nD Cert.AdamWSmallRefIdeal.τ).loc Cert.AdamWSmallRefIdeal.main_arg54) = m ((c.tc : Thread Cert.AdamWSmallIdeal.nD Cert.AdamWSmallIdeal.τ).loc Cert.AdamWSmallIdeal.main_arg54)) :
    Cert.AdamWSmallRefIdeal.Read.val_main_v65 (F := Ideal) (m' ((c.tc : Thread Cert.AdamWSmallRefIdeal.nD Cert.AdamWSmallRefIdeal.τ).loc Cert.AdamWSmallRefIdeal.main_arg37)) (m' ((c.tc : Thread Cert.AdamWSmallRefIdeal.nD Cert.AdamWSmallRefIdeal.τ).loc Cert.AdamWSmallRefIdeal.main_arg38)) (m' ((c.tc : Thread Cert.AdamWSmallRefIdeal.nD Cert.AdamWSmallRefIdeal.τ).loc Cert.AdamWSmallRefIdeal.main_arg39)) (m' ((c.tc : Thread Cert.AdamWSmallRefIdeal.nD Cert.AdamWSmallRefIdeal.τ).loc Cert.AdamWSmallRefIdeal.main_arg40)) (m' ((c.tc : Thread Cert.AdamWSmallRefIdeal.nD Cert.AdamWSmallRefIdeal.τ).loc Cert.AdamWSmallRefIdeal.main_arg41)) (m' ((c.tc : Thread Cert.AdamWSmallRefIdeal.nD Cert.AdamWSmallRefIdeal.τ).loc Cert.AdamWSmallRefIdeal.main_arg42)) (m' ((c.tc : Thread Cert.AdamWSmallRefIdeal.nD Cert.AdamWSmallRefIdeal.τ).loc Cert.AdamWSmallRefIdeal.main_arg43)) (m' ((c.tc : Thread Cert.AdamWSmallRefIdeal.nD Cert.AdamWSmallRefIdeal.τ).loc Cert.AdamWSmallRefIdeal.main_arg44)) (m' ((c.tc : Thread Cert.AdamWSmallRefIdeal.nD Cert.AdamWSmallRefIdeal.τ).loc Cert.AdamWSmallRefIdeal.main_arg45)) (m' ((c.tc : Thread Cert.AdamWSmallRefIdeal.nD Cert.AdamWSmallRefIdeal.τ).loc Cert.AdamWSmallRefIdeal.main_arg46)) (m' ((c.tc : Thread Cert.AdamWSmallRefIdeal.nD Cert.AdamWSmallRefIdeal.τ).loc Cert.AdamWSmallRefIdeal.main_arg47)) (m' ((c.tc : Thread Cert.AdamWSmallRefIdeal.nD Cert.AdamWSmallRefIdeal.τ).loc Cert.AdamWSmallRefIdeal.main_arg48)) (m' ((c.tc : Thread Cert.AdamWSmallRefIdeal.nD Cert.AdamWSmallRefIdeal.τ).loc Cert.AdamWSmallRefIdeal.main_arg49)) (m' ((c.tc : Thread Cert.AdamWSmallRefIdeal.nD Cert.AdamWSmallRefIdeal.τ).loc Cert.AdamWSmallRefIdeal.main_arg50)) (m' ((c.tc : Thread Cert.AdamWSmallRefIdeal.nD Cert.AdamWSmallRefIdeal.τ).loc Cert.AdamWSmallRefIdeal.main_arg51)) (m' ((c.tc : Thread Cert.AdamWSmallRefIdeal.nD Cert.AdamWSmallRefIdeal.τ).loc Cert.AdamWSmallRefIdeal.main_arg52)) (m' ((c.tc : Thread Cert.AdamWSmallRefIdeal.nD Cert.AdamWSmallRefIdeal.τ).loc Cert.AdamWSmallRefIdeal.main_arg53)) (m' ((c.tc : Thread Cert.AdamWSmallRefIdeal.nD Cert.AdamWSmallRefIdeal.τ).loc Cert.AdamWSmallRefIdeal.main_arg54)) = Cert.AdamWSmallIdeal.Step.second m c := by
  rw [Cert.AdamWSmallIdeal.Step.packed3, h37, h38, h39, h40, h41, h42, h43, h44, h45, h46, h47, h48, h49, h50, h51, h52, h53, h54]

/-- From memories that agree on the arguments, both programs end with the same results, and the arguments unchanged. -/
theorem algebraic : Cert.algebraic_AdamWSmallIdeal_AdamWSmallRefIdeal := by
  intro m g m' g' _ hag
  refine ⟨fun c => Cert.AdamWSmallIdeal.Step.result4 m c, fun c => Cert.AdamWSmallIdeal.Step.result5 m c,
    fun c => Cert.AdamWSmallIdeal.Step.result6 m c, fun c => Cert.AdamWSmallIdeal.Step.result7 m c,
    (θ_run Cert.AdamWSmallIdeal.defs _ _).mono (fun r h c => ⟨(h c).1.trans (Cert.AdamWSmallIdeal.Step.final4 m c),
        (h c).2.1.trans (Cert.AdamWSmallIdeal.Step.final5 m c), (h c).2.2.1.trans (Cert.AdamWSmallIdeal.Step.final6 m c),
        (h c).2.2.2.1.trans (Cert.AdamWSmallIdeal.Step.final7 m c), (h c).2.2.2.2⟩)
      (Cert.AdamWSmallIdeal.Value.run_blocks m g), ?_⟩
  refine (θ_run Cert.AdamWSmallRefIdeal.defs _ _).mono (fun r h c => ⟨(h c).1.trans ?_, (h c).2.1.trans ?_, (h c).2.2.1.trans ?_,
      (h c).2.2.2.1.trans ?_, (h c).2.2.2.2⟩)
    (Cert.AdamWSmallRefIdeal.Value.run m' g')
  · obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54⟩ := hag c
    rw [Cert.AdamWSmallRefIdeal.Read.val_main_v66_eq]
    funext i
    refine (Cert.AdamWSmallRefIdeal.Step.ref4 _ i).trans ?_
    rw [h0]
    rfl
  · obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54⟩ := hag c
    rw [Cert.AdamWSmallRefIdeal.Read.val_main_v90_eq]
    funext i
    refine (Cert.AdamWSmallRefIdeal.Step.ref5 _ _ _ _ _ _ _ _ _ _ _ _ _ _ _ _ _ _ _ _ _ _ _ _ _ _ _ _ _ _ _ _ _ _ _ _ _ _ _ _ _ _ _ _ _ _ _ _ _ _ _ _ _ _ _ i).trans ?_
    rw [agree1 m m' c h1 h2 h3 h4 h5 h6 h7 h8 h9 h10 h11 h12 h13 h14 h15 h16 h17 h18, agree2 m m' c h19 h20 h21 h22 h23 h24 h25 h26 h27 h28 h29 h30 h31 h32 h33 h34 h35 h36, agree3 m m' c h37 h38 h39 h40 h41 h42 h43 h44 h45 h46 h47 h48 h49 h50 h51 h52 h53 h54, h0]
    rfl
  · obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54⟩ := hag c
    rw [Cert.AdamWSmallRefIdeal.Read.val_main_v71_eq]
    funext i
    refine (Cert.AdamWSmallRefIdeal.Step.ref6 _ _ _ _ _ _ _ _ _ _ _ _ _ _ _ _ _ _ _ i).trans ?_
    rw [agree2 m m' c h19 h20 h21 h22 h23 h24 h25 h26 h27 h28 h29 h30 h31 h32 h33 h34 h35 h36, h0]
    rfl
  · obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, h40, h41, h42, h43, h44, h45, h46, h47, h48, h49, h50, h51, h52, h53, h54⟩ := hag c
    rw [Cert.AdamWSmallRefIdeal.Read.val_main_v77_eq]
    funext i
    refine (Cert.AdamWSmallRefIdeal.Step.ref7 _ _ _ _ _ _ _ _ _ _ _ _ _ _ _ _ _ _ _ i).trans ?_
    rw [agree3 m m' c h37 h38 h39 h40 h41 h42 h43 h44 h45 h46 h47 h48 h49 h50 h51 h52 h53 h54, h0]
    rfl

/-- The reference runs to its end, leaves its arguments unchanged and every counter at zero. -/
theorem frame_reference : Cert.quiescent_AdamWSmallRefIdeal := fun m ρ _ =>
  (θ_run Cert.AdamWSmallRefIdeal.defs _ _).mono (fun r h => ⟨fun c => (h c).2.2.2.2, sem_eq_zero_of_no_sems (by decide) r.2⟩)
    (Cert.AdamWSmallRefIdeal.Value.run (F := Ideal) m ρ)

end Cert.Proof.AdamWSmall
-- ==== Proof.NormFwd.lean ====
/- The forward pass of the norm of the activations: each row is divided by the root of its mean square and multiplied by the gain.
   The kernel works on 4 blocks of 1024 rows; its result is the reference's, entry by entry. -/
module

public import proofs.«01_k».proof.Defs
public import proofs.«01_k».proof.Proof.Norm
public import proofs.«01_k».proof.Proof.Gen.NormFwdIdeal.Value
public import proofs.«01_k».proof.Proof.Gen.NormFwdRefIdeal.Read

@[expose] public section

noncomputable section

namespace Cert.NormFwdIdeal.Rows

open Cert.NormFwdIdeal Cert.NormFwdIdeal.Gen Cert.NormFwdIdeal.Value Cert.Blocked Cert.Norm
open Idealize.ShloMosaic Idealize.ShloMosaic.TcCoe Idealize.SL.Sem
open Finset

/-- An entry of the norm of a block's rows. -/
theorem pay_at (x : FVec Ideal S1024x2048 .f32) (g : FVec Ideal S1x2048 .f32) (a : Fin 1024) (b : Fin 2048) :
    k0_pay1 (F := Ideal) x g (ix2 a b) = fwd (rowOf x a) (rowOf g 0) b := by
  pointwise [k0_pay1]
  rw [← rowOf_eq x a, show rowOf g 0 = fun k => g (ix2 0 k) from (rowOf_eq (A := 1) g 0).symm]
  rfl

/-- What a point leaves in the result's block. -/
theorem out_eq (x0 : Vec Ideal S1024x2048 .f32) (x1 : Vec Ideal S1x2048 .f32) : out0_2 x0 x1 = k0_pay1 (F := Ideal) x0 x1 := by
  frame_out

variable (m : (ℓ : Loc nD τ sig) → Buf (Elt Ideal) ℓ)

/-- The rows as launched. -/
abbrev argX (c : Dev nD) : S4096x2048.Idx → EReal := m ((c : Thread nD τ).loc main_arg0)
/-- The gain as launched. -/
abbrev argG (c : Dev nD) : S1x2048.Idx → EReal := m ((c : Thread nD τ).loc main_arg1)

/-- The blocks that grid point `t` reads and writes: its own rows, and the whole gain. -/
theorem idx : ∀ t : Fin cfg0.N, (win0_0.index t 0 = t.val ∧ win0_0.index t 1 = 0) ∧ (win0_1.index t 0 = 0 ∧ win0_1.index t 1 = 0)
      ∧ (win0_2.index t 0 = t.val ∧ win0_2.index t 1 = 0) :=
  (by decide +kernel : ∀ t : Fin grid0.N, _)

/-- The block of rows that a point reads. -/
theorem blk0 (c : Dev nD) (t : Fin cfg0.N) (a : Fin 1024) : rowOf (A := 1024) (iblk m c 0 t) a = rowOf (argX m c) (t.val * 1024 + a) := by
  refine rowOf_block (A := 1024) _ (argX m c) (t.val * 1024) (fun y => ?_) a
  unfold iblk
  rw [View.read_apply]
  show (V m c main_arg0 : S4096x2048.Idx → EReal) _ = _
  rw [V_main_arg0]
  obtain ⟨e0, e1⟩ := (idx t).1
  refine eq_at2 _ _ _ _ ?_ ?_ <;> blk_simp <;> omega

/-- The gain that a point reads. -/
theorem blk1 (c : Dev nD) (t : Fin cfg0.N) (a : Fin 1) : rowOf (A := 1) (iblk m c 1 t) a = rowOf (argG m c) 0 := by
  refine (rowOf_block (A := 1) _ (argG m c) 0 (fun y => ?_) a).trans (by rw [zero_add, show (a : ℕ) = 0 by omega])
  unfold iblk
  rw [View.read_apply]
  show (V m c main_arg1 : S1x2048.Idx → EReal) _ = _
  rw [V_main_arg1]
  obtain ⟨e0, e1⟩ := (idx t).2.1
  refine eq_at2 _ _ _ _ ?_ ?_ <;> blk_simp <;> omega

/-- The block that point `t` writes back, entry by entry. -/
theorem point_at (c : Dev nD) (t : Fin cfg0.N) (a : Fin 1024) (b : Fin 2048) :
    out0_2 (iblk m c 0 t) (iblk m c 1 t) (ix2 a b) = fwd (rowOf (argX m c) (t.val * 1024 + a)) (rowOf (argG m c) 0) b := by
  rw [out_eq]
  refine (pay_at _ _ a b).trans ?_
  rw [blk0, show rowOf (A := 1) (iblk m c 1 t) 0 = rowOf (argG m c) 0 from blk1 m c t 0]

/-- The normed rows. -/
def result (c : Dev nD) : S4096x2048.Idx → EReal := fun i => fwd (rowOf (argX m c) (i 0).val) (rowOf (argG m c) 0) (i 1)

/-- The result at given coordinates. -/
theorem result_at (c : Dev nD) (i : S4096x2048.Idx) (r : ℕ) (b : Fin 2048) (hr : (i 0).val = r) (hb : (i 1).val = b.val) :
    fwd (rowOf (argX m c) r) (rowOf (argG m c) 0) b = result m c i := by
  subst hr
  obtain rfl : b = i 1 := Fin.ext hb.symm
  rfl

/-- What the call leaves in its result. -/
theorem final (c : Dev nD) : (dats m 0 c).arrAt 2 cfg0.N = result m c := by
  refine (dats m 0 c).arrAt_eq_of_covers 2 (result m c) (by decide +kernel) fun t hf y => ?_
  obtain ⟨e0, e1⟩ := (idx t).2.2
  have h0 : (y 0).val < 1024 := (y 0).isLt
  have h1 : (y 1).val < 2048 := (y 1).isLt
  blk_simp
  rw [after0_2]
  refine (congrArg (out0_2 _ _) (eq_ix2 y)).trans ((point_at m c t (y 0) (y 1)).trans ?_)
  refine result_at m c _ _ _ ?_ ?_ <;> blk_simp <;> omega

end Cert.NormFwdIdeal.Rows

namespace Cert.NormFwdRefIdeal.Rows

open Cert.NormFwdRefIdeal Cert.NormFwdRefIdeal.Read Cert.Blocked Cert.Norm
open Idealize.ShloMosaic Idealize.ShloMosaic.TcCoe Idealize.SL.Sem
open Finset

variable (x0 : S4096x2048.Idx → EReal) (x1 : S1x2048.Idx → EReal)

/-- The mean squares of the rows. -/
theorem ms_at (i : S4096x1.Idx) : val_main_v7 (F := Ideal) x0 i = ms (rowOf x0 (i 0).val) := by
  rw [val_main_v7_apply, val_main_v5_apply, val_main_v3_apply, val_main_v2_apply, val_main_v4_apply, val_main_cst_0_apply, val_main_v6_apply,
    val_main_cst_1_apply, val_main_cst_apply]
  refine congrArg (fun s => Ideal.div s width + _)
    ((congrArg (· + _) Ideal.ofBits_zero_f32).trans ((zero_add _).trans (sum_congr rfl fun k _ => ?_)))
  rw [val_main_v1_apply]
  exact congrArg₂ (· * ·) (eq_at2 x0 _ _ _ rfl rfl) (eq_at2 x0 _ _ _ rfl rfl)

/-- The reference's norm, entry by entry. -/
theorem fwd_at (i : S4096x2048.Idx) : val_main_v14 (F := Ideal) x0 x1 i = fwd (rowOf x0 (i 0).val) (rowOf x1 0) (i 1) := by
  have h1 : (i 1).val < 2048 := (i 1).isLt
  rw [val_main_v14_apply, val_main_v13_apply, val_main_v10_apply, val_main_v9_apply, val_main_v8_apply, ms_at, val_main_v12_apply, val_main_v11_apply,
    val_main_v0_apply]
  refine congrArg₂ (· * ·) (congrArg (· * _) (eq_at2 x0 _ _ _ rfl rfl)) (eq_at2 x1 _ _ _ rfl ?_)
  show (i 1).val % 2048 = (i 1).val
  omega

end Cert.NormFwdRefIdeal.Rows

namespace Cert.Proof.NormFwd

open Cert.NormFwdIdeal.Rows
open Idealize.ShloMosaic Idealize.ShloMosaic.TcCoe Idealize.SL.Sem

/-- From memories that agree on the arguments both programs end with the same result, and the arguments unchanged. -/
theorem algebraic : Cert.algebraic_NormFwdIdeal_NormFwdRefIdeal := by
  intro m ρ m' ρ' hp hag
  refine ⟨fun c => result m c,
    (θ_run Cert.NormFwdIdeal.defs _ _).mono (fun r h c => ⟨(h c).1.trans (final m c), (h c).2⟩) (Cert.NormFwdIdeal.Value.run_blocks m ρ), ?_⟩
  refine (θ_run Cert.NormFwdRefIdeal.defs _ _).mono (fun r h c => ⟨(h c).1.trans ?_, (h c).2⟩) (Cert.NormFwdRefIdeal.Value.run m' ρ')
  rw [Cert.NormFwdRefIdeal.Read.val_main_v14_eq]
  funext i
  refine (Cert.NormFwdRefIdeal.Rows.fwd_at _ _ i).trans ?_
  rw [(hag c).1, (hag c).2]
  rfl

/-- The reference runs to its end, leaves its arguments unchanged and every counter at zero. -/
theorem frame_reference : Cert.quiescent_NormFwdRefIdeal := fun m ρ _ =>
  (θ_run Cert.NormFwdRefIdeal.defs _ _).mono (fun r h => ⟨fun c => (h c).2, sem_eq_zero_of_no_sems (by decide) r.2⟩)
    (Cert.NormFwdRefIdeal.Value.run (F := Ideal) m ρ)

end Cert.Proof.NormFwd
-- ==== Proof.NormMemFwd.lean ====
/- The forward pass of the norm of the memory: each row is divided by the root of its mean square and multiplied by the gain.
   The kernel works on one block of 256 rows; its result is the reference's, entry by entry. -/
module

public import proofs.«01_k».proof.Defs
public import proofs.«01_k».proof.Proof.Norm
public import proofs.«01_k».proof.Proof.Gen.NormMemFwdIdeal.Value
public import proofs.«01_k».proof.Proof.Gen.NormMemFwdRefIdeal.Read

@[expose] public section

noncomputable section

namespace Cert.NormMemFwdIdeal.Rows

open Cert.NormMemFwdIdeal Cert.NormMemFwdIdeal.Gen Cert.NormMemFwdIdeal.Value Cert.Blocked Cert.Norm
open Idealize.ShloMosaic Idealize.ShloMosaic.TcCoe Idealize.SL.Sem
open Finset

/-- An entry of the norm of a block's rows. -/
theorem pay_at (x : FVec Ideal S256x2048 .f32) (g : FVec Ideal S1x2048 .f32) (a : Fin 256) (b : Fin 2048) :
    k0_pay1 (F := Ideal) x g (ix2 a b) = fwd (rowOf x a) (rowOf g 0) b := by
  pointwise [k0_pay1]
  rw [← rowOf_eq x a, show rowOf g 0 = fun k => g (ix2 0 k) from (rowOf_eq (A := 1) g 0).symm]
  rfl

/-- What a point leaves in the result's block. -/
theorem out_eq (x0 : Vec Ideal S256x2048 .f32) (x1 : Vec Ideal S1x2048 .f32) : out0_2 x0 x1 = k0_pay1 (F := Ideal) x0 x1 := by
  frame_out

variable (m : (ℓ : Loc nD τ sig) → Buf (Elt Ideal) ℓ)

/-- The rows as launched. -/
abbrev argX (c : Dev nD) : S256x2048.Idx → EReal := m ((c : Thread nD τ).loc main_arg0)
/-- The gain as launched. -/
abbrev argG (c : Dev nD) : S1x2048.Idx → EReal := m ((c : Thread nD τ).loc main_arg1)

/-- The blocks that grid point `t` reads and writes: its own rows, and the whole gain. -/
theorem idx : ∀ t : Fin cfg0.N, (win0_0.index t 0 = t.val ∧ win0_0.index t 1 = 0) ∧ (win0_1.index t 0 = 0 ∧ win0_1.index t 1 = 0)
      ∧ (win0_2.index t 0 = t.val ∧ win0_2.index t 1 = 0) :=
  (by decide +kernel : ∀ t : Fin grid0.N, _)

/-- There is one grid point. -/
theorem first : ∀ t : Fin cfg0.N, t.val = 0 :=
  (by decide +kernel : ∀ t : Fin grid0.N, t.val = 0)

/-- The block of rows that a point reads. -/
theorem blk0 (c : Dev nD) (t : Fin cfg0.N) (a : Fin 256) : rowOf (A := 256) (iblk m c 0 t) a = rowOf (argX m c) (t.val * 256 + a) := by
  refine rowOf_block (A := 256) _ (argX m c) (t.val * 256) (fun y => ?_) a
  unfold iblk
  rw [View.read_apply]
  show (V m c main_arg0 : S256x2048.Idx → EReal) _ = _
  rw [V_main_arg0]
  obtain ⟨e0, e1⟩ := (idx t).1
  have ht := first t
  refine eq_at2 _ _ _ _ ?_ ?_ <;> blk_simp <;> omega

/-- The gain that a point reads. -/
theorem blk1 (c : Dev nD) (t : Fin cfg0.N) (a : Fin 1) : rowOf (A := 1) (iblk m c 1 t) a = rowOf (argG m c) 0 := by
  refine (rowOf_block (A := 1) _ (argG m c) 0 (fun y => ?_) a).trans (by rw [zero_add, show (a : ℕ) = 0 by omega])
  unfold iblk
  rw [View.read_apply]
  show (V m c main_arg1 : S1x2048.Idx → EReal) _ = _
  rw [V_main_arg1]
  obtain ⟨e0, e1⟩ := (idx t).2.1
  refine eq_at2 _ _ _ _ ?_ ?_ <;> blk_simp <;> omega

/-- The block that point `t` writes back, entry by entry. -/
theorem point_at (c : Dev nD) (t : Fin cfg0.N) (a : Fin 256) (b : Fin 2048) :
    out0_2 (iblk m c 0 t) (iblk m c 1 t) (ix2 a b) = fwd (rowOf (argX m c) (t.val * 256 + a)) (rowOf (argG m c) 0) b := by
  rw [out_eq]
  refine (pay_at _ _ a b).trans ?_
  rw [blk0, show rowOf (A := 1) (iblk m c 1 t) 0 = rowOf (argG m c) 0 from blk1 m c t 0]

/-- The normed rows. -/
def result (c : Dev nD) : S256x2048.Idx → EReal := fun i => fwd (rowOf (argX m c) (i 0).val) (rowOf (argG m c) 0) (i 1)

/-- The result at given coordinates. -/
theorem result_at (c : Dev nD) (i : S256x2048.Idx) (r : ℕ) (b : Fin 2048) (hr : (i 0).val = r) (hb : (i 1).val = b.val) :
    fwd (rowOf (argX m c) r) (rowOf (argG m c) 0) b = result m c i := by
  subst hr
  obtain rfl : b = i 1 := Fin.ext hb.symm
  rfl

/-- What the call leaves in its result. -/
theorem final (c : Dev nD) : (dats m 0 c).arrAt 2 cfg0.N = result m c := by
  refine (dats m 0 c).arrAt_eq_of_covers 2 (result m c) (by decide +kernel) fun t hf y => ?_
  obtain ⟨e0, e1⟩ := (idx t).2.2
  have ht := first t
  have h0 : (y 0).val < 256 := (y 0).isLt
  have h1 : (y 1).val < 2048 := (y 1).isLt
  blk_simp
  rw [after0_2]
  refine (congrArg (out0_2 _ _) (eq_ix2 y)).trans ((point_at m c t (y 0) (y 1)).trans ?_)
  refine result_at m c _ _ _ ?_ ?_ <;> blk_simp <;> omega

end Cert.NormMemFwdIdeal.Rows

namespace Cert.NormMemFwdRefIdeal.Rows

open Cert.NormMemFwdRefIdeal Cert.NormMemFwdRefIdeal.Read Cert.Blocked Cert.Norm
open Idealize.ShloMosaic Idealize.ShloMosaic.TcCoe Idealize.SL.Sem
open Finset

variable (x0 : S256x2048.Idx → EReal) (x1 : S1x2048.Idx → EReal)

/-- The mean squares of the rows. -/
theorem ms_at (i : S256x1.Idx) : val_main_v7 (F := Ideal) x0 i = ms (rowOf x0 (i 0).val) := by
  rw [val_main_v7_apply, val_main_v5_apply, val_main_v3_apply, val_main_v2_apply, val_main_v4_apply, val_main_cst_0_apply, val_main_v6_apply,
    val_main_cst_1_apply, val_main_cst_apply]
  refine congrArg (fun s => Ideal.div s width + _)
    ((congrArg (· + _) Ideal.ofBits_zero_f32).trans ((zero_add _).trans (sum_congr rfl fun k _ => ?_)))
  rw [val_main_v1_apply]
  exact congrArg₂ (· * ·) (eq_at2 x0 _ _ _ rfl rfl) (eq_at2 x0 _ _ _ rfl rfl)

/-- The reference's norm, entry by entry. -/
theorem fwd_at (i : S256x2048.Idx) : val_main_v14 (F := Ideal) x0 x1 i = fwd (rowOf x0 (i 0).val) (rowOf x1 0) (i 1) := by
  have h1 : (i 1).val < 2048 := (i 1).isLt
  rw [val_main_v14_apply, val_main_v13_apply, val_main_v10_apply, val_main_v9_apply, val_main_v8_apply, ms_at, val_main_v12_apply, val_main_v11_apply,
    val_main_v0_apply]
  refine congrArg₂ (· * ·) (congrArg (· * _) (eq_at2 x0 _ _ _ rfl rfl)) (eq_at2 x1 _ _ _ rfl ?_)
  show (i 1).val % 2048 = (i 1).val
  omega

end Cert.NormMemFwdRefIdeal.Rows

namespace Cert.Proof.NormMemFwd

open Cert.NormMemFwdIdeal.Rows
open Idealize.ShloMosaic Idealize.ShloMosaic.TcCoe Idealize.SL.Sem

/-- From memories that agree on the arguments both programs end with the same result, and the arguments unchanged. -/
theorem algebraic : Cert.algebraic_NormMemFwdIdeal_NormMemFwdRefIdeal := by
  intro m ρ m' ρ' hp hag
  refine ⟨fun c => result m c,
    (θ_run Cert.NormMemFwdIdeal.defs _ _).mono (fun r h c => ⟨(h c).1.trans (final m c), (h c).2⟩) (Cert.NormMemFwdIdeal.Value.run_blocks m ρ), ?_⟩
  refine (θ_run Cert.NormMemFwdRefIdeal.defs _ _).mono (fun r h c => ⟨(h c).1.trans ?_, (h c).2⟩) (Cert.NormMemFwdRefIdeal.Value.run m' ρ')
  rw [Cert.NormMemFwdRefIdeal.Read.val_main_v14_eq]
  funext i
  refine (Cert.NormMemFwdRefIdeal.Rows.fwd_at _ _ i).trans ?_
  rw [(hag c).1, (hag c).2]
  rfl

/-- The reference runs to its end, leaves its arguments unchanged and every counter at zero. -/
theorem frame_reference : Cert.quiescent_NormMemFwdRefIdeal := fun m ρ _ =>
  (θ_run Cert.NormMemFwdRefIdeal.defs _ _).mono (fun r h => ⟨fun c => (h c).2, sem_eq_zero_of_no_sems (by decide) r.2⟩)
    (Cert.NormMemFwdRefIdeal.Value.run (F := Ideal) m ρ)

end Cert.Proof.NormMemFwd
-- ==== Proof.AttnFwd.lean ====
/- The forward pass of the memory cross-attention: four heads of scaled dot-product attention over 256 memory rows. The kernel
   works on 8 blocks of 512 query rows; its result is the reference's, entry by entry. -/
module

public import proofs.«01_k».proof.Defs
public import proofs.«01_k».proof.Proof.AttnBlocks
public import proofs.«01_k».proof.Proof.Gen.AttnFwdIdeal.Value
public import proofs.«01_k».proof.Proof.Gen.AttnFwdRefIdeal.Read

@[expose] public section

noncomputable section

namespace Cert.AttnFwdIdeal.Attention

open Cert.AttnFwdIdeal Cert.AttnFwdIdeal.Gen Cert.AttnFwdIdeal.Value Cert.Blocked
open Cert.KernelIdeal.Attention (score scoreH scoreH_row softV softV_at cutK cutK_at dqH dqH_at row at2_block)
open Idealize.ShloMosaic Idealize.ShloMosaic.TcCoe Idealize.SL.Sem
open Finset

/-- An entry of the attention: row `r` of head `h`, column `d`. -/
def attend (q : (⟨2, ![4096, 2048]⟩ : Shape).Idx → EReal) (k v : (⟨2, ![256, 2048]⟩ : Shape).Idx → EReal) (h r d : ℕ) : EReal :=
  ∑ j : Fin 256, Softmax.soft (score q k h r) j * at2 v j (h * 512 + d)

/-- What head `h` gives a block of queries: the softmax of its scores against its values. -/
def headO (x0 : FVec Ideal S512x2048 .bf16) (x1 x2 : FVec Ideal S256x2048 .f32) (h : Fin 4) : FVec Ideal S512x512 .f32 :=
  dqH (truncf .bf16 (softV (scoreH x0 x1 h)) bitsLt_bf16_f32) (cutK x2 h)

/-- The four heads side by side. -/
def joinO (x0 x1 x2 x3 : FVec Ideal S512x512 .f32) : FVec Ideal S512x2048 .bf16 :=
  truncf .bf16 (concatenate S512x2048 1 [⟨S512x512, x0⟩, ⟨S512x512, x1⟩, ⟨S512x512, x2⟩, ⟨S512x512, x3⟩]
    concatenates_S512x512_S512x512_S512x512_S512x512_S512x2048_d1) bitsLt_bf16_f32

/-- Column `d` of head `h` is column `h * 512 + d` of the four side by side. -/
theorem joinO_at (x0 x1 x2 x3 : FVec Ideal S512x512 .f32) (a : Fin 512) (h : Fin 4) (d : Fin 512) (b : Fin 2048)
    (hb : (b : ℕ) = h * 512 + d) : joinO x0 x1 x2 x3 (ix2 a b) = (match h with | 0 => x0 | 1 => x1 | 2 => x2 | 3 => x3) (ix2 a d) := by
  obtain ⟨b, hb'⟩ := b
  obtain ⟨d, hd⟩ := d
  subst hb
  pointwise [joinO]
  fin_cases h <;> dsimp only at hb' ⊢ <;> (repeat' split) <;> first
    | (exfalso; omega)
    | exact congrArg (fun x => x0 (ix2 a x)) (Fin.ext (by (try dsimp only) <;> omega))
    | exact congrArg (fun x => x1 (ix2 a x)) (Fin.ext (by (try dsimp only) <;> omega))
    | exact congrArg (fun x => x2 (ix2 a x)) (Fin.ext (by (try dsimp only) <;> omega))
    | exact congrArg (fun x => x3 (ix2 a x)) (Fin.ext (by (try dsimp only) <;> omega))

/-- What a point leaves in the result's block. -/
theorem out_eq (x0 : Vec Ideal S512x2048 .bf16) (x1 x2 : Vec Ideal S256x2048 .f32) :
    out0_3 x0 x1 x2 = joinO (headO x0 x1 x2 0) (headO x0 x1 x2 1) (headO x0 x1 x2 2) (headO x0 x1 x2 3) := by
  frame_out
  rfl

/-- The block that a point leaves, entry by entry. -/
theorem out_at (q : (⟨2, ![4096, 2048]⟩ : Shape).Idx → EReal) (k v : (⟨2, ![256, 2048]⟩ : Shape).Idx → EReal) (x0 : FVec Ideal S512x2048 .bf16)
    (x1 x2 : FVec Ideal S256x2048 .f32) (R : ℕ) (h0 : ∀ (a : Fin 512) (b : ℕ), at2 x0 a b = at2 q (R + a) b)
    (h1 : ∀ (a : Fin 256) (b : ℕ), at2 x1 a b = at2 k a b) (h2 : ∀ (a : Fin 256) (b : ℕ), at2 x2 a b = at2 v a b)
    (a : Fin 512) (b : Fin 2048) : out0_3 (F := Ideal) x0 x1 x2 (ix2 a b) = attend q k v (b / 512) (R + a) (b % 512) := by
  have hb : b.val < 2048 := b.isLt
  have key : ∀ (h : Fin 4) (d : Fin 512), headO x0 x1 x2 h (ix2 a d) = attend q k v h (R + a) d := by
    intro h d
    refine (dqH_at _ _ a d).trans (sum_congr rfl fun j _ => congrArg₂ (· * ·) ?_ ?_)
    · exact (softV_at _ a j).trans (congrArg (fun s => Softmax.soft s j) (scoreH_row q k h0 h1 h a))
    · rw [cutK_at, ← h2]
  rw [out_eq]
  refine (joinO_at _ _ _ _ a ⟨b / 512, by omega⟩ ⟨b % 512, by omega⟩ b (by dsimp only; omega)).trans ?_
  have e := key ⟨b / 512, by omega⟩ ⟨b % 512, by omega⟩
  refine Eq.trans ?_ e
  generalize (⟨b.val / 512, by omega⟩ : Fin 4) = h
  fin_cases h <;> rfl

variable (m : (ℓ : Loc nD τ sig) → Buf (Elt Ideal) ℓ)

/-- The queries as launched. -/
abbrev argQ (c : Dev nD) : S4096x2048.Idx → EReal := m ((c : Thread nD τ).loc main_arg0)
/-- The keys as launched. -/
abbrev argK (c : Dev nD) : S256x2048.Idx → EReal := m ((c : Thread nD τ).loc main_arg1)
/-- The values as launched. -/
abbrev argV (c : Dev nD) : S256x2048.Idx → EReal := m ((c : Thread nD τ).loc main_arg2)

/-- The blocks that grid point `t` reads and writes: its own rows, and the keys and values whole. -/
theorem idx : ∀ t : Fin cfg0.N, (win0_0.index t 0 = t.val ∧ win0_0.index t 1 = 0) ∧ (win0_1.index t 0 = 0 ∧ win0_1.index t 1 = 0)
      ∧ (win0_2.index t 0 = 0 ∧ win0_2.index t 1 = 0) ∧ (win0_3.index t 0 = t.val ∧ win0_3.index t 1 = 0) :=
  (by decide +kernel : ∀ t : Fin grid0.N, _)

/-- The block of queries that a point reads. -/
theorem blk0 (c : Dev nD) (t : Fin cfg0.N) (a : Fin 512) (b : ℕ) :
    at2 (A := 512) (B := 2048) (iblk m c 0 t) a b = at2 (argQ m c) (t.val * 512 + a) b := by
  refine at2_block _ _ _ (fun y => ?_) a b
  unfold iblk
  rw [View.read_apply]
  show (V m c main_arg0 : S4096x2048.Idx → EReal) _ = _
  rw [V_main_arg0]
  obtain ⟨e0, e1⟩ := (idx t).1
  refine eq_at2 _ _ _ _ ?_ ?_ <;> blk_simp <;> omega

/-- The keys that a point reads. -/
theorem blk1 (c : Dev nD) (t : Fin cfg0.N) (a : Fin 256) (b : ℕ) :
    at2 (A := 256) (B := 2048) (iblk m c 1 t) a b = at2 (argK m c) a b := by
  refine (at2_block _ (argK m c) 0 (fun y => ?_) a b).trans (by rw [zero_add])
  unfold iblk
  rw [View.read_apply]
  show (V m c main_arg1 : S256x2048.Idx → EReal) _ = _
  rw [V_main_arg1]
  obtain ⟨e0, e1⟩ := (idx t).2.1
  refine eq_at2 _ _ _ _ ?_ ?_ <;> blk_simp <;> omega

/-- The values that a point reads. -/
theorem blk2 (c : Dev nD) (t : Fin cfg0.N) (a : Fin 256) (b : ℕ) :
    at2 (A := 256) (B := 2048) (iblk m c 2 t) a b = at2 (argV m c) a b := by
  refine (at2_block _ (argV m c) 0 (fun y => ?_) a b).trans (by rw [zero_add])
  unfold iblk
  rw [View.read_apply]
  show (V m c main_arg2 : S256x2048.Idx → EReal) _ = _
  rw [V_main_arg2]
  obtain ⟨e0, e1⟩ := (idx t).2.2.1
  refine eq_at2 _ _ _ _ ?_ ?_ <;> blk_simp <;> omega

/-- The attention's result. -/
def result (c : Dev nD) : S4096x2048.Idx → EReal :=
  fun i => attend (argQ m c) (argK m c) (argV m c) ((i 1).val / 512) (i 0).val ((i 1).val % 512)

/-- The result at given coordinates. -/
theorem result_at (c : Dev nD) (i : S4096x2048.Idx) (r b : ℕ) (hr : (i 0).val = r) (hb : (i 1).val = b) :
    attend (argQ m c) (argK m c) (argV m c) (b / 512) r (b % 512) = result m c i := by
  subst hr
  subst hb
  rfl

/-- What the call leaves in its result. -/
theorem final (c : Dev nD) : (dats m 0 c).arrAt 3 cfg0.N = result m c := by
  refine (dats m 0 c).arrAt_eq_of_covers 3 (result m c) (by decide +kernel) fun t hf y => ?_
  obtain ⟨e0, e1⟩ := (idx t).2.2.2
  have h0 : (y 0).val < 512 := (y 0).isLt
  have h1 : (y 1).val < 2048 := (y 1).isLt
  blk_simp
  rw [after0_3]
  refine (congrArg (out0_3 _ _ _) (eq_ix2 y)).trans
    ((out_at (argQ m c) (argK m c) (argV m c) _ _ _ _ (blk0 m c t) (blk1 m c t) (blk2 m c t) (y 0) (y 1)).trans ?_)
  refine result_at m c _ _ _ ?_ ?_ <;> blk_simp <;> omega

end Cert.AttnFwdIdeal.Attention

namespace Cert.AttnFwdRefIdeal.Attention

open Cert.AttnFwdRefIdeal Cert.AttnFwdRefIdeal.Read Cert.Blocked Cert.Softmax
open Facts₀ Facts
open Cert.AttnFwdIdeal.Attention (attend)
open Cert.KernelIdeal.Attention (score scale ofBits_bot)
open Idealize.ShloMosaic Idealize.ShloMosaic.TcCoe Idealize.SL.Sem
open Finset

variable (x0 : S4096x2048.Idx → EReal) (x1 x2 : S256x2048.Idx → EReal)

/-- The queries, a head to an axis. -/
theorem q_at (i : S1x4096x4x512.Idx) : val_main_v1 (F := Ideal) x0 i = at2 x0 (i 1).val ((i 2).val * 512 + (i 3).val) := by
  have h0 : (i 0).val < 1 := (i 0).isLt
  have h1 : (i 1).val < 4096 := (i 1).isLt
  have h2 : (i 2).val < 4 := (i 2).isLt
  have h3 : (i 3).val < 512 := (i 3).isLt
  rw [val_main_v1_apply]
  refine eq_at2 x0 _ _ _ ?_ ?_
  · show ((((i 0).val * 4096 + (i 1).val) * 4 + (i 2).val) * 512 + (i 3).val) / 2048 = _; omega
  · show ((((i 0).val * 4096 + (i 1).val) * 4 + (i 2).val) * 512 + (i 3).val) % 2048 = _; omega

/-- The keys, a head to an axis. -/
theorem k_at (i : S1x256x4x512.Idx) : val_main_v2 (F := Ideal) x1 i = at2 x1 (i 1).val ((i 2).val * 512 + (i 3).val) := by
  have h0 : (i 0).val < 1 := (i 0).isLt
  have h1 : (i 1).val < 256 := (i 1).isLt
  have h2 : (i 2).val < 4 := (i 2).isLt
  have h3 : (i 3).val < 512 := (i 3).isLt
  rw [val_main_v2_apply]
  refine eq_at2 x1 _ _ _ ?_ ?_
  · show ((((i 0).val * 256 + (i 1).val) * 4 + (i 2).val) * 512 + (i 3).val) / 2048 = _; omega
  · show ((((i 0).val * 256 + (i 1).val) * 4 + (i 2).val) * 512 + (i 3).val) % 2048 = _; omega

/-- The values, a head to an axis. -/
theorem v_at (i : S1x256x4x512.Idx) : val_main_v3 (F := Ideal) x2 i = at2 x2 (i 1).val ((i 2).val * 512 + (i 3).val) := k_at x2 i

/-- The scaled scores. -/
theorem score_at (i : S1x4x4096x256.Idx) : val_main_v6 (F := Ideal) x0 x1 i = score x0 x1 (i 1).val (i 2).val ⟨(i 3).val, (i 3).isLt⟩ := by
  rw [val_main_v6_apply, val_main_v4_apply, val_main_v5_apply, val_main_cst_apply]
  refine congrArg (· * scale) (sum_congr rfl fun d _ => ?_)
  rw [q_at, k_at]

/-- A row's maximum. -/
theorem top_at (j : S1x4x4096.Idx) : val_main_v7 (F := Ideal) x0 x1 j = top (score x0 x1 (j 1).val (j 2).val) := by
  have hs := score_at x0 x1
  unfold val_main_v7
  revert hs
  generalize val_main_v6 (F := Ideal) x0 x1 = y
  intro hs
  refine (Host.reduce_eq_fold_single (max : EReal → EReal → EReal) y _ reducesTo_S1x4x4096x256_S1x4x4096_d3 (by decide) h_S_ j).trans ?_
  rw [val_main_cst_0_apply]
  refine (congrArg (fun b => fold max b _ _) ofBits_bot).trans (fold_congr fun k _ => ?_)
  exact hs _

/-- The maximum the scores are shifted by. -/
theorem shift_at (i : S1x4x4096x256.Idx) : val_main_v11 (F := Ideal) x0 x1 i = top (score x0 x1 (i 1).val (i 2).val) := by
  rw [val_main_v11_apply, val_main_v10_apply, val_main_v9_apply, val_main_v8_apply, val_main_cst_1_apply, top_at]
  exact (congrArg (fun b => max b _) ofBits_bot).trans (max_eq_right bot_le)

/-- The shifted exponentials. -/
theorem expo_at (i : S1x4x4096x256.Idx) : val_main_v13 (F := Ideal) x0 x1 i = expo (score x0 x1 (i 1).val (i 2).val) ⟨(i 3).val, (i 3).isLt⟩ := by
  rw [val_main_v13_apply, val_main_v12_apply, score_at, shift_at]
  rfl

/-- The sums of a row's exponentials. -/
theorem mass_at (i : S1x4x4096x1.Idx) : val_main_v15 (F := Ideal) x0 x1 i = mass (score x0 x1 (i 1).val (i 2).val) := by
  rw [val_main_v15_apply, val_main_v14_apply, val_main_cst_2_apply]
  refine (congrArg (· + _) Ideal.ofBits_zero_f32).trans ((zero_add _).trans (sum_congr rfl fun k _ => ?_))
  rw [expo_at]

/-- The softmax. -/
theorem soft_at (i : S1x4x4096x256.Idx) : val_main_v17 (F := Ideal) x0 x1 i = soft (score x0 x1 (i 1).val (i 2).val) ⟨(i 3).val, (i 3).isLt⟩ := by
  rw [val_main_v17_apply, val_main_v16_apply, mass_at, expo_at]
  rfl

/-- The attention, a head to an axis. -/
theorem attend_at (i : S1x4096x4x512.Idx) : val_main_v19 (F := Ideal) x0 x1 x2 i = attend x0 x1 x2 (i 2).val (i 1).val (i 3).val := by
  rw [val_main_v19_apply, val_main_v18_apply]
  refine sum_congr rfl fun j _ => ?_
  rw [v_at, soft_at]
  exact mul_comm (G := EReal) _ _

/-- The reference's attention, entry by entry. -/
theorem fwd_at (i : S4096x2048.Idx) : val_main_v21 (F := Ideal) x0 x1 x2 i = attend x0 x1 x2 ((i 1).val / 512) (i 0).val ((i 1).val % 512) := by
  have h0 : (i 0).val < 4096 := (i 0).isLt
  have h1 : (i 1).val < 2048 := (i 1).isLt
  have e1 : (idx_main_v20 i 1).val = (i 0).val := by dsimp only; omega
  have e2 : (idx_main_v20 i 2).val = (i 1).val / 512 := by dsimp only; omega
  have e3 : (idx_main_v20 i 3).val = (i 1).val % 512 := by dsimp only; omega
  rw [val_main_v21_apply, val_main_v20_apply]
  refine (attend_at x0 x1 x2 _).trans ?_
  rw [e1, e2, e3]

end Cert.AttnFwdRefIdeal.Attention

namespace Cert.Proof.AttnFwd

open Cert.AttnFwdIdeal.Attention
open Idealize.ShloMosaic Idealize.ShloMosaic.TcCoe Idealize.SL.Sem

/-- From memories that agree on the arguments both programs end with the same result, and the arguments unchanged. -/
theorem algebraic : Cert.algebraic_AttnFwdIdeal_AttnFwdRefIdeal := by
  intro m ρ m' ρ' hp hag
  refine ⟨fun c => result m c,
    (θ_run Cert.AttnFwdIdeal.defs _ _).mono (fun r h c => ⟨(h c).1.trans (final m c), (h c).2⟩) (Cert.AttnFwdIdeal.Value.run_blocks m ρ), ?_⟩
  refine (θ_run Cert.AttnFwdRefIdeal.defs _ _).mono (fun r h c => ⟨(h c).1.trans ?_, (h c).2⟩) (Cert.AttnFwdRefIdeal.Value.run m' ρ')
  rw [Cert.AttnFwdRefIdeal.Read.val_main_v21_eq]
  funext i
  refine (Cert.AttnFwdRefIdeal.Attention.fwd_at _ _ _ i).trans ?_
  rw [(hag c).1, (hag c).2.1, (hag c).2.2]
  rfl

/-- The reference runs to its end, leaves its arguments unchanged and every counter at zero. -/
theorem frame_reference : Cert.quiescent_AttnFwdRefIdeal := fun m ρ _ =>
  (θ_run Cert.AttnFwdRefIdeal.defs _ _).mono (fun r h => ⟨fun c => (h c).2, sem_eq_zero_of_no_sems (by decide) r.2⟩)
    (Cert.AttnFwdRefIdeal.Value.run (F := Ideal) m ρ)

end Cert.Proof.AttnFwd
-- ==== Proof.lean ====
/- The certificate assembled. Each call of the step is a program of its own: a kernel, the same kernel over the extended
   reals, and a reference. The frames of the kernels are the generated ones; each reference's frame is read off its run;
   the value claims are proved in the modules imported here, one per call. AdamW's calls also state which
   value each of the two named bias corrections stands for. -/
module

public import proofs.«01_k».proof.Defs
public import proofs.«01_k».proof.Proof.Attention
public import proofs.«01_k».proof.Proof.Gen.Kernel.Frame
public import proofs.«01_k».proof.Proof.Ffn1
public import proofs.«01_k».proof.Proof.Gen.Ffn1.Frame
public import proofs.«01_k».proof.Proof.Ffn2
public import proofs.«01_k».proof.Proof.Gen.Ffn2.Frame
public import proofs.«01_k».proof.Proof.FfnDw2
public import proofs.«01_k».proof.Proof.Gen.FfnDw2.Frame
public import proofs.«01_k».proof.Proof.FfnDhid
public import proofs.«01_k».proof.Proof.Gen.FfnDhid.Frame
public import proofs.«01_k».proof.Proof.FfnDw1
public import proofs.«01_k».proof.Proof.Gen.FfnDw1.Frame
public import proofs.«01_k».proof.Proof.FfnDh3
public import proofs.«01_k».proof.Proof.Gen.FfnDh3.Frame
public import proofs.«01_k».proof.Proof.Query
public import proofs.«01_k».proof.Proof.Gen.Query.Frame
public import proofs.«01_k».proof.Proof.Proj
public import proofs.«01_k».proof.Proof.Gen.Proj.Frame
public import proofs.«01_k».proof.Proof.ProjDw
public import proofs.«01_k».proof.Proof.Gen.ProjDw.Frame
public import proofs.«01_k».proof.Proof.ProjDy
public import proofs.«01_k».proof.Proof.Gen.ProjDy.Frame
public import proofs.«01_k».proof.Proof.QueryDw
public import proofs.«01_k».proof.Proof.Gen.QueryDw.Frame
public import proofs.«01_k».proof.Proof.QueryDh
public import proofs.«01_k».proof.Proof.Gen.QueryDh.Frame
public import proofs.«01_k».proof.Proof.MemKv
public import proofs.«01_k».proof.Proof.Gen.MemKv.Frame
public import proofs.«01_k».proof.Proof.MemKvDw
public import proofs.«01_k».proof.Proof.Gen.MemKvDw.Frame
public import proofs.«01_k».proof.Proof.MemDk
public import proofs.«01_k».proof.Proof.Gen.MemDk.Frame
public import proofs.«01_k».proof.Proof.MemDv
public import proofs.«01_k».proof.Proof.Gen.MemDv.Frame
public import proofs.«01_k».proof.Proof.InZ
public import proofs.«01_k».proof.Proof.Gen.InZ.Frame
public import proofs.«01_k».proof.Proof.InZDw
public import proofs.«01_k».proof.Proof.Gen.InZDw.Frame
public import proofs.«01_k».proof.Proof.InZDh
public import proofs.«01_k».proof.Proof.Gen.InZDh.Frame
public import proofs.«01_k».proof.Proof.InXbc
public import proofs.«01_k».proof.Proof.Gen.InXbc.Frame
public import proofs.«01_k».proof.Proof.InXbcDw
public import proofs.«01_k».proof.Proof.Gen.InXbcDw.Frame
public import proofs.«01_k».proof.Proof.InXbcDh
public import proofs.«01_k».proof.Proof.Gen.InXbcDh.Frame
public import proofs.«01_k».proof.Proof.InRkv
public import proofs.«01_k».proof.Proof.Gen.InRkv.Frame
public import proofs.«01_k».proof.Proof.InRkvDw
public import proofs.«01_k».proof.Proof.Gen.InRkvDw.Frame
public import proofs.«01_k».proof.Proof.InRkvDh
public import proofs.«01_k».proof.Proof.Gen.InRkvDh.Frame
public import proofs.«01_k».proof.Proof.InPs
public import proofs.«01_k».proof.Proof.Gen.InPs.Frame
public import proofs.«01_k».proof.Proof.InPsDw
public import proofs.«01_k».proof.Proof.Gen.InPsDw.Frame
public import proofs.«01_k».proof.Proof.InPsDh
public import proofs.«01_k».proof.Proof.Gen.InPsDh.Frame
public import proofs.«01_k».proof.Proof.NormBwd
public import proofs.«01_k».proof.Proof.Gen.NormBwd.Frame
public import proofs.«01_k».proof.Proof.NormMixBwd
public import proofs.«01_k».proof.Proof.Gen.NormMixBwd.Frame
public import proofs.«01_k».proof.Proof.NormMemBwd
public import proofs.«01_k».proof.Proof.Gen.NormMemBwd.Frame
public import proofs.«01_k».proof.Proof.LossHead
public import proofs.«01_k».proof.Proof.Gen.LossHead.Frame
public import proofs.«01_k».proof.Proof.AdamWFfn1
public import proofs.«01_k».proof.Proof.Gen.AdamWFfn1.Frame
public import proofs.«01_k».proof.Proof.AdamWFfn2
public import proofs.«01_k».proof.Proof.Gen.AdamWFfn2.Frame
public import proofs.«01_k».proof.Proof.AdamWSquare
public import proofs.«01_k».proof.Proof.Gen.AdamWSquare.Frame
public import proofs.«01_k».proof.Proof.SumIn
public import proofs.«01_k».proof.Proof.Gen.SumIn.Frame
public import proofs.«01_k».proof.Proof.AdamWIn
public import proofs.«01_k».proof.Proof.Gen.AdamWIn.Frame
public import proofs.«01_k».proof.Proof.AdamWConv
public import proofs.«01_k».proof.Proof.Gen.AdamWConv.Frame
public import proofs.«01_k».proof.Proof.AdamWRank
public import proofs.«01_k».proof.Proof.Gen.AdamWRank.Frame
public import proofs.«01_k».proof.Proof.AdamWGate
public import proofs.«01_k».proof.Proof.Gen.AdamWGate.Frame
public import proofs.«01_k».proof.Proof.AdamWSmall
public import proofs.«01_k».proof.Proof.Gen.AdamWSmall.Frame
public import proofs.«01_k».proof.Proof.NormFwd
public import proofs.«01_k».proof.Proof.Gen.NormFwd.Frame
public import proofs.«01_k».proof.Proof.NormMemFwd
public import proofs.«01_k».proof.Proof.Gen.NormMemFwd.Frame
public import proofs.«01_k».proof.Proof.AttnFwd
public import proofs.«01_k».proof.Proof.Gen.AttnFwd.Frame
public import proofs.«01_k».proof.Proof.Gen.Pre_arguments_finite

@[expose] public section

namespace Cert.Proof

open Idealize.ShloMosaic Idealize.ShloMosaic.TcCoe Idealize.SL.Sem

/-- Every claim of the certificate: the facts that the programs state, the frames, and per call the value claim. -/
theorem claim : Cert.Claim := ⟨Cert.Kernel.Gen.facts,
  Cert.KernelIdeal.Gen.facts,
  Cert.ReferenceIdeal.Gen.facts,
  Cert.Ffn1.Gen.facts,
  Cert.Ffn1Ideal.Gen.facts,
  Cert.Ffn1RefIdeal.Gen.facts,
  Cert.Ffn2.Gen.facts,
  Cert.Ffn2Ideal.Gen.facts,
  Cert.Ffn2RefIdeal.Gen.facts,
  Cert.FfnDw2.Gen.facts,
  Cert.FfnDw2Ideal.Gen.facts,
  Cert.FfnDw2RefIdeal.Gen.facts,
  Cert.FfnDhid.Gen.facts,
  Cert.FfnDhidIdeal.Gen.facts,
  Cert.FfnDhidRefIdeal.Gen.facts,
  Cert.FfnDw1.Gen.facts,
  Cert.FfnDw1Ideal.Gen.facts,
  Cert.FfnDw1RefIdeal.Gen.facts,
  Cert.FfnDh3.Gen.facts,
  Cert.FfnDh3Ideal.Gen.facts,
  Cert.FfnDh3RefIdeal.Gen.facts,
  Cert.Query.Gen.facts,
  Cert.QueryIdeal.Gen.facts,
  Cert.QueryRefIdeal.Gen.facts,
  Cert.Proj.Gen.facts,
  Cert.ProjIdeal.Gen.facts,
  Cert.ProjRefIdeal.Gen.facts,
  Cert.ProjDw.Gen.facts,
  Cert.ProjDwIdeal.Gen.facts,
  Cert.ProjDwRefIdeal.Gen.facts,
  Cert.ProjDy.Gen.facts,
  Cert.ProjDyIdeal.Gen.facts,
  Cert.ProjDyRefIdeal.Gen.facts,
  Cert.QueryDw.Gen.facts,
  Cert.QueryDwIdeal.Gen.facts,
  Cert.QueryDwRefIdeal.Gen.facts,
  Cert.QueryDh.Gen.facts,
  Cert.QueryDhIdeal.Gen.facts,
  Cert.QueryDhRefIdeal.Gen.facts,
  Cert.MemKv.Gen.facts,
  Cert.MemKvIdeal.Gen.facts,
  Cert.MemKvRefIdeal.Gen.facts,
  Cert.MemKvDw.Gen.facts,
  Cert.MemKvDwIdeal.Gen.facts,
  Cert.MemKvDwRefIdeal.Gen.facts,
  Cert.MemDk.Gen.facts,
  Cert.MemDkIdeal.Gen.facts,
  Cert.MemDkRefIdeal.Gen.facts,
  Cert.MemDv.Gen.facts,
  Cert.MemDvIdeal.Gen.facts,
  Cert.MemDvRefIdeal.Gen.facts,
  Cert.InZ.Gen.facts,
  Cert.InZIdeal.Gen.facts,
  Cert.InZRefIdeal.Gen.facts,
  Cert.InZDw.Gen.facts,
  Cert.InZDwIdeal.Gen.facts,
  Cert.InZDwRefIdeal.Gen.facts,
  Cert.InZDh.Gen.facts,
  Cert.InZDhIdeal.Gen.facts,
  Cert.InZDhRefIdeal.Gen.facts,
  Cert.InXbc.Gen.facts,
  Cert.InXbcIdeal.Gen.facts,
  Cert.InXbcRefIdeal.Gen.facts,
  Cert.InXbcDw.Gen.facts,
  Cert.InXbcDwIdeal.Gen.facts,
  Cert.InXbcDwRefIdeal.Gen.facts,
  Cert.InXbcDh.Gen.facts,
  Cert.InXbcDhIdeal.Gen.facts,
  Cert.InXbcDhRefIdeal.Gen.facts,
  Cert.InRkv.Gen.facts,
  Cert.InRkvIdeal.Gen.facts,
  Cert.InRkvRefIdeal.Gen.facts,
  Cert.InRkvDw.Gen.facts,
  Cert.InRkvDwIdeal.Gen.facts,
  Cert.InRkvDwRefIdeal.Gen.facts,
  Cert.InRkvDh.Gen.facts,
  Cert.InRkvDhIdeal.Gen.facts,
  Cert.InRkvDhRefIdeal.Gen.facts,
  Cert.InPs.Gen.facts,
  Cert.InPsIdeal.Gen.facts,
  Cert.InPsRefIdeal.Gen.facts,
  Cert.InPsDw.Gen.facts,
  Cert.InPsDwIdeal.Gen.facts,
  Cert.InPsDwRefIdeal.Gen.facts,
  Cert.InPsDh.Gen.facts,
  Cert.InPsDhIdeal.Gen.facts,
  Cert.InPsDhRefIdeal.Gen.facts,
  Cert.NormBwd.Gen.facts,
  Cert.NormBwdIdeal.Gen.facts,
  Cert.NormBwdRefIdeal.Gen.facts,
  Cert.NormMixBwd.Gen.facts,
  Cert.NormMixBwdIdeal.Gen.facts,
  Cert.NormMixBwdRefIdeal.Gen.facts,
  Cert.NormMemBwd.Gen.facts,
  Cert.NormMemBwdIdeal.Gen.facts,
  Cert.NormMemBwdRefIdeal.Gen.facts,
  Cert.LossHead.Gen.facts,
  Cert.LossHeadIdeal.Gen.facts,
  Cert.LossHeadRefIdeal.Gen.facts,
  Cert.AdamWFfn1.Gen.facts,
  Cert.AdamWFfn1Ideal.Gen.facts,
  Cert.AdamWFfn1RefIdeal.Gen.facts,
  Cert.AdamWFfn2.Gen.facts,
  Cert.AdamWFfn2Ideal.Gen.facts,
  Cert.AdamWFfn2RefIdeal.Gen.facts,
  Cert.AdamWSquare.Gen.facts,
  Cert.AdamWSquareIdeal.Gen.facts,
  Cert.AdamWSquareRefIdeal.Gen.facts,
  Cert.SumIn.Gen.facts,
  Cert.SumInIdeal.Gen.facts,
  Cert.SumInRefIdeal.Gen.facts,
  Cert.AdamWIn.Gen.facts,
  Cert.AdamWInIdeal.Gen.facts,
  Cert.AdamWInRefIdeal.Gen.facts,
  Cert.AdamWConv.Gen.facts,
  Cert.AdamWConvIdeal.Gen.facts,
  Cert.AdamWConvRefIdeal.Gen.facts,
  Cert.AdamWRank.Gen.facts,
  Cert.AdamWRankIdeal.Gen.facts,
  Cert.AdamWRankRefIdeal.Gen.facts,
  Cert.AdamWGate.Gen.facts,
  Cert.AdamWGateIdeal.Gen.facts,
  Cert.AdamWGateRefIdeal.Gen.facts,
  Cert.AdamWSmall.Gen.facts,
  Cert.AdamWSmallIdeal.Gen.facts,
  Cert.AdamWSmallRefIdeal.Gen.facts,
  Cert.NormFwd.Gen.facts,
  Cert.NormFwdIdeal.Gen.facts,
  Cert.NormFwdRefIdeal.Gen.facts,
  Cert.NormMemFwd.Gen.facts,
  Cert.NormMemFwdIdeal.Gen.facts,
  Cert.NormMemFwdRefIdeal.Gen.facts,
  Cert.AttnFwd.Gen.facts,
  Cert.AttnFwdIdeal.Gen.facts,
  Cert.AttnFwdRefIdeal.Gen.facts,
  Cert.Pre_arguments_finite.Gen.facts,
  fun m ρ _ => Cert.Kernel.Gen.frame m ρ,
  fun m ρ _ => Cert.KernelIdeal.Gen.frame m ρ,
  fun m ρ _ => Cert.KernelIdeal.Gen.frame m ρ,
  Attention.frame_reference,
  fun m ρ _ => Attention.frame_reference m ρ trivial,
  fun m ρ _ => Cert.Ffn1.Gen.frame m ρ,
  fun m ρ _ => Cert.Ffn1Ideal.Gen.frame m ρ,
  Ffn1.frame_reference,
  fun m ρ _ => Cert.Ffn2.Gen.frame m ρ,
  fun m ρ _ => Cert.Ffn2Ideal.Gen.frame m ρ,
  Ffn2.frame_reference,
  fun m ρ _ => Cert.FfnDw2.Gen.frame m ρ,
  fun m ρ _ => Cert.FfnDw2Ideal.Gen.frame m ρ,
  FfnDw2.frame_reference,
  fun m ρ _ => Cert.FfnDhid.Gen.frame m ρ,
  fun m ρ _ => Cert.FfnDhidIdeal.Gen.frame m ρ,
  FfnDhid.frame_reference,
  fun m ρ _ => Cert.FfnDw1.Gen.frame m ρ,
  fun m ρ _ => Cert.FfnDw1Ideal.Gen.frame m ρ,
  FfnDw1.frame_reference,
  fun m ρ _ => Cert.FfnDh3.Gen.frame m ρ,
  fun m ρ _ => Cert.FfnDh3Ideal.Gen.frame m ρ,
  FfnDh3.frame_reference,
  fun m ρ _ => Cert.Query.Gen.frame m ρ,
  fun m ρ _ => Cert.QueryIdeal.Gen.frame m ρ,
  Query.frame_reference,
  fun m ρ _ => Cert.Proj.Gen.frame m ρ,
  fun m ρ _ => Cert.ProjIdeal.Gen.frame m ρ,
  Proj.frame_reference,
  fun m ρ _ => Cert.ProjDw.Gen.frame m ρ,
  fun m ρ _ => Cert.ProjDwIdeal.Gen.frame m ρ,
  ProjDw.frame_reference,
  fun m ρ _ => Cert.ProjDy.Gen.frame m ρ,
  fun m ρ _ => Cert.ProjDyIdeal.Gen.frame m ρ,
  ProjDy.frame_reference,
  fun m ρ _ => Cert.QueryDw.Gen.frame m ρ,
  fun m ρ _ => Cert.QueryDwIdeal.Gen.frame m ρ,
  QueryDw.frame_reference,
  fun m ρ _ => Cert.QueryDh.Gen.frame m ρ,
  fun m ρ _ => Cert.QueryDhIdeal.Gen.frame m ρ,
  QueryDh.frame_reference,
  fun m ρ _ => Cert.MemKv.Gen.frame m ρ,
  fun m ρ _ => Cert.MemKvIdeal.Gen.frame m ρ,
  MemKv.frame_reference,
  fun m ρ _ => Cert.MemKvDw.Gen.frame m ρ,
  fun m ρ _ => Cert.MemKvDwIdeal.Gen.frame m ρ,
  MemKvDw.frame_reference,
  fun m ρ _ => Cert.MemDk.Gen.frame m ρ,
  fun m ρ _ => Cert.MemDkIdeal.Gen.frame m ρ,
  MemDk.frame_reference,
  fun m ρ _ => Cert.MemDv.Gen.frame m ρ,
  fun m ρ _ => Cert.MemDvIdeal.Gen.frame m ρ,
  MemDv.frame_reference,
  fun m ρ _ => Cert.InZ.Gen.frame m ρ,
  fun m ρ _ => Cert.InZIdeal.Gen.frame m ρ,
  InZ.frame_reference,
  fun m ρ _ => Cert.InZDw.Gen.frame m ρ,
  fun m ρ _ => Cert.InZDwIdeal.Gen.frame m ρ,
  InZDw.frame_reference,
  fun m ρ _ => Cert.InZDh.Gen.frame m ρ,
  fun m ρ _ => Cert.InZDhIdeal.Gen.frame m ρ,
  InZDh.frame_reference,
  fun m ρ _ => Cert.InXbc.Gen.frame m ρ,
  fun m ρ _ => Cert.InXbcIdeal.Gen.frame m ρ,
  InXbc.frame_reference,
  fun m ρ _ => Cert.InXbcDw.Gen.frame m ρ,
  fun m ρ _ => Cert.InXbcDwIdeal.Gen.frame m ρ,
  InXbcDw.frame_reference,
  fun m ρ _ => Cert.InXbcDh.Gen.frame m ρ,
  fun m ρ _ => Cert.InXbcDhIdeal.Gen.frame m ρ,
  InXbcDh.frame_reference,
  fun m ρ _ => Cert.InRkv.Gen.frame m ρ,
  fun m ρ _ => Cert.InRkvIdeal.Gen.frame m ρ,
  InRkv.frame_reference,
  fun m ρ _ => Cert.InRkvDw.Gen.frame m ρ,
  fun m ρ _ => Cert.InRkvDwIdeal.Gen.frame m ρ,
  InRkvDw.frame_reference,
  fun m ρ _ => Cert.InRkvDh.Gen.frame m ρ,
  fun m ρ _ => Cert.InRkvDhIdeal.Gen.frame m ρ,
  InRkvDh.frame_reference,
  fun m ρ _ => Cert.InPs.Gen.frame m ρ,
  fun m ρ _ => Cert.InPsIdeal.Gen.frame m ρ,
  InPs.frame_reference,
  fun m ρ _ => Cert.InPsDw.Gen.frame m ρ,
  fun m ρ _ => Cert.InPsDwIdeal.Gen.frame m ρ,
  InPsDw.frame_reference,
  fun m ρ _ => Cert.InPsDh.Gen.frame m ρ,
  fun m ρ _ => Cert.InPsDhIdeal.Gen.frame m ρ,
  InPsDh.frame_reference,
  fun m ρ _ => Cert.NormBwd.Gen.frame m ρ,
  fun m ρ _ => Cert.NormBwdIdeal.Gen.frame m ρ,
  NormBwd.frame_reference,
  fun m ρ _ => Cert.NormMixBwd.Gen.frame m ρ,
  fun m ρ _ => Cert.NormMixBwdIdeal.Gen.frame m ρ,
  NormMixBwd.frame_reference,
  fun m ρ _ => Cert.NormMemBwd.Gen.frame m ρ,
  fun m ρ _ => Cert.NormMemBwdIdeal.Gen.frame m ρ,
  NormMemBwd.frame_reference,
  fun m ρ _ => Cert.LossHead.Gen.frame m ρ,
  fun m ρ _ => Cert.LossHeadIdeal.Gen.frame m ρ,
  LossHead.frame_reference,
  fun m ρ _ => Cert.AdamWFfn1.Gen.frame m ρ,
  fun m ρ _ => Cert.AdamWFfn1Ideal.Gen.frame m ρ,
  AdamWFfn1.frame_reference,
  fun m ρ _ => Cert.AdamWFfn2.Gen.frame m ρ,
  fun m ρ _ => Cert.AdamWFfn2Ideal.Gen.frame m ρ,
  AdamWFfn2.frame_reference,
  fun m ρ _ => Cert.AdamWSquare.Gen.frame m ρ,
  fun m ρ _ => Cert.AdamWSquareIdeal.Gen.frame m ρ,
  AdamWSquare.frame_reference,
  fun m ρ _ => Cert.SumIn.Gen.frame m ρ,
  fun m ρ _ => Cert.SumInIdeal.Gen.frame m ρ,
  SumIn.frame_reference,
  fun m ρ _ => Cert.AdamWIn.Gen.frame m ρ,
  fun m ρ _ => Cert.AdamWInIdeal.Gen.frame m ρ,
  AdamWIn.frame_reference,
  fun m ρ _ => Cert.AdamWConv.Gen.frame m ρ,
  fun m ρ _ => Cert.AdamWConvIdeal.Gen.frame m ρ,
  AdamWConv.frame_reference,
  fun m ρ _ => Cert.AdamWRank.Gen.frame m ρ,
  fun m ρ _ => Cert.AdamWRankIdeal.Gen.frame m ρ,
  AdamWRank.frame_reference,
  fun m ρ _ => Cert.AdamWGate.Gen.frame m ρ,
  fun m ρ _ => Cert.AdamWGateIdeal.Gen.frame m ρ,
  AdamWGate.frame_reference,
  fun m ρ _ => Cert.AdamWSmall.Gen.frame m ρ,
  fun m ρ _ => Cert.AdamWSmallIdeal.Gen.frame m ρ,
  AdamWSmall.frame_reference,
  fun m ρ _ => Cert.NormFwd.Gen.frame m ρ,
  fun m ρ _ => Cert.NormFwdIdeal.Gen.frame m ρ,
  NormFwd.frame_reference,
  fun m ρ _ => Cert.NormMemFwd.Gen.frame m ρ,
  fun m ρ _ => Cert.NormMemFwdIdeal.Gen.frame m ρ,
  NormMemFwd.frame_reference,
  fun m ρ _ => Cert.AttnFwd.Gen.frame m ρ,
  fun m ρ _ => Cert.AttnFwdIdeal.Gen.frame m ρ,
  AttnFwd.frame_reference,
  trivial,
  Attention.algebraic,
  trivial,
  Ffn1.algebraic,
  trivial,
  Ffn2.algebraic,
  trivial,
  FfnDw2.algebraic,
  trivial,
  FfnDhid.algebraic,
  trivial,
  FfnDw1.algebraic,
  trivial,
  FfnDh3.algebraic,
  trivial,
  Query.algebraic,
  trivial,
  Proj.algebraic,
  trivial,
  ProjDw.algebraic,
  trivial,
  ProjDy.algebraic,
  trivial,
  QueryDw.algebraic,
  trivial,
  QueryDh.algebraic,
  trivial,
  MemKv.algebraic,
  trivial,
  MemKvDw.algebraic,
  trivial,
  MemDk.algebraic,
  trivial,
  MemDv.algebraic,
  trivial,
  InZ.algebraic,
  trivial,
  InZDw.algebraic,
  trivial,
  InZDh.algebraic,
  trivial,
  InXbc.algebraic,
  trivial,
  InXbcDw.algebraic,
  trivial,
  InXbcDh.algebraic,
  trivial,
  InRkv.algebraic,
  trivial,
  InRkvDw.algebraic,
  trivial,
  InRkvDh.algebraic,
  trivial,
  InPs.algebraic,
  trivial,
  InPsDw.algebraic,
  trivial,
  InPsDh.algebraic,
  trivial,
  NormBwd.algebraic,
  trivial,
  NormMixBwd.algebraic,
  trivial,
  NormMemBwd.algebraic,
  trivial,
  LossHead.algebraic,
  AdamWFfn1.preserves,
  AdamWFfn1.algebraic,
  AdamWFfn2.preserves,
  AdamWFfn2.algebraic,
  AdamWSquare.preserves,
  AdamWSquare.algebraic,
  trivial,
  SumIn.algebraic,
  AdamWIn.preserves,
  AdamWIn.algebraic,
  AdamWConv.preserves,
  AdamWConv.algebraic,
  AdamWRank.preserves,
  AdamWRank.algebraic,
  AdamWGate.preserves,
  AdamWGate.algebraic,
  AdamWSmall.preserves,
  AdamWSmall.algebraic,
  trivial,
  NormFwd.algebraic,
  trivial,
  NormMemFwd.algebraic,
  trivial,
  AttnFwd.algebraic⟩

end Cert.Proof
